-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def preserves_Kernel_KernelIdeal : Prop :=
  IdealRules.named_const.Statement Cert.KernelIdeal.κ "gelu_kc" .f32 0x3D122279#32 ((80338380498831 / 2251799813685248 : ℝ) : EReal)
  ∧ IdealRules.named_const.Statement Cert.KernelIdeal.κ "gelu_3kc" .f32 0x3DDB33B6#32 ((241015141496493 / 2251799813685248 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)) (v2 : (c : Dev Cert.KernelIdeal.nD) → Buf (Elt Ideal) ((c.tc : Thread Cert.KernelIdeal.nD Cert.KernelIdeal.τ).loc Cert.KernelIdeal.main_v28_2)) (v3 : (c : Dev Cert.KernelIdeal.nD) → Buf (Elt Ideal) ((c.tc : Thread Cert.KernelIdeal.nD Cert.KernelIdeal.τ).loc Cert.KernelIdeal.main_v28_3)) (v4 : (c : Dev Cert.KernelIdeal.nD) → Buf (Elt Ideal) ((c.tc : Thread Cert.KernelIdeal.nD Cert.KernelIdeal.τ).loc Cert.KernelIdeal.main_v28_4)) (v5 : (c : Dev Cert.KernelIdeal.nD) → Buf (Elt Ideal) ((c.tc : Thread Cert.KernelIdeal.nD Cert.KernelIdeal.τ).loc Cert.KernelIdeal.main_v28_5)) (v6 : (c : Dev Cert.KernelIdeal.nD) → Buf (Elt Ideal) ((c.tc : Thread Cert.KernelIdeal.nD Cert.KernelIdeal.τ).loc Cert.KernelIdeal.main_v28_6)) (v7 : (c : Dev Cert.KernelIdeal.nD) → Buf (Elt Ideal) ((c.tc : Thread Cert.KernelIdeal.nD Cert.KernelIdeal.τ).loc Cert.KernelIdeal.main_v28_7)) (v8 : (c : Dev Cert.KernelIdeal.nD) → Buf (Elt Ideal) ((c.tc : Thread Cert.KernelIdeal.nD Cert.KernelIdeal.τ).loc Cert.KernelIdeal.main_v28_8)) (v9 : (c : Dev Cert.KernelIdeal.nD) → Buf (Elt Ideal) ((c.tc : Thread Cert.KernelIdeal.nD Cert.KernelIdeal.τ).loc Cert.KernelIdeal.main_v28_9)) (v10 : (c : Dev Cert.KernelIdeal.nD) → Buf (Elt Ideal) ((c.tc : Thread Cert.KernelIdeal.nD Cert.KernelIdeal.τ).loc Cert.KernelIdeal.main_v28_10)) (v11 : (c : Dev Cert.KernelIdeal.nD) → Buf (Elt Ideal) ((c.tc : Thread Cert.KernelIdeal.nD Cert.KernelIdeal.τ).loc Cert.KernelIdeal.main_v28_11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_v28_2) = v2 c
          ∧ r.2.mem ((c.tc : Thread Cert.KernelIdeal.nD Cert.KernelIdeal.τ).loc Cert.KernelIdeal.main_v28_3) = v3 c
          ∧ r.2.mem ((c.tc : Thread Cert.KernelIdeal.nD Cert.KernelIdeal.τ).loc Cert.KernelIdeal.main_v28_4) = v4 c
          ∧ r.2.mem ((c.tc : Thread Cert.KernelIdeal.nD Cert.KernelIdeal.τ).loc Cert.KernelIdeal.main_v28_5) = v5 c
          ∧ r.2.mem ((c.tc : Thread Cert.KernelIdeal.nD Cert.KernelIdeal.τ).loc Cert.KernelIdeal.main_v28_6) = v6 c
          ∧ r.2.mem ((c.tc : Thread Cert.KernelIdeal.nD Cert.KernelIdeal.τ).loc Cert.KernelIdeal.main_v28_7) = v7 c
          ∧ r.2.mem ((c.tc : Thread Cert.KernelIdeal.nD Cert.KernelIdeal.τ).loc Cert.KernelIdeal.main_v28_8) = v8 c
          ∧ r.2.mem ((c.tc : Thread Cert.KernelIdeal.nD Cert.KernelIdeal.τ).loc Cert.KernelIdeal.main_v28_9) = v9 c
          ∧ r.2.mem ((c.tc : Thread Cert.KernelIdeal.nD Cert.KernelIdeal.τ).loc Cert.KernelIdeal.main_v28_10) = v10 c
          ∧ r.2.mem ((c.tc : Thread Cert.KernelIdeal.nD Cert.KernelIdeal.τ).loc Cert.KernelIdeal.main_v28_11) = v11 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v259) = v0 c
          ∧ r.2.mem ((c.tc : Thread Cert.ReferenceIdeal.nD Cert.ReferenceIdeal.τ).loc Cert.ReferenceIdeal.main_v242) = v1 c
          ∧ r.2.mem ((c.tc : Thread Cert.ReferenceIdeal.nD Cert.ReferenceIdeal.τ).loc Cert.ReferenceIdeal.main_v236) = v2 c
          ∧ r.2.mem ((c.tc : Thread Cert.ReferenceIdeal.nD Cert.ReferenceIdeal.τ).loc Cert.ReferenceIdeal.main_v233) = v3 c
          ∧ r.2.mem ((c.tc : Thread Cert.ReferenceIdeal.nD Cert.ReferenceIdeal.τ).loc Cert.ReferenceIdeal.main_v209) = v4 c
          ∧ r.2.mem ((c.tc : Thread Cert.ReferenceIdeal.nD Cert.ReferenceIdeal.τ).loc Cert.ReferenceIdeal.main_v206) = v5 c
          ∧ r.2.mem ((c.tc : Thread Cert.ReferenceIdeal.nD Cert.ReferenceIdeal.τ).loc Cert.ReferenceIdeal.main_v260) = v6 c
          ∧ r.2.mem ((c.tc : Thread Cert.ReferenceIdeal.nD Cert.ReferenceIdeal.τ).loc Cert.ReferenceIdeal.main_v261) = v7 c
          ∧ r.2.mem ((c.tc : Thread Cert.ReferenceIdeal.nD Cert.ReferenceIdeal.τ).loc Cert.ReferenceIdeal.main_v139) = v8 c
          ∧ r.2.mem ((c.tc : Thread Cert.ReferenceIdeal.nD Cert.ReferenceIdeal.τ).loc Cert.ReferenceIdeal.main_v137) = v9 c
          ∧ r.2.mem ((c.tc : Thread Cert.ReferenceIdeal.nD Cert.ReferenceIdeal.τ).loc Cert.ReferenceIdeal.main_v147) = v10 c
          ∧ r.2.mem ((c.tc : Thread Cert.ReferenceIdeal.nD Cert.ReferenceIdeal.τ).loc Cert.ReferenceIdeal.main_v144) = v11 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v1_2)) (v3 : (c : Dev Cert.Kernel2Ideal.nD) → Buf (Elt Ideal) ((c.tc : Thread Cert.Kernel2Ideal.nD Cert.Kernel2Ideal.τ).loc Cert.Kernel2Ideal.main_v1_3)) (v4 : (c : Dev Cert.Kernel2Ideal.nD) → Buf (Elt Ideal) ((c.tc : Thread Cert.Kernel2Ideal.nD Cert.Kernel2Ideal.τ).loc Cert.Kernel2Ideal.main_v1_4)) (v5 : (c : Dev Cert.Kernel2Ideal.nD) → Buf (Elt Ideal) ((c.tc : Thread Cert.Kernel2Ideal.nD Cert.Kernel2Ideal.τ).loc Cert.Kernel2Ideal.main_v1_5)) (v6 : (c : Dev Cert.Kernel2Ideal.nD) → Buf (Elt Ideal) ((c.tc : Thread Cert.Kernel2Ideal.nD Cert.Kernel2Ideal.τ).loc Cert.Kernel2Ideal.main_v1_6)) (v7 : (c : Dev Cert.Kernel2Ideal.nD) → Buf (Elt Ideal) ((c.tc : Thread Cert.Kernel2Ideal.nD Cert.Kernel2Ideal.τ).loc Cert.Kernel2Ideal.main_v1_7)) (v8 : (c : Dev Cert.Kernel2Ideal.nD) → Buf (Elt Ideal) ((c.tc : Thread Cert.Kernel2Ideal.nD Cert.Kernel2Ideal.τ).loc Cert.Kernel2Ideal.main_v1_8)) (v9 : (c : Dev Cert.Kernel2Ideal.nD) → Buf (Elt Ideal) ((c.tc : Thread Cert.Kernel2Ideal.nD Cert.Kernel2Ideal.τ).loc Cert.Kernel2Ideal.main_v1_9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v1_2) = v2 c
          ∧ r.2.mem ((c.tc : Thread Cert.Kernel2Ideal.nD Cert.Kernel2Ideal.τ).loc Cert.Kernel2Ideal.main_v1_3) = v3 c
          ∧ r.2.mem ((c.tc : Thread Cert.Kernel2Ideal.nD Cert.Kernel2Ideal.τ).loc Cert.Kernel2Ideal.main_v1_4) = v4 c
          ∧ r.2.mem ((c.tc : Thread Cert.Kernel2Ideal.nD Cert.Kernel2Ideal.τ).loc Cert.Kernel2Ideal.main_v1_5) = v5 c
          ∧ r.2.mem ((c.tc : Thread Cert.Kernel2Ideal.nD Cert.Kernel2Ideal.τ).loc Cert.Kernel2Ideal.main_v1_6) = v6 c
          ∧ r.2.mem ((c.tc : Thread Cert.Kernel2Ideal.nD Cert.Kernel2Ideal.τ).loc Cert.Kernel2Ideal.main_v1_7) = v7 c
          ∧ r.2.mem ((c.tc : Thread Cert.Kernel2Ideal.nD Cert.Kernel2Ideal.τ).loc Cert.Kernel2Ideal.main_v1_8) = v8 c
          ∧ r.2.mem ((c.tc : Thread Cert.Kernel2Ideal.nD Cert.Kernel2Ideal.τ).loc Cert.Kernel2Ideal.main_v1_9) = v9 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v77) = v0 c
          ∧ r.2.mem ((c.tc : Thread Cert.Reference2Ideal.nD Cert.Reference2Ideal.τ).loc Cert.Reference2Ideal.main_v45) = v1 c
          ∧ r.2.mem ((c.tc : Thread Cert.Reference2Ideal.nD Cert.Reference2Ideal.τ).loc Cert.Reference2Ideal.main_v66) = v2 c
          ∧ r.2.mem ((c.tc : Thread Cert.Reference2Ideal.nD Cert.Reference2Ideal.τ).loc Cert.Reference2Ideal.main_v61) = v3 c
          ∧ r.2.mem ((c.tc : Thread Cert.Reference2Ideal.nD Cert.Reference2Ideal.τ).loc Cert.Reference2Ideal.main_v78) = v4 c
          ∧ r.2.mem ((c.tc : Thread Cert.Reference2Ideal.nD Cert.Reference2Ideal.τ).loc Cert.Reference2Ideal.main_v79) = v5 c
          ∧ r.2.mem ((c.tc : Thread Cert.Reference2Ideal.nD Cert.Reference2Ideal.τ).loc Cert.Reference2Ideal.main_v80) = v6 c
          ∧ r.2.mem ((c.tc : Thread Cert.Reference2Ideal.nD Cert.Reference2Ideal.τ).loc Cert.Reference2Ideal.main_v81) = v7 c
          ∧ r.2.mem ((c.tc : Thread Cert.Reference2Ideal.nD Cert.Reference2Ideal.τ).loc Cert.Reference2Ideal.main_v82) = v8 c
          ∧ r.2.mem ((c.tc : Thread Cert.Reference2Ideal.nD Cert.Reference2Ideal.τ).loc Cert.Reference2Ideal.main_v71) = v9 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_v4) = v1 c
          ∧ r.2.mem ((c.tc : Thread Cert.Reference3Ideal.nD Cert.Reference3Ideal.τ).loc Cert.Reference3Ideal.main_v10) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_v4) = v1 c
          ∧ r.2.mem ((c.tc : Thread Cert.Reference4Ideal.nD Cert.Reference4Ideal.τ).loc Cert.Reference4Ideal.main_v10) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_v4) = v1 c
          ∧ r.2.mem ((c.tc : Thread Cert.Reference5Ideal.nD Cert.Reference5Ideal.τ).loc Cert.Reference5Ideal.main_v10) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  IdealRules.named_const.Statement Cert.Kernel6Ideal.κ "gelu_kc" .f32 0x3D122279#32 ((80338380498831 / 2251799813685248 : ℝ) : EReal)

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)) (v2 : (c : Dev Cert.Kernel6Ideal.nD) → Buf (Elt Ideal) ((c.tc : Thread Cert.Kernel6Ideal.nD Cert.Kernel6Ideal.τ).loc Cert.Kernel6Ideal.main_v5_2)) (v3 : (c : Dev Cert.Kernel6Ideal.nD) → Buf (Elt Ideal) ((c.tc : Thread Cert.Kernel6Ideal.nD Cert.Kernel6Ideal.τ).loc Cert.Kernel6Ideal.main_v5_3)) (v4 : (c : Dev Cert.Kernel6Ideal.nD) → Buf (Elt Ideal) ((c.tc : Thread Cert.Kernel6Ideal.nD Cert.Kernel6Ideal.τ).loc Cert.Kernel6Ideal.main_v5_4)) (v5 : (c : Dev Cert.Kernel6Ideal.nD) → Buf (Elt Ideal) ((c.tc : Thread Cert.Kernel6Ideal.nD Cert.Kernel6Ideal.τ).loc Cert.Kernel6Ideal.main_v5_5)) (v6 : (c : Dev Cert.Kernel6Ideal.nD) → Buf (Elt Ideal) ((c.tc : Thread Cert.Kernel6Ideal.nD Cert.Kernel6Ideal.τ).loc Cert.Kernel6Ideal.main_v5_6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_v5_2) = v2 c
          ∧ r.2.mem ((c.tc : Thread Cert.Kernel6Ideal.nD Cert.Kernel6Ideal.τ).loc Cert.Kernel6Ideal.main_v5_3) = v3 c
          ∧ r.2.mem ((c.tc : Thread Cert.Kernel6Ideal.nD Cert.Kernel6Ideal.τ).loc Cert.Kernel6Ideal.main_v5_4) = v4 c
          ∧ r.2.mem ((c.tc : Thread Cert.Kernel6Ideal.nD Cert.Kernel6Ideal.τ).loc Cert.Kernel6Ideal.main_v5_5) = v5 c
          ∧ r.2.mem ((c.tc : Thread Cert.Kernel6Ideal.nD Cert.Kernel6Ideal.τ).loc Cert.Kernel6Ideal.main_v5_6) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v46) = v0 c
          ∧ r.2.mem ((c.tc : Thread Cert.Reference6Ideal.nD Cert.Reference6Ideal.τ).loc Cert.Reference6Ideal.main_v50) = v1 c
          ∧ r.2.mem ((c.tc : Thread Cert.Reference6Ideal.nD Cert.Reference6Ideal.τ).loc Cert.Reference6Ideal.main_v51) = v2 c
          ∧ r.2.mem ((c.tc : Thread Cert.Reference6Ideal.nD Cert.Reference6Ideal.τ).loc Cert.Reference6Ideal.main_v43) = v3 c
          ∧ r.2.mem ((c.tc : Thread Cert.Reference6Ideal.nD Cert.Reference6Ideal.τ).loc Cert.Reference6Ideal.main_v44) = v4 c
          ∧ r.2.mem ((c.tc : Thread Cert.Reference6Ideal.nD Cert.Reference6Ideal.τ).loc Cert.Reference6Ideal.main_v52) = v5 c
          ∧ r.2.mem ((c.tc : Thread Cert.Reference6Ideal.nD Cert.Reference6Ideal.τ).loc Cert.Reference6Ideal.main_v109) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite2 : Cert.Pre_finite2.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
-- ==== Pre_finite.lean ====
abbrev S2048x1024 : Shape := ⟨2, ![2048, 1024]⟩
abbrev S256x1024 : Shape := ⟨2, ![256, 1024]⟩
abbrev S1x3072 : Shape := ⟨2, ![1, 3072]⟩
abbrev S1x1024 : Shape := ⟨2, ![1, 1024]⟩
abbrev S1024x5120 : Shape := ⟨2, ![1024, 5120]⟩
abbrev S8x128x128 : Shape := ⟨3, ![8, 128, 128]⟩
abbrev S8x128 : Shape := ⟨2, ![8, 128]⟩
abbrev S2304x1024 : Shape := ⟨2, ![2304, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1x3072 : S_.BroadcastsInDim S1x3072 (![] : Fin 0 → Fin S1x3072.rank)
  reducesTo_S1x3072_S_d0_1 : S1x3072.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x5120 : S_.BroadcastsInDim S1024x5120 (![] : Fin 0 → Fin S1024x5120.rank)
  reducesTo_S1024x5120_S_d0_1 : S1024x5120.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bitsLt_bf16_f32 : FTy.bits .bf16 < FTy.bits .f32
  bcast_S_S2304x1024 : S_.BroadcastsInDim S2304x1024 (![] : Fin 0 → Fin S2304x1024.rank)
  reducesTo_S2304x1024_S_d0_1 : S2304x1024.ReducesTo [0, 1] S_

variable [Facts]

def fn_part4 {F : FTy → Type} [FloatOps F] (main_arg14 : FVec F S2048x1024 .f32) (main_v66 : IVec S_ 1) (main_v67 : FVec F S2048x1024 .f32) (main_v68 : FVec F S2048x1024 .f32) : IVec S_ 1 :=
  let main_v69 : IVec S2048x1024 1 := cmpf .olt main_v67 main_v68
  let main_c_25 : IVec S_ 1 := constantI S_ 1 1#1
  let main_v70 : IVec S_ 1 := (fun x v => Host.reduce IntOp.andi x v reducesTo_S2048x1024_S_d0_1 h_S_) main_v69 main_c_25
  let main_v71 : IVec S_ 1 := andi main_v66 main_v70
  let main_v72 : FVec F S2048x1024 .f32 := Host.absf main_arg14
  let main_cst_26 : FVec F S_ .f32 := constant S_ .f32 0x7F800000#32
  let main_v73 : FVec F S2048x1024 .f32 := broadcastInDim S2048x1024 ![] bcast_S_S2048x1024 main_cst_26
  let main_v74 : IVec S2048x1024 1 := cmpf .olt main_v72 main_v73
  let main_c_27 : IVec S_ 1 := constantI S_ 1 1#1
  let main_v75 : IVec S_ 1 := (fun x v => Host.reduce IntOp.andi x v reducesTo_S2048x1024_S_d0_1 h_S_) main_v74 main_c_27
  let main_v76 : IVec S_ 1 := andi main_v71 main_v75
  main_v76

def fn_part3 {F : FTy → Type} [FloatOps F] (main_arg11 : FVec F S2048x1024 .bf16) (main_arg12 : FVec F S2048x1024 .bf16) (main_arg13 : FVec F S2048x1024 .f32) (main_arg14 : FVec F S2048x1024 .f32) (main_v48 : IVec S_ 1) (main_v50 : FVec F S2304x1024 .f32) (main_cst_18 : FVec F S_ .f32) : IVec S_ 1 :=
  let main_v51 : FVec F S2304x1024 .f32 := broadcastInDim S2304x1024 ![] bcast_S_S2304x1024 main_cst_18
  let main_v52 : IVec S2304x1024 1 := cmpf .olt main_v50 main_v51
  let main_c_19 : IVec S_ 1 := constantI S_ 1 1#1
  let main_v53 : IVec S_ 1 := (fun x v => Host.reduce IntOp.andi x v reducesTo_S2304x1024_S_d0_1 h_S_) main_v52 main_c_19
  let main_v54 : IVec S_ 1 := andi main_v48 main_v53
  let main_v55 : FVec F S2048x1024 .f32 := (extf .f32 · bitsLt_bf16_f32) main_arg11
  let main_v56 : FVec F S2048x1024 .f32 := Host.absf main_v55
  let main_cst_20 : FVec F S_ .f32 := constant S_ .f32 0x7F800000#32
  let main_v57 : FVec F S2048x1024 .f32 := broadcastInDim S2048x1024 ![] bcast_S_S2048x1024 main_cst_20
  let main_v58 : IVec S2048x1024 1 := cmpf .olt main_v56 main_v57
  let main_c_21 : IVec S_ 1 := constantI S_ 1 1#1
  let main_v59 : IVec S_ 1 := (fun x v => Host.reduce IntOp.andi x v reducesTo_S2048x1024_S_d0_1 h_S_) main_v58 main_c_21
  let main_v60 : IVec S_ 1 := andi main_v54 main_v59
  let main_v61 : FVec F S2048x1024 .f32 := (extf .f32 · bitsLt_bf16_f32) main_arg12
  let main_v62 : FVec F S2048x1024 .f32 := Host.absf main_v61
  let main_cst_22 : FVec F S_ .f32 := constant S_ .f32 0x7F800000#32
  let main_v63 : FVec F S2048x1024 .f32 := broadcastInDim S2048x1024 ![] bcast_S_S2048x1024 main_cst_22
  let main_v64 : IVec S2048x1024 1 := cmpf .olt main_v62 main_v63
  let main_c_23 : IVec S_ 1 := constantI S_ 1 1#1
  let main_v65 : IVec S_ 1 := (fun x v => Host.reduce IntOp.andi x v reducesTo_S2048x1024_S_d0_1 h_S_) main_v64 main_c_23
  let main_v66 : IVec S_ 1 := andi main_v60 main_v65
  let main_v67 : FVec F S2048x1024 .f32 := Host.absf main_arg13
  let main_cst_24 : FVec F S_ .f32 := constant S_ .f32 0x7F800000#32
  let main_v68 : FVec F S2048x1024 .f32 := broadcastInDim S2048x1024 ![] bcast_S_S2048x1024 main_cst_24
  fn_part4 (F := F) main_arg14 main_v66 main_v67 main_v68

def fn_part2 {F : FTy → Type} [FloatOps F] (main_arg7 : FVec F S1x1024 .f32) (main_arg8 : FVec F S8x128x128 .f32) (main_arg9 : FVec F S8x128 .f32) (main_arg10 : FVec F S2304x1024 .bf16) (main_arg11 : FVec F S2048x1024 .bf16) (main_arg12 : FVec F S2048x1024 .bf16) (main_arg13 : FVec F S2048x1024 .f32) (main_arg14 : FVec F S2048x1024 .f32) (main_v33 : IVec S_ 1) : IVec S_ 1 :=
  let main_v34 : FVec F S1x1024 .f32 := Host.absf main_arg7
  let main_cst_12 : FVec F S_ .f32 := constant S_ .f32 0x7F800000#32
  let main_v35 : FVec F S1x1024 .f32 := broadcastInDim S1x1024 ![] bcast_S_S1x1024 main_cst_12
  let main_v36 : IVec S1x1024 1 := cmpf .olt main_v34 main_v35
  let main_c_13 : IVec S_ 1 := constantI S_ 1 1#1
  let main_v37 : IVec S_ 1 := (fun x v => Host.reduce IntOp.andi x v reducesTo_S1x1024_S_d0_1 h_S_) main_v36 main_c_13
  let main_v38 : IVec S_ 1 := andi main_v33 main_v37
  let main_v39 : FVec F S8x128x128 .f32 := Host.absf main_arg8
  let main_cst_14 : FVec F S_ .f32 := constant S_ .f32 0x7F800000#32
  let main_v40 : FVec F S8x128x128 .f32 := broadcastInDim S8x128x128 ![] bcast_S_S8x128x128 main_cst_14
  let main_v41 : IVec S8x128x128 1 := cmpf .olt main_v39 main_v40
  let main_c_15 : IVec S_ 1 := constantI S_ 1 1#1
  let main_v42 : IVec S_ 1 := (fun x v => Host.reduce IntOp.andi x v reducesTo_S8x128x128_S_d0_1_2 h_S_) main_v41 main_c_15
  let main_v43 : IVec S_ 1 := andi main_v38 main_v42
  let main_v44 : FVec F S8x128 .f32 := Host.absf main_arg9
  let main_cst_16 : FVec F S_ .f32 := constant S_ .f32 0x7F800000#32
  let main_v45 : FVec F S8x128 .f32 := broadcastInDim S8x128 ![] bcast_S_S8x128 main_cst_16
  let main_v46 : IVec S8x128 1 := cmpf .olt main_v44 main_v45
  let main_c_17 : IVec S_ 1 := constantI S_ 1 1#1
  let main_v47 : IVec S_ 1 := (fun x v => Host.reduce IntOp.andi x v reducesTo_S8x128_S_d0_1 h_S_) main_v46 main_c_17
  let main_v48 : IVec S_ 1 := andi main_v43 main_v47
  let main_v49 : FVec F S2304x1024 .f32 := (extf .f32 · bitsLt_bf16_f32) main_arg10
  let main_v50 : FVec F S2304x1024 .f32 := Host.absf main_v49
  let main_cst_18 : FVec F S_ .f32 := constant S_ .f32 0x7F800000#32
  fn_part3 (F := F) main_arg11 main_arg12 main_arg13 main_arg14 main_v48 main_v50 main_cst_18

def fn_part1 {F : FTy → Type} [FloatOps F] (main_arg4 : FVec F S1x1024 .f32) (main_arg5 : FVec F S1024x5120 .f32) (main_arg6 : FVec F S1x1024 .f32) (main_arg7 : FVec F S1x1024 .f32) (main_arg8 : FVec F S8x128x128 .f32) (main_arg9 : FVec F S8x128 .f32) (main_arg10 : FVec F S2304x1024 .bf16) (main_arg11 : FVec F S2048x1024 .bf16) (main_arg12 : FVec F S2048x1024 .bf16) (main_arg13 : FVec F S2048x1024 .f32) (main_arg14 : FVec F S2048x1024 .f32) (main_v13 : IVec S_ 1) (main_v16 : IVec S1x3072 1) : IVec S_ 1 :=
  let main_c_5 : IVec S_ 1 := constantI S_ 1 1#1
  let main_v17 : IVec S_ 1 := (fun x v => Host.reduce IntOp.andi x v reducesTo_S1x3072_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1024x5120 .f32 := Host.absf main_arg5
  let main_cst_8 : FVec F S_ .f32 := constant S_ .f32 0x7F800000#32
  let main_v25 : FVec F S1024x5120 .f32 := broadcastInDim S1024x5120 ![] bcast_S_S1024x5120 main_cst_8
  let main_v26 : IVec S1024x5120 1 := cmpf .olt main_v24 main_v25
  let main_c_9 : IVec S_ 1 := constantI S_ 1 1#1
  let main_v27 : IVec S_ 1 := (fun x v => Host.reduce IntOp.andi x v reducesTo_S1024x5120_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S2048x1024 .f32) (main_arg1 : FVec F S256x1024 .f32) (main_arg2 : FVec F S1x3072 .f32) (main_arg3 : FVec F S1x3072 .f32) (main_arg4 : FVec F S1x1024 .f32) (main_arg5 : FVec F S1024x5120 .f32) (main_arg6 : FVec F S1x1024 .f32) (main_arg7 : FVec F S1x1024 .f32) (main_arg8 : FVec F S8x128x128 .f32) (main_arg9 : FVec F S8x128 .f32) (main_arg10 : FVec F S2304x1024 .bf16) (main_arg11 : FVec F S2048x1024 .bf16) (main_arg12 : FVec F S2048x1024 .bf16) (main_arg13 : FVec F S2048x1024 .f32) (main_arg14 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S1x3072 .f32 := Host.absf main_arg2
  let main_cst_2 : FVec F S_ .f32 := constant S_ .f32 0x7F800000#32
  let main_v10 : FVec F S1x3072 .f32 := broadcastInDim S1x3072 ![] bcast_S_S1x3072 main_cst_2
  let main_v11 : IVec S1x3072 1 := cmpf .olt main_v9 main_v10
  let main_c_3 : IVec S_ 1 := constantI S_ 1 1#1
  let main_v12 : IVec S_ 1 := (fun x v => Host.reduce IntOp.andi x v reducesTo_S1x3072_S_d0_1 h_S_) main_v11 main_c_3
  let main_v13 : IVec S_ 1 := andi main_v8 main_v12
  let main_v14 : FVec F S1x3072 .f32 := Host.absf main_arg3
  let main_cst_4 : FVec F S_ .f32 := constant S_ .f32 0x7F800000#32
  let main_v15 : FVec F S1x3072 .f32 := broadcastInDim S1x3072 ![] bcast_S_S1x3072 main_cst_4
  let main_v16 : IVec S1x3072 1 := cmpf .olt main_v14 main_v15
  fn_part1 (F := F) main_arg4 main_arg5 main_arg6 main_arg7 main_arg8 main_arg9 main_arg10 main_arg11 main_arg12 main_arg13 main_arg14 main_v13 main_v16
-- ==== Pre_finite2.lean ====
abbrev S18432x128 : Shape := ⟨2, ![18432, 128]⟩
abbrev S2048x1024 : Shape := ⟨2, ![2048, 1024]⟩
abbrev S8x3072 : Shape := ⟨2, ![8, 3072]⟩
abbrev S1x1024 : Shape := ⟨2, ![1, 1024]⟩
abbrev S_ : Shape := ⟨0, ![]⟩

class Facts : Prop where
  bcast_S_S18432x128 : S_.BroadcastsInDim S18432x128 (![] : Fin 0 → Fin S18432x128.rank)
  reducesTo_S18432x128_S_d0_1 : S18432x128.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S8x3072 : S_.BroadcastsInDim S8x3072 (![] : Fin 0 → Fin S8x3072.rank)
  reducesTo_S8x3072_S_d0_1 : S8x3072.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S8x3072 .f32) (main_arg8 : FVec F S1x1024 .f32) (main_arg9 : FVec F S2048x1024 .f32) (main_v33 : IVec S_ 1) : IVec S_ 1 :=
  let main_v34 : FVec F S8x3072 .f32 := Host.absf main_arg7
  let main_cst_12 : FVec F S_ .f32 := constant S_ .f32 0x7F800000#32
  let main_v35 : FVec F S8x3072 .f32 := broadcastInDim S8x3072 ![] bcast_S_S8x3072 main_cst_12
  let main_v36 : IVec S8x3072 1 := cmpf .olt main_v34 main_v35
  let main_c_13 : IVec S_ 1 := constantI S_ 1 1#1
  let main_v37 : IVec S_ 1 := (fun x v => Host.reduce IntOp.andi x v reducesTo_S8x3072_S_d0_1 h_S_) main_v36 main_c_13
  let main_v38 : IVec S_ 1 := andi main_v33 main_v37
  let main_v39 : FVec F S1x1024 .f32 := Host.absf main_arg8
  let main_cst_14 : FVec F S_ .f32 := constant S_ .f32 0x7F800000#32
  let main_v40 : FVec F S1x1024 .f32 := broadcastInDim S1x1024 ![] bcast_S_S1x1024 main_cst_14
  let main_v41 : IVec S1x1024 1 := cmpf .olt main_v39 main_v40
  let main_c_15 : IVec S_ 1 := constantI S_ 1 1#1
  let main_v42 : IVec S_ 1 := (fun x v => Host.reduce IntOp.andi x v reducesTo_S1x1024_S_d0_1 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  main_v48

def fn_part1 {F : FTy → Type} [FloatOps F] (main_arg4 : FVec F S2048x1024 .f32) (main_arg5 : FVec F S2048x1024 .f32) (main_arg6 : FVec F S2048x1024 .f32) (main_arg7 : FVec F S8x3072 .f32) (main_arg8 : FVec F S1x1024 .f32) (main_arg9 : FVec F S2048x1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S18432x128 .f32) (main_arg1 : FVec F S18432x128 .f32) (main_arg2 : FVec F S2048x1024 .f32) (main_arg3 : FVec F S2048x1024 .f32) (main_arg4 : FVec F S2048x1024 .f32) (main_arg5 : FVec F S2048x1024 .f32) (main_arg6 : FVec F S2048x1024 .f32) (main_arg7 : FVec F S8x3072 .f32) (main_arg8 : FVec F S1x1024 .f32) (main_arg9 : FVec F S2048x1024 .f32) : IVec S_ 1 :=
  let main_v0 : FVec F S18432x128 .f32 := Host.absf main_arg0
  let main_cst : FVec F S_ .f32 := constant S_ .f32 0x7F800000#32
  let main_v1 : FVec F S18432x128 .f32 := broadcastInDim S18432x128 ![] bcast_S_S18432x128 main_cst
  let main_v2 : IVec S18432x128 1 := cmpf .olt main_v0 main_v1
  let main_c : IVec S_ 1 := constantI S_ 1 1#1
  let main_v3 : IVec S_ 1 := (fun x v => Host.reduce IntOp.andi x v reducesTo_S18432x128_S_d0_1 h_S_) main_v2 main_c
  let main_v4 : FVec F S18432x128 .f32 := Host.absf main_arg1
  let main_cst_0 : FVec F S_ .f32 := constant S_ .f32 0x7F800000#32
  let main_v5 : FVec F S18432x128 .f32 := broadcastInDim S18432x128 ![] bcast_S_S18432x128 main_cst_0
  let main_v6 : IVec S18432x128 1 := cmpf .olt main_v4 main_v5
  let main_c_1 : IVec S_ 1 := constantI S_ 1 1#1
  let main_v7 : IVec S_ 1 := (fun x v => Host.reduce IntOp.andi x v reducesTo_S18432x128_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_v13 main_v16
-- ==== Pre_finite6.lean ====
abbrev S2048x1024 : Shape := ⟨2, ![2048, 1024]⟩
abbrev S256x1024 : Shape := ⟨2, ![256, 1024]⟩
abbrev S1x3072 : Shape := ⟨2, ![1, 3072]⟩
abbrev S1x1024 : Shape := ⟨2, ![1, 1024]⟩
abbrev S1024x5120 : Shape := ⟨2, ![1024, 5120]⟩
abbrev S8x128x128 : Shape := ⟨3, ![8, 128, 128]⟩
abbrev S8x128 : Shape := ⟨2, ![8, 128]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1x3072 : S_.BroadcastsInDim S1x3072 (![] : Fin 0 → Fin S1x3072.rank)
  reducesTo_S1x3072_S_d0_1 : S1x3072.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x5120 : S_.BroadcastsInDim S1024x5120 (![] : Fin 0 → Fin S1024x5120.rank)
  reducesTo_S1024x5120_S_d0_1 : S1024x5120.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part2 {F : FTy → Type} [FloatOps F] (main_arg7 : FVec F S1x1024 .f32) (main_arg8 : FVec F S8x128x128 .f32) (main_arg9 : FVec F S8x128 .f32) (main_v33 : IVec S_ 1) : IVec S_ 1 :=
  let main_v34 : FVec F S1x1024 .f32 := Host.absf main_arg7
  let main_cst_12 : FVec F S_ .f32 := constant S_ .f32 0x7F800000#32
  let main_v35 : FVec F S1x1024 .f32 := broadcastInDim S1x1024 ![] bcast_S_S1x1024 main_cst_12
  let main_v36 : IVec S1x1024 1 := cmpf .olt main_v34 main_v35
  let main_c_13 : IVec S_ 1 := constantI S_ 1 1#1
  let main_v37 : IVec S_ 1 := (fun x v => Host.reduce IntOp.andi x v reducesTo_S1x1024_S_d0_1 h_S_) main_v36 main_c_13
  let main_v38 : IVec S_ 1 := andi main_v33 main_v37
  let main_v39 : FVec F S8x128x128 .f32 := Host.absf main_arg8
  let main_cst_14 : FVec F S_ .f32 := constant S_ .f32 0x7F800000#32
  let main_v40 : FVec F S8x128x128 .f32 := broadcastInDim S8x128x128 ![] bcast_S_S8x128x128 main_cst_14
  let main_v41 : IVec S8x128x128 1 := cmpf .olt main_v39 main_v40
  let main_c_15 : IVec S_ 1 := constantI S_ 1 1#1
  let main_v42 : IVec S_ 1 := (fun x v => Host.reduce IntOp.andi x v reducesTo_S8x128x128_S_d0_1_2 h_S_) main_v41 main_c_15
  let main_v43 : IVec S_ 1 := andi main_v38 main_v42
  let main_v44 : FVec F S8x128 .f32 := Host.absf main_arg9
  let main_cst_16 : FVec F S_ .f32 := constant S_ .f32 0x7F800000#32
  let main_v45 : FVec F S8x128 .f32 := broadcastInDim S8x128 ![] bcast_S_S8x128 main_cst_16
  let main_v46 : IVec S8x128 1 := cmpf .olt main_v44 main_v45
  let main_c_17 : IVec S_ 1 := constantI S_ 1 1#1
  let main_v47 : IVec S_ 1 := (fun x v => Host.reduce IntOp.andi x v reducesTo_S8x128_S_d0_1 h_S_) main_v46 main_c_17
  let main_v48 : IVec S_ 1 := andi main_v43 main_v47
  main_v48

def fn_part1 {F : FTy → Type} [FloatOps F] (main_arg4 : FVec F S1x1024 .f32) (main_arg5 : FVec F S1024x5120 .f32) (main_arg6 : FVec F S1x1024 .f32) (main_arg7 : FVec F S1x1024 .f32) (main_arg8 : FVec F S8x128x128 .f32) (main_arg9 : FVec F S8x128 .f32) (main_v13 : IVec S_ 1) (main_v16 : IVec S1x3072 1) : IVec S_ 1 :=
  let main_c_5 : IVec S_ 1 := constantI S_ 1 1#1
  let main_v17 : IVec S_ 1 := (fun x v => Host.reduce IntOp.andi x v reducesTo_S1x3072_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1024x5120 .f32 := Host.absf main_arg5
  let main_cst_8 : FVec F S_ .f32 := constant S_ .f32 0x7F800000#32
  let main_v25 : FVec F S1024x5120 .f32 := broadcastInDim S1024x5120 ![] bcast_S_S1024x5120 main_cst_8
  let main_v26 : IVec S1024x5120 1 := cmpf .olt main_v24 main_v25
  let main_c_9 : IVec S_ 1 := constantI S_ 1 1#1
  let main_v27 : IVec S_ 1 := (fun x v => Host.reduce IntOp.andi x v reducesTo_S1024x5120_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S2048x1024 .f32) (main_arg1 : FVec F S256x1024 .f32) (main_arg2 : FVec F S1x3072 .f32) (main_arg3 : FVec F S1x3072 .f32) (main_arg4 : FVec F S1x1024 .f32) (main_arg5 : FVec F S1024x5120 .f32) (main_arg6 : FVec F S1x1024 .f32) (main_arg7 : FVec F S1x1024 .f32) (main_arg8 : FVec F S8x128x128 .f32) (main_arg9 : FVec F S8x128 .f32) (main_arg10 : FVec F S8x128 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S1x3072 .f32 := Host.absf main_arg2
  let main_cst_2 : FVec F S_ .f32 := constant S_ .f32 0x7F800000#32
  let main_v10 : FVec F S1x3072 .f32 := broadcastInDim S1x3072 ![] bcast_S_S1x3072 main_cst_2
  let main_v11 : IVec S1x3072 1 := cmpf .olt main_v9 main_v10
  let main_c_3 : IVec S_ 1 := constantI S_ 1 1#1
  let main_v12 : IVec S_ 1 := (fun x v => Host.reduce IntOp.andi x v reducesTo_S1x3072_S_d0_1 h_S_) main_v11 main_c_3
  let main_v13 : IVec S_ 1 := andi main_v8 main_v12
  let main_v14 : FVec F S1x3072 .f32 := Host.absf main_arg3
  let main_cst_4 : FVec F S_ .f32 := constant S_ .f32 0x7F800000#32
  let main_v15 : FVec F S1x3072 .f32 := broadcastInDim S1x3072 ![] bcast_S_S1x3072 main_cst_4
  let main_v16 : IVec S1x3072 1 := cmpf .olt main_v14 main_v15
  fn_part1 (F := F) main_arg4 main_arg5 main_arg6 main_arg7 main_arg8 main_arg9 main_v13 main_v16
-- ==== Kernel.lean ====
abbrev S2048x1024 : Shape := ⟨2, ![2048, 1024]⟩
abbrev S256x1024 : Shape := ⟨2, ![256, 1024]⟩
abbrev S1x3072 : Shape := ⟨2, ![1, 3072]⟩
abbrev S1x1024 : Shape := ⟨2, ![1, 1024]⟩
abbrev S1024x5120 : Shape := ⟨2, ![1024, 5120]⟩
abbrev S8x128x128 : Shape := ⟨3, ![8, 128, 128]⟩
abbrev S8x128 : Shape := ⟨2, ![8, 128]⟩
abbrev S2304x1024 : Shape := ⟨2, ![2304, 1024]⟩
abbrev S_ : Shape := ⟨0, ![]⟩
abbrev S6x3072 : Shape := ⟨2, ![6, 3072]⟩
abbrev S8x3072 : Shape := ⟨2, ![8, 3072]⟩
abbrev S2048 : Shape := ⟨1, ![2048]⟩
abbrev S2048x1 : Shape := ⟨2, ![2048, 1]⟩
abbrev S2048x5120 : Shape := ⟨2, ![2048, 5120]⟩
abbrev S128x8 : Shape := ⟨2, ![128, 8]⟩
abbrev S1024x1024 : Shape := ⟨2, ![1024, 1024]⟩
abbrev S8x1024 : Shape := ⟨2, ![8, 1024]⟩
abbrev S128x1024 : Shape := ⟨2, ![128, 1024]⟩
abbrev S256 : Shape := ⟨1, ![256]⟩
abbrev S256x1 : Shape := ⟨2, ![256, 1]⟩
abbrev S1024 : Shape := ⟨1, ![1024]⟩
abbrev S128 : Shape := ⟨1, ![128]⟩
abbrev S128x1 : Shape := ⟨2, ![128, 1]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 60
  | .vmem => 45
  | .smem => 0
  | _ => 0

abbrev bufTy : (tb : Table) → Fin (tcTables nBuf tb) → BufTy
  | .hbm, ⟨0, _⟩ => ⟨S2048x1024, .f32⟩
  | .hbm, ⟨1, _⟩ => ⟨S256x1024, .f32⟩
  | .hbm, ⟨2, _⟩ => ⟨S1x3072, .f32⟩
  | .hbm, ⟨3, _⟩ => ⟨S1x3072, .f32⟩
  | .hbm, ⟨4, _⟩ => ⟨S1x1024, .f32⟩
  | .hbm, ⟨5, _⟩ => ⟨S1024x5120, .f32⟩
  | .hbm, ⟨6, _⟩ => ⟨S1x1024, .f32⟩
  | .hbm, ⟨7, _⟩ => ⟨S1x1024, .f32⟩
  | .hbm, ⟨8, _⟩ => ⟨S8x128x128, .f32⟩
  | .hbm, ⟨9, _⟩ => ⟨S8x128, .f32⟩
  | .hbm, ⟨10, _⟩ => ⟨S2304x1024, .bf16⟩
  | .hbm, ⟨11, _⟩ => ⟨S2048x1024, .bf16⟩
  | .hbm, ⟨12, _⟩ => ⟨S2048x1024, .bf16⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S6x3072, .f32⟩
  | .hbm, ⟨17, _⟩ => ⟨S8x3072, .f32⟩
  | .hbm, ⟨18, _⟩ => ⟨S1x1024, .f32⟩
  | .hbm, ⟨19, _⟩ => ⟨S1x1024, .f32⟩
  | .hbm, ⟨20, _⟩ => ⟨S2048x1024, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1x1024, .f32⟩
  | .hbm, ⟨37, _⟩ => ⟨S1x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x5120, .f32⟩
  | .hbm, ⟨43, _⟩ => ⟨S2048x1024, .f32⟩
  | .hbm, ⟨44, _⟩ => ⟨S2048x1024, .f32⟩
  | .hbm, ⟨45, _⟩ => ⟨S8x128x128, .bf16⟩
  | .hbm, ⟨46, _⟩ => ⟨S128x8, .f32⟩
  | .hbm, ⟨47, _⟩ => ⟨S1024x5120, .bf16⟩
  | .hbm, ⟨48, _⟩ => ⟨S2048x1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S2048x1024, .bf16⟩
  | .hbm, ⟨55, _⟩ => ⟨S2048x1024, .bf16⟩
  | .hbm, ⟨56, _⟩ => ⟨S8x128x128, .f32⟩
  | .hbm, ⟨57, _⟩ => ⟨S8x128, .f32⟩
  | .hbm, ⟨58, _⟩ => ⟨S1x1024, .f32⟩
  | .hbm, ⟨59, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S8x1024, .f32⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S1x1024, .f32⟩
  | .local _ .vmem, ⟨25, _⟩ => ⟨S1x1024, .f32⟩
  | .local _ .vmem, ⟨26, _⟩ => ⟨S8x128x128, .bf16⟩
  | .local _ .vmem, ⟨27, _⟩ => ⟨S128x8, .f32⟩
  | .local _ .vmem, ⟨28, _⟩ => ⟨S256x1024, .f32⟩
  | .local _ .vmem, ⟨29, _⟩ => ⟨S256x1024, .f32⟩
  | .local _ .vmem, ⟨30, _⟩ => ⟨S1x1024, .f32⟩
  | .local _ .vmem, ⟨31, _⟩ => ⟨S1x1024, .f32⟩
  | .local _ .vmem, ⟨32, _⟩ => ⟨S1x1024, .f32⟩
  | .local _ .vmem, ⟨33, _⟩ => ⟨S1x1024, .f32⟩
  | .local _ .vmem, ⟨34, _⟩ => ⟨S1x1024, .f32⟩
  | .local _ .vmem, ⟨35, _⟩ => ⟨S256x1024, .bf16⟩
  | .local _ .vmem, ⟨36, _⟩ => ⟨S256x1024, .bf16⟩
  | .local _ .vmem, ⟨37, _⟩ => ⟨S256x1024, .bf16⟩
  | .local _ .vmem, ⟨38, _⟩ => ⟨S256x1024, .bf16⟩
  | .local _ .vmem, ⟨39, _⟩ => ⟨S8x128x128, .f32⟩
  | .local _ .vmem, ⟨40, _⟩ => ⟨S8x128, .f32⟩
  | .local _ .vmem, ⟨41, _⟩ => ⟨S1x1024, .f32⟩
  | .local _ .vmem, ⟨42, _⟩ => ⟨S1x1024, .f32⟩
  | .local _ .vmem, ⟨43, _⟩ => ⟨S128x1024, .f32⟩
  | .local _ .vmem, ⟨44, _⟩ => ⟨S128x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_cst_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28_0 : Ref sig .tc := ⟨.hbm, 48, rfl⟩
abbrev main_v28_1 : Ref sig .tc := ⟨.hbm, 49, rfl⟩
abbrev main_v28_2 : Ref sig .tc := ⟨.hbm, 50, rfl⟩
abbrev main_v28_3 : Ref sig .tc := ⟨.hbm, 51, rfl⟩
abbrev main_v28_4 : Ref sig .tc := ⟨.hbm, 52, rfl⟩
abbrev main_v28_5 : Ref sig .tc := ⟨.hbm, 53, rfl⟩
abbrev main_v28_6 : Ref sig .tc := ⟨.hbm, 54, rfl⟩
abbrev main_v28_7 : Ref sig .tc := ⟨.hbm, 55, rfl⟩
abbrev main_v28_8 : Ref sig .tc := ⟨.hbm, 56, rfl⟩
abbrev main_v28_9 : Ref sig .tc := ⟨.hbm, 57, rfl⟩
abbrev main_v28_10 : Ref sig .tc := ⟨.hbm, 58, rfl⟩
abbrev main_v28_11 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg22_0 : Ref sig .tc := ⟨.vmem, 31, rfl⟩
abbrev cc0_stg23_0 : Ref sig .tc := ⟨.vmem, 32, rfl⟩
abbrev cc0_stg24_0 : Ref sig .tc := ⟨.vmem, 33, rfl⟩
abbrev cc0_stg25_0 : Ref sig .tc := ⟨.vmem, 34, rfl⟩
abbrev cc0_stg26_0 : Ref sig .tc := ⟨.vmem, 35, rfl⟩
abbrev cc0_stg26_1 : Ref sig .tc := ⟨.vmem, 36, rfl⟩
abbrev cc0_stg27_0 : Ref sig .tc := ⟨.vmem, 37, rfl⟩
abbrev cc0_stg27_1 : Ref sig .tc := ⟨.vmem, 38, rfl⟩
abbrev cc0_stg28_0 : Ref sig .tc := ⟨.vmem, 39, rfl⟩
abbrev cc0_stg29_0 : Ref sig .tc := ⟨.vmem, 40, rfl⟩
abbrev cc0_stg30_0 : Ref sig .tc := ⟨.vmem, 41, rfl⟩
abbrev cc0_stg31_0 : Ref sig .tc := ⟨.vmem, 42, rfl⟩
abbrev cc0_scratch0 : Ref sig .tc := ⟨.vmem, 43, rfl⟩
abbrev cc0_scratch1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem20_1 : DmaSem sig := 29
abbrev cc0_sem21_0 : DmaSem sig := 30
abbrev cc0_sem22_0 : DmaSem sig := 31
abbrev cc0_sem23_0 : DmaSem sig := 32
abbrev cc0_sem24_0 : DmaSem sig := 33
abbrev cc0_sem25_0 : DmaSem sig := 34
abbrev cc0_sem26_0 : DmaSem sig := 35
abbrev cc0_sem26_1 : DmaSem sig := 36
abbrev cc0_sem27_0 : DmaSem sig := 37
abbrev cc0_sem27_1 : DmaSem sig := 38
abbrev cc0_sem28_0 : DmaSem sig := 39
abbrev cc0_sem29_0 : DmaSem sig := 40
abbrev cc0_sem30_0 : DmaSem sig := 41
abbrev cc0_sem31_0 : DmaSem sig := 42

abbrev nD : Nat := 1
abbrev τ : Topo := Topo.v7x

variable {F : FTy → Type} [FloatOps F]

abbrev grid0 : Pipeline.Grid := ⟨1, ![9], ![false]⟩

def k0_cond3 (i : grid0.Coords) : BitVec 1 :=
  let arg0 : BitVec 32 := BitVec.ofNat 32 (i 0).val
  let c0_i32_13 : BitVec 32 := 0#32
  let v26 : BitVec 1 := Scalar.cmpi .sgt arg0 c0_i32_13
  let v27 : BitVec 32 := Scalar.extui v26
  let c0_i32_14 : BitVec 32 := 0#32
  let v28 : BitVec 1 := Scalar.cmpi .ne v27 c0_i32_14
  v28

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v24 : BitVec 32 := Scalar.extui v0
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_6 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_7 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_15 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_27 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_28 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x128x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x8 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 2 → Memref sig .tc .vmem S256x1024 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S256x1024 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 1 → Memref sig .tc .vmem S8x128x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S8x128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S1x1024 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S1x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]
-- ==== KernelIdeal.lean ====
variable {F : FTy → Type} [FloatOps F] [Named F]
def κ : String → Option EReal := fun
  | "gelu_3kc" => some ((241015141496493 / 2251799813685248 : ℝ) : EReal)
  | "gelu_kc" => some ((80338380498831 / 2251799813685248 : ℝ) : EReal)
  | _ => none
-- ==== ReferenceIdeal.lean ====
abbrev S2048x1024 : Shape := ⟨2, ![2048, 1024]⟩
abbrev S256x1024 : Shape := ⟨2, ![256, 1024]⟩
abbrev S1x3072 : Shape := ⟨2, ![1, 3072]⟩
abbrev S1x1024 : Shape := ⟨2, ![1, 1024]⟩
abbrev S1024x5120 : Shape := ⟨2, ![1024, 5120]⟩
abbrev S8x128x128 : Shape := ⟨3, ![8, 128, 128]⟩
abbrev S8x128 : Shape := ⟨2, ![8, 128]⟩
abbrev S2304x1024 : Shape := ⟨2, ![2304, 1024]⟩
abbrev S_ : Shape := ⟨0, ![]⟩
abbrev S2048 : Shape := ⟨1, ![2048]⟩
abbrev S2048x1 : Shape := ⟨2, ![2048, 1]⟩
abbrev S2048x5120 : Shape := ⟨2, ![2048, 5120]⟩
abbrev S1024x1024 : Shape := ⟨2, ![1024, 1024]⟩
abbrev S256 : Shape := ⟨1, ![256]⟩
abbrev S256x1 : Shape := ⟨2, ![256, 1]⟩
abbrev S16x128x8x128 : Shape := ⟨4, ![16, 128, 8, 128]⟩
abbrev S8x16x128x128 : Shape := ⟨4, ![8, 16, 128, 128]⟩
abbrev S128x8 : Shape := ⟨2, ![128, 8]⟩
abbrev S1x128x8x1 : Shape := ⟨4, ![1, 128, 8, 1]⟩
abbrev S1024 : Shape := ⟨1, ![1024]⟩

abbrev nBuf : Space → Nat
  | .hbm => 337
  | .vmem => 0
  | .smem => 0
  | _ => 0

abbrev hbmTy0_0 (i : Nat) : BufTy := match i % 128 with
  | 0 => ⟨S2048x1024, .f32⟩
  | 1 => ⟨S256x1024, .f32⟩
  | 2 => ⟨S1x3072, .f32⟩
  | 3 => ⟨S1x3072, .f32⟩
  | 4 => ⟨S1x1024, .f32⟩
  | 5 => ⟨S1024x5120, .f32⟩
  | 6 => ⟨S1x1024, .f32⟩
  | 7 => ⟨S1x1024, .f32⟩
  | 8 => ⟨S8x128x128, .f32⟩
  | 9 => ⟨S8x128, .f32⟩
  | 10 => ⟨S2304x1024, .bf16⟩
  | 11 => ⟨S2048x1024, .bf16⟩
  | 12 => ⟨S2048x1024, .bf16⟩
  | 13 => ⟨S2048x1024, .f32⟩
  | 14 => ⟨S2048x1024, .f32⟩
  | 15 => ⟨S1x1024, .f32⟩
  | 16 => ⟨S1x1024, .f32⟩
  | 17 => ⟨S1x1024, .f32⟩
  | 18 => ⟨S1x1024, .f32⟩
  | 19 => ⟨S1x1024, .f32⟩
  | 20 => ⟨S1x1024, .f32⟩
  | 21 => ⟨S2048x1024, .f32⟩
  | 22 => ⟨S_, .f32⟩
  | 23 => ⟨S2048, .f32⟩
  | 24 => ⟨S2048x1, .f32⟩
  | 25 => ⟨S_, .f32⟩
  | 26 => ⟨S2048x1, .f32⟩
  | 27 => ⟨S2048x1, .f32⟩
  | 28 => ⟨S_, .f32⟩
  | 29 => ⟨S2048x1, .f32⟩
  | 30 => ⟨S2048x1, .f32⟩
  | 31 => ⟨S2048x1, .f32⟩
  | 32 => ⟨S2048x1, .f32⟩
  | 33 => ⟨S_, .f32⟩
  | 34 => ⟨S2048x1, .f32⟩
  | 35 => ⟨S2048x1, .f32⟩
  | 36 => ⟨S2048x1024, .f32⟩
  | 37 => ⟨S2048x1024, .f32⟩
  | 38 => ⟨S2048x1024, .f32⟩
  | 39 => ⟨S2048x1024, .f32⟩
  | 40 => ⟨S_, .f32⟩
  | 41 => ⟨S1x1024, .f32⟩
  | 42 => ⟨S1x1024, .f32⟩
  | 43 => ⟨S2048x1024, .f32⟩
  | 44 => ⟨S2048x1024, .f32⟩
  | 45 => ⟨S2048x1024, .f32⟩
  | 46 => ⟨S2048x1024, .f32⟩
  | 47 => ⟨S2048x5120, .f32⟩
  | 48 => ⟨S1024x1024, .f32⟩
  | 49 => ⟨S256x1024, .f32⟩
  | 50 => ⟨S_, .f32⟩
  | 51 => ⟨S256, .f32⟩
  | 52 => ⟨S256x1, .f32⟩
  | 53 => ⟨S_, .f32⟩
  | 54 => ⟨S256x1, .f32⟩
  | 55 => ⟨S256x1, .f32⟩
  | 56 => ⟨S_, .f32⟩
  | 57 => ⟨S256x1, .f32⟩
  | 58 => ⟨S256x1, .f32⟩
  | 59 => ⟨S256x1, .f32⟩
  | 60 => ⟨S256x1, .f32⟩
  | 61 => ⟨S_, .f32⟩
  | 62 => ⟨S256x1, .f32⟩
  | 63 => ⟨S256x1, .f32⟩
  | 64 => ⟨S256x1024, .f32⟩
  | 65 => ⟨S256x1024, .f32⟩
  | 66 => ⟨S256x1024, .f32⟩
  | 67 => ⟨S256x1024, .f32⟩
  | 68 => ⟨S_, .f32⟩
  | 69 => ⟨S1x1024, .f32⟩
  | 70 => ⟨S1x1024, .f32⟩
  | 71 => ⟨S256x1024, .f32⟩
  | 72 => ⟨S256x1024, .f32⟩
  | 73 => ⟨S256x1024, .f32⟩
  | 74 => ⟨S256x1024, .f32⟩
  | 75 => ⟨S256x1024, .f32⟩
  | 76 => ⟨S2048x1024, .f32⟩
  | 77 => ⟨S2048x1024, .f32⟩
  | 78 => ⟨S2048x1024, .f32⟩
  | 79 => ⟨S2048x1024, .f32⟩
  | 80 => ⟨S2048x1024, .f32⟩
  | 81 => ⟨S_, .f32⟩
  | 82 => ⟨S2048x1024, .f32⟩
  | 83 => ⟨S2048x1024, .f32⟩
  | 84 => ⟨S_, .f32⟩
  | 85 => ⟨S2048x1024, .f32⟩
  | 86 => ⟨S2048x1024, .f32⟩
  | 87 => ⟨S2048x1024, .f32⟩
  | 88 => ⟨S_, .f32⟩
  | 89 => ⟨S2048x1024, .f32⟩
  | 90 => ⟨S2048x1024, .f32⟩
  | 91 => ⟨S2048x1024, .f32⟩
  | 92 => ⟨S_, .f32⟩
  | 93 => ⟨S2048x1024, .f32⟩
  | 94 => ⟨S2048x1024, .f32⟩
  | 95 => ⟨S_, .f32⟩
  | 96 => ⟨S2048x1024, .f32⟩
  | 97 => ⟨S2048x1024, .f32⟩
  | 98 => ⟨S2048x1024, .f32⟩
  | 99 => ⟨S_, .f32⟩
  | 100 => ⟨S2048x1024, .f32⟩
  | 101 => ⟨S2048x1024, .f32⟩
  | 102 => ⟨S_, .f32⟩
  | 103 => ⟨S2048x1024, .f32⟩
  | 104 => ⟨S2048x1024, .f32⟩
  | 105 => ⟨S2048x1024, .f32⟩
  | 106 => ⟨S2048x1024, .f32⟩
  | 107 => ⟨S2048x1024, .f32⟩
  | 108 => ⟨S2048x1024, .f32⟩
  | 109 => ⟨S_, .f32⟩
  | 110 => ⟨S2048x1024, .f32⟩
  | 111 => ⟨S2048x1024, .f32⟩
  | 112 => ⟨S_, .f32⟩
  | 113 => ⟨S2048x1024, .f32⟩
  | 114 => ⟨S2048x1024, .f32⟩
  | 115 => ⟨S2048x1024, .f32⟩
  | 116 => ⟨S_, .f32⟩
  | 117 => ⟨S2048x1024, .f32⟩
  | 118 => ⟨S2048x1024, .f32⟩
  | 119 => ⟨S2048x1024, .f32⟩
  | 120 => ⟨S_, .f32⟩
  | 121 => ⟨S2048x1024, .f32⟩
  | 122 => ⟨S2048x1024, .f32⟩
  | 123 => ⟨S_, .f32⟩
  | 124 => ⟨S2048x1024, .f32⟩
  | 125 => ⟨S2048x1024, .f32⟩
  | 126 => ⟨S2048x1024, .f32⟩
  | 127 => ⟨S_, .f32⟩
  | _ => ⟨S2048x1024, .f32⟩

abbrev hbmTy0_1 (i : Nat) : BufTy := match i % 128 with
  | 0 => ⟨S2048x1024, .f32⟩
  | 1 => ⟨S2048x1024, .f32⟩
  | 2 => ⟨S_, .f32⟩
  | 3 => ⟨S2048x1024, .f32⟩
  | 4 => ⟨S2048x1024, .f32⟩
  | 5 => ⟨S2048x1024, .f32⟩
  | 6 => ⟨S_, .f32⟩
  | 7 => ⟨S2048, .f32⟩
  | 8 => ⟨S2048x1, .f32⟩
  | 9 => ⟨S_, .f32⟩
  | 10 => ⟨S2048x1, .f32⟩
  | 11 => ⟨S2048x1, .f32⟩
  | 12 => ⟨S2048x1024, .f32⟩
  | 13 => ⟨S2048x1024, .f32⟩
  | 14 => ⟨S2048x1024, .f32⟩
  | 15 => ⟨S_, .f32⟩
  | 16 => ⟨S2048x1024, .f32⟩
  | 17 => ⟨S2048x1024, .f32⟩
  | 18 => ⟨S_, .f32⟩
  | 19 => ⟨S2048, .f32⟩
  | 20 => ⟨S2048x1, .f32⟩
  | 21 => ⟨S_, .f32⟩
  | 22 => ⟨S2048x1, .f32⟩
  | 23 => ⟨S2048x1, .f32⟩
  | 24 => ⟨S2048x1024, .f32⟩
  | 25 => ⟨S2048x1024, .f32⟩
  | 26 => ⟨S_, .f32⟩
  | 27 => ⟨S2048x1, .f32⟩
  | 28 => ⟨S2048x1, .f32⟩
  | 29 => ⟨S2048x1, .f32⟩
  | 30 => ⟨S2048x1, .f32⟩
  | 31 => ⟨S_, .f32⟩
  | 32 => ⟨S2048x1, .f32⟩
  | 33 => ⟨S2048x1, .f32⟩
  | 34 => ⟨S2048x1024, .f32⟩
  | 35 => ⟨S2048x1024, .f32⟩
  | 36 => ⟨S2048x1024, .f32⟩
  | 37 => ⟨S2048x1024, .f32⟩
  | 38 => ⟨S2048x1024, .f32⟩
  | 39 => ⟨S2048x1024, .f32⟩
  | 40 => ⟨S16x128x8x128, .f32⟩
  | 41 => ⟨S8x16x128x128, .f32⟩
  | 42 => ⟨S16x128x8x128, .f32⟩
  | 43 => ⟨S128x8, .f32⟩
  | 44 => ⟨S1x128x8x1, .f32⟩
  | 45 => ⟨S16x128x8x128, .f32⟩
  | 46 => ⟨S16x128x8x128, .f32⟩
  | 47 => ⟨S2048x1024, .f32⟩
  | 48 => ⟨S2048x1024, .f32⟩
  | 49 => ⟨S2048x1024, .f32⟩
  | 50 => ⟨S2048x1024, .f32⟩
  | 51 => ⟨S16x128x8x128, .f32⟩
  | 52 => ⟨S_, .f32⟩
  | 53 => ⟨S128x8, .f32⟩
  | 54 => ⟨S1x128x8x1, .f32⟩
  | 55 => ⟨S_, .f32⟩
  | 56 => ⟨S128x8, .f32⟩
  | 57 => ⟨S8x128, .f32⟩
  | 58 => ⟨S8x16x128x128, .f32⟩
  | 59 => ⟨S8x128x128, .f32⟩
  | 60 => ⟨S8x16x128x128, .f32⟩
  | 61 => ⟨S16x128x8x128, .f32⟩
  | 62 => ⟨S2048x1024, .f32⟩
  | 63 => ⟨S_, .f32⟩
  | 64 => ⟨S1024, .f32⟩
  | 65 => ⟨S1x1024, .f32⟩
  | 66 => ⟨S2048x1024, .f32⟩
  | 67 => ⟨S_, .f32⟩
  | 68 => ⟨S1024, .f32⟩
  | 69 => ⟨S1x1024, .f32⟩
  | 70 => ⟨S2048x1024, .f32⟩
  | 71 => ⟨S2048x1024, .f32⟩
  | 72 => ⟨S2048x1024, .f32⟩
  | 73 => ⟨S_, .f32⟩
  | 74 => ⟨S2048, .f32⟩
  | 75 => ⟨S2048x1, .f32⟩
  | 76 => ⟨S2048x1024, .f32⟩
  | 77 => ⟨S2048x1024, .f32⟩
  | 78 => ⟨S2048x1, .f32⟩
  | 79 => ⟨S2048x1024, .f32⟩
  | 80 => ⟨S_, .f32⟩
  | 81 => ⟨S2048, .f32⟩
  | 82 => ⟨S2048x1, .f32⟩
  | 83 => ⟨S_, .f32⟩
  | 84 => ⟨S2048x1, .f32⟩
  | 85 => ⟨S2048x1, .f32⟩
  | 86 => ⟨S_, .f32⟩
  | 87 => ⟨S2048, .f32⟩
  | 88 => ⟨S2048x1024, .f32⟩
  | 89 => ⟨S2048x1024, .f32⟩
  | 90 => ⟨S2048x1024, .f32⟩
  | 91 => ⟨S_, .f32⟩
  | 92 => ⟨S2048, .f32⟩
  | 93 => ⟨S2048x1, .f32⟩
  | 94 => ⟨S2048x1024, .f32⟩
  | 95 => ⟨S2048x1, .f32⟩
  | 96 => ⟨S_, .f32⟩
  | 97 => ⟨S2048x1, .f32⟩
  | 98 => ⟨S2048x1, .f32⟩
  | 99 => ⟨S_, .f32⟩
  | 100 => ⟨S2048, .f32⟩
  | 101 => ⟨S2048x1024, .f32⟩
  | 102 => ⟨S2048x1024, .f32⟩
  | 103 => ⟨S2048x1024, .f32⟩
  | 104 => ⟨S2048x1024, .f32⟩
  | 105 => ⟨S_, .f32⟩
  | 106 => ⟨S2048x1024, .f32⟩
  | 107 => ⟨S2048x1024, .f32⟩
  | 108 => ⟨S2048x1024, .f32⟩
  | 109 => ⟨S_, .f32⟩
  | 110 => ⟨S2048x1024, .f32⟩
  | 111 => ⟨S2048x1024, .f32⟩
  | 112 => ⟨S2048x1024, .f32⟩
  | 113 => ⟨S_, .f32⟩
  | 114 => ⟨S2048x1024, .f32⟩
  | 115 => ⟨S2048x1024, .f32⟩
  | 116 => ⟨S2048x1024, .f32⟩
  | 117 => ⟨S2048x1024, .f32⟩
  | 118 => ⟨S2048x1024, .f32⟩
  | 119 => ⟨S2048x1024, .f32⟩
  | 120 => ⟨S_, .f32⟩
  | 121 => ⟨S2048x1024, .f32⟩
  | 122 => ⟨S2048x1024, .f32⟩
  | 123 => ⟨S2048x1024, .f32⟩
  | 124 => ⟨S_, .f32⟩
  | 125 => ⟨S2048x1024, .f32⟩
  | 126 => ⟨S2048x1024, .f32⟩
  | 127 => ⟨S2048x1024, .f32⟩
  | _ => ⟨S2048x1024, .f32⟩

abbrev hbmTy0_2 (i : Nat) : BufTy := match i % 128 with
  | 0 => ⟨S_, .f32⟩
  | 1 => ⟨S2048x1024, .f32⟩
  | 2 => ⟨S2048x1024, .f32⟩
  | 3 => ⟨S2048x1024, .f32⟩
  | 4 => ⟨S2048x1024, .f32⟩
  | 5 => ⟨S2304x1024, .f32⟩
  | 6 => ⟨S2048x1024, .f32⟩
  | 7 => ⟨S2048x1024, .f32⟩
  | 8 => ⟨S2048x1024, .f32⟩
  | 9 => ⟨S2048x5120, .f32⟩
  | 10 => ⟨S256x1024, .f32⟩
  | 11 => ⟨S256x1024, .f32⟩
  | 12 => ⟨S_, .f32⟩
  | 13 => ⟨S1024, .f32⟩
  | 14 => ⟨S1x1024, .f32⟩
  | 15 => ⟨S256x1024, .f32⟩
  | 16 => ⟨S_, .f32⟩
  | 17 => ⟨S1024, .f32⟩
  | 18 => ⟨S1x1024, .f32⟩
  | 19 => ⟨S256x1024, .f32⟩
  | 20 => ⟨S256x1024, .f32⟩
  | 21 => ⟨S256x1024, .f32⟩
  | 22 => ⟨S_, .f32⟩
  | 23 => ⟨S1024, .f32⟩
  | 24 => ⟨S1x1024, .f32⟩
  | 25 => ⟨S256x1024, .f32⟩
  | 26 => ⟨S256x1024, .f32⟩
  | 27 => ⟨S256x1024, .f32⟩
  | 28 => ⟨S_, .f32⟩
  | 29 => ⟨S256, .f32⟩
  | 30 => ⟨S256x1, .f32⟩
  | 31 => ⟨S256x1024, .f32⟩
  | 32 => ⟨S256x1024, .f32⟩
  | 33 => ⟨S256x1, .f32⟩
  | 34 => ⟨S_, .f32⟩
  | 35 => ⟨S256x1, .f32⟩
  | 36 => ⟨S256x1, .f32⟩
  | 37 => ⟨S_, .f32⟩
  | 38 => ⟨S256, .f32⟩
  | 39 => ⟨S256x1024, .f32⟩
  | 40 => ⟨S256x1024, .f32⟩
  | 41 => ⟨S256x1024, .f32⟩
  | 42 => ⟨S256x1024, .f32⟩
  | 43 => ⟨S256x1024, .f32⟩
  | 44 => ⟨S2048x1024, .f32⟩
  | 45 => ⟨S_, .f32⟩
  | 46 => ⟨S1024, .f32⟩
  | 47 => ⟨S1x1024, .f32⟩
  | 48 => ⟨S2048x1024, .f32⟩
  | 49 => ⟨S_, .f32⟩
  | 50 => ⟨S1024, .f32⟩
  | 51 => ⟨S1x1024, .f32⟩
  | 52 => ⟨S2048x1024, .f32⟩
  | 53 => ⟨S2048x1024, .f32⟩
  | 54 => ⟨S2048x1024, .f32⟩
  | 55 => ⟨S_, .f32⟩
  | 56 => ⟨S1024, .f32⟩
  | 57 => ⟨S1x1024, .f32⟩
  | 58 => ⟨S1x1024, .f32⟩
  | 59 => ⟨S2048x1024, .f32⟩
  | 60 => ⟨S2048x1024, .f32⟩
  | 61 => ⟨S2048x1024, .f32⟩
  | 62 => ⟨S_, .f32⟩
  | 63 => ⟨S2048, .f32⟩
  | 64 => ⟨S2048x1, .f32⟩
  | 65 => ⟨S2048x1024, .f32⟩
  | 66 => ⟨S2048x1024, .f32⟩
  | 67 => ⟨S2048x1, .f32⟩
  | 68 => ⟨S_, .f32⟩
  | 69 => ⟨S2048x1, .f32⟩
  | 70 => ⟨S2048x1, .f32⟩
  | 71 => ⟨S_, .f32⟩
  | 72 => ⟨S2048, .f32⟩
  | 73 => ⟨S2048x1024, .f32⟩
  | 74 => ⟨S2048x1024, .f32⟩
  | 75 => ⟨S2048x1024, .f32⟩
  | 76 => ⟨S2048x1024, .f32⟩
  | 77 => ⟨S2048x1024, .f32⟩
  | 78 => ⟨S2048x1024, .f32⟩
  | 79 => ⟨S2048x1024, .bf16⟩
  | 80 => ⟨S2048x1024, .bf16⟩
  | _ => ⟨S2048x1024, .f32⟩

abbrev hbmTy (i : Nat) : BufTy := match i / 128 with
  | 0 => hbmTy0_0 i
  | 1 => hbmTy0_1 i
  | 2 => hbmTy0_2 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_v33 : Ref sig .tc := ⟨.hbm, 55, rfl⟩
abbrev main_cst_6 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_9 : Ref sig .tc := ⟨.hbm, 81, rfl⟩
abbrev main_v56 : Ref sig .tc := ⟨.hbm, 82, rfl⟩
abbrev main_v57 : Ref sig .tc := ⟨.hbm, 83, rfl⟩
abbrev main_cst_10 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_12 : Ref sig .tc := ⟨.hbm, 92, rfl⟩
abbrev main_v64 : Ref sig .tc := ⟨.hbm, 93, rfl⟩
abbrev main_v65 : Ref sig .tc := ⟨.hbm, 94, rfl⟩
abbrev main_cst_13 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_14 : Ref sig .tc := ⟨.hbm, 99, rfl⟩
abbrev main_v69 : Ref sig .tc := ⟨.hbm, 100, rfl⟩
abbrev main_v70 : Ref sig .tc := ⟨.hbm, 101, rfl⟩
abbrev main_cst_15 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_16 : Ref sig .tc := ⟨.hbm, 109, rfl⟩
abbrev main_v77 : Ref sig .tc := ⟨.hbm, 110, rfl⟩
abbrev main_v78 : Ref sig .tc := ⟨.hbm, 111, rfl⟩
abbrev main_cst_17 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_18 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_cst_20 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_21 : Ref sig .tc := ⟨.hbm, 127, rfl⟩
abbrev main_v90 : Ref sig .tc := ⟨.hbm, 128, rfl⟩
abbrev main_v91 : Ref sig .tc := ⟨.hbm, 129, rfl⟩
abbrev main_cst_22 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_23 : Ref sig .tc := ⟨.hbm, 134, rfl⟩
abbrev main_v95 : Ref sig .tc := ⟨.hbm, 135, rfl⟩
abbrev main_v96 : Ref sig .tc := ⟨.hbm, 136, rfl⟩
abbrev main_cst_24 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_25 : Ref sig .tc := ⟨.hbm, 143, rfl⟩
abbrev main_v102 : Ref sig .tc := ⟨.hbm, 144, rfl⟩
abbrev main_v103 : Ref sig .tc := ⟨.hbm, 145, rfl⟩
abbrev main_cst_26 : Ref sig .tc := ⟨.hbm, 146, rfl⟩
abbrev main_v104 : Ref sig .tc := ⟨.hbm, 147, rfl⟩
abbrev main_v105 : Ref sig .tc := ⟨.hbm, 148, rfl⟩
abbrev main_cst_27 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_28 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_29 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_cst_30 : Ref sig .tc := ⟨.hbm, 180, rfl⟩
abbrev main_v134 : Ref sig .tc := ⟨.hbm, 181, rfl⟩
abbrev main_v135 : Ref sig .tc := ⟨.hbm, 182, rfl⟩
abbrev main_cst_31 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_cst_32 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_cst_33 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_cst_34 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_cst_35 : Ref sig .tc := ⟨.hbm, 208, rfl⟩
abbrev main_v157 : Ref sig .tc := ⟨.hbm, 209, rfl⟩
abbrev main_v158 : Ref sig .tc := ⟨.hbm, 210, rfl⟩
abbrev main_cst_36 : Ref sig .tc := ⟨.hbm, 211, rfl⟩
abbrev main_v159 : Ref sig .tc := ⟨.hbm, 212, rfl⟩
abbrev main_v160 : Ref sig .tc := ⟨.hbm, 213, rfl⟩
abbrev main_cst_37 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_cst_38 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_cst_39 : Ref sig .tc := ⟨.hbm, 224, rfl⟩
abbrev main_v169 : Ref sig .tc := ⟨.hbm, 225, rfl⟩
abbrev main_v170 : Ref sig .tc := ⟨.hbm, 226, rfl⟩
abbrev main_cst_40 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_cst_41 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_cst_42 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_cst_43 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_cst_44 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_cst_45 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_cst_46 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_cst_47 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_cst_48 : Ref sig .tc := ⟨.hbm, 272, rfl⟩
abbrev main_v208 : Ref sig .tc := ⟨.hbm, 273, rfl⟩
abbrev main_v209 : Ref sig .tc := ⟨.hbm, 274, rfl⟩
abbrev main_v210 : Ref sig .tc := ⟨.hbm, 275, rfl⟩
abbrev main_v211 : Ref sig .tc := ⟨.hbm, 276, rfl⟩
abbrev main_v212 : Ref sig .tc := ⟨.hbm, 277, rfl⟩
abbrev main_cst_49 : Ref sig .tc := ⟨.hbm, 278, rfl⟩
abbrev main_v213 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_cst_50 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_v221 : Ref sig .tc := ⟨.hbm, 288, rfl⟩
abbrev main_v222 : Ref sig .tc := ⟨.hbm, 289, rfl⟩
abbrev main_cst_51 : Ref sig .tc := ⟨.hbm, 290, rfl⟩
abbrev main_v223 : Ref sig .tc := ⟨.hbm, 291, rfl⟩
abbrev main_v224 : Ref sig .tc := ⟨.hbm, 292, rfl⟩
abbrev main_cst_52 : Ref sig .tc := ⟨.hbm, 293, rfl⟩
abbrev main_v225 : Ref sig .tc := ⟨.hbm, 294, rfl⟩
abbrev main_v226 : Ref sig .tc := ⟨.hbm, 295, rfl⟩
abbrev main_v227 : Ref sig .tc := ⟨.hbm, 296, rfl⟩
abbrev main_v228 : Ref sig .tc := ⟨.hbm, 297, rfl⟩
abbrev main_v229 : Ref sig .tc := ⟨.hbm, 298, rfl⟩
abbrev main_v230 : Ref sig .tc := ⟨.hbm, 299, rfl⟩
abbrev main_v231 : Ref sig .tc := ⟨.hbm, 300, rfl⟩
abbrev main_cst_53 : Ref sig .tc := ⟨.hbm, 301, rfl⟩
abbrev main_v232 : Ref sig .tc := ⟨.hbm, 302, rfl⟩
abbrev main_v233 : Ref sig .tc := ⟨.hbm, 303, rfl⟩
abbrev main_v234 : Ref sig .tc := ⟨.hbm, 304, rfl⟩
abbrev main_cst_54 : Ref sig .tc := ⟨.hbm, 305, rfl⟩
abbrev main_v235 : Ref sig .tc := ⟨.hbm, 306, rfl⟩
abbrev main_v236 : Ref sig .tc := ⟨.hbm, 307, rfl⟩
abbrev main_v237 : Ref sig .tc := ⟨.hbm, 308, rfl⟩
abbrev main_v238 : Ref sig .tc := ⟨.hbm, 309, rfl⟩
abbrev main_v239 : Ref sig .tc := ⟨.hbm, 310, rfl⟩
abbrev main_cst_55 : Ref sig .tc := ⟨.hbm, 311, rfl⟩
abbrev main_v240 : Ref sig .tc := ⟨.hbm, 312, rfl⟩
abbrev main_v241 : Ref sig .tc := ⟨.hbm, 313, rfl⟩
abbrev main_v242 : Ref sig .tc := ⟨.hbm, 314, rfl⟩
abbrev main_v243 : Ref sig .tc := ⟨.hbm, 315, rfl⟩
abbrev main_v244 : Ref sig .tc := ⟨.hbm, 316, rfl⟩
abbrev main_v245 : Ref sig .tc := ⟨.hbm, 317, rfl⟩
abbrev main_cst_56 : Ref sig .tc := ⟨.hbm, 318, rfl⟩
abbrev main_v246 : Ref sig .tc := ⟨.hbm, 319, rfl⟩
abbrev main_v247 : Ref sig .tc := ⟨.hbm, 320, rfl⟩
abbrev main_v248 : Ref sig .tc := ⟨.hbm, 321, rfl⟩
abbrev main_v249 : Ref sig .tc := ⟨.hbm, 322, rfl⟩
abbrev main_v250 : Ref sig .tc := ⟨.hbm, 323, rfl⟩
abbrev main_cst_57 : Ref sig .tc := ⟨.hbm, 324, rfl⟩
abbrev main_v251 : Ref sig .tc := ⟨.hbm, 325, rfl⟩
abbrev main_v252 : Ref sig .tc := ⟨.hbm, 326, rfl⟩
abbrev main_cst_58 : Ref sig .tc := ⟨.hbm, 327, rfl⟩
abbrev main_v253 : Ref sig .tc := ⟨.hbm, 328, rfl⟩
abbrev main_v254 : Ref sig .tc := ⟨.hbm, 329, rfl⟩
abbrev main_v255 : Ref sig .tc := ⟨.hbm, 330, rfl⟩
abbrev main_v256 : Ref sig .tc := ⟨.hbm, 331, rfl⟩
abbrev main_v257 : Ref sig .tc := ⟨.hbm, 332, rfl⟩
abbrev main_v258 : Ref sig .tc := ⟨.hbm, 333, rfl⟩
abbrev main_v259 : Ref sig .tc := ⟨.hbm, 334, rfl⟩
abbrev main_v260 : Ref sig .tc := ⟨.hbm, 335, rfl⟩
abbrev main_v261 : Ref sig .tc := ⟨.hbm, 336, rfl⟩

abbrev nD : Nat := 1
abbrev τ : Topo := Topo.v7x

variable {F : FTy → Type} [FloatOps F]
-- ==== Kernel2.lean ====
abbrev S18432x128 : Shape := ⟨2, ![18432, 128]⟩
abbrev S2048x1024 : Shape := ⟨2, ![2048, 1024]⟩
abbrev S8x3072 : Shape := ⟨2, ![8, 3072]⟩
abbrev S1x1024 : Shape := ⟨2, ![1, 1024]⟩
abbrev S2048x2048 : Shape := ⟨2, ![2048, 2048]⟩
abbrev S16384x128 : Shape := ⟨2, ![16384, 128]⟩
abbrev S2048x128 : Shape := ⟨2, ![2048, 128]⟩
abbrev S256x1024 : Shape := ⟨2, ![256, 1024]⟩
abbrev S8x1024 : Shape := ⟨2, ![8, 1024]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 21
  | .vmem => 35
  | .smem => 0
  | _ => 0

abbrev bufTy : (tb : Table) → Fin (tcTables nBuf tb) → BufTy
  | .hbm, ⟨0, _⟩ => ⟨S18432x128, .f32⟩
  | .hbm, ⟨1, _⟩ => ⟨S18432x128, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S8x3072, .f32⟩
  | .hbm, ⟨8, _⟩ => ⟨S1x1024, .f32⟩
  | .hbm, ⟨9, _⟩ => ⟨S2048x1024, .f32⟩
  | .hbm, ⟨10, _⟩ => ⟨S2048x1024, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S2048x1024, .f32⟩
  | .hbm, ⟨15, _⟩ => ⟨S2048x2048, .bf16⟩
  | .hbm, ⟨16, _⟩ => ⟨S2048x1024, .bf16⟩
  | .hbm, ⟨17, _⟩ => ⟨S2048x1024, .bf16⟩
  | .hbm, ⟨18, _⟩ => ⟨S2048x1024, .bf16⟩
  | .hbm, ⟨19, _⟩ => ⟨S16384x128, .f32⟩
  | .hbm, ⟨20, _⟩ => ⟨S2048x1024, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S8x1024, .f32⟩
  | .local _ .vmem, ⟨15, _⟩ => ⟨S1x1024, .f32⟩
  | .local _ .vmem, ⟨16, _⟩ => ⟨S2048x1024, .bf16⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S256x1024, .f32⟩
  | .local _ .vmem, ⟨21, _⟩ => ⟨S256x1024, .f32⟩
  | .local _ .vmem, ⟨22, _⟩ => ⟨S256x2048, .bf16⟩
  | .local _ .vmem, ⟨23, _⟩ => ⟨S256x2048, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S2048x128, .f32⟩
  | .local _ .vmem, ⟨31, _⟩ => ⟨S2048x128, .f32⟩
  | .local _ .vmem, ⟨32, _⟩ => ⟨S256x1024, .f32⟩
  | .local _ .vmem, ⟨33, _⟩ => ⟨S256x1024, .f32⟩
  | .local _ .vmem, ⟨34, _⟩ => ⟨S256x1024, .f32⟩
  | _, _ => ⟨S18432x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v1_4 : Ref sig .tc := ⟨.hbm, 15, rfl⟩
abbrev main_v1_5 : Ref sig .tc := ⟨.hbm, 16, rfl⟩
abbrev main_v1_6 : Ref sig .tc := ⟨.hbm, 17, rfl⟩
abbrev main_v1_7 : Ref sig .tc := ⟨.hbm, 18, rfl⟩
abbrev main_v1_8 : Ref sig .tc := ⟨.hbm, 19, rfl⟩
abbrev main_v1_9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2048x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference2Ideal.lean ====
abbrev S18432x128 : Shape := ⟨2, ![18432, 128]⟩
abbrev S2048x1024 : Shape := ⟨2, ![2048, 1024]⟩
abbrev S8x3072 : Shape := ⟨2, ![8, 3072]⟩
abbrev S1x1024 : Shape := ⟨2, ![1, 1024]⟩
abbrev S16384x128 : Shape := ⟨2, ![16384, 128]⟩
abbrev S_ : Shape := ⟨0, ![]⟩
abbrev S2048x2048 : Shape := ⟨2, ![2048, 2048]⟩
abbrev S2048 : Shape := ⟨1, ![2048]⟩
abbrev S2048x1 : Shape := ⟨2, ![2048, 1]⟩
abbrev S1024 : Shape := ⟨1, ![1024]⟩
abbrev S1x1 : Shape := ⟨2, ![1, 1]⟩

abbrev nBuf : Space → Nat
  | .hbm => 142
  | .vmem => 0
  | .smem => 0
  | _ => 0

abbrev hbmTy0_0 (i : Nat) : BufTy := match i % 128 with
  | 0 => ⟨S18432x128, .f32⟩
  | 1 => ⟨S18432x128, .f32⟩
  | 2 => ⟨S2048x1024, .f32⟩
  | 3 => ⟨S2048x1024, .f32⟩
  | 4 => ⟨S2048x1024, .f32⟩
  | 5 => ⟨S2048x1024, .f32⟩
  | 6 => ⟨S2048x1024, .f32⟩
  | 7 => ⟨S8x3072, .f32⟩
  | 8 => ⟨S1x1024, .f32⟩
  | 9 => ⟨S2048x1024, .f32⟩
  | 10 => ⟨S18432x128, .f32⟩
  | 11 => ⟨S16384x128, .f32⟩
  | 12 => ⟨S2048x1024, .f32⟩
  | 13 => ⟨S2048x1024, .f32⟩
  | 14 => ⟨S2048x1024, .f32⟩
  | 15 => ⟨S_, .f32⟩
  | 16 => ⟨S2048x1024, .f32⟩
  | 17 => ⟨S2048x1024, .f32⟩
  | 18 => ⟨S_, .f32⟩
  | 19 => ⟨S2048x1024, .f32⟩
  | 20 => ⟨S2048x1024, .f32⟩
  | 21 => ⟨S_, .f32⟩
  | 22 => ⟨S2048x1024, .f32⟩
  | 23 => ⟨S2048x1024, .f32⟩
  | 24 => ⟨S2048x1024, .f32⟩
  | 25 => ⟨S2048x1024, .f32⟩
  | 26 => ⟨S2048x1024, .f32⟩
  | 27 => ⟨S2048x1024, .f32⟩
  | 28 => ⟨S2048x1024, .f32⟩
  | 29 => ⟨S_, .f32⟩
  | 30 => ⟨S2048x1024, .f32⟩
  | 31 => ⟨S2048x1024, .f32⟩
  | 32 => ⟨S_, .f32⟩
  | 33 => ⟨S2048x1024, .f32⟩
  | 34 => ⟨S2048x1024, .f32⟩
  | 35 => ⟨S_, .f32⟩
  | 36 => ⟨S2048x1024, .f32⟩
  | 37 => ⟨S2048x1024, .f32⟩
  | 38 => ⟨S2048x1024, .f32⟩
  | 39 => ⟨S2048x1024, .f32⟩
  | 40 => ⟨S2048x1024, .f32⟩
  | 41 => ⟨S2048x2048, .f32⟩
  | 42 => ⟨S2048x1024, .f32⟩
  | 43 => ⟨S1x1024, .f32⟩
  | 44 => ⟨S2048x1024, .f32⟩
  | 45 => ⟨S2048x1024, .f32⟩
  | 46 => ⟨S2048x1024, .f32⟩
  | 47 => ⟨S2048x1024, .f32⟩
  | 48 => ⟨S_, .f32⟩
  | 49 => ⟨S2048, .f32⟩
  | 50 => ⟨S2048x1, .f32⟩
  | 51 => ⟨S_, .f32⟩
  | 52 => ⟨S2048x1, .f32⟩
  | 53 => ⟨S2048x1, .f32⟩
  | 54 => ⟨S_, .f32⟩
  | 55 => ⟨S2048x1, .f32⟩
  | 56 => ⟨S2048x1, .f32⟩
  | 57 => ⟨S2048x1, .f32⟩
  | 58 => ⟨S2048x1, .f32⟩
  | 59 => ⟨S_, .f32⟩
  | 60 => ⟨S2048x1, .f32⟩
  | 61 => ⟨S2048x1, .f32⟩
  | 62 => ⟨S2048x1024, .f32⟩
  | 63 => ⟨S2048x1024, .f32⟩
  | 64 => ⟨S2048x1024, .f32⟩
  | 65 => ⟨S2048x1024, .f32⟩
  | 66 => ⟨S2048x1024, .f32⟩
  | 67 => ⟨S2048x1024, .f32⟩
  | 68 => ⟨S_, .f32⟩
  | 69 => ⟨S2048x1024, .f32⟩
  | 70 => ⟨S2048x1024, .f32⟩
  | 71 => ⟨S_, .f32⟩
  | 72 => ⟨S2048, .f32⟩
  | 73 => ⟨S_, .f32⟩
  | 74 => ⟨S2048, .f32⟩
  | 75 => ⟨S2048, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S2048, .f32⟩
  | 84 => ⟨S_, .f32⟩
  | 85 => ⟨S2048, .f32⟩
  | 86 => ⟨S2048, .f32⟩
  | 87 => ⟨S2048x1024, .f32⟩
  | 88 => ⟨S2048x1024, .f32⟩
  | 89 => ⟨S2048x1024, .f32⟩
  | 90 => ⟨S_, .f32⟩
  | 91 => ⟨S1024, .f32⟩
  | 92 => ⟨S1x1024, .f32⟩
  | 93 => ⟨S2048x1024, .f32⟩
  | 94 => ⟨S2048x1024, .f32⟩
  | 95 => ⟨S2048x1024, .f32⟩
  | 96 => ⟨S_, .f32⟩
  | 97 => ⟨S2048, .f32⟩
  | 98 => ⟨S2048x1, .f32⟩
  | 99 => ⟨S2048x1024, .f32⟩
  | 100 => ⟨S2048x1024, .f32⟩
  | 101 => ⟨S2048x1, .f32⟩
  | 102 => ⟨S_, .f32⟩
  | 103 => ⟨S2048x1, .f32⟩
  | 104 => ⟨S2048x1, .f32⟩
  | 105 => ⟨S_, .f32⟩
  | 106 => ⟨S2048, .f32⟩
  | 107 => ⟨S2048x1024, .f32⟩
  | 108 => ⟨S2048x1024, .f32⟩
  | 109 => ⟨S2048x1024, .f32⟩
  | 110 => ⟨S2048x1024, .f32⟩
  | 111 => ⟨S2048x1024, .f32⟩
  | 112 => ⟨S2048x1024, .f32⟩
  | 113 => ⟨S2048x1024, .f32⟩
  | 114 => ⟨S2048x1024, .f32⟩
  | 115 => ⟨S_, .f32⟩
  | 116 => ⟨S1024, .f32⟩
  | 117 => ⟨S1x1024, .f32⟩
  | 118 => ⟨S2048x2048, .f32⟩
  | 119 => ⟨S2048x1024, .f32⟩
  | 120 => ⟨S2048x1024, .f32⟩
  | 121 => ⟨S2048x1024, .f32⟩
  | 122 => ⟨S2048x1024, .f32⟩
  | 123 => ⟨S2048x1024, .f32⟩
  | 124 => ⟨S2048x1024, .f32⟩
  | 125 => ⟨S2048x1024, .f32⟩
  | 126 => ⟨S2048x1024, .f32⟩
  | 127 => ⟨S2048x1024, .f32⟩
  | _ => ⟨S18432x128, .f32⟩

abbrev hbmTy0_1 (i : Nat) : BufTy := match i % 128 with
  | 0 => ⟨S2048x1024, .f32⟩
  | 1 => ⟨S2048x1024, .f32⟩
  | 2 => ⟨S2048x1024, .f32⟩
  | 3 => ⟨S2048x1024, .f32⟩
  | 4 => ⟨S2048x1024, .f32⟩
  | 5 => ⟨S1x1, .f32⟩
  | 6 => ⟨S_, .i32⟩
  | 7 => ⟨S_, .f32⟩
  | 8 => ⟨S1x1024, .f32⟩
  | 9 => ⟨S2048x2048, .bf16⟩
  | 10 => ⟨S2048x1024, .bf16⟩
  | 11 => ⟨S2048x1024, .bf16⟩
  | 12 => ⟨S2048x1024, .bf16⟩
  | 13 => ⟨S16384x128, .f32⟩
  | _ => ⟨S18432x128, .f32⟩

abbrev hbmTy (i : Nat) : BufTy := match i / 128 with
  | 0 => hbmTy0_0 i
  | 1 => hbmTy0_1 i
  | _ => ⟨S18432x128, .f32⟩

abbrev bufTy : (tb : Table) → Fin (tcTables nBuf tb) → BufTy
  | .hbm, ⟨i, _⟩ => hbmTy i
  | _, _ => ⟨S18432x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_v3_2 : Ref sig .tc := ⟨.hbm, 20, rfl⟩
abbrev main_call0_cst_1 : Ref sig .tc := ⟨.hbm, 21, rfl⟩
abbrev main_call0_v6 : Ref sig .tc := ⟨.hbm, 22, rfl⟩
abbrev main_call0_v7 : Ref sig .tc := ⟨.hbm, 23, rfl⟩
abbrev main_v3_1 : Ref sig .tc := ⟨.hbm, 24, rfl⟩
abbrev main_v3_0 : Ref sig .tc := ⟨.hbm, 25, rfl⟩
abbrev main_v4 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_v5_2 : Ref sig .tc := ⟨.hbm, 34, rfl⟩
abbrev main_call1_cst_1 : Ref sig .tc := ⟨.hbm, 35, rfl⟩
abbrev main_call1_v6 : Ref sig .tc := ⟨.hbm, 36, rfl⟩
abbrev main_call1_v7 : Ref sig .tc := ⟨.hbm, 37, rfl⟩
abbrev main_v5_1 : Ref sig .tc := ⟨.hbm, 38, rfl⟩
abbrev main_v5_0 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_cst : Ref sig .tc := ⟨.hbm, 48, rfl⟩
abbrev main_v14 : Ref sig .tc := ⟨.hbm, 49, rfl⟩
abbrev main_v15 : Ref sig .tc := ⟨.hbm, 50, rfl⟩
abbrev main_cst_0 : Ref sig .tc := ⟨.hbm, 51, rfl⟩
abbrev main_v16 : Ref sig .tc := ⟨.hbm, 52, rfl⟩
abbrev main_v17 : Ref sig .tc := ⟨.hbm, 53, rfl⟩
abbrev main_cst_1 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_cst_2 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_cst_3 : Ref sig .tc := ⟨.hbm, 68, rfl⟩
abbrev main_v30 : Ref sig .tc := ⟨.hbm, 69, rfl⟩
abbrev main_v31 : Ref sig .tc := ⟨.hbm, 70, rfl⟩
abbrev main_cst_4 : Ref sig .tc := ⟨.hbm, 71, rfl⟩
abbrev main_v32 : Ref sig .tc := ⟨.hbm, 72, rfl⟩
abbrev main_cst_5 : Ref sig .tc := ⟨.hbm, 73, rfl⟩
abbrev main_v33 : Ref sig .tc := ⟨.hbm, 74, rfl⟩
abbrev main_v34 : Ref sig .tc := ⟨.hbm, 75, rfl⟩
abbrev main_cst_6 : Ref sig .tc := ⟨.hbm, 76, rfl⟩
abbrev main_v35 : Ref sig .tc := ⟨.hbm, 77, rfl⟩
abbrev main_cst_7 : Ref sig .tc := ⟨.hbm, 78, rfl⟩
abbrev main_v36 : Ref sig .tc := ⟨.hbm, 79, rfl⟩
abbrev main_cst_8 : Ref sig .tc := ⟨.hbm, 80, rfl⟩
abbrev main_cst_9 : Ref sig .tc := ⟨.hbm, 81, rfl⟩
abbrev main_v37 : Ref sig .tc := ⟨.hbm, 82, rfl⟩
abbrev main_v38 : Ref sig .tc := ⟨.hbm, 83, rfl⟩
abbrev main_cst_10 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_cst_11 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_cst_12 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_cst_13 : Ref sig .tc := ⟨.hbm, 102, rfl⟩
abbrev main_v54 : Ref sig .tc := ⟨.hbm, 103, rfl⟩
abbrev main_v55 : Ref sig .tc := ⟨.hbm, 104, rfl⟩
abbrev main_cst_14 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_cst_15 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_call2_v0 : Ref sig .tc := ⟨.hbm, 123, rfl⟩
abbrev main_call2_v1 : Ref sig .tc := ⟨.hbm, 124, rfl⟩
abbrev main_call2_v2 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_v75 : Ref sig .tc := ⟨.hbm, 132, rfl⟩
abbrev main_v76 : Ref sig .tc := ⟨.hbm, 133, rfl⟩
abbrev main_c : Ref sig .tc := ⟨.hbm, 134, rfl⟩
abbrev main_call4_v0 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩

abbrev nD : Nat := 1
abbrev τ : Topo := Topo.v7x

variable {F : FTy → Type} [FloatOps F]
-- ==== Kernel3.lean ====
abbrev S1024x1280 : Shape := ⟨2, ![1024, 1280]⟩
abbrev S256x1280 : Shape := ⟨2, ![256, 1280]⟩

abbrev nBuf : Space → Nat
  | .hbm => 7
  | .vmem => 14
  | .smem => 0
  | _ => 0

abbrev bufTy : (tb : Table) → Fin (tcTables nBuf tb) → BufTy
  | .hbm, ⟨0, _⟩ => ⟨S1024x1280, .f32⟩
  | .hbm, ⟨1, _⟩ => ⟨S1024x1280, .f32⟩
  | .hbm, ⟨2, _⟩ => ⟨S1024x1280, .f32⟩
  | .hbm, ⟨3, _⟩ => ⟨S1024x1280, .f32⟩
  | .hbm, ⟨4, _⟩ => ⟨S1024x1280, .f32⟩
  | .hbm, ⟨5, _⟩ => ⟨S1024x1280, .f32⟩
  | .hbm, ⟨6, _⟩ => ⟨S1024x1280, .f32⟩
  | .local _ .vmem, ⟨0, _⟩ => ⟨S256x1280, .f32⟩
  | .local _ .vmem, ⟨1, _⟩ => ⟨S256x1280, .f32⟩
  | .local _ .vmem, ⟨2, _⟩ => ⟨S256x1280, .f32⟩
  | .local _ .vmem, ⟨3, _⟩ => ⟨S256x1280, .f32⟩
  | .local _ .vmem, ⟨4, _⟩ => ⟨S256x1280, .f32⟩
  | .local _ .vmem, ⟨5, _⟩ => ⟨S256x1280, .f32⟩
  | .local _ .vmem, ⟨6, _⟩ => ⟨S256x1280, .f32⟩
  | .local _ .vmem, ⟨7, _⟩ => ⟨S256x1280, .f32⟩
  | .local _ .vmem, ⟨8, _⟩ => ⟨S256x1280, .f32⟩
  | .local _ .vmem, ⟨9, _⟩ => ⟨S256x1280, .f32⟩
  | .local _ .vmem, ⟨10, _⟩ => ⟨S256x1280, .f32⟩
  | .local _ .vmem, ⟨11, _⟩ => ⟨S256x1280, .f32⟩
  | .local _ .vmem, ⟨12, _⟩ => ⟨S256x1280, .f32⟩
  | .local _ .vmem, ⟨13, _⟩ => ⟨S256x1280, .f32⟩
  | _, _ => ⟨S1024x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S1024x1280 : Shape := ⟨2, ![1024, 1280]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1280, .f32⟩
  | .hbm, ⟨1, _⟩ => ⟨S1024x1280, .f32⟩
  | .hbm, ⟨2, _⟩ => ⟨S1024x1280, .f32⟩
  | .hbm, ⟨3, _⟩ => ⟨S1024x1280, .f32⟩
  | .hbm, ⟨4, _⟩ => ⟨S_, .f32⟩
  | .hbm, ⟨5, _⟩ => ⟨S1024x1280, .f32⟩
  | .hbm, ⟨6, _⟩ => ⟨S1024x1280, .f32⟩
  | .hbm, ⟨7, _⟩ => ⟨S_, .f32⟩
  | .hbm, ⟨8, _⟩ => ⟨S1024x1280, .f32⟩
  | .hbm, ⟨9, _⟩ => ⟨S1024x1280, .f32⟩
  | .hbm, ⟨10, _⟩ => ⟨S1024x1280, .f32⟩
  | .hbm, ⟨11, _⟩ => ⟨S_, .f32⟩
  | .hbm, ⟨12, _⟩ => ⟨S1024x1280, .f32⟩
  | .hbm, ⟨13, _⟩ => ⟨S1024x1280, .f32⟩
  | .hbm, ⟨14, _⟩ => ⟨S1024x1280, .f32⟩
  | .hbm, ⟨15, _⟩ => ⟨S_, .f32⟩
  | .hbm, ⟨16, _⟩ => ⟨S1024x1280, .f32⟩
  | .hbm, ⟨17, _⟩ => ⟨S1024x1280, .f32⟩
  | .hbm, ⟨18, _⟩ => ⟨S1024x1280, .f32⟩
  | .hbm, ⟨19, _⟩ => ⟨S_, .f32⟩
  | .hbm, ⟨20, _⟩ => ⟨S1024x1280, .f32⟩
  | .hbm, ⟨21, _⟩ => ⟨S1024x1280, .f32⟩
  | .hbm, ⟨22, _⟩ => ⟨S_, .f32⟩
  | .hbm, ⟨23, _⟩ => ⟨S1024x1280, .f32⟩
  | .hbm, ⟨24, _⟩ => ⟨S1024x1280, .f32⟩
  | .hbm, ⟨25, _⟩ => ⟨S1024x1280, .f32⟩
  | .hbm, ⟨26, _⟩ => ⟨S_, .f32⟩
  | .hbm, ⟨27, _⟩ => ⟨S1024x1280, .f32⟩
  | .hbm, ⟨28, _⟩ => ⟨S1024x1280, .f32⟩
  | .hbm, ⟨29, _⟩ => ⟨S1024x1280, .f32⟩
  | .hbm, ⟨30, _⟩ => ⟨S_, .f32⟩
  | .hbm, ⟨31, _⟩ => ⟨S1024x1280, .f32⟩
  | .hbm, ⟨32, _⟩ => ⟨S1024x1280, .f32⟩
  | .hbm, ⟨33, _⟩ => ⟨S1024x1280, .f32⟩
  | .hbm, ⟨34, _⟩ => ⟨S_, .f32⟩
  | .hbm, ⟨35, _⟩ => ⟨S1024x1280, .f32⟩
  | .hbm, ⟨36, _⟩ => ⟨S1024x1280, .f32⟩
  | _, _ => ⟨S1024x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel4.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel5.lean ====
abbrev S1024x768 : Shape := ⟨2, ![1024, 768]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S1024x768 : Shape := ⟨2, ![1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S1024x768, .f32⟩
  | .hbm, ⟨26, _⟩ => ⟨S_, .f32⟩
  | .hbm, ⟨27, _⟩ => ⟨S1024x768, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel6.lean ====
abbrev S2048x1024 : Shape := ⟨2, ![2048, 1024]⟩
abbrev S256x1024 : Shape := ⟨2, ![256, 1024]⟩
abbrev S1x3072 : Shape := ⟨2, ![1, 3072]⟩
abbrev S1x1024 : Shape := ⟨2, ![1, 1024]⟩
abbrev S1024x5120 : Shape := ⟨2, ![1024, 5120]⟩
abbrev S8x128x128 : Shape := ⟨3, ![8, 128, 128]⟩
abbrev S8x128 : Shape := ⟨2, ![8, 128]⟩
abbrev S_ : Shape := ⟨0, ![]⟩
abbrev S6x3072 : Shape := ⟨2, ![6, 3072]⟩
abbrev S8x3072 : Shape := ⟨2, ![8, 3072]⟩
abbrev S128x8 : Shape := ⟨2, ![128, 8]⟩
abbrev S2304x1024 : Shape := ⟨2, ![2304, 1024]⟩
abbrev S8x1024 : Shape := ⟨2, ![8, 1024]⟩
abbrev S1024x1024 : Shape := ⟨2, ![1024, 1024]⟩
abbrev S128x1024 : Shape := ⟨2, ![128, 1024]⟩
abbrev S256 : Shape := ⟨1, ![256]⟩
abbrev S256x1 : Shape := ⟨2, ![256, 1]⟩
abbrev S128 : Shape := ⟨1, ![128]⟩
abbrev S128x1 : Shape := ⟨2, ![128, 1]⟩
abbrev S1x128x128 : Shape := ⟨3, ![1, 128, 128]⟩
abbrev S128x128 : Shape := ⟨2, ![128, 128]⟩

abbrev nBuf : Space → Nat
  | .hbm => 24
  | .vmem => 30
  | .smem => 0
  | _ => 0

abbrev bufTy : (tb : Table) → Fin (tcTables nBuf tb) → BufTy
  | .hbm, ⟨0, _⟩ => ⟨S2048x1024, .f32⟩
  | .hbm, ⟨1, _⟩ => ⟨S256x1024, .f32⟩
  | .hbm, ⟨2, _⟩ => ⟨S1x3072, .f32⟩
  | .hbm, ⟨3, _⟩ => ⟨S1x3072, .f32⟩
  | .hbm, ⟨4, _⟩ => ⟨S1x1024, .f32⟩
  | .hbm, ⟨5, _⟩ => ⟨S1024x5120, .f32⟩
  | .hbm, ⟨6, _⟩ => ⟨S1x1024, .f32⟩
  | .hbm, ⟨7, _⟩ => ⟨S1x1024, .f32⟩
  | .hbm, ⟨8, _⟩ => ⟨S8x128x128, .f32⟩
  | .hbm, ⟨9, _⟩ => ⟨S8x128, .f32⟩
  | .hbm, ⟨10, _⟩ => ⟨S8x128, .f32⟩
  | .hbm, ⟨11, _⟩ => ⟨S_, .f32⟩
  | .hbm, ⟨12, _⟩ => ⟨S6x3072, .f32⟩
  | .hbm, ⟨13, _⟩ => ⟨S8x3072, .f32⟩
  | .hbm, ⟨14, _⟩ => ⟨S1024x5120, .bf16⟩
  | .hbm, ⟨15, _⟩ => ⟨S8x128x128, .bf16⟩
  | .hbm, ⟨16, _⟩ => ⟨S128x8, .f32⟩
  | .hbm, ⟨17, _⟩ => ⟨S2304x1024, .bf16⟩
  | .hbm, ⟨18, _⟩ => ⟨S2304x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S8x1024, .f32⟩
  | .local _ .vmem, ⟨4, _⟩ => ⟨S8x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S8x128x128, .bf16⟩
  | .local _ .vmem, ⟨14, _⟩ => ⟨S128x8, .f32⟩
  | .local _ .vmem, ⟨15, _⟩ => ⟨S256x1024, .bf16⟩
  | .local _ .vmem, ⟨16, _⟩ => ⟨S256x1024, .bf16⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S128x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v5_3 : Ref sig .tc := ⟨.hbm, 20, rfl⟩
abbrev main_v5_4 : Ref sig .tc := ⟨.hbm, 21, rfl⟩
abbrev main_v5_5 : Ref sig .tc := ⟨.hbm, 22, rfl⟩
abbrev main_v5_6 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c0_i32_22 : BitVec 32 := 0#32
  let v39 : BitVec 1 := Scalar.cmpi .sgt arg0 c0_i32_22
  let v40 : BitVec 32 := Scalar.extui v39
  let c0_i32_23 : BitVec 32 := 0#32
  let v41 : BitVec 1 := Scalar.cmpi .ne v40 c0_i32_23
  v41

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_7 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_8 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_9 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_18 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_19 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_20 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_21 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Kernel6Ideal.lean ====
variable {F : FTy → Type} [FloatOps F] [Named F]
def κ : String → Option EReal := fun
  | "gelu_kc" => some ((80338380498831 / 2251799813685248 : ℝ) : EReal)
  | _ => none
-- ==== Reference6Ideal.lean ====
abbrev S2048x1024 : Shape := ⟨2, ![2048, 1024]⟩
abbrev S256x1024 : Shape := ⟨2, ![256, 1024]⟩
abbrev S1x3072 : Shape := ⟨2, ![1, 3072]⟩
abbrev S1x1024 : Shape := ⟨2, ![1, 1024]⟩
abbrev S1024x5120 : Shape := ⟨2, ![1024, 5120]⟩
abbrev S8x128x128 : Shape := ⟨3, ![8, 128, 128]⟩
abbrev S8x128 : Shape := ⟨2, ![8, 128]⟩
abbrev S_ : Shape := ⟨0, ![]⟩
abbrev S2048 : Shape := ⟨1, ![2048]⟩
abbrev S2048x1 : Shape := ⟨2, ![2048, 1]⟩
abbrev S256 : Shape := ⟨1, ![256]⟩
abbrev S256x1 : Shape := ⟨2, ![256, 1]⟩
abbrev S2048x5120 : Shape := ⟨2, ![2048, 5120]⟩
abbrev S2304x1024 : Shape := ⟨2, ![2304, 1024]⟩
abbrev S1024x1024 : Shape := ⟨2, ![1024, 1024]⟩
abbrev S16x128x8x128 : Shape := ⟨4, ![16, 128, 8, 128]⟩
abbrev S8x16x128x128 : Shape := ⟨4, ![8, 16, 128, 128]⟩
abbrev S128x8 : Shape := ⟨2, ![128, 8]⟩
abbrev S1x128x8x1 : Shape := ⟨4, ![1, 128, 8, 1]⟩

abbrev nBuf : Space → Nat
  | .hbm => 142
  | .vmem => 0
  | .smem => 0
  | _ => 0

abbrev hbmTy0_0 (i : Nat) : BufTy := match i % 128 with
  | 0 => ⟨S2048x1024, .f32⟩
  | 1 => ⟨S256x1024, .f32⟩
  | 2 => ⟨S1x3072, .f32⟩
  | 3 => ⟨S1x3072, .f32⟩
  | 4 => ⟨S1x1024, .f32⟩
  | 5 => ⟨S1024x5120, .f32⟩
  | 6 => ⟨S1x1024, .f32⟩
  | 7 => ⟨S1x1024, .f32⟩
  | 8 => ⟨S8x128x128, .f32⟩
  | 9 => ⟨S8x128, .f32⟩
  | 10 => ⟨S8x128, .f32⟩
  | 11 => ⟨S1x1024, .f32⟩
  | 12 => ⟨S1x1024, .f32⟩
  | 13 => ⟨S1x1024, .f32⟩
  | 14 => ⟨S1x1024, .f32⟩
  | 15 => ⟨S1x1024, .f32⟩
  | 16 => ⟨S1x1024, .f32⟩
  | 17 => ⟨S2048x1024, .f32⟩
  | 18 => ⟨S_, .f32⟩
  | 19 => ⟨S2048, .f32⟩
  | 20 => ⟨S2048x1, .f32⟩
  | 21 => ⟨S_, .f32⟩
  | 22 => ⟨S2048x1, .f32⟩
  | 23 => ⟨S2048x1, .f32⟩
  | 24 => ⟨S_, .f32⟩
  | 25 => ⟨S2048x1, .f32⟩
  | 26 => ⟨S2048x1, .f32⟩
  | 27 => ⟨S2048x1, .f32⟩
  | 28 => ⟨S2048x1024, .f32⟩
  | 29 => ⟨S2048x1024, .f32⟩
  | 30 => ⟨S2048x1024, .f32⟩
  | 31 => ⟨S2048x1024, .f32⟩
  | 32 => ⟨S_, .f32⟩
  | 33 => ⟨S1x1024, .f32⟩
  | 34 => ⟨S1x1024, .f32⟩
  | 35 => ⟨S2048x1024, .f32⟩
  | 36 => ⟨S2048x1024, .f32⟩
  | 37 => ⟨S2048x1024, .f32⟩
  | 38 => ⟨S2048x1024, .f32⟩
  | 39 => ⟨S256x1024, .f32⟩
  | 40 => ⟨S_, .f32⟩
  | 41 => ⟨S256, .f32⟩
  | 42 => ⟨S256x1, .f32⟩
  | 43 => ⟨S_, .f32⟩
  | 44 => ⟨S256x1, .f32⟩
  | 45 => ⟨S256x1, .f32⟩
  | 46 => ⟨S_, .f32⟩
  | 47 => ⟨S256x1, .f32⟩
  | 48 => ⟨S256x1, .f32⟩
  | 49 => ⟨S256x1, .f32⟩
  | 50 => ⟨S256x1024, .f32⟩
  | 51 => ⟨S256x1024, .f32⟩
  | 52 => ⟨S256x1024, .f32⟩
  | 53 => ⟨S256x1024, .f32⟩
  | 54 => ⟨S_, .f32⟩
  | 55 => ⟨S1x1024, .f32⟩
  | 56 => ⟨S1x1024, .f32⟩
  | 57 => ⟨S256x1024, .f32⟩
  | 58 => ⟨S256x1024, .f32⟩
  | 59 => ⟨S256x1024, .f32⟩
  | 60 => ⟨S256x1024, .f32⟩
  | 61 => ⟨S2048x5120, .f32⟩
  | 62 => ⟨S2048x1024, .f32⟩
  | 63 => ⟨S2048x1024, .f32⟩
  | 64 => ⟨S2304x1024, .f32⟩
  | 65 => ⟨S2304x1024, .bf16⟩
  | 66 => ⟨S1024x1024, .f32⟩
  | 67 => ⟨S256x1024, .f32⟩
  | 68 => ⟨S2048x1024, .f32⟩
  | 69 => ⟨S2304x1024, .f32⟩
  | 70 => ⟨S2048x1024, .f32⟩
  | 71 => ⟨S2048x1024, .f32⟩
  | 72 => ⟨S2048x1024, .f32⟩
  | 73 => ⟨S2048x1024, .f32⟩
  | 74 => ⟨S_, .f32⟩
  | 75 => ⟨S2048x1024, .f32⟩
  | 76 => ⟨S2048x1024, .f32⟩
  | 77 => ⟨S2048x1024, .f32⟩
  | 78 => ⟨S_, .f32⟩
  | 79 => ⟨S2048x1024, .f32⟩
  | 80 => ⟨S2048x1024, .f32⟩
  | 81 => ⟨S2048x1024, .f32⟩
  | 82 => ⟨S_, .f32⟩
  | 83 => ⟨S2048x1024, .f32⟩
  | 84 => ⟨S2048x1024, .f32⟩
  | 85 => ⟨S_, .f32⟩
  | 86 => ⟨S2048x1024, .f32⟩
  | 87 => ⟨S2048x1024, .f32⟩
  | 88 => ⟨S2048x1024, .f32⟩
  | 89 => ⟨S2048x1024, .f32⟩
  | 90 => ⟨S2048x1024, .f32⟩
  | 91 => ⟨S_, .f32⟩
  | 92 => ⟨S2048x1024, .f32⟩
  | 93 => ⟨S2048x1024, .f32⟩
  | 94 => ⟨S2048x1024, .f32⟩
  | 95 => ⟨S_, .f32⟩
  | 96 => ⟨S2048x1024, .f32⟩
  | 97 => ⟨S2048x1024, .f32⟩
  | 98 => ⟨S2048x1024, .f32⟩
  | 99 => ⟨S_, .f32⟩
  | 100 => ⟨S2048x1024, .f32⟩
  | 101 => ⟨S2048x1024, .f32⟩
  | 102 => ⟨S_, .f32⟩
  | 103 => ⟨S2048x1024, .f32⟩
  | 104 => ⟨S2048x1024, .f32⟩
  | 105 => ⟨S2048x1024, .f32⟩
  | 106 => ⟨S_, .f32⟩
  | 107 => ⟨S2048, .f32⟩
  | 108 => ⟨S2048x1, .f32⟩
  | 109 => ⟨S_, .f32⟩
  | 110 => ⟨S2048x1, .f32⟩
  | 111 => ⟨S2048x1, .f32⟩
  | 112 => ⟨S2048x1024, .f32⟩
  | 113 => ⟨S2048x1024, .f32⟩
  | 114 => ⟨S2048x1024, .f32⟩
  | 115 => ⟨S_, .f32⟩
  | 116 => ⟨S2048, .f32⟩
  | 117 => ⟨S2048x1, .f32⟩
  | 118 => ⟨S_, .f32⟩
  | 119 => ⟨S2048x1, .f32⟩
  | 120 => ⟨S2048x1, .f32⟩
  | 121 => ⟨S2048x1024, .f32⟩
  | 122 => ⟨S2048x1024, .f32⟩
  | 123 => ⟨S_, .f32⟩
  | 124 => ⟨S2048x1, .f32⟩
  | 125 => ⟨S2048x1, .f32⟩
  | 126 => ⟨S2048x1, .f32⟩
  | 127 => ⟨S2048x1024, .f32⟩
  | _ => ⟨S2048x1024, .f32⟩

abbrev hbmTy0_1 (i : Nat) : BufTy := match i % 128 with
  | 0 => ⟨S2048x1024, .f32⟩
  | 1 => ⟨S2048x1024, .f32⟩
  | 2 => ⟨S2048x1024, .f32⟩
  | 3 => ⟨S2048x1024, .f32⟩
  | 4 => ⟨S2048x1024, .f32⟩
  | 5 => ⟨S16x128x8x128, .f32⟩
  | 6 => ⟨S8x16x128x128, .f32⟩
  | 7 => ⟨S16x128x8x128, .f32⟩
  | 8 => ⟨S128x8, .f32⟩
  | 9 => ⟨S1x128x8x1, .f32⟩
  | 10 => ⟨S16x128x8x128, .f32⟩
  | 11 => ⟨S16x128x8x128, .f32⟩
  | 12 => ⟨S2048x1024, .f32⟩
  | 13 => ⟨S2048x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_7 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_8 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_9 : Ref sig .tc := ⟨.hbm, 82, rfl⟩
abbrev main_v61 : Ref sig .tc := ⟨.hbm, 83, rfl⟩
abbrev main_v62 : Ref sig .tc := ⟨.hbm, 84, rfl⟩
abbrev main_cst_10 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_11 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_12 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_13 : Ref sig .tc := ⟨.hbm, 99, rfl⟩
abbrev main_v74 : Ref sig .tc := ⟨.hbm, 100, rfl⟩
abbrev main_v75 : Ref sig .tc := ⟨.hbm, 101, rfl⟩
abbrev main_cst_14 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_15 : Ref sig .tc := ⟨.hbm, 106, rfl⟩
abbrev main_v79 : Ref sig .tc := ⟨.hbm, 107, rfl⟩
abbrev main_v80 : Ref sig .tc := ⟨.hbm, 108, rfl⟩
abbrev main_cst_16 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_17 : Ref sig .tc := ⟨.hbm, 115, rfl⟩
abbrev main_v86 : Ref sig .tc := ⟨.hbm, 116, rfl⟩
abbrev main_v87 : Ref sig .tc := ⟨.hbm, 117, rfl⟩
abbrev main_cst_18 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_19 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩

abbrev nD : Nat := 1
abbrev τ : Topo := Topo.v7x

variable {F : FTy → Type} [FloatOps F]
-- ==== Proof.Bufs.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Tactic
public import Idealize.ShloMosaic.Lib.WordCmp

/-! The buffers one grid point of the kernel works on and the contents they hold, in records. -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The staging buffers of the windows 0 to 31 and the two scratch buffers, each whole. -/
structure Refs where
  a1 : Memref sig .tc .vmem S256x1024 .bf16
  h1 : a1.IsWhole
  a2 : Memref sig .tc .vmem S256x1024 .bf16
  h2 : a2.IsWhole
  a3 : Memref sig .tc .vmem S256x1024 .bf16
  h3 : a3.IsWhole
  a4 : Memref sig .tc .vmem S1024x1024 .bf16
  h4 : a4.IsWhole
  a5 : Memref sig .tc .vmem S1024x1024 .bf16
  h5 : a5.IsWhole
  a6 : Memref sig .tc .vmem S1024x1024 .bf16
  h6 : a6.IsWhole
  a7 : Memref sig .tc .vmem S1024x1024 .bf16
  h7 : a7.IsWhole
  a8 : Memref sig .tc .vmem S1024x1024 .bf16
  h8 : a8.IsWhole
  a9 : Memref sig .tc .vmem S256x1024 .f32
  h9 : a9.IsWhole
  a10 : Memref sig .tc .vmem S256x1024 .f32
  h10 : a10.IsWhole
  a11 : Memref sig .tc .vmem S8x1024 .f32
  h11 : a11.IsWhole
  a12 : Memref sig .tc .vmem S1x1024 .f32
  h12 : a12.IsWhole
  a13 : Memref sig .tc .vmem S256x1024 .f32
  h13 : a13.IsWhole
  a14 : Memref sig .tc .vmem S256x1024 .f32
  h14 : a14.IsWhole
  a15 : Memref sig .tc .vmem S256x1024 .f32
  h15 : a15.IsWhole
  a16 : Memref sig .tc .vmem S256x1024 .f32
  h16 : a16.IsWhole
  a17 : Memref sig .tc .vmem S1x1024 .f32
  h17 : a17.IsWhole
  a18 : Memref sig .tc .vmem S1x1024 .f32
  h18 : a18.IsWhole
  a19 : Memref sig .tc .vmem S8x128x128 .bf16
  h19 : a19.IsWhole
  a20 : Memref sig .tc .vmem S128x8 .f32
  h20 : a20.IsWhole
  a21 : Memref sig .tc .vmem S256x1024 .f32
  h21 : a21.IsWhole
  a22 : Memref sig .tc .vmem S1x1024 .f32
  h22 : a22.IsWhole
  a23 : Memref sig .tc .vmem S1x1024 .f32
  h23 : a23.IsWhole
  a24 : Memref sig .tc .vmem S1x1024 .f32
  h24 : a24.IsWhole
  a25 : Memref sig .tc .vmem S1x1024 .f32
  h25 : a25.IsWhole
  a26 : Memref sig .tc .vmem S1x1024 .f32
  h26 : a26.IsWhole
  a27 : Memref sig .tc .vmem S256x1024 .bf16
  h27 : a27.IsWhole
  a28 : Memref sig .tc .vmem S256x1024 .bf16
  h28 : a28.IsWhole
  a29 : Memref sig .tc .vmem S8x128x128 .f32
  h29 : a29.IsWhole
  a30 : Memref sig .tc .vmem S8x128 .f32
  h30 : a30.IsWhole
  a31 : Memref sig .tc .vmem S1x1024 .f32
  h31 : a31.IsWhole
  a32 : Memref sig .tc .vmem S1x1024 .f32
  h32 : a32.IsWhole
  a33 : Memref sig .tc .vmem S128x1024 .f32
  h33 : a33.IsWhole
  a34 : Memref sig .tc .vmem S128x1024 .f32
  h34 : a34.IsWhole

/-- The blocks of the twenty inputs at one point. -/
structure Ins (F : FTy → Type) [FloatOps F] where
  x0 : Vec F S256x1024 .bf16
  x1 : Vec F S256x1024 .bf16
  x2 : Vec F S256x1024 .bf16
  x3 : Vec F S1024x1024 .bf16
  x4 : Vec F S1024x1024 .bf16
  x5 : Vec F S1024x1024 .bf16
  x6 : Vec F S1024x1024 .bf16
  x7 : Vec F S1024x1024 .bf16
  x8 : Vec F S256x1024 .f32
  x9 : Vec F S256x1024 .f32
  x10 : Vec F S8x1024 .f32
  x11 : Vec F S1x1024 .f32
  x12 : Vec F S256x1024 .f32
  x13 : Vec F S256x1024 .f32
  x14 : Vec F S256x1024 .f32
  x15 : Vec F S256x1024 .f32
  x16 : Vec F S1x1024 .f32
  x17 : Vec F S1x1024 .f32
  x18 : Vec F S8x128x128 .bf16
  x19 : Vec F S128x8 .f32

/-- The running contents of the nine accumulated outputs. -/
structure Acc (F : FTy → Type) [FloatOps F] where
  o21 : Vec F S1x1024 .f32
  o22 : Vec F S1x1024 .f32
  o23 : Vec F S1x1024 .f32
  o24 : Vec F S1x1024 .f32
  o25 : Vec F S1x1024 .f32
  o28 : Vec F S8x128x128 .f32
  o29 : Vec F S8x128 .f32
  o30 : Vec F S1x1024 .f32
  o31 : Vec F S1x1024 .f32

/-- The blocks of the three outputs that every point of the first operand's rows writes. -/
structure Til (F : FTy → Type) [FloatOps F] where
  o20 : Vec F S256x1024 .f32
  o26 : Vec F S256x1024 .bf16
  o27 : Vec F S256x1024 .bf16

/-- The body on a record of buffers. -/
abbrev bodyOn (i : grid0.Coords) (R : Refs) : Prog (TpuEff nD τ sig (Elt F) Λ₀ .tc) PUnit :=
  cc0_proj_bwd i R.a1 R.h1 R.a2 R.h2 R.a3 R.h3 R.a4 R.h4 R.a5 R.h5 R.a6 R.h6 R.a7 R.h7 R.a8 R.h8 R.a9 R.h9
  R.a10 R.h10 R.a11 R.h11 R.a12 R.h12 R.a13 R.h13 R.a14 R.h14 R.a15 R.h15 R.a16 R.h16 R.a17 R.h17
  R.a18 R.h18 R.a19 R.h19 R.a20 R.h20 R.a21 R.h21 R.a22 R.h22 R.a23 R.h23 R.a24 R.h24 R.a25 R.h25
  R.a26 R.h26 R.a27 R.h27 R.a28 R.h28 R.a29 R.h29 R.a30 R.h30 R.a31 R.h31 R.a32 R.h32 R.a33 R.h33
  R.a34 R.h34

abbrev condA (i : grid0.Coords) : Prop := k0_cond1 i = 1#1
abbrev condA' (i : grid0.Coords) : Prop := k0_cond2 i = 1#1
abbrev condB (i : grid0.Coords) : Prop := k0_cond3 i = 1#1

end Cert.KernelIdeal.Run
-- ==== Proof.RunA.lean ====
module

public import proofs.«01_k».proof.Proof.Bufs

/-! The body at the first point (the context rows): it clears the nine accumulators and adds the first summand. -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- At the first point the accumulators, whatever they hold, end with these pieces written; the three tiles stay. -/
def runA (c : Dev nD) (i : grid0.Coords) (R : Refs) (x : Ins F) (z : Til F)
    (h0 : condA i) (h1 : condA' i) (h2 : ¬condB i) :
    Σ' L21 : List (View.Piece (Elt F) S1x1024 .f32),
    Σ' L22 : List (View.Piece (Elt F) S1x1024 .f32),
    Σ' L23 : List (View.Piece (Elt F) S1x1024 .f32),
    Σ' L24 : List (View.Piece (Elt F) S1x1024 .f32),
    Σ' L25 : List (View.Piece (Elt F) S1x1024 .f32),
    Σ' L28 : List (View.Piece (Elt F) S8x128x128 .f32),
    Σ' L29 : List (View.Piece (Elt F) S8x128 .f32),
    Σ' L30 : List (View.Piece (Elt F) S1x1024 .f32),
    { L31 : List (View.Piece (Elt F) S1x1024 .f32) //
      ∀ (E : Set ℕ) (K : PUnit → sProp 𝕄),
        iprop(owns (c : Thread nD τ) R.a1 fullShare x.x0 ∗ owns (c : Thread nD τ) R.a2 fullShare x.x1 ∗
          owns (c : Thread nD τ) R.a3 fullShare x.x2 ∗ owns (c : Thread nD τ) R.a4 fullShare x.x3 ∗
          owns (c : Thread nD τ) R.a5 fullShare x.x4 ∗ owns (c : Thread nD τ) R.a6 fullShare x.x5 ∗
          owns (c : Thread nD τ) R.a7 fullShare x.x6 ∗ owns (c : Thread nD τ) R.a8 fullShare x.x7 ∗
          owns (c : Thread nD τ) R.a9 fullShare x.x8 ∗ owns (c : Thread nD τ) R.a10 fullShare x.x9 ∗
          owns (c : Thread nD τ) R.a11 fullShare x.x10 ∗ owns (c : Thread nD τ) R.a12 fullShare x.x11 ∗
          owns (c : Thread nD τ) R.a13 fullShare x.x12 ∗ owns (c : Thread nD τ) R.a14 fullShare x.x13 ∗
          owns (c : Thread nD τ) R.a15 fullShare x.x14 ∗ owns (c : Thread nD τ) R.a16 fullShare x.x15 ∗
          owns (c : Thread nD τ) R.a17 fullShare x.x16 ∗ owns (c : Thread nD τ) R.a18 fullShare x.x17 ∗
          owns (c : Thread nD τ) R.a19 fullShare x.x18 ∗ owns (c : Thread nD τ) R.a20 fullShare x.x19 ∗
          owns (c : Thread nD τ) R.a21 fullShare z.o20 ∗ (∃ d, owns (c : Thread nD τ) R.a22 fullShare d) ∗
          (∃ d, owns (c : Thread nD τ) R.a23 fullShare d) ∗ (∃ d, owns (c : Thread nD τ) R.a24 fullShare d) ∗
          (∃ d, owns (c : Thread nD τ) R.a25 fullShare d) ∗ (∃ d, owns (c : Thread nD τ) R.a26 fullShare d) ∗
          owns (c : Thread nD τ) R.a27 fullShare z.o26 ∗ owns (c : Thread nD τ) R.a28 fullShare z.o27 ∗
          (∃ d, owns (c : Thread nD τ) R.a29 fullShare d) ∗ (∃ d, owns (c : Thread nD τ) R.a30 fullShare d) ∗
          (∃ d, owns (c : Thread nD τ) R.a31 fullShare d) ∗ (∃ d, owns (c : Thread nD τ) R.a32 fullShare d) ∗
          (∃ d, owns (c : Thread nD τ) R.a33 fullShare d) ∗ (∃ d, owns (c : Thread nD τ) R.a34 fullShare d)
          ∗ (iprop(owns (c : Thread nD τ) R.a1 fullShare x.x0 ∗ owns (c : Thread nD τ) R.a2 fullShare x.x1 ∗
            owns (c : Thread nD τ) R.a3 fullShare x.x2 ∗ owns (c : Thread nD τ) R.a4 fullShare x.x3 ∗
            owns (c : Thread nD τ) R.a5 fullShare x.x4 ∗ owns (c : Thread nD τ) R.a6 fullShare x.x5 ∗
            owns (c : Thread nD τ) R.a7 fullShare x.x6 ∗ owns (c : Thread nD τ) R.a8 fullShare x.x7 ∗
            owns (c : Thread nD τ) R.a9 fullShare x.x8 ∗ owns (c : Thread nD τ) R.a10 fullShare x.x9 ∗
            owns (c : Thread nD τ) R.a11 fullShare x.x10 ∗ owns (c : Thread nD τ) R.a12 fullShare x.x11 ∗
            owns (c : Thread nD τ) R.a13 fullShare x.x12 ∗ owns (c : Thread nD τ) R.a14 fullShare x.x13 ∗
            owns (c : Thread nD τ) R.a15 fullShare x.x14 ∗ owns (c : Thread nD τ) R.a16 fullShare x.x15 ∗
            owns (c : Thread nD τ) R.a17 fullShare x.x16 ∗ owns (c : Thread nD τ) R.a18 fullShare x.x17 ∗
            owns (c : Thread nD τ) R.a19 fullShare x.x18 ∗ owns (c : Thread nD τ) R.a20 fullShare x.x19 ∗
            owns (c : Thread nD τ) R.a21 fullShare z.o20 ∗
            (∃ f, R.a22.view.loc (c : Thread nD τ) ↦[R.a22.view.set]{fullShare} R.a22.view.writes (Elt F) f L21) ∗
            (∃ f, R.a23.view.loc (c : Thread nD τ) ↦[R.a23.view.set]{fullShare} R.a23.view.writes (Elt F) f L22) ∗
            (∃ f, R.a24.view.loc (c : Thread nD τ) ↦[R.a24.view.set]{fullShare} R.a24.view.writes (Elt F) f L23) ∗
            (∃ f, R.a25.view.loc (c : Thread nD τ) ↦[R.a25.view.set]{fullShare} R.a25.view.writes (Elt F) f L24) ∗
            (∃ f, R.a26.view.loc (c : Thread nD τ) ↦[R.a26.view.set]{fullShare} R.a26.view.writes (Elt F) f L25) ∗
            owns (c : Thread nD τ) R.a27 fullShare z.o26 ∗ owns (c : Thread nD τ) R.a28 fullShare z.o27 ∗
            (∃ f, R.a29.view.loc (c : Thread nD τ) ↦[R.a29.view.set]{fullShare} R.a29.view.writes (Elt F) f L28) ∗
            (∃ f, R.a30.view.loc (c : Thread nD τ) ↦[R.a30.view.set]{fullShare} R.a30.view.writes (Elt F) f L29) ∗
            (∃ f, R.a31.view.loc (c : Thread nD τ) ↦[R.a31.view.set]{fullShare} R.a31.view.writes (Elt F) f L30) ∗
            (∃ f, R.a32.view.loc (c : Thread nD τ) ↦[R.a32.view.set]{fullShare} R.a32.view.writes (Elt F) f L31) ∗
            (∃ f, R.a33.view.loc (c : Thread nD τ) ↦[R.a33.view.set]{fullShare} f) ∗
            (∃ f, R.a34.view.loc (c : Thread nD τ) ↦[R.a34.view.set]{fullShare} f)) -∗ K ⟨⟩))
        ⊢ wp frame (wpE (defs₀ (F := F)) Variants.none c none) E (bodyOn i R) K } := by
  refine ⟨?_, ?_, ?_, ?_, ?_, ?_, ?_, ?_, ?_, fun E K => ?run⟩
  case run =>
    simp only [bodyOn, cc0_proj_bwd_eq_skeleton]; unfold cc0_proj_bwd_skel
    simp only [k0_part1_eq_skeleton, k0_part2_eq_skeleton, k0_part3_eq_skeleton, k0_part4_eq_skeleton,
      k0_part5_eq_skeleton, k0_part6_eq_skeleton, k0_part7_eq_skeleton, k0_part8_eq_skeleton,
      k0_part9_eq_skeleton, k0_part10_eq_skeleton, k0_part11_eq_skeleton, k0_part12_eq_skeleton,
      k0_part13_eq_skeleton, k0_part14_eq_skeleton, k0_part15_eq_skeleton, k0_part16_eq_skeleton,
      k0_part17_eq_skeleton, k0_part18_eq_skeleton, k0_part19_eq_skeleton, k0_part20_eq_skeleton,
      k0_part21_eq_skeleton, k0_part22_eq_skeleton, k0_part23_eq_skeleton, k0_part24_eq_skeleton,
      k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩,
      ⟨%f6, %hf6, H6⟩, ⟨%f7, %hf7, H7⟩, ⟨%f8, %hf8, H8⟩, ⟨%f9, %hf9, H9⟩, ⟨%f10, %hf10, H10⟩,
      ⟨%f11, %hf11, H11⟩, ⟨%f12, %hf12, H12⟩, ⟨%f13, %hf13, H13⟩, ⟨%f14, %hf14, H14⟩, ⟨%f15, %hf15, H15⟩,
      ⟨%f16, %hf16, H16⟩, ⟨%f17, %hf17, H17⟩, ⟨%f18, %hf18, H18⟩, ⟨%f19, %hf19, H19⟩, ⟨%f20, %hf20, H20⟩,
      ⟨%d21, %f21, -, H21⟩, ⟨%d22, %f22, -, H22⟩, ⟨%d23, %f23, -, H23⟩, ⟨%d24, %f24, -, H24⟩,
      ⟨%d25, %f25, -, H25⟩, ⟨%f26, %hf26, H26⟩, ⟨%f27, %hf27, H27⟩, ⟨%d28, %f28, -, H28⟩, ⟨%d29, %f29, -, H29⟩,
      ⟨%d30, %f30, -, H30⟩, ⟨%d31, %f31, -, H31⟩, ⟨%d32, %f32, -, H32⟩, ⟨%d33, %f33, -, H33⟩, Hk⟩
    obtain rfl := R.h1.eq_unread hf0; obtain rfl := R.h2.eq_unread hf1
    obtain rfl := R.h3.eq_unread hf2; obtain rfl := R.h4.eq_unread hf3
    obtain rfl := R.h5.eq_unread hf4; obtain rfl := R.h6.eq_unread hf5
    obtain rfl := R.h7.eq_unread hf6; obtain rfl := R.h8.eq_unread hf7
    obtain rfl := R.h9.eq_unread hf8; obtain rfl := R.h10.eq_unread hf9
    obtain rfl := R.h11.eq_unread hf10; obtain rfl := R.h12.eq_unread hf11
    obtain rfl := R.h13.eq_unread hf12; obtain rfl := R.h14.eq_unread hf13
    obtain rfl := R.h15.eq_unread hf14; obtain rfl := R.h16.eq_unread hf15
    obtain rfl := R.h17.eq_unread hf16; obtain rfl := R.h18.eq_unread hf17
    obtain rfl := R.h19.eq_unread hf18; obtain rfl := R.h20.eq_unread hf19
    obtain rfl := R.h21.eq_unread hf20; obtain rfl := R.h27.eq_unread hf26
    obtain rfl := R.h28.eq_unread hf27
    sl_exec (disch := first | sl_exact h0 | sl_exact h1 | sl_exact h2)
    sl_step
    iapply Hk
    isplitl [H0]
    · iexists _; isplitr; · ipureintro; exact R.h1.read_unread _
      iexact H0
    isplitl [H1]
    · iexists _; isplitr; · ipureintro; exact R.h2.read_unread _
      iexact H1
    isplitl [H2]
    · iexists _; isplitr; · ipureintro; exact R.h3.read_unread _
      iexact H2
    isplitl [H3]
    · iexists _; isplitr; · ipureintro; exact R.h4.read_unread _
      iexact H3
    isplitl [H4]
    · iexists _; isplitr; · ipureintro; exact R.h5.read_unread _
      iexact H4
    isplitl [H5]
    · iexists _; isplitr; · ipureintro; exact R.h6.read_unread _
      iexact H5
    isplitl [H6]
    · iexists _; isplitr; · ipureintro; exact R.h7.read_unread _
      iexact H6
    isplitl [H7]
    · iexists _; isplitr; · ipureintro; exact R.h8.read_unread _
      iexact H7
    isplitl [H8]
    · iexists _; isplitr; · ipureintro; exact R.h9.read_unread _
      iexact H8
    isplitl [H9]
    · iexists _; isplitr; · ipureintro; exact R.h10.read_unread _
      iexact H9
    isplitl [H10]
    · iexists _; isplitr; · ipureintro; exact R.h11.read_unread _
      iexact H10
    isplitl [H11]
    · iexists _; isplitr; · ipureintro; exact R.h12.read_unread _
      iexact H11
    isplitl [H12]
    · iexists _; isplitr; · ipureintro; exact R.h13.read_unread _
      iexact H12
    isplitl [H13]
    · iexists _; isplitr; · ipureintro; exact R.h14.read_unread _
      iexact H13
    isplitl [H14]
    · iexists _; isplitr; · ipureintro; exact R.h15.read_unread _
      iexact H14
    isplitl [H15]
    · iexists _; isplitr; · ipureintro; exact R.h16.read_unread _
      iexact H15
    isplitl [H16]
    · iexists _; isplitr; · ipureintro; exact R.h17.read_unread _
      iexact H16
    isplitl [H17]
    · iexists _; isplitr; · ipureintro; exact R.h18.read_unread _
      iexact H17
    isplitl [H18]
    · iexists _; isplitr; · ipureintro; exact R.h19.read_unread _
      iexact H18
    isplitl [H19]
    · iexists _; isplitr; · ipureintro; exact R.h20.read_unread _
      iexact H19
    isplitl [H20]
    · iexists _; isplitr; · ipureintro; exact R.h21.read_unread _
      iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]
    · iexists _; isplitr; · ipureintro; exact R.h27.read_unread _
      iexact H26
    isplitl [H27]
    · iexists _; isplitr; · ipureintro; exact R.h28.read_unread _
      iexact H27
    isplitl [H28]; · iexists _; iexact H28
    isplitl [H29]; · iexists _; iexact H29
    isplitl [H30]; · iexists _; iexact H30
    isplitl [H31]; · iexists _; iexact H31
    isplitl [H32]; · iexists _; iexact H32
    iexists _; iexact H33

end Cert.KernelIdeal.Run
-- ==== Proof.RunB.lean ====
module

public import proofs.«01_k».proof.Proof.RunA

/-! The body at a later point (a block of 256 rows of `x`). -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- At a later point the tiles and the accumulators end with these pieces written; the two context rows stay. -/
def runB (c : Dev nD) (i : grid0.Coords) (R : Refs) (x : Ins F) (a : Acc F)
    (h0 : ¬condA i) (h1 : ¬condA' i) (h2 : condB i) :
    Σ' L20 : List (View.Piece (Elt F) S256x1024 .f32),
    Σ' L21 : List (View.Piece (Elt F) S1x1024 .f32),
    Σ' L22 : List (View.Piece (Elt F) S1x1024 .f32),
    Σ' L23 : List (View.Piece (Elt F) S1x1024 .f32),
    Σ' L26 : List (View.Piece (Elt F) S256x1024 .bf16),
    Σ' L27 : List (View.Piece (Elt F) S256x1024 .bf16),
    Σ' L28 : List (View.Piece (Elt F) S8x128x128 .f32),
    Σ' L29 : List (View.Piece (Elt F) S8x128 .f32),
    Σ' L30 : List (View.Piece (Elt F) S1x1024 .f32),
    { L31 : List (View.Piece (Elt F) S1x1024 .f32) //
      ∀ (E : Set ℕ) (K : PUnit → sProp 𝕄),
        iprop(owns (c : Thread nD τ) R.a1 fullShare x.x0 ∗ owns (c : Thread nD τ) R.a2 fullShare x.x1 ∗
          owns (c : Thread nD τ) R.a3 fullShare x.x2 ∗ owns (c : Thread nD τ) R.a4 fullShare x.x3 ∗
          owns (c : Thread nD τ) R.a5 fullShare x.x4 ∗ owns (c : Thread nD τ) R.a6 fullShare x.x5 ∗
          owns (c : Thread nD τ) R.a7 fullShare x.x6 ∗ owns (c : Thread nD τ) R.a8 fullShare x.x7 ∗
          owns (c : Thread nD τ) R.a9 fullShare x.x8 ∗ owns (c : Thread nD τ) R.a10 fullShare x.x9 ∗
          owns (c : Thread nD τ) R.a11 fullShare x.x10 ∗ owns (c : Thread nD τ) R.a12 fullShare x.x11 ∗
          owns (c : Thread nD τ) R.a13 fullShare x.x12 ∗ owns (c : Thread nD τ) R.a14 fullShare x.x13 ∗
          owns (c : Thread nD τ) R.a15 fullShare x.x14 ∗ owns (c : Thread nD τ) R.a16 fullShare x.x15 ∗
          owns (c : Thread nD τ) R.a17 fullShare x.x16 ∗ owns (c : Thread nD τ) R.a18 fullShare x.x17 ∗
          owns (c : Thread nD τ) R.a19 fullShare x.x18 ∗ owns (c : Thread nD τ) R.a20 fullShare x.x19 ∗
          (∃ d, owns (c : Thread nD τ) R.a21 fullShare d) ∗ owns (c : Thread nD τ) R.a22 fullShare a.o21 ∗
          owns (c : Thread nD τ) R.a23 fullShare a.o22 ∗ owns (c : Thread nD τ) R.a24 fullShare a.o23 ∗
          owns (c : Thread nD τ) R.a25 fullShare a.o24 ∗ owns (c : Thread nD τ) R.a26 fullShare a.o25 ∗
          (∃ d, owns (c : Thread nD τ) R.a27 fullShare d) ∗ (∃ d, owns (c : Thread nD τ) R.a28 fullShare d) ∗
          owns (c : Thread nD τ) R.a29 fullShare a.o28 ∗ owns (c : Thread nD τ) R.a30 fullShare a.o29 ∗
          owns (c : Thread nD τ) R.a31 fullShare a.o30 ∗ owns (c : Thread nD τ) R.a32 fullShare a.o31 ∗
          (∃ d, owns (c : Thread nD τ) R.a33 fullShare d) ∗ (∃ d, owns (c : Thread nD τ) R.a34 fullShare d)
          ∗ (iprop(owns (c : Thread nD τ) R.a1 fullShare x.x0 ∗ owns (c : Thread nD τ) R.a2 fullShare x.x1 ∗
            owns (c : Thread nD τ) R.a3 fullShare x.x2 ∗ owns (c : Thread nD τ) R.a4 fullShare x.x3 ∗
            owns (c : Thread nD τ) R.a5 fullShare x.x4 ∗ owns (c : Thread nD τ) R.a6 fullShare x.x5 ∗
            owns (c : Thread nD τ) R.a7 fullShare x.x6 ∗ owns (c : Thread nD τ) R.a8 fullShare x.x7 ∗
            owns (c : Thread nD τ) R.a9 fullShare x.x8 ∗ owns (c : Thread nD τ) R.a10 fullShare x.x9 ∗
            owns (c : Thread nD τ) R.a11 fullShare x.x10 ∗ owns (c : Thread nD τ) R.a12 fullShare x.x11 ∗
            owns (c : Thread nD τ) R.a13 fullShare x.x12 ∗ owns (c : Thread nD τ) R.a14 fullShare x.x13 ∗
            owns (c : Thread nD τ) R.a15 fullShare x.x14 ∗ owns (c : Thread nD τ) R.a16 fullShare x.x15 ∗
            owns (c : Thread nD τ) R.a17 fullShare x.x16 ∗ owns (c : Thread nD τ) R.a18 fullShare x.x17 ∗
            owns (c : Thread nD τ) R.a19 fullShare x.x18 ∗ owns (c : Thread nD τ) R.a20 fullShare x.x19 ∗
            (∃ f, R.a21.view.loc (c : Thread nD τ) ↦[R.a21.view.set]{fullShare} R.a21.view.writes (Elt F) f L20) ∗
            (∃ f, R.a22.view.loc (c : Thread nD τ) ↦[R.a22.view.set]{fullShare} R.a22.view.writes (Elt F) f L21) ∗
            (∃ f, R.a23.view.loc (c : Thread nD τ) ↦[R.a23.view.set]{fullShare} R.a23.view.writes (Elt F) f L22) ∗
            (∃ f, R.a24.view.loc (c : Thread nD τ) ↦[R.a24.view.set]{fullShare} R.a24.view.writes (Elt F) f L23) ∗
            owns (c : Thread nD τ) R.a25 fullShare a.o24 ∗ owns (c : Thread nD τ) R.a26 fullShare a.o25 ∗
            (∃ f, R.a27.view.loc (c : Thread nD τ) ↦[R.a27.view.set]{fullShare} R.a27.view.writes (Elt F) f L26) ∗
            (∃ f, R.a28.view.loc (c : Thread nD τ) ↦[R.a28.view.set]{fullShare} R.a28.view.writes (Elt F) f L27) ∗
            (∃ f, R.a29.view.loc (c : Thread nD τ) ↦[R.a29.view.set]{fullShare} R.a29.view.writes (Elt F) f L28) ∗
            (∃ f, R.a30.view.loc (c : Thread nD τ) ↦[R.a30.view.set]{fullShare} R.a30.view.writes (Elt F) f L29) ∗
            (∃ f, R.a31.view.loc (c : Thread nD τ) ↦[R.a31.view.set]{fullShare} R.a31.view.writes (Elt F) f L30) ∗
            (∃ f, R.a32.view.loc (c : Thread nD τ) ↦[R.a32.view.set]{fullShare} R.a32.view.writes (Elt F) f L31) ∗
            (∃ f, R.a33.view.loc (c : Thread nD τ) ↦[R.a33.view.set]{fullShare} f) ∗
            (∃ f, R.a34.view.loc (c : Thread nD τ) ↦[R.a34.view.set]{fullShare} f)) -∗ K ⟨⟩))
        ⊢ wp frame (wpE (defs₀ (F := F)) Variants.none c none) E (bodyOn i R) K } := by
  refine ⟨?_, ?_, ?_, ?_, ?_, ?_, ?_, ?_, ?_, ?_, fun E K => ?run⟩
  case run =>
    simp only [bodyOn, cc0_proj_bwd_eq_skeleton]; unfold cc0_proj_bwd_skel
    simp only [k0_part1_eq_skeleton, k0_part2_eq_skeleton, k0_part3_eq_skeleton, k0_part4_eq_skeleton,
      k0_part5_eq_skeleton, k0_part6_eq_skeleton, k0_part7_eq_skeleton, k0_part8_eq_skeleton,
      k0_part9_eq_skeleton, k0_part10_eq_skeleton, k0_part11_eq_skeleton, k0_part12_eq_skeleton,
      k0_part13_eq_skeleton, k0_part14_eq_skeleton, k0_part15_eq_skeleton, k0_part16_eq_skeleton,
      k0_part17_eq_skeleton, k0_part18_eq_skeleton, k0_part19_eq_skeleton, k0_part20_eq_skeleton,
      k0_part21_eq_skeleton, k0_part22_eq_skeleton, k0_part23_eq_skeleton, k0_part24_eq_skeleton,
      k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩,
      ⟨%f6, %hf6, H6⟩, ⟨%f7, %hf7, H7⟩, ⟨%f8, %hf8, H8⟩, ⟨%f9, %hf9, H9⟩, ⟨%f10, %hf10, H10⟩,
      ⟨%f11, %hf11, H11⟩, ⟨%f12, %hf12, H12⟩, ⟨%f13, %hf13, H13⟩, ⟨%f14, %hf14, H14⟩, ⟨%f15, %hf15, H15⟩,
      ⟨%f16, %hf16, H16⟩, ⟨%f17, %hf17, H17⟩, ⟨%f18, %hf18, H18⟩, ⟨%f19, %hf19, H19⟩, ⟨%d20, %f20, -, H20⟩,
      ⟨%f21, %hf21, H21⟩, ⟨%f22, %hf22, H22⟩, ⟨%f23, %hf23, H23⟩, ⟨%f24, %hf24, H24⟩, ⟨%f25, %hf25, H25⟩,
      ⟨%d26, %f26, -, H26⟩, ⟨%d27, %f27, -, H27⟩, ⟨%f28, %hf28, H28⟩, ⟨%f29, %hf29, H29⟩, ⟨%f30, %hf30, H30⟩,
      ⟨%f31, %hf31, H31⟩, ⟨%d32, %f32, -, H32⟩, ⟨%d33, %f33, -, H33⟩, Hk⟩
    obtain rfl := R.h1.eq_unread hf0; obtain rfl := R.h2.eq_unread hf1
    obtain rfl := R.h3.eq_unread hf2; obtain rfl := R.h4.eq_unread hf3
    obtain rfl := R.h5.eq_unread hf4; obtain rfl := R.h6.eq_unread hf5
    obtain rfl := R.h7.eq_unread hf6; obtain rfl := R.h8.eq_unread hf7
    obtain rfl := R.h9.eq_unread hf8; obtain rfl := R.h10.eq_unread hf9
    obtain rfl := R.h11.eq_unread hf10; obtain rfl := R.h12.eq_unread hf11
    obtain rfl := R.h13.eq_unread hf12; obtain rfl := R.h14.eq_unread hf13
    obtain rfl := R.h15.eq_unread hf14; obtain rfl := R.h16.eq_unread hf15
    obtain rfl := R.h17.eq_unread hf16; obtain rfl := R.h18.eq_unread hf17
    obtain rfl := R.h19.eq_unread hf18; obtain rfl := R.h20.eq_unread hf19
    obtain rfl := R.h22.eq_unread hf21; obtain rfl := R.h23.eq_unread hf22
    obtain rfl := R.h24.eq_unread hf23; obtain rfl := R.h25.eq_unread hf24
    obtain rfl := R.h26.eq_unread hf25; obtain rfl := R.h29.eq_unread hf28
    obtain rfl := R.h30.eq_unread hf29; obtain rfl := R.h31.eq_unread hf30
    obtain rfl := R.h32.eq_unread hf31
    sl_exec (disch := first | sl_exact h0 | sl_exact h1 | sl_exact h2)
    sl_step
    iapply Hk
    isplitl [H0]
    · iexists _; isplitr; · ipureintro; exact R.h1.read_unread _
      iexact H0
    isplitl [H1]
    · iexists _; isplitr; · ipureintro; exact R.h2.read_unread _
      iexact H1
    isplitl [H2]
    · iexists _; isplitr; · ipureintro; exact R.h3.read_unread _
      iexact H2
    isplitl [H3]
    · iexists _; isplitr; · ipureintro; exact R.h4.read_unread _
      iexact H3
    isplitl [H4]
    · iexists _; isplitr; · ipureintro; exact R.h5.read_unread _
      iexact H4
    isplitl [H5]
    · iexists _; isplitr; · ipureintro; exact R.h6.read_unread _
      iexact H5
    isplitl [H6]
    · iexists _; isplitr; · ipureintro; exact R.h7.read_unread _
      iexact H6
    isplitl [H7]
    · iexists _; isplitr; · ipureintro; exact R.h8.read_unread _
      iexact H7
    isplitl [H8]
    · iexists _; isplitr; · ipureintro; exact R.h9.read_unread _
      iexact H8
    isplitl [H9]
    · iexists _; isplitr; · ipureintro; exact R.h10.read_unread _
      iexact H9
    isplitl [H10]
    · iexists _; isplitr; · ipureintro; exact R.h11.read_unread _
      iexact H10
    isplitl [H11]
    · iexists _; isplitr; · ipureintro; exact R.h12.read_unread _
      iexact H11
    isplitl [H12]
    · iexists _; isplitr; · ipureintro; exact R.h13.read_unread _
      iexact H12
    isplitl [H13]
    · iexists _; isplitr; · ipureintro; exact R.h14.read_unread _
      iexact H13
    isplitl [H14]
    · iexists _; isplitr; · ipureintro; exact R.h15.read_unread _
      iexact H14
    isplitl [H15]
    · iexists _; isplitr; · ipureintro; exact R.h16.read_unread _
      iexact H15
    isplitl [H16]
    · iexists _; isplitr; · ipureintro; exact R.h17.read_unread _
      iexact H16
    isplitl [H17]
    · iexists _; isplitr; · ipureintro; exact R.h18.read_unread _
      iexact H17
    isplitl [H18]
    · iexists _; isplitr; · ipureintro; exact R.h19.read_unread _
      iexact H18
    isplitl [H19]
    · iexists _; isplitr; · ipureintro; exact R.h20.read_unread _
      iexact H19
    isplitl [H20]; · iexists _; iexact H20
    isplitl [H21]; · iexists _; iexact H21
    isplitl [H22]; · iexists _; iexact H22
    isplitl [H23]; · iexists _; iexact H23
    isplitl [H24]
    · iexists _; isplitr; · ipureintro; exact R.h25.read_unread _
      iexact H24
    isplitl [H25]
    · iexists _; isplitr; · ipureintro; exact R.h26.read_unread _
      iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    isplitl [H32]; · iexists _; iexact H32
    iexists _; iexact H33

end Cert.KernelIdeal.Run
-- ==== Proof.Data.lean ====
module

public import proofs.«01_k».proof.Proof.RunA
public import proofs.«01_k».proof.Proof.RunB
public import proofs.«01_k».proof.Proof.Gen.KernelIdeal.Frame
public import Idealize.ShloMosaic.Lib.Claim

/-! What the staging buffers hold after each point of the kernel: the first point's accumulators, then the recursion
over the later points. -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The cases of the points -/

theorem lt9 (t : Fin cfg0.N) : t.val < 9 := Nat.lt_of_lt_of_eq t.isLt N_0

theorem condA_iff (t : Fin cfg0.N) : condA (grid0.coords t) ↔ t.val = 0 := by
  have ht := lt9 t
  have e0 : (grid0.coords t 0).val = t.val / 1 % 9 := Pipeline.Grid.coords_val t 0 (by decide) rfl
  have h : condA (grid0.coords t) ↔ t.val % 9 = 0 := by
    simp only [condA, k0_cond1, e0]; word_cmp
  rw [h, Nat.mod_eq_of_lt ht]

theorem condA'_iff (t : Fin cfg0.N) : condA' (grid0.coords t) ↔ t.val = 0 := by
  have ht := lt9 t
  have e0 : (grid0.coords t 0).val = t.val / 1 % 9 := Pipeline.Grid.coords_val t 0 (by decide) rfl
  have h : condA' (grid0.coords t) ↔ t.val % 9 = 0 := by
    simp only [condA', k0_cond2, e0]; word_cmp
  rw [h, Nat.mod_eq_of_lt ht]

theorem condB_iff : ∀ t : Fin cfg0.N, condB (grid0.coords t) ↔ 1 ≤ t.val :=
  (by decide +kernel : ∀ t : Fin grid0.N, condB (grid0.coords t) ↔ 1 ≤ t.val)

/-- The buffers of one point. -/
def refsAt (t : Fin cfg0.N) : Refs where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := win0_6.stage (cfg0.slots t 6)
  h7 := hstage0_6 ((cfg0.slots t 6).cast nbuf0_6)
  a8 := win0_7.stage (cfg0.slots t 7)
  h8 := hstage0_7 ((cfg0.slots t 7).cast nbuf0_7)
  a9 := win0_8.stage (cfg0.slots t 8)
  h9 := hstage0_8 ((cfg0.slots t 8).cast nbuf0_8)
  a10 := win0_9.stage (cfg0.slots t 9)
  h10 := hstage0_9 ((cfg0.slots t 9).cast nbuf0_9)
  a11 := win0_10.stage (cfg0.slots t 10)
  h11 := hstage0_10 ((cfg0.slots t 10).cast nbuf0_10)
  a12 := win0_11.stage (cfg0.slots t 11)
  h12 := hstage0_11 ((cfg0.slots t 11).cast nbuf0_11)
  a13 := win0_12.stage (cfg0.slots t 12)
  h13 := hstage0_12 ((cfg0.slots t 12).cast nbuf0_12)
  a14 := win0_13.stage (cfg0.slots t 13)
  h14 := hstage0_13 ((cfg0.slots t 13).cast nbuf0_13)
  a15 := win0_14.stage (cfg0.slots t 14)
  h15 := hstage0_14 ((cfg0.slots t 14).cast nbuf0_14)
  a16 := win0_15.stage (cfg0.slots t 15)
  h16 := hstage0_15 ((cfg0.slots t 15).cast nbuf0_15)
  a17 := win0_16.stage (cfg0.slots t 16)
  h17 := hstage0_16 ((cfg0.slots t 16).cast nbuf0_16)
  a18 := win0_17.stage (cfg0.slots t 17)
  h18 := hstage0_17 ((cfg0.slots t 17).cast nbuf0_17)
  a19 := win0_18.stage (cfg0.slots t 18)
  h19 := hstage0_18 ((cfg0.slots t 18).cast nbuf0_18)
  a20 := win0_19.stage (cfg0.slots t 19)
  h20 := hstage0_19 ((cfg0.slots t 19).cast nbuf0_19)
  a21 := win0_20.stage (cfg0.slots t 20)
  h21 := hstage0_20 ((cfg0.slots t 20).cast nbuf0_20)
  a22 := win0_21.stage (cfg0.slots t 21)
  h22 := hstage0_21 ((cfg0.slots t 21).cast nbuf0_21)
  a23 := win0_22.stage (cfg0.slots t 22)
  h23 := hstage0_22 ((cfg0.slots t 22).cast nbuf0_22)
  a24 := win0_23.stage (cfg0.slots t 23)
  h24 := hstage0_23 ((cfg0.slots t 23).cast nbuf0_23)
  a25 := win0_24.stage (cfg0.slots t 24)
  h25 := hstage0_24 ((cfg0.slots t 24).cast nbuf0_24)
  a26 := win0_25.stage (cfg0.slots t 25)
  h26 := hstage0_25 ((cfg0.slots t 25).cast nbuf0_25)
  a27 := win0_26.stage (cfg0.slots t 26)
  h27 := hstage0_26 ((cfg0.slots t 26).cast nbuf0_26)
  a28 := win0_27.stage (cfg0.slots t 27)
  h28 := hstage0_27 ((cfg0.slots t 27).cast nbuf0_27)
  a29 := win0_28.stage (cfg0.slots t 28)
  h29 := hstage0_28 ((cfg0.slots t 28).cast nbuf0_28)
  a30 := win0_29.stage (cfg0.slots t 29)
  h30 := hstage0_29 ((cfg0.slots t 29).cast nbuf0_29)
  a31 := win0_30.stage (cfg0.slots t 30)
  h31 := hstage0_30 ((cfg0.slots t 30).cast nbuf0_30)
  a32 := win0_31.stage (cfg0.slots t 31)
  h32 := hstage0_31 ((cfg0.slots t 31).cast nbuf0_31)
  a33 := Memref.whole cc0_scratch0
  h33 := Memref.isWhole_whole _
  a34 := Memref.whole cc0_scratch1
  h34 := Memref.isWhole_whole _

variable (m : (ℓ : Loc nD τ sig) → Buf (Elt F) ℓ)

/-- The input blocks of one point. -/
def insAt (c : Dev nD) (t : Fin cfg0.N) : Ins F where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t
  x14 := iblk m c 14 t
  x15 := iblk m c 15 t
  x16 := iblk m c 16 t
  x17 := iblk m c 17 t
  x18 := iblk m c 18 t
  x19 := iblk m c 19 t

/-- The tiles before the first row block: any contents do. -/
def til0 (x : Ins F) : Til F where
  o20 := x.x12
  o26 := x.x0
  o27 := x.x0

/-! ## What one point leaves -/

section
variable (c : Dev nD) (i : grid0.Coords) (R : Refs) (x : Ins F)

/-- The accumulators after the first point. -/
def accA (z : Til F) (h0 : condA i) (h1 : condA' i) (h2 : ¬condB i) : Acc F where
  o21 := View.canon (runA c i R x z h0 h1 h2).1
  o22 := View.canon (runA c i R x z h0 h1 h2).2.1
  o23 := View.canon (runA c i R x z h0 h1 h2).2.2.1
  o24 := View.canon (runA c i R x z h0 h1 h2).2.2.2.1
  o25 := View.canon (runA c i R x z h0 h1 h2).2.2.2.2.1
  o28 := View.canon (runA c i R x z h0 h1 h2).2.2.2.2.2.1
  o29 := View.canon (runA c i R x z h0 h1 h2).2.2.2.2.2.2.1
  o30 := View.canon (runA c i R x z h0 h1 h2).2.2.2.2.2.2.2.1
  o31 := View.canon (runA c i R x z h0 h1 h2).2.2.2.2.2.2.2.2.1

/-- The tiles after a later point. -/
def tilB (a : Acc F) (h0 : ¬condA i) (h1 : ¬condA' i) (h2 : condB i) : Til F where
  o20 := View.canon (runB c i R x a h0 h1 h2).1
  o26 := View.canon (runB c i R x a h0 h1 h2).2.2.2.2.1
  o27 := View.canon (runB c i R x a h0 h1 h2).2.2.2.2.2.1

/-- The accumulators after a later point: the two context rows stay. -/
def accB (a : Acc F) (h0 : ¬condA i) (h1 : ¬condA' i) (h2 : condB i) : Acc F where
  o24 := a.o24
  o25 := a.o25
  o21 := View.canon (runB c i R x a h0 h1 h2).2.1
  o22 := View.canon (runB c i R x a h0 h1 h2).2.2.1
  o23 := View.canon (runB c i R x a h0 h1 h2).2.2.2.1
  o28 := View.canon (runB c i R x a h0 h1 h2).2.2.2.2.2.2.1
  o29 := View.canon (runB c i R x a h0 h1 h2).2.2.2.2.2.2.2.1
  o30 := View.canon (runB c i R x a h0 h1 h2).2.2.2.2.2.2.2.2.1
  o31 := View.canon (runB c i R x a h0 h1 h2).2.2.2.2.2.2.2.2.2.1

set_option maxHeartbeats 1600000 in
theorem covA21 (z : Til F) (h0 : condA i) (h1 : condA' i) (h2 : ¬condB i) :
    ∀ y, ∃ p ∈ (runA c i R x z h0 h1 h2).1, y ∈ p.1.set :=
  View.cover_of_tiledL _ S1x1024.size (by sl_kernel_rfl)

set_option maxHeartbeats 1600000 in
theorem covA22 (z : Til F) (h0 : condA i) (h1 : condA' i) (h2 : ¬condB i) :
    ∀ y, ∃ p ∈ (runA c i R x z h0 h1 h2).2.1, y ∈ p.1.set :=
  View.cover_of_tiledL _ S1x1024.size (by sl_kernel_rfl)

set_option maxHeartbeats 1600000 in
theorem covA23 (z : Til F) (h0 : condA i) (h1 : condA' i) (h2 : ¬condB i) :
    ∀ y, ∃ p ∈ (runA c i R x z h0 h1 h2).2.2.1, y ∈ p.1.set :=
  View.cover_of_tiledL _ S1x1024.size (by sl_kernel_rfl)

set_option maxHeartbeats 1600000 in
theorem covA24 (z : Til F) (h0 : condA i) (h1 : condA' i) (h2 : ¬condB i) :
    ∀ y, ∃ p ∈ (runA c i R x z h0 h1 h2).2.2.2.1, y ∈ p.1.set :=
  View.cover_of_tiledL _ S1x1024.size (by sl_kernel_rfl)

set_option maxHeartbeats 1600000 in
theorem covA25 (z : Til F) (h0 : condA i) (h1 : condA' i) (h2 : ¬condB i) :
    ∀ y, ∃ p ∈ (runA c i R x z h0 h1 h2).2.2.2.2.1, y ∈ p.1.set :=
  View.cover_of_tiledL _ S1x1024.size (by sl_kernel_rfl)

set_option maxHeartbeats 1600000 in
theorem covA28 (z : Til F) (h0 : condA i) (h1 : condA' i) (h2 : ¬condB i) :
    ∀ y, ∃ p ∈ (runA c i R x z h0 h1 h2).2.2.2.2.2.1, y ∈ p.1.set :=
  View.cover_of_tiledL _ S8x128x128.size (by sl_kernel_rfl)

set_option maxHeartbeats 1600000 in
theorem covA29 (z : Til F) (h0 : condA i) (h1 : condA' i) (h2 : ¬condB i) :
    ∀ y, ∃ p ∈ (runA c i R x z h0 h1 h2).2.2.2.2.2.2.1, y ∈ p.1.set :=
  View.cover_of_tiledL _ S8x128.size (by sl_kernel_rfl)

set_option maxHeartbeats 1600000 in
theorem covA30 (z : Til F) (h0 : condA i) (h1 : condA' i) (h2 : ¬condB i) :
    ∀ y, ∃ p ∈ (runA c i R x z h0 h1 h2).2.2.2.2.2.2.2.1, y ∈ p.1.set :=
  View.cover_of_tiledL _ S1x1024.size (by sl_kernel_rfl)

set_option maxHeartbeats 1600000 in
theorem covA31 (z : Til F) (h0 : condA i) (h1 : condA' i) (h2 : ¬condB i) :
    ∀ y, ∃ p ∈ (runA c i R x z h0 h1 h2).2.2.2.2.2.2.2.2.1, y ∈ p.1.set :=
  View.cover_of_tiledL _ S1x1024.size (by sl_kernel_rfl)

set_option maxHeartbeats 1600000 in
theorem covB20 (a : Acc F) (h0 : ¬condA i) (h1 : ¬condA' i) (h2 : condB i) :
    ∀ y, ∃ p ∈ (runB c i R x a h0 h1 h2).1, y ∈ p.1.set :=
  View.cover_of_tiledL _ S256x1024.size (by sl_kernel_rfl)

set_option maxHeartbeats 1600000 in
theorem covB21 (a : Acc F) (h0 : ¬condA i) (h1 : ¬condA' i) (h2 : condB i) :
    ∀ y, ∃ p ∈ (runB c i R x a h0 h1 h2).2.1, y ∈ p.1.set :=
  View.cover_of_tiledL _ S1x1024.size (by sl_kernel_rfl)

set_option maxHeartbeats 1600000 in
theorem covB22 (a : Acc F) (h0 : ¬condA i) (h1 : ¬condA' i) (h2 : condB i) :
    ∀ y, ∃ p ∈ (runB c i R x a h0 h1 h2).2.2.1, y ∈ p.1.set :=
  View.cover_of_tiledL _ S1x1024.size (by sl_kernel_rfl)

set_option maxHeartbeats 1600000 in
theorem covB23 (a : Acc F) (h0 : ¬condA i) (h1 : ¬condA' i) (h2 : condB i) :
    ∀ y, ∃ p ∈ (runB c i R x a h0 h1 h2).2.2.2.1, y ∈ p.1.set :=
  View.cover_of_tiledL _ S1x1024.size (by sl_kernel_rfl)

set_option maxHeartbeats 1600000 in
theorem covB26 (a : Acc F) (h0 : ¬condA i) (h1 : ¬condA' i) (h2 : condB i) :
    ∀ y, ∃ p ∈ (runB c i R x a h0 h1 h2).2.2.2.2.1, y ∈ p.1.set :=
  View.cover_of_tiledL _ ![128, 1024] (by sl_kernel_rfl)

set_option maxHeartbeats 1600000 in
theorem covB27 (a : Acc F) (h0 : ¬condA i) (h1 : ¬condA' i) (h2 : condB i) :
    ∀ y, ∃ p ∈ (runB c i R x a h0 h1 h2).2.2.2.2.2.1, y ∈ p.1.set :=
  View.cover_of_tiledL _ ![128, 1024] (by sl_kernel_rfl)

set_option maxHeartbeats 1600000 in
theorem covB28 (a : Acc F) (h0 : ¬condA i) (h1 : ¬condA' i) (h2 : condB i) :
    ∀ y, ∃ p ∈ (runB c i R x a h0 h1 h2).2.2.2.2.2.2.1, y ∈ p.1.set :=
  View.cover_of_tiledL _ ![1, 128, 128] (by sl_kernel_rfl)

set_option maxHeartbeats 1600000 in
theorem covB29 (a : Acc F) (h0 : ¬condA i) (h1 : ¬condA' i) (h2 : condB i) :
    ∀ y, ∃ p ∈ (runB c i R x a h0 h1 h2).2.2.2.2.2.2.2.1, y ∈ p.1.set :=
  View.cover_of_tiledL _ ![1, 128] (by sl_kernel_rfl)

set_option maxHeartbeats 1600000 in
theorem covB30 (a : Acc F) (h0 : ¬condA i) (h1 : ¬condA' i) (h2 : condB i) :
    ∀ y, ∃ p ∈ (runB c i R x a h0 h1 h2).2.2.2.2.2.2.2.2.1, y ∈ p.1.set :=
  View.cover_of_tiledL _ S1x1024.size (by sl_kernel_rfl)

set_option maxHeartbeats 1600000 in
theorem covB31 (a : Acc F) (h0 : ¬condA i) (h1 : ¬condA' i) (h2 : condB i) :
    ∀ y, ∃ p ∈ (runB c i R x a h0 h1 h2).2.2.2.2.2.2.2.2.2.1, y ∈ p.1.set :=
  View.cover_of_tiledL _ S1x1024.size (by sl_kernel_rfl)

end

/-! ## The recursion over the points -/

/-- What the output buffers hold after point `n`. -/
def outs (c : Dev nD) : (n : ℕ) → n < cfg0.N → Til F × Acc F
  | 0, h => (til0 (insAt m c ⟨0, h⟩), accA c (grid0.coords ⟨0, h⟩) (refsAt ⟨0, h⟩) (insAt m c ⟨0, h⟩)
      (til0 (insAt m c ⟨0, h⟩)) ((condA_iff ⟨0, h⟩).2 rfl) ((condA'_iff ⟨0, h⟩).2 rfl)
      (fun hb => absurd ((condB_iff ⟨0, h⟩).1 hb) (Nat.not_succ_le_zero 0)))
  | n + 1, h =>
    (tilB c (grid0.coords ⟨n + 1, h⟩) (refsAt ⟨n + 1, h⟩) (insAt m c ⟨n + 1, h⟩)
      (outs c n (Nat.lt_of_succ_lt h)).2 (fun ha => Nat.succ_ne_zero n ((condA_iff ⟨n + 1, h⟩).1 ha))
      (fun ha => Nat.succ_ne_zero n ((condA'_iff ⟨n + 1, h⟩).1 ha))
      ((condB_iff ⟨n + 1, h⟩).2 (Nat.succ_le_succ (Nat.zero_le n))),
     accB c (grid0.coords ⟨n + 1, h⟩) (refsAt ⟨n + 1, h⟩) (insAt m c ⟨n + 1, h⟩)
      (outs c n (Nat.lt_of_succ_lt h)).2 (fun ha => Nat.succ_ne_zero n ((condA_iff ⟨n + 1, h⟩).1 ha))
      (fun ha => Nat.succ_ne_zero n ((condA'_iff ⟨n + 1, h⟩).1 ha))
      ((condB_iff ⟨n + 1, h⟩).2 (Nat.succ_le_succ (Nat.zero_le n))))

theorem outs_A (c : Dev nD) (t : Fin cfg0.N) (h : t.val = 0) (h0 : condA (grid0.coords t))
    (h1 : condA' (grid0.coords t)) (h2 : ¬condB (grid0.coords t)) :
    outs m c t.val t.isLt = (til0 (insAt m c t), accA c (grid0.coords t) (refsAt t) (insAt m c t)
      (til0 (insAt m c t)) h0 h1 h2) := by
  obtain ⟨n, hn⟩ := t
  cases n with
  | zero => exact rfl
  | succ n => exact absurd h (Nat.succ_ne_zero n)

theorem outs_B (c : Dev nD) (t : Fin cfg0.N) (h : t.val ≠ 0) (h0 : ¬condA (grid0.coords t))
    (h1 : ¬condA' (grid0.coords t)) (h2 : condB (grid0.coords t)) :
    outs m c t.val t.isLt =
      (tilB c (grid0.coords t) (refsAt t) (insAt m c t)
        (outs m c (t.val - 1) (Nat.lt_of_le_of_lt (Nat.sub_le _ _) t.isLt)).2 h0 h1 h2,
       accB c (grid0.coords t) (refsAt t) (insAt m c t)
        (outs m c (t.val - 1) (Nat.lt_of_le_of_lt (Nat.sub_le _ _) t.isLt)).2 h0 h1 h2) := by
  obtain ⟨n, hn⟩ := t
  cases n with
  | zero => exact absurd rfl h
  | succ n => exact rfl

/-- The proof data of the region: each input block stays, each output holds what `outs` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => (outs m c t.val t.isLt).1.o20
    | ⟨21, _⟩ => (outs m c t.val t.isLt).2.o21
    | ⟨22, _⟩ => (outs m c t.val t.isLt).2.o22
    | ⟨23, _⟩ => (outs m c t.val t.isLt).2.o23
    | ⟨24, _⟩ => (outs m c t.val t.isLt).2.o24
    | ⟨25, _⟩ => (outs m c t.val t.isLt).2.o25
    | ⟨26, _⟩ => (outs m c t.val t.isLt).1.o26
    | ⟨27, _⟩ => (outs m c t.val t.isLt).1.o27
    | ⟨28, _⟩ => (outs m c t.val t.isLt).2.o28
    | ⟨29, _⟩ => (outs m c t.val t.isLt).2.o29
    | ⟨30, _⟩ => (outs m c t.val t.isLt).2.o30
    | ⟨31, _⟩ => (outs m c t.val t.isLt).2.o31
    | ⟨_ + 32, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = iblk m c 18 t := by dsimp only [dats]
theorem after19 (c : Dev nD) (t : Fin cfg0.N) : (dats m 0 c).after 19 t = iblk m c 19 t := by dsimp only [dats]
theorem after20 (c : Dev nD) (t : Fin cfg0.N) :
    (dats m 0 c).after 20 t = (outs m c t.val t.isLt).1.o20 := by dsimp only [dats]
theorem after21 (c : Dev nD) (t : Fin cfg0.N) :
    (dats m 0 c).after 21 t = (outs m c t.val t.isLt).2.o21 := by dsimp only [dats]
theorem after22 (c : Dev nD) (t : Fin cfg0.N) :
    (dats m 0 c).after 22 t = (outs m c t.val t.isLt).2.o22 := by dsimp only [dats]
theorem after23 (c : Dev nD) (t : Fin cfg0.N) :
    (dats m 0 c).after 23 t = (outs m c t.val t.isLt).2.o23 := by dsimp only [dats]
theorem after24 (c : Dev nD) (t : Fin cfg0.N) :
    (dats m 0 c).after 24 t = (outs m c t.val t.isLt).2.o24 := by dsimp only [dats]
theorem after25 (c : Dev nD) (t : Fin cfg0.N) :
    (dats m 0 c).after 25 t = (outs m c t.val t.isLt).2.o25 := by dsimp only [dats]
theorem after26 (c : Dev nD) (t : Fin cfg0.N) :
    (dats m 0 c).after 26 t = (outs m c t.val t.isLt).1.o26 := by dsimp only [dats]
theorem after27 (c : Dev nD) (t : Fin cfg0.N) :
    (dats m 0 c).after 27 t = (outs m c t.val t.isLt).1.o27 := by dsimp only [dats]
theorem after28 (c : Dev nD) (t : Fin cfg0.N) :
    (dats m 0 c).after 28 t = (outs m c t.val t.isLt).2.o28 := by dsimp only [dats]
theorem after29 (c : Dev nD) (t : Fin cfg0.N) :
    (dats m 0 c).after 29 t = (outs m c t.val t.isLt).2.o29 := by dsimp only [dats]
theorem after30 (c : Dev nD) (t : Fin cfg0.N) :
    (dats m 0 c).after 30 t = (outs m c t.val t.isLt).2.o30 := by dsimp only [dats]
theorem after31 (c : Dev nD) (t : Fin cfg0.N) :
    (dats m 0 c).after 31 t = (outs m c t.val t.isLt).2.o31 := by dsimp only [dats]

end Cert.KernelIdeal.Run
-- ==== Proof.Points.lean ====
module

public import proofs.«01_k».proof.Proof.Data
public import Idealize.ShloMosaic.Lib.Claim

/-! What every point of the grid finds in each window's buffer and must leave there. -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## Which outputs a point stores into -/

theorem liveA21 : ∀ t : Fin cfg0.N, t.val = 0 → cfg0.idle 21 (grid0.coords t) = false := by decide +kernel
theorem liveA22 : ∀ t : Fin cfg0.N, t.val = 0 → cfg0.idle 22 (grid0.coords t) = false := by decide +kernel
theorem liveA23 : ∀ t : Fin cfg0.N, t.val = 0 → cfg0.idle 23 (grid0.coords t) = false := by decide +kernel
theorem liveA24 : ∀ t : Fin cfg0.N, t.val = 0 → cfg0.idle 24 (grid0.coords t) = false := by decide +kernel
theorem liveA25 : ∀ t : Fin cfg0.N, t.val = 0 → cfg0.idle 25 (grid0.coords t) = false := by decide +kernel
theorem liveA28 : ∀ t : Fin cfg0.N, t.val = 0 → cfg0.idle 28 (grid0.coords t) = false := by decide +kernel
theorem liveA29 : ∀ t : Fin cfg0.N, t.val = 0 → cfg0.idle 29 (grid0.coords t) = false := by decide +kernel
theorem liveA30 : ∀ t : Fin cfg0.N, t.val = 0 → cfg0.idle 30 (grid0.coords t) = false := by decide +kernel
theorem liveA31 : ∀ t : Fin cfg0.N, t.val = 0 → cfg0.idle 31 (grid0.coords t) = false := by decide +kernel
theorem liveB20 : ∀ t : Fin cfg0.N, t.val ≠ 0 → cfg0.idle 20 (grid0.coords t) = false := by decide +kernel
theorem liveB21 : ∀ t : Fin cfg0.N, t.val ≠ 0 → cfg0.idle 21 (grid0.coords t) = false := by decide +kernel
theorem liveB22 : ∀ t : Fin cfg0.N, t.val ≠ 0 → cfg0.idle 22 (grid0.coords t) = false := by decide +kernel
theorem liveB23 : ∀ t : Fin cfg0.N, t.val ≠ 0 → cfg0.idle 23 (grid0.coords t) = false := by decide +kernel
theorem liveB26 : ∀ t : Fin cfg0.N, t.val ≠ 0 → cfg0.idle 26 (grid0.coords t) = false := by decide +kernel
theorem liveB27 : ∀ t : Fin cfg0.N, t.val ≠ 0 → cfg0.idle 27 (grid0.coords t) = false := by decide +kernel
theorem liveB28 : ∀ t : Fin cfg0.N, t.val ≠ 0 → cfg0.idle 28 (grid0.coords t) = false := by decide +kernel
theorem liveB29 : ∀ t : Fin cfg0.N, t.val ≠ 0 → cfg0.idle 29 (grid0.coords t) = false := by decide +kernel
theorem liveB30 : ∀ t : Fin cfg0.N, t.val ≠ 0 → cfg0.idle 30 (grid0.coords t) = false := by decide +kernel
theorem liveB31 : ∀ t : Fin cfg0.N, t.val ≠ 0 → cfg0.idle 31 (grid0.coords t) = false := by decide +kernel
theorem idleA20 : ∀ t : Fin cfg0.N, t.val = 0 → cfg0.idle 20 (grid0.coords t) = true := by decide +kernel
theorem flushA20 : ∀ t : Fin cfg0.N, t.val = 0 → (cfg0.win 20).flush t = false := by decide +kernel
theorem idleA26 : ∀ t : Fin cfg0.N, t.val = 0 → cfg0.idle 26 (grid0.coords t) = true := by decide +kernel
theorem flushA26 : ∀ t : Fin cfg0.N, t.val = 0 → (cfg0.win 26).flush t = false := by decide +kernel
theorem idleA27 : ∀ t : Fin cfg0.N, t.val = 0 → cfg0.idle 27 (grid0.coords t) = true := by decide +kernel
theorem flushA27 : ∀ t : Fin cfg0.N, t.val = 0 → (cfg0.win 27).flush t = false := by decide +kernel

/-- An accumulator's buffer is new before the first point and after its write-back at the last. -/
def newAt : ℕ → Bool
  | 0 => true
  | n + 1 => (0x100 : ℕ).testBit n

theorem newAt_later : ∀ t : Fin cfg0.N, t.val ≠ 0 → newAt t.val = false := by decide +kernel

theorem kept21 (t : Fin cfg0.N) (h : t.val ≠ 0) : cfg0.fresh 21 t.val = false :=
  (Pipeline.Cfg.fresh_tab cfg0 21 newAt rfl (by decide +kernel) t.val (Nat.le_of_lt t.isLt)).trans (newAt_later t h)

theorem kept22 (t : Fin cfg0.N) (h : t.val ≠ 0) : cfg0.fresh 22 t.val = false :=
  (Pipeline.Cfg.fresh_tab cfg0 22 newAt rfl (by decide +kernel) t.val (Nat.le_of_lt t.isLt)).trans (newAt_later t h)

theorem kept23 (t : Fin cfg0.N) (h : t.val ≠ 0) : cfg0.fresh 23 t.val = false :=
  (Pipeline.Cfg.fresh_tab cfg0 23 newAt rfl (by decide +kernel) t.val (Nat.le_of_lt t.isLt)).trans (newAt_later t h)

theorem kept24 (t : Fin cfg0.N) (h : t.val ≠ 0) : cfg0.fresh 24 t.val = false :=
  (Pipeline.Cfg.fresh_tab cfg0 24 newAt rfl (by decide +kernel) t.val (Nat.le_of_lt t.isLt)).trans (newAt_later t h)

theorem kept25 (t : Fin cfg0.N) (h : t.val ≠ 0) : cfg0.fresh 25 t.val = false :=
  (Pipeline.Cfg.fresh_tab cfg0 25 newAt rfl (by decide +kernel) t.val (Nat.le_of_lt t.isLt)).trans (newAt_later t h)

theorem kept28 (t : Fin cfg0.N) (h : t.val ≠ 0) : cfg0.fresh 28 t.val = false :=
  (Pipeline.Cfg.fresh_tab cfg0 28 newAt rfl (by decide +kernel) t.val (Nat.le_of_lt t.isLt)).trans (newAt_later t h)

theorem kept29 (t : Fin cfg0.N) (h : t.val ≠ 0) : cfg0.fresh 29 t.val = false :=
  (Pipeline.Cfg.fresh_tab cfg0 29 newAt rfl (by decide +kernel) t.val (Nat.le_of_lt t.isLt)).trans (newAt_later t h)

theorem kept30 (t : Fin cfg0.N) (h : t.val ≠ 0) : cfg0.fresh 30 t.val = false :=
  (Pipeline.Cfg.fresh_tab cfg0 30 newAt rfl (by decide +kernel) t.val (Nat.le_of_lt t.isLt)).trans (newAt_later t h)

theorem kept31 (t : Fin cfg0.N) (h : t.val ≠ 0) : cfg0.fresh 31 t.val = false :=
  (Pipeline.Cfg.fresh_tab cfg0 31 newAt rfl (by decide +kernel) t.val (Nat.le_of_lt t.isLt)).trans (newAt_later t h)

/-- What the point before left. -/
abbrev prev (c : Dev nD) (t : Fin cfg0.N) : Acc F :=
  (outs m c (t.val - 1) (Nat.lt_of_le_of_lt (Nat.sub_le _ _) t.isLt)).2

theorem notA (t : Fin cfg0.N) (h : t.val ≠ 0) : ¬condA (grid0.coords t) := fun e => h ((condA_iff t).1 e)
theorem notA' (t : Fin cfg0.N) (h : t.val ≠ 0) : ¬condA' (grid0.coords t) := fun e => h ((condA'_iff t).1 e)
theorem isB (t : Fin cfg0.N) (h : t.val ≠ 0) : condB (grid0.coords t) :=
  (condB_iff t).2 (Nat.one_le_iff_ne_zero.2 h)
theorem notB (t : Fin cfg0.N) (h : t.val = 0) : ¬condB (grid0.coords t) := fun e => by
  have := (condB_iff t).1 e; omega

theorem accB24 (c : Dev nD) (i : grid0.Coords) (R : Refs) (x : Ins F) (a : Acc F) (h0 h1 h2) :
    (accB c i R x a h0 h1 h2).o24 = a.o24 := by dsimp only [accB]
theorem stays24 (c : Dev nD) (t : Fin cfg0.N) (h : t.val ≠ 0) : (outs m c t.val t.isLt).2.o24 = (prev m c t).o24 :=
  (congrArg (fun z => z.2.o24) (outs_B m c t h (notA t h) (notA' t h) (isB t h))).trans (accB24 ..)
theorem accB25 (c : Dev nD) (i : grid0.Coords) (R : Refs) (x : Ins F) (a : Acc F) (h0 h1 h2) :
    (accB c i R x a h0 h1 h2).o25 = a.o25 := by dsimp only [accB]
theorem stays25 (c : Dev nD) (t : Fin cfg0.N) (h : t.val ≠ 0) : (outs m c t.val t.isLt).2.o25 = (prev m c t).o25 :=
  (congrArg (fun z => z.2.o25) (outs_B m c t h (notA t h) (notA' t h) (isB t h))).trans (accB25 ..)
theorem carry21 (c : Dev nD) : ∀ (t : Fin cfg0.N) (_ : t.val ≠ 0), cfg0.idle 21 (grid0.coords t) = true →
    cfg0.fresh 21 t.val = false → (dats m 0 c).after 21 t = (dats m 0 c).after 21 ⟨t.val - 1, by omega⟩ := by
  intro t h hi _
  exact absurd (hi.symm.trans (liveB21 t h)) (by decide)

theorem prior21 (c : Dev nD) (t : Fin cfg0.N) (h : t.val ≠ 0) (d) : (dats m 0 c).before 21 t d = (prev m c t).o21 := by
  rw [Dat.before_out_traj _ 21 rfl (fun _ _ => rfl) (carry21 m c) t.val t rfl d,
    if_neg (by rw [kept21 t h]; exact Bool.false_ne_true)]
  dsimp only [dats]

theorem carry22 (c : Dev nD) : ∀ (t : Fin cfg0.N) (_ : t.val ≠ 0), cfg0.idle 22 (grid0.coords t) = true →
    cfg0.fresh 22 t.val = false → (dats m 0 c).after 22 t = (dats m 0 c).after 22 ⟨t.val - 1, by omega⟩ := by
  intro t h hi _
  exact absurd (hi.symm.trans (liveB22 t h)) (by decide)

theorem prior22 (c : Dev nD) (t : Fin cfg0.N) (h : t.val ≠ 0) (d) : (dats m 0 c).before 22 t d = (prev m c t).o22 := by
  rw [Dat.before_out_traj _ 22 rfl (fun _ _ => rfl) (carry22 m c) t.val t rfl d,
    if_neg (by rw [kept22 t h]; exact Bool.false_ne_true)]
  dsimp only [dats]

theorem carry23 (c : Dev nD) : ∀ (t : Fin cfg0.N) (_ : t.val ≠ 0), cfg0.idle 23 (grid0.coords t) = true →
    cfg0.fresh 23 t.val = false → (dats m 0 c).after 23 t = (dats m 0 c).after 23 ⟨t.val - 1, by omega⟩ := by
  intro t h hi _
  exact absurd (hi.symm.trans (liveB23 t h)) (by decide)

theorem prior23 (c : Dev nD) (t : Fin cfg0.N) (h : t.val ≠ 0) (d) : (dats m 0 c).before 23 t d = (prev m c t).o23 := by
  rw [Dat.before_out_traj _ 23 rfl (fun _ _ => rfl) (carry23 m c) t.val t rfl d,
    if_neg (by rw [kept23 t h]; exact Bool.false_ne_true)]
  dsimp only [dats]

theorem carry24 (c : Dev nD) : ∀ (t : Fin cfg0.N) (_ : t.val ≠ 0), cfg0.idle 24 (grid0.coords t) = true →
    cfg0.fresh 24 t.val = false → (dats m 0 c).after 24 t = (dats m 0 c).after 24 ⟨t.val - 1, by omega⟩ := by
  intro t h hi _
  rw [after24, after24]
  exact stays24 m c t h

theorem prior24 (c : Dev nD) (t : Fin cfg0.N) (h : t.val ≠ 0) (d) : (dats m 0 c).before 24 t d = (prev m c t).o24 := by
  rw [Dat.before_out_traj _ 24 rfl (fun _ _ => rfl) (carry24 m c) t.val t rfl d,
    if_neg (by rw [kept24 t h]; exact Bool.false_ne_true)]
  dsimp only [dats]

theorem carry25 (c : Dev nD) : ∀ (t : Fin cfg0.N) (_ : t.val ≠ 0), cfg0.idle 25 (grid0.coords t) = true →
    cfg0.fresh 25 t.val = false → (dats m 0 c).after 25 t = (dats m 0 c).after 25 ⟨t.val - 1, by omega⟩ := by
  intro t h hi _
  rw [after25, after25]
  exact stays25 m c t h

theorem prior25 (c : Dev nD) (t : Fin cfg0.N) (h : t.val ≠ 0) (d) : (dats m 0 c).before 25 t d = (prev m c t).o25 := by
  rw [Dat.before_out_traj _ 25 rfl (fun _ _ => rfl) (carry25 m c) t.val t rfl d,
    if_neg (by rw [kept25 t h]; exact Bool.false_ne_true)]
  dsimp only [dats]

theorem carry28 (c : Dev nD) : ∀ (t : Fin cfg0.N) (_ : t.val ≠ 0), cfg0.idle 28 (grid0.coords t) = true →
    cfg0.fresh 28 t.val = false → (dats m 0 c).after 28 t = (dats m 0 c).after 28 ⟨t.val - 1, by omega⟩ := by
  intro t h hi _
  exact absurd (hi.symm.trans (liveB28 t h)) (by decide)

theorem prior28 (c : Dev nD) (t : Fin cfg0.N) (h : t.val ≠ 0) (d) : (dats m 0 c).before 28 t d = (prev m c t).o28 := by
  rw [Dat.before_out_traj _ 28 rfl (fun _ _ => rfl) (carry28 m c) t.val t rfl d,
    if_neg (by rw [kept28 t h]; exact Bool.false_ne_true)]
  dsimp only [dats]

theorem carry29 (c : Dev nD) : ∀ (t : Fin cfg0.N) (_ : t.val ≠ 0), cfg0.idle 29 (grid0.coords t) = true →
    cfg0.fresh 29 t.val = false → (dats m 0 c).after 29 t = (dats m 0 c).after 29 ⟨t.val - 1, by omega⟩ := by
  intro t h hi _
  exact absurd (hi.symm.trans (liveB29 t h)) (by decide)

theorem prior29 (c : Dev nD) (t : Fin cfg0.N) (h : t.val ≠ 0) (d) : (dats m 0 c).before 29 t d = (prev m c t).o29 := by
  rw [Dat.before_out_traj _ 29 rfl (fun _ _ => rfl) (carry29 m c) t.val t rfl d,
    if_neg (by rw [kept29 t h]; exact Bool.false_ne_true)]
  dsimp only [dats]

theorem carry30 (c : Dev nD) : ∀ (t : Fin cfg0.N) (_ : t.val ≠ 0), cfg0.idle 30 (grid0.coords t) = true →
    cfg0.fresh 30 t.val = false → (dats m 0 c).after 30 t = (dats m 0 c).after 30 ⟨t.val - 1, by omega⟩ := by
  intro t h hi _
  exact absurd (hi.symm.trans (liveB30 t h)) (by decide)

theorem prior30 (c : Dev nD) (t : Fin cfg0.N) (h : t.val ≠ 0) (d) : (dats m 0 c).before 30 t d = (prev m c t).o30 := by
  rw [Dat.before_out_traj _ 30 rfl (fun _ _ => rfl) (carry30 m c) t.val t rfl d,
    if_neg (by rw [kept30 t h]; exact Bool.false_ne_true)]
  dsimp only [dats]

theorem carry31 (c : Dev nD) : ∀ (t : Fin cfg0.N) (_ : t.val ≠ 0), cfg0.idle 31 (grid0.coords t) = true →
    cfg0.fresh 31 t.val = false → (dats m 0 c).after 31 t = (dats m 0 c).after 31 ⟨t.val - 1, by omega⟩ := by
  intro t h hi _
  exact absurd (hi.symm.trans (liveB31 t h)) (by decide)

theorem prior31 (c : Dev nD) (t : Fin cfg0.N) (h : t.val ≠ 0) (d) : (dats m 0 c).before 31 t d = (prev m c t).o31 := by
  rw [Dat.before_out_traj _ 31 rfl (fun _ _ => rfl) (carry31 m c) t.val t rfl d,
    if_neg (by rw [kept31 t h]; exact Bool.false_ne_true)]
  dsimp only [dats]

theorem pre0 (c : Dev nD) (t : Fin cfg0.N) (d) : (dats m 0 c).before 0 t d = (insAt m c t).x0 :=
  before0_0_of m (dats m 0 c) (A_eq m c 0) (after0 m c) t d
theorem pre1 (c : Dev nD) (t : Fin cfg0.N) (d) : (dats m 0 c).before 1 t d = (insAt m c t).x1 :=
  before0_1_of m (dats m 0 c) (A_eq m c 1) (after1 m c) t d
theorem pre2 (c : Dev nD) (t : Fin cfg0.N) (d) : (dats m 0 c).before 2 t d = (insAt m c t).x2 :=
  before0_2_of m (dats m 0 c) (A_eq m c 2) (after2 m c) t d
theorem pre3 (c : Dev nD) (t : Fin cfg0.N) (d) : (dats m 0 c).before 3 t d = (insAt m c t).x3 :=
  before0_3_of m (dats m 0 c) (A_eq m c 3) (after3 m c) t d
theorem pre4 (c : Dev nD) (t : Fin cfg0.N) (d) : (dats m 0 c).before 4 t d = (insAt m c t).x4 :=
  before0_4_of m (dats m 0 c) (A_eq m c 4) (after4 m c) t d
theorem pre5 (c : Dev nD) (t : Fin cfg0.N) (d) : (dats m 0 c).before 5 t d = (insAt m c t).x5 :=
  before0_5_of m (dats m 0 c) (A_eq m c 5) (after5 m c) t d
theorem pre6 (c : Dev nD) (t : Fin cfg0.N) (d) : (dats m 0 c).before 6 t d = (insAt m c t).x6 :=
  before0_6_of m (dats m 0 c) (A_eq m c 6) (after6 m c) t d
theorem pre7 (c : Dev nD) (t : Fin cfg0.N) (d) : (dats m 0 c).before 7 t d = (insAt m c t).x7 :=
  before0_7_of m (dats m 0 c) (A_eq m c 7) (after7 m c) t d
theorem pre8 (c : Dev nD) (t : Fin cfg0.N) (d) : (dats m 0 c).before 8 t d = (insAt m c t).x8 :=
  before0_8_of m (dats m 0 c) (A_eq m c 8) (after8 m c) t d
theorem pre9 (c : Dev nD) (t : Fin cfg0.N) (d) : (dats m 0 c).before 9 t d = (insAt m c t).x9 :=
  before0_9_of m (dats m 0 c) (A_eq m c 9) (after9 m c) t d
theorem pre10 (c : Dev nD) (t : Fin cfg0.N) (d) : (dats m 0 c).before 10 t d = (insAt m c t).x10 :=
  before0_10_of m (dats m 0 c) (A_eq m c 10) (after10 m c) t d
theorem pre11 (c : Dev nD) (t : Fin cfg0.N) (d) : (dats m 0 c).before 11 t d = (insAt m c t).x11 :=
  before0_11_of m (dats m 0 c) (A_eq m c 11) (after11 m c) t d
theorem pre12 (c : Dev nD) (t : Fin cfg0.N) (d) : (dats m 0 c).before 12 t d = (insAt m c t).x12 :=
  before0_12_of m (dats m 0 c) (A_eq m c 12) (after12 m c) t d
theorem pre13 (c : Dev nD) (t : Fin cfg0.N) (d) : (dats m 0 c).before 13 t d = (insAt m c t).x13 :=
  before0_13_of m (dats m 0 c) (A_eq m c 13) (after13 m c) t d
theorem pre14 (c : Dev nD) (t : Fin cfg0.N) (d) : (dats m 0 c).before 14 t d = (insAt m c t).x14 :=
  before0_14_of m (dats m 0 c) (A_eq m c 14) (after14 m c) t d
theorem pre15 (c : Dev nD) (t : Fin cfg0.N) (d) : (dats m 0 c).before 15 t d = (insAt m c t).x15 :=
  before0_15_of m (dats m 0 c) (A_eq m c 15) (after15 m c) t d
theorem pre16 (c : Dev nD) (t : Fin cfg0.N) (d) : (dats m 0 c).before 16 t d = (insAt m c t).x16 :=
  before0_16_of m (dats m 0 c) (A_eq m c 16) (after16 m c) t d
theorem pre17 (c : Dev nD) (t : Fin cfg0.N) (d) : (dats m 0 c).before 17 t d = (insAt m c t).x17 :=
  before0_17_of m (dats m 0 c) (A_eq m c 17) (after17 m c) t d
theorem pre18 (c : Dev nD) (t : Fin cfg0.N) (d) : (dats m 0 c).before 18 t d = (insAt m c t).x18 :=
  before0_18_of m (dats m 0 c) (A_eq m c 18) (after18 m c) t d
theorem pre19 (c : Dev nD) (t : Fin cfg0.N) (d) : (dats m 0 c).before 19 t d = (insAt m c t).x19 :=
  before0_19_of m (dats m 0 c) (A_eq m c 19) (after19 m c) t d

/-! ## What a point must leave -/

theorem leaves_live {c : Dev nD} (dat : Dat τ (Elt F) Unit ℕ (UR sig nD τ) ℕ cfg0 c) (w : Fin cfg0.W) (t : Fin cfg0.N)
    (h : cfg0.idle w (cfg0.grid.coords t) = false) : (dat.leavesExact w t : sProp 𝕄) =
      owns (c : Thread nD τ) ((cfg0.win w).stage (cfg0.slots t w)) fullShare (dat.after w t) := by
  unfold Dat.leavesExact; rw [h]

theorem leaves_stay {c : Dev nD} (dat : Dat τ (Elt F) Unit ℕ (UR sig nD τ) ℕ cfg0 c) (w : Fin cfg0.W) (t : Fin cfg0.N)
    (d₀ : (cfg0.win w).block.Idx → Elt F (cfg0.win w).elt) (h : ∀ d, dat.before w t d = dat.after w t) :
    (owns (c : Thread nD τ) ((cfg0.win w).stage (cfg0.slots t w)) fullShare (dat.after w t) : sProp 𝕄)
      ⊢ dat.leavesExact w t := by
  cases hi : cfg0.idle w (cfg0.grid.coords t) with
  | false => rw [leaves_live dat w t hi]
  | true =>
    cases hf : (cfg0.win w).flush t with
    | false =>
      rw [Dat.leavesExact_idle dat w t hi hf, ← h d₀]
      iintro H; iexists d₀; iexact H
    | true => unfold Dat.leavesExact; rw [hi, hf]

theorem post0 (c : Dev nD) (t : Fin cfg0.N) : ((dats m 0 c).leavesExact 0 t : sProp 𝕄) =
    owns (c : Thread nD τ) (refsAt t).a1 fullShare (insAt m c t).x0 :=
  (leaves_live (dats m 0 c) 0 t rfl).trans (by rw [after0]; exact rfl)
theorem post1 (c : Dev nD) (t : Fin cfg0.N) : ((dats m 0 c).leavesExact 1 t : sProp 𝕄) =
    owns (c : Thread nD τ) (refsAt t).a2 fullShare (insAt m c t).x1 :=
  (leaves_live (dats m 0 c) 1 t rfl).trans (by rw [after1]; exact rfl)
theorem post2 (c : Dev nD) (t : Fin cfg0.N) : ((dats m 0 c).leavesExact 2 t : sProp 𝕄) =
    owns (c : Thread nD τ) (refsAt t).a3 fullShare (insAt m c t).x2 :=
  (leaves_live (dats m 0 c) 2 t rfl).trans (by rw [after2]; exact rfl)
theorem post3 (c : Dev nD) (t : Fin cfg0.N) : ((dats m 0 c).leavesExact 3 t : sProp 𝕄) =
    owns (c : Thread nD τ) (refsAt t).a4 fullShare (insAt m c t).x3 :=
  (leaves_live (dats m 0 c) 3 t rfl).trans (by rw [after3]; exact rfl)
theorem post4 (c : Dev nD) (t : Fin cfg0.N) : ((dats m 0 c).leavesExact 4 t : sProp 𝕄) =
    owns (c : Thread nD τ) (refsAt t).a5 fullShare (insAt m c t).x4 :=
  (leaves_live (dats m 0 c) 4 t rfl).trans (by rw [after4]; exact rfl)
theorem post5 (c : Dev nD) (t : Fin cfg0.N) : ((dats m 0 c).leavesExact 5 t : sProp 𝕄) =
    owns (c : Thread nD τ) (refsAt t).a6 fullShare (insAt m c t).x5 :=
  (leaves_live (dats m 0 c) 5 t rfl).trans (by rw [after5]; exact rfl)
theorem post6 (c : Dev nD) (t : Fin cfg0.N) : ((dats m 0 c).leavesExact 6 t : sProp 𝕄) =
    owns (c : Thread nD τ) (refsAt t).a7 fullShare (insAt m c t).x6 :=
  (leaves_live (dats m 0 c) 6 t rfl).trans (by rw [after6]; exact rfl)
theorem post7 (c : Dev nD) (t : Fin cfg0.N) : ((dats m 0 c).leavesExact 7 t : sProp 𝕄) =
    owns (c : Thread nD τ) (refsAt t).a8 fullShare (insAt m c t).x7 :=
  (leaves_live (dats m 0 c) 7 t rfl).trans (by rw [after7]; exact rfl)
theorem post8 (c : Dev nD) (t : Fin cfg0.N) : ((dats m 0 c).leavesExact 8 t : sProp 𝕄) =
    owns (c : Thread nD τ) (refsAt t).a9 fullShare (insAt m c t).x8 :=
  (leaves_live (dats m 0 c) 8 t rfl).trans (by rw [after8]; exact rfl)
theorem post9 (c : Dev nD) (t : Fin cfg0.N) : ((dats m 0 c).leavesExact 9 t : sProp 𝕄) =
    owns (c : Thread nD τ) (refsAt t).a10 fullShare (insAt m c t).x9 :=
  (leaves_live (dats m 0 c) 9 t rfl).trans (by rw [after9]; exact rfl)
theorem post10 (c : Dev nD) (t : Fin cfg0.N) : ((dats m 0 c).leavesExact 10 t : sProp 𝕄) =
    owns (c : Thread nD τ) (refsAt t).a11 fullShare (insAt m c t).x10 :=
  (leaves_live (dats m 0 c) 10 t rfl).trans (by rw [after10]; exact rfl)
theorem post11 (c : Dev nD) (t : Fin cfg0.N) : ((dats m 0 c).leavesExact 11 t : sProp 𝕄) =
    owns (c : Thread nD τ) (refsAt t).a12 fullShare (insAt m c t).x11 :=
  (leaves_live (dats m 0 c) 11 t rfl).trans (by rw [after11]; exact rfl)
theorem post12 (c : Dev nD) (t : Fin cfg0.N) : ((dats m 0 c).leavesExact 12 t : sProp 𝕄) =
    owns (c : Thread nD τ) (refsAt t).a13 fullShare (insAt m c t).x12 :=
  (leaves_live (dats m 0 c) 12 t rfl).trans (by rw [after12]; exact rfl)
theorem post13 (c : Dev nD) (t : Fin cfg0.N) : ((dats m 0 c).leavesExact 13 t : sProp 𝕄) =
    owns (c : Thread nD τ) (refsAt t).a14 fullShare (insAt m c t).x13 :=
  (leaves_live (dats m 0 c) 13 t rfl).trans (by rw [after13]; exact rfl)
theorem post14 (c : Dev nD) (t : Fin cfg0.N) : ((dats m 0 c).leavesExact 14 t : sProp 𝕄) =
    owns (c : Thread nD τ) (refsAt t).a15 fullShare (insAt m c t).x14 :=
  (leaves_live (dats m 0 c) 14 t rfl).trans (by rw [after14]; exact rfl)
theorem post15 (c : Dev nD) (t : Fin cfg0.N) : ((dats m 0 c).leavesExact 15 t : sProp 𝕄) =
    owns (c : Thread nD τ) (refsAt t).a16 fullShare (insAt m c t).x15 :=
  (leaves_live (dats m 0 c) 15 t rfl).trans (by rw [after15]; exact rfl)
theorem post16 (c : Dev nD) (t : Fin cfg0.N) : ((dats m 0 c).leavesExact 16 t : sProp 𝕄) =
    owns (c : Thread nD τ) (refsAt t).a17 fullShare (insAt m c t).x16 :=
  (leaves_live (dats m 0 c) 16 t rfl).trans (by rw [after16]; exact rfl)
theorem post17 (c : Dev nD) (t : Fin cfg0.N) : ((dats m 0 c).leavesExact 17 t : sProp 𝕄) =
    owns (c : Thread nD τ) (refsAt t).a18 fullShare (insAt m c t).x17 :=
  (leaves_live (dats m 0 c) 17 t rfl).trans (by rw [after17]; exact rfl)
theorem post18 (c : Dev nD) (t : Fin cfg0.N) : ((dats m 0 c).leavesExact 18 t : sProp 𝕄) =
    owns (c : Thread nD τ) (refsAt t).a19 fullShare (insAt m c t).x18 :=
  (leaves_live (dats m 0 c) 18 t rfl).trans (by rw [after18]; exact rfl)
theorem post19 (c : Dev nD) (t : Fin cfg0.N) : ((dats m 0 c).leavesExact 19 t : sProp 𝕄) =
    owns (c : Thread nD τ) (refsAt t).a20 fullShare (insAt m c t).x19 :=
  (leaves_live (dats m 0 c) 19 t rfl).trans (by rw [after19]; exact rfl)

/-- The accumulators the first point leaves. -/
abbrev newA (c : Dev nD) (t : Fin cfg0.N) (h : t.val = 0) : Acc F :=
  accA c (grid0.coords t) (refsAt t) (insAt m c t) (til0 (insAt m c t)) ((condA_iff t).2 h) ((condA'_iff t).2 h) (notB t h)

/-- The accumulators a later point leaves. -/
abbrev newB (c : Dev nD) (t : Fin cfg0.N) (h : t.val ≠ 0) : Acc F :=
  accB c (grid0.coords t) (refsAt t) (insAt m c t) (prev m c t) (notA t h) (notA' t h) (isB t h)

/-- The tiles a later point leaves. -/
abbrev tileB (c : Dev nD) (t : Fin cfg0.N) (h : t.val ≠ 0) : Til F :=
  tilB c (grid0.coords t) (refsAt t) (insAt m c t) (prev m c t) (notA t h) (notA' t h) (isB t h)

theorem postA21 (c : Dev nD) (t : Fin cfg0.N) (h : t.val = 0) : ((dats m 0 c).leavesExact 21 t : sProp 𝕄) =
    owns (c : Thread nD τ) (refsAt t).a22 fullShare (newA m c t h).o21 :=
  (leaves_live (dats m 0 c) 21 t (liveA21 t h)).trans (by
    rw [after21, outs_A m c t h ((condA_iff t).2 h) ((condA'_iff t).2 h) (notB t h)]; exact rfl)
theorem postA22 (c : Dev nD) (t : Fin cfg0.N) (h : t.val = 0) : ((dats m 0 c).leavesExact 22 t : sProp 𝕄) =
    owns (c : Thread nD τ) (refsAt t).a23 fullShare (newA m c t h).o22 :=
  (leaves_live (dats m 0 c) 22 t (liveA22 t h)).trans (by
    rw [after22, outs_A m c t h ((condA_iff t).2 h) ((condA'_iff t).2 h) (notB t h)]; exact rfl)
theorem postA23 (c : Dev nD) (t : Fin cfg0.N) (h : t.val = 0) : ((dats m 0 c).leavesExact 23 t : sProp 𝕄) =
    owns (c : Thread nD τ) (refsAt t).a24 fullShare (newA m c t h).o23 :=
  (leaves_live (dats m 0 c) 23 t (liveA23 t h)).trans (by
    rw [after23, outs_A m c t h ((condA_iff t).2 h) ((condA'_iff t).2 h) (notB t h)]; exact rfl)
theorem postA24 (c : Dev nD) (t : Fin cfg0.N) (h : t.val = 0) : ((dats m 0 c).leavesExact 24 t : sProp 𝕄) =
    owns (c : Thread nD τ) (refsAt t).a25 fullShare (newA m c t h).o24 :=
  (leaves_live (dats m 0 c) 24 t (liveA24 t h)).trans (by
    rw [after24, outs_A m c t h ((condA_iff t).2 h) ((condA'_iff t).2 h) (notB t h)]; exact rfl)
theorem postA25 (c : Dev nD) (t : Fin cfg0.N) (h : t.val = 0) : ((dats m 0 c).leavesExact 25 t : sProp 𝕄) =
    owns (c : Thread nD τ) (refsAt t).a26 fullShare (newA m c t h).o25 :=
  (leaves_live (dats m 0 c) 25 t (liveA25 t h)).trans (by
    rw [after25, outs_A m c t h ((condA_iff t).2 h) ((condA'_iff t).2 h) (notB t h)]; exact rfl)
theorem postA28 (c : Dev nD) (t : Fin cfg0.N) (h : t.val = 0) : ((dats m 0 c).leavesExact 28 t : sProp 𝕄) =
    owns (c : Thread nD τ) (refsAt t).a29 fullShare (newA m c t h).o28 :=
  (leaves_live (dats m 0 c) 28 t (liveA28 t h)).trans (by
    rw [after28, outs_A m c t h ((condA_iff t).2 h) ((condA'_iff t).2 h) (notB t h)]; exact rfl)
theorem postA29 (c : Dev nD) (t : Fin cfg0.N) (h : t.val = 0) : ((dats m 0 c).leavesExact 29 t : sProp 𝕄) =
    owns (c : Thread nD τ) (refsAt t).a30 fullShare (newA m c t h).o29 :=
  (leaves_live (dats m 0 c) 29 t (liveA29 t h)).trans (by
    rw [after29, outs_A m c t h ((condA_iff t).2 h) ((condA'_iff t).2 h) (notB t h)]; exact rfl)
theorem postA30 (c : Dev nD) (t : Fin cfg0.N) (h : t.val = 0) : ((dats m 0 c).leavesExact 30 t : sProp 𝕄) =
    owns (c : Thread nD τ) (refsAt t).a31 fullShare (newA m c t h).o30 :=
  (leaves_live (dats m 0 c) 30 t (liveA30 t h)).trans (by
    rw [after30, outs_A m c t h ((condA_iff t).2 h) ((condA'_iff t).2 h) (notB t h)]; exact rfl)
theorem postA31 (c : Dev nD) (t : Fin cfg0.N) (h : t.val = 0) : ((dats m 0 c).leavesExact 31 t : sProp 𝕄) =
    owns (c : Thread nD τ) (refsAt t).a32 fullShare (newA m c t h).o31 :=
  (leaves_live (dats m 0 c) 31 t (liveA31 t h)).trans (by
    rw [after31, outs_A m c t h ((condA_iff t).2 h) ((condA'_iff t).2 h) (notB t h)]; exact rfl)
theorem postB20 (c : Dev nD) (t : Fin cfg0.N) (h : t.val ≠ 0) : ((dats m 0 c).leavesExact 20 t : sProp 𝕄) =
    owns (c : Thread nD τ) (refsAt t).a21 fullShare (tileB m c t h).o20 :=
  (leaves_live (dats m 0 c) 20 t (liveB20 t h)).trans (by
    rw [after20, outs_B m c t h (notA t h) (notA' t h) (isB t h)]; exact rfl)
theorem postB21 (c : Dev nD) (t : Fin cfg0.N) (h : t.val ≠ 0) : ((dats m 0 c).leavesExact 21 t : sProp 𝕄) =
    owns (c : Thread nD τ) (refsAt t).a22 fullShare (newB m c t h).o21 :=
  (leaves_live (dats m 0 c) 21 t (liveB21 t h)).trans (by
    rw [after21, outs_B m c t h (notA t h) (notA' t h) (isB t h)]; exact rfl)
theorem postB22 (c : Dev nD) (t : Fin cfg0.N) (h : t.val ≠ 0) : ((dats m 0 c).leavesExact 22 t : sProp 𝕄) =
    owns (c : Thread nD τ) (refsAt t).a23 fullShare (newB m c t h).o22 :=
  (leaves_live (dats m 0 c) 22 t (liveB22 t h)).trans (by
    rw [after22, outs_B m c t h (notA t h) (notA' t h) (isB t h)]; exact rfl)
theorem postB23 (c : Dev nD) (t : Fin cfg0.N) (h : t.val ≠ 0) : ((dats m 0 c).leavesExact 23 t : sProp 𝕄) =
    owns (c : Thread nD τ) (refsAt t).a24 fullShare (newB m c t h).o23 :=
  (leaves_live (dats m 0 c) 23 t (liveB23 t h)).trans (by
    rw [after23, outs_B m c t h (notA t h) (notA' t h) (isB t h)]; exact rfl)
theorem postB26 (c : Dev nD) (t : Fin cfg0.N) (h : t.val ≠ 0) : ((dats m 0 c).leavesExact 26 t : sProp 𝕄) =
    owns (c : Thread nD τ) (refsAt t).a27 fullShare (tileB m c t h).o26 :=
  (leaves_live (dats m 0 c) 26 t (liveB26 t h)).trans (by
    rw [after26, outs_B m c t h (notA t h) (notA' t h) (isB t h)]; exact rfl)
theorem postB27 (c : Dev nD) (t : Fin cfg0.N) (h : t.val ≠ 0) : ((dats m 0 c).leavesExact 27 t : sProp 𝕄) =
    owns (c : Thread nD τ) (refsAt t).a28 fullShare (tileB m c t h).o27 :=
  (leaves_live (dats m 0 c) 27 t (liveB27 t h)).trans (by
    rw [after27, outs_B m c t h (notA t h) (notA' t h) (isB t h)]; exact rfl)
theorem postB28 (c : Dev nD) (t : Fin cfg0.N) (h : t.val ≠ 0) : ((dats m 0 c).leavesExact 28 t : sProp 𝕄) =
    owns (c : Thread nD τ) (refsAt t).a29 fullShare (newB m c t h).o28 :=
  (leaves_live (dats m 0 c) 28 t (liveB28 t h)).trans (by
    rw [after28, outs_B m c t h (notA t h) (notA' t h) (isB t h)]; exact rfl)
theorem postB29 (c : Dev nD) (t : Fin cfg0.N) (h : t.val ≠ 0) : ((dats m 0 c).leavesExact 29 t : sProp 𝕄) =
    owns (c : Thread nD τ) (refsAt t).a30 fullShare (newB m c t h).o29 :=
  (leaves_live (dats m 0 c) 29 t (liveB29 t h)).trans (by
    rw [after29, outs_B m c t h (notA t h) (notA' t h) (isB t h)]; exact rfl)
theorem postB30 (c : Dev nD) (t : Fin cfg0.N) (h : t.val ≠ 0) : ((dats m 0 c).leavesExact 30 t : sProp 𝕄) =
    owns (c : Thread nD τ) (refsAt t).a31 fullShare (newB m c t h).o30 :=
  (leaves_live (dats m 0 c) 30 t (liveB30 t h)).trans (by
    rw [after30, outs_B m c t h (notA t h) (notA' t h) (isB t h)]; exact rfl)
theorem postB31 (c : Dev nD) (t : Fin cfg0.N) (h : t.val ≠ 0) : ((dats m 0 c).leavesExact 31 t : sProp 𝕄) =
    owns (c : Thread nD τ) (refsAt t).a32 fullShare (newB m c t h).o31 :=
  (leaves_live (dats m 0 c) 31 t (liveB31 t h)).trans (by
    rw [after31, outs_B m c t h (notA t h) (notA' t h) (isB t h)]; exact rfl)
theorem postA20 (c : Dev nD) (t : Fin cfg0.N) (h : t.val = 0) : ((dats m 0 c).leavesExact 20 t : sProp 𝕄) =
    iprop(∃ d, owns (c : Thread nD τ) (refsAt t).a21 fullShare ((dats m 0 c).before 20 t d)) :=
  Dat.leavesExact_idle (dats m 0 c) 20 t (idleA20 t h) (flushA20 t h)
theorem postA26 (c : Dev nD) (t : Fin cfg0.N) (h : t.val = 0) : ((dats m 0 c).leavesExact 26 t : sProp 𝕄) =
    iprop(∃ d, owns (c : Thread nD τ) (refsAt t).a27 fullShare ((dats m 0 c).before 26 t d)) :=
  Dat.leavesExact_idle (dats m 0 c) 26 t (idleA26 t h) (flushA26 t h)
theorem postA27 (c : Dev nD) (t : Fin cfg0.N) (h : t.val = 0) : ((dats m 0 c).leavesExact 27 t : sProp 𝕄) =
    iprop(∃ d, owns (c : Thread nD τ) (refsAt t).a28 fullShare ((dats m 0 c).before 27 t d)) :=
  Dat.leavesExact_idle (dats m 0 c) 27 t (idleA27 t h) (flushA27 t h)
theorem postB24 (c : Dev nD) (t : Fin cfg0.N) (h : t.val ≠ 0) :
    (owns (c : Thread nD τ) (refsAt t).a25 fullShare (prev m c t).o24 : sProp 𝕄) ⊢ (dats m 0 c).leavesExact 24 t := by
  have e : (dats m 0 c).after 24 t = (prev m c t).o24 := (after24 m c t).trans (stays24 m c t h)
  have k := leaves_stay (dats m 0 c) 24 t (prev m c t).o24 (fun d => (prior24 m c t h d).trans e.symm)
  rw [e] at k
  exact k
theorem postB25 (c : Dev nD) (t : Fin cfg0.N) (h : t.val ≠ 0) :
    (owns (c : Thread nD τ) (refsAt t).a26 fullShare (prev m c t).o25 : sProp 𝕄) ⊢ (dats m 0 c).leavesExact 25 t := by
  have e : (dats m 0 c).after 25 t = (prev m c t).o25 := (after25 m c t).trans (stays25 m c t h)
  have k := leaves_stay (dats m 0 c) 25 t (prev m c t).o25 (fun d => (prior25 m c t h d).trans e.symm)
  rw [e] at k
  exact k

theorem inv_eq (c : Dev nD) : (Pipeline.ΦA spec0 c : sProp 𝕄) =
    iprop(iprop((∃ d, owns (c : Thread nD τ) (Memref.whole cc0_scratch0) fullShare d) ∗
      (∃ d, owns (c : Thread nD τ) (Memref.whole cc0_scratch1) fullShare d)) ∗ (∃ r, prngReg c r)) := by
  unfold Pipeline.ΦA; rw [scopedRest0_eq]; simp only [owns_whole]; try rfl

/-- What the body is given at a point. -/
def givenAt (c : Dev nD) (t : Fin cfg0.N) : sProp 𝕄 :=
  iprop((dats m 0 c).Φ t.castSucc ∗ (dats m 0 c).owesAt () t.castSucc
    ∗ (∃ d, owns (c : Thread nD τ) (refsAt t).a1 fullShare ((dats m 0 c).before 0 t d))
    ∗ (∃ d, owns (c : Thread nD τ) (refsAt t).a2 fullShare ((dats m 0 c).before 1 t d))
    ∗ (∃ d, owns (c : Thread nD τ) (refsAt t).a3 fullShare ((dats m 0 c).before 2 t d))
    ∗ (∃ d, owns (c : Thread nD τ) (refsAt t).a4 fullShare ((dats m 0 c).before 3 t d))
    ∗ (∃ d, owns (c : Thread nD τ) (refsAt t).a5 fullShare ((dats m 0 c).before 4 t d))
    ∗ (∃ d, owns (c : Thread nD τ) (refsAt t).a6 fullShare ((dats m 0 c).before 5 t d))
    ∗ (∃ d, owns (c : Thread nD τ) (refsAt t).a7 fullShare ((dats m 0 c).before 6 t d))
    ∗ (∃ d, owns (c : Thread nD τ) (refsAt t).a8 fullShare ((dats m 0 c).before 7 t d))
    ∗ (∃ d, owns (c : Thread nD τ) (refsAt t).a9 fullShare ((dats m 0 c).before 8 t d))
    ∗ (∃ d, owns (c : Thread nD τ) (refsAt t).a10 fullShare ((dats m 0 c).before 9 t d))
    ∗ (∃ d, owns (c : Thread nD τ) (refsAt t).a11 fullShare ((dats m 0 c).before 10 t d))
    ∗ (∃ d, owns (c : Thread nD τ) (refsAt t).a12 fullShare ((dats m 0 c).before 11 t d))
    ∗ (∃ d, owns (c : Thread nD τ) (refsAt t).a13 fullShare ((dats m 0 c).before 12 t d))
    ∗ (∃ d, owns (c : Thread nD τ) (refsAt t).a14 fullShare ((dats m 0 c).before 13 t d))
    ∗ (∃ d, owns (c : Thread nD τ) (refsAt t).a15 fullShare ((dats m 0 c).before 14 t d))
    ∗ (∃ d, owns (c : Thread nD τ) (refsAt t).a16 fullShare ((dats m 0 c).before 15 t d))
    ∗ (∃ d, owns (c : Thread nD τ) (refsAt t).a17 fullShare ((dats m 0 c).before 16 t d))
    ∗ (∃ d, owns (c : Thread nD τ) (refsAt t).a18 fullShare ((dats m 0 c).before 17 t d))
    ∗ (∃ d, owns (c : Thread nD τ) (refsAt t).a19 fullShare ((dats m 0 c).before 18 t d))
    ∗ (∃ d, owns (c : Thread nD τ) (refsAt t).a20 fullShare ((dats m 0 c).before 19 t d))
    ∗ (∃ d, owns (c : Thread nD τ) (refsAt t).a21 fullShare ((dats m 0 c).before 20 t d))
    ∗ (∃ d, owns (c : Thread nD τ) (refsAt t).a22 fullShare ((dats m 0 c).before 21 t d))
    ∗ (∃ d, owns (c : Thread nD τ) (refsAt t).a23 fullShare ((dats m 0 c).before 22 t d))
    ∗ (∃ d, owns (c : Thread nD τ) (refsAt t).a24 fullShare ((dats m 0 c).before 23 t d))
    ∗ (∃ d, owns (c : Thread nD τ) (refsAt t).a25 fullShare ((dats m 0 c).before 24 t d))
    ∗ (∃ d, owns (c : Thread nD τ) (refsAt t).a26 fullShare ((dats m 0 c).before 25 t d))
    ∗ (∃ d, owns (c : Thread nD τ) (refsAt t).a27 fullShare ((dats m 0 c).before 26 t d))
    ∗ (∃ d, owns (c : Thread nD τ) (refsAt t).a28 fullShare ((dats m 0 c).before 27 t d))
    ∗ (∃ d, owns (c : Thread nD τ) (refsAt t).a29 fullShare ((dats m 0 c).before 28 t d))
    ∗ (∃ d, owns (c : Thread nD τ) (refsAt t).a30 fullShare ((dats m 0 c).before 29 t d))
    ∗ (∃ d, owns (c : Thread nD τ) (refsAt t).a31 fullShare ((dats m 0 c).before 30 t d))
    ∗ (∃ d, owns (c : Thread nD τ) (refsAt t).a32 fullShare ((dats m 0 c).before 31 t d)))

/-- What it must leave. -/
def leftAt (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t
    ∗ (dats m 0 c).leavesExact 27 t
    ∗ (dats m 0 c).leavesExact 28 t
    ∗ (dats m 0 c).leavesExact 29 t
    ∗ (dats m 0 c).leavesExact 30 t
    ∗ (dats m 0 c).leavesExact 31 t)

end Cert.KernelIdeal.Run
-- ==== Proof.Leave.lean ====
module

public import proofs.«01_k».proof.Proof.Data
public import Idealize.ShloMosaic.Lib.Claim

/-! What a point's run wrote into each output's buffer is what the proof data say it leaves. -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A buffer that was written all over holds what its writes say. -/
theorem owns_canon {sp s e} (c : Dev nD) (M : Memref sig .tc sp s e) (L : List (View.Piece (Elt F) s e))
    (h : ∀ y, ∃ p ∈ L, y ∈ p.1.set) (d : s.Idx → Elt F e) (hd : d = View.canon L) :
    iprop(∃ f, M.view.loc (c : Thread nD τ) ↦[M.view.set]{fullShare} M.view.writes (Elt F) f L) ⊢
      (owns (c : Thread nD τ) M fullShare d : sProp 𝕄) := by
  iintro ⟨%f, H⟩
  unfold owns; iexists _; isplitr; swap; · iexact H
  ipureintro; exact (View.read_writes_eq_canon _ _ _ h).trans hd.symm

variable (c : Dev nD) (i : grid0.Coords) (R : Refs) (x : Ins F)

theorem eqA21 (z' z : Til F) (h0 h1 h2) : (accA c i R x z' h0 h1 h2).o21 = View.canon (runA c i R x z h0 h1 h2).1 := by
  sl_kernel_rfl
theorem leaveA21 (z' z : Til F) (h0 h1 h2) :
    iprop(∃ f, R.a22.view.loc (c : Thread nD τ) ↦[R.a22.view.set]{fullShare} R.a22.view.writes (Elt F) f (runA c i R x z h0 h1 h2).1) ⊢
      (owns (c : Thread nD τ) R.a22 fullShare (accA c i R x z' h0 h1 h2).o21 : sProp 𝕄) :=
  owns_canon c R.a22 _ (covA21 c i R x z h0 h1 h2) _ (eqA21 c i R x z' z h0 h1 h2)
theorem eqA22 (z' z : Til F) (h0 h1 h2) : (accA c i R x z' h0 h1 h2).o22 = View.canon (runA c i R x z h0 h1 h2).2.1 := by
  sl_kernel_rfl
theorem leaveA22 (z' z : Til F) (h0 h1 h2) :
    iprop(∃ f, R.a23.view.loc (c : Thread nD τ) ↦[R.a23.view.set]{fullShare} R.a23.view.writes (Elt F) f (runA c i R x z h0 h1 h2).2.1) ⊢
      (owns (c : Thread nD τ) R.a23 fullShare (accA c i R x z' h0 h1 h2).o22 : sProp 𝕄) :=
  owns_canon c R.a23 _ (covA22 c i R x z h0 h1 h2) _ (eqA22 c i R x z' z h0 h1 h2)
theorem eqA23 (z' z : Til F) (h0 h1 h2) : (accA c i R x z' h0 h1 h2).o23 = View.canon (runA c i R x z h0 h1 h2).2.2.1 := by
  sl_kernel_rfl
theorem leaveA23 (z' z : Til F) (h0 h1 h2) :
    iprop(∃ f, R.a24.view.loc (c : Thread nD τ) ↦[R.a24.view.set]{fullShare} R.a24.view.writes (Elt F) f (runA c i R x z h0 h1 h2).2.2.1) ⊢
      (owns (c : Thread nD τ) R.a24 fullShare (accA c i R x z' h0 h1 h2).o23 : sProp 𝕄) :=
  owns_canon c R.a24 _ (covA23 c i R x z h0 h1 h2) _ (eqA23 c i R x z' z h0 h1 h2)
theorem eqA24 (z' z : Til F) (h0 h1 h2) : (accA c i R x z' h0 h1 h2).o24 = View.canon (runA c i R x z h0 h1 h2).2.2.2.1 := by
  sl_kernel_rfl
theorem leaveA24 (z' z : Til F) (h0 h1 h2) :
    iprop(∃ f, R.a25.view.loc (c : Thread nD τ) ↦[R.a25.view.set]{fullShare} R.a25.view.writes (Elt F) f (runA c i R x z h0 h1 h2).2.2.2.1) ⊢
      (owns (c : Thread nD τ) R.a25 fullShare (accA c i R x z' h0 h1 h2).o24 : sProp 𝕄) :=
  owns_canon c R.a25 _ (covA24 c i R x z h0 h1 h2) _ (eqA24 c i R x z' z h0 h1 h2)
theorem eqA25 (z' z : Til F) (h0 h1 h2) : (accA c i R x z' h0 h1 h2).o25 = View.canon (runA c i R x z h0 h1 h2).2.2.2.2.1 := by
  sl_kernel_rfl
theorem leaveA25 (z' z : Til F) (h0 h1 h2) :
    iprop(∃ f, R.a26.view.loc (c : Thread nD τ) ↦[R.a26.view.set]{fullShare} R.a26.view.writes (Elt F) f (runA c i R x z h0 h1 h2).2.2.2.2.1) ⊢
      (owns (c : Thread nD τ) R.a26 fullShare (accA c i R x z' h0 h1 h2).o25 : sProp 𝕄) :=
  owns_canon c R.a26 _ (covA25 c i R x z h0 h1 h2) _ (eqA25 c i R x z' z h0 h1 h2)
theorem eqA28 (z' z : Til F) (h0 h1 h2) : (accA c i R x z' h0 h1 h2).o28 = View.canon (runA c i R x z h0 h1 h2).2.2.2.2.2.1 := by
  sl_kernel_rfl
theorem leaveA28 (z' z : Til F) (h0 h1 h2) :
    iprop(∃ f, R.a29.view.loc (c : Thread nD τ) ↦[R.a29.view.set]{fullShare} R.a29.view.writes (Elt F) f (runA c i R x z h0 h1 h2).2.2.2.2.2.1) ⊢
      (owns (c : Thread nD τ) R.a29 fullShare (accA c i R x z' h0 h1 h2).o28 : sProp 𝕄) :=
  owns_canon c R.a29 _ (covA28 c i R x z h0 h1 h2) _ (eqA28 c i R x z' z h0 h1 h2)
theorem eqA29 (z' z : Til F) (h0 h1 h2) : (accA c i R x z' h0 h1 h2).o29 = View.canon (runA c i R x z h0 h1 h2).2.2.2.2.2.2.1 := by
  sl_kernel_rfl
theorem leaveA29 (z' z : Til F) (h0 h1 h2) :
    iprop(∃ f, R.a30.view.loc (c : Thread nD τ) ↦[R.a30.view.set]{fullShare} R.a30.view.writes (Elt F) f (runA c i R x z h0 h1 h2).2.2.2.2.2.2.1) ⊢
      (owns (c : Thread nD τ) R.a30 fullShare (accA c i R x z' h0 h1 h2).o29 : sProp 𝕄) :=
  owns_canon c R.a30 _ (covA29 c i R x z h0 h1 h2) _ (eqA29 c i R x z' z h0 h1 h2)
theorem eqA30 (z' z : Til F) (h0 h1 h2) : (accA c i R x z' h0 h1 h2).o30 = View.canon (runA c i R x z h0 h1 h2).2.2.2.2.2.2.2.1 := by
  sl_kernel_rfl
theorem leaveA30 (z' z : Til F) (h0 h1 h2) :
    iprop(∃ f, R.a31.view.loc (c : Thread nD τ) ↦[R.a31.view.set]{fullShare} R.a31.view.writes (Elt F) f (runA c i R x z h0 h1 h2).2.2.2.2.2.2.2.1) ⊢
      (owns (c : Thread nD τ) R.a31 fullShare (accA c i R x z' h0 h1 h2).o30 : sProp 𝕄) :=
  owns_canon c R.a31 _ (covA30 c i R x z h0 h1 h2) _ (eqA30 c i R x z' z h0 h1 h2)
theorem eqA31 (z' z : Til F) (h0 h1 h2) : (accA c i R x z' h0 h1 h2).o31 = View.canon (runA c i R x z h0 h1 h2).2.2.2.2.2.2.2.2.1 := by
  sl_kernel_rfl
theorem leaveA31 (z' z : Til F) (h0 h1 h2) :
    iprop(∃ f, R.a32.view.loc (c : Thread nD τ) ↦[R.a32.view.set]{fullShare} R.a32.view.writes (Elt F) f (runA c i R x z h0 h1 h2).2.2.2.2.2.2.2.2.1) ⊢
      (owns (c : Thread nD τ) R.a32 fullShare (accA c i R x z' h0 h1 h2).o31 : sProp 𝕄) :=
  owns_canon c R.a32 _ (covA31 c i R x z h0 h1 h2) _ (eqA31 c i R x z' z h0 h1 h2)
theorem eqB20 (a : Acc F) (h0 h1 h2) : (tilB c i R x a h0 h1 h2).o20 = View.canon (runB c i R x a h0 h1 h2).1 := by
  dsimp only [tilB]
theorem leaveB20 (a : Acc F) (h0 h1 h2) :
    iprop(∃ f, R.a21.view.loc (c : Thread nD τ) ↦[R.a21.view.set]{fullShare} R.a21.view.writes (Elt F) f (runB c i R x a h0 h1 h2).1) ⊢
      (owns (c : Thread nD τ) R.a21 fullShare (tilB c i R x a h0 h1 h2).o20 : sProp 𝕄) :=
  owns_canon c R.a21 _ (covB20 c i R x a h0 h1 h2) _ (eqB20 c i R x a h0 h1 h2)
theorem eqB21 (a : Acc F) (h0 h1 h2) : (accB c i R x a h0 h1 h2).o21 = View.canon (runB c i R x a h0 h1 h2).2.1 := by
  dsimp only [accB]
theorem leaveB21 (a : Acc F) (h0 h1 h2) :
    iprop(∃ f, R.a22.view.loc (c : Thread nD τ) ↦[R.a22.view.set]{fullShare} R.a22.view.writes (Elt F) f (runB c i R x a h0 h1 h2).2.1) ⊢
      (owns (c : Thread nD τ) R.a22 fullShare (accB c i R x a h0 h1 h2).o21 : sProp 𝕄) :=
  owns_canon c R.a22 _ (covB21 c i R x a h0 h1 h2) _ (eqB21 c i R x a h0 h1 h2)
theorem eqB22 (a : Acc F) (h0 h1 h2) : (accB c i R x a h0 h1 h2).o22 = View.canon (runB c i R x a h0 h1 h2).2.2.1 := by
  dsimp only [accB]
theorem leaveB22 (a : Acc F) (h0 h1 h2) :
    iprop(∃ f, R.a23.view.loc (c : Thread nD τ) ↦[R.a23.view.set]{fullShare} R.a23.view.writes (Elt F) f (runB c i R x a h0 h1 h2).2.2.1) ⊢
      (owns (c : Thread nD τ) R.a23 fullShare (accB c i R x a h0 h1 h2).o22 : sProp 𝕄) :=
  owns_canon c R.a23 _ (covB22 c i R x a h0 h1 h2) _ (eqB22 c i R x a h0 h1 h2)
theorem eqB23 (a : Acc F) (h0 h1 h2) : (accB c i R x a h0 h1 h2).o23 = View.canon (runB c i R x a h0 h1 h2).2.2.2.1 := by
  dsimp only [accB]
theorem leaveB23 (a : Acc F) (h0 h1 h2) :
    iprop(∃ f, R.a24.view.loc (c : Thread nD τ) ↦[R.a24.view.set]{fullShare} R.a24.view.writes (Elt F) f (runB c i R x a h0 h1 h2).2.2.2.1) ⊢
      (owns (c : Thread nD τ) R.a24 fullShare (accB c i R x a h0 h1 h2).o23 : sProp 𝕄) :=
  owns_canon c R.a24 _ (covB23 c i R x a h0 h1 h2) _ (eqB23 c i R x a h0 h1 h2)
theorem eqB26 (a : Acc F) (h0 h1 h2) : (tilB c i R x a h0 h1 h2).o26 = View.canon (runB c i R x a h0 h1 h2).2.2.2.2.1 := by
  dsimp only [tilB]
theorem leaveB26 (a : Acc F) (h0 h1 h2) :
    iprop(∃ f, R.a27.view.loc (c : Thread nD τ) ↦[R.a27.view.set]{fullShare} R.a27.view.writes (Elt F) f (runB c i R x a h0 h1 h2).2.2.2.2.1) ⊢
      (owns (c : Thread nD τ) R.a27 fullShare (tilB c i R x a h0 h1 h2).o26 : sProp 𝕄) :=
  owns_canon c R.a27 _ (covB26 c i R x a h0 h1 h2) _ (eqB26 c i R x a h0 h1 h2)
theorem eqB27 (a : Acc F) (h0 h1 h2) : (tilB c i R x a h0 h1 h2).o27 = View.canon (runB c i R x a h0 h1 h2).2.2.2.2.2.1 := by
  dsimp only [tilB]
theorem leaveB27 (a : Acc F) (h0 h1 h2) :
    iprop(∃ f, R.a28.view.loc (c : Thread nD τ) ↦[R.a28.view.set]{fullShare} R.a28.view.writes (Elt F) f (runB c i R x a h0 h1 h2).2.2.2.2.2.1) ⊢
      (owns (c : Thread nD τ) R.a28 fullShare (tilB c i R x a h0 h1 h2).o27 : sProp 𝕄) :=
  owns_canon c R.a28 _ (covB27 c i R x a h0 h1 h2) _ (eqB27 c i R x a h0 h1 h2)
theorem eqB28 (a : Acc F) (h0 h1 h2) : (accB c i R x a h0 h1 h2).o28 = View.canon (runB c i R x a h0 h1 h2).2.2.2.2.2.2.1 := by
  dsimp only [accB]
theorem leaveB28 (a : Acc F) (h0 h1 h2) :
    iprop(∃ f, R.a29.view.loc (c : Thread nD τ) ↦[R.a29.view.set]{fullShare} R.a29.view.writes (Elt F) f (runB c i R x a h0 h1 h2).2.2.2.2.2.2.1) ⊢
      (owns (c : Thread nD τ) R.a29 fullShare (accB c i R x a h0 h1 h2).o28 : sProp 𝕄) :=
  owns_canon c R.a29 _ (covB28 c i R x a h0 h1 h2) _ (eqB28 c i R x a h0 h1 h2)
theorem eqB29 (a : Acc F) (h0 h1 h2) : (accB c i R x a h0 h1 h2).o29 = View.canon (runB c i R x a h0 h1 h2).2.2.2.2.2.2.2.1 := by
  dsimp only [accB]
theorem leaveB29 (a : Acc F) (h0 h1 h2) :
    iprop(∃ f, R.a30.view.loc (c : Thread nD τ) ↦[R.a30.view.set]{fullShare} R.a30.view.writes (Elt F) f (runB c i R x a h0 h1 h2).2.2.2.2.2.2.2.1) ⊢
      (owns (c : Thread nD τ) R.a30 fullShare (accB c i R x a h0 h1 h2).o29 : sProp 𝕄) :=
  owns_canon c R.a30 _ (covB29 c i R x a h0 h1 h2) _ (eqB29 c i R x a h0 h1 h2)
theorem eqB30 (a : Acc F) (h0 h1 h2) : (accB c i R x a h0 h1 h2).o30 = View.canon (runB c i R x a h0 h1 h2).2.2.2.2.2.2.2.2.1 := by
  dsimp only [accB]
theorem leaveB30 (a : Acc F) (h0 h1 h2) :
    iprop(∃ f, R.a31.view.loc (c : Thread nD τ) ↦[R.a31.view.set]{fullShare} R.a31.view.writes (Elt F) f (runB c i R x a h0 h1 h2).2.2.2.2.2.2.2.2.1) ⊢
      (owns (c : Thread nD τ) R.a31 fullShare (accB c i R x a h0 h1 h2).o30 : sProp 𝕄) :=
  owns_canon c R.a31 _ (covB30 c i R x a h0 h1 h2) _ (eqB30 c i R x a h0 h1 h2)
theorem eqB31 (a : Acc F) (h0 h1 h2) : (accB c i R x a h0 h1 h2).o31 = View.canon (runB c i R x a h0 h1 h2).2.2.2.2.2.2.2.2.2.1 := by
  dsimp only [accB]
theorem leaveB31 (a : Acc F) (h0 h1 h2) :
    iprop(∃ f, R.a32.view.loc (c : Thread nD τ) ↦[R.a32.view.set]{fullShare} R.a32.view.writes (Elt F) f (runB c i R x a h0 h1 h2).2.2.2.2.2.2.2.2.2.1) ⊢
      (owns (c : Thread nD τ) R.a32 fullShare (accB c i R x a h0 h1 h2).o31 : sProp 𝕄) :=
  owns_canon c R.a32 _ (covB31 c i R x a h0 h1 h2) _ (eqB31 c i R x a h0 h1 h2)

end Cert.KernelIdeal.Run
-- ==== Proof.BodyA.lean ====
module

public import proofs.«01_k».proof.Proof.Points
public import proofs.«01_k».proof.Proof.Leave
public import Idealize.ShloMosaic.Lib.Claim

/-! The body at the first point. -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

set_option maxHeartbeats 6400000 in
/-- The body at the first point. -/
theorem bodyA (c : Dev nD) (t : Fin cfg0.N) (h : t.val = 0) : givenAt m c t ⊢
    wp frame (wpE (defs₀ (F := F)) Variants.none c none) Set.univ (bodyOn (grid0.coords t) (refsAt t)) (fun _ => leftAt m c t) := by
  unfold givenAt leftAt
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, inv_eq]
  simp only [pre0, pre1, pre2, pre3, pre4, pre5, pre6, pre7, pre8, pre9, pre10, pre11, pre12, pre13, pre14, pre15,
    pre16, pre17, pre18, pre19]
  rw [post0, post1, post2, post3, post4, post5, post6, post7, post8, post9, post10, post11, post12, post13,
    post14, post15, post16, post17, post18, post19, postA20 m c t h, postA21 m c t h, postA22 m c t h,
    postA23 m c t h, postA24 m c t h, postA25 m c t h, postA26 m c t h, postA27 m c t h, postA28 m c t h,
    postA29 m c t h, postA30 m c t h, postA31 m c t h]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩,
    ⟨%d7, H7⟩, ⟨%d8, H8⟩, ⟨%d9, H9⟩, ⟨%d10, H10⟩, ⟨%d11, H11⟩, ⟨%d12, H12⟩, ⟨%d13, H13⟩, ⟨%d14, H14⟩,
    ⟨%d15, H15⟩, ⟨%d16, H16⟩, ⟨%d17, H17⟩, ⟨%d18, H18⟩, ⟨%d19, H19⟩, ⟨%d20, H20⟩, ⟨%d21, H21⟩, ⟨%d22, H22⟩,
    ⟨%d23, H23⟩, ⟨%d24, H24⟩, ⟨%d25, H25⟩, ⟨%d26, H26⟩, ⟨%d27, H27⟩, ⟨%d28, H28⟩, ⟨%d29, H29⟩, ⟨%d30, H30⟩,
    ⟨%d31, H31⟩⟩
  iapply ((runA c (grid0.coords t) (refsAt t) (insAt m c t) ⟨(dats m 0 c).before 20 t d20, (dats m 0 c).before 26 t d26, (dats m 0 c).before 27 t d27⟩
    ((condA_iff t).2 h) ((condA'_iff t).2 h) (notB t h)).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexact H26
  isplitl [H27]; · iexact H27
  isplitl [H28]; · iexists _; iexact H28
  isplitl [H29]; · iexists _; iexact H29
  isplitl [H30]; · iexists _; iexact H30
  isplitl [H31]; · iexists _; iexact H31
  isplitl [HS0]; · iexact HS0
  isplitl [HS1]; · iexact HS1
  iintro ⟨H0, H1, H2, H3, H4, H5, H6, H7, H8, H9, H10, H11, H12, H13, H14, H15, H16, H17, H18, H19, H20, H21, H22,
    H23, H24, H25, H26, H27, H28, H29, H30, H31, ⟨%s0, HS0⟩, ⟨%s1, HS1⟩⟩
  isplitl [HS0 HS1 Hg]
  · isplitl [HS0 HS1]
    · isplitl [HS0]
      · iexists (refsAt t).a33.view.read (Elt F) s0; unfold owns; iexists _; isplitr; swap; · iexact HS0
        ipureintro; exact rfl
      iexists (refsAt t).a34.view.read (Elt F) s1; unfold owns; iexists _; isplitr; swap; · iexact HS1
      ipureintro; exact rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists d20; iexact H20
  isplitl [H21]; · iapply (leaveA21 c (grid0.coords t) (refsAt t) (insAt m c t) (til0 (insAt m c t)) _ _ _ _); iexact H21
  isplitl [H22]; · iapply (leaveA22 c (grid0.coords t) (refsAt t) (insAt m c t) (til0 (insAt m c t)) _ _ _ _); iexact H22
  isplitl [H23]; · iapply (leaveA23 c (grid0.coords t) (refsAt t) (insAt m c t) (til0 (insAt m c t)) _ _ _ _); iexact H23
  isplitl [H24]; · iapply (leaveA24 c (grid0.coords t) (refsAt t) (insAt m c t) (til0 (insAt m c t)) _ _ _ _); iexact H24
  isplitl [H25]; · iapply (leaveA25 c (grid0.coords t) (refsAt t) (insAt m c t) (til0 (insAt m c t)) _ _ _ _); iexact H25
  isplitl [H26]; · iexists d26; iexact H26
  isplitl [H27]; · iexists d27; iexact H27
  isplitl [H28]; · iapply (leaveA28 c (grid0.coords t) (refsAt t) (insAt m c t) (til0 (insAt m c t)) _ _ _ _); iexact H28
  isplitl [H29]; · iapply (leaveA29 c (grid0.coords t) (refsAt t) (insAt m c t) (til0 (insAt m c t)) _ _ _ _); iexact H29
  isplitl [H30]; · iapply (leaveA30 c (grid0.coords t) (refsAt t) (insAt m c t) (til0 (insAt m c t)) _ _ _ _); iexact H30
  iapply (leaveA31 c (grid0.coords t) (refsAt t) (insAt m c t) (til0 (insAt m c t)) _ _ _ _); iexact H31

end Cert.KernelIdeal.Run
-- ==== Proof.BodyB.lean ====
module

public import proofs.«01_k».proof.Proof.Points
public import proofs.«01_k».proof.Proof.Leave
public import Idealize.ShloMosaic.Lib.Claim

/-! The body at a later point. -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

set_option maxHeartbeats 6400000 in
/-- The body at a later point. -/
theorem bodyB (c : Dev nD) (t : Fin cfg0.N) (h : t.val ≠ 0) : givenAt m c t ⊢
    wp frame (wpE (defs₀ (F := F)) Variants.none c none) Set.univ (bodyOn (grid0.coords t) (refsAt t)) (fun _ => leftAt m c t) := by
  unfold givenAt leftAt
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, inv_eq]
  simp only [pre0, pre1, pre2, pre3, pre4, pre5, pre6, pre7, pre8, pre9, pre10, pre11, pre12, pre13, pre14, pre15,
    pre16, pre17, pre18, pre19, prior21 m c t h, prior22 m c t h, prior23 m c t h, prior24 m c t h,
    prior25 m c t h, prior28 m c t h, prior29 m c t h, prior30 m c t h, prior31 m c t h]
  rw [post0, post1, post2, post3, post4, post5, post6, post7, post8, post9, post10, post11, post12, post13,
    post14, post15, post16, post17, post18, post19, postB20 m c t h, postB21 m c t h, postB22 m c t h,
    postB23 m c t h, postB26 m c t h, postB27 m c t h, postB28 m c t h, postB29 m c t h, postB30 m c t h,
    postB31 m c t h]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩,
    ⟨%d7, H7⟩, ⟨%d8, H8⟩, ⟨%d9, H9⟩, ⟨%d10, H10⟩, ⟨%d11, H11⟩, ⟨%d12, H12⟩, ⟨%d13, H13⟩, ⟨%d14, H14⟩,
    ⟨%d15, H15⟩, ⟨%d16, H16⟩, ⟨%d17, H17⟩, ⟨%d18, H18⟩, ⟨%d19, H19⟩, ⟨%d20, H20⟩, ⟨%d21, H21⟩, ⟨%d22, H22⟩,
    ⟨%d23, H23⟩, ⟨%d24, H24⟩, ⟨%d25, H25⟩, ⟨%d26, H26⟩, ⟨%d27, H27⟩, ⟨%d28, H28⟩, ⟨%d29, H29⟩, ⟨%d30, H30⟩,
    ⟨%d31, H31⟩⟩
  iapply ((runB c (grid0.coords t) (refsAt t) (insAt m c t) (prev m c t) (notA t h) (notA' t h) (isB t h)).2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexact H21
  isplitl [H22]; · iexact H22
  isplitl [H23]; · iexact H23
  isplitl [H24]; · iexact H24
  isplitl [H25]; · iexact H25
  isplitl [H26]; · iexists _; iexact H26
  isplitl [H27]; · iexists _; iexact H27
  isplitl [H28]; · iexact H28
  isplitl [H29]; · iexact H29
  isplitl [H30]; · iexact H30
  isplitl [H31]; · iexact H31
  isplitl [HS0]; · iexact HS0
  isplitl [HS1]; · iexact HS1
  iintro ⟨H0, H1, H2, H3, H4, H5, H6, H7, H8, H9, H10, H11, H12, H13, H14, H15, H16, H17, H18, H19, H20, H21, H22,
    H23, H24, H25, H26, H27, H28, H29, H30, H31, ⟨%s0, HS0⟩, ⟨%s1, HS1⟩⟩
  isplitl [HS0 HS1 Hg]
  · isplitl [HS0 HS1]
    · isplitl [HS0]
      · iexists (refsAt t).a33.view.read (Elt F) s0; unfold owns; iexists _; isplitr; swap; · iexact HS0
        ipureintro; exact rfl
      iexists (refsAt t).a34.view.read (Elt F) s1; unfold owns; iexists _; isplitr; swap; · iexact HS1
      ipureintro; exact rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iapply (leaveB20 c (grid0.coords t) (refsAt t) (insAt m c t) _ _ _ _); iexact H20
  isplitl [H21]; · iapply (leaveB21 c (grid0.coords t) (refsAt t) (insAt m c t) _ _ _ _); iexact H21
  isplitl [H22]; · iapply (leaveB22 c (grid0.coords t) (refsAt t) (insAt m c t) _ _ _ _); iexact H22
  isplitl [H23]; · iapply (leaveB23 c (grid0.coords t) (refsAt t) (insAt m c t) _ _ _ _); iexact H23
  isplitl [H24]; · iapply (postB24 m c t h); iexact H24
  isplitl [H25]; · iapply (postB25 m c t h); iexact H25
  isplitl [H26]; · iapply (leaveB26 c (grid0.coords t) (refsAt t) (insAt m c t) _ _ _ _); iexact H26
  isplitl [H27]; · iapply (leaveB27 c (grid0.coords t) (refsAt t) (insAt m c t) _ _ _ _); iexact H27
  isplitl [H28]; · iapply (leaveB28 c (grid0.coords t) (refsAt t) (insAt m c t) _ _ _ _); iexact H28
  isplitl [H29]; · iapply (leaveB29 c (grid0.coords t) (refsAt t) (insAt m c t) _ _ _ _); iexact H29
  isplitl [H30]; · iapply (leaveB30 c (grid0.coords t) (refsAt t) (insAt m c t) _ _ _ _); iexact H30
  iapply (leaveB31 c (grid0.coords t) (refsAt t) (insAt m c t) _ _ _ _); iexact H31

end Cert.KernelIdeal.Run
-- ==== Proof.Body.lean ====
module

public import proofs.«01_k».proof.Proof.BodyA
public import proofs.«01_k».proof.Proof.BodyB
public import Idealize.ShloMosaic.Lib.Claim

/-! The run of the whole program and its frame. -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The body at any point. -/
theorem body_all (c : Dev nD) (t : Fin cfg0.N) : givenAt m c t ⊢
    wp frame (wpE (defs₀ (F := F)) Variants.none c none) Set.univ (bodyAt0 t) (fun _ => leftAt m c t) := by
  have e : bodyAt0 t = bodyOn (F := F) (grid0.coords t) (refsAt t) := rfl
  rw [e]
  by_cases h : t.val = 0
  · exact bodyA m c t h
  · exact bodyB m c t h

/-- The body table's row at a point is the body on that point's buffers. -/
theorem defs₀_row (t : Fin cfg0.N) : defs₀ (F := F) .tc cfg0.body (cfg0.bodyArgs t (cfg0.slots t)) = bodyAt0 t := by
  unfold defs₀; rw [Defs.onTc_tc]

set_option maxHeartbeats 1600000 in
/-- The body's obligation at every point. -/
theorem body_obligation (c : Dev nD) : BodyObligation (dats (F := F) m 0 c) (defs₀ (F := F)) Variants.none () Set.univ := fun t => by
  rw [bigSep_W0, bigSep_W0, defs₀_row]
  have k := body_all m c t
  unfold givenAt leftAt at k
  exact triple_restated k rfl .rfl fun _ => .rfl

variable (ρ : Dev nD → PrngReg)

set_option backward.isDefEq.respectTransparency.types false in
/-- Every run of the program ends with each window's array as the proof data say and every semaphore at nought. -/
theorem run_full : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl) (howed := fun _ _ => rfl) (V := V m)
    (hmain := hmain m Variants.none) (hA := A_eq m) (hΦ := fun _ _ => rfl)

theorem run_arrays : θ_run defs (onTc (τ := τ) (main (F := F))) (s₀ m ρ) (Pipeline.FramePost cfgs (dats m) 0 (V m)) :=
  (θ_run defs _ _).mono (fun _ h => h.1) (run_full m ρ)

/-- The argument arrays end as they began. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_arrays m ρ)

/-- The argument arrays end as they began, and every semaphore at nought. -/
theorem args_kept_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (args_kept m ρ) ((θ_run defs _ _).mono (fun _ h => h.2) (run_full m ρ))

end Cert.KernelIdeal.Run
-- ==== Proof.Frames.lean ====
module

public import proofs.«01_k».proof.Defs
public import proofs.«01_k».proof.Proof.Body
public import proofs.«01_k».proof.Proof.Gen.Kernel
public import proofs.«01_k».proof.Proof.Gen.KernelIdeal
public import proofs.«01_k».proof.Proof.Gen.ReferenceIdeal.Run
public import proofs.«01_k».proof.Proof.Gen.ReferenceIdeal
public import proofs.«01_k».proof.Proof.Gen.Pre_finite
public import Idealize.ShloMosaic.Lib.Quiescent

/-! The frames of the three programs and the two named constants. -/

@[expose] public section

noncomputable section

namespace Cert.Frames

attribute [local instance] Cert.Kernel.Gen.facts Cert.KernelIdeal.Gen.facts Cert.ReferenceIdeal.Gen.facts Cert.Pre_finite.Gen.facts

section
open Idealize.ShloMosaic Idealize.SL.Sem Cert.Kernel

/-- On float words a named constant is the word it stands for. -/
instance : Named Bits where
  named _ _ {φ} b := Scalar.ofBits φ b

set_option maxHeartbeats 4000000 in
/-- The two texts of the kernel have the same body on float words. -/
theorem defs₀_eq : (Cert.KernelIdeal.defs₀ (F := Bits) : Defs nD τ sig (Elt Bits) Λ₀) = defs₀ := by
  funext p l
  cases p with
  | tc =>
    match l with
    | ⟨0, _⟩ => funext a; exact rfl
    | ⟨n + 1, h⟩ => exact absurd h (Nat.not_lt.2 (Nat.le_add_left _ _))
  | scScalar _ => rfl
  | scVector _ _ => rfl

set_option maxHeartbeats 4000000 in
/-- The kernel on float words runs, keeps its arguments and ends with every semaphore at nought. -/
theorem kernel : Cert.quiescent_Kernel := by
  intro m g _
  have h := Cert.KernelIdeal.Run.args_kept_quiescent (F := Bits) m g
  unfold Cert.Kernel.defs; rw [← defs₀_eq]; exact h
end

section
open Idealize.ShloMosaic Idealize.SL.Sem

/-- The kernel on exact numbers does so too. -/
theorem ideal : Cert.quiescent_KernelIdeal := fun m g _ => Cert.KernelIdeal.Run.args_kept_quiescent m g
theorem ideal_finite : Cert.quiescent_KernelIdeal_pre_finite := fun m g _ => Cert.KernelIdeal.Run.args_kept_quiescent m g
end

section
open Idealize.ShloMosaic Idealize.SL.Sem Cert.ReferenceIdeal

/-- The reference keeps its arguments, and has no semaphore. -/
theorem ref_run (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) ∧ r.2.sem = fun _ => 0) :=
  (θ_run defs _ _).mono (fun r h => ⟨fun c => (by have h := h c; exact ⟨h.2.2.2.2.2.2.2.2.2.2.2.2.1, h.2.2.2.2.2.2.2.2.2.2.2.2.2.1, h.2.2.2.2.2.2.2.2.2.2.2.2.2.2.1, h.2.2.2.2.2.2.2.2.2.2.2.2.2.2.2.1, h.2.2.2.2.2.2.2.2.2.2.2.2.2.2.2.2.1, h.2.2.2.2.2.2.2.2.2.2.2.2.2.2.2.2.2.1, h.2.2.2.2.2.2.2.2.2.2.2.2.2.2.2.2.2.2.1, h.2.2.2.2.2.2.2.2.2.2.2.2.2.2.2.2.2.2.2.1, h.2.2.2.2.2.2.2.2.2.2.2.2.2.2.2.2.2.2.2.2.1, h.2.2.2.2.2.2.2.2.2.2.2.2.2.2.2.2.2.2.2.2.2.1, h.2.2.2.2.2.2.2.2.2.2.2.2.2.2.2.2.2.2.2.2.2.2.1, h.2.2.2.2.2.2.2.2.2.2.2.2.2.2.2.2.2.2.2.2.2.2.2.1, h.2.2.2.2.2.2.2.2.2.2.2.2.2.2.2.2.2.2.2.2.2.2.2.2.1, h.2.2.2.2.2.2.2.2.2.2.2.2.2.2.2.2.2.2.2.2.2.2.2.2.2.1, h.2.2.2.2.2.2.2.2.2.2.2.2.2.2.2.2.2.2.2.2.2.2.2.2.2.2⟩),
    Idealize.ShloMosaic.sem_eq_zero_of_no_sems (by decide) r.2⟩) (Cert.ReferenceIdeal.Value.run (F := Ideal) m g)

theorem reference : Cert.quiescent_ReferenceIdeal := fun m g _ => ref_run m g
theorem reference_finite : Cert.quiescent_ReferenceIdeal_pre_finite := fun m g _ => ref_run m g
end

/-- The two constants have the exact values that are claimed for them. -/
theorem constants : Cert.preserves_Kernel_KernelIdeal :=
  ⟨Idealize.ShloMosaic.IdealRules.named_const.statement _ _ _ _ _ rfl, Idealize.ShloMosaic.IdealRules.named_const.statement _ _ _ _ _ rfl⟩

end Cert.Frames
-- ==== Proof.Lift.lean ====
module

public import Idealize.ShloMosaic.Lib.Pointwise
public import Idealize.ShloMosaic.PureOps.Ideal

/-! Arrays of real numbers as arrays of extended reals, and the operations on them that do not look at the shape.
`L2 f` is the matrix whose entry at `(a, b)` is the real number `f a b`; an operation on such matrices is again one. -/

@[expose] public section

set_option maxRecDepth 16384

noncomputable section

namespace Cert.Lift

open Idealize.ShloMosaic

/-- The scalar array of a real number. -/
def L0 {e : FTy} (f : ℝ) : FVec Ideal (⟨0, ![]⟩ : Shape) e := fun _ => ((f : ℝ) : EReal)
/-- The vector of a family of real numbers. -/
def L1 {n : ℕ} {e : FTy} (f : Fin n → ℝ) : FVec Ideal (⟨1, ![n]⟩ : Shape) e := fun i => ((f (i 0) : ℝ) : EReal)
/-- The matrix of a family of real numbers. -/
def L2 {m n : ℕ} {e : FTy} (f : Fin m → Fin n → ℝ) : FVec Ideal (⟨2, ![m, n]⟩ : Shape) e :=
  fun i => ((f (i 0) (i 1) : ℝ) : EReal)
/-- The array with three axes of a family of real numbers. -/
def L3 {k m n : ℕ} {e : FTy} (f : Fin k → Fin m → Fin n → ℝ) : FVec Ideal (⟨3, ![k, m, n]⟩ : Shape) e :=
  fun i => ((f (i 0) (i 1) (i 2) : ℝ) : EReal)
/-- The array with four axes of a family of real numbers. -/
def L4 {l k m n : ℕ} {e : FTy} (f : Fin l → Fin k → Fin m → Fin n → ℝ) : FVec Ideal (⟨4, ![l, k, m, n]⟩ : Shape) e :=
  fun i => ((f (i 0) (i 1) (i 2) (i 3) : ℝ) : EReal)

/-- A finite sum of real numbers, taken among the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem coe_sum_mul {ι : Type} (s : Finset ι) (f g : ι → ℝ) :
    ∑ i ∈ s, ((f i : ℝ) : EReal) * ((g i : ℝ) : EReal) = ((∑ i ∈ s, f i * g i : ℝ) : EReal) := by
  rw [← coe_sum]; rfl

section
variable {m n : ℕ} {e : FTy}

theorem L2_add (f g : Fin m → Fin n → ℝ) : addf (L2 f : FVec Ideal _ e) (L2 g) = L2 fun a b => f a b + g a b := by
  funext i; exact (EReal.coe_add _ _).symm
theorem L2_sub (f g : Fin m → Fin n → ℝ) : subf (L2 f : FVec Ideal _ e) (L2 g) = L2 fun a b => f a b - g a b := by
  funext i; exact (EReal.coe_sub _ _).symm
theorem L2_mul (f g : Fin m → Fin n → ℝ) : mulf (L2 f : FVec Ideal _ e) (L2 g) = L2 fun a b => f a b * g a b := by
  funext i; exact (EReal.coe_mul _ _).symm
theorem L2_tanh (f : Fin m → Fin n → ℝ) : tanh (L2 f : FVec Ideal _ e) = L2 fun a b => Real.tanh (f a b) := by
  funext i; exact Ideal.tanh_coe _
theorem L2_trunc (f : Fin m → Fin n → ℝ) (h) : truncf .bf16 (L2 f : FVec Ideal _ .f32) h = L2 f := rfl
theorem L2_ext (f : Fin m → Fin n → ℝ) (h) : extf .f32 (L2 f : FVec Ideal _ .bf16) h = L2 f := rfl

theorem L2_neg (f : Fin m → Fin n → ℝ) : Host.negf (L2 f : FVec Ideal _ e) = L2 fun a b => -f a b := by
  funext i; exact (EReal.coe_neg _).symm
theorem L2_hostTanh (f : Fin m → Fin n → ℝ) : Host.tanh (L2 f : FVec Ideal _ e) = L2 fun a b => Real.tanh (f a b) := by
  funext i; exact Ideal.tanh_coe _
theorem div_real {x y : ℝ} (h : y ≠ 0) : Ideal.div ((x : ℝ) : EReal) ((y : ℝ) : EReal) = ((x / y : ℝ) : EReal) := by
  rw [Ideal.div_coe h, ← EReal.coe_mul, mul_one_div]
theorem L2_div (f g : Fin m → Fin n → ℝ) (h : ∀ a b, g a b ≠ 0) :
    divf (L2 f : FVec Ideal _ e) (L2 g) = L2 fun a b => f a b / g a b := by
  funext i; exact div_real (h _ _)
theorem L2_hostDiv (f g : Fin m → Fin n → ℝ) (h : ∀ a b, g a b ≠ 0) :
    Host.divf (L2 f : FVec Ideal _ e) (L2 g) = L2 fun a b => f a b / g a b := by
  funext i; exact div_real (h _ _)
theorem rsqrt_real {x : ℝ} (h : 0 < x) : Ideal.rsqrt ((x : ℝ) : EReal) = (((√x)⁻¹ : ℝ) : EReal) := by
  rw [Ideal.rsqrt_coe, if_neg (not_lt.2 h.le), if_neg h.ne']
theorem L2_rsqrt (f : Fin m → Fin n → ℝ) (h : ∀ a b, 0 < f a b) :
    rsqrt (L2 f : FVec Ideal _ e) = L2 fun a b => (√(f a b))⁻¹ := by
  funext i; exact rsqrt_real (h _ _)
theorem L2_hostRsqrt (f : Fin m → Fin n → ℝ) (h : ∀ a b, 0 < f a b) :
    Host.rsqrt (L2 f : FVec Ideal _ e) = L2 fun a b => (√(f a b))⁻¹ := by
  funext i; exact rsqrt_real (h _ _)
/-- A broadcast scalar that is a real number. -/
theorem L2_splat (r : ℝ) {x : Ideal e} (h : x = ((r : ℝ) : EReal)) :
    (broadcast (⟨2, ![m, n]⟩ : Shape) x : FVec Ideal _ e) = L2 fun _ _ => r := by
  funext i; exact h
theorem L4_add {k l : ℕ} (f g : Fin l → Fin k → Fin m → Fin n → ℝ) :
    addf (L4 f : FVec Ideal _ e) (L4 g) = L4 fun d a b c => f d a b c + g d a b c := by
  funext i; exact (EReal.coe_add _ _).symm
theorem cast_self {s : Shape} (v : FVec Ideal s e) (h) : shapeCast s v h = v := by
  funext i; exact congrArg v (Shape.reshapeEquiv_self h i)

end

/-! The constants of the two programs. -/

/-- The float32 nearest the root of `2/π`. -/
def gk : ℝ := 6693141 / 8388608
/-- The float32 nearest `0.044715`. -/
def gc : ℝ := 12003091 / 268435456
/-- The float32 nearest `10⁻⁶`. -/
def eps6 : ℝ := 8796093 / 8796093022208
/-- The float32 nearest `10⁻⁵`. -/
def eps5 : ℝ := 10995116 / 1099511627776

theorem eps6_pos : 0 < eps6 := by unfold eps6; norm_num
theorem eps5_pos : 0 < eps5 := by unfold eps5; norm_num

theorem bits_gk : Ideal.ofBits .f32 0x3F4C422A#32 = ((gk : ℝ) : EReal) := by
  unfold gk; simp [Ideal.ofBits, Ideal.ieee, -EReal.coe_mul]; norm_num
theorem bits_gc : Ideal.ofBits .f32 0x3D372713#32 = ((gc : ℝ) : EReal) := by
  unfold gc; simp [Ideal.ofBits, Ideal.ieee, -EReal.coe_mul]; norm_num
theorem bits_eps6 : Ideal.ofBits .f32 0x358637BD#32 = ((eps6 : ℝ) : EReal) := by
  unfold eps6; simp [Ideal.ofBits, Ideal.ieee, -EReal.coe_mul]; norm_num
theorem bits_eps5 : Ideal.ofBits .f32 0x3727C5AC#32 = ((eps5 : ℝ) : EReal) := by
  unfold eps5; simp [Ideal.ofBits, Ideal.ieee, -EReal.coe_mul]; norm_num
theorem bits_1024 : Ideal.ofBits .f32 0x44800000#32 = ((1024 : ℝ) : EReal) := by
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_neg_half : Ideal.ofBits .f32 0xBF000000#32 = ((-(1 / 2) : ℝ) : EReal) := by
  simp [Ideal.ofBits, Ideal.ieee, -EReal.coe_mul, -EReal.coe_neg]; norm_num
theorem bits_one : Ideal.ofBits .f32 0x3F800000#32 = ((1 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_three : Ideal.ofBits .f32 0x40400000#32 = ((3 : ℝ) : EReal) := by
  simp [Ideal.ofBits, Ideal.ieee, -EReal.coe_mul]; norm_num
theorem bits_zero : Ideal.ofBits .f32 0x00000000#32 = ((0 : ℝ) : EReal) := by
  simp [Ideal.ofBits, Ideal.ieee, -EReal.coe_mul]
theorem bits_one16 : Ideal.ofBits .bf16 0x3F80#16 = ((1 : ℝ) : EReal) := by
  simp [Ideal.ofBits, Ideal.ieee, -EReal.coe_mul]; norm_num

/-- Column `c` of the `g`-th block of 128 columns. -/
def col (g : Fin 8) (c : Fin 128) : Fin 1024 := ⟨128 * g.val + c.val, by have := g.isLt; have := c.isLt; omega⟩
/-- The block of 128 columns that column `j` lies in. -/
def grp (j : Fin 1024) : Fin 8 := ⟨j.val / 128, by have := j.isLt; omega⟩
/-- The place of column `j` in its block. -/
def lane (j : Fin 1024) : Fin 128 := ⟨j.val % 128, by omega⟩
/-- Row `p` of the `n`-th chunk of 128 rows. -/
def row (n : Fin 16) (p : Fin 128) : Fin 2048 := ⟨128 * n.val + p.val, by have := n.isLt; have := p.isLt; omega⟩

/-- The chunk of 128 rows that row `r` lies in. -/
def chk (r : Fin 2048) : Fin 16 := ⟨r.val / 128, by have := r.isLt; omega⟩
/-- The place of row `r` in its chunk. -/
def pos (r : Fin 2048) : Fin 128 := ⟨r.val % 128, by omega⟩

theorem chk_row (n : Fin 16) (p : Fin 128) : chk (row n p) = n := by
  apply Fin.ext; simp only [chk, row]; have := p.isLt; omega
theorem pos_row (n : Fin 16) (p : Fin 128) : pos (row n p) = p := by
  apply Fin.ext; simp only [pos, row]; have := p.isLt; omega
theorem row_chk (r : Fin 2048) : row (chk r) (pos r) = r := by
  apply Fin.ext; simp only [chk, pos, row]; omega
theorem grp_col (g : Fin 8) (c : Fin 128) : grp (col g c) = g := by
  apply Fin.ext; simp only [grp, col]; have := c.isLt; omega
theorem lane_col (g : Fin 8) (c : Fin 128) : lane (col g c) = c := by
  apply Fin.ext; simp only [lane, col]; have := c.isLt; omega
theorem col_grp (j : Fin 1024) : col (grp j) (lane j) = j := by
  apply Fin.ext; simp only [grp, lane, col]; omega

end Cert.Lift
-- ==== Proof.KOps.lean ====
module

public import proofs.«01_k».proof.Proof.Lift
public import proofs.«01_k».proof.Proof.Gen.KernelIdeal.Skeleton

/-! The kernel's operations that look at the shape, on arrays of real numbers. -/

@[expose] public section

set_option maxRecDepth 16384

noncomputable section

namespace Cert.KernelIdeal.Ops

open Idealize.ShloMosaic Cert.Lift Cert.KernelIdeal Cert.KernelIdeal.Gen

theorem bt_col_128_128 (f : Fin 128 → Fin 1 → ℝ) (h) :
    broadcastTo S128x128 (L2 f : FVec Ideal _ .f32) h = L2 fun a _ => f a 0 := by
  funext i; idx_vars i; pointwise [L1, L2, L3, L4]

theorem bt_col_128_1024 (f : Fin 128 → Fin 1 → ℝ) (h) :
    broadcastTo S128x1024 (L2 f : FVec Ideal _ .f32) h = L2 fun a _ => f a 0 := by
  funext i; idx_vars i; pointwise [L1, L2, L3, L4]

theorem bt_col_256_1024 (f : Fin 256 → Fin 1 → ℝ) (h) :
    broadcastTo S256x1024 (L2 f : FVec Ideal _ .f32) h = L2 fun a _ => f a 0 := by
  funext i; idx_vars i; pointwise [L1, L2, L3, L4]

theorem bt_row_128_1024 (f : Fin 1 → Fin 1024 → ℝ) (h) :
    broadcastTo S128x1024 (L2 f : FVec Ideal _ .f32) h = L2 fun _ b => f 0 b := by
  funext i; idx_vars i; pointwise [L1, L2, L3, L4]

theorem bt_row_256_1024 (f : Fin 1 → Fin 1024 → ℝ) (h) :
    broadcastTo S256x1024 (L2 f : FVec Ideal _ .f32) h = L2 fun _ b => f 0 b := by
  funext i; idx_vars i; pointwise [L1, L2, L3, L4]

theorem sc_drop {e : FTy} (f : Fin 1 → Fin 128 → Fin 128 → ℝ) (h) :
    shapeCast S128x128 (L3 f : FVec Ideal _ e) h = L2 fun a b => f 0 a b := by
  funext i; idx_vars i; pointwise [L1, L2, L3, L4]

theorem sc_lead (f : Fin 128 → Fin 128 → ℝ) (h) :
    shapeCast S1x128x128 (L2 f : FVec Ideal _ .f32) h = L3 fun _ a b => f a b := by
  funext i; idx_vars i; pointwise [L1, L2, L3, L4]

theorem sc_row (f : Fin 1024 → ℝ) (h) :
    shapeCast S1x1024 (L1 f : FVec Ideal _ .f32) h = L2 fun _ b => f b := by
  funext i; idx_vars i; pointwise [L1, L2, L3, L4]

theorem sc_col_128 (f : Fin 128 → ℝ) (h) :
    shapeCast S128x1 (L1 f : FVec Ideal _ .f32) h = L2 fun a _ => f a := by
  funext i; idx_vars i; pointwise [L1, L2, L3, L4]

theorem sc_col_256 (f : Fin 256 → ℝ) (h) :
    shapeCast S256x1 (L1 f : FVec Ideal _ .f32) h = L2 fun a _ => f a := by
  funext i; idx_vars i; pointwise [L1, L2, L3, L4]

theorem xs_top (f : Fin 8 → Fin 128 → ℝ) (h) :
    extractStridedSlice S1x128 ![0, 0] (L2 f : FVec Ideal _ .f32) h = L2 fun _ b => f 0 b := by
  funext i; idx_vars i; pointwise [L1, L2, L3, L4]

theorem xs_col0 {e : FTy} (f : Fin 128 → Fin 1024 → ℝ) (h) :
    extractStridedSlice S128x128 ![0, 0] (L2 f : FVec Ideal _ e) h = L2 fun a b => f a (col 0 b) := by
  funext i; idx_vars i; pointwise [col, L1, L2, L3, L4]

theorem xs_col1 {e : FTy} (f : Fin 128 → Fin 1024 → ℝ) (h) :
    extractStridedSlice S128x128 ![0, 128] (L2 f : FVec Ideal _ e) h = L2 fun a b => f a (col 1 b) := by
  funext i; idx_vars i; pointwise [col, L1, L2, L3, L4]

theorem xs_col2 {e : FTy} (f : Fin 128 → Fin 1024 → ℝ) (h) :
    extractStridedSlice S128x128 ![0, 256] (L2 f : FVec Ideal _ e) h = L2 fun a b => f a (col 2 b) := by
  funext i; idx_vars i; pointwise [col, L1, L2, L3, L4]

theorem xs_col3 {e : FTy} (f : Fin 128 → Fin 1024 → ℝ) (h) :
    extractStridedSlice S128x128 ![0, 384] (L2 f : FVec Ideal _ e) h = L2 fun a b => f a (col 3 b) := by
  funext i; idx_vars i; pointwise [col, L1, L2, L3, L4]

theorem xs_col4 {e : FTy} (f : Fin 128 → Fin 1024 → ℝ) (h) :
    extractStridedSlice S128x128 ![0, 512] (L2 f : FVec Ideal _ e) h = L2 fun a b => f a (col 4 b) := by
  funext i; idx_vars i; pointwise [col, L1, L2, L3, L4]

theorem xs_col5 {e : FTy} (f : Fin 128 → Fin 1024 → ℝ) (h) :
    extractStridedSlice S128x128 ![0, 640] (L2 f : FVec Ideal _ e) h = L2 fun a b => f a (col 5 b) := by
  funext i; idx_vars i; pointwise [col, L1, L2, L3, L4]

theorem xs_col6 {e : FTy} (f : Fin 128 → Fin 1024 → ℝ) (h) :
    extractStridedSlice S128x128 ![0, 768] (L2 f : FVec Ideal _ e) h = L2 fun a b => f a (col 6 b) := by
  funext i; idx_vars i; pointwise [col, L1, L2, L3, L4]

theorem xs_col7 {e : FTy} (f : Fin 128 → Fin 1024 → ℝ) (h) :
    extractStridedSlice S128x128 ![0, 896] (L2 f : FVec Ideal _ e) h = L2 fun a b => f a (col 7 b) := by
  funext i; idx_vars i; pointwise [col, L1, L2, L3, L4]

theorem mm0 (f : Fin 256 → Fin 1024 → ℝ) (g : Fin 1024 → Fin 1024 → ℝ) :
    matmul dot_S256x1024_S1024x1024_S256x1024_1_1_0_0_n_n none (L2 f : FVec Ideal _ .bf16) (L2 g : FVec Ideal _ .bf16) (constant S256x1024 .f32 0x00000000#32 : FVec Ideal _ .f32) = L2 fun a b => ∑ k, f a k * g b k := by
  funext i; idx_vars i; pointwise [L1, L2, L3, L4, bits_zero]; simp only [coe_sum_mul, coe_sum, ← EReal.coe_add, zero_add]

theorem mm1 (f : Fin 128 → Fin 128 → ℝ) (g : Fin 128 → Fin 128 → ℝ) :
    matmul dot_S128x128_S128x128_S128x128_1_1_0_0_n_n none (L2 f : FVec Ideal _ .bf16) (L2 g : FVec Ideal _ .bf16) (constant S128x128 .f32 0x00000000#32 : FVec Ideal _ .f32) = L2 fun a b => ∑ k, f a k * g b k := by
  funext i; idx_vars i; pointwise [L1, L2, L3, L4, bits_zero]; simp only [coe_sum_mul, coe_sum, ← EReal.coe_add, zero_add]

theorem mm2 (f : Fin 128 → Fin 128 → ℝ) (g : Fin 128 → Fin 128 → ℝ) :
    matmul dot_S128x128_S128x128_S128x128_1_0_0_1_n_n none (L2 f : FVec Ideal _ .bf16) (L2 g : FVec Ideal _ .bf16) (constant S128x128 .f32 0x00000000#32 : FVec Ideal _ .f32) = L2 fun a b => ∑ k, f a k * g k b := by
  funext i; idx_vars i; pointwise [L1, L2, L3, L4, bits_zero]; simp only [coe_sum_mul, coe_sum, ← EReal.coe_add, zero_add]

theorem mm3 (f : Fin 128 → Fin 128 → ℝ) (g : Fin 128 → Fin 128 → ℝ) :
    matmul dot_S128x128_S128x128_S128x128_0_0_1_1_n_n none (L2 f : FVec Ideal _ .bf16) (L2 g : FVec Ideal _ .bf16) (constant S128x128 .f32 0x00000000#32 : FVec Ideal _ .f32) = L2 fun a b => ∑ k, f k a * g k b := by
  funext i; idx_vars i; pointwise [L1, L2, L3, L4, bits_zero]; simp only [coe_sum_mul, coe_sum, ← EReal.coe_add, zero_add]

theorem mm4 (f : Fin 8 → Fin 128 → ℝ) (g : Fin 128 → Fin 128 → ℝ) :
    matmul dot_S8x128_S128x128_S8x128_1_1_0_0_n_n none (L2 f : FVec Ideal _ .bf16) (L2 g : FVec Ideal _ .bf16) (constant S8x128 .f32 0x00000000#32 : FVec Ideal _ .f32) = L2 fun a b => ∑ k, f a k * g b k := by
  funext i; idx_vars i; pointwise [L1, L2, L3, L4, bits_zero]; simp only [coe_sum_mul, coe_sum, ← EReal.coe_add, zero_add]

theorem rd_col_128 (f : Fin 128 → Fin 1024 → ℝ) (h) (h') (h'') :
    multiReduction .add [0] S1024 (L2 f : FVec Ideal _ .f32) 0x00000000#32 h h' h'' = L1 fun b => ∑ k, f k b := by
  funext i; idx_vars i; pointwise [L1, L2, L3, L4, bits_zero]; simp only [coe_sum_mul, coe_sum, ← EReal.coe_add, zero_add]

theorem rd_row_128 (f : Fin 128 → Fin 1024 → ℝ) (h) (h') (h'') :
    multiReduction .add [1] S128 (L2 f : FVec Ideal _ .f32) 0x00000000#32 h h' h'' = L1 fun a => ∑ k, f a k := by
  funext i; idx_vars i; pointwise [L1, L2, L3, L4, bits_zero]; simp only [coe_sum_mul, coe_sum, ← EReal.coe_add, zero_add]

theorem rd_col_256 (f : Fin 256 → Fin 1024 → ℝ) (h) (h') (h'') :
    multiReduction .add [0] S1024 (L2 f : FVec Ideal _ .f32) 0x00000000#32 h h' h'' = L1 fun b => ∑ k, f k b := by
  funext i; idx_vars i; pointwise [L1, L2, L3, L4, bits_zero]; simp only [coe_sum_mul, coe_sum, ← EReal.coe_add, zero_add]

theorem rd_row_256 (f : Fin 256 → Fin 1024 → ℝ) (h) (h') (h'') :
    multiReduction .add [1] S256 (L2 f : FVec Ideal _ .f32) 0x00000000#32 h h' h'' = L1 fun a => ∑ k, f a k := by
  funext i; idx_vars i; pointwise [L1, L2, L3, L4, bits_zero]; simp only [coe_sum_mul, coe_sum, ← EReal.coe_add, zero_add]

end Cert.KernelIdeal.Ops
-- ==== Proof.Math.lean ====
module

public import proofs.«01_k».proof.Proof.Lift

/-! The mathematics of the step on real numbers: the tanh GELU, the layer norm, the RMS norm, the gating unit on one chunk
of 128 rows, and the arrays that the two programs compute. -/

@[expose] public section

noncomputable section

namespace Cert.Math

open Cert.Lift

/-- A row of 1024 real numbers. -/
abbrev Row := Fin 1024 → ℝ
/-- A chunk of 128 rows. -/
abbrev Chunk := Fin 128 → Fin 1024 → ℝ

/-! ### The tanh GELU -/

/-- The hyperbolic tangent inside the GELU. -/
def th (t : ℝ) : ℝ := Real.tanh (gk * (t + gc * (t * t * t)))
/-- Half of one more than that. -/
def ph (t : ℝ) : ℝ := 1 / 2 * (1 + th t)
/-- The GELU. -/
def gelu (t : ℝ) : ℝ := t * ph t
/-- Its derivative. -/
def dgelu (t : ℝ) : ℝ := ph t + t * ph t * (1 - th t) * (gk + 3 * (gk * gc) * (t * t))

/-! ### The norms of a row -/

/-- The mean square of a row, with the small constant. -/
def ms (f : Row) : ℝ := (∑ k, f k * f k) / 1024 + eps6
/-- One over its root. -/
def rr (f : Row) : ℝ := (√(ms f))⁻¹
/-- The row divided by its root mean square. -/
def xn (f : Row) (b : Fin 1024) : ℝ := f b * rr f
/-- The mean of a row. -/
def mean (f : Row) : ℝ := (∑ k, f k) / 1024
/-- The gradient of the RMS norm: `g` is the gradient of the normalised row. -/
def rmsBack (f g : Row) (b : Fin 1024) : ℝ := rr f * (g b - xn f b * mean fun k => g k * xn f k)

/-- The GELU of a row less its mean. -/
def vc (f : Row) (b : Fin 1024) : ℝ := gelu (f b) - mean fun k => gelu (f k)
/-- The variance, with the small constant. -/
def var (f : Row) : ℝ := (∑ k, vc f k * vc f k) / 1024 + eps5
/-- One over its root. -/
def rs (f : Row) : ℝ := (√(var f))⁻¹
/-- The normalised row. -/
def vh (f : Row) (b : Fin 1024) : ℝ := vc f b * rs f
/-- The gradient of the layer norm of the GELU: `g` is the gradient of the normalised row. -/
def lnBack (f g : Row) (b : Fin 1024) : ℝ :=
  rs f * (g b - mean g - vh f b * mean fun k => g k * vh f k) * dgelu (f b)

theorem ms_pos (f : Row) : 0 < ms f :=
  add_pos_of_nonneg_of_pos (div_nonneg (Finset.sum_nonneg fun _ _ => mul_self_nonneg _) (by norm_num)) eps6_pos
theorem var_pos (f : Row) : 0 < var f :=
  add_pos_of_nonneg_of_pos (div_nonneg (Finset.sum_nonneg fun _ _ => mul_self_nonneg _) (by norm_num)) eps5_pos

theorem inv_root_div {s : ℝ} (h : 0 < s) : (√s)⁻¹ / s = (√s)⁻¹ * (√s)⁻¹ * (√s)⁻¹ := by
  have : (√s)⁻¹ * (√s)⁻¹ = s⁻¹ := by rw [← mul_inv, Real.mul_self_sqrt h.le]
  rw [mul_assoc, this, div_eq_mul_inv]

theorem sum_vc (f : Row) : ∑ k, vc f k = 0 := by
  unfold vc
  rw [Finset.sum_sub_distrib]
  simp [mean]
  ring

/-- The reference's gradient of the RMS norm. -/
theorem rmsBack_eq (f g : Row) (b : Fin 1024) :
    g b * rr f + f b * ((∑ k, f k * g k) * (-(1 / 2) * (rr f / ms f)) / 1024)
      + (∑ k, f k * g k) * (-(1 / 2) * (rr f / ms f)) / 1024 * f b = rmsBack f g b := by
  have e : rr f / ms f = rr f * rr f * rr f := inv_root_div (ms_pos f)
  have e' : ∑ k, g k * xn f k = (∑ k, f k * g k) * rr f := by
    rw [Finset.sum_mul]; exact Finset.sum_congr rfl fun _ _ => by unfold xn; ring
  rw [e, rmsBack, mean, e', xn]; ring

/-- The reference's gradient of the layer norm, before the GELU's derivative. -/
theorem lnBack_eq (f g : Row) (b : Fin 1024) (A : ℝ) (hA : A = (∑ k, vc f k * g k) * (-(1 / 2) * (rs f / var f)) / 1024) :
    g b * rs f + A * (2 * vc f b) + (∑ k, -(g k * rs f) + ∑ k, -(A * (2 * vc f k))) / 1024
      = rs f * (g b - mean g - vh f b * mean fun k => g k * vh f k) := by
  have e : rs f / var f = rs f * rs f * rs f := inv_root_div (var_pos f)
  have e' : ∑ k, g k * vh f k = (∑ k, vc f k * g k) * rs f := by
    rw [Finset.sum_mul]; exact Finset.sum_congr rfl fun _ _ => by unfold vh; ring
  have e1 : ∑ k, -(g k * rs f) = -((∑ k, g k) * rs f) := by rw [Finset.sum_neg_distrib, Finset.sum_mul]
  have e2 : ∑ k, -(A * (2 * vc f k)) = 0 := by
    rw [Finset.sum_neg_distrib, ← Finset.mul_sum, ← Finset.mul_sum, sum_vc]; ring
  rw [e1, e2, hA, e, mean, mean, e', vh]; ring

/-- The reference's gradient of the GELU. -/
theorem dgelu_eq (t g : ℝ) :
    g * ph t + gk * (1 / 2 * (t * g) * ((1 + th t) * (1 - th t)))
      + gc * (gk * (1 / 2 * (t * g) * ((1 + th t) * (1 - th t)))) * (3 * (t * t)) = g * dgelu t := by
  unfold dgelu ph; ring

/-! ### The gating unit on one chunk of 128 rows -/

section
variable (lg lb : Fin 1 → Row) (W : Fin 8 → Fin 128 → Fin 128 → ℝ) (sb : Fin 8 → Fin 128 → ℝ) (U V Y : Chunk)

/-- The normalised rows with their scale and shift. -/
def cvn (p : Fin 128) (j : Fin 1024) : ℝ := vh (V p) j * lg 0 j + lb 0 j
/-- The mix of the chunk's rows, by the weights of the column's group. -/
def cmix (p : Fin 128) (j : Fin 1024) : ℝ := ∑ q, W (grp j) p q * cvn lg lb V q j + sb (grp j) p
/-- The gradient of `u`. -/
def cdu (p : Fin 128) (j : Fin 1024) : ℝ := Y p j * cmix lg lb W sb V p j * dgelu (U p j)
/-- The gradient of the mix. -/
def cdm (p : Fin 128) (j : Fin 1024) : ℝ := Y p j * gelu (U p j)
/-- What the chunk gives to the gradient of the mixing weights. -/
def cdw (g : Fin 8) (p q : Fin 128) : ℝ := ∑ c, cdm U Y p (col g c) * cvn lg lb V q (col g c)
/-- What the chunk gives to the gradient of the mixing biases. -/
def cdb (g : Fin 8) (p : Fin 128) : ℝ := ∑ c, cdm U Y p (col g c)
/-- The gradient of the normalised rows. -/
def cdvn (q : Fin 128) (j : Fin 1024) : ℝ := ∑ p, W (grp j) p q * cdm U Y p j
/-- What the chunk gives to the gradient of the layer norm's scale. -/
def cdlg (j : Fin 1024) : ℝ := ∑ p, cdvn W U Y p j * vh (V p) j
/-- What the chunk gives to the gradient of the layer norm's shift. -/
def cdlb (j : Fin 1024) : ℝ := ∑ p, cdvn W U Y p j
/-- The gradient of `v`. -/
def cdv (p : Fin 128) (j : Fin 1024) : ℝ := lnBack (V p) (fun k => cdvn W U Y p k * lg 0 k) j

end

/-! ### The arrays -/

/-- The arguments, as real numbers. -/
structure Data where
  x : Fin 2048 → Row
  ctx : Fin 256 → Row
  mx : Fin 1 → Fin 3072 → ℝ
  mc : Fin 1 → Fin 3072 → ℝ
  ng : Fin 1 → Row
  w : Fin 1024 → Fin 5120 → ℝ
  lg : Fin 1 → Row
  lb : Fin 1 → Row
  sw : Fin 8 → Fin 128 → Fin 128 → ℝ
  sb : Fin 8 → Fin 128 → ℝ
  dxa : Fin 2304 → Row
  dga : Fin 2048 → Row
  dgb : Fin 2048 → Row
  dy : Fin 2048 → Row
  dxn : Fin 2048 → Row

namespace Data
variable (d : Data)

/-- One more than the scale of the rows of `x`. -/
def s1x (b : Fin 1024) : ℝ := 1 + d.mx 0 ⟨1024 + b.val, by omega⟩
/-- One more than the scale of the rows of the context. -/
def s1c (b : Fin 1024) : ℝ := 1 + d.mc 0 ⟨1024 + b.val, by omega⟩
/-- The projection. -/
def z (a : Fin 2048) (j : Fin 5120) : ℝ :=
  ∑ k, (xn (d.x a) k * d.ng 0 k * d.s1x k + d.mx 0 ⟨k.val, by omega⟩) * d.w k j
/-- Its columns `u`. -/
def u (a : Fin 2048) (b : Fin 1024) : ℝ := d.z a ⟨2048 + b.val, by omega⟩
/-- Its columns `v`. -/
def v (a : Fin 2048) (b : Fin 1024) : ℝ := d.z a ⟨3072 + b.val, by omega⟩

/-- The `n`-th chunk of 128 rows of an array. -/
def part (f : Fin 2048 → Row) (n : Fin 16) : Chunk := fun p => f (row n p)

/-- The gradient of `u`. -/
def du (r : Fin 2048) : Row := cdu d.lg d.lb d.sw d.sb (part d.u (chk r)) (part d.v (chk r)) (part d.dy (chk r)) (pos r)
/-- The gradient of `v`. -/
def dv (r : Fin 2048) : Row := cdv d.lg d.sw (part d.u (chk r)) (part d.v (chk r)) (part d.dy (chk r)) (pos r)
/-- The gradient of the mixing weights. -/
def dws (g : Fin 8) (p q : Fin 128) : ℝ := ∑ n, cdw d.lg d.lb (part d.u n) (part d.v n) (part d.dy n) g p q
/-- The gradient of the mixing biases. -/
def dbs (g : Fin 8) (p : Fin 128) : ℝ := ∑ n, cdb (part d.u n) (part d.dy n) g p
/-- The gradient of the layer norm's scale. -/
def dlg (_ : Fin 1) (j : Fin 1024) : ℝ := ∑ n, cdlg d.sw (part d.u n) (part d.v n) (part d.dy n) j
/-- The gradient of the layer norm's shift. -/
def dlb (_ : Fin 1) (j : Fin 1024) : ℝ := ∑ n, cdlb d.sw (part d.u n) (part d.dy n) j

/-- The product of a row of a gradient with the `s`-th 1024 columns of the projection's weights. -/
def back (s : Fin 5) (g : Row) (k : Fin 1024) : ℝ := ∑ j, g j * d.w k ⟨1024 * s.val + j.val, by omega⟩
/-- The gradient of the modulated rows of the context. -/
def dhc (a : Fin 256) : Row := d.back 0 (d.dxa ⟨a.val, by omega⟩)
/-- The gradient of the modulated rows of `x`. -/
def dhx (a : Fin 2048) (k : Fin 1024) : ℝ :=
  d.back 0 (d.dxa ⟨256 + a.val, by omega⟩) k + d.back 1 (d.dga a) k + d.back 4 (d.dgb a) k + d.back 2 (d.du a) k
    + d.back 3 (d.dv a) k

/-- The gradient of `x`. -/
def gx (a : Fin 2048) (b : Fin 1024) : ℝ := d.dxn a b + rmsBack (d.x a) (fun k => d.dhx a k * (d.ng 0 k * d.s1x k)) b
/-- The gradient of the RMS norm's scale. -/
def dng (_ : Fin 1) (b : Fin 1024) : ℝ :=
  ∑ a, d.dhc a b * xn (d.ctx a) b * d.s1c b + ∑ a, d.dhx a b * xn (d.x a) b * d.s1x b
/-- The gradient of the scale of the rows of `x`. -/
def dscx (_ : Fin 1) (b : Fin 1024) : ℝ := ∑ a, d.dhx a b * xn (d.x a) b * d.ng 0 b
/-- The gradient of the shift of the rows of `x`. -/
def dshx (_ : Fin 1) (b : Fin 1024) : ℝ := ∑ a, d.dhx a b
/-- The gradient of the scale of the rows of the context. -/
def dscc (_ : Fin 1) (b : Fin 1024) : ℝ := ∑ a, d.dhc a b * xn (d.ctx a) b * d.ng 0 b
/-- The gradient of the shift of the rows of the context. -/
def dshc (_ : Fin 1) (b : Fin 1024) : ℝ := ∑ a, d.dhc a b

end Data

end Cert.Math
-- ==== Proof.KPay.lean ====
module

public import proofs.«01_k».proof.Proof.KOps
public import proofs.«01_k».proof.Proof.Math

/-! The kernel's computed values that are chains of pointwise operations and row reductions, on arrays of real numbers. -/

@[expose] public section

set_option maxRecDepth 16384

noncomputable section

namespace Cert.KernelIdeal.Val

open Idealize.ShloMosaic Cert.Lift Cert.Math Cert.KernelIdeal Cert.KernelIdeal.Gen Cert.KernelIdeal.Ops

/-! ### Constants -/

theorem named_kc : (Named.named κ "gelu_kc" (0x3D122279#32) : Ideal .f32) = ((gk * gc : ℝ) : EReal) := by
  have e : (gk * gc : ℝ) = 80338380498831 / 2251799813685248 := by unfold gk gc; norm_num
  rw [e]; rfl
theorem named_3kc : (Named.named κ "gelu_3kc" (0x3DDB33B6#32) : Ideal .f32) = ((3 * (gk * gc) : ℝ) : EReal) := by
  have e : (3 * (gk * gc) : ℝ) = 241015141496493 / 2251799813685248 := by unfold gk gc; norm_num
  rw [e]; rfl
theorem sp_big_gk : (broadcast S128x1024 (Scalar.ofBits .f32 0x3F4C422A#32 : Ideal .f32) : FVec Ideal _ .f32) = L2 fun _ _ => gk := L2_splat _ bits_gk
theorem sp_big_half : (broadcast S128x1024 (Scalar.ofBits .f32 0x3F000000#32 : Ideal .f32) : FVec Ideal _ .f32) = L2 fun _ _ => (1 / 2) := L2_splat _ bits_half
theorem sp_big_one : (broadcast S128x1024 (Scalar.ofBits .f32 0x3F800000#32 : Ideal .f32) : FVec Ideal _ .f32) = L2 fun _ _ => 1 := L2_splat _ bits_one
theorem sp_col_n : (broadcast S128x1 (Scalar.ofBits .f32 0x44800000#32 : Ideal .f32) : FVec Ideal _ .f32) = L2 fun _ _ => 1024 := L2_splat _ bits_1024
theorem sp_col_eps5 : (broadcast S128x1 (Scalar.ofBits .f32 0x3727C5AC#32 : Ideal .f32) : FVec Ideal _ .f32) = L2 fun _ _ => eps5 := L2_splat _ bits_eps5
theorem sp_col256_n : (broadcast S256x1 (Scalar.ofBits .f32 0x44800000#32 : Ideal .f32) : FVec Ideal _ .f32) = L2 fun _ _ => 1024 := L2_splat _ bits_1024
theorem sp_col256_eps6 : (broadcast S256x1 (Scalar.ofBits .f32 0x358637BD#32 : Ideal .f32) : FVec Ideal _ .f32) = L2 fun _ _ => eps6 := L2_splat _ bits_eps6
theorem sp_row_one : (broadcast S1x1024 (Scalar.ofBits .f32 0x3F800000#32 : Ideal .f32) : FVec Ideal _ .f32) = L2 fun _ _ => 1 := L2_splat _ bits_one
theorem sp_row_zero : (broadcast S1x1024 (Scalar.ofBits .f32 0x00000000#32 : Ideal .f32) : FVec Ideal _ .f32) = L2 fun _ _ => 0 := L2_splat _ bits_zero
theorem sp_big_gk' : (broadcast S128x1024 (FloatOps.ofBits .f32 0x3F4C422A#32 : Ideal .f32) : FVec Ideal _ .f32) = L2 fun _ _ => gk := L2_splat _ bits_gk
theorem sp_col_n' : (broadcast S128x1 (FloatOps.ofBits .f32 0x44800000#32 : Ideal .f32) : FVec Ideal _ .f32) = L2 fun _ _ => 1024 := L2_splat _ bits_1024
theorem sp_ones : (broadcast S8x128 (FloatOps.ofBits .bf16 0x3F80#16 : Ideal .bf16) : FVec Ideal _ .bf16) = L2 fun _ _ => 1 := L2_splat _ bits_one16
theorem sp_big_kc : (broadcast S128x1024 (Named.named κ "gelu_kc" (0x3D122279#32) : Ideal .f32) : FVec Ideal _ .f32) = L2 fun _ _ => gk * gc :=
  L2_splat _ named_kc
theorem sp_big_3kc : (broadcast S128x1024 (Named.named κ "gelu_3kc" (0x3DDB33B6#32) : Ideal .f32) : FVec Ideal _ .f32) = L2 fun _ _ => 3 * (gk * gc) :=
  L2_splat _ named_3kc
/-- The division by the number of columns. -/
theorem div_n {m n : ℕ} (f : Fin m → Fin n → ℝ) :
    divf (L2 f : FVec Ideal _ .f32) (L2 (e := .f32) fun _ _ => 1024) = L2 fun a b => f a b / 1024 := L2_div _ _ fun _ _ => by norm_num

/-! ### Real identities -/

theorem th_k (t : ℝ) : Real.tanh (t * (gk + gk * gc * (t * t))) = th t := by unfold th; congr 1; ring
theorem ph_k (t : ℝ) : 1 / 2 + 1 / 2 * th t = ph t := by unfold ph; ring
theorem gelu_k (t : ℝ) : t * ph t = gelu t := rfl
theorem dgelu_k (t : ℝ) : ph t + gelu t * (1 - th t) * (gk + 3 * (gk * gc) * (t * t)) = dgelu t := rfl
theorem vc_k (f : Row) (b) : gelu (f b) - (∑ k, gelu (f k)) / 1024 = vc f b := rfl
theorem var_k (f : Row) : (∑ k, vc f k * vc f k) / 1024 + eps5 = var f := rfl
theorem rs_k (f : Row) : (√(var f))⁻¹ = rs f := rfl
theorem vh_k (f : Row) (b) : vc f b * rs f = vh f b := rfl
theorem rsqrt_var (V : Chunk) : rsqrt (L2 (fun a _ => var (V a)) : FVec Ideal S128x1 .f32) = L2 fun a _ => rs (V a) :=
  L2_rsqrt _ fun _ _ => var_pos _
theorem ms_k (f : Row) : (∑ k, f k * f k) / 1024 + eps6 = ms f := rfl
theorem rsqrt_ms (f : Fin 256 → Row) : rsqrt (L2 (fun a _ => ms (f a)) : FVec Ideal S256x1 .f32) = L2 fun a _ => rr (f a) :=
  L2_rsqrt _ fun _ _ => ms_pos _

/-! ### The GELU's payloads -/

section
variable (f : Fin 128 → Row)

/-- The single operations, for rewriting. -/
def pay_ops :=
  And.intro @cast_self <| And.intro @L2_mul <| And.intro @L2_add <| And.intro @L2_sub <| And.intro @L2_tanh <|
  And.intro @L2_trunc <| And.intro @sp_big_gk <| And.intro @sp_big_gk' <| And.intro @sp_big_half <| And.intro @sp_big_one <|
  And.intro @sp_big_kc <| And.intro @sp_big_3kc <| And.intro @sp_col_n <| And.intro @sp_col_eps5 <| And.intro @div_n <|
  And.intro @rd_row_128 <| And.intro @sc_col_128 <| And.intro @bt_col_128_1024 <| And.intro @bt_row_128_1024 <|
  And.intro @th_k <| And.intro @ph_k <| And.intro @gelu_k <| And.intro @dgelu_k <| And.intro @vc_k <| And.intro @var_k <|
  And.intro @rsqrt_var @vh_k

theorem pay21_L : k0_pay21 (F := Ideal) (L2 (e := .f32) f) = L2 (e := .f32) fun p j => f p j := by
  simp only [k0_pay21, pay_ops]
theorem pay22_L : k0_pay22 (F := Ideal) (L2 (e := .f32) f) = L2 (e := .f32) fun p j => f p j := by
  simp only [k0_pay22, pay21_L, pay_ops]
theorem pay23_L : k0_pay23 (F := Ideal) (L2 (e := .f32) f) = L2 (e := .f32) fun p j => f p j * f p j := by
  simp only [k0_pay23, pay21_L, pay22_L, pay_ops]
theorem pay24_L : k0_pay24 (F := Ideal) (L2 (e := .f32) f) = L2 (e := .f32) fun p j => th (f p j) := by
  simp only [k0_pay24, pay21_L, pay22_L, pay23_L, pay_ops]
theorem pay25_L : k0_pay25 (F := Ideal) (L2 (e := .f32) f) = L2 (e := .f32) fun p j => ph (f p j) := by
  simp only [k0_pay25, pay21_L, pay22_L, pay23_L, pay24_L, pay_ops]
theorem pay26_L : k0_pay26 (F := Ideal) (L2 (e := .f32) f) = L2 (e := .f32) fun p j => gelu (f p j) := by
  simp only [k0_pay26, pay21_L, pay22_L, pay23_L, pay24_L, pay25_L, pay_ops]
theorem pay27_L : k0_pay27 (F := Ideal) (L2 (e := .f32) f) = L2 (e := .f32) fun p j => dgelu (f p j) := by
  simp only [k0_pay27, pay21_L, pay22_L, pay23_L, pay24_L, pay25_L, pay26_L, pay_ops]
theorem pay28_L : k0_pay28 (F := Ideal) (L2 (e := .f32) f) = L2 (e := .f32) fun p j => f p j * f p j := by
  simp only [k0_pay28, pay21_L, pay22_L, pay23_L, pay24_L, pay25_L, pay26_L, pay27_L, pay_ops]
theorem pay29_L : k0_pay29 (F := Ideal) (L2 (e := .f32) f) = L2 (e := .f32) fun p j => gk * gc * (f p j * f p j) := by
  simp only [k0_pay29, pay21_L, pay22_L, pay23_L, pay24_L, pay25_L, pay26_L, pay27_L, pay28_L, pay_ops]
theorem pay30_L : k0_pay30 (F := Ideal) = L2 (e := .f32) fun _ _ => gk := by
  simp only [k0_pay30, pay21_L, pay22_L, pay23_L, pay24_L, pay25_L, pay26_L, pay27_L, pay28_L, pay29_L, pay_ops]
theorem pay31_L : k0_pay31 (F := Ideal) (L2 (e := .f32) f) (L2 (e := .f32) fun p j => gk * gc * (f p j * f p j)) (L2 (e := .f32) fun _ _ => gk) = L2 (e := .f32) fun p j => th (f p j) := by
  simp only [k0_pay31, pay21_L, pay22_L, pay23_L, pay24_L, pay25_L, pay26_L, pay27_L, pay28_L, pay29_L, pay30_L, pay_ops]
theorem pay32_L : k0_pay32 (F := Ideal) (L2 (e := .f32) f) (L2 (e := .f32) fun p j => gk * gc * (f p j * f p j)) (L2 (e := .f32) fun _ _ => gk) = L2 (e := .f32) fun p j => ph (f p j) := by
  simp only [k0_pay32, pay21_L, pay22_L, pay23_L, pay24_L, pay25_L, pay26_L, pay27_L, pay28_L, pay29_L, pay30_L, pay31_L, pay_ops]
theorem pay33_L : k0_pay33 (F := Ideal) (L2 (e := .f32) f) (L2 (e := .f32) fun p j => gk * gc * (f p j * f p j)) (L2 (e := .f32) fun _ _ => gk) = L2 (e := .f32) fun p j => gelu (f p j) := by
  simp only [k0_pay33, pay21_L, pay22_L, pay23_L, pay24_L, pay25_L, pay26_L, pay27_L, pay28_L, pay29_L, pay30_L, pay31_L, pay32_L, pay_ops]
theorem pay34_L : k0_pay34 (F := Ideal) (L2 (e := .f32) f) (L2 (e := .f32) fun p j => f p j * f p j) (L2 (e := .f32) fun p j => gk * gc * (f p j * f p j)) (L2 (e := .f32) fun _ _ => gk) = L2 (e := .f32) fun p j => dgelu (f p j) := by
  simp only [k0_pay34, pay21_L, pay22_L, pay23_L, pay24_L, pay25_L, pay26_L, pay27_L, pay28_L, pay29_L, pay30_L, pay31_L, pay32_L, pay33_L, pay_ops]
theorem pay35_L : k0_pay35 (F := Ideal) (L2 (e := .f32) f) (L2 (e := .f32) fun p j => gk * gc * (f p j * f p j)) (L2 (e := .f32) fun _ _ => gk) = L2 (e := .f32) fun p j => vc (f p) j := by
  simp only [k0_pay35, pay21_L, pay22_L, pay23_L, pay24_L, pay25_L, pay26_L, pay27_L, pay28_L, pay29_L, pay30_L, pay31_L, pay32_L, pay33_L, pay34_L, pay_ops]
  erw [rd_row_128]; simp only [pay_ops]
theorem pay36_L : k0_pay36 (F := Ideal) (L2 (e := .f32) f) (L2 (e := .f32) fun p j => gk * gc * (f p j * f p j)) (L2 (e := .f32) fun _ _ => gk) = L2 (e := .f32) fun p j => rs (f p) := by
  simp only [k0_pay36, pay21_L, pay22_L, pay23_L, pay24_L, pay25_L, pay26_L, pay27_L, pay28_L, pay29_L, pay30_L, pay31_L, pay32_L, pay33_L, pay34_L, pay35_L, pay_ops]
  erw [rd_row_128]; simp only [pay_ops]
theorem pay37_L : k0_pay37 (F := Ideal) (L2 (e := .f32) f) (L2 (e := .f32) fun p j => gk * gc * (f p j * f p j)) (L2 (e := .f32) fun _ _ => gk) = L2 (e := .f32) fun p j => vh (f p) j := by
  simp only [k0_pay37, pay21_L, pay22_L, pay23_L, pay24_L, pay25_L, pay26_L, pay27_L, pay28_L, pay29_L, pay30_L, pay31_L, pay32_L, pay33_L, pay34_L, pay35_L, pay36_L, pay_ops]
theorem pay38_L (lg lb : Fin 1 → Row) : k0_pay38 (F := Ideal) (L2 (e := .f32) f) (L2 (e := .f32) lg) (L2 (e := .f32) lb) (L2 (e := .f32) fun p j => gk * gc * (f p j * f p j)) (L2 (e := .f32) fun _ _ => gk) = L2 (e := .bf16) fun p j => cvn lg lb f p j := by
  simp only [k0_pay38, pay21_L, pay22_L, pay23_L, pay24_L, pay25_L, pay26_L, pay27_L, pay28_L, pay29_L, pay30_L, pay31_L, pay32_L, pay33_L, pay34_L, pay35_L, pay36_L, pay37_L, pay_ops]
  rfl
theorem pay109_L : k0_pay109 (F := Ideal) (L2 (e := .f32) f) = L2 (e := .f32) fun p j => f p j := by
  simp only [k0_pay109, pay21_L, pay22_L, pay23_L, pay24_L, pay25_L, pay26_L, pay27_L, pay28_L, pay29_L, pay30_L, pay31_L, pay32_L, pay33_L, pay34_L, pay35_L, pay36_L, pay37_L, pay38_L, pay_ops]
theorem pay110_L : k0_pay110 (F := Ideal) (L2 (e := .f32) f) = L2 (e := .f32) fun p j => f p j := by
  simp only [k0_pay110, pay21_L, pay22_L, pay23_L, pay24_L, pay25_L, pay26_L, pay27_L, pay28_L, pay29_L, pay30_L, pay31_L, pay32_L, pay33_L, pay34_L, pay35_L, pay36_L, pay37_L, pay38_L, pay109_L, pay_ops]
theorem pay111_L : k0_pay111 (F := Ideal) (L2 (e := .f32) f) = L2 (e := .f32) fun p j => f p j * f p j := by
  simp only [k0_pay111, pay21_L, pay22_L, pay23_L, pay24_L, pay25_L, pay26_L, pay27_L, pay28_L, pay29_L, pay30_L, pay31_L, pay32_L, pay33_L, pay34_L, pay35_L, pay36_L, pay37_L, pay38_L, pay109_L, pay110_L, pay_ops]
theorem pay112_L : k0_pay112 (F := Ideal) (L2 (e := .f32) f) = L2 (e := .f32) fun p j => th (f p j) := by
  simp only [k0_pay112, pay21_L, pay22_L, pay23_L, pay24_L, pay25_L, pay26_L, pay27_L, pay28_L, pay29_L, pay30_L, pay31_L, pay32_L, pay33_L, pay34_L, pay35_L, pay36_L, pay37_L, pay38_L, pay109_L, pay110_L, pay111_L, pay_ops]
theorem pay113_L : k0_pay113 (F := Ideal) (L2 (e := .f32) f) = L2 (e := .f32) fun p j => ph (f p j) := by
  simp only [k0_pay113, pay21_L, pay22_L, pay23_L, pay24_L, pay25_L, pay26_L, pay27_L, pay28_L, pay29_L, pay30_L, pay31_L, pay32_L, pay33_L, pay34_L, pay35_L, pay36_L, pay37_L, pay38_L, pay109_L, pay110_L, pay111_L, pay112_L, pay_ops]
theorem pay114_L : k0_pay114 (F := Ideal) (L2 (e := .f32) f) = L2 (e := .f32) fun p j => gelu (f p j) := by
  simp only [k0_pay114, pay21_L, pay22_L, pay23_L, pay24_L, pay25_L, pay26_L, pay27_L, pay28_L, pay29_L, pay30_L, pay31_L, pay32_L, pay33_L, pay34_L, pay35_L, pay36_L, pay37_L, pay38_L, pay109_L, pay110_L, pay111_L, pay112_L, pay113_L, pay_ops]
theorem pay115_L : k0_pay115 (F := Ideal) (L2 (e := .f32) f) = L2 (e := .f32) fun p j => gelu (f p j) * (1 - th (f p j)) := by
  simp only [k0_pay115, pay21_L, pay22_L, pay23_L, pay24_L, pay25_L, pay26_L, pay27_L, pay28_L, pay29_L, pay30_L, pay31_L, pay32_L, pay33_L, pay34_L, pay35_L, pay36_L, pay37_L, pay38_L, pay109_L, pay110_L, pay111_L, pay112_L, pay113_L, pay114_L, pay_ops]
theorem pay116_L : k0_pay116 (F := Ideal) (L2 (e := .f32) f) = L2 (e := .f32) fun p j => 3 * (gk * gc) * (f p j * f p j) := by
  simp only [k0_pay116, pay21_L, pay22_L, pay23_L, pay24_L, pay25_L, pay26_L, pay27_L, pay28_L, pay29_L, pay30_L, pay31_L, pay32_L, pay33_L, pay34_L, pay35_L, pay36_L, pay37_L, pay38_L, pay109_L, pay110_L, pay111_L, pay112_L, pay113_L, pay114_L, pay115_L, pay_ops]
theorem pay117_L : k0_pay117 (F := Ideal) (L2 (e := .f32) fun p j => ph (f p j)) (L2 (e := .f32) fun p j => gelu (f p j) * (1 - th (f p j))) (L2 (e := .f32) fun p j => 3 * (gk * gc) * (f p j * f p j)) (FloatOps.ofBits .f32 0x3F4C422A#32) = L2 (e := .f32) fun p j => dgelu (f p j) := by
  simp only [k0_pay117, pay21_L, pay22_L, pay23_L, pay24_L, pay25_L, pay26_L, pay27_L, pay28_L, pay29_L, pay30_L, pay31_L, pay32_L, pay33_L, pay34_L, pay35_L, pay36_L, pay37_L, pay38_L, pay109_L, pay110_L, pay111_L, pay112_L, pay113_L, pay114_L, pay115_L, pay116_L, pay_ops]
theorem pay118_L : k0_pay118 (F := Ideal) (L2 (e := .f32) f) = L2 (e := .f32) fun p j => f p j * f p j := by
  simp only [k0_pay118, pay21_L, pay22_L, pay23_L, pay24_L, pay25_L, pay26_L, pay27_L, pay28_L, pay29_L, pay30_L, pay31_L, pay32_L, pay33_L, pay34_L, pay35_L, pay36_L, pay37_L, pay38_L, pay109_L, pay110_L, pay111_L, pay112_L, pay113_L, pay114_L, pay115_L, pay116_L, pay117_L, pay_ops]
theorem pay119_L : k0_pay119 (F := Ideal) (L2 (e := .f32) f) = L2 (e := .f32) fun p j => th (f p j) := by
  simp only [k0_pay119, pay21_L, pay22_L, pay23_L, pay24_L, pay25_L, pay26_L, pay27_L, pay28_L, pay29_L, pay30_L, pay31_L, pay32_L, pay33_L, pay34_L, pay35_L, pay36_L, pay37_L, pay38_L, pay109_L, pay110_L, pay111_L, pay112_L, pay113_L, pay114_L, pay115_L, pay116_L, pay117_L, pay118_L, pay_ops]
theorem pay120_L : k0_pay120 (F := Ideal) (L2 (e := .f32) f) = L2 (e := .f32) fun p j => ph (f p j) := by
  simp only [k0_pay120, pay21_L, pay22_L, pay23_L, pay24_L, pay25_L, pay26_L, pay27_L, pay28_L, pay29_L, pay30_L, pay31_L, pay32_L, pay33_L, pay34_L, pay35_L, pay36_L, pay37_L, pay38_L, pay109_L, pay110_L, pay111_L, pay112_L, pay113_L, pay114_L, pay115_L, pay116_L, pay117_L, pay118_L, pay119_L, pay_ops]
theorem pay121_L : k0_pay121 (F := Ideal) (L2 (e := .f32) f) = L2 (e := .f32) fun p j => gelu (f p j) := by
  simp only [k0_pay121, pay21_L, pay22_L, pay23_L, pay24_L, pay25_L, pay26_L, pay27_L, pay28_L, pay29_L, pay30_L, pay31_L, pay32_L, pay33_L, pay34_L, pay35_L, pay36_L, pay37_L, pay38_L, pay109_L, pay110_L, pay111_L, pay112_L, pay113_L, pay114_L, pay115_L, pay116_L, pay117_L, pay118_L, pay119_L, pay120_L, pay_ops]
theorem pay122_L : k0_pay122 (F := Ideal) (L2 (e := .f32) f) = L2 (e := .f32) fun p j => dgelu (f p j) := by
  simp only [k0_pay122, pay21_L, pay22_L, pay23_L, pay24_L, pay25_L, pay26_L, pay27_L, pay28_L, pay29_L, pay30_L, pay31_L, pay32_L, pay33_L, pay34_L, pay35_L, pay36_L, pay37_L, pay38_L, pay109_L, pay110_L, pay111_L, pay112_L, pay113_L, pay114_L, pay115_L, pay116_L, pay117_L, pay118_L, pay119_L, pay120_L, pay121_L, pay_ops]
theorem pay123_L : k0_pay123 (F := Ideal) (L2 (e := .f32) f) = L2 (e := .f32) fun p j => vc (f p) j := by
  simp only [k0_pay123, pay21_L, pay22_L, pay23_L, pay24_L, pay25_L, pay26_L, pay27_L, pay28_L, pay29_L, pay30_L, pay31_L, pay32_L, pay33_L, pay34_L, pay35_L, pay36_L, pay37_L, pay38_L, pay109_L, pay110_L, pay111_L, pay112_L, pay113_L, pay114_L, pay115_L, pay116_L, pay117_L, pay118_L, pay119_L, pay120_L, pay121_L, pay122_L, pay_ops]
  erw [rd_row_128]; simp only [pay_ops]
theorem pay124_L : k0_pay124 (F := Ideal) (L2 (e := .f32) f) = L2 (e := .f32) fun p j => rs (f p) := by
  simp only [k0_pay124, pay21_L, pay22_L, pay23_L, pay24_L, pay25_L, pay26_L, pay27_L, pay28_L, pay29_L, pay30_L, pay31_L, pay32_L, pay33_L, pay34_L, pay35_L, pay36_L, pay37_L, pay38_L, pay109_L, pay110_L, pay111_L, pay112_L, pay113_L, pay114_L, pay115_L, pay116_L, pay117_L, pay118_L, pay119_L, pay120_L, pay121_L, pay122_L, pay123_L, pay_ops]
  erw [rd_row_128]; simp only [pay_ops]
theorem pay125_L : k0_pay125 (F := Ideal) (L2 (e := .f32) f) = L2 (e := .f32) fun p j => vh (f p) j := by
  simp only [k0_pay125, pay21_L, pay22_L, pay23_L, pay24_L, pay25_L, pay26_L, pay27_L, pay28_L, pay29_L, pay30_L, pay31_L, pay32_L, pay33_L, pay34_L, pay35_L, pay36_L, pay37_L, pay38_L, pay109_L, pay110_L, pay111_L, pay112_L, pay113_L, pay114_L, pay115_L, pay116_L, pay117_L, pay118_L, pay119_L, pay120_L, pay121_L, pay122_L, pay123_L, pay124_L, pay_ops]
theorem pay126_L (lg lb : Fin 1 → Row) : k0_pay126 (F := Ideal) (L2 (e := .f32) f) (L2 (e := .f32) lg) (L2 (e := .f32) lb) = L2 (e := .bf16) fun p j => cvn lg lb f p j := by
  simp only [k0_pay126, pay21_L, pay22_L, pay23_L, pay24_L, pay25_L, pay26_L, pay27_L, pay28_L, pay29_L, pay30_L, pay31_L, pay32_L, pay33_L, pay34_L, pay35_L, pay36_L, pay37_L, pay38_L, pay109_L, pay110_L, pay111_L, pay112_L, pay113_L, pay114_L, pay115_L, pay116_L, pay117_L, pay118_L, pay119_L, pay120_L, pay121_L, pay122_L, pay123_L, pay124_L, pay125_L, pay_ops]
  rfl

end

end Cert.KernelIdeal.Val
-- ==== Proof.KRead.lean ====
module

public import proofs.«01_k».proof.Proof.KOps
public import proofs.«01_k».proof.Proof.Math
public import proofs.«01_k».proof.Proof.Bufs
public import Idealize.ShloMosaic.Lib.Pipeline.ValueKit

/-! Blocks of real numbers as the contents of the buffers, and what the loads read from them. -/

@[expose] public section

set_option maxRecDepth 16384

noncomputable section

namespace Cert.KernelIdeal.Val

open Idealize.ShloMosaic Cert.Lift Cert.Math Cert.KernelIdeal Cert.KernelIdeal.Gen Cert.KernelIdeal.Run

/-- The `k`-th half of the 256 rows of a block. -/
def half (k : Fin 2) (p : Fin 128) : Fin 256 := ⟨128 * k.val + p.val, by omega⟩

/-- The input blocks of one point, as real numbers. -/
structure RIns where
  x0 : Fin 256 → Row
  x1 : Fin 256 → Row
  x2 : Fin 256 → Row
  x3 : Fin 1024 → Row
  x4 : Fin 1024 → Row
  x5 : Fin 1024 → Row
  x6 : Fin 1024 → Row
  x7 : Fin 1024 → Row
  x8 : Fin 256 → Row
  x9 : Fin 256 → Row
  x10 : Fin 8 → Row
  x11 : Fin 1 → Row
  x12 : Fin 256 → Row
  x13 : Fin 256 → Row
  x14 : Fin 256 → Row
  x15 : Fin 256 → Row
  x16 : Fin 1 → Row
  x17 : Fin 1 → Row
  x18 : Fin 8 → Fin 128 → Fin 128 → ℝ
  x19 : Fin 128 → Fin 8 → ℝ

/-- The accumulators, as real numbers. -/
structure RAcc where
  o21 : Fin 1 → Row
  o22 : Fin 1 → Row
  o23 : Fin 1 → Row
  o24 : Fin 1 → Row
  o25 : Fin 1 → Row
  o28 : Fin 8 → Fin 128 → Fin 128 → ℝ
  o29 : Fin 8 → Fin 128 → ℝ
  o30 : Fin 1 → Row
  o31 : Fin 1 → Row

/-- The blocks as contents. -/
def RIns.up (r : RIns) : Ins Ideal where
  x0 := L2 (e := .bf16) r.x0
  x1 := L2 (e := .bf16) r.x1
  x2 := L2 (e := .bf16) r.x2
  x3 := L2 (e := .bf16) r.x3
  x4 := L2 (e := .bf16) r.x4
  x5 := L2 (e := .bf16) r.x5
  x6 := L2 (e := .bf16) r.x6
  x7 := L2 (e := .bf16) r.x7
  x8 := L2 (e := .f32) r.x8
  x9 := L2 (e := .f32) r.x9
  x10 := L2 (e := .f32) r.x10
  x11 := L2 (e := .f32) r.x11
  x12 := L2 (e := .f32) r.x12
  x13 := L2 (e := .f32) r.x13
  x14 := L2 (e := .f32) r.x14
  x15 := L2 (e := .f32) r.x15
  x16 := L2 (e := .f32) r.x16
  x17 := L2 (e := .f32) r.x17
  x18 := L3 (e := .bf16) r.x18
  x19 := L2 (e := .f32) r.x19

/-- The accumulators as contents. -/
def RAcc.up (a : RAcc) : Acc Ideal where
  o21 := L2 (e := .f32) a.o21
  o22 := L2 (e := .f32) a.o22
  o23 := L2 (e := .f32) a.o23
  o24 := L2 (e := .f32) a.o24
  o25 := L2 (e := .f32) a.o25
  o28 := L3 (e := .f32) a.o28
  o29 := L2 (e := .f32) a.o29
  o30 := L2 (e := .f32) a.o30
  o31 := L2 (e := .f32) a.o31

theorem up_x0 (r : RIns) : r.up.x0 = L2 (e := .bf16) r.x0 := rfl
theorem up_x1 (r : RIns) : r.up.x1 = L2 (e := .bf16) r.x1 := rfl
theorem up_x2 (r : RIns) : r.up.x2 = L2 (e := .bf16) r.x2 := rfl
theorem up_x3 (r : RIns) : r.up.x3 = L2 (e := .bf16) r.x3 := rfl
theorem up_x4 (r : RIns) : r.up.x4 = L2 (e := .bf16) r.x4 := rfl
theorem up_x5 (r : RIns) : r.up.x5 = L2 (e := .bf16) r.x5 := rfl
theorem up_x6 (r : RIns) : r.up.x6 = L2 (e := .bf16) r.x6 := rfl
theorem up_x7 (r : RIns) : r.up.x7 = L2 (e := .bf16) r.x7 := rfl
theorem up_x8 (r : RIns) : r.up.x8 = L2 (e := .f32) r.x8 := rfl
theorem up_x9 (r : RIns) : r.up.x9 = L2 (e := .f32) r.x9 := rfl
theorem up_x10 (r : RIns) : r.up.x10 = L2 (e := .f32) r.x10 := rfl
theorem up_x11 (r : RIns) : r.up.x11 = L2 (e := .f32) r.x11 := rfl
theorem up_x12 (r : RIns) : r.up.x12 = L2 (e := .f32) r.x12 := rfl
theorem up_x13 (r : RIns) : r.up.x13 = L2 (e := .f32) r.x13 := rfl
theorem up_x14 (r : RIns) : r.up.x14 = L2 (e := .f32) r.x14 := rfl
theorem up_x15 (r : RIns) : r.up.x15 = L2 (e := .f32) r.x15 := rfl
theorem up_x16 (r : RIns) : r.up.x16 = L2 (e := .f32) r.x16 := rfl
theorem up_x17 (r : RIns) : r.up.x17 = L2 (e := .f32) r.x17 := rfl
theorem up_x18 (r : RIns) : r.up.x18 = L3 (e := .bf16) r.x18 := rfl
theorem up_x19 (r : RIns) : r.up.x19 = L2 (e := .f32) r.x19 := rfl
theorem up_o21 (a : RAcc) : a.up.o21 = L2 (e := .f32) a.o21 := rfl
theorem up_o22 (a : RAcc) : a.up.o22 = L2 (e := .f32) a.o22 := rfl
theorem up_o23 (a : RAcc) : a.up.o23 = L2 (e := .f32) a.o23 := rfl
theorem up_o24 (a : RAcc) : a.up.o24 = L2 (e := .f32) a.o24 := rfl
theorem up_o25 (a : RAcc) : a.up.o25 = L2 (e := .f32) a.o25 := rfl
theorem up_o28 (a : RAcc) : a.up.o28 = L3 (e := .f32) a.o28 := rfl
theorem up_o29 (a : RAcc) : a.up.o29 = L2 (e := .f32) a.o29 := rfl
theorem up_o30 (a : RAcc) : a.up.o30 = L2 (e := .f32) a.o30 := rfl
theorem up_o31 (a : RAcc) : a.up.o31 = L2 (e := .f32) a.o31 := rfl

theorem rd_all_256_f32 (m : Memref sig .tc .vmem S256x1024 .f32) (h : m.IsWhole) (f : Fin 256 → Row) (inb) :
    View.readAt (Elt Ideal) m.view (Rect.unit (s := S256x1024) ![0, 0] S256x1024.size inb).toLoadRect
      (h.unread (L2 f : FVec Ideal _ .f32)) = (L2 (e := .f32) (f)) := by
  rw [View.readAt_eq_ld, Memref.IsWhole.read_unread]
  funext i; idx_vars i; pointwise [L2, View.ld]

theorem rd_all_256_bf16 (m : Memref sig .tc .vmem S256x1024 .bf16) (h : m.IsWhole) (f : Fin 256 → Row) (inb) :
    View.readAt (Elt Ideal) m.view (Rect.unit (s := S256x1024) ![0, 0] S256x1024.size inb).toLoadRect
      (h.unread (L2 f : FVec Ideal _ .bf16)) = (L2 (e := .bf16) (f)) := by
  rw [View.readAt_eq_ld, Memref.IsWhole.read_unread]
  funext i; idx_vars i; pointwise [L2, View.ld]

theorem rd_all_256 (m : Memref sig .tc .vmem S256x1024 .f32) (h : m.IsWhole) (f : Fin 256 → Row) (inb) :
    View.readAt (Elt Ideal) m.view (Rect.unit (s := S256x1024) ![0, 0] ![256, 1024] inb).toLoadRect
      (h.unread (L2 f : FVec Ideal _ .f32)) = (L2 (e := .f32) (f)) := by
  rw [View.readAt_eq_ld, Memref.IsWhole.read_unread]
  funext i; idx_vars i; pointwise [L2, View.ld]

theorem rd_all_1024 (m : Memref sig .tc .vmem S1024x1024 .bf16) (h : m.IsWhole) (f : Fin 1024 → Row) (inb) :
    View.readAt (Elt Ideal) m.view (Rect.unit (s := S1024x1024) ![0, 0] S1024x1024.size inb).toLoadRect
      (h.unread (L2 f : FVec Ideal _ .bf16)) = (L2 (e := .bf16) (f)) := by
  rw [View.readAt_eq_ld, Memref.IsWhole.read_unread]
  funext i; idx_vars i; pointwise [L2, View.ld]

theorem rd_all_1 (m : Memref sig .tc .vmem S1x1024 .f32) (h : m.IsWhole) (f : Fin 1 → Row) (inb) :
    View.readAt (Elt Ideal) m.view (Rect.unit (s := S1x1024) ![0, 0] S1x1024.size inb).toLoadRect
      (h.unread (L2 f : FVec Ideal _ .f32)) = (L2 (e := .f32) (fun _ j => f 0 j)) := by
  rw [View.readAt_eq_ld, Memref.IsWhole.read_unread]
  funext i; idx_vars i; pointwise [L2, View.ld]

theorem rd_all_1b (m : Memref sig .tc .vmem S1x1024 .f32) (h : m.IsWhole) (f : Fin 1 → Row) (inb) :
    View.readAt (Elt Ideal) m.view (Rect.unit (s := S1x1024) ![0, 0] ![1, 1024] inb).toLoadRect
      (h.unread (L2 f : FVec Ideal _ .f32)) = (L2 (e := .f32) (fun _ j => f 0 j)) := by
  rw [View.readAt_eq_ld, Memref.IsWhole.read_unread]
  funext i; idx_vars i; pointwise [L2, View.ld]

theorem rd_lo (m : Memref sig .tc .vmem S256x1024 .f32) (h : m.IsWhole) (f : Fin 256 → Row) (inb) :
    View.readAt (Elt Ideal) m.view (Rect.unit (s := S256x1024) ![0, 0] S128x1024.size inb).toLoadRect
      (h.unread (L2 f : FVec Ideal _ .f32)) = (L2 (e := .f32) (fun p j => f (half 0 p) j)) := by
  rw [View.readAt_eq_ld, Memref.IsWhole.read_unread]
  funext i; idx_vars i; pointwise [half, L2, View.ld]

theorem rd_hi (m : Memref sig .tc .vmem S256x1024 .f32) (h : m.IsWhole) (f : Fin 256 → Row) (inb) :
    View.readAt (Elt Ideal) m.view (Rect.unit (s := S256x1024) ![128, 0] S128x1024.size inb).toLoadRect
      (h.unread (L2 f : FVec Ideal _ .f32)) = (L2 (e := .f32) (fun p j => f (half 1 p) j)) := by
  rw [View.readAt_eq_ld, Memref.IsWhole.read_unread]
  funext i; idx_vars i; pointwise [half, L2, View.ld]

theorem rd_mod0 (m : Memref sig .tc .vmem S8x1024 .f32) (h : m.IsWhole) (f : Fin 8 → Row) (inb) :
    View.readAt (Elt Ideal) m.view (Rect.unit (s := S8x1024) ![0, 0] ![1, 1024] inb).toLoadRect
      (h.unread (L2 f : FVec Ideal _ .f32)) = (L2 (e := .f32) (fun _ j => f 0 j)) := by
  rw [View.readAt_eq_ld, Memref.IsWhole.read_unread]
  funext i; idx_vars i; pointwise [L2, View.ld]

theorem rd_mod1 (m : Memref sig .tc .vmem S8x1024 .f32) (h : m.IsWhole) (f : Fin 8 → Row) (inb) :
    View.readAt (Elt Ideal) m.view (Rect.unit (s := S8x1024) ![1, 0] ![1, 1024] inb).toLoadRect
      (h.unread (L2 f : FVec Ideal _ .f32)) = (L2 (e := .f32) (fun _ j => f 1 j)) := by
  rw [View.readAt_eq_ld, Memref.IsWhole.read_unread]
  funext i; idx_vars i; pointwise [L2, View.ld]

theorem rd_tile0 (m : Memref sig .tc .vmem S8x128x128 .bf16) (h : m.IsWhole) (f : Fin 8 → Fin 128 → Fin 128 → ℝ) (inb) :
    View.readAt (Elt Ideal) m.view (Rect.unit (s := S8x128x128) ![0, 0, 0] S1x128x128.size inb).toLoadRect
      (h.unread (L3 f : FVec Ideal _ .bf16)) = (L3 (e := .bf16) (fun _ p q => f 0 p q)) := by
  rw [View.readAt_eq_ld, Memref.IsWhole.read_unread]
  funext i; idx_vars i; pointwise [L3, View.ld]

theorem rd_acct0 (m : Memref sig .tc .vmem S8x128x128 .f32) (h : m.IsWhole) (f : Fin 8 → Fin 128 → Fin 128 → ℝ) (inb) :
    View.readAt (Elt Ideal) m.view (Rect.unit (s := S8x128x128) ![0, 0, 0] S1x128x128.size inb).toLoadRect
      (h.unread (L3 f : FVec Ideal _ .f32)) = (L3 (e := .f32) (fun _ p q => f 0 p q)) := by
  rw [View.readAt_eq_ld, Memref.IsWhole.read_unread]
  funext i; idx_vars i; pointwise [L3, View.ld]

theorem rd_col0 (m : Memref sig .tc .vmem S128x8 .f32) (h : m.IsWhole) (f : Fin 128 → Fin 8 → ℝ) (inb) :
    View.readAt (Elt Ideal) m.view (Rect.unit (s := S128x8) ![0, 0] S128x1.size inb).toLoadRect
      (h.unread (L2 f : FVec Ideal _ .f32)) = (L2 (e := .f32) (fun p _ => f p 0)) := by
  rw [View.readAt_eq_ld, Memref.IsWhole.read_unread]
  funext i; idx_vars i; pointwise [L2, View.ld]

theorem rd_accr0 (m : Memref sig .tc .vmem S8x128 .f32) (h : m.IsWhole) (f : Fin 8 → Fin 128 → ℝ) (inb) :
    View.readAt (Elt Ideal) m.view (Rect.unit (s := S8x128) ![0, 0] S1x128.size inb).toLoadRect
      (h.unread (L2 f : FVec Ideal _ .f32)) = (L2 (e := .f32) (fun _ p => f 0 p)) := by
  rw [View.readAt_eq_ld, Memref.IsWhole.read_unread]
  funext i; idx_vars i; pointwise [L2, View.ld]

theorem rd_tile1 (m : Memref sig .tc .vmem S8x128x128 .bf16) (h : m.IsWhole) (f : Fin 8 → Fin 128 → Fin 128 → ℝ) (inb) :
    View.readAt (Elt Ideal) m.view (Rect.unit (s := S8x128x128) ![1, 0, 0] S1x128x128.size inb).toLoadRect
      (h.unread (L3 f : FVec Ideal _ .bf16)) = (L3 (e := .bf16) (fun _ p q => f 1 p q)) := by
  rw [View.readAt_eq_ld, Memref.IsWhole.read_unread]
  funext i; idx_vars i; pointwise [L3, View.ld]

theorem rd_acct1 (m : Memref sig .tc .vmem S8x128x128 .f32) (h : m.IsWhole) (f : Fin 8 → Fin 128 → Fin 128 → ℝ) (inb) :
    View.readAt (Elt Ideal) m.view (Rect.unit (s := S8x128x128) ![1, 0, 0] S1x128x128.size inb).toLoadRect
      (h.unread (L3 f : FVec Ideal _ .f32)) = (L3 (e := .f32) (fun _ p q => f 1 p q)) := by
  rw [View.readAt_eq_ld, Memref.IsWhole.read_unread]
  funext i; idx_vars i; pointwise [L3, View.ld]

theorem rd_col1 (m : Memref sig .tc .vmem S128x8 .f32) (h : m.IsWhole) (f : Fin 128 → Fin 8 → ℝ) (inb) :
    View.readAt (Elt Ideal) m.view (Rect.unit (s := S128x8) ![0, 1] S128x1.size inb).toLoadRect
      (h.unread (L2 f : FVec Ideal _ .f32)) = (L2 (e := .f32) (fun p _ => f p 1)) := by
  rw [View.readAt_eq_ld, Memref.IsWhole.read_unread]
  funext i; idx_vars i; pointwise [L2, View.ld]

theorem rd_accr1 (m : Memref sig .tc .vmem S8x128 .f32) (h : m.IsWhole) (f : Fin 8 → Fin 128 → ℝ) (inb) :
    View.readAt (Elt Ideal) m.view (Rect.unit (s := S8x128) ![1, 0] S1x128.size inb).toLoadRect
      (h.unread (L2 f : FVec Ideal _ .f32)) = (L2 (e := .f32) (fun _ p => f 1 p)) := by
  rw [View.readAt_eq_ld, Memref.IsWhole.read_unread]
  funext i; idx_vars i; pointwise [L2, View.ld]

theorem rd_tile2 (m : Memref sig .tc .vmem S8x128x128 .bf16) (h : m.IsWhole) (f : Fin 8 → Fin 128 → Fin 128 → ℝ) (inb) :
    View.readAt (Elt Ideal) m.view (Rect.unit (s := S8x128x128) ![2, 0, 0] S1x128x128.size inb).toLoadRect
      (h.unread (L3 f : FVec Ideal _ .bf16)) = (L3 (e := .bf16) (fun _ p q => f 2 p q)) := by
  rw [View.readAt_eq_ld, Memref.IsWhole.read_unread]
  funext i; idx_vars i; pointwise [L3, View.ld]

theorem rd_acct2 (m : Memref sig .tc .vmem S8x128x128 .f32) (h : m.IsWhole) (f : Fin 8 → Fin 128 → Fin 128 → ℝ) (inb) :
    View.readAt (Elt Ideal) m.view (Rect.unit (s := S8x128x128) ![2, 0, 0] S1x128x128.size inb).toLoadRect
      (h.unread (L3 f : FVec Ideal _ .f32)) = (L3 (e := .f32) (fun _ p q => f 2 p q)) := by
  rw [View.readAt_eq_ld, Memref.IsWhole.read_unread]
  funext i; idx_vars i; pointwise [L3, View.ld]

theorem rd_col2 (m : Memref sig .tc .vmem S128x8 .f32) (h : m.IsWhole) (f : Fin 128 → Fin 8 → ℝ) (inb) :
    View.readAt (Elt Ideal) m.view (Rect.unit (s := S128x8) ![0, 2] S128x1.size inb).toLoadRect
      (h.unread (L2 f : FVec Ideal _ .f32)) = (L2 (e := .f32) (fun p _ => f p 2)) := by
  rw [View.readAt_eq_ld, Memref.IsWhole.read_unread]
  funext i; idx_vars i; pointwise [L2, View.ld]

theorem rd_accr2 (m : Memref sig .tc .vmem S8x128 .f32) (h : m.IsWhole) (f : Fin 8 → Fin 128 → ℝ) (inb) :
    View.readAt (Elt Ideal) m.view (Rect.unit (s := S8x128) ![2, 0] S1x128.size inb).toLoadRect
      (h.unread (L2 f : FVec Ideal _ .f32)) = (L2 (e := .f32) (fun _ p => f 2 p)) := by
  rw [View.readAt_eq_ld, Memref.IsWhole.read_unread]
  funext i; idx_vars i; pointwise [L2, View.ld]

theorem rd_tile3 (m : Memref sig .tc .vmem S8x128x128 .bf16) (h : m.IsWhole) (f : Fin 8 → Fin 128 → Fin 128 → ℝ) (inb) :
    View.readAt (Elt Ideal) m.view (Rect.unit (s := S8x128x128) ![3, 0, 0] S1x128x128.size inb).toLoadRect
      (h.unread (L3 f : FVec Ideal _ .bf16)) = (L3 (e := .bf16) (fun _ p q => f 3 p q)) := by
  rw [View.readAt_eq_ld, Memref.IsWhole.read_unread]
  funext i; idx_vars i; pointwise [L3, View.ld]

theorem rd_acct3 (m : Memref sig .tc .vmem S8x128x128 .f32) (h : m.IsWhole) (f : Fin 8 → Fin 128 → Fin 128 → ℝ) (inb) :
    View.readAt (Elt Ideal) m.view (Rect.unit (s := S8x128x128) ![3, 0, 0] S1x128x128.size inb).toLoadRect
      (h.unread (L3 f : FVec Ideal _ .f32)) = (L3 (e := .f32) (fun _ p q => f 3 p q)) := by
  rw [View.readAt_eq_ld, Memref.IsWhole.read_unread]
  funext i; idx_vars i; pointwise [L3, View.ld]

theorem rd_col3 (m : Memref sig .tc .vmem S128x8 .f32) (h : m.IsWhole) (f : Fin 128 → Fin 8 → ℝ) (inb) :
    View.readAt (Elt Ideal) m.view (Rect.unit (s := S128x8) ![0, 3] S128x1.size inb).toLoadRect
      (h.unread (L2 f : FVec Ideal _ .f32)) = (L2 (e := .f32) (fun p _ => f p 3)) := by
  rw [View.readAt_eq_ld, Memref.IsWhole.read_unread]
  funext i; idx_vars i; pointwise [L2, View.ld]

theorem rd_accr3 (m : Memref sig .tc .vmem S8x128 .f32) (h : m.IsWhole) (f : Fin 8 → Fin 128 → ℝ) (inb) :
    View.readAt (Elt Ideal) m.view (Rect.unit (s := S8x128) ![3, 0] S1x128.size inb).toLoadRect
      (h.unread (L2 f : FVec Ideal _ .f32)) = (L2 (e := .f32) (fun _ p => f 3 p)) := by
  rw [View.readAt_eq_ld, Memref.IsWhole.read_unread]
  funext i; idx_vars i; pointwise [L2, View.ld]

theorem rd_tile4 (m : Memref sig .tc .vmem S8x128x128 .bf16) (h : m.IsWhole) (f : Fin 8 → Fin 128 → Fin 128 → ℝ) (inb) :
    View.readAt (Elt Ideal) m.view (Rect.unit (s := S8x128x128) ![4, 0, 0] S1x128x128.size inb).toLoadRect
      (h.unread (L3 f : FVec Ideal _ .bf16)) = (L3 (e := .bf16) (fun _ p q => f 4 p q)) := by
  rw [View.readAt_eq_ld, Memref.IsWhole.read_unread]
  funext i; idx_vars i; pointwise [L3, View.ld]

theorem rd_acct4 (m : Memref sig .tc .vmem S8x128x128 .f32) (h : m.IsWhole) (f : Fin 8 → Fin 128 → Fin 128 → ℝ) (inb) :
    View.readAt (Elt Ideal) m.view (Rect.unit (s := S8x128x128) ![4, 0, 0] S1x128x128.size inb).toLoadRect
      (h.unread (L3 f : FVec Ideal _ .f32)) = (L3 (e := .f32) (fun _ p q => f 4 p q)) := by
  rw [View.readAt_eq_ld, Memref.IsWhole.read_unread]
  funext i; idx_vars i; pointwise [L3, View.ld]

theorem rd_col4 (m : Memref sig .tc .vmem S128x8 .f32) (h : m.IsWhole) (f : Fin 128 → Fin 8 → ℝ) (inb) :
    View.readAt (Elt Ideal) m.view (Rect.unit (s := S128x8) ![0, 4] S128x1.size inb).toLoadRect
      (h.unread (L2 f : FVec Ideal _ .f32)) = (L2 (e := .f32) (fun p _ => f p 4)) := by
  rw [View.readAt_eq_ld, Memref.IsWhole.read_unread]
  funext i; idx_vars i; pointwise [L2, View.ld]

theorem rd_accr4 (m : Memref sig .tc .vmem S8x128 .f32) (h : m.IsWhole) (f : Fin 8 → Fin 128 → ℝ) (inb) :
    View.readAt (Elt Ideal) m.view (Rect.unit (s := S8x128) ![4, 0] S1x128.size inb).toLoadRect
      (h.unread (L2 f : FVec Ideal _ .f32)) = (L2 (e := .f32) (fun _ p => f 4 p)) := by
  rw [View.readAt_eq_ld, Memref.IsWhole.read_unread]
  funext i; idx_vars i; pointwise [L2, View.ld]

theorem rd_tile5 (m : Memref sig .tc .vmem S8x128x128 .bf16) (h : m.IsWhole) (f : Fin 8 → Fin 128 → Fin 128 → ℝ) (inb) :
    View.readAt (Elt Ideal) m.view (Rect.unit (s := S8x128x128) ![5, 0, 0] S1x128x128.size inb).toLoadRect
      (h.unread (L3 f : FVec Ideal _ .bf16)) = (L3 (e := .bf16) (fun _ p q => f 5 p q)) := by
  rw [View.readAt_eq_ld, Memref.IsWhole.read_unread]
  funext i; idx_vars i; pointwise [L3, View.ld]

theorem rd_acct5 (m : Memref sig .tc .vmem S8x128x128 .f32) (h : m.IsWhole) (f : Fin 8 → Fin 128 → Fin 128 → ℝ) (inb) :
    View.readAt (Elt Ideal) m.view (Rect.unit (s := S8x128x128) ![5, 0, 0] S1x128x128.size inb).toLoadRect
      (h.unread (L3 f : FVec Ideal _ .f32)) = (L3 (e := .f32) (fun _ p q => f 5 p q)) := by
  rw [View.readAt_eq_ld, Memref.IsWhole.read_unread]
  funext i; idx_vars i; pointwise [L3, View.ld]

theorem rd_col5 (m : Memref sig .tc .vmem S128x8 .f32) (h : m.IsWhole) (f : Fin 128 → Fin 8 → ℝ) (inb) :
    View.readAt (Elt Ideal) m.view (Rect.unit (s := S128x8) ![0, 5] S128x1.size inb).toLoadRect
      (h.unread (L2 f : FVec Ideal _ .f32)) = (L2 (e := .f32) (fun p _ => f p 5)) := by
  rw [View.readAt_eq_ld, Memref.IsWhole.read_unread]
  funext i; idx_vars i; pointwise [L2, View.ld]

theorem rd_accr5 (m : Memref sig .tc .vmem S8x128 .f32) (h : m.IsWhole) (f : Fin 8 → Fin 128 → ℝ) (inb) :
    View.readAt (Elt Ideal) m.view (Rect.unit (s := S8x128) ![5, 0] S1x128.size inb).toLoadRect
      (h.unread (L2 f : FVec Ideal _ .f32)) = (L2 (e := .f32) (fun _ p => f 5 p)) := by
  rw [View.readAt_eq_ld, Memref.IsWhole.read_unread]
  funext i; idx_vars i; pointwise [L2, View.ld]

theorem rd_tile6 (m : Memref sig .tc .vmem S8x128x128 .bf16) (h : m.IsWhole) (f : Fin 8 → Fin 128 → Fin 128 → ℝ) (inb) :
    View.readAt (Elt Ideal) m.view (Rect.unit (s := S8x128x128) ![6, 0, 0] S1x128x128.size inb).toLoadRect
      (h.unread (L3 f : FVec Ideal _ .bf16)) = (L3 (e := .bf16) (fun _ p q => f 6 p q)) := by
  rw [View.readAt_eq_ld, Memref.IsWhole.read_unread]
  funext i; idx_vars i; pointwise [L3, View.ld]

theorem rd_acct6 (m : Memref sig .tc .vmem S8x128x128 .f32) (h : m.IsWhole) (f : Fin 8 → Fin 128 → Fin 128 → ℝ) (inb) :
    View.readAt (Elt Ideal) m.view (Rect.unit (s := S8x128x128) ![6, 0, 0] S1x128x128.size inb).toLoadRect
      (h.unread (L3 f : FVec Ideal _ .f32)) = (L3 (e := .f32) (fun _ p q => f 6 p q)) := by
  rw [View.readAt_eq_ld, Memref.IsWhole.read_unread]
  funext i; idx_vars i; pointwise [L3, View.ld]

theorem rd_col6 (m : Memref sig .tc .vmem S128x8 .f32) (h : m.IsWhole) (f : Fin 128 → Fin 8 → ℝ) (inb) :
    View.readAt (Elt Ideal) m.view (Rect.unit (s := S128x8) ![0, 6] S128x1.size inb).toLoadRect
      (h.unread (L2 f : FVec Ideal _ .f32)) = (L2 (e := .f32) (fun p _ => f p 6)) := by
  rw [View.readAt_eq_ld, Memref.IsWhole.read_unread]
  funext i; idx_vars i; pointwise [L2, View.ld]

theorem rd_accr6 (m : Memref sig .tc .vmem S8x128 .f32) (h : m.IsWhole) (f : Fin 8 → Fin 128 → ℝ) (inb) :
    View.readAt (Elt Ideal) m.view (Rect.unit (s := S8x128) ![6, 0] S1x128.size inb).toLoadRect
      (h.unread (L2 f : FVec Ideal _ .f32)) = (L2 (e := .f32) (fun _ p => f 6 p)) := by
  rw [View.readAt_eq_ld, Memref.IsWhole.read_unread]
  funext i; idx_vars i; pointwise [L2, View.ld]

theorem rd_tile7 (m : Memref sig .tc .vmem S8x128x128 .bf16) (h : m.IsWhole) (f : Fin 8 → Fin 128 → Fin 128 → ℝ) (inb) :
    View.readAt (Elt Ideal) m.view (Rect.unit (s := S8x128x128) ![7, 0, 0] S1x128x128.size inb).toLoadRect
      (h.unread (L3 f : FVec Ideal _ .bf16)) = (L3 (e := .bf16) (fun _ p q => f 7 p q)) := by
  rw [View.readAt_eq_ld, Memref.IsWhole.read_unread]
  funext i; idx_vars i; pointwise [L3, View.ld]

theorem rd_acct7 (m : Memref sig .tc .vmem S8x128x128 .f32) (h : m.IsWhole) (f : Fin 8 → Fin 128 → Fin 128 → ℝ) (inb) :
    View.readAt (Elt Ideal) m.view (Rect.unit (s := S8x128x128) ![7, 0, 0] S1x128x128.size inb).toLoadRect
      (h.unread (L3 f : FVec Ideal _ .f32)) = (L3 (e := .f32) (fun _ p q => f 7 p q)) := by
  rw [View.readAt_eq_ld, Memref.IsWhole.read_unread]
  funext i; idx_vars i; pointwise [L3, View.ld]

theorem rd_col7 (m : Memref sig .tc .vmem S128x8 .f32) (h : m.IsWhole) (f : Fin 128 → Fin 8 → ℝ) (inb) :
    View.readAt (Elt Ideal) m.view (Rect.unit (s := S128x8) ![0, 7] S128x1.size inb).toLoadRect
      (h.unread (L2 f : FVec Ideal _ .f32)) = (L2 (e := .f32) (fun p _ => f p 7)) := by
  rw [View.readAt_eq_ld, Memref.IsWhole.read_unread]
  funext i; idx_vars i; pointwise [L2, View.ld]

theorem rd_accr7 (m : Memref sig .tc .vmem S8x128 .f32) (h : m.IsWhole) (f : Fin 8 → Fin 128 → ℝ) (inb) :
    View.readAt (Elt Ideal) m.view (Rect.unit (s := S8x128) ![7, 0] S1x128.size inb).toLoadRect
      (h.unread (L2 f : FVec Ideal _ .f32)) = (L2 (e := .f32) (fun _ p => f 7 p)) := by
  rw [View.readAt_eq_ld, Memref.IsWhole.read_unread]
  funext i; idx_vars i; pointwise [L2, View.ld]

end Cert.KernelIdeal.Val
-- ==== Proof.KTile.lean ====
module

public import proofs.«01_k».proof.Proof.KRead
public import Idealize.ShloMosaic.Lib.Pipeline.ReadBack
public import Idealize.ShloMosaic.Lib.Ring

/-! Stores that tile a buffer, and what is read back. -/

@[expose] public section

set_option maxRecDepth 16384

noncomputable section

namespace Cert.KernelIdeal.Val

open Idealize.ShloMosaic Idealize.ShloMosaic.Tactic Cert.Lift Cert.Math Cert.KernelIdeal Cert.KernelIdeal.Gen Cert.KernelIdeal.Run

/-- Eight stored blocks of 128 columns, read back as one array. -/
theorem cols_read (m : Memref sig .tc .vmem S128x1024 .f32) (f : Fin 128 → Row)
    {w0 w1 w2 w3 w4 w5 w6 w7 : S128x128.Idx → Elt Ideal .f32} (L : List (View.Piece (Elt Ideal) S128x1024 .f32))
    (b0 b1 b2 b3 b4 b5 b6 b7 b)
    (h0 : w0 = L2 (e := .f32) fun p q => f p (col 0 q)) (h1 : w1 = L2 (e := .f32) fun p q => f p (col 1 q))
    (h2 : w2 = L2 (e := .f32) fun p q => f p (col 2 q)) (h3 : w3 = L2 (e := .f32) fun p q => f p (col 3 q))
    (h4 : w4 = L2 (e := .f32) fun p q => f p (col 4 q)) (h5 : w5 = L2 (e := .f32) fun p q => f p (col 5 q))
    (h6 : w6 = L2 (e := .f32) fun p q => f p (col 6 q)) (h7 : w7 = L2 (e := .f32) fun p q => f p (col 7 q)) :
    m.view.readCov ([⟨Rect.unit (s := S128x1024) ![0, 896] S128x128.size b7, w7⟩, ⟨Rect.unit (s := S128x1024) ![0, 768] S128x128.size b6, w6⟩,
      ⟨Rect.unit (s := S128x1024) ![0, 640] S128x128.size b5, w5⟩, ⟨Rect.unit (s := S128x1024) ![0, 512] S128x128.size b4, w4⟩,
      ⟨Rect.unit (s := S128x1024) ![0, 384] S128x128.size b3, w3⟩, ⟨Rect.unit (s := S128x1024) ![0, 256] S128x128.size b2, w2⟩,
      ⟨Rect.unit (s := S128x1024) ![0, 128] S128x128.size b1, w1⟩, ⟨Rect.unit (s := S128x1024) ![0, 0] S128x128.size b0, w0⟩] ++ L)
      (Rect.unit (s := S128x1024) ![0, 0] S128x1024.size b).toLoadRect = L2 (e := .f32) f := by
  subst h0 h1 h2 h3 h4 h5 h6 h7
  rw [View.readCov_eq_canon']
  funext j
  refine (View.canon_append_of_piecesOf (L2 (e := .f32) f) L _ ?_ _ (View.cover_of_tiledL _ ![128, 128] (by sl_kernel_rfl) _)).trans ?_
  · refine ⟨?_, ?_, ?_, ?_, ?_, ?_, ?_, ?_, trivial⟩ <;> (intro i; refine congrArg Real.toEReal (congrArg₂ f (Fin.ext ?_) (Fin.ext ?_)) <;> (show _ = _ + 1 * _; simp [Rect.unit, col, half]))
  · refine congrArg Real.toEReal (congrArg₂ f (Fin.ext ?_) (Fin.ext ?_)) <;> simp [LoadRect.idx, Rect.toLoadRect, Rect.unit]

set_option maxHeartbeats 1000000 in
/-- Two stored halves of 256 rows. -/
theorem halves (f : Fin 256 → Row) {w0 w1 : S128x1024.Idx → Elt Ideal .bf16} (b0 b1)
    (h0 : w0 = L2 (e := .bf16) fun p j => f (half 0 p) j) (h1 : w1 = L2 (e := .bf16) fun p j => f (half 1 p) j) :
    View.canon (Val := Elt Ideal) (s := S256x1024) (e := .bf16) [⟨Rect.unit (s := S256x1024) ![128, 0] S128x1024.size b1, w1⟩,
      ⟨Rect.unit (s := S256x1024) ![0, 0] S128x1024.size b0, w0⟩] = L2 (e := .bf16) f := by
  subst h0 h1
  funext j
  refine View.canon_append_of_piecesOf (Val := Elt Ideal) (s := S256x1024) (e := .bf16) (L2 (e := .bf16) f) []
    [⟨Rect.unit (s := S256x1024) ![128, 0] S128x1024.size b1, _⟩, ⟨Rect.unit (s := S256x1024) ![0, 0] S128x1024.size b0, _⟩] ?_ _
    (View.cover_of_tiledL _ ![128, 1024] (by sl_kernel_rfl) _)
  refine ⟨?_, ?_, trivial⟩ <;> (intro i; refine congrArg Real.toEReal (congrArg₂ f (Fin.ext ?_) (Fin.ext ?_)) <;> (show _ = _ + 1 * _; simp [Rect.unit, col, half]))

/-- Eight stored slabs. -/
theorem slabs (f : Fin 8 → Fin 128 → Fin 128 → ℝ)
    {w0 w1 w2 w3 w4 w5 w6 w7 : S1x128x128.Idx → Elt Ideal .f32} (L : List (View.Piece (Elt Ideal) S8x128x128 .f32))
    (b0 b1 b2 b3 b4 b5 b6 b7)
    (h0 : w0 = L3 (e := .f32) fun _ p q => f 0 p q) (h1 : w1 = L3 (e := .f32) fun _ p q => f 1 p q)
    (h2 : w2 = L3 (e := .f32) fun _ p q => f 2 p q) (h3 : w3 = L3 (e := .f32) fun _ p q => f 3 p q)
    (h4 : w4 = L3 (e := .f32) fun _ p q => f 4 p q) (h5 : w5 = L3 (e := .f32) fun _ p q => f 5 p q)
    (h6 : w6 = L3 (e := .f32) fun _ p q => f 6 p q) (h7 : w7 = L3 (e := .f32) fun _ p q => f 7 p q) :
    View.canon (Val := Elt Ideal) (s := S8x128x128) (e := .f32)
      ([⟨Rect.unit (s := S8x128x128) ![7, 0, 0] S1x128x128.size b7, w7⟩, ⟨Rect.unit (s := S8x128x128) ![6, 0, 0] S1x128x128.size b6, w6⟩,
      ⟨Rect.unit (s := S8x128x128) ![5, 0, 0] S1x128x128.size b5, w5⟩, ⟨Rect.unit (s := S8x128x128) ![4, 0, 0] S1x128x128.size b4, w4⟩,
      ⟨Rect.unit (s := S8x128x128) ![3, 0, 0] S1x128x128.size b3, w3⟩, ⟨Rect.unit (s := S8x128x128) ![2, 0, 0] S1x128x128.size b2, w2⟩,
      ⟨Rect.unit (s := S8x128x128) ![1, 0, 0] S1x128x128.size b1, w1⟩, ⟨Rect.unit (s := S8x128x128) ![0, 0, 0] S1x128x128.size b0, w0⟩] ++ L)
      = L3 (e := .f32) f := by
  subst h0 h1 h2 h3 h4 h5 h6 h7
  funext j
  refine (View.canon_append_of_piecesOf (L3 (e := .f32) f) L _ ?_ _ (View.cover_of_tiledL _ ![1, 128, 128] (by sl_kernel_rfl) _))
  refine ⟨?_, ?_, ?_, ?_, ?_, ?_, ?_, ?_, trivial⟩ <;> (intro i; refine congrArg Real.toEReal (congr (congrArg₂ f (Fin.ext ?_) (Fin.ext ?_)) (Fin.ext ?_)) <;> (show _ = _ + 1 * _; simp [Rect.unit]))

/-- Eight stored rows. -/
theorem rows (f : Fin 8 → Fin 128 → ℝ)
    {w0 w1 w2 w3 w4 w5 w6 w7 : S1x128.Idx → Elt Ideal .f32} (L : List (View.Piece (Elt Ideal) S8x128 .f32))
    (b0 b1 b2 b3 b4 b5 b6 b7)
    (h0 : w0 = L2 (e := .f32) fun _ p => f 0 p) (h1 : w1 = L2 (e := .f32) fun _ p => f 1 p)
    (h2 : w2 = L2 (e := .f32) fun _ p => f 2 p) (h3 : w3 = L2 (e := .f32) fun _ p => f 3 p)
    (h4 : w4 = L2 (e := .f32) fun _ p => f 4 p) (h5 : w5 = L2 (e := .f32) fun _ p => f 5 p)
    (h6 : w6 = L2 (e := .f32) fun _ p => f 6 p) (h7 : w7 = L2 (e := .f32) fun _ p => f 7 p) :
    View.canon (Val := Elt Ideal) (s := S8x128) (e := .f32)
      ([⟨Rect.unit (s := S8x128) ![7, 0] S1x128.size b7, w7⟩, ⟨Rect.unit (s := S8x128) ![6, 0] S1x128.size b6, w6⟩,
      ⟨Rect.unit (s := S8x128) ![5, 0] S1x128.size b5, w5⟩, ⟨Rect.unit (s := S8x128) ![4, 0] S1x128.size b4, w4⟩,
      ⟨Rect.unit (s := S8x128) ![3, 0] S1x128.size b3, w3⟩, ⟨Rect.unit (s := S8x128) ![2, 0] S1x128.size b2, w2⟩,
      ⟨Rect.unit (s := S8x128) ![1, 0] S1x128.size b1, w1⟩, ⟨Rect.unit (s := S8x128) ![0, 0] S1x128.size b0, w0⟩] ++ L)
      = L2 (e := .f32) f := by
  subst h0 h1 h2 h3 h4 h5 h6 h7
  funext j
  refine (View.canon_append_of_piecesOf (L2 (e := .f32) f) L _ ?_ _ (View.cover_of_tiledL _ ![1, 128] (by sl_kernel_rfl) _))
  refine ⟨?_, ?_, ?_, ?_, ?_, ?_, ?_, ?_, trivial⟩ <;> (intro i; refine congrArg Real.toEReal (congrArg₂ f (Fin.ext ?_) (Fin.ext ?_)) <;> (show _ = _ + 1 * _; simp [Rect.unit, col, half]))

/-- A whole row stored last. -/
theorem row_whole (f : Fin 1 → Row) {w : S1x1024.Idx → Elt Ideal .f32} (L : List (View.Piece (Elt Ideal) S1x1024 .f32)) (b)
    (h : w = L2 (e := .f32) f) :
    View.canon (Val := Elt Ideal) (s := S1x1024) (e := .f32) (⟨Rect.unit (s := S1x1024) ![0, 0] S1x1024.size b, w⟩ :: L) = L2 (e := .f32) f := by
  subst h
  funext j
  refine (View.canon_append_of_piecesOf (L2 (e := .f32) f) L [_] ?_ _ (View.cover_of_tiledL _ ![1, 1024] (by sl_kernel_rfl) _))
  refine ⟨?_, trivial⟩; (intro i; refine congrArg Real.toEReal (congrArg₂ f (Fin.ext ?_) (Fin.ext ?_)) <;> (show _ = _ + 1 * _; simp [Rect.unit, col, half]))

/-- A whole block stored. -/
theorem block_whole (f : Fin 256 → Row) {w : S256x1024.Idx → Elt Ideal .f32} (L : List (View.Piece (Elt Ideal) S256x1024 .f32)) (b)
    (h : w = L2 (e := .f32) f) :
    View.canon (Val := Elt Ideal) (s := S256x1024) (e := .f32) (⟨Rect.unit (s := S256x1024) ![0, 0] S256x1024.size b, w⟩ :: L) = L2 (e := .f32) f := by
  subst h
  funext j
  refine (View.canon_append_of_piecesOf (L2 (e := .f32) f) L [_] ?_ _ (View.cover_of_tiledL _ ![256, 1024] (by sl_kernel_rfl) _))
  refine ⟨?_, trivial⟩; (intro i; refine congrArg Real.toEReal (congrArg₂ f (Fin.ext ?_) (Fin.ext ?_)) <;> (show _ = _ + 1 * _; simp [Rect.unit, col, half]))

end Cert.KernelIdeal.Val
-- ==== Proof.KWord0.lean ====
module

public import proofs.«01_k».proof.Proof.KPay
public import proofs.«01_k».proof.Proof.KTile
public import proofs.«01_k».proof.Proof.RunB

/-! The words of the body at a later point, on arrays of real numbers: the first chunk of 128 rows. -/

@[expose] public section

set_option maxRecDepth 16384

noncomputable section

namespace Cert.KernelIdeal.Val

open Idealize.ShloMosaic Cert.Lift Cert.Math Cert.KernelIdeal Cert.KernelIdeal.Gen Cert.KernelIdeal.Ops Cert.KernelIdeal.Run

/-- The `k`-th chunk of the block's rows of `u`. -/
def RIns.U (r : RIns) (k : Fin 2) : Chunk := fun p => r.x13 (half k p)
/-- The `k`-th chunk of the block's rows of `v`. -/
def RIns.V (r : RIns) (k : Fin 2) : Chunk := fun p => r.x14 (half k p)
/-- The `k`-th chunk of the block's rows of the gated branch's gradient. -/
def RIns.Y (r : RIns) (k : Fin 2) : Chunk := fun p => r.x15 (half k p)
/-- The mixing biases, one row for each group. -/
def RIns.sb (r : RIns) : Fin 8 → Fin 128 → ℝ := fun g p => r.x19 p g

variable (c : Dev nD) (R : Refs) (r : RIns) (a : RAcc)

/-! ### Inputs -/

theorem w_v219 : runB.sl.v219 c R r.up = L2 (e := .bf16) (r.x18 0) :=
  (congrArg (fun t => shapeCast S128x128 t _) (rd_tile0 R.a19 R.h19 r.x18 _)).trans (sc_drop _ _)
theorem w_v115 : runB.sl.v115 c R r.up = L2 (e := .bf16) (r.x18 1) :=
  (congrArg (fun t => shapeCast S128x128 t _) (rd_tile1 R.a19 R.h19 r.x18 _)).trans (sc_drop _ _)
theorem w_v126 : runB.sl.v126 c R r.up = L2 (e := .bf16) (r.x18 2) :=
  (congrArg (fun t => shapeCast S128x128 t _) (rd_tile2 R.a19 R.h19 r.x18 _)).trans (sc_drop _ _)
theorem w_v137 : runB.sl.v137 c R r.up = L2 (e := .bf16) (r.x18 3) :=
  (congrArg (fun t => shapeCast S128x128 t _) (rd_tile3 R.a19 R.h19 r.x18 _)).trans (sc_drop _ _)
theorem w_v148 : runB.sl.v148 c R r.up = L2 (e := .bf16) (r.x18 4) :=
  (congrArg (fun t => shapeCast S128x128 t _) (rd_tile4 R.a19 R.h19 r.x18 _)).trans (sc_drop _ _)
theorem w_v159 : runB.sl.v159 c R r.up = L2 (e := .bf16) (r.x18 5) :=
  (congrArg (fun t => shapeCast S128x128 t _) (rd_tile5 R.a19 R.h19 r.x18 _)).trans (sc_drop _ _)
theorem w_v170 : runB.sl.v170 c R r.up = L2 (e := .bf16) (r.x18 6) :=
  (congrArg (fun t => shapeCast S128x128 t _) (rd_tile6 R.a19 R.h19 r.x18 _)).trans (sc_drop _ _)
theorem w_v181 : runB.sl.v181 c R r.up = L2 (e := .bf16) (r.x18 7) :=
  (congrArg (fun t => shapeCast S128x128 t _) (rd_tile7 R.a19 R.h19 r.x18 _)).trans (sc_drop _ _)
theorem w_v408 : runB.sl.v408 c R r.up = L2 (e := .bf16) (r.x18 7) :=
  (congrArg (fun t => shapeCast S128x128 t _) (rd_tile7 R.a19 R.h19 r.x18 _)).trans (sc_drop _ _)
theorem w_v109 : runB.sl.v109 c R r.up = L2 (e := .f32) fun p _ => r.sb 0 p :=
  (congrArg (fun t => broadcastTo S128x128 (shapeCast S128x1 t _) _) (rd_col0 R.a20 R.h20 r.x19 _)).trans
    ((congrArg (fun t => broadcastTo S128x128 t _) (cast_self _ _)).trans (bt_col_128_128 _ _))
theorem w_v120 : runB.sl.v120 c R r.up = L2 (e := .f32) fun p _ => r.sb 1 p :=
  (congrArg (fun t => broadcastTo S128x128 (shapeCast S128x1 t _) _) (rd_col1 R.a20 R.h20 r.x19 _)).trans
    ((congrArg (fun t => broadcastTo S128x128 t _) (cast_self _ _)).trans (bt_col_128_128 _ _))
theorem w_v131 : runB.sl.v131 c R r.up = L2 (e := .f32) fun p _ => r.sb 2 p :=
  (congrArg (fun t => broadcastTo S128x128 (shapeCast S128x1 t _) _) (rd_col2 R.a20 R.h20 r.x19 _)).trans
    ((congrArg (fun t => broadcastTo S128x128 t _) (cast_self _ _)).trans (bt_col_128_128 _ _))
theorem w_v142 : runB.sl.v142 c R r.up = L2 (e := .f32) fun p _ => r.sb 3 p :=
  (congrArg (fun t => broadcastTo S128x128 (shapeCast S128x1 t _) _) (rd_col3 R.a20 R.h20 r.x19 _)).trans
    ((congrArg (fun t => broadcastTo S128x128 t _) (cast_self _ _)).trans (bt_col_128_128 _ _))
theorem w_v153 : runB.sl.v153 c R r.up = L2 (e := .f32) fun p _ => r.sb 4 p :=
  (congrArg (fun t => broadcastTo S128x128 (shapeCast S128x1 t _) _) (rd_col4 R.a20 R.h20 r.x19 _)).trans
    ((congrArg (fun t => broadcastTo S128x128 t _) (cast_self _ _)).trans (bt_col_128_128 _ _))
theorem w_v164 : runB.sl.v164 c R r.up = L2 (e := .f32) fun p _ => r.sb 5 p :=
  (congrArg (fun t => broadcastTo S128x128 (shapeCast S128x1 t _) _) (rd_col5 R.a20 R.h20 r.x19 _)).trans
    ((congrArg (fun t => broadcastTo S128x128 t _) (cast_self _ _)).trans (bt_col_128_128 _ _))
theorem w_v175 : runB.sl.v175 c R r.up = L2 (e := .f32) fun p _ => r.sb 6 p :=
  (congrArg (fun t => broadcastTo S128x128 (shapeCast S128x1 t _) _) (rd_col6 R.a20 R.h20 r.x19 _)).trans
    ((congrArg (fun t => broadcastTo S128x128 t _) (cast_self _ _)).trans (bt_col_128_128 _ _))
theorem w_v186 : runB.sl.v186 c R r.up = L2 (e := .f32) fun p _ => r.sb 7 p :=
  (congrArg (fun t => broadcastTo S128x128 (shapeCast S128x1 t _) _) (rd_col7 R.a20 R.h20 r.x19 _)).trans
    ((congrArg (fun t => broadcastTo S128x128 t _) (cast_self _ _)).trans (bt_col_128_128 _ _))
theorem w_v530 : runB.sl.v530 c R r.up = L2 (e := .f32) fun p _ => r.sb 0 p :=
  (congrArg (fun t => broadcastTo S128x128 (shapeCast S128x1 t _) _) (rd_col0 R.a20 R.h20 r.x19 _)).trans
    ((congrArg (fun t => broadcastTo S128x128 t _) (cast_self _ _)).trans (bt_col_128_128 _ _))
theorem w_r_3 : runB.sl.r_3 c R r.up = L2 (e := .f32) fun _ j => r.x16 0 j :=
  rd_all_1 R.a17 R.h17 r.x16 _
theorem w_r_4 : runB.sl.r_4 c R r.up = L2 (e := .f32) fun _ j => r.x17 0 j :=
  rd_all_1 R.a18 R.h18 r.x17 _
theorem w_v203 : runB.sl.v203 c R a.up = L2 (e := .f32) (a.o28 0) :=
  (congrArg (fun t => shapeCast S128x128 t _) (rd_acct0 R.a29 R.h29 a.o28 _)).trans (sc_drop _ _)
theorem w_v230 : runB.sl.v230 c R a.up = L2 (e := .f32) (a.o28 1) :=
  (congrArg (fun t => shapeCast S128x128 t _) (rd_acct1 R.a29 R.h29 a.o28 _)).trans (sc_drop _ _)
theorem w_v257 : runB.sl.v257 c R a.up = L2 (e := .f32) (a.o28 2) :=
  (congrArg (fun t => shapeCast S128x128 t _) (rd_acct2 R.a29 R.h29 a.o28 _)).trans (sc_drop _ _)
theorem w_v284 : runB.sl.v284 c R a.up = L2 (e := .f32) (a.o28 3) :=
  (congrArg (fun t => shapeCast S128x128 t _) (rd_acct3 R.a29 R.h29 a.o28 _)).trans (sc_drop _ _)
theorem w_v311 : runB.sl.v311 c R a.up = L2 (e := .f32) (a.o28 4) :=
  (congrArg (fun t => shapeCast S128x128 t _) (rd_acct4 R.a29 R.h29 a.o28 _)).trans (sc_drop _ _)
theorem w_v338 : runB.sl.v338 c R a.up = L2 (e := .f32) (a.o28 5) :=
  (congrArg (fun t => shapeCast S128x128 t _) (rd_acct5 R.a29 R.h29 a.o28 _)).trans (sc_drop _ _)
theorem w_v365 : runB.sl.v365 c R a.up = L2 (e := .f32) (a.o28 6) :=
  (congrArg (fun t => shapeCast S128x128 t _) (rd_acct6 R.a29 R.h29 a.o28 _)).trans (sc_drop _ _)
theorem w_v392 : runB.sl.v392 c R a.up = L2 (e := .f32) (a.o28 7) :=
  (congrArg (fun t => shapeCast S128x128 t _) (rd_acct7 R.a29 R.h29 a.o28 _)).trans (sc_drop _ _)
theorem w_v211 : runB.sl.v211 c R a.up = L2 (e := .f32) fun _ p => a.o29 0 p :=
  (congrArg (fun t => shapeCast S1x128 t _) (rd_accr0 R.a30 R.h30 a.o29 _)).trans (cast_self _ _)
theorem w_v238 : runB.sl.v238 c R a.up = L2 (e := .f32) fun _ p => a.o29 1 p :=
  (congrArg (fun t => shapeCast S1x128 t _) (rd_accr1 R.a30 R.h30 a.o29 _)).trans (cast_self _ _)
theorem w_v265 : runB.sl.v265 c R a.up = L2 (e := .f32) fun _ p => a.o29 2 p :=
  (congrArg (fun t => shapeCast S1x128 t _) (rd_accr2 R.a30 R.h30 a.o29 _)).trans (cast_self _ _)
theorem w_v292 : runB.sl.v292 c R a.up = L2 (e := .f32) fun _ p => a.o29 3 p :=
  (congrArg (fun t => shapeCast S1x128 t _) (rd_accr3 R.a30 R.h30 a.o29 _)).trans (cast_self _ _)
theorem w_v319 : runB.sl.v319 c R a.up = L2 (e := .f32) fun _ p => a.o29 4 p :=
  (congrArg (fun t => shapeCast S1x128 t _) (rd_accr4 R.a30 R.h30 a.o29 _)).trans (cast_self _ _)
theorem w_v346 : runB.sl.v346 c R a.up = L2 (e := .f32) fun _ p => a.o29 5 p :=
  (congrArg (fun t => shapeCast S1x128 t _) (rd_accr5 R.a30 R.h30 a.o29 _)).trans (cast_self _ _)
theorem w_v373 : runB.sl.v373 c R a.up = L2 (e := .f32) fun _ p => a.o29 6 p :=
  (congrArg (fun t => shapeCast S1x128 t _) (rd_accr6 R.a30 R.h30 a.o29 _)).trans (cast_self _ _)
theorem w_v400 : runB.sl.v400 c R a.up = L2 (e := .f32) fun _ p => a.o29 7 p :=
  (congrArg (fun t => shapeCast S1x128 t _) (rd_accr7 R.a30 R.h30 a.o29 _)).trans (cast_self _ _)
theorem w_v415 : runB.sl.v415 c R a.up = L2 (e := .f32) fun _ j => a.o30 0 j :=
  (congrArg (fun t => shapeCast S1x1024 t _) (rd_all_1 R.a31 R.h31 a.o30 _)).trans (cast_self _ _)
theorem w_v422 : runB.sl.v422 c R a.up = L2 (e := .f32) fun _ j => a.o31 0 j :=
  (congrArg (fun t => shapeCast S1x1024 t _) (rd_all_1 R.a32 R.h32 a.o31 _)).trans (cast_self _ _)

/-! ### The first chunk -/

/-- The single operations, for rewriting. -/
def word_ops :=
  And.intro @cast_self <| And.intro @L2_mul <| And.intro @L2_add <| And.intro @L2_sub <| And.intro @L2_tanh <|
  And.intro @L2_trunc <| And.intro @L2_ext <| And.intro @sp_col_n' <| And.intro @sp_ones <| And.intro @div_n <|
  And.intro @sc_col_128 <| And.intro @sc_row <| And.intro @sc_drop <| And.intro @sc_lead <| And.intro @xs_top <|
  And.intro @bt_col_128_128 <| And.intro @bt_col_128_1024 <| And.intro @bt_row_128_1024 @bt_row_256_1024

theorem w_r_2 : runB.sl.r_2 c R r.up = L2 (e := .f32) (r.Y 0) :=
  rd_lo R.a16 R.h16 r.x15 _
theorem w_r_5 : runB.sl.r_5 c R r.up = L2 (e := .f32) fun p j => gelu ((r.U 0) p j) :=
  (congrArg k0_pay26 (rd_lo R.a14 R.h14 r.x13 _)).trans (pay26_L (r.U 0))
theorem w_r_6 : runB.sl.r_6 c R r.up = L2 (e := .f32) fun p j => dgelu ((r.U 0) p j) :=
  (congrArg k0_pay27 (rd_lo R.a14 R.h14 r.x13 _)).trans (pay27_L (r.U 0))
theorem w_r_1 : runB.sl.r_1 c R r.up = L2 (e := .f32) (r.V 0) :=
  (congrArg k0_pay22 (rd_lo R.a15 R.h15 r.x14 _)).trans (pay22_L (r.V 0))
theorem w_r_7 : runB.sl.r_7 c R r.up = L2 (e := .f32) fun p j => (r.V 0) p j * (r.V 0) p j :=
  (congrArg k0_pay28 (rd_lo R.a15 R.h15 r.x14 _)).trans (pay28_L (r.V 0))
theorem w_r_8 : runB.sl.r_8 c R r.up = L2 (e := .f32) fun p j => gk * gc * ((r.V 0) p j * (r.V 0) p j) :=
  (congrArg k0_pay29 (rd_lo R.a15 R.h15 r.x14 _)).trans (pay29_L (r.V 0))
theorem w_r_9 : runB.sl.r_9 c R r.up = L2 (e := .f32) fun p j => dgelu ((r.V 0) p j) := by
  simp only [runB.sl.r_9, w_r_1, w_r_7, w_r_8, pay30_L]; exact pay34_L (r.V 0)
theorem w_r_10 : runB.sl.r_10 c R r.up = L2 (e := .f32) fun p _ => rs ((r.V 0) p) := by
  simp only [runB.sl.r_10, w_r_1, w_r_8, pay30_L]; exact pay36_L (r.V 0)
theorem w_r_11 : runB.sl.r_11 c R r.up = L2 (e := .f32) fun p j => vh ((r.V 0) p) j := by
  simp only [runB.sl.r_11, w_r_1, w_r_8, pay30_L]; exact pay37_L (r.V 0)
theorem w_r_12 : runB.sl.r_12 c R r.up = L2 (e := .bf16) (cvn r.x16 r.x17 (r.V 0)) := by
  simp only [runB.sl.r_12, w_r_1, w_r_3, w_r_4, w_r_8, pay30_L]; exact pay38_L (r.V 0) (fun _ j => r.x16 0 j) (fun _ j => r.x17 0 j)
theorem w_r_13 : runB.sl.r_13 c R r.up = L2 (e := .f32) fun p q => ∑ k, r.x18 0 p k * (cvn r.x16 r.x17 (r.V 0)) k (col 0 q) := by
  show matmul dot_S128x128_S128x128_S128x128_1_0_0_1_n_n none (runB.sl.v219 c R r.up) (runB.sl.v204 c R r.up) (runB.sl.cst_60 (F := Ideal)) = _
  simp only [runB.sl.v204, runB.sl.cst_60, w_v219, w_r_12, xs_col0, mm2]
theorem w_v113 : runB.sl.v113 c R r.up = L2 (e := .f32) fun p q => (cmix r.x16 r.x17 r.x18 r.sb (r.V 0)) p (col 0 q) := by
  simp only [runB.sl.v113, runB.sl.v110, w_r_13, w_v109, xs_col0, mm2, word_ops, cmix, grp_col]
  try rfl
theorem w_v124 : runB.sl.v124 c R r.up = L2 (e := .f32) fun p q => (cmix r.x16 r.x17 r.x18 r.sb (r.V 0)) p (col 1 q) := by
  simp only [runB.sl.v124, runB.sl.v121, runB.sl.v117, runB.sl.v116, runB.sl.cst_60, w_v115, w_r_12, w_v120, xs_col1, mm2, word_ops, cmix, grp_col]
  try rfl
theorem w_v135 : runB.sl.v135 c R r.up = L2 (e := .f32) fun p q => (cmix r.x16 r.x17 r.x18 r.sb (r.V 0)) p (col 2 q) := by
  simp only [runB.sl.v135, runB.sl.v132, runB.sl.v128, runB.sl.v127, runB.sl.cst_60, w_v126, w_r_12, w_v131, xs_col2, mm2, word_ops, cmix, grp_col]
  try rfl
theorem w_v146 : runB.sl.v146 c R r.up = L2 (e := .f32) fun p q => (cmix r.x16 r.x17 r.x18 r.sb (r.V 0)) p (col 3 q) := by
  simp only [runB.sl.v146, runB.sl.v143, runB.sl.v139, runB.sl.v138, runB.sl.cst_60, w_v137, w_r_12, w_v142, xs_col3, mm2, word_ops, cmix, grp_col]
  try rfl
theorem w_v157 : runB.sl.v157 c R r.up = L2 (e := .f32) fun p q => (cmix r.x16 r.x17 r.x18 r.sb (r.V 0)) p (col 4 q) := by
  simp only [runB.sl.v157, runB.sl.v154, runB.sl.v150, runB.sl.v149, runB.sl.cst_60, w_v148, w_r_12, w_v153, xs_col4, mm2, word_ops, cmix, grp_col]
  try rfl
theorem w_v168 : runB.sl.v168 c R r.up = L2 (e := .f32) fun p q => (cmix r.x16 r.x17 r.x18 r.sb (r.V 0)) p (col 5 q) := by
  simp only [runB.sl.v168, runB.sl.v165, runB.sl.v161, runB.sl.v160, runB.sl.cst_60, w_v159, w_r_12, w_v164, xs_col5, mm2, word_ops, cmix, grp_col]
  try rfl
theorem w_v179 : runB.sl.v179 c R r.up = L2 (e := .f32) fun p q => (cmix r.x16 r.x17 r.x18 r.sb (r.V 0)) p (col 6 q) := by
  simp only [runB.sl.v179, runB.sl.v176, runB.sl.v172, runB.sl.v171, runB.sl.cst_60, w_v170, w_r_12, w_v175, xs_col6, mm2, word_ops, cmix, grp_col]
  try rfl
theorem w_v190 : runB.sl.v190 c R r.up = L2 (e := .f32) fun p q => (cmix r.x16 r.x17 r.x18 r.sb (r.V 0)) p (col 7 q) := by
  simp only [runB.sl.v190, runB.sl.v187, runB.sl.v183, runB.sl.v182, runB.sl.cst_60, w_v181, w_r_12, w_v186, xs_col7, mm2, word_ops, cmix, grp_col]
  try rfl
theorem w_v191 : runB.sl.v191 c R r.up = L2 (e := .f32) (cmix r.x16 r.x17 r.x18 r.sb (r.V 0)) :=
  cols_read R.a33 (cmix r.x16 r.x17 r.x18 r.sb (r.V 0)) [] _ _ _ _ _ _ _ _ _
    (w_v113 c R r) (w_v124 c R r) (w_v135 c R r) (w_v146 c R r) (w_v157 c R r) (w_v168 c R r) (w_v179 c R r) (w_v190 c R r)
theorem w_v194 : runB.sl.v194 c R r.up = L2 (e := .bf16) (cdu r.x16 r.x17 r.x18 r.sb (r.U 0) (r.V 0) (r.Y 0)) := by
  simp only [runB.sl.v194, runB.sl.v193, runB.sl.v192, w_r_2, w_v191, w_r_6, word_ops]
  try rfl
theorem w_v195 : runB.sl.v195 c R r.up = L2 (e := .f32) (cdm (r.U 0) (r.Y 0)) := by
  simp only [runB.sl.v195, w_r_2, w_r_5, word_ops]
  try rfl
theorem w_v198 : runB.sl.v198 c R r.up = L2 (e := .bf16) fun p q => (cdm (r.U 0) (r.Y 0)) p (col 0 q) := by
  simp only [runB.sl.v198, runB.sl.v197, w_v195, xs_col0, word_ops]
  try rfl
theorem w_v225 : runB.sl.v225 c R r.up = L2 (e := .bf16) fun p q => (cdm (r.U 0) (r.Y 0)) p (col 1 q) := by
  simp only [runB.sl.v225, runB.sl.v224, w_v195, xs_col1, word_ops]
  try rfl
theorem w_v252 : runB.sl.v252 c R r.up = L2 (e := .bf16) fun p q => (cdm (r.U 0) (r.Y 0)) p (col 2 q) := by
  simp only [runB.sl.v252, runB.sl.v251, w_v195, xs_col2, word_ops]
  try rfl
theorem w_v279 : runB.sl.v279 c R r.up = L2 (e := .bf16) fun p q => (cdm (r.U 0) (r.Y 0)) p (col 3 q) := by
  simp only [runB.sl.v279, runB.sl.v278, w_v195, xs_col3, word_ops]
  try rfl
theorem w_v306 : runB.sl.v306 c R r.up = L2 (e := .bf16) fun p q => (cdm (r.U 0) (r.Y 0)) p (col 4 q) := by
  simp only [runB.sl.v306, runB.sl.v305, w_v195, xs_col4, word_ops]
  try rfl
theorem w_v333 : runB.sl.v333 c R r.up = L2 (e := .bf16) fun p q => (cdm (r.U 0) (r.Y 0)) p (col 5 q) := by
  simp only [runB.sl.v333, runB.sl.v332, w_v195, xs_col5, word_ops]
  try rfl
theorem w_v360 : runB.sl.v360 c R r.up = L2 (e := .bf16) fun p q => (cdm (r.U 0) (r.Y 0)) p (col 6 q) := by
  simp only [runB.sl.v360, runB.sl.v359, w_v195, xs_col6, word_ops]
  try rfl
theorem w_v387 : runB.sl.v387 c R r.up = L2 (e := .bf16) fun p q => (cdm (r.U 0) (r.Y 0)) p (col 7 q) := by
  simp only [runB.sl.v387, runB.sl.v386, w_v195, xs_col7, word_ops]
  try rfl
theorem w_v209 : runB.sl.v209 c R r.up a.up = L3 (e := .f32) fun _ p q => a.o28 0 p q + cdw r.x16 r.x17 (r.U 0) (r.V 0) (r.Y 0) 0 p q := by
  simp only [runB.sl.v209, runB.sl.v206, runB.sl.v205, runB.sl.v204, runB.sl.cst_60, w_v203, w_v198, w_r_12, xs_col0, mm1, word_ops]
  try rfl
theorem w_v236 : runB.sl.v236 c R r.up a.up = L3 (e := .f32) fun _ p q => a.o28 1 p q + cdw r.x16 r.x17 (r.U 0) (r.V 0) (r.Y 0) 1 p q := by
  simp only [runB.sl.v236, runB.sl.v233, runB.sl.v232, runB.sl.v116, runB.sl.cst_60, w_v230, w_v225, w_r_12, xs_col1, mm1, word_ops]
  try rfl
theorem w_v263 : runB.sl.v263 c R r.up a.up = L3 (e := .f32) fun _ p q => a.o28 2 p q + cdw r.x16 r.x17 (r.U 0) (r.V 0) (r.Y 0) 2 p q := by
  simp only [runB.sl.v263, runB.sl.v260, runB.sl.v259, runB.sl.v127, runB.sl.cst_60, w_v257, w_v252, w_r_12, xs_col2, mm1, word_ops]
  try rfl
theorem w_v290 : runB.sl.v290 c R r.up a.up = L3 (e := .f32) fun _ p q => a.o28 3 p q + cdw r.x16 r.x17 (r.U 0) (r.V 0) (r.Y 0) 3 p q := by
  simp only [runB.sl.v290, runB.sl.v287, runB.sl.v286, runB.sl.v138, runB.sl.cst_60, w_v284, w_v279, w_r_12, xs_col3, mm1, word_ops]
  try rfl
theorem w_v317 : runB.sl.v317 c R r.up a.up = L3 (e := .f32) fun _ p q => a.o28 4 p q + cdw r.x16 r.x17 (r.U 0) (r.V 0) (r.Y 0) 4 p q := by
  simp only [runB.sl.v317, runB.sl.v314, runB.sl.v313, runB.sl.v149, runB.sl.cst_60, w_v311, w_v306, w_r_12, xs_col4, mm1, word_ops]
  try rfl
theorem w_v344 : runB.sl.v344 c R r.up a.up = L3 (e := .f32) fun _ p q => a.o28 5 p q + cdw r.x16 r.x17 (r.U 0) (r.V 0) (r.Y 0) 5 p q := by
  simp only [runB.sl.v344, runB.sl.v341, runB.sl.v340, runB.sl.v160, runB.sl.cst_60, w_v338, w_v333, w_r_12, xs_col5, mm1, word_ops]
  try rfl
theorem w_v371 : runB.sl.v371 c R r.up a.up = L3 (e := .f32) fun _ p q => a.o28 6 p q + cdw r.x16 r.x17 (r.U 0) (r.V 0) (r.Y 0) 6 p q := by
  simp only [runB.sl.v371, runB.sl.v368, runB.sl.v367, runB.sl.v171, runB.sl.cst_60, w_v365, w_v360, w_r_12, xs_col6, mm1, word_ops]
  try rfl
theorem w_v398 : runB.sl.v398 c R r.up a.up = L3 (e := .f32) fun _ p q => a.o28 7 p q + cdw r.x16 r.x17 (r.U 0) (r.V 0) (r.Y 0) 7 p q := by
  simp only [runB.sl.v398, runB.sl.v395, runB.sl.v394, runB.sl.v182, runB.sl.cst_60, w_v392, w_v387, w_r_12, xs_col7, mm1, word_ops]
  try rfl
theorem w_v216 : runB.sl.v216 c R r.up a.up = L2 (e := .f32) fun _ p => a.o29 0 p + cdb (r.U 0) (r.Y 0) 0 p := by
  simp only [runB.sl.v216, runB.sl.v215, runB.sl.v214, runB.sl.v212, runB.sl.v196, runB.sl.cst_102, runB.sl.cst_112, runB.sl.v213, runB.sl.v201, runB.sl.v200, runB.sl.v197, runB.sl.v199, w_v211, w_v198, w_v195, xs_col0, mm4, word_ops, one_mul, sub_self, mul_zero, Finset.sum_const_zero, add_zero]
  try rfl
theorem w_v243 : runB.sl.v243 c R r.up a.up = L2 (e := .f32) fun _ p => a.o29 1 p + cdb (r.U 0) (r.Y 0) 1 p := by
  simp only [runB.sl.v243, runB.sl.v242, runB.sl.v241, runB.sl.v239, runB.sl.v196, runB.sl.cst_102, runB.sl.cst_112, runB.sl.v240, runB.sl.v228, runB.sl.v227, runB.sl.v224, runB.sl.v226, w_v238, w_v225, w_v195, xs_col1, mm4, word_ops, one_mul, sub_self, mul_zero, Finset.sum_const_zero, add_zero]
  try rfl
theorem w_v270 : runB.sl.v270 c R r.up a.up = L2 (e := .f32) fun _ p => a.o29 2 p + cdb (r.U 0) (r.Y 0) 2 p := by
  simp only [runB.sl.v270, runB.sl.v269, runB.sl.v268, runB.sl.v266, runB.sl.v196, runB.sl.cst_102, runB.sl.cst_112, runB.sl.v267, runB.sl.v255, runB.sl.v254, runB.sl.v251, runB.sl.v253, w_v265, w_v252, w_v195, xs_col2, mm4, word_ops, one_mul, sub_self, mul_zero, Finset.sum_const_zero, add_zero]
  try rfl
theorem w_v297 : runB.sl.v297 c R r.up a.up = L2 (e := .f32) fun _ p => a.o29 3 p + cdb (r.U 0) (r.Y 0) 3 p := by
  simp only [runB.sl.v297, runB.sl.v296, runB.sl.v295, runB.sl.v293, runB.sl.v196, runB.sl.cst_102, runB.sl.cst_112, runB.sl.v294, runB.sl.v282, runB.sl.v281, runB.sl.v278, runB.sl.v280, w_v292, w_v279, w_v195, xs_col3, mm4, word_ops, one_mul, sub_self, mul_zero, Finset.sum_const_zero, add_zero]
  try rfl
theorem w_v324 : runB.sl.v324 c R r.up a.up = L2 (e := .f32) fun _ p => a.o29 4 p + cdb (r.U 0) (r.Y 0) 4 p := by
  simp only [runB.sl.v324, runB.sl.v323, runB.sl.v322, runB.sl.v320, runB.sl.v196, runB.sl.cst_102, runB.sl.cst_112, runB.sl.v321, runB.sl.v309, runB.sl.v308, runB.sl.v305, runB.sl.v307, w_v319, w_v306, w_v195, xs_col4, mm4, word_ops, one_mul, sub_self, mul_zero, Finset.sum_const_zero, add_zero]
  try rfl
theorem w_v351 : runB.sl.v351 c R r.up a.up = L2 (e := .f32) fun _ p => a.o29 5 p + cdb (r.U 0) (r.Y 0) 5 p := by
  simp only [runB.sl.v351, runB.sl.v350, runB.sl.v349, runB.sl.v347, runB.sl.v196, runB.sl.cst_102, runB.sl.cst_112, runB.sl.v348, runB.sl.v336, runB.sl.v335, runB.sl.v332, runB.sl.v334, w_v346, w_v333, w_v195, xs_col5, mm4, word_ops, one_mul, sub_self, mul_zero, Finset.sum_const_zero, add_zero]
  try rfl
theorem w_v378 : runB.sl.v378 c R r.up a.up = L2 (e := .f32) fun _ p => a.o29 6 p + cdb (r.U 0) (r.Y 0) 6 p := by
  simp only [runB.sl.v378, runB.sl.v377, runB.sl.v376, runB.sl.v374, runB.sl.v196, runB.sl.cst_102, runB.sl.cst_112, runB.sl.v375, runB.sl.v363, runB.sl.v362, runB.sl.v359, runB.sl.v361, w_v373, w_v360, w_v195, xs_col6, mm4, word_ops, one_mul, sub_self, mul_zero, Finset.sum_const_zero, add_zero]
  try rfl
theorem w_v405 : runB.sl.v405 c R r.up a.up = L2 (e := .f32) fun _ p => a.o29 7 p + cdb (r.U 0) (r.Y 0) 7 p := by
  simp only [runB.sl.v405, runB.sl.v404, runB.sl.v403, runB.sl.v401, runB.sl.v196, runB.sl.cst_102, runB.sl.cst_112, runB.sl.v402, runB.sl.v390, runB.sl.v389, runB.sl.v386, runB.sl.v388, w_v400, w_v387, w_v195, xs_col7, mm4, word_ops, one_mul, sub_self, mul_zero, Finset.sum_const_zero, add_zero]
  try rfl
theorem w_v223 : runB.sl.v223 c R r.up = L2 (e := .f32) fun q p => (cdvn r.x18 (r.U 0) (r.Y 0)) q (col 0 p) := by
  simp only [runB.sl.v223, runB.sl.v220, runB.sl.cst_60, w_v219, w_v198, mm3, word_ops, cdvn, grp_col]
  try rfl
theorem w_v250 : runB.sl.v250 c R r.up = L2 (e := .f32) fun q p => (cdvn r.x18 (r.U 0) (r.Y 0)) q (col 1 p) := by
  simp only [runB.sl.v250, runB.sl.v247, runB.sl.cst_60, w_v115, w_v225, mm3, word_ops, cdvn, grp_col]
  try rfl
theorem w_v277 : runB.sl.v277 c R r.up = L2 (e := .f32) fun q p => (cdvn r.x18 (r.U 0) (r.Y 0)) q (col 2 p) := by
  simp only [runB.sl.v277, runB.sl.v274, runB.sl.cst_60, w_v126, w_v252, mm3, word_ops, cdvn, grp_col]
  try rfl
theorem w_v304 : runB.sl.v304 c R r.up = L2 (e := .f32) fun q p => (cdvn r.x18 (r.U 0) (r.Y 0)) q (col 3 p) := by
  simp only [runB.sl.v304, runB.sl.v301, runB.sl.cst_60, w_v137, w_v279, mm3, word_ops, cdvn, grp_col]
  try rfl
theorem w_v331 : runB.sl.v331 c R r.up = L2 (e := .f32) fun q p => (cdvn r.x18 (r.U 0) (r.Y 0)) q (col 4 p) := by
  simp only [runB.sl.v331, runB.sl.v328, runB.sl.cst_60, w_v148, w_v306, mm3, word_ops, cdvn, grp_col]
  try rfl
theorem w_v358 : runB.sl.v358 c R r.up = L2 (e := .f32) fun q p => (cdvn r.x18 (r.U 0) (r.Y 0)) q (col 5 p) := by
  simp only [runB.sl.v358, runB.sl.v355, runB.sl.cst_60, w_v159, w_v333, mm3, word_ops, cdvn, grp_col]
  try rfl
theorem w_v385 : runB.sl.v385 c R r.up = L2 (e := .f32) fun q p => (cdvn r.x18 (r.U 0) (r.Y 0)) q (col 6 p) := by
  simp only [runB.sl.v385, runB.sl.v382, runB.sl.cst_60, w_v170, w_v360, mm3, word_ops, cdvn, grp_col]
  try rfl
theorem w_v412 : runB.sl.v412 c R r.up = L2 (e := .f32) fun q p => (cdvn r.x18 (r.U 0) (r.Y 0)) q (col 7 p) := by
  simp only [runB.sl.v412, runB.sl.v409, runB.sl.cst_60, w_v408, w_v387, mm3, word_ops, cdvn, grp_col]
  try rfl
theorem w_v413 : runB.sl.v413 c R r.up = L2 (e := .f32) (cdvn r.x18 (r.U 0) (r.Y 0)) :=
  cols_read R.a34 (cdvn r.x18 (r.U 0) (r.Y 0)) [] _ _ _ _ _ _ _ _ _
    (w_v223 c R r) (w_v250 c R r) (w_v277 c R r) (w_v304 c R r) (w_v331 c R r) (w_v358 c R r) (w_v385 c R r) (w_v412 c R r)
theorem w_v419 : runB.sl.v419 c R r.up a.up = L2 (e := .f32) fun _ j => a.o30 0 j + cdlg r.x18 (r.U 0) (r.V 0) (r.Y 0) j := by
  simp only [runB.sl.v419, runB.sl.v418, runB.sl.v417, runB.sl.v416, w_v415, w_v413, w_r_11, word_ops]
  erw [rd_col_128]; simp only [word_ops]
  try rfl
theorem w_v425 : runB.sl.v425 c R r.up a.up = L2 (e := .f32) fun _ j => a.o31 0 j + cdlb r.x18 (r.U 0) (r.Y 0) j := by
  simp only [runB.sl.v425, runB.sl.v424, runB.sl.v423, w_v422, w_v413, word_ops]
  erw [rd_col_128]; simp only [word_ops]
  try rfl
theorem w_v445 : runB.sl.v445 c R r.up = L2 (e := .f32) (cdv r.x16 r.x18 (r.U 0) (r.V 0) (r.Y 0)) := by
  simp only [runB.sl.v445, runB.sl.v444, runB.sl.v443, runB.sl.v442, runB.sl.v434, runB.sl.v428, runB.sl.v427, runB.sl.v433, runB.sl.v432, runB.sl.v430, runB.sl.v429, runB.sl.v431, runB.sl.cst_268, runB.sl.v441, runB.sl.v440, runB.sl.v439, runB.sl.v437, runB.sl.v436, runB.sl.v435, w_r_10, w_v413, w_r_3, w_r_11, w_r_9, word_ops]
  erw [rd_row_128]; simp only [word_ops]
  erw [rd_row_128]; simp only [word_ops]
  try rfl

end Cert.KernelIdeal.Val
-- ==== Proof.KWord1.lean ====
module

public import proofs.«01_k».proof.Proof.KWord0

/-! The words of the body at a later point, on arrays of real numbers: the second chunk of 128 rows. -/

@[expose] public section

set_option maxRecDepth 16384

noncomputable section

namespace Cert.KernelIdeal.Val

open Idealize.ShloMosaic Cert.Lift Cert.Math Cert.KernelIdeal Cert.KernelIdeal.Gen Cert.KernelIdeal.Ops Cert.KernelIdeal.Run

variable (c : Dev nD) (R : Refs) (r : RIns) (a : RAcc)

/-! ### The second chunk -/

theorem w_r_18 : runB.sl.r_18 c R r.up = L2 (e := .f32) (r.Y 1) :=
  rd_hi R.a16 R.h16 r.x15 _
theorem w_r_19 : runB.sl.r_19 c R r.up = L2 (e := .f32) fun p j => ph ((r.U 1) p j) :=
  (congrArg k0_pay113 (rd_hi R.a14 R.h14 r.x13 _)).trans (pay113_L (r.U 1))
theorem w_r_20 : runB.sl.r_20 c R r.up = L2 (e := .f32) fun p j => gelu ((r.U 1) p j) :=
  (congrArg k0_pay114 (rd_hi R.a14 R.h14 r.x13 _)).trans (pay114_L (r.U 1))
theorem w_r_21 : runB.sl.r_21 c R r.up = L2 (e := .f32) fun p j => gelu ((r.U 1) p j) * (1 - th ((r.U 1) p j)) :=
  (congrArg k0_pay115 (rd_hi R.a14 R.h14 r.x13 _)).trans (pay115_L (r.U 1))
theorem w_r_22 : runB.sl.r_22 c R r.up = L2 (e := .f32) fun p j => 3 * (gk * gc) * ((r.U 1) p j * (r.U 1) p j) :=
  (congrArg k0_pay116 (rd_hi R.a14 R.h14 r.x13 _)).trans (pay116_L (r.U 1))
theorem w_r_23 : runB.sl.r_23 c R r.up = L2 (e := .f32) fun p j => dgelu ((r.U 1) p j) := by
  simp only [runB.sl.r_23, w_r_19, w_r_21, w_r_22]; exact pay117_L (r.U 1)
theorem w_r_17 : runB.sl.r_17 c R r.up = L2 (e := .f32) (r.V 1) :=
  (congrArg k0_pay110 (rd_hi R.a15 R.h15 r.x14 _)).trans (pay110_L (r.V 1))
theorem w_r_24 : runB.sl.r_24 c R r.up = L2 (e := .f32) fun p j => dgelu ((r.V 1) p j) := by
  simp only [runB.sl.r_24, w_r_17]; exact pay122_L (r.V 1)
theorem w_r_25 : runB.sl.r_25 c R r.up = L2 (e := .f32) fun p _ => rs ((r.V 1) p) := by
  simp only [runB.sl.r_25, w_r_17]; exact pay124_L (r.V 1)
theorem w_r_26 : runB.sl.r_26 c R r.up = L2 (e := .f32) fun p j => vh ((r.V 1) p) j := by
  simp only [runB.sl.r_26, w_r_17]; exact pay125_L (r.V 1)
theorem w_r_27 : runB.sl.r_27 c R r.up = L2 (e := .bf16) (cvn r.x16 r.x17 (r.V 1)) := by
  simp only [runB.sl.r_27, w_r_17, w_r_3, w_r_4]; exact pay126_L (r.V 1) (fun _ j => r.x16 0 j) (fun _ j => r.x17 0 j)
theorem w_v534 : runB.sl.v534 c R r.up = L2 (e := .f32) fun p q => (cmix r.x16 r.x17 r.x18 r.sb (r.V 1)) p (col 0 q) := by
  simp only [runB.sl.v534, runB.sl.v531, runB.sl.v527, runB.sl.v526, runB.sl.cst_60, w_v219, w_r_27, w_v530, xs_col0, mm2, word_ops, cmix, grp_col]
  try rfl
theorem w_v545 : runB.sl.v545 c R r.up = L2 (e := .f32) fun p q => (cmix r.x16 r.x17 r.x18 r.sb (r.V 1)) p (col 1 q) := by
  simp only [runB.sl.v545, runB.sl.v542, runB.sl.v538, runB.sl.v537, runB.sl.cst_60, w_v115, w_r_27, w_v120, xs_col1, mm2, word_ops, cmix, grp_col]
  try rfl
theorem w_v556 : runB.sl.v556 c R r.up = L2 (e := .f32) fun p q => (cmix r.x16 r.x17 r.x18 r.sb (r.V 1)) p (col 2 q) := by
  simp only [runB.sl.v556, runB.sl.v553, runB.sl.v549, runB.sl.v548, runB.sl.cst_60, w_v126, w_r_27, w_v131, xs_col2, mm2, word_ops, cmix, grp_col]
  try rfl
theorem w_v567 : runB.sl.v567 c R r.up = L2 (e := .f32) fun p q => (cmix r.x16 r.x17 r.x18 r.sb (r.V 1)) p (col 3 q) := by
  simp only [runB.sl.v567, runB.sl.v564, runB.sl.v560, runB.sl.v559, runB.sl.cst_60, w_v137, w_r_27, w_v142, xs_col3, mm2, word_ops, cmix, grp_col]
  try rfl
theorem w_v578 : runB.sl.v578 c R r.up = L2 (e := .f32) fun p q => (cmix r.x16 r.x17 r.x18 r.sb (r.V 1)) p (col 4 q) := by
  simp only [runB.sl.v578, runB.sl.v575, runB.sl.v571, runB.sl.v570, runB.sl.cst_60, w_v148, w_r_27, w_v153, xs_col4, mm2, word_ops, cmix, grp_col]
  try rfl
theorem w_v589 : runB.sl.v589 c R r.up = L2 (e := .f32) fun p q => (cmix r.x16 r.x17 r.x18 r.sb (r.V 1)) p (col 5 q) := by
  simp only [runB.sl.v589, runB.sl.v586, runB.sl.v582, runB.sl.v581, runB.sl.cst_60, w_v159, w_r_27, w_v164, xs_col5, mm2, word_ops, cmix, grp_col]
  try rfl
theorem w_v600 : runB.sl.v600 c R r.up = L2 (e := .f32) fun p q => (cmix r.x16 r.x17 r.x18 r.sb (r.V 1)) p (col 6 q) := by
  simp only [runB.sl.v600, runB.sl.v597, runB.sl.v593, runB.sl.v592, runB.sl.cst_60, w_v170, w_r_27, w_v175, xs_col6, mm2, word_ops, cmix, grp_col]
  try rfl
theorem w_v611 : runB.sl.v611 c R r.up = L2 (e := .f32) fun p q => (cmix r.x16 r.x17 r.x18 r.sb (r.V 1)) p (col 7 q) := by
  simp only [runB.sl.v611, runB.sl.v608, runB.sl.v604, runB.sl.v603, runB.sl.cst_60, w_v181, w_r_27, w_v186, xs_col7, mm2, word_ops, cmix, grp_col]
  try rfl
theorem w_v612 : runB.sl.v612 c R r.up = L2 (e := .f32) (cmix r.x16 r.x17 r.x18 r.sb (r.V 1)) :=
  cols_read R.a33 (cmix r.x16 r.x17 r.x18 r.sb (r.V 1)) (runB.sl.H32_8 c R r.up) _ _ _ _ _ _ _ _ _
    (w_v534 c R r) (w_v545 c R r) (w_v556 c R r) (w_v567 c R r) (w_v578 c R r) (w_v589 c R r) (w_v600 c R r) (w_v611 c R r)
theorem w_v615 : runB.sl.v615 c R r.up = L2 (e := .bf16) (cdu r.x16 r.x17 r.x18 r.sb (r.U 1) (r.V 1) (r.Y 1)) := by
  simp only [runB.sl.v615, runB.sl.v614, runB.sl.v613, w_r_18, w_v612, w_r_23, word_ops]
  try rfl
theorem w_v616 : runB.sl.v616 c R r.up = L2 (e := .f32) (cdm (r.U 1) (r.Y 1)) := by
  simp only [runB.sl.v616, w_r_18, w_r_20, word_ops]
  try rfl
theorem w_v619 : runB.sl.v619 c R r.up = L2 (e := .bf16) fun p q => (cdm (r.U 1) (r.Y 1)) p (col 0 q) := by
  simp only [runB.sl.v619, runB.sl.v618, w_v616, xs_col0, word_ops]
  try rfl
theorem w_v646 : runB.sl.v646 c R r.up = L2 (e := .bf16) fun p q => (cdm (r.U 1) (r.Y 1)) p (col 1 q) := by
  simp only [runB.sl.v646, runB.sl.v645, w_v616, xs_col1, word_ops]
  try rfl
theorem w_v673 : runB.sl.v673 c R r.up = L2 (e := .bf16) fun p q => (cdm (r.U 1) (r.Y 1)) p (col 2 q) := by
  simp only [runB.sl.v673, runB.sl.v672, w_v616, xs_col2, word_ops]
  try rfl
theorem w_v700 : runB.sl.v700 c R r.up = L2 (e := .bf16) fun p q => (cdm (r.U 1) (r.Y 1)) p (col 3 q) := by
  simp only [runB.sl.v700, runB.sl.v699, w_v616, xs_col3, word_ops]
  try rfl
theorem w_v727 : runB.sl.v727 c R r.up = L2 (e := .bf16) fun p q => (cdm (r.U 1) (r.Y 1)) p (col 4 q) := by
  simp only [runB.sl.v727, runB.sl.v726, w_v616, xs_col4, word_ops]
  try rfl
theorem w_v754 : runB.sl.v754 c R r.up = L2 (e := .bf16) fun p q => (cdm (r.U 1) (r.Y 1)) p (col 5 q) := by
  simp only [runB.sl.v754, runB.sl.v753, w_v616, xs_col5, word_ops]
  try rfl
theorem w_v781 : runB.sl.v781 c R r.up = L2 (e := .bf16) fun p q => (cdm (r.U 1) (r.Y 1)) p (col 6 q) := by
  simp only [runB.sl.v781, runB.sl.v780, w_v616, xs_col6, word_ops]
  try rfl
theorem w_v808 : runB.sl.v808 c R r.up = L2 (e := .bf16) fun p q => (cdm (r.U 1) (r.Y 1)) p (col 7 q) := by
  simp only [runB.sl.v808, runB.sl.v807, w_v616, xs_col7, word_ops]
  try rfl
theorem w_v623 : runB.sl.v623 c R r.up a.up = L3 (e := .f32) fun _ p q => a.o28 0 p q + cdw r.x16 r.x17 (r.U 0) (r.V 0) (r.Y 0) 0 p q := by
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  exact (View.readCov_cons_toLoadRect _ _ _ _).trans (w_v209 c R r a)
theorem w_v630 : runB.sl.v630 c R r.up a.up = L3 (e := .f32) fun _ p q => a.o28 0 p q + cdw r.x16 r.x17 (r.U 0) (r.V 0) (r.Y 0) 0 p q + cdw r.x16 r.x17 (r.U 1) (r.V 1) (r.Y 1) 0 p q := by
  simp only [runB.sl.v630, runB.sl.v627, runB.sl.v624, runB.sl.v626, runB.sl.v526, runB.sl.cst_60, w_v623, w_v619, w_r_27, xs_col0, mm1, word_ops]
  try rfl
theorem w_v650 : runB.sl.v650 c R r.up a.up = L3 (e := .f32) fun _ p q => a.o28 1 p q + cdw r.x16 r.x17 (r.U 0) (r.V 0) (r.Y 0) 1 p q := by
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  exact (View.readCov_cons_toLoadRect _ _ _ _).trans (w_v236 c R r a)
theorem w_v657 : runB.sl.v657 c R r.up a.up = L3 (e := .f32) fun _ p q => a.o28 1 p q + cdw r.x16 r.x17 (r.U 0) (r.V 0) (r.Y 0) 1 p q + cdw r.x16 r.x17 (r.U 1) (r.V 1) (r.Y 1) 1 p q := by
  simp only [runB.sl.v657, runB.sl.v654, runB.sl.v651, runB.sl.v653, runB.sl.v537, runB.sl.cst_60, w_v650, w_v646, w_r_27, xs_col1, mm1, word_ops]
  try rfl
theorem w_v677 : runB.sl.v677 c R r.up a.up = L3 (e := .f32) fun _ p q => a.o28 2 p q + cdw r.x16 r.x17 (r.U 0) (r.V 0) (r.Y 0) 2 p q := by
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  exact (View.readCov_cons_toLoadRect _ _ _ _).trans (w_v263 c R r a)
theorem w_v684 : runB.sl.v684 c R r.up a.up = L3 (e := .f32) fun _ p q => a.o28 2 p q + cdw r.x16 r.x17 (r.U 0) (r.V 0) (r.Y 0) 2 p q + cdw r.x16 r.x17 (r.U 1) (r.V 1) (r.Y 1) 2 p q := by
  simp only [runB.sl.v684, runB.sl.v681, runB.sl.v678, runB.sl.v680, runB.sl.v548, runB.sl.cst_60, w_v677, w_v673, w_r_27, xs_col2, mm1, word_ops]
  try rfl
theorem w_v704 : runB.sl.v704 c R r.up a.up = L3 (e := .f32) fun _ p q => a.o28 3 p q + cdw r.x16 r.x17 (r.U 0) (r.V 0) (r.Y 0) 3 p q := by
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  exact (View.readCov_cons_toLoadRect _ _ _ _).trans (w_v290 c R r a)
theorem w_v711 : runB.sl.v711 c R r.up a.up = L3 (e := .f32) fun _ p q => a.o28 3 p q + cdw r.x16 r.x17 (r.U 0) (r.V 0) (r.Y 0) 3 p q + cdw r.x16 r.x17 (r.U 1) (r.V 1) (r.Y 1) 3 p q := by
  simp only [runB.sl.v711, runB.sl.v708, runB.sl.v705, runB.sl.v707, runB.sl.v559, runB.sl.cst_60, w_v704, w_v700, w_r_27, xs_col3, mm1, word_ops]
  try rfl
theorem w_v731 : runB.sl.v731 c R r.up a.up = L3 (e := .f32) fun _ p q => a.o28 4 p q + cdw r.x16 r.x17 (r.U 0) (r.V 0) (r.Y 0) 4 p q := by
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  exact (View.readCov_cons_toLoadRect _ _ _ _).trans (w_v317 c R r a)
theorem w_v738 : runB.sl.v738 c R r.up a.up = L3 (e := .f32) fun _ p q => a.o28 4 p q + cdw r.x16 r.x17 (r.U 0) (r.V 0) (r.Y 0) 4 p q + cdw r.x16 r.x17 (r.U 1) (r.V 1) (r.Y 1) 4 p q := by
  simp only [runB.sl.v738, runB.sl.v735, runB.sl.v732, runB.sl.v734, runB.sl.v570, runB.sl.cst_60, w_v731, w_v727, w_r_27, xs_col4, mm1, word_ops]
  try rfl
theorem w_v758 : runB.sl.v758 c R r.up a.up = L3 (e := .f32) fun _ p q => a.o28 5 p q + cdw r.x16 r.x17 (r.U 0) (r.V 0) (r.Y 0) 5 p q := by
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  exact (View.readCov_cons_toLoadRect _ _ _ _).trans (w_v344 c R r a)
theorem w_v765 : runB.sl.v765 c R r.up a.up = L3 (e := .f32) fun _ p q => a.o28 5 p q + cdw r.x16 r.x17 (r.U 0) (r.V 0) (r.Y 0) 5 p q + cdw r.x16 r.x17 (r.U 1) (r.V 1) (r.Y 1) 5 p q := by
  simp only [runB.sl.v765, runB.sl.v762, runB.sl.v759, runB.sl.v761, runB.sl.v581, runB.sl.cst_60, w_v758, w_v754, w_r_27, xs_col5, mm1, word_ops]
  try rfl
theorem w_v785 : runB.sl.v785 c R r.up a.up = L3 (e := .f32) fun _ p q => a.o28 6 p q + cdw r.x16 r.x17 (r.U 0) (r.V 0) (r.Y 0) 6 p q := by
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  exact (View.readCov_cons_toLoadRect _ _ _ _).trans (w_v371 c R r a)
theorem w_v792 : runB.sl.v792 c R r.up a.up = L3 (e := .f32) fun _ p q => a.o28 6 p q + cdw r.x16 r.x17 (r.U 0) (r.V 0) (r.Y 0) 6 p q + cdw r.x16 r.x17 (r.U 1) (r.V 1) (r.Y 1) 6 p q := by
  simp only [runB.sl.v792, runB.sl.v789, runB.sl.v786, runB.sl.v788, runB.sl.v592, runB.sl.cst_60, w_v785, w_v781, w_r_27, xs_col6, mm1, word_ops]
  try rfl
theorem w_v812 : runB.sl.v812 c R r.up a.up = L3 (e := .f32) fun _ p q => a.o28 7 p q + cdw r.x16 r.x17 (r.U 0) (r.V 0) (r.Y 0) 7 p q := by
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  exact (View.readCov_cons_toLoadRect _ _ _ _).trans (w_v398 c R r a)
theorem w_v819 : runB.sl.v819 c R r.up a.up = L3 (e := .f32) fun _ p q => a.o28 7 p q + cdw r.x16 r.x17 (r.U 0) (r.V 0) (r.Y 0) 7 p q + cdw r.x16 r.x17 (r.U 1) (r.V 1) (r.Y 1) 7 p q := by
  simp only [runB.sl.v819, runB.sl.v816, runB.sl.v813, runB.sl.v815, runB.sl.v603, runB.sl.cst_60, w_v812, w_v808, w_r_27, xs_col7, mm1, word_ops]
  try rfl
theorem w_v631 : runB.sl.v631 c R r.up a.up = L2 (e := .f32) fun _ p => a.o29 0 p + cdb (r.U 0) (r.Y 0) 0 p := by
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  exact (View.readCov_cons_toLoadRect _ _ _ _).trans (w_v216 c R r a)
theorem w_v637 : runB.sl.v637 c R r.up a.up = L2 (e := .f32) fun _ p => a.o29 0 p + cdb (r.U 0) (r.Y 0) 0 p + cdb (r.U 1) (r.Y 1) 0 p := by
  simp only [runB.sl.v637, runB.sl.v632, runB.sl.v636, runB.sl.v635, runB.sl.v633, runB.sl.v196, runB.sl.cst_102, runB.sl.cst_112, runB.sl.v634, runB.sl.v622, runB.sl.v621, runB.sl.v618, runB.sl.v620, w_v631, w_v619, w_v616, xs_col0, mm4, word_ops, one_mul, sub_self, mul_zero, Finset.sum_const_zero, add_zero]
  try rfl
theorem w_v658 : runB.sl.v658 c R r.up a.up = L2 (e := .f32) fun _ p => a.o29 1 p + cdb (r.U 0) (r.Y 0) 1 p := by
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  exact (View.readCov_cons_toLoadRect _ _ _ _).trans (w_v243 c R r a)
theorem w_v664 : runB.sl.v664 c R r.up a.up = L2 (e := .f32) fun _ p => a.o29 1 p + cdb (r.U 0) (r.Y 0) 1 p + cdb (r.U 1) (r.Y 1) 1 p := by
  simp only [runB.sl.v664, runB.sl.v659, runB.sl.v663, runB.sl.v662, runB.sl.v660, runB.sl.v196, runB.sl.cst_102, runB.sl.cst_112, runB.sl.v661, runB.sl.v649, runB.sl.v648, runB.sl.v645, runB.sl.v647, w_v658, w_v646, w_v616, xs_col1, mm4, word_ops, one_mul, sub_self, mul_zero, Finset.sum_const_zero, add_zero]
  try rfl
theorem w_v685 : runB.sl.v685 c R r.up a.up = L2 (e := .f32) fun _ p => a.o29 2 p + cdb (r.U 0) (r.Y 0) 2 p := by
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  exact (View.readCov_cons_toLoadRect _ _ _ _).trans (w_v270 c R r a)
theorem w_v691 : runB.sl.v691 c R r.up a.up = L2 (e := .f32) fun _ p => a.o29 2 p + cdb (r.U 0) (r.Y 0) 2 p + cdb (r.U 1) (r.Y 1) 2 p := by
  simp only [runB.sl.v691, runB.sl.v686, runB.sl.v690, runB.sl.v689, runB.sl.v687, runB.sl.v196, runB.sl.cst_102, runB.sl.cst_112, runB.sl.v688, runB.sl.v676, runB.sl.v675, runB.sl.v672, runB.sl.v674, w_v685, w_v673, w_v616, xs_col2, mm4, word_ops, one_mul, sub_self, mul_zero, Finset.sum_const_zero, add_zero]
  try rfl
theorem w_v712 : runB.sl.v712 c R r.up a.up = L2 (e := .f32) fun _ p => a.o29 3 p + cdb (r.U 0) (r.Y 0) 3 p := by
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  exact (View.readCov_cons_toLoadRect _ _ _ _).trans (w_v297 c R r a)
theorem w_v718 : runB.sl.v718 c R r.up a.up = L2 (e := .f32) fun _ p => a.o29 3 p + cdb (r.U 0) (r.Y 0) 3 p + cdb (r.U 1) (r.Y 1) 3 p := by
  simp only [runB.sl.v718, runB.sl.v713, runB.sl.v717, runB.sl.v716, runB.sl.v714, runB.sl.v196, runB.sl.cst_102, runB.sl.cst_112, runB.sl.v715, runB.sl.v703, runB.sl.v702, runB.sl.v699, runB.sl.v701, w_v712, w_v700, w_v616, xs_col3, mm4, word_ops, one_mul, sub_self, mul_zero, Finset.sum_const_zero, add_zero]
  try rfl
theorem w_v739 : runB.sl.v739 c R r.up a.up = L2 (e := .f32) fun _ p => a.o29 4 p + cdb (r.U 0) (r.Y 0) 4 p := by
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  exact (View.readCov_cons_toLoadRect _ _ _ _).trans (w_v324 c R r a)
theorem w_v745 : runB.sl.v745 c R r.up a.up = L2 (e := .f32) fun _ p => a.o29 4 p + cdb (r.U 0) (r.Y 0) 4 p + cdb (r.U 1) (r.Y 1) 4 p := by
  simp only [runB.sl.v745, runB.sl.v740, runB.sl.v744, runB.sl.v743, runB.sl.v741, runB.sl.v196, runB.sl.cst_102, runB.sl.cst_112, runB.sl.v742, runB.sl.v730, runB.sl.v729, runB.sl.v726, runB.sl.v728, w_v739, w_v727, w_v616, xs_col4, mm4, word_ops, one_mul, sub_self, mul_zero, Finset.sum_const_zero, add_zero]
  try rfl
theorem w_v766 : runB.sl.v766 c R r.up a.up = L2 (e := .f32) fun _ p => a.o29 5 p + cdb (r.U 0) (r.Y 0) 5 p := by
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  exact (View.readCov_cons_toLoadRect _ _ _ _).trans (w_v351 c R r a)
theorem w_v772 : runB.sl.v772 c R r.up a.up = L2 (e := .f32) fun _ p => a.o29 5 p + cdb (r.U 0) (r.Y 0) 5 p + cdb (r.U 1) (r.Y 1) 5 p := by
  simp only [runB.sl.v772, runB.sl.v767, runB.sl.v771, runB.sl.v770, runB.sl.v768, runB.sl.v196, runB.sl.cst_102, runB.sl.cst_112, runB.sl.v769, runB.sl.v757, runB.sl.v756, runB.sl.v753, runB.sl.v755, w_v766, w_v754, w_v616, xs_col5, mm4, word_ops, one_mul, sub_self, mul_zero, Finset.sum_const_zero, add_zero]
  try rfl
theorem w_v793 : runB.sl.v793 c R r.up a.up = L2 (e := .f32) fun _ p => a.o29 6 p + cdb (r.U 0) (r.Y 0) 6 p := by
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  exact (View.readCov_cons_toLoadRect _ _ _ _).trans (w_v378 c R r a)
theorem w_v799 : runB.sl.v799 c R r.up a.up = L2 (e := .f32) fun _ p => a.o29 6 p + cdb (r.U 0) (r.Y 0) 6 p + cdb (r.U 1) (r.Y 1) 6 p := by
  simp only [runB.sl.v799, runB.sl.v794, runB.sl.v798, runB.sl.v797, runB.sl.v795, runB.sl.v196, runB.sl.cst_102, runB.sl.cst_112, runB.sl.v796, runB.sl.v784, runB.sl.v783, runB.sl.v780, runB.sl.v782, w_v793, w_v781, w_v616, xs_col6, mm4, word_ops, one_mul, sub_self, mul_zero, Finset.sum_const_zero, add_zero]
  try rfl
theorem w_v820 : runB.sl.v820 c R r.up a.up = L2 (e := .f32) fun _ p => a.o29 7 p + cdb (r.U 0) (r.Y 0) 7 p := by
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  exact (View.readCov_cons_toLoadRect _ _ _ _).trans (w_v405 c R r a)
theorem w_v826 : runB.sl.v826 c R r.up a.up = L2 (e := .f32) fun _ p => a.o29 7 p + cdb (r.U 0) (r.Y 0) 7 p + cdb (r.U 1) (r.Y 1) 7 p := by
  simp only [runB.sl.v826, runB.sl.v821, runB.sl.v825, runB.sl.v824, runB.sl.v822, runB.sl.v196, runB.sl.cst_102, runB.sl.cst_112, runB.sl.v823, runB.sl.v811, runB.sl.v810, runB.sl.v807, runB.sl.v809, w_v820, w_v808, w_v616, xs_col7, mm4, word_ops, one_mul, sub_self, mul_zero, Finset.sum_const_zero, add_zero]
  try rfl
theorem w_v644 : runB.sl.v644 c R r.up = L2 (e := .f32) fun q p => (cdvn r.x18 (r.U 1) (r.Y 1)) q (col 0 p) := by
  simp only [runB.sl.v644, runB.sl.v641, runB.sl.cst_60, w_v219, w_v619, mm3, word_ops, cdvn, grp_col]
  try rfl
theorem w_v671 : runB.sl.v671 c R r.up = L2 (e := .f32) fun q p => (cdvn r.x18 (r.U 1) (r.Y 1)) q (col 1 p) := by
  simp only [runB.sl.v671, runB.sl.v668, runB.sl.cst_60, w_v115, w_v646, mm3, word_ops, cdvn, grp_col]
  try rfl
theorem w_v698 : runB.sl.v698 c R r.up = L2 (e := .f32) fun q p => (cdvn r.x18 (r.U 1) (r.Y 1)) q (col 2 p) := by
  simp only [runB.sl.v698, runB.sl.v695, runB.sl.cst_60, w_v126, w_v673, mm3, word_ops, cdvn, grp_col]
  try rfl
theorem w_v725 : runB.sl.v725 c R r.up = L2 (e := .f32) fun q p => (cdvn r.x18 (r.U 1) (r.Y 1)) q (col 3 p) := by
  simp only [runB.sl.v725, runB.sl.v722, runB.sl.cst_60, w_v137, w_v700, mm3, word_ops, cdvn, grp_col]
  try rfl
theorem w_v752 : runB.sl.v752 c R r.up = L2 (e := .f32) fun q p => (cdvn r.x18 (r.U 1) (r.Y 1)) q (col 4 p) := by
  simp only [runB.sl.v752, runB.sl.v749, runB.sl.cst_60, w_v148, w_v727, mm3, word_ops, cdvn, grp_col]
  try rfl
theorem w_v779 : runB.sl.v779 c R r.up = L2 (e := .f32) fun q p => (cdvn r.x18 (r.U 1) (r.Y 1)) q (col 5 p) := by
  simp only [runB.sl.v779, runB.sl.v776, runB.sl.cst_60, w_v159, w_v754, mm3, word_ops, cdvn, grp_col]
  try rfl
theorem w_v806 : runB.sl.v806 c R r.up = L2 (e := .f32) fun q p => (cdvn r.x18 (r.U 1) (r.Y 1)) q (col 6 p) := by
  simp only [runB.sl.v806, runB.sl.v803, runB.sl.cst_60, w_v170, w_v781, mm3, word_ops, cdvn, grp_col]
  try rfl
theorem w_v833 : runB.sl.v833 c R r.up = L2 (e := .f32) fun q p => (cdvn r.x18 (r.U 1) (r.Y 1)) q (col 7 p) := by
  simp only [runB.sl.v833, runB.sl.v830, runB.sl.cst_60, w_v181, w_v808, mm3, word_ops, cdvn, grp_col]
  try rfl
theorem w_v834 : runB.sl.v834 c R r.up = L2 (e := .f32) (cdvn r.x18 (r.U 1) (r.Y 1)) :=
  cols_read R.a34 (cdvn r.x18 (r.U 1) (r.Y 1)) (runB.sl.H33_8 c R r.up) _ _ _ _ _ _ _ _ _
    (w_v644 c R r) (w_v671 c R r) (w_v698 c R r) (w_v725 c R r) (w_v752 c R r) (w_v779 c R r) (w_v806 c R r) (w_v833 c R r)
theorem w_v835 : runB.sl.v835 c R r.up a.up = L2 (e := .f32) fun _ j => a.o30 0 j + cdlg r.x18 (r.U 0) (r.V 0) (r.Y 0) j :=
  (View.readCov_cons_toLoadRect _ _ _ _).trans (w_v419 c R r a)
theorem w_v842 : runB.sl.v842 c R r.up a.up = L2 (e := .f32) fun _ j => a.o31 0 j + cdlb r.x18 (r.U 0) (r.Y 0) j :=
  (View.readCov_cons_toLoadRect _ _ _ _).trans (w_v425 c R r a)
theorem w_v840 : runB.sl.v840 c R r.up a.up = L2 (e := .f32) fun _ j => a.o30 0 j + cdlg r.x18 (r.U 0) (r.V 0) (r.Y 0) j + cdlg r.x18 (r.U 1) (r.V 1) (r.Y 1) j := by
  simp only [runB.sl.v840, runB.sl.v836, runB.sl.v839, runB.sl.v838, runB.sl.v837, w_v835, w_v834, w_r_26, word_ops]
  erw [rd_col_128]; simp only [word_ops]
  try rfl
theorem w_v846 : runB.sl.v846 c R r.up a.up = L2 (e := .f32) fun _ j => a.o31 0 j + cdlb r.x18 (r.U 0) (r.Y 0) j + cdlb r.x18 (r.U 1) (r.Y 1) j := by
  simp only [runB.sl.v846, runB.sl.v843, runB.sl.v845, runB.sl.v844, w_v842, w_v834, word_ops]
  erw [rd_col_128]; simp only [word_ops]
  try rfl
theorem w_v867 : runB.sl.v867 c R r.up = L2 (e := .bf16) (cdv r.x16 r.x18 (r.U 1) (r.V 1) (r.Y 1)) := by
  simp only [runB.sl.v867, runB.sl.v866, runB.sl.v865, runB.sl.v864, runB.sl.v863, runB.sl.v855, runB.sl.v849, runB.sl.v427, runB.sl.v854, runB.sl.v853, runB.sl.v851, runB.sl.v850, runB.sl.v431, runB.sl.cst_268, runB.sl.v862, runB.sl.v861, runB.sl.v860, runB.sl.v858, runB.sl.v857, runB.sl.v856, w_r_25, w_v834, w_r_3, w_r_26, w_r_24, word_ops]
  erw [rd_row_128]; simp only [word_ops]
  erw [rd_row_128]; simp only [word_ops]
  try rfl

end Cert.KernelIdeal.Val
-- ==== Proof.KWord2.lean ====
module

public import proofs.«01_k».proof.Proof.KWord1
public import proofs.«01_k».proof.Proof.RunA

/-! The norm's payloads, and the gradient of the modulated rows at the first point and at a later one, on arrays of real
numbers. -/

@[expose] public section

set_option maxRecDepth 16384

noncomputable section

namespace Cert.KernelIdeal.Val

open Idealize.ShloMosaic Cert.Lift Cert.Math Cert.KernelIdeal Cert.KernelIdeal.Gen Cert.KernelIdeal.Ops Cert.KernelIdeal.Run

theorem L2_congr {m n : ℕ} {e : FTy} {f g : Fin m → Fin n → ℝ} (h : ∀ a b, f a b = g a b) : (L2 f : FVec Ideal _ e) = L2 g :=
  congrArg L2 (funext fun a => funext fun b => h a b)

/-! ### Payloads that look at the point -/

section
variable (i : grid0.Coords)

/-- The test for the first point, at the first point. -/
theorem bit_first (h : (i 0).val = 0) : Scalar.cmpi .eq (BitVec.ofNat 32 (i 0).val) 0#32 = 1#1 := by rw [h]; rfl

theorem bit_tab : ∀ n : Fin 9, n.val ≠ 0 → Scalar.cmpi .eq (BitVec.ofNat 32 n.val) 0#32 = 0#1 := by decide

/-- The test for the first point, at a later point. -/
theorem bit_later (h : (i 0).val ≠ 0) : Scalar.cmpi .eq (BitVec.ofNat 32 (i 0).val) 0#32 = 0#1 := bit_tab (i 0) h

variable (v3 v4 : FVec Ideal S256x1024 .f32) (f : Fin 256 → Row) (v6 v8 : Fin 1 → Row)

theorem pay10_first (h : (i 0).val = 0) : k0_pay10 (F := Ideal) i v3 v4 = v3 := by
  show Scalar.select (Scalar.cmpi .eq (BitVec.ofNat 32 (i 0).val) 0#32) v3 v4 = v3
  rw [bit_first i h]; rfl
theorem pay10_later (h : (i 0).val ≠ 0) : k0_pay10 (F := Ideal) i v3 v4 = v4 := by
  show Scalar.select (Scalar.cmpi .eq (BitVec.ofNat 32 (i 0).val) 0#32) v3 v4 = v4
  rw [bit_later i h]; rfl
theorem pay11_first (h : (i 0).val = 0) :
    k0_pay11 (F := Ideal) i (L2 (e := .f32) v6) (L2 (e := .f32) v8) = L2 (e := .f32) fun a b => 1 + v6 a b := by
  simp only [k0_pay11, bit_first i h, cast_self, sp_row_one]
  exact L2_add _ _
theorem pay11_later (h : (i 0).val ≠ 0) :
    k0_pay11 (F := Ideal) i (L2 (e := .f32) v6) (L2 (e := .f32) v8) = L2 (e := .f32) fun a b => 1 + v8 a b := by
  simp only [k0_pay11, bit_later i h, cast_self, sp_row_one]
  exact L2_add _ _

variable (e : k0_pay10 (F := Ideal) i v3 v4 = L2 (e := .f32) f)
include e

theorem pay12_L : k0_pay12 (F := Ideal) i v3 v4 = L2 (e := .f32) fun a _ => rr (f a) := by
  simp only [k0_pay12, e, L2_mul]
  erw [rd_row_256]; simp only [sc_col_256, sp_col256_n, sp_col256_eps6, div_n, L2_add, ms_k, rsqrt_ms]
theorem pay13_L : k0_pay13 (F := Ideal) i v3 v4 = L2 (e := .f32) fun a b => xn (f a) b := by
  simp only [k0_pay13, e, pay12_L i v3 v4 f e, bt_col_256_1024, L2_mul]; rfl
theorem pay19_L (g x : Fin 256 → Row) : k0_pay19 (F := Ideal) i v3 v4 (L2 (e := .f32) g) (L2 (e := .f32) x)
    = L2 (e := .f32) fun a b => x a b + rmsBack (f a) (g a) b := by
  simp only [k0_pay19, pay12_L i v3 v4 f e, pay13_L i v3 v4 f e, bt_col_256_1024, L2_mul]
  erw [rd_row_256]; simp only [sc_col_256, sp_col256_n, div_n, bt_col_256_1024, L2_mul, L2_sub, L2_add]; rfl

variable (g : Fin 256 → Row) (w : Fin 1024 → Row) (o : Fin 1 → Row)

theorem pay15_L : k0_pay15 (F := Ideal) i v3 v4 (L2 (e := .bf16) g) (L2 (e := .bf16) w)
    = L2 (e := .f32) fun a b => (∑ k, g a k * w b k) * xn (f a) b := by
  simp only [k0_pay15, k0_pay14, pay13_L i v3 v4 f e, cast_self, mm0, L2_mul]
theorem pay16_L (s : Fin 1 → Row) (q6 q8) (hs : k0_pay11 (F := Ideal) i q6 q8 = L2 (e := .f32) s) :
    k0_pay16 (F := Ideal) i v3 v4 q6 q8 (L2 (e := .bf16) g) (L2 (e := .bf16) w) (L2 (e := .f32) o)
    = L2 (e := .f32) fun _ b => o 0 b + ∑ a, (∑ k, g a k * w b k) * xn (f a) b * s 0 b := by
  simp only [k0_pay16, pay15_L i v3 v4 f e, hs, bt_row_256_1024, cast_self, L2_mul]
  erw [rd_col_256]; simp only [sc_row, L2_add]; exact L2_congr fun a b => by rw [Subsingleton.elim a 0]
theorem pay17_L (s : Fin 1 → Row) :
    k0_pay17 (F := Ideal) i v3 v4 (L2 (e := .f32) s) (L2 (e := .bf16) g) (L2 (e := .bf16) w) (L2 (e := .f32) o)
    = L2 (e := .f32) fun _ b => o 0 b + ∑ a, (∑ k, g a k * w b k) * xn (f a) b * s 0 b := by
  simp only [k0_pay17, pay15_L i v3 v4 f e, bt_row_256_1024, cast_self, L2_mul]
  erw [rd_col_256]; simp only [sc_row, L2_add]; exact L2_congr fun a b => by rw [Subsingleton.elim a 0]
end

section
variable (g : Fin 256 → Row) (w : Fin 1024 → Row) (o : Fin 1 → Row)
theorem pay18_L : k0_pay18 (F := Ideal) (L2 (e := .bf16) g) (L2 (e := .bf16) w) (L2 (e := .f32) o)
    = L2 (e := .f32) fun _ b => o 0 b + ∑ a, ∑ k, g a k * w b k := by
  simp only [k0_pay18, k0_pay14, cast_self, mm0]
  erw [rd_col_256]; simp only [sc_row, L2_add]; exact L2_congr fun a b => by rw [Subsingleton.elim a 0]
theorem pay20_L : k0_pay20 (F := Ideal) (L2 (e := .bf16) g) (L2 (e := .bf16) w) = L2 (e := .f32) fun a b => ∑ k, g a k * w b k := by
  simp only [k0_pay20, cast_self, mm0]
theorem pay108_L (f : Fin 256 → Row) : k0_pay108 (F := Ideal) (L2 (e := .f32) f) (L2 (e := .bf16) g) (L2 (e := .bf16) w)
    = L2 (e := .f32) fun a b => f a b + ∑ k, g a k * w b k := by
  simp only [k0_pay108, cast_self, mm0, L2_add]
theorem pay198_L (f : Fin 1 → Row) (v : Row) : k0_pay198 (F := Ideal) (L2 (e := .f32) f) (L1 (e := .f32) v)
    = L2 (e := .f32) fun a b => f a b + v b := by
  simp only [k0_pay198, sc_row, L2_add]
theorem pay199_L (s : Fin 1 → Row) : k0_pay199 (F := Ideal) (L2 (e := .f32) s) (L2 (e := .f32) g) (L2 (e := .f32) o)
    = L2 (e := .f32) fun a b => o a b + ∑ k, g k b * s 0 b := by
  simp only [k0_pay199, bt_row_256_1024, cast_self, L2_mul]
  erw [rd_col_256]; simp only [sc_row, L2_add]
theorem pay200_L : k0_pay200 (F := Ideal) (L2 (e := .f32) g) (L2 (e := .f32) o)
    = L2 (e := .f32) fun a b => o a b + ∑ k, g k b := by
  simp only [k0_pay200, cast_self]
  erw [rd_col_256]; simp only [sc_row, L2_add]
theorem pay201_L (s n : Fin 1 → Row) : k0_pay201 (F := Ideal) (L2 (e := .f32) s) (L2 (e := .f32) n) (L2 (e := .f32) g)
    = L2 (e := .f32) fun a b => g a b * (n 0 b * s 0 b) := by
  simp only [k0_pay201, L2_mul, bt_row_256_1024]
end

/-! ### Two chunks as a block -/

/-- The block of 256 rows whose halves are two chunks. -/
def bof (f : Fin 2 → Chunk) (p : Fin 256) : Row := f ⟨p.val / 128, by omega⟩ ⟨p.val % 128, by omega⟩

theorem bof_half (f : Fin 2 → Chunk) (k : Fin 2) (p : Fin 128) : bof f (half k p) = f k p := by
  unfold bof half; congr 1
  · congr 1; show (128 * k.val + p.val) / 128 = k.val; omega
  · apply Fin.ext; show (128 * k.val + p.val) % 128 = p.val; omega

/-- The gradient of `u` on the block's rows. -/
def RIns.du (r : RIns) : Fin 256 → Row := bof fun k => cdu r.x16 r.x17 r.x18 r.sb (r.U k) (r.V k) (r.Y k)
/-- The gradient of `v` on the block's rows. -/
def RIns.dv (r : RIns) : Fin 256 → Row := bof fun k => cdv r.x16 r.x18 (r.U k) (r.V k) (r.Y k)
/-- The gradient of the modulated rows of the block. -/
def RIns.dh (r : RIns) (a : Fin 256) (b : Fin 1024) : ℝ :=
  ∑ k, r.x0 a k * r.x3 b k + ∑ k, r.x1 a k * r.x4 b k + ∑ k, r.x2 a k * r.x5 b k + ∑ k, r.du a k * r.x6 b k
    + ∑ k, r.dv a k * r.x7 b k

/-- Two stored halves, read back as one block. -/
theorem halves_read (m : Memref sig .tc .vmem S256x1024 .bf16) (f : Fin 256 → Row) {w0 w1 : S128x1024.Idx → Elt Ideal .bf16} (b0 b1 b)
    (h0 : w0 = L2 (e := .bf16) fun p j => f (half 0 p) j) (h1 : w1 = L2 (e := .bf16) fun p j => f (half 1 p) j) :
    m.view.readCov (Val := Elt Ideal) [⟨Rect.unit (s := S256x1024) ![128, 0] S128x1024.size b1, w1⟩,
      ⟨Rect.unit (s := S256x1024) ![0, 0] S128x1024.size b0, w0⟩]
      (Rect.unit (s := S256x1024) ![0, 0] S256x1024.size b).toLoadRect = L2 (e := .bf16) f := by
  rw [View.readCov_eq_canon', halves f b0 b1 h0 h1]
  funext j
  refine congrArg Real.toEReal (congrArg₂ f (Fin.ext ?_) (Fin.ext ?_)) <;> simp [LoadRect.idx, Rect.toLoadRect, Rect.unit]

variable (c : Dev nD) (i : grid0.Coords) (R : Refs) (r : RIns) (a : RAcc)

theorem du_half (k : Fin 2) : (fun p j => r.du (half k p) j) = cdu r.x16 r.x17 r.x18 r.sb (r.U k) (r.V k) (r.Y k) := by
  funext p j; unfold RIns.du; rw [bof_half]
theorem dv_half (k : Fin 2) : (fun p j => r.dv (half k p) j) = cdv r.x16 r.x18 (r.U k) (r.V k) (r.Y k) := by
  funext p j; unfold RIns.dv; rw [bof_half]

/-! ### The gradient of the modulated rows -/

theorem w_r : runB.sl.r c R r.up = L2 (e := .f32) fun a b => ∑ k, r.x0 a k * r.x3 b k :=
  (congrArg₂ k0_pay20 (rd_all_256_bf16 R.a1 R.h1 r.x0 _) (rd_all_1024 R.a4 R.h4 r.x3 _)).trans (pay20_L _ _)
theorem w_r_16 : runB.sl.r_16 c R r.up = L2 (e := .f32) fun a b => ∑ k, r.x0 a k * r.x3 b k + ∑ k, r.x1 a k * r.x4 b k :=
  (congr (congr (congrArg k0_pay108 (w_r c R r)) (rd_all_256_bf16 R.a2 R.h2 r.x1 _)) (rd_all_1024 R.a5 R.h5 r.x4 _)).trans (pay108_L _ _ _)
theorem w_v872 : runB.sl.v872 c R r.up = L2 (e := .bf16) r.x5 :=
  (congrArg (fun t => shapeCast S1024x1024 t _) (rd_all_1024 R.a6 R.h6 r.x5 _)).trans (cast_self _ _)
theorem w_v873 : runB.sl.v873 c R r.up = L2 (e := .f32) fun a b => ∑ k, r.x2 a k * r.x5 b k :=
  (congrArg₂ (fun s t => matmul dot_S256x1024_S1024x1024_S256x1024_1_1_0_0_n_n none s t (constant S256x1024 .f32 0x00000000#32 : FVec Ideal _ .f32))
    (rd_all_256_bf16 R.a3 R.h3 r.x2 _) (w_v872 c R r)).trans (mm0 _ _)
theorem w_v875 : runB.sl.v875 c R r.up = L2 (e := .bf16) r.du :=
  halves_read R.a27 r.du _ _ _ ((w_v194 c R r).trans (L2_congr fun p j => (congrFun (congrFun (du_half r 0) p) j).symm))
    ((w_v615 c R r).trans (L2_congr fun p j => (congrFun (congrFun (du_half r 1) p) j).symm))
theorem w_v445' : k0_pay107 (runB.sl.v445 c R r.up) = L2 (e := .bf16) fun p j => r.dv (half 0 p) j := by
  rw [w_v445, dv_half]; rfl
theorem w_v881 : runB.sl.v881 c R r.up = L2 (e := .bf16) r.dv :=
  halves_read R.a28 r.dv _ _ _ (w_v445' c R r) ((w_v867 c R r).trans (L2_congr fun p j => (congrFun (congrFun (dv_half r 1) p) j).symm))
theorem w_v878 : runB.sl.v878 c R r.up = L2 (e := .bf16) r.x6 :=
  (congrArg (fun t => shapeCast S1024x1024 t _) (rd_all_1024 R.a7 R.h7 r.x6 _)).trans (cast_self _ _)
theorem w_v884 : runB.sl.v884 c R r.up = L2 (e := .bf16) r.x7 :=
  (congrArg (fun t => shapeCast S1024x1024 t _) (rd_all_1024 R.a8 R.h8 r.x7 _)).trans (cast_self _ _)
theorem w_v886 : runB.sl.v886 c R r.up = L2 (e := .f32) r.dh := by
  simp only [runB.sl.v886, runB.sl.v880, runB.sl.v874, runB.sl.v879, runB.sl.v876, runB.sl.cst_552, runB.sl.v885, runB.sl.v882, w_r_16, w_v873, w_v875, w_v878, w_v881, w_v884, mm0, word_ops]
  try rfl

variable (hi : (i 0).val ≠ 0)
include hi

theorem w_xn : k0_pay13 i (View.readAt (Elt Ideal) R.a10.view (Rect.unit ![0, 0] ![256, 1024] inb_S256x1024_S256x1024_0_0).toLoadRect (R.h10.unread r.up.x9))
    (View.readAt (Elt Ideal) R.a9.view (Rect.unit ![0, 0] ![256, 1024] inb_S256x1024_S256x1024_0_0).toLoadRect (R.h9.unread r.up.x8))
    = L2 (e := .f32) fun a b => xn (r.x8 a) b :=
  pay13_L i _ _ r.x8 ((pay10_later i _ _ hi).trans (rd_all_256 R.a9 R.h9 r.x8 _))
theorem w_s1 : k0_pay11 i (View.readAt (Elt Ideal) R.a11.view (Rect.unit ![1, 0] ![1, 1024] inb_S8x1024_S1x1024_1_0).toLoadRect (R.h11.unread r.up.x10))
    (View.readAt (Elt Ideal) R.a11.view (Rect.unit ![0, 0] ![1, 1024] inb_S8x1024_S1x1024_0_0).toLoadRect (R.h11.unread r.up.x10))
    = L2 (e := .f32) fun _ b => 1 + r.x10 0 b :=
  (congrArg₂ (k0_pay11 i) (rd_mod1 R.a11 R.h11 r.x10 _) (rd_mod0 R.a11 R.h11 r.x10 _)).trans (pay11_later i _ _ hi)
theorem w_v887 : runB.sl.v887 c i R r.up = L2 (e := .f32) fun a b => r.dh a b * xn (r.x8 a) b :=
  (congrArg₂ mulf (w_v886 c R r) (w_xn i R r hi)).trans (L2_mul _ _)
theorem w_v890 : runB.sl.v890 c i R r.up = L2 (e := .f32) fun _ b => 1 + r.x10 0 b :=
  (congrArg (fun t => broadcastTo S256x1024 t _) (w_s1 i R r hi)).trans (bt_row_256_1024 _ _)
theorem w_v892 : runB.sl.v892 c i R r.up = L1 (e := .f32) fun b => ∑ k, r.dh k b * xn (r.x8 k) b * (1 + r.x10 0 b) := by
  simp only [runB.sl.v892, runB.sl.v891, w_v887 c i R r hi, w_v890 c i R r hi, L2_mul]
  erw [rd_col_256]
omit hi in
theorem w_v889 : runB.sl.v889 c R a.up = L2 (e := .f32) fun _ b => a.o21 0 b :=
  (congrArg (fun t => shapeCast S1x1024 t _) (rd_all_1 R.a22 R.h22 a.o21 _)).trans (cast_self _ _)
theorem w_r_28 : runB.sl.r_28 c i R r.up = L2 (e := .f32) fun a b => r.dh a b * (r.x11 0 b * (1 + r.x10 0 b)) :=
  (congr (congr (congrArg k0_pay201 (w_s1 i R r hi)) (rd_all_1b R.a12 R.h12 r.x11 _)) (w_v886 c R r)).trans (pay201_L _ _ _)

end Cert.KernelIdeal.Val
-- ==== Proof.KOut.lean ====
module

public import proofs.«01_k».proof.Proof.KWord2
public import proofs.«01_k».proof.Proof.Data

/-! What one point leaves in the output buffers, on arrays of real numbers. -/

@[expose] public section

set_option maxRecDepth 16384

noncomputable section

namespace Cert.KernelIdeal.Val

open Idealize.ShloMosaic Cert.Lift Cert.Math Cert.KernelIdeal Cert.KernelIdeal.Gen Cert.KernelIdeal.Ops Cert.KernelIdeal.Run

/-- The gradient of the modulated rows of the context's block. -/
def RIns.dh0 (r : RIns) (a : Fin 256) (b : Fin 1024) : ℝ := ∑ k, r.x0 a k * r.x3 b k

/-- The accumulators after the first point. -/
def RIns.first (r : RIns) : RAcc where
  o21 := fun _ b => ∑ k, r.dh0 k b * xn (r.x9 k) b * (1 + r.x10 1 b)
  o22 := fun _ _ => 0
  o23 := fun _ _ => 0
  o24 := fun _ b => ∑ k, r.dh0 k b * xn (r.x9 k) b * r.x11 0 b
  o25 := fun _ b => ∑ k, r.dh0 k b
  o28 := fun _ _ _ => 0
  o29 := fun _ _ => 0
  o30 := fun _ _ => 0
  o31 := fun _ _ => 0

/-- The accumulators after a later point that found `a`. -/
def RIns.next (r : RIns) (a : RAcc) : RAcc where
  o21 := fun _ b => a.o21 0 b + ∑ k, r.dh k b * xn (r.x8 k) b * (1 + r.x10 0 b)
  o22 := fun _ b => a.o22 0 b + ∑ k, r.dh k b * xn (r.x8 k) b * r.x11 0 b
  o23 := fun _ b => a.o23 0 b + ∑ k, r.dh k b
  o24 := a.o24
  o25 := a.o25
  o28 := fun g p q => a.o28 g p q + cdw r.x16 r.x17 (r.U 0) (r.V 0) (r.Y 0) g p q + cdw r.x16 r.x17 (r.U 1) (r.V 1) (r.Y 1) g p q
  o29 := fun g p => a.o29 g p + cdb (r.U 0) (r.Y 0) g p + cdb (r.U 1) (r.Y 1) g p
  o30 := fun _ j => a.o30 0 j + cdlg r.x18 (r.U 0) (r.V 0) (r.Y 0) j + cdlg r.x18 (r.U 1) (r.V 1) (r.Y 1) j
  o31 := fun _ j => a.o31 0 j + cdlb r.x18 (r.U 0) (r.Y 0) j + cdlb r.x18 (r.U 1) (r.Y 1) j

/-- The gradient of the block's rows of `x`. -/
def RIns.gx (r : RIns) (a : Fin 256) (b : Fin 1024) : ℝ :=
  r.x12 a b + rmsBack (r.x8 a) (fun b => r.dh a b * (r.x11 0 b * (1 + r.x10 0 b))) b

variable (c : Dev nD) (i : grid0.Coords) (R : Refs) (r : RIns) (a : RAcc)

/-! ### The first point -/

section
variable (hi : (i 0).val = 0)

include hi in
theorem first_sel : k0_pay10 (F := Ideal) i (View.readAt (Elt Ideal) R.a10.view (Rect.unit (s := S256x1024) ![0, 0] ![256, 1024] inb_S256x1024_S256x1024_0_0).toLoadRect (R.h10.unread r.up.x9))
    (View.readAt (Elt Ideal) R.a9.view (Rect.unit (s := S256x1024) ![0, 0] ![256, 1024] inb_S256x1024_S256x1024_0_0).toLoadRect (R.h9.unread r.up.x8)) = L2 (e := .f32) r.x9 :=
  (pay10_first i _ _ hi).trans (rd_all_256 R.a10 R.h10 r.x9 _)

include hi in
theorem first_s1 : k0_pay11 i (View.readAt (Elt Ideal) R.a11.view (Rect.unit ![1, 0] ![1, 1024] inb_S8x1024_S1x1024_1_0).toLoadRect (R.h11.unread r.up.x10))
    (View.readAt (Elt Ideal) R.a11.view (Rect.unit ![0, 0] ![1, 1024] inb_S8x1024_S1x1024_0_0).toLoadRect (R.h11.unread r.up.x10))
    = L2 (e := .f32) fun _ b => 1 + r.x10 1 b :=
  (congrArg₂ (k0_pay11 i) (rd_mod1 R.a11 R.h11 r.x10 _) (rd_mod0 R.a11 R.h11 r.x10 _)).trans (pay11_first i _ _ hi)

theorem first_v34 : runA.sl.v34 (F := Ideal) c R = L2 (e := .f32) fun _ _ => 0 :=
  (View.readCov_cons_toLoadRect _ _ _ _).trans sp_row_zero
theorem first_v42 : runA.sl.v42 (F := Ideal) c R = L2 (e := .f32) fun _ _ => 0 :=
  (View.readCov_cons_toLoadRect _ _ _ _).trans sp_row_zero
theorem first_v50 : runA.sl.v50 (F := Ideal) c R = L2 (e := .f32) fun _ _ => 0 :=
  (View.readCov_cons_toLoadRect _ _ _ _).trans sp_row_zero

variable (z : Til Ideal) (h0 : condA i) (h1 : condA' i) (h2 : ¬condB i)

set_option maxHeartbeats 1600000

include hi in
theorem first_o21 : (accA c i R r.up z h0 h1 h2).o21 = L2 (e := .f32) r.first.o21 := by
  refine Eq.trans ?_ (row_whole r.first.o21 (runA c i R r.up z h0 h1 h2).1.tail inb_S1x1024_S1x1024_0_0 ((congr (congr (congrArg (k0_pay16 i _ _ _ _) (rd_all_256_bf16 R.a1 R.h1 r.x0 inb_S256x1024_S256x1024_0_0)) (rd_all_1024 R.a4 R.h4 r.x3 inb_S1024x1024_S1024x1024_0_0)) (first_v34 c R)).trans
    ((pay16_L i _ _ r.x9 (first_sel i R r hi) r.x0 r.x3 _ _ _ _ (first_s1 i R r hi)).trans (L2_congr fun _ _ => zero_add _))))
  sl_kernel_rfl
include hi in
theorem first_o24 : (accA c i R r.up z h0 h1 h2).o24 = L2 (e := .f32) r.first.o24 := by
  refine Eq.trans ?_ (row_whole r.first.o24 (runA c i R r.up z h0 h1 h2).2.2.2.1.tail inb_S1x1024_S1x1024_0_0 ((congr (congr (congr (congrArg (k0_pay17 i _ _) (rd_all_1b R.a12 R.h12 r.x11 inb_S1x1024_S1x1024_0_0)) (rd_all_256_bf16 R.a1 R.h1 r.x0 inb_S256x1024_S256x1024_0_0)) (rd_all_1024 R.a4 R.h4 r.x3 inb_S1024x1024_S1024x1024_0_0)) (first_v42 c R)).trans
    ((pay17_L i _ _ r.x9 (first_sel i R r hi) r.x0 r.x3 _ _).trans (L2_congr fun _ _ => zero_add _))))
  sl_kernel_rfl
theorem first_o25 : (accA c i R r.up z h0 h1 h2).o25 = L2 (e := .f32) r.first.o25 := by
  refine Eq.trans ?_ (row_whole r.first.o25 (runA c i R r.up z h0 h1 h2).2.2.2.2.1.tail inb_S1x1024_S1x1024_0_0 ((congr (congr (congrArg k0_pay18 (rd_all_256_bf16 R.a1 R.h1 r.x0 inb_S256x1024_S256x1024_0_0)) (rd_all_1024 R.a4 R.h4 r.x3 inb_S1024x1024_S1024x1024_0_0)) (first_v50 c R)).trans
    ((pay18_L r.x0 r.x3 _).trans (L2_congr fun _ _ => zero_add _))))
  sl_kernel_rfl
theorem first_o22 : (accA c i R r.up z h0 h1 h2).o22 = L2 (e := .f32) r.first.o22 := by
  refine Eq.trans ?_ (row_whole r.first.o22 (runA c i R r.up z h0 h1 h2).2.1.tail inb_S1x1024_S1x1024_0_0 sp_row_zero)
  sl_kernel_rfl
theorem first_o23 : (accA c i R r.up z h0 h1 h2).o23 = L2 (e := .f32) r.first.o23 := by
  refine Eq.trans ?_ (row_whole r.first.o23 (runA c i R r.up z h0 h1 h2).2.2.1.tail inb_S1x1024_S1x1024_0_0 sp_row_zero)
  sl_kernel_rfl
theorem first_o30 : (accA c i R r.up z h0 h1 h2).o30 = L2 (e := .f32) r.first.o30 := by
  refine Eq.trans ?_ (row_whole r.first.o30 (runA c i R r.up z h0 h1 h2).2.2.2.2.2.2.2.1.tail inb_S1x1024_S1x1024_0_0 sp_row_zero)
  sl_kernel_rfl
theorem first_o31 : (accA c i R r.up z h0 h1 h2).o31 = L2 (e := .f32) r.first.o31 := by
  refine Eq.trans ?_ (row_whole r.first.o31 (runA c i R r.up z h0 h1 h2).2.2.2.2.2.2.2.2.1.tail inb_S1x1024_S1x1024_0_0 sp_row_zero)
  sl_kernel_rfl
theorem slab_zero : View.canon (Val := Elt Ideal) (s := S8x128x128) (e := .f32)
    [⟨Rect.unit (s := S8x128x128) ![0, 0, 0] S8x128x128.size inb_S8x128x128_S8x128x128_0_0_0, (broadcast S8x128x128 (Scalar.ofBits .f32 0x00000000#32 : Ideal .f32) : FVec Ideal _ .f32)⟩]
    = L3 (e := .f32) r.first.o28 := by
  funext j
  refine View.canon_append_of_piecesOf (Val := Elt Ideal) (s := S8x128x128) (e := .f32) (L3 (e := .f32) r.first.o28) []
    [⟨Rect.unit (s := S8x128x128) ![0, 0, 0] S8x128x128.size inb_S8x128x128_S8x128x128_0_0_0, _⟩] ?_ _
    (View.cover_of_tiledL _ ![8, 128, 128] (by sl_kernel_rfl) _)
  exact ⟨fun _ => bits_zero, trivial⟩
theorem rows_zero : View.canon (Val := Elt Ideal) (s := S8x128) (e := .f32)
    [⟨Rect.unit (s := S8x128) ![0, 0] S8x128.size inb_S8x128_S8x128_0_0, (broadcast S8x128 (Scalar.ofBits .f32 0x00000000#32 : Ideal .f32) : FVec Ideal _ .f32)⟩]
    = L2 (e := .f32) r.first.o29 := by
  funext j
  refine View.canon_append_of_piecesOf (Val := Elt Ideal) (s := S8x128) (e := .f32) (L2 (e := .f32) r.first.o29) []
    [⟨Rect.unit (s := S8x128) ![0, 0] S8x128.size inb_S8x128_S8x128_0_0, _⟩] ?_ _
    (View.cover_of_tiledL _ ![8, 128] (by sl_kernel_rfl) _)
  exact ⟨fun _ => bits_zero, trivial⟩
theorem first_o28 : (accA c i R r.up z h0 h1 h2).o28 = L3 (e := .f32) r.first.o28 := by
  refine Eq.trans ?_ (slab_zero r)
  sl_kernel_rfl
theorem first_o29 : (accA c i R r.up z h0 h1 h2).o29 = L2 (e := .f32) r.first.o29 := by
  refine Eq.trans ?_ (rows_zero r)
  sl_kernel_rfl

include hi in
/-- The accumulators the first point leaves. -/
theorem accA_up : accA c i R r.up z h0 h1 h2 = r.first.up := by
  have e : ∀ s t : Acc Ideal, s.o21 = t.o21 → s.o22 = t.o22 → s.o23 = t.o23 → s.o24 = t.o24 → s.o25 = t.o25 →
      s.o28 = t.o28 → s.o29 = t.o29 → s.o30 = t.o30 → s.o31 = t.o31 → s = t := by
    intro s t; cases s; cases t; rintro rfl rfl rfl rfl rfl rfl rfl rfl rfl; rfl
  exact e _ _ (first_o21 c i R r hi z h0 h1 h2) (first_o22 c i R r z h0 h1 h2) (first_o23 c i R r z h0 h1 h2) (first_o24 c i R r hi z h0 h1 h2) (first_o25 c i R r z h0 h1 h2) (first_o28 c i R r z h0 h1 h2) (first_o29 c i R r z h0 h1 h2) (first_o30 c i R r z h0 h1 h2) (first_o31 c i R r z h0 h1 h2)
end

/-! ### A later point -/

section
variable (hi : (i 0).val ≠ 0) (h0 : ¬condA i) (h1 : ¬condA' i) (h2 : condB i)

set_option maxHeartbeats 1600000

include hi in
theorem w_gx : k0_pay19 i (View.readAt (Elt Ideal) R.a10.view (Rect.unit (s := S256x1024) ![0, 0] ![256, 1024] inb_S256x1024_S256x1024_0_0).toLoadRect (R.h10.unread r.up.x9))
    (View.readAt (Elt Ideal) R.a9.view (Rect.unit (s := S256x1024) ![0, 0] ![256, 1024] inb_S256x1024_S256x1024_0_0).toLoadRect (R.h9.unread r.up.x8))
    (runB.sl.r_28 c i R r.up) (View.readAt (Elt Ideal) R.a13.view (Rect.unit (s := S256x1024) ![0, 0] S256x1024.size inb_S256x1024_S256x1024_0_0).toLoadRect (R.h13.unread r.up.x12))
    = L2 (e := .f32) r.gx :=
  (congr (congrArg (k0_pay19 i _ _) (w_r_28 c i R r hi)) (rd_all_256_f32 R.a13 R.h13 r.x12 _)).trans
    (pay19_L i _ _ r.x8 ((pay10_later i _ _ hi).trans (rd_all_256 R.a9 R.h9 r.x8 _)) _ _)
include hi in
theorem tile_o20 : (tilB c i R r.up a.up h0 h1 h2).o20 = L2 (e := .f32) r.gx := by
  refine Eq.trans ?_ (block_whole r.gx [] inb_S256x1024_S256x1024_0_0 (w_gx c i R r hi))
  sl_kernel_rfl
theorem tile_o26 : (tilB c i R r.up a.up h0 h1 h2).o26 = L2 (e := .bf16) r.du := by
  refine Eq.trans ?_ (halves r.du inb_S256x1024_S128x1024_0_0 inb_S256x1024_S128x1024_128_0 ((w_v194 c R r).trans (L2_congr fun p j => (congrFun (congrFun (du_half r 0) p) j).symm))
    ((w_v615 c R r).trans (L2_congr fun p j => (congrFun (congrFun (du_half r 1) p) j).symm)))
  sl_kernel_rfl
theorem tile_o27 : (tilB c i R r.up a.up h0 h1 h2).o27 = L2 (e := .bf16) r.dv := by
  refine Eq.trans ?_ (halves r.dv inb_S256x1024_S128x1024_0_0 inb_S256x1024_S128x1024_128_0 (w_v445' c R r) ((w_v867 c R r).trans (L2_congr fun p j => (congrFun (congrFun (dv_half r 1) p) j).symm)))
  sl_kernel_rfl
include hi in
theorem next_o21 : (accB c i R r.up a.up h0 h1 h2).o21 = L2 (e := .f32) (r.next a).o21 := by
  refine Eq.trans ?_ (row_whole (r.next a).o21 (runB c i R r.up a.up h0 h1 h2).2.1.tail inb_S1x1024_S1x1024_0_0 ((congrArg₂ k0_pay198 (w_v889 c R a) (w_v892 c i R r hi)).trans (pay198_L _ _)))
  sl_kernel_rfl
include hi in
theorem next_o22 : (accB c i R r.up a.up h0 h1 h2).o22 = L2 (e := .f32) (r.next a).o22 := by
  refine Eq.trans ?_ (row_whole (r.next a).o22 (runB c i R r.up a.up h0 h1 h2).2.2.1.tail inb_S1x1024_S1x1024_0_0 ((congr (congr (congrArg k0_pay199 (rd_all_1b R.a12 R.h12 r.x11 inb_S1x1024_S1x1024_0_0)) (w_v887 c i R r hi)) (rd_all_1 R.a23 R.h23 a.o22 inb_S1x1024_S1x1024_0_0)).trans (pay199_L _ _ _)))
  sl_kernel_rfl
theorem next_o23 : (accB c i R r.up a.up h0 h1 h2).o23 = L2 (e := .f32) (r.next a).o23 := by
  refine Eq.trans ?_ (row_whole (r.next a).o23 (runB c i R r.up a.up h0 h1 h2).2.2.2.1.tail inb_S1x1024_S1x1024_0_0 ((congrArg₂ k0_pay200 (w_v886 c R r) (rd_all_1 R.a24 R.h24 a.o23 inb_S1x1024_S1x1024_0_0)).trans (pay200_L _ _)))
  sl_kernel_rfl
theorem next_o24 : (accB c i R r.up a.up h0 h1 h2).o24 = L2 (e := .f32) (r.next a).o24 := by
  sl_kernel_rfl
theorem next_o25 : (accB c i R r.up a.up h0 h1 h2).o25 = L2 (e := .f32) (r.next a).o25 := by
  sl_kernel_rfl
theorem next_o28 : (accB c i R r.up a.up h0 h1 h2).o28 = L3 (e := .f32) (r.next a).o28 := by
  refine Eq.trans ?_ (slabs (r.next a).o28 (runB.sl.H28_8 c R r.up a.up) inb_S8x128x128_S1x128x128_0_0_0 inb_S8x128x128_S1x128x128_1_0_0 inb_S8x128x128_S1x128x128_2_0_0 inb_S8x128x128_S1x128x128_3_0_0 inb_S8x128x128_S1x128x128_4_0_0 inb_S8x128x128_S1x128x128_5_0_0 inb_S8x128x128_S1x128x128_6_0_0 inb_S8x128x128_S1x128x128_7_0_0 (w_v630 c R r a) (w_v657 c R r a) (w_v684 c R r a) (w_v711 c R r a) (w_v738 c R r a) (w_v765 c R r a) (w_v792 c R r a) (w_v819 c R r a))
  sl_kernel_rfl
theorem next_o29 : (accB c i R r.up a.up h0 h1 h2).o29 = L2 (e := .f32) (r.next a).o29 := by
  refine Eq.trans ?_ (rows (r.next a).o29 (runB.sl.H29_8 c R r.up a.up) inb_S8x128_S1x128_0_0 inb_S8x128_S1x128_1_0 inb_S8x128_S1x128_2_0 inb_S8x128_S1x128_3_0 inb_S8x128_S1x128_4_0 inb_S8x128_S1x128_5_0 inb_S8x128_S1x128_6_0 inb_S8x128_S1x128_7_0 (w_v637 c R r a) (w_v664 c R r a) (w_v691 c R r a) (w_v718 c R r a) (w_v745 c R r a) (w_v772 c R r a) (w_v799 c R r a) (w_v826 c R r a))
  sl_kernel_rfl
theorem next_o30 : (accB c i R r.up a.up h0 h1 h2).o30 = L2 (e := .f32) (r.next a).o30 := by
  refine Eq.trans ?_ (row_whole (r.next a).o30 (runB c i R r.up a.up h0 h1 h2).2.2.2.2.2.2.2.2.1.tail inb_S1x1024_S1x1024_0_0 (w_v840 c R r a))
  sl_kernel_rfl
theorem next_o31 : (accB c i R r.up a.up h0 h1 h2).o31 = L2 (e := .f32) (r.next a).o31 := by
  refine Eq.trans ?_ (row_whole (r.next a).o31 (runB c i R r.up a.up h0 h1 h2).2.2.2.2.2.2.2.2.2.1.tail inb_S1x1024_S1x1024_0_0 (w_v846 c R r a))
  sl_kernel_rfl

include hi in
/-- The accumulators a later point leaves. -/
theorem accB_up : accB c i R r.up a.up h0 h1 h2 = (r.next a).up := by
  have e : ∀ s t : Acc Ideal, s.o21 = t.o21 → s.o22 = t.o22 → s.o23 = t.o23 → s.o24 = t.o24 → s.o25 = t.o25 →
      s.o28 = t.o28 → s.o29 = t.o29 → s.o30 = t.o30 → s.o31 = t.o31 → s = t := by
    intro s t; cases s; cases t; rintro rfl rfl rfl rfl rfl rfl rfl rfl rfl; rfl
  exact e _ _ (next_o21 c i R r a hi h0 h1 h2) (next_o22 c i R r a hi h0 h1 h2) (next_o23 c i R r a h0 h1 h2) (next_o24 c i R r a h0 h1 h2) (next_o25 c i R r a h0 h1 h2) (next_o28 c i R r a h0 h1 h2) (next_o29 c i R r a h0 h1 h2) (next_o30 c i R r a h0 h1 h2) (next_o31 c i R r a h0 h1 h2)
end

end Cert.KernelIdeal.Val
-- ==== Proof.KSums.lean ====
module

public import proofs.«01_k».proof.Proof.KOut

/-! The points' blocks of the arguments, and the accumulators after the last point as sums over all rows. -/

@[expose] public section

set_option maxRecDepth 16384

noncomputable section

namespace Cert.KernelIdeal.Val

open Idealize.ShloMosaic Cert.Lift Cert.Math Cert.KernelIdeal

/-- The row of `x` that a later point `n` has at row `a` of its block (the first point has the first block). -/
def lat (n : ℕ) (h : n < 9) (a : Fin 256) : Fin 2048 := ⟨256 * (n - 1) + a.val, by omega⟩

/-- The table of modulations, from the column on that the block starts at. -/
def mods (d : Data) (q : Fin 8) (b : Fin 1024) : ℝ :=
  if q.val = 0 then d.mx 0 ⟨1024 + b.val, by omega⟩ else if q.val = 1 then d.mc 0 ⟨1024 + b.val, by omega⟩ else 0

/-- The input blocks of point `n`. -/
def rins (d : Data) (n : ℕ) (h : n < 9) : RIns where
  x0 a := d.dxa ⟨256 * n + a.val, by omega⟩
  x1 a := d.dga (lat n h a)
  x2 a := d.dgb (lat n h a)
  x3 a b := d.w a ⟨1024 * 0 + b.val, by omega⟩
  x4 a b := d.w a ⟨1024 * 1 + b.val, by omega⟩
  x5 a b := d.w a ⟨1024 * 4 + b.val, by omega⟩
  x6 a b := d.w a ⟨1024 * 2 + b.val, by omega⟩
  x7 a b := d.w a ⟨1024 * 3 + b.val, by omega⟩
  x8 a := d.x (lat n h a)
  x9 := d.ctx
  x10 := mods d
  x11 := d.ng
  x12 a := d.dxn (lat n h a)
  x13 a := d.u (lat n h a)
  x14 a := d.v (lat n h a)
  x15 a := d.dy (lat n h a)
  x16 := d.lg
  x17 := d.lb
  x18 := d.sw
  x19 p g := d.sb g p

/-- The accumulators after point `n`. -/
def racc (d : Data) : (n : ℕ) → n < 9 → RAcc
  | 0, h => (rins d 0 h).first
  | n + 1, h => (rins d (n + 1) h).next (racc d n (Nat.lt_of_succ_lt h))

/-- The blocks of the `i`-th later point. -/
abbrev rblk (d : Data) (i : Fin 8) : RIns := rins d (i.val + 1) (by omega)
/-- The `a`-th row of the `i`-th block of 256 rows. -/
def brow (i : Fin 8) (a : Fin 256) : Fin 2048 := ⟨256 * i.val + a.val, by omega⟩
/-- The chunk that is the `k`-th half of the `i`-th block. -/
def chnk (i : Fin 8) (k : Fin 2) : Fin 16 := ⟨2 * i.val + k.val, by omega⟩

theorem brow_half (i : Fin 8) (k : Fin 2) (p : Fin 128) : brow i (half k p) = row (chnk i k) p := by
  apply Fin.ext; simp only [brow, half, row, chnk]; omega

/-- A sum over all rows, by the blocks of 256. -/
theorem sum_blocks (F : Fin 2048 → ℝ) : ∑ r, F r = ∑ i, ∑ a, F (brow i a) := by
  rw [← (finProdFinEquiv (m := 8) (n := 256)).sum_comp, Fintype.sum_prod_type]
  exact Finset.sum_congr rfl fun n _ => Finset.sum_congr rfl fun p _ => congrArg F (Fin.ext (Nat.add_comm _ _))

/-- A sum over all chunks, by the blocks. -/
theorem sum_chunks (G : Fin 16 → ℝ) : ∑ n, G n = ∑ i, (G (chnk i 0) + G (chnk i 1)) := by
  rw [← (finProdFinEquiv (m := 8) (n := 2)).sum_comp, Fintype.sum_prod_type]
  refine Finset.sum_congr rfl fun n _ => ?_
  rw [Fin.sum_univ_two]
  exact congrArg₂ (fun a b => G a + G b) (Fin.ext (Nat.add_comm _ _)) (Fin.ext (Nat.add_comm _ _))

variable (d : Data)

theorem rblk_U (i : Fin 8) (k : Fin 2) : (rblk d i).U k = Data.part d.u (chnk i k) := by
  funext p; exact congrArg d.u (brow_half i k p)
theorem rblk_V (i : Fin 8) (k : Fin 2) : (rblk d i).V k = Data.part d.v (chnk i k) := by
  funext p; exact congrArg d.v (brow_half i k p)
theorem rblk_Y (i : Fin 8) (k : Fin 2) : (rblk d i).Y k = Data.part d.dy (chnk i k) := by
  funext p; exact congrArg d.dy (brow_half i k p)

theorem chk_brow (i : Fin 8) (a : Fin 256) : chk (brow i a) = chnk i ⟨a.val / 128, by omega⟩ := by
  apply Fin.ext; simp only [chk, brow, chnk]; omega
theorem pos_brow (i : Fin 8) (a : Fin 256) : pos (brow i a) = ⟨a.val % 128, by omega⟩ := by
  apply Fin.ext; simp only [pos, brow]; omega

theorem rblk_du (i : Fin 8) (a : Fin 256) : (rblk d i).du a = d.du (brow i a) := by
  unfold RIns.du bof Data.du; beta_reduce
  rw [chk_brow, pos_brow, rblk_U, rblk_V, rblk_Y]; rfl
theorem rblk_dv (i : Fin 8) (a : Fin 256) : (rblk d i).dv a = d.dv (brow i a) := by
  unfold RIns.dv bof Data.dv; beta_reduce
  rw [chk_brow, pos_brow, rblk_U, rblk_V, rblk_Y]; rfl

theorem rblk_dxa (i : Fin 8) (a : Fin 256) : (rblk d i).x0 a = d.dxa ⟨256 + (brow i a).val, by have := (brow i a).isLt; omega⟩ :=
  congrArg d.dxa (Fin.ext (by simp only [brow]; omega))

/-- The block's rows of the gradient of the modulated rows. -/
theorem rblk_dh (i : Fin 8) (a : Fin 256) (b : Fin 1024) : (rblk d i).dh a b = d.dhx (brow i a) b := by
  unfold RIns.dh Data.dhx
  rw [rblk_du, rblk_dv, rblk_dxa]; rfl
theorem rins_dh0 (h) (a : Fin 256) (b : Fin 1024) : (rins d 0 h).dh0 a b = d.dhc a b := by
  unfold RIns.dh0 Data.dhc
  have e : (rins d 0 h).x0 a = d.dxa ⟨a.val, by omega⟩ := congrArg d.dxa (Fin.ext (by simp))
  rw [e]; rfl

/-- The block's rows of the gradient of `x`. -/
theorem rblk_gx (i : Fin 8) (a : Fin 256) (b : Fin 1024) : (rblk d i).gx a b = d.gx (brow i a) b := by
  unfold RIns.gx Data.gx
  have e : (fun b => (rblk d i).dh a b * ((rblk d i).x11 0 b * (1 + (rblk d i).x10 0 b)))
      = fun k => d.dhx (brow i a) k * (d.ng 0 k * d.s1x k) := by
    funext b; rw [rblk_dh]; rfl
  rw [e]; rfl

/-- The accumulators after the last point, one block after the other. -/
theorem racc_last (h) : racc d 8 h = (rblk d 7).next ((rblk d 6).next ((rblk d 5).next ((rblk d 4).next
    ((rblk d 3).next ((rblk d 2).next ((rblk d 1).next ((rblk d 0).next (rins d 0 (by omega)).first))))))) := rfl

theorem last_o21 (h) (b : Fin 1024) : (racc d 8 h).o21 0 b = d.dng 0 b := by
  rw [racc_last]
  unfold Data.dng
  rw [sum_blocks, Fin.sum_univ_eight]
  simp only [RIns.next, RIns.first, rblk_dh, rins_dh0, ← add_assoc]
  rfl
theorem last_o22 (h) (b : Fin 1024) : (racc d 8 h).o22 0 b = d.dscx 0 b := by
  rw [racc_last]
  unfold Data.dscx
  rw [sum_blocks, Fin.sum_univ_eight]
  simp only [RIns.next, RIns.first, rblk_dh, zero_add]
  rfl
theorem last_o23 (h) (b : Fin 1024) : (racc d 8 h).o23 0 b = d.dshx 0 b := by
  rw [racc_last]
  unfold Data.dshx
  rw [sum_blocks, Fin.sum_univ_eight]
  simp only [RIns.next, RIns.first, rblk_dh, zero_add]
theorem last_o24 (h) (b : Fin 1024) : (racc d 8 h).o24 0 b = d.dscc 0 b := by
  rw [racc_last]
  unfold Data.dscc
  simp only [RIns.next, RIns.first, rins_dh0]
  rfl
theorem last_o25 (h) (b : Fin 1024) : (racc d 8 h).o25 0 b = d.dshc 0 b := by
  rw [racc_last]
  unfold Data.dshc
  simp only [RIns.next, RIns.first, rins_dh0]
theorem last_o28 (h) (g : Fin 8) (p q : Fin 128) : (racc d 8 h).o28 g p q = d.dws g p q := by
  rw [racc_last]
  unfold Data.dws
  rw [sum_chunks, Fin.sum_univ_eight]
  simp only [RIns.next, RIns.first, rblk_U, rblk_V, rblk_Y, zero_add, ← add_assoc]
  rfl
theorem last_o29 (h) (g : Fin 8) (p : Fin 128) : (racc d 8 h).o29 g p = d.dbs g p := by
  rw [racc_last]
  unfold Data.dbs
  rw [sum_chunks, Fin.sum_univ_eight]
  simp only [RIns.next, RIns.first, rblk_U, rblk_Y, zero_add, ← add_assoc]
theorem last_o30 (h) (j : Fin 1024) : (racc d 8 h).o30 0 j = d.dlg 0 j := by
  rw [racc_last]
  unfold Data.dlg
  rw [sum_chunks, Fin.sum_univ_eight]
  simp only [RIns.next, RIns.first, rblk_U, rblk_V, rblk_Y, zero_add, ← add_assoc]
  rfl
theorem last_o31 (h) (j : Fin 1024) : (racc d 8 h).o31 0 j = d.dlb 0 j := by
  rw [racc_last]
  unfold Data.dlb
  rw [sum_chunks, Fin.sum_univ_eight]
  simp only [RIns.next, RIns.first, rblk_U, rblk_Y, zero_add, ← add_assoc]
  rfl

end Cert.KernelIdeal.Val
-- ==== Proof.ROps.lean ====
module

public import proofs.«01_k».proof.Proof.Lift
public import proofs.«01_k».proof.ReferenceIdeal
public import proofs.«01_k».proof.Proof.Gen.ReferenceIdeal

/-! The reference's operations that look at the shape, on arrays of real numbers. -/

@[expose] public section

set_option maxRecDepth 16384

noncomputable section

namespace Cert.ReferenceIdeal.Ops

open Idealize.ShloMosaic Cert.Lift Cert.ReferenceIdeal Cert.ReferenceIdeal.Gen

theorem bc_v2048 (f : Fin 2048 → ℝ) (h) :
    broadcastInDim S2048x1 (![0] : Fin 1 → Fin 2) h (L1 f : FVec Ideal _ .f32) = L2 fun a _ => f a := by
  funext i; idx_vars i; pointwise [L0, L1, L2, L3, L4]

theorem bc_w2048 (f : Fin 2048 → ℝ) (h) :
    broadcastInDim S2048x1024 (![0] : Fin 1 → Fin 2) h (L1 f : FVec Ideal _ .f32) = L2 fun a _ => f a := by
  funext i; idx_vars i; pointwise [L0, L1, L2, L3, L4]

theorem bc_c2048 (f : Fin 2048 → Fin 1 → ℝ) (h) :
    broadcastInDim S2048x1024 (![0, 1] : Fin 2 → Fin 2) h (L2 f : FVec Ideal _ .f32) = L2 fun a _ => f a 0 := by
  funext i; idx_vars i; pointwise [L0, L1, L2, L3, L4]

theorem bc_r2048 (f : Fin 1 → Fin 1024 → ℝ) (h) :
    broadcastInDim S2048x1024 (![0, 1] : Fin 2 → Fin 2) h (L2 f : FVec Ideal _ .f32) = L2 fun _ b => f 0 b := by
  funext i; idx_vars i; pointwise [L0, L1, L2, L3, L4]

theorem ra_row2048 (f : Fin 2048 → Fin 1024 → ℝ) (h) (h') :
    Host.reduceAdd (L2 f : FVec Ideal _ .f32) (constant S_ .f32 0x00000000#32 : FVec Ideal _ .f32) (t := S2048) (axes := [1]) h h' = L1 fun a => ∑ k, f a k := by
  funext i; idx_vars i; pointwise [L0, L1, L2, L3, L4, bits_zero]; simp only [coe_sum_mul, coe_sum, ← EReal.coe_add, zero_add]

theorem ra_one2048 (f : Fin 2048 → Fin 1 → ℝ) (h) (h') :
    Host.reduceAdd (L2 f : FVec Ideal _ .f32) (constant S_ .f32 0x00000000#32 : FVec Ideal _ .f32) (t := S2048) (axes := [1]) h h' = L1 fun a => f a 0 := by
  funext i; idx_vars i; pointwise [L0, L1, L2, L3, L4, bits_zero]; simp only [coe_sum_mul, coe_sum, ← EReal.coe_add, zero_add, Finset.univ_unique, Finset.sum_singleton]; rfl

theorem ra_col2048 (f : Fin 2048 → Fin 1024 → ℝ) (h) (h') :
    Host.reduceAdd (L2 f : FVec Ideal _ .f32) (constant S_ .f32 0x00000000#32 : FVec Ideal _ .f32) (t := S1024) (axes := [0]) h h' = L1 fun b => ∑ k, f k b := by
  funext i; idx_vars i; pointwise [L0, L1, L2, L3, L4, bits_zero]; simp only [coe_sum_mul, coe_sum, ← EReal.coe_add, zero_add]

theorem sc_v2048 (f : Fin 2048 → ℝ) (h) :
    shapeCast S2048x1 (L1 f : FVec Ideal _ .f32) h = L2 fun a _ => f a := by
  funext i; idx_vars i; pointwise [L0, L1, L2, L3, L4]

theorem bc_v256 (f : Fin 256 → ℝ) (h) :
    broadcastInDim S256x1 (![0] : Fin 1 → Fin 2) h (L1 f : FVec Ideal _ .f32) = L2 fun a _ => f a := by
  funext i; idx_vars i; pointwise [L0, L1, L2, L3, L4]

theorem bc_w256 (f : Fin 256 → ℝ) (h) :
    broadcastInDim S256x1024 (![0] : Fin 1 → Fin 2) h (L1 f : FVec Ideal _ .f32) = L2 fun a _ => f a := by
  funext i; idx_vars i; pointwise [L0, L1, L2, L3, L4]

theorem bc_c256 (f : Fin 256 → Fin 1 → ℝ) (h) :
    broadcastInDim S256x1024 (![0, 1] : Fin 2 → Fin 2) h (L2 f : FVec Ideal _ .f32) = L2 fun a _ => f a 0 := by
  funext i; idx_vars i; pointwise [L0, L1, L2, L3, L4]

theorem bc_r256 (f : Fin 1 → Fin 1024 → ℝ) (h) :
    broadcastInDim S256x1024 (![0, 1] : Fin 2 → Fin 2) h (L2 f : FVec Ideal _ .f32) = L2 fun _ b => f 0 b := by
  funext i; idx_vars i; pointwise [L0, L1, L2, L3, L4]

theorem ra_row256 (f : Fin 256 → Fin 1024 → ℝ) (h) (h') :
    Host.reduceAdd (L2 f : FVec Ideal _ .f32) (constant S_ .f32 0x00000000#32 : FVec Ideal _ .f32) (t := S256) (axes := [1]) h h' = L1 fun a => ∑ k, f a k := by
  funext i; idx_vars i; pointwise [L0, L1, L2, L3, L4, bits_zero]; simp only [coe_sum_mul, coe_sum, ← EReal.coe_add, zero_add]

theorem ra_one256 (f : Fin 256 → Fin 1 → ℝ) (h) (h') :
    Host.reduceAdd (L2 f : FVec Ideal _ .f32) (constant S_ .f32 0x00000000#32 : FVec Ideal _ .f32) (t := S256) (axes := [1]) h h' = L1 fun a => f a 0 := by
  funext i; idx_vars i; pointwise [L0, L1, L2, L3, L4, bits_zero]; simp only [coe_sum_mul, coe_sum, ← EReal.coe_add, zero_add, Finset.univ_unique, Finset.sum_singleton]; rfl

theorem ra_col256 (f : Fin 256 → Fin 1024 → ℝ) (h) (h') :
    Host.reduceAdd (L2 f : FVec Ideal _ .f32) (constant S_ .f32 0x00000000#32 : FVec Ideal _ .f32) (t := S1024) (axes := [0]) h h' = L1 fun b => ∑ k, f k b := by
  funext i; idx_vars i; pointwise [L0, L1, L2, L3, L4, bits_zero]; simp only [coe_sum_mul, coe_sum, ← EReal.coe_add, zero_add]

theorem sc_v256 (f : Fin 256 → ℝ) (h) :
    shapeCast S256x1 (L1 f : FVec Ideal _ .f32) h = L2 fun a _ => f a := by
  funext i; idx_vars i; pointwise [L0, L1, L2, L3, L4]

theorem sc_row (f : Fin 1024 → ℝ) (h) :
    shapeCast S1x1024 (L1 f : FVec Ideal _ .f32) h = L2 fun _ b => f b := by
  funext i; idx_vars i; pointwise [L0, L1, L2, L3, L4]

theorem bc_s_S2048x1024 (r : ℝ) (h) :
    broadcastInDim S2048x1024 (![] : Fin 0 → Fin 2) h (L0 r : FVec Ideal S_ .f32) = L2 fun _ _ => r := by
  funext i; rfl

theorem bc_s_S256x1024 (r : ℝ) (h) :
    broadcastInDim S256x1024 (![] : Fin 0 → Fin 2) h (L0 r : FVec Ideal S_ .f32) = L2 fun _ _ => r := by
  funext i; rfl

theorem bc_s_S2048x1 (r : ℝ) (h) :
    broadcastInDim S2048x1 (![] : Fin 0 → Fin 2) h (L0 r : FVec Ideal S_ .f32) = L2 fun _ _ => r := by
  funext i; rfl

theorem bc_s_S256x1 (r : ℝ) (h) :
    broadcastInDim S256x1 (![] : Fin 0 → Fin 2) h (L0 r : FVec Ideal S_ .f32) = L2 fun _ _ => r := by
  funext i; rfl

theorem bc_s_S1x1024 (r : ℝ) (h) :
    broadcastInDim S1x1024 (![] : Fin 0 → Fin 2) h (L0 r : FVec Ideal S_ .f32) = L2 fun _ _ => r := by
  funext i; rfl

theorem sl_a (f : Fin 1 → Fin 3072 → ℝ) (h) :
    extractStridedSlice S1x1024 ![0, 0] (L2 f : FVec Ideal _ .f32) h = L2 fun _ b => f 0 ⟨b.val, by omega⟩ := by
  funext i; idx_vars i; pointwise [L0, L1, L2, L3, L4]

theorem sl_b (f : Fin 1 → Fin 3072 → ℝ) (h) :
    extractStridedSlice S1x1024 ![0, 1024] (L2 f : FVec Ideal _ .f32) h = L2 fun _ b => f 0 ⟨1024 + b.val, by omega⟩ := by
  funext i; idx_vars i; pointwise [L0, L1, L2, L3, L4]

theorem sl_w (f : Fin 1024 → Fin 5120 → ℝ) (h) :
    extractStridedSlice S1024x1024 ![0, 0] (L2 f : FVec Ideal _ .f32) h = L2 fun a b => f a ⟨b.val, by omega⟩ := by
  funext i; idx_vars i; pointwise [L0, L1, L2, L3, L4]

theorem sl_u (f : Fin 2048 → Fin 5120 → ℝ) (h) :
    extractStridedSlice S2048x1024 ![0, 2048] (L2 f : FVec Ideal _ .f32) h = L2 fun a b => f a ⟨2048 + b.val, by omega⟩ := by
  funext i; idx_vars i; pointwise [L0, L1, L2, L3, L4]

theorem sl_v (f : Fin 2048 → Fin 5120 → ℝ) (h) :
    extractStridedSlice S2048x1024 ![0, 3072] (L2 f : FVec Ideal _ .f32) h = L2 fun a b => f a ⟨3072 + b.val, by omega⟩ := by
  funext i; idx_vars i; pointwise [L0, L1, L2, L3, L4]

theorem sl_c (f : Fin 2304 → Fin 1024 → ℝ) (h) :
    extractStridedSlice S256x1024 ![0, 0] (L2 f : FVec Ideal _ .f32) h = L2 fun a b => f ⟨a.val, by omega⟩ b := by
  funext i; idx_vars i; pointwise [L0, L1, L2, L3, L4]

theorem sl_x (f : Fin 2304 → Fin 1024 → ℝ) (h) :
    extractStridedSlice S2048x1024 ![256, 0] (L2 f : FVec Ideal _ .f32) h = L2 fun a b => f ⟨256 + a.val, by omega⟩ b := by
  funext i; idx_vars i; pointwise [L0, L1, L2, L3, L4]

theorem dg_z (f : Fin 2048 → Fin 1024 → ℝ) (g : Fin 1024 → Fin 5120 → ℝ) :
    Host.dotGeneral dot_S2048x1024_S1024x5120_S2048x5120_1_0_0_1_n_n none (L2 f : FVec Ideal _ .f32) (L2 g : FVec Ideal _ .f32) = (L2 fun a b => ∑ k, f a k * g k b : FVec Ideal _ .f32) := by
  funext i; idx_vars i; pointwise [L0, L1, L2, L3, L4, bits_zero]; simp only [coe_sum_mul, coe_sum, ← EReal.coe_add, zero_add]

theorem dg_c (f : Fin 256 → Fin 1024 → ℝ) (g : Fin 1024 → Fin 1024 → ℝ) :
    Host.dotGeneral dot_S256x1024_S1024x1024_S256x1024_1_1_0_0_n_n none (L2 f : FVec Ideal _ .f32) (L2 g : FVec Ideal _ .f32) = (L2 fun a b => ∑ k, f a k * g b k : FVec Ideal _ .f32) := by
  funext i; idx_vars i; pointwise [L0, L1, L2, L3, L4, bits_zero]; simp only [coe_sum_mul, coe_sum, ← EReal.coe_add, zero_add]

theorem dg_x (f : Fin 2048 → Fin 5120 → ℝ) (g : Fin 1024 → Fin 5120 → ℝ) :
    Host.dotGeneral dot_S2048x5120_S1024x5120_S2048x1024_1_1_0_0_n_n none (L2 f : FVec Ideal _ .f32) (L2 g : FVec Ideal _ .f32) = (L2 fun a b => ∑ k, f a k * g b k : FVec Ideal _ .f32) := by
  funext i; idx_vars i; pointwise [L0, L1, L2, L3, L4, bits_zero]; simp only [coe_sum_mul, coe_sum, ← EReal.coe_add, zero_add]

theorem dg_m (f : Fin 16 → Fin 128 → Fin 8 → Fin 128 → ℝ) (g : Fin 8 → Fin 128 → Fin 128 → ℝ) :
    Host.dotGeneral dot_S16x128x8x128_S8x128x128_S8x16x128x128_1_2_03_1_2_0 none (L4 f : FVec Ideal _ .f32) (L3 g : FVec Ideal _ .f32) = (L4 fun a n c p => ∑ k, f n k a c * g a p k : FVec Ideal _ .f32) := by
  funext i; idx_vars i; pointwise [L0, L1, L2, L3, L4, bits_zero]; simp only [coe_sum_mul, coe_sum, ← EReal.coe_add, zero_add]

theorem dg_b (f : Fin 8 → Fin 16 → Fin 128 → Fin 128 → ℝ) (g : Fin 8 → Fin 128 → Fin 128 → ℝ) :
    Host.dotGeneral dot_S8x16x128x128_S8x128x128_S8x16x128x128_3_1_12_2_0_0 none (L4 f : FVec Ideal _ .f32) (L3 g : FVec Ideal _ .f32) = (L4 fun a n c q => ∑ k, f a n c k * g a k q : FVec Ideal _ .f32) := by
  funext i; idx_vars i; pointwise [L0, L1, L2, L3, L4, bits_zero]; simp only [coe_sum_mul, coe_sum, ← EReal.coe_add, zero_add]

theorem dg_w (f : Fin 8 → Fin 16 → Fin 128 → Fin 128 → ℝ) (g : Fin 16 → Fin 128 → Fin 8 → Fin 128 → ℝ) :
    Host.dotGeneral dot_S8x16x128x128_S16x128x8x128_S8x128x128_12_03_3_1_0_2 none (L4 f : FVec Ideal _ .f32) (L4 g : FVec Ideal _ .f32) = (L3 fun a p q => ∑ n, ∑ c, f a n c p * g n q a c : FVec Ideal _ .f32) := by
  funext i; idx_vars i; pointwise [L0, L1, L2, L3, L4, bits_zero]; simp only [coe_sum_mul, coe_sum, ← EReal.coe_add, zero_add]

theorem tr_m (f : Fin 8 → Fin 16 → Fin 128 → Fin 128 → ℝ) (h) :
    transpose S16x128x8x128 [1, 3, 0, 2] (L4 f : FVec Ideal _ .f32) h = L4 fun n p a c => f a n c p := by
  funext i; idx_vars i; pointwise [L0, L1, L2, L3, L4]

theorem tr_d (f : Fin 16 → Fin 128 → Fin 8 → Fin 128 → ℝ) (h) :
    transpose S8x16x128x128 [2, 0, 3, 1] (L4 f : FVec Ideal _ .f32) h = L4 fun a n c p => f n p a c := by
  funext i; idx_vars i; pointwise [L0, L1, L2, L3, L4]

theorem tr_b (f : Fin 8 → Fin 128 → ℝ) (h) :
    transpose S128x8 [1, 0] (L2 f : FVec Ideal _ .f32) h = L2 fun p a => f a p := by
  funext i; idx_vars i; pointwise [L0, L1, L2, L3, L4]

theorem tr_b' (f : Fin 128 → Fin 8 → ℝ) (h) :
    transpose S8x128 [1, 0] (L2 f : FVec Ideal _ .f32) h = L2 fun a p => f p a := by
  funext i; idx_vars i; pointwise [L0, L1, L2, L3, L4]

theorem bc_b1 (f : Fin 128 → Fin 8 → ℝ) (h) :
    broadcastInDim S1x128x8x1 (![1, 2] : Fin 2 → Fin 4) h (L2 f : FVec Ideal _ .f32) = L4 fun _ p a _ => f p a := by
  funext i; idx_vars i; pointwise [L0, L1, L2, L3, L4]

theorem bc_b2 (f : Fin 1 → Fin 128 → Fin 8 → Fin 1 → ℝ) (h) :
    broadcastInDim S16x128x8x128 (![0, 1, 2, 3] : Fin 4 → Fin 4) h (L4 f : FVec Ideal _ .f32) = L4 fun _ p a _ => f 0 p a 0 := by
  funext i; idx_vars i; pointwise [L0, L1, L2, L3, L4]

theorem sc_split (f : Fin 2048 → Fin 1024 → ℝ) (h) :
    shapeCast S16x128x8x128 (L2 f : FVec Ideal _ .f32) h = L4 fun n p a c => f (row n p) (col a c) := by
  funext i; idx_vars i; pointwise [L0, L1, L2, L3, L4]; simp only [row, col, Nat.mul_comm]

theorem sc_merge (f : Fin 16 → Fin 128 → Fin 8 → Fin 128 → ℝ) (h) :
    shapeCast S2048x1024 (L4 f : FVec Ideal _ .f32) h = L2 fun r j => f (chk r) (pos r) (grp j) (lane j) := by
  funext i; idx_vars i; pointwise [L0, L1, L2, L3, L4]; rfl

/-- The sum over the first and the last of four axes. -/
theorem sum_fiber {n0 n1 n2 n3 : ℕ} (h : (⟨4, ![n0, n1, n2, n3]⟩ : Shape).ReducesTo [0, 3] ⟨2, ![n1, n2]⟩)
    (v : (⟨4, ![n0, n1, n2, n3]⟩ : Shape).Idx → EReal) (p : Fin n1) (a : Fin n2) :
    ∑ i ∈ Finset.univ.filter (fun i => h.drop i = ix2 p a), v i = ∑ n : Fin n0, ∑ c : Fin n3, v (ix4 n p a c) := by
  have hd : ∀ (n : Fin n0) (q : Fin n1) (b : Fin n2) (c : Fin n3), h.drop (ix4 n q b c) = ix2 p a ↔ q = p ∧ b = a := by
    intro n q b c
    constructor
    · intro e
      exact ⟨Fin.ext (congrArg Fin.val (congrFun e 0)), Fin.ext (congrArg Fin.val (congrFun e 1))⟩
    · rintro ⟨rfl, rfl⟩
      funext x; apply Fin.ext
      match x with
      | ⟨0, _⟩ => rfl
      | ⟨1, _⟩ => rfl
      | ⟨_ + 2, hb⟩ => exact absurd hb (by simp)
  rw [Finset.sum_filter, sum_idx4]
  refine Finset.sum_congr rfl fun n _ => ?_
  simp only [hd]
  rw [Finset.sum_eq_single p (fun q _ hq => by simp [hq]) (fun h => absurd (Finset.mem_univ _) h),
    Finset.sum_eq_single a (fun b _ hb => by simp [hb]) (fun h => absurd (Finset.mem_univ _) h)]
  simp

theorem ra_b1 (f : Fin 16 → Fin 128 → Fin 8 → Fin 128 → ℝ) (h) (h') :
    Host.reduceAdd (L4 f : FVec Ideal _ .f32) (constant S_ .f32 0x00000000#32 : FVec Ideal _ .f32) (t := S128x8) (axes := [0, 3]) h h' = L2 fun p a => ∑ n, ∑ c, f n p a c := by
  funext i; idx_vars i; refine (congrArg (_ + ·) (sum_fiber _ _ _ _)).trans ?_; simp only [constant, L4, L2, ix4, ix2, coe_sum]; exact (congrArg (· + _) bits_zero).trans (zero_add _)

theorem sc_b (f : Fin 128 → Fin 8 → ℝ) (h) :
    shapeCast S1x128x8x1 (L2 f : FVec Ideal _ .f32) h = L4 fun _ p a _ => f p a := by
  funext i; idx_vars i; pointwise [L0, L1, L2, L3, L4]

theorem ra_b2 (f : Fin 1 → Fin 128 → Fin 8 → Fin 1 → ℝ) (h) (h') :
    Host.reduceAdd (L4 f : FVec Ideal _ .f32) (constant S_ .f32 0x00000000#32 : FVec Ideal _ .f32) (t := S128x8) (axes := [0, 3]) h h' = L2 fun p a => f 0 p a 0 := by
  funext i; idx_vars i; refine (congrArg (_ + ·) (sum_fiber _ _ _ _)).trans ?_; simp only [constant, L4, L2, ix4, ix2, coe_sum, Finset.univ_unique, Finset.sum_singleton]; exact (congrArg (· + _) bits_zero).trans (zero_add _)

theorem cc (f₁ f₂ f₃ f₄ f₅ : Fin 2048 → Fin 1024 → ℝ) (h) :
    concatenate S2048x5120 1 [⟨S2048x1024, (L2 f₁ : FVec Ideal _ .f32)⟩, ⟨S2048x1024, (L2 f₂ : FVec Ideal _ .f32)⟩, ⟨S2048x1024, (L2 f₃ : FVec Ideal _ .f32)⟩,
      ⟨S2048x1024, (L2 f₄ : FVec Ideal _ .f32)⟩, ⟨S2048x1024, (L2 f₅ : FVec Ideal _ .f32)⟩] h = (L2 fun a b => if h₁ : b.val < 1024 then f₁ a ⟨b.val, h₁⟩ else if h₂ : b.val - 1024 < 1024 then f₂ a ⟨b.val - 1024, h₂⟩
      else if h₃ : b.val - 1024 - 1024 < 1024 then f₃ a ⟨b.val - 1024 - 1024, h₃⟩
      else if h₄ : b.val - 1024 - 1024 - 1024 < 1024 then f₄ a ⟨b.val - 1024 - 1024 - 1024, h₄⟩
      else f₅ a ⟨b.val - 1024 - 1024 - 1024 - 1024, by have := b.isLt; omega⟩ : FVec Ideal _ .f32) := by
  funext i; idx_vars i; pointwise [L0, L1, L2, L3, L4]; split_ifs <;> rfl

end Cert.ReferenceIdeal.Ops
-- ==== Proof.RVal.lean ====
module

public import proofs.«01_k».proof.Proof.ROps
public import proofs.«01_k».proof.Proof.Math
public import proofs.«01_k».proof.Proof.Gen.ReferenceIdeal.Run

/-! What the reference computes, on real arguments. -/

@[expose] public section

set_option maxRecDepth 16384

noncomputable section

namespace Cert.ReferenceIdeal.RVal

open Idealize.ShloMosaic Idealize.ShloMosaic.StableHlo Idealize.ShloMosaic.TcCoe Cert.Lift Cert.Math Cert.ReferenceIdeal Cert.ReferenceIdeal.Gen Cert.ReferenceIdeal.Ops
open Cert.ReferenceIdeal.Value

/-- The argument arrays hold the real numbers of `d`. -/
structure Holds (V : Valuation τ sig (Elt Ideal)) (d : Data) : Prop where
  h0 : V (Proc.devRef .tc main_arg0) = (L2 d.x : FVec Ideal S2048x1024 .f32)
  h1 : V (Proc.devRef .tc main_arg1) = (L2 d.ctx : FVec Ideal S256x1024 .f32)
  h2 : V (Proc.devRef .tc main_arg2) = (L2 d.mx : FVec Ideal S1x3072 .f32)
  h3 : V (Proc.devRef .tc main_arg3) = (L2 d.mc : FVec Ideal S1x3072 .f32)
  h4 : V (Proc.devRef .tc main_arg4) = (L2 d.ng : FVec Ideal S1x1024 .f32)
  h5 : V (Proc.devRef .tc main_arg5) = (L2 d.w : FVec Ideal S1024x5120 .f32)
  h6 : V (Proc.devRef .tc main_arg6) = (L2 d.lg : FVec Ideal S1x1024 .f32)
  h7 : V (Proc.devRef .tc main_arg7) = (L2 d.lb : FVec Ideal S1x1024 .f32)
  h8 : V (Proc.devRef .tc main_arg8) = (L3 d.sw : FVec Ideal S8x128x128 .f32)
  h9 : V (Proc.devRef .tc main_arg9) = (L2 d.sb : FVec Ideal S8x128 .f32)
  h10 : V (Proc.devRef .tc main_arg10) = (L2 d.dxa : FVec Ideal S2304x1024 .bf16)
  h11 : V (Proc.devRef .tc main_arg11) = (L2 d.dga : FVec Ideal S2048x1024 .bf16)
  h12 : V (Proc.devRef .tc main_arg12) = (L2 d.dgb : FVec Ideal S2048x1024 .bf16)
  h13 : V (Proc.devRef .tc main_arg13) = (L2 d.dy : FVec Ideal S2048x1024 .f32)
  h14 : V (Proc.devRef .tc main_arg14) = (L2 d.dxn : FVec Ideal S2048x1024 .f32)

theorem c_1024 : (constant S_ .f32 0x44800000#32 : FVec Ideal S_ .f32) = L0 1024 := by funext i; exact bits_1024
theorem c_eps6 : (constant S_ .f32 0x358637BD#32 : FVec Ideal S_ .f32) = L0 eps6 := by funext i; exact bits_eps6
theorem c_eps5 : (constant S_ .f32 0x3727C5AC#32 : FVec Ideal S_ .f32) = L0 eps5 := by funext i; exact bits_eps5
theorem c_one : (constant S_ .f32 0x3F800000#32 : FVec Ideal S_ .f32) = L0 1 := by funext i; exact bits_one
theorem c_two : (constant S_ .f32 0x40000000#32 : FVec Ideal S_ .f32) = L0 2 := by funext i; exact bits_two
theorem c_three : (constant S_ .f32 0x40400000#32 : FVec Ideal S_ .f32) = L0 3 := by funext i; exact bits_three
theorem c_half : (constant S_ .f32 0x3F000000#32 : FVec Ideal S_ .f32) = L0 (1 / 2) := by funext i; exact bits_half
theorem c_neg : (constant S_ .f32 0xBF000000#32 : FVec Ideal S_ .f32) = L0 (-(1 / 2)) := by funext i; exact bits_neg_half
theorem c_gk : (constant S_ .f32 0x3F4C422A#32 : FVec Ideal S_ .f32) = L0 gk := by funext i; exact bits_gk
theorem c_gc : (constant S_ .f32 0x3D372713#32 : FVec Ideal S_ .f32) = L0 gc := by funext i; exact bits_gc

/-- A lifted matrix is that of any family with the same entries. -/
theorem L2_congr {m n : ℕ} {e : FTy} {f g : Fin m → Fin n → ℝ} (h : ∀ a b, f a b = g a b) : (L2 f : FVec Ideal _ e) = L2 g := by
  rw [funext fun a => funext (h a)]

/-- The single operations, for rewriting. -/
def host_ops :=
  And.intro @L2_add <| And.intro @L2_sub <| And.intro @L2_mul <| And.intro @L2_neg <| And.intro @L2_hostTanh <|
  And.intro @L4_add <| And.intro @c_1024 <| And.intro @c_eps6 <| And.intro @c_eps5 <| And.intro @c_one <| And.intro @c_two <|
  And.intro @c_three <| And.intro @c_half <| And.intro @c_neg <| And.intro @c_gk <| And.intro @c_gc <|
  And.intro @bc_s_S2048x1024 <| And.intro @bc_s_S256x1024 <| And.intro @bc_s_S2048x1 <| And.intro @bc_s_S256x1 <|
  And.intro @bc_s_S1x1024 <| And.intro @bc_v2048 <| And.intro @bc_w2048 <| And.intro @bc_c2048 <| And.intro @bc_r2048 <|
  And.intro @ra_row2048 <| And.intro @ra_one2048 <| And.intro @ra_col2048 <| And.intro @sc_v2048 @sc_row

variable {V : Valuation τ sig (Elt Ideal)} {d : Data} (H : Holds V d)
include H

theorem v12 : res_main_v12 V = (L2 (fun a _ => ms (d.x a)) : FVec Ideal S2048x1 .f32) := by
  rw [res_main_v12, H.h0]
  simp only [host_ops, L2_hostDiv _ _ (fun (_ : Fin 2048) (_ : Fin 1) => (by norm_num : (1024 : ℝ) ≠ 0))]
  rfl

theorem v13 : res_main_v13 V = (L2 (fun a _ => rr (d.x a)) : FVec Ideal S2048x1 .f32) := by
  rw [res_main_v13, v12 H]
  exact L2_hostRsqrt _ fun _ _ => ms_pos _

theorem v18 : res_main_v18 V = (L2 (fun a => xn (d.x a)) : FVec Ideal S2048x1024 .f32) := by
  rw [res_main_v18, H.h0, v13 H]
  simp only [host_ops]
  rfl

theorem v20 : res_main_v20 V = (L2 (fun a b => xn (d.x a) b * d.ng 0 b) : FVec Ideal S2048x1024 .f32) := by
  rw [res_main_v20, v18 H, H.h4]
  simp only [host_ops]

theorem v22 : res_main_v22 V = (L2 (fun _ => d.s1x) : FVec Ideal S1x1024 .f32) := by
  rw [res_main_v22, H.h2]
  simp only [host_ops, sl_b]
  rfl

theorem v27 : res_main_v27 V = (L2 (d.z) : FVec Ideal S2048x5120 .f32) := by
  rw [res_main_v27, v20 H, v22 H, H.h2, H.h5]
  simp only [host_ops, sl_a, dg_z]
  rfl

theorem v28 : res_main_v28 V = (L2 (fun a b => d.w a ⟨b.val, by omega⟩) : FVec Ideal S1024x1024 .f32) := by
  rw [res_main_v28, H.h5]
  exact sl_w _ _

theorem v35 : res_main_v35 V = (L2 (fun a _ => ms (d.ctx a)) : FVec Ideal S256x1 .f32) := by
  rw [res_main_v35, H.h1]
  simp only [L2_add, L2_sub, L2_mul, L2_neg, L2_hostTanh, L4_add, c_1024, c_eps6, c_eps5, c_one, c_two, c_three, c_half, c_neg, c_gk, c_gc, bc_s_S2048x1024, bc_s_S256x1024, bc_s_S2048x1, bc_s_S256x1, bc_s_S1x1024, bc_v256, bc_w256, bc_c256, bc_r256, ra_row256, ra_one256, ra_col256, sc_v256, sc_row, L2_hostDiv _ _ (fun (_ : Fin 256) (_ : Fin 1) => (by norm_num : (1024 : ℝ) ≠ 0))]
  rfl

theorem v36 : res_main_v36 V = (L2 (fun a _ => rr (d.ctx a)) : FVec Ideal S256x1 .f32) := by
  rw [res_main_v36, v35 H]
  exact L2_hostRsqrt _ fun _ _ => ms_pos _

theorem v41 : res_main_v41 V = (L2 (fun a => xn (d.ctx a)) : FVec Ideal S256x1024 .f32) := by
  rw [res_main_v41, H.h1, v36 H]
  simp only [L2_add, L2_sub, L2_mul, L2_neg, L2_hostTanh, L4_add, c_1024, c_eps6, c_eps5, c_one, c_two, c_three, c_half, c_neg, c_gk, c_gc, bc_s_S2048x1024, bc_s_S256x1024, bc_s_S2048x1, bc_s_S256x1, bc_s_S1x1024, bc_v256, bc_w256, bc_c256, bc_r256, ra_row256, ra_one256, ra_col256, sc_v256, sc_row]
  rfl

theorem v43 : res_main_v43 V = (L2 (fun a b => xn (d.ctx a) b * d.ng 0 b) : FVec Ideal S256x1024 .f32) := by
  rw [res_main_v43, v41 H, H.h4]
  simp only [L2_add, L2_sub, L2_mul, L2_neg, L2_hostTanh, L4_add, c_1024, c_eps6, c_eps5, c_one, c_two, c_three, c_half, c_neg, c_gk, c_gc, bc_s_S2048x1024, bc_s_S256x1024, bc_s_S2048x1, bc_s_S256x1, bc_s_S1x1024, bc_v256, bc_w256, bc_c256, bc_r256, ra_row256, ra_one256, ra_col256, sc_v256, sc_row]

theorem v45 : res_main_v45 V = (L2 (fun _ => d.s1c) : FVec Ideal S1x1024 .f32) := by
  rw [res_main_v45, H.h3]
  simp only [L2_add, L2_sub, L2_mul, L2_neg, L2_hostTanh, L4_add, c_1024, c_eps6, c_eps5, c_one, c_two, c_three, c_half, c_neg, c_gk, c_gc, bc_s_S2048x1024, bc_s_S256x1024, bc_s_S2048x1, bc_s_S256x1, bc_s_S1x1024, bc_v256, bc_w256, bc_c256, bc_r256, ra_row256, ra_one256, ra_col256, sc_v256, sc_row, sl_b]
  rfl

theorem v51 : res_main_v51 V = (L2 (d.u) : FVec Ideal S2048x1024 .f32) := by
  rw [res_main_v51, v27 H]
  exact sl_u _ _

theorem v52 : res_main_v52 V = (L2 (d.v) : FVec Ideal S2048x1024 .f32) := by
  rw [res_main_v52, v27 H]
  exact sl_v _ _

theorem v63 : res_main_v63 V = (L2 (fun a b => th (d.u a b)) : FVec Ideal S2048x1024 .f32) := by
  rw [res_main_v63, v51 H]
  simp only [host_ops]
  rfl

theorem v72 : res_main_v72 V = (L2 (fun a b => ph (d.u a b)) : FVec Ideal S2048x1024 .f32) := by
  rw [res_main_v72, v63 H]
  simp only [host_ops]
  rfl

theorem v73 : res_main_v73 V = (L2 (fun a b => gelu (d.u a b)) : FVec Ideal S2048x1024 .f32) := by
  rw [res_main_v73, v51 H, v72 H]
  simp only [host_ops]
  rfl

theorem v84 : res_main_v84 V = (L2 (fun a b => th (d.v a b)) : FVec Ideal S2048x1024 .f32) := by
  rw [res_main_v84, v52 H]
  simp only [host_ops]
  rfl

theorem v93 : res_main_v93 V = (L2 (fun a b => ph (d.v a b)) : FVec Ideal S2048x1024 .f32) := by
  rw [res_main_v93, v84 H]
  simp only [host_ops]
  rfl

theorem v94 : res_main_v94 V = (L2 (fun a b => gelu (d.v a b)) : FVec Ideal S2048x1024 .f32) := by
  rw [res_main_v94, v52 H, v93 H]
  simp only [host_ops]
  rfl

theorem v98 : res_main_v98 V = (L2 (fun a _ => mean fun k => gelu (d.v a k)) : FVec Ideal S2048x1 .f32) := by
  rw [res_main_v98, v94 H]
  simp only [host_ops, L2_hostDiv _ _ (fun (_ : Fin 2048) (_ : Fin 1) => (by norm_num : (1024 : ℝ) ≠ 0))]
  rfl

theorem v100 : res_main_v100 V = (L2 (fun a => vc (d.v a)) : FVec Ideal S2048x1024 .f32) := by
  rw [res_main_v100, v94 H, v98 H]
  simp only [host_ops]
  rfl

theorem v109 : res_main_v109 V = (L2 (fun a => vc (d.v a)) : FVec Ideal S2048x1024 .f32) := by
  rw [res_main_v109, v94 H, v98 H]
  simp only [host_ops]
  rfl

theorem v111 : res_main_v111 V = (L2 (fun a _ => var (d.v a)) : FVec Ideal S2048x1 .f32) := by
  rw [res_main_v111, v100 H]
  simp only [host_ops, L2_hostDiv _ _ (fun (_ : Fin 2048) (_ : Fin 1) => (by norm_num : (1024 : ℝ) ≠ 0))]
  rfl

theorem v112 : res_main_v112 V = (L2 (fun a _ => rs (d.v a)) : FVec Ideal S2048x1 .f32) := by
  rw [res_main_v112, v111 H]
  exact L2_hostRsqrt _ fun _ _ => var_pos _

theorem v117 : res_main_v117 V = (L2 (fun a => vh (d.v a)) : FVec Ideal S2048x1024 .f32) := by
  rw [res_main_v117, v109 H, v112 H]
  simp only [host_ops]
  rfl

theorem v122 : res_main_v122 V = (L4 (fun n p a c => cvn d.lg d.lb (Data.part d.v n) p (col a c)) : FVec Ideal S16x128x8x128 .f32) := by
  rw [res_main_v122, v117 H, H.h6, H.h7]
  simp only [host_ops]
  exact sc_split _ _

theorem v129 : res_main_v129 V = (L2 (fun r j => cmix d.lg d.lb d.sw d.sb (Data.part d.v (chk r)) (pos r) j) : FVec Ideal S2048x1024 .f32) := by
  rw [res_main_v129, v122 H, H.h8, H.h9]
  simp only [host_ops, dg_m]
  rw [tr_m, tr_b, bc_b1, bc_b2, L4_add]
  refine (sc_merge _ _).trans ?_
  refine L2_congr fun r j => ?_
  simp only [cmix, mul_comm, col_grp]

theorem v132 : res_main_v132 V = (L2 (fun r j => d.dy r j * cmix d.lg d.lb d.sw d.sb (Data.part d.v (chk r)) (pos r) j) : FVec Ideal S2048x1024 .f32) := by
  rw [res_main_v132, H.h13, v129 H]
  simp only [host_ops]

theorem v133 : res_main_v133 V = (L4 (fun n p a c => cdm (Data.part d.u n) (Data.part d.dy n) p (col a c)) : FVec Ideal S16x128x8x128 .f32) := by
  rw [res_main_v133, v73 H, H.h13]
  simp only [host_ops, mul_comm (gelu _)]
  exact sc_split _ _

theorem v138 : res_main_v138 V = (L4 (fun a n c p => cdm (Data.part d.u n) (Data.part d.dy n) p (col a c)) : FVec Ideal S8x16x128x128 .f32) := by
  rw [res_main_v138, v133 H]
  exact tr_d _ _

theorem v142 : res_main_v142 V = (L2 (fun r j => cdvn d.sw (Data.part d.u (chk r)) (Data.part d.dy (chk r)) (pos r) j) : FVec Ideal S2048x1024 .f32) := by
  rw [res_main_v142, v138 H, H.h8]
  simp only [host_ops, dg_b]
  rw [tr_m]
  refine (sc_merge _ _).trans ?_
  refine L2_congr fun r j => ?_
  simp only [cdvn, mul_comm, col_grp]

omit H in
/-- A row of an array, found through its chunk. -/
theorem part_row (f : Fin 2048 → Row) (r : Fin 2048) : Data.part f (chk r) (pos r) = f r := by rw [Data.part, row_chk]

/-- The gradient of the normalised row `r`. -/
def gvh (d : Data) (r : Fin 2048) (j : Fin 1024) : ℝ :=
  cdvn d.sw (Data.part d.u (chk r)) (Data.part d.dy (chk r)) (pos r) j * d.lg 0 j
/-- The factor of the centred row `r`. -/
def fvc (d : Data) (r : Fin 2048) : ℝ := (∑ k, vc (d.v r) k * gvh d r k) * (-(1 / 2) * (rs (d.v r) / var (d.v r))) / 1024
/-- The factor of the row `r` of `x`. -/
def fx (d : Data) (r : Fin 2048) : ℝ :=
  (∑ k, d.x r k * (d.dhx r k * d.s1x k * d.ng 0 k)) * (-(1 / 2) * (rr (d.x r) / ms (d.x r))) / 1024

/-- Five rows side by side. -/
def cat5 (f₁ f₂ f₃ f₄ f₅ : Row) (b : Fin 5120) : ℝ :=
  if h₁ : b.val < 1024 then f₁ ⟨b.val, h₁⟩ else if h₂ : b.val - 1024 < 1024 then f₂ ⟨b.val - 1024, h₂⟩
    else if h₃ : b.val - 1024 - 1024 < 1024 then f₃ ⟨b.val - 1024 - 1024, h₃⟩
    else if h₄ : b.val - 1024 - 1024 - 1024 < 1024 then f₄ ⟨b.val - 1024 - 1024 - 1024, h₄⟩
    else f₅ ⟨b.val - 1024 - 1024 - 1024 - 1024, by have := b.isLt; omega⟩

omit H in
/-- The `s`-th part of five rows side by side is the `s`-th row. -/
theorem cat5_part (f₁ f₂ f₃ f₄ f₅ : Row) (s : Fin 5) (j : Fin 1024) :
    cat5 f₁ f₂ f₃ f₄ f₅ ⟨1024 * s.val + j.val, by omega⟩ = (![f₁, f₂, f₃, f₄, f₅] s : Row) j := by
  have hj := j.isLt
  rcases s with ⟨_ | _ | _ | _ | _ | s, hs⟩ <;> unfold cat5 <;> dsimp only
  · split_ifs <;> first | (exfalso; omega) | exact congrArg f₁ (Fin.ext (by simp))
  · split_ifs <;> first | (exfalso; omega) | exact congrArg f₂ (Fin.ext (by simp))
  · split_ifs <;> first | (exfalso; omega) | exact congrArg f₃ (Fin.ext (show 1024 * 2 + j.val - 1024 - 1024 = j.val by omega))
  · split_ifs <;> first | (exfalso; omega) | exact congrArg f₄ (Fin.ext (show 1024 * 3 + j.val - 1024 - 1024 - 1024 = j.val by omega))
  · split_ifs <;> first | (exfalso; omega) | exact congrArg f₅ (Fin.ext (show 1024 * 4 + j.val - 1024 - 1024 - 1024 - 1024 = j.val by omega))
  · omega

omit H in
/-- A sum over all columns of the projection, by its five parts. -/
theorem sum_parts (F : Fin 5120 → ℝ) : ∑ k, F k = ∑ s : Fin 5, ∑ j : Fin 1024, F ⟨1024 * s.val + j.val, by omega⟩ := by
  rw [← (finProdFinEquiv (m := 5) (n := 1024)).sum_comp, Fintype.sum_prod_type]
  refine Finset.sum_congr rfl fun s _ => Finset.sum_congr rfl fun j _ => congrArg F (Fin.ext ?_)
  exact Nat.add_comm _ _

theorem v149 : res_main_v149 V = (L2 (gvh d) : FVec Ideal S2048x1024 .f32) := by
  rw [res_main_v149, v142 H, H.h6]
  simp only [host_ops]
  rfl

theorem v154 : res_main_v154 V = (L2 (fun r j => gvh d r j * rs (d.v r)) : FVec Ideal S2048x1024 .f32) := by
  rw [res_main_v154, v149 H, v112 H]
  simp only [host_ops]

theorem v163 : res_main_v163 V = (L2 (fun r j => fvc d r * (2 * vc (d.v r) j)) : FVec Ideal S2048x1024 .f32) := by
  rw [res_main_v163, v109 H, v149 H, v112 H, v111 H, v100 H]
  simp only [host_ops, L2_hostDiv _ _ (fun (_ : Fin 2048) (_ : Fin 1) => (by norm_num : (1024 : ℝ) ≠ 0)), L2_hostDiv _ _ (fun (a : Fin 2048) (_ : Fin 1) => (var_pos (d.v a)).ne')]
  rfl

theorem v173 : res_main_v173 V = (L2 (fun r j => rs (d.v r) * (gvh d r j - mean (gvh d r) - vh (d.v r) j * mean fun k => gvh d r k * vh (d.v r) k)) : FVec Ideal S2048x1024 .f32) := by
  rw [res_main_v173, v154 H, v163 H]
  simp only [host_ops, L2_hostDiv _ _ (fun (_ : Fin 2048) (_ : Fin 1) => (by norm_num : (1024 : ℝ) ≠ 0))]
  exact L2_congr fun r j => lnBack_eq _ _ _ (fvc d r) rfl

theorem v180 : res_main_v180 V = (L2 (fun r j => gk * (1 / 2 * (d.v r j * (rs (d.v r) * (gvh d r j - mean (gvh d r) - vh (d.v r) j * mean fun k => gvh d r k * vh (d.v r) k))) * ((1 + th (d.v r j)) * (1 - th (d.v r j))))) : FVec Ideal S2048x1024 .f32) := by
  rw [res_main_v180, v52 H, v173 H, v84 H]
  simp only [host_ops]

theorem v185 : res_main_v185 V = (L2 (d.dv) : FVec Ideal S2048x1024 .f32) := by
  rw [res_main_v185, v173 H, v93 H, v180 H, v52 H]
  simp only [host_ops]
  refine L2_congr fun r j => ?_
  rw [dgelu_eq, Data.dv, cdv, part_row]
  rfl

theorem v192 : res_main_v192 V = (L2 (fun r j => gk * (1 / 2 * (d.u r j * (d.dy r j * cmix d.lg d.lb d.sw d.sb (Data.part d.v (chk r)) (pos r) j)) * ((1 + th (d.u r j)) * (1 - th (d.u r j))))) : FVec Ideal S2048x1024 .f32) := by
  rw [res_main_v192, v51 H, v132 H, v63 H]
  simp only [host_ops]

theorem v197 : res_main_v197 V = (L2 (d.du) : FVec Ideal S2048x1024 .f32) := by
  rw [res_main_v197, v132 H, v72 H, v192 H, v51 H]
  simp only [host_ops]
  refine L2_congr fun r j => ?_
  rw [dgelu_eq, Data.du, cdu, part_row, part_row]

theorem v198 : res_main_v198 V = (L2 (d.dxa) : FVec Ideal S2304x1024 .f32) := by
  rw [res_main_v198, H.h10]
  rfl

theorem v204 : res_main_v204 V = (L2 (d.dhc) : FVec Ideal S256x1024 .f32) := by
  rw [res_main_v204, v198 H, v28 H]
  rw [sl_c]
  simp only [L2_add, L2_sub, L2_mul, L2_neg, L2_hostTanh, L4_add, c_1024, c_eps6, c_eps5, c_one, c_two, c_three, c_half, c_neg, c_gk, c_gc, bc_s_S2048x1024, bc_s_S256x1024, bc_s_S2048x1, bc_s_S256x1, bc_s_S1x1024, bc_v256, bc_w256, bc_c256, bc_r256, ra_row256, ra_one256, ra_col256, sc_v256, sc_row, dg_c]
  refine L2_congr fun a b => ?_
  unfold Data.dhc Data.back
  refine Finset.sum_congr rfl fun k _ => ?_
  exact congrArg (_ * d.w b ·) (Fin.ext (by simp))

theorem v211 : res_main_v211 V = (L2 (fun a b => d.dhc a b * d.s1c b) : FVec Ideal S256x1024 .f32) := by
  rw [res_main_v211, v204 H, v45 H]
  simp only [L2_add, L2_sub, L2_mul, L2_neg, L2_hostTanh, L4_add, c_1024, c_eps6, c_eps5, c_one, c_two, c_three, c_half, c_neg, c_gk, c_gc, bc_s_S2048x1024, bc_s_S256x1024, bc_s_S2048x1, bc_s_S256x1, bc_s_S1x1024, bc_v256, bc_w256, bc_c256, bc_r256, ra_row256, ra_one256, ra_col256, sc_v256, sc_row]

theorem v231 : res_main_v231 V = (L2 (d.dhx) : FVec Ideal S2048x1024 .f32) := by
  rw [res_main_v231, v198 H, H.h11, v197 H, v185 H, H.h12, H.h5]
  rw [sl_x, L2_ext, L2_ext, cc]
  simp only [host_ops, dg_x]
  refine L2_congr fun a b => ?_
  change ∑ k, cat5 (d.dxa _) (d.dga a) (d.du a) (d.dv a) (d.dgb a) k * d.w b k = _
  rw [sum_parts, Fin.sum_univ_five]
  simp only [cat5_part]
  unfold Data.dhx Data.back
  have e : ∀ p q r s t : ℝ, p + q + r + s + t = p + q + t + r + s := by intros; ring
  exact e _ _ _ _ _

theorem v238 : res_main_v238 V = (L2 (fun a b => d.dhx a b * d.s1x b) : FVec Ideal S2048x1024 .f32) := by
  rw [res_main_v238, v231 H, v22 H]
  simp only [host_ops]

theorem v244 : res_main_v244 V = (L2 (fun a b => d.dhx a b * d.s1x b * d.ng 0 b) : FVec Ideal S2048x1024 .f32) := by
  rw [res_main_v244, v238 H, H.h4]
  simp only [host_ops]

theorem v254 : res_main_v254 V = (L2 (fun a _ => fx d a) : FVec Ideal S2048x1024 .f32) := by
  rw [res_main_v254, H.h0, v244 H, v13 H, v12 H]
  simp only [host_ops, L2_hostDiv _ _ (fun (_ : Fin 2048) (_ : Fin 1) => (by norm_num : (1024 : ℝ) ≠ 0)), L2_hostDiv _ _ (fun (a : Fin 2048) (_ : Fin 1) => (ms_pos (d.x a)).ne')]
  rfl

end Cert.ReferenceIdeal.RVal
-- ==== Proof.RRes.lean ====
module

public import proofs.«01_k».proof.Proof.RVal

/-! The twelve results of the reference, on real arguments. -/

@[expose] public section

set_option maxRecDepth 16384

noncomputable section

namespace Cert.ReferenceIdeal.RVal

open Idealize.ShloMosaic Idealize.ShloMosaic.StableHlo Idealize.ShloMosaic.TcCoe Cert.Lift Cert.Math Cert.ReferenceIdeal Cert.ReferenceIdeal.Gen Cert.ReferenceIdeal.Ops
open Cert.ReferenceIdeal.Value

/-- A sum over all rows, by the chunks of 128. -/
theorem sum_rows (F : Fin 2048 → ℝ) : ∑ r, F r = ∑ n, ∑ p, F (row n p) := by
  rw [← (finProdFinEquiv (m := 16) (n := 128)).sum_comp, Fintype.sum_prod_type]
  exact Finset.sum_congr rfl fun n _ => Finset.sum_congr rfl fun p _ => congrArg F (Fin.ext (Nat.add_comm _ _))

/-- The reference's gradient of `x`. -/
theorem gx_eq (d : Data) (a : Fin 2048) (b : Fin 1024) :
    d.dhx a b * d.s1x b * d.ng 0 b * rr (d.x a) + d.x a b * fx d a + fx d a * d.x a b
      = rmsBack (d.x a) (fun k => d.dhx a k * (d.ng 0 k * d.s1x k)) b := by
  have e : (fun k => d.dhx a k * (d.ng 0 k * d.s1x k)) = fun k => d.dhx a k * d.s1x k * d.ng 0 k := by funext k; ring
  rw [e]
  exact rmsBack_eq (d.x a) (fun k => d.dhx a k * d.s1x k * d.ng 0 k) b

variable {V : Valuation τ sig (Elt Ideal)} {d : Data} (H : Holds V d)
include H

theorem o259 : (addf (V (Proc.devRef .tc main_arg14)) (addf (addf (mulf (res_main_v244 V) (broadcastInDim S2048x1024 ![0, 1] bcast_S2048x1_S2048x1024_0_1 (res_main_v13 V))) (mulf (V (Proc.devRef .tc main_arg0)) (res_main_v254 V))) (mulf (res_main_v254 V) (V (Proc.devRef .tc main_arg0)))) : FVec Ideal S2048x1024 .f32) = L2 d.gx := by
  rw [H.h14, H.h0, v244 H, v13 H, v254 H]
  simp only [L2_add, L2_mul, bc_c2048]
  exact L2_congr fun a b => congrArg (d.dxn a b + ·) (gx_eq d a b)

theorem o242 : (addf (shapeCast _ (Host.reduceAdd (mulf (res_main_v41 V) (res_main_v211 V)) (constant S_ .f32 0x00000000#32) reducesTo_S256x1024_S1024_d0 h_S_) shapeCasts_S1024_S1x1024) (shapeCast _ (Host.reduceAdd (mulf (res_main_v18 V) (res_main_v238 V)) (constant S_ .f32 0x00000000#32) reducesTo_S2048x1024_S1024_d0 h_S_) shapeCasts_S1024_S1x1024) : FVec Ideal S1x1024 .f32) = L2 d.dng := by
  rw [v41 H, v211 H, v18 H, v238 H]
  simp only [L2_mul, ra_col256, ra_col2048, sc_row, L2_add]
  exact L2_congr fun _ b => congrArg₂ (· + ·) (Finset.sum_congr rfl fun _ _ => by ring) (Finset.sum_congr rfl fun _ _ => by ring)

theorem o236 : (shapeCast _ (Host.reduceAdd (mulf (res_main_v20 V) (res_main_v231 V)) (constant S_ .f32 0x00000000#32) reducesTo_S2048x1024_S1024_d0 h_S_) shapeCasts_S1024_S1x1024 : FVec Ideal S1x1024 .f32) = L2 d.dscx := by
  rw [v20 H, v231 H]
  simp only [L2_mul, ra_col2048, sc_row]
  exact L2_congr fun _ b => Finset.sum_congr rfl fun _ _ => by ring

theorem o233 : (shapeCast _ (Host.reduceAdd (res_main_v231 V) (constant S_ .f32 0x00000000#32) reducesTo_S2048x1024_S1024_d0 h_S_) shapeCasts_S1024_S1x1024 : FVec Ideal S1x1024 .f32) = L2 d.dshx := by
  rw [v231 H, ra_col2048]
  exact sc_row _ _

theorem o209 : (shapeCast _ (Host.reduceAdd (mulf (res_main_v43 V) (res_main_v204 V)) (constant S_ .f32 0x00000000#32) reducesTo_S256x1024_S1024_d0 h_S_) shapeCasts_S1024_S1x1024 : FVec Ideal S1x1024 .f32) = L2 d.dscc := by
  rw [v43 H, v204 H]
  simp only [L2_mul, ra_col256, sc_row]
  exact L2_congr fun _ b => Finset.sum_congr rfl fun _ _ => by ring

theorem o206 : (shapeCast _ (Host.reduceAdd (res_main_v204 V) (constant S_ .f32 0x00000000#32) reducesTo_S256x1024_S1024_d0 h_S_) shapeCasts_S1024_S1x1024 : FVec Ideal S1x1024 .f32) = L2 d.dshc := by
  rw [v204 H, ra_col256]
  exact sc_row _ _

theorem o260 : (truncf .bf16 (res_main_v197 V) bitsLt_bf16_f32 : FVec Ideal S2048x1024 .bf16) = L2 d.du := by
  rw [v197 H]; rfl

theorem o261 : (truncf .bf16 (res_main_v185 V) bitsLt_bf16_f32 : FVec Ideal S2048x1024 .bf16) = L2 d.dv := by
  rw [v185 H]; rfl

theorem o139 : (Host.dotGeneral (φ₁ := .f32) (φ₂ := .f32) dot_S8x16x128x128_S16x128x8x128_S8x128x128_12_03_3_1_0_2 none (res_main_v138 V) (res_main_v122 V) : FVec Ideal S8x128x128 .f32) = L3 d.dws := by
  rw [v138 H, v122 H, dg_w]; rfl

theorem o137 : (transpose S8x128 [1, 0] (Host.reduceAdd (shapeCast _ (Host.reduceAdd (res_main_v133 V) (constant S_ .f32 0x00000000#32) reducesTo_S16x128x8x128_S128x8_d0_3 h_S_) shapeCasts_S128x8_S1x128x8x1) (constant S_ .f32 0x00000000#32) reducesTo_S1x128x8x1_S128x8_d0_3 h_S_) transposes_S128x8_S8x128_1_0 : FVec Ideal S8x128 .f32) = L2 d.dbs := by
  rw [v133 H, ra_b1, sc_b, ra_b2]
  refine (tr_b' _ _).trans ?_
  rfl

theorem o147 : (shapeCast _ (Host.reduceAdd (mulf (res_main_v117 V) (res_main_v142 V)) (constant S_ .f32 0x00000000#32) reducesTo_S2048x1024_S1024_d0 h_S_) shapeCasts_S1024_S1x1024 : FVec Ideal S1x1024 .f32) = L2 d.dlg := by
  rw [v117 H, v142 H]
  simp only [L2_mul, ra_col2048, sc_row]
  exact L2_congr fun _ b => (sum_rows _).trans (Finset.sum_congr rfl fun n _ => Finset.sum_congr rfl fun p _ => by
    rw [chk_row, pos_row, mul_comm]; rfl)

theorem o144 : (shapeCast _ (Host.reduceAdd (res_main_v142 V) (constant S_ .f32 0x00000000#32) reducesTo_S2048x1024_S1024_d0 h_S_) shapeCasts_S1024_S1x1024 : FVec Ideal S1x1024 .f32) = L2 d.dlb := by
  rw [v142 H, ra_col2048]
  refine (sc_row _ _).trans ?_
  exact L2_congr fun _ b => (sum_rows _).trans (Finset.sum_congr rfl fun n _ => Finset.sum_congr rfl fun p _ => by
    rw [chk_row, pos_row])

end Cert.ReferenceIdeal.RVal
-- ==== Proof.KHost.lean ====
module

public import proofs.«01_k».proof.Proof.KSums
public import proofs.«01_k».proof.Proof.RRes
public import Idealize.ShloMosaic.Lib.Pipeline.ValueKit

/-! The arrays that the host code prepares for the kernel, and the blocks that a point reads, on real arguments. -/

@[expose] public section

set_option maxRecDepth 16384

noncomputable section

namespace Cert.KernelIdeal.Val

open Idealize.ShloMosaic Idealize.ShloMosaic.TcCoe Idealize.ShloMosaic.Tactic Cert.Lift Cert.Math Cert.KernelIdeal Cert.KernelIdeal.Gen Cert.KernelIdeal.Ops Cert.KernelIdeal.Run

/-- The kernel's argument arrays hold the real numbers of `d`. -/
structure HoldsK (m : (ℓ : Loc nD τ sig) → Buf (Elt Ideal) ℓ) (c : Dev nD) (d : Data) : Prop where
  h0 : m ((c : Thread nD τ).loc main_arg0) = (L2 d.x : FVec Ideal S2048x1024 .f32)
  h1 : m ((c : Thread nD τ).loc main_arg1) = (L2 d.ctx : FVec Ideal S256x1024 .f32)
  h2 : m ((c : Thread nD τ).loc main_arg2) = (L2 d.mx : FVec Ideal S1x3072 .f32)
  h3 : m ((c : Thread nD τ).loc main_arg3) = (L2 d.mc : FVec Ideal S1x3072 .f32)
  h4 : m ((c : Thread nD τ).loc main_arg4) = (L2 d.ng : FVec Ideal S1x1024 .f32)
  h5 : m ((c : Thread nD τ).loc main_arg5) = (L2 d.w : FVec Ideal S1024x5120 .f32)
  h6 : m ((c : Thread nD τ).loc main_arg6) = (L2 d.lg : FVec Ideal S1x1024 .f32)
  h7 : m ((c : Thread nD τ).loc main_arg7) = (L2 d.lb : FVec Ideal S1x1024 .f32)
  h8 : m ((c : Thread nD τ).loc main_arg8) = (L3 d.sw : FVec Ideal S8x128x128 .f32)
  h9 : m ((c : Thread nD τ).loc main_arg9) = (L2 d.sb : FVec Ideal S8x128 .f32)
  h10 : m ((c : Thread nD τ).loc main_arg10) = (L2 d.dxa : FVec Ideal S2304x1024 .bf16)
  h11 : m ((c : Thread nD τ).loc main_arg11) = (L2 d.dga : FVec Ideal S2048x1024 .bf16)
  h12 : m ((c : Thread nD τ).loc main_arg12) = (L2 d.dgb : FVec Ideal S2048x1024 .bf16)
  h13 : m ((c : Thread nD τ).loc main_arg13) = (L2 d.dy : FVec Ideal S2048x1024 .f32)
  h14 : m ((c : Thread nD τ).loc main_arg14) = (L2 d.dxn : FVec Ideal S2048x1024 .f32)

variable {m : (ℓ : Loc nD τ sig) → Buf (Elt Ideal) ℓ} {c : Dev nD} {d : Data} (H : HoldsK m c d)

/-! ### What the host code prepares -/

/-- The host computes `u` and `v` by the reference's operations. -/
theorem host_u (V' : Valuation Cert.ReferenceIdeal.τ Cert.ReferenceIdeal.sig (Elt Ideal))
    (e0 : m ((c : Thread nD τ).loc main_arg0) = V' (Proc.devRef .tc Cert.ReferenceIdeal.main_arg0))
    (e2 : m ((c : Thread nD τ).loc main_arg2) = V' (Proc.devRef .tc Cert.ReferenceIdeal.main_arg2))
    (e4 : m ((c : Thread nD τ).loc main_arg4) = V' (Proc.devRef .tc Cert.ReferenceIdeal.main_arg4))
    (e5 : m ((c : Thread nD τ).loc main_arg5) = V' (Proc.devRef .tc Cert.ReferenceIdeal.main_arg5)) :
    V m c main_v23 = (extractStridedSlice S2048x1024 ![0, 2048] (Cert.ReferenceIdeal.Value.res_main_v27 V' : FVec Ideal S2048x5120 .f32) slices_S2048x5120_S2048x1024_0_2048 : FVec Ideal _ .f32) := by
  entry_read
  rw [e0, e2, e4, e5]
  sl_kernel_rfl

theorem host_v (V' : Valuation Cert.ReferenceIdeal.τ Cert.ReferenceIdeal.sig (Elt Ideal))
    (e0 : m ((c : Thread nD τ).loc main_arg0) = V' (Proc.devRef .tc Cert.ReferenceIdeal.main_arg0))
    (e2 : m ((c : Thread nD τ).loc main_arg2) = V' (Proc.devRef .tc Cert.ReferenceIdeal.main_arg2))
    (e4 : m ((c : Thread nD τ).loc main_arg4) = V' (Proc.devRef .tc Cert.ReferenceIdeal.main_arg4))
    (e5 : m ((c : Thread nD τ).loc main_arg5) = V' (Proc.devRef .tc Cert.ReferenceIdeal.main_arg5)) :
    V m c main_v24 = (extractStridedSlice S2048x1024 ![0, 3072] (Cert.ReferenceIdeal.Value.res_main_v27 V' : FVec Ideal S2048x5120 .f32) slices_S2048x5120_S2048x1024_0_3072 : FVec Ideal _ .f32) := by
  entry_read
  rw [e0, e2, e4, e5]
  sl_kernel_rfl

theorem xs_u (f : Fin 2048 → Fin 5120 → ℝ) (h) :
    extractStridedSlice S2048x1024 ![0, 2048] (L2 f : FVec Ideal _ .f32) h = L2 fun a b => f a ⟨2048 + b.val, by omega⟩ := by
  funext i; idx_vars i; pointwise [L2]
theorem xs_v (f : Fin 2048 → Fin 5120 → ℝ) (h) :
    extractStridedSlice S2048x1024 ![0, 3072] (L2 f : FVec Ideal _ .f32) h = L2 fun a b => f a ⟨3072 + b.val, by omega⟩ := by
  funext i; idx_vars i; pointwise [L2]
theorem tr_sb (f : Fin 8 → Fin 128 → ℝ) (h) :
    transpose S128x8 [1, 0] (L2 f : FVec Ideal _ .f32) h = L2 fun p g => f g p := by
  funext i; idx_vars i; pointwise [L2]

theorem cat_mods (f g : Fin 1 → Fin 3072 → ℝ) (h : Shape.Concatenates [S1x3072, S1x3072, S6x3072] S8x3072 0) (h') :
    concatenate S8x3072 0 [⟨S1x3072, (L2 f : FVec Ideal _ .f32)⟩, ⟨S1x3072, (L2 g : FVec Ideal _ .f32)⟩,
      ⟨S6x3072, (broadcastInDim S6x3072 ![] h' (constant S_ .f32 0x00000000#32 : FVec Ideal _ .f32) : FVec Ideal _ .f32)⟩] h
      = (L2 fun q j => if q.val = 0 then f 0 j else if q.val = 1 then g 0 j else 0 : FVec Ideal _ .f32) := by
  funext i; idx_vars i; pointwise [L2, bits_zero]
  by_cases h0 : i0.val = 0
  · rw [dif_pos (by omega), if_pos h0]
    exact congrArg (fun q => ((f q i1 : ℝ) : EReal)) (Subsingleton.elim _ _)
  by_cases h1 : i0.val = 1
  · rw [dif_neg (by omega), dif_pos (by omega), if_neg h0, if_pos h1]
    exact congrArg (fun q => ((g q i1 : ℝ) : EReal)) (Subsingleton.elim _ _)
  · rw [dif_neg (by omega), dif_neg (by omega), if_neg h0, if_neg h1]

theorem mods_eq {q q' : Fin 8} {J : Fin 3072} {b : Fin 1024} (hq : q = q') (hJ : J.val = 1024 + b.val) :
    (if q.val = 0 then d.mx 0 J else if q.val = 1 then d.mc 0 J else 0) = mods d q' b := by
  subst hq
  have e : J = ⟨1024 + b.val, by omega⟩ := Fin.ext hJ
  rw [e]; rfl

include H
theorem host_w : V m c main_v27 = (L2 d.w : FVec Ideal S1024x5120 .bf16) := by
  entry_read; rw [H.h5]; rfl
theorem host_sw : V m c main_v25 = (L3 d.sw : FVec Ideal S8x128x128 .bf16) := by
  entry_read; rw [H.h8]; rfl
theorem host_sb : V m c main_v26 = (L2 (fun p g => d.sb g p) : FVec Ideal S128x8 .f32) := by
  entry_read; rw [H.h9]; exact tr_sb _ _

set_option maxHeartbeats 4000000 in
/-- The table of modulations. -/
theorem host_mods : V m c main_v1 = (L2 (fun (q : Fin 8) (j : Fin 3072) => if q.val = 0 then d.mx 0 j else if q.val = 1 then d.mc 0 j else 0) : FVec Ideal S8x3072 .f32) := by
  have e : V m c main_v1 = concatenate S8x3072 0 [⟨S1x3072, (m ((c : Thread nD τ).loc main_arg2) : FVec Ideal _ .f32)⟩, ⟨S1x3072, (m ((c : Thread nD τ).loc main_arg3) : FVec Ideal _ .f32)⟩,
      ⟨S6x3072, (broadcastInDim S6x3072 ![] bcast_S_S6x3072 (constant S_ .f32 0x00000000#32 : FVec Ideal _ .f32) : FVec Ideal _ .f32)⟩] concatenates_S1x3072_S1x3072_S6x3072_S8x3072_d0 := by
    sl_kernel_rfl
  rw [e, H.h2, H.h3]; exact cat_mods _ _ _ _

/-! ### The blocks -/

omit H
theorem idx0 : ∀ t : Fin cfg0.N, win0_0.index t = ![t.val, 0] := (by decide +kernel : ∀ t : Fin grid0.N, _)
theorem idx1 : ∀ t : Fin cfg0.N, win0_1.index t = ![t.val - 1, 0] := (by decide +kernel : ∀ t : Fin grid0.N, _)
theorem idx2 : ∀ t : Fin cfg0.N, win0_2.index t = ![t.val - 1, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 1] := (by decide +kernel : ∀ t : Fin grid0.N, _)
theorem idx5 : ∀ t : Fin cfg0.N, win0_5.index t = ![0, 4] := (by decide +kernel : ∀ t : Fin grid0.N, _)
theorem idx6 : ∀ t : Fin cfg0.N, win0_6.index t = ![0, 2] := (by decide +kernel : ∀ t : Fin grid0.N, _)
theorem idx7 : ∀ t : Fin cfg0.N, win0_7.index t = ![0, 3] := (by decide +kernel : ∀ t : Fin grid0.N, _)
theorem idx8 : ∀ t : Fin cfg0.N, win0_8.index t = ![t.val - 1, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 1] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![t.val - 1, 0] := (by decide +kernel : ∀ t : Fin grid0.N, _)
theorem idx13 : ∀ t : Fin cfg0.N, win0_13.index t = ![t.val - 1, 0] := (by decide +kernel : ∀ t : Fin grid0.N, _)
theorem idx14 : ∀ t : Fin cfg0.N, win0_14.index t = ![t.val - 1, 0] := (by decide +kernel : ∀ t : Fin grid0.N, _)
theorem idx15 : ∀ t : Fin cfg0.N, win0_15.index t = ![t.val - 1, 0] := (by decide +kernel : ∀ t : Fin grid0.N, _)
theorem idx16 : ∀ t : Fin cfg0.N, win0_16.index t = ![0, 0] := (by decide +kernel : ∀ t : Fin grid0.N, _)
theorem idx17 : ∀ t : Fin cfg0.N, win0_17.index t = ![0, 0] := (by decide +kernel : ∀ t : Fin grid0.N, _)
theorem idx18 : ∀ t : Fin cfg0.N, win0_18.index t = ![0, 0, 0] := (by decide +kernel : ∀ t : Fin grid0.N, _)
theorem idx19 : ∀ t : Fin cfg0.N, win0_19.index t = ![0, 0] := (by decide +kernel : ∀ t : Fin grid0.N, _)
theorem idx20 : ∀ t : Fin cfg0.N, win0_20.index t = ![t.val - 1, 0] := (by decide +kernel : ∀ t : Fin grid0.N, _)
theorem idx26 : ∀ t : Fin cfg0.N, win0_26.index t = ![t.val - 1, 0] := (by decide +kernel : ∀ t : Fin grid0.N, _)
theorem idx27 : ∀ t : Fin cfg0.N, win0_27.index t = ![t.val - 1, 0] := (by decide +kernel : ∀ t : Fin grid0.N, _)
include H
theorem blk0 (t : Fin cfg0.N) : iblk m c 0 t = L2 (e := .bf16) (rins d t.val (lt9 t)).x0 := by
  funext j
  have e := congrFun ((V_main_arg10 m c).trans H.h10) (((cfg0.win 0).blk t).view.emb j)
  refine Eq.trans ?_ (e.trans ?_)
  · rfl
  · refine congrArg Real.toEReal (congrArg₂ (d.dxa) (Fin.ext ?_) (Fin.ext ?_))
    all_goals (blk_simp [idx0 t, lat] <;> try (dsimp only; omega))
theorem blk1 (t : Fin cfg0.N) : iblk m c 1 t = L2 (e := .bf16) (rins d t.val (lt9 t)).x1 := by
  funext j
  have e := congrFun ((V_main_arg11 m c).trans H.h11) (((cfg0.win 1).blk t).view.emb j)
  refine Eq.trans ?_ (e.trans ?_)
  · rfl
  · refine congrArg Real.toEReal (congrArg₂ (d.dga) (Fin.ext ?_) (Fin.ext ?_))
    all_goals (blk_simp [idx1 t, lat] <;> try (dsimp only; omega))
theorem blk2 (t : Fin cfg0.N) : iblk m c 2 t = L2 (e := .bf16) (rins d t.val (lt9 t)).x2 := by
  funext j
  have e := congrFun ((V_main_arg12 m c).trans H.h12) (((cfg0.win 2).blk t).view.emb j)
  refine Eq.trans ?_ (e.trans ?_)
  · rfl
  · refine congrArg Real.toEReal (congrArg₂ (d.dgb) (Fin.ext ?_) (Fin.ext ?_))
    all_goals (blk_simp [idx2 t, lat] <;> try (dsimp only; omega))
theorem blk3 (t : Fin cfg0.N) : iblk m c 3 t = L2 (e := .bf16) (rins d t.val (lt9 t)).x3 := by
  funext j
  have e := congrFun (host_w H) (((cfg0.win 3).blk t).view.emb j)
  refine Eq.trans ?_ (e.trans ?_)
  · rfl
  · refine congrArg Real.toEReal (congrArg₂ (d.w) (Fin.ext ?_) (Fin.ext ?_))
    all_goals (blk_simp [idx3 t, lat] <;> try (dsimp only; omega))
theorem blk4 (t : Fin cfg0.N) : iblk m c 4 t = L2 (e := .bf16) (rins d t.val (lt9 t)).x4 := by
  funext j
  have e := congrFun (host_w H) (((cfg0.win 4).blk t).view.emb j)
  refine Eq.trans ?_ (e.trans ?_)
  · rfl
  · refine congrArg Real.toEReal (congrArg₂ (d.w) (Fin.ext ?_) (Fin.ext ?_))
    all_goals (blk_simp [idx4 t, lat] <;> try (dsimp only; omega))
theorem blk5 (t : Fin cfg0.N) : iblk m c 5 t = L2 (e := .bf16) (rins d t.val (lt9 t)).x5 := by
  funext j
  have e := congrFun (host_w H) (((cfg0.win 5).blk t).view.emb j)
  refine Eq.trans ?_ (e.trans ?_)
  · rfl
  · refine congrArg Real.toEReal (congrArg₂ (d.w) (Fin.ext ?_) (Fin.ext ?_))
    all_goals (blk_simp [idx5 t, lat] <;> try (dsimp only; omega))
theorem blk6 (t : Fin cfg0.N) : iblk m c 6 t = L2 (e := .bf16) (rins d t.val (lt9 t)).x6 := by
  funext j
  have e := congrFun (host_w H) (((cfg0.win 6).blk t).view.emb j)
  refine Eq.trans ?_ (e.trans ?_)
  · rfl
  · refine congrArg Real.toEReal (congrArg₂ (d.w) (Fin.ext ?_) (Fin.ext ?_))
    all_goals (blk_simp [idx6 t, lat] <;> try (dsimp only; omega))
theorem blk7 (t : Fin cfg0.N) : iblk m c 7 t = L2 (e := .bf16) (rins d t.val (lt9 t)).x7 := by
  funext j
  have e := congrFun (host_w H) (((cfg0.win 7).blk t).view.emb j)
  refine Eq.trans ?_ (e.trans ?_)
  · rfl
  · refine congrArg Real.toEReal (congrArg₂ (d.w) (Fin.ext ?_) (Fin.ext ?_))
    all_goals (blk_simp [idx7 t, lat] <;> try (dsimp only; omega))
theorem blk8 (t : Fin cfg0.N) : iblk m c 8 t = L2 (e := .f32) (rins d t.val (lt9 t)).x8 := by
  funext j
  have e := congrFun ((V_main_arg0 m c).trans H.h0) (((cfg0.win 8).blk t).view.emb j)
  refine Eq.trans ?_ (e.trans ?_)
  · rfl
  · refine congrArg Real.toEReal (congrArg₂ (d.x) (Fin.ext ?_) (Fin.ext ?_))
    all_goals (blk_simp [idx8 t, lat] <;> try (dsimp only; omega))
theorem blk9 (t : Fin cfg0.N) : iblk m c 9 t = L2 (e := .f32) (rins d t.val (lt9 t)).x9 := by
  funext j
  have e := congrFun ((V_main_arg1 m c).trans H.h1) (((cfg0.win 9).blk t).view.emb j)
  refine Eq.trans ?_ (e.trans ?_)
  · rfl
  · refine congrArg Real.toEReal (congrArg₂ (d.ctx) (Fin.ext ?_) (Fin.ext ?_))
    all_goals (blk_simp [idx9 t, lat] <;> try (dsimp only; omega))
theorem blk10 (t : Fin cfg0.N) : iblk m c 10 t = L2 (e := .f32) (rins d t.val (lt9 t)).x10 := by
  funext j
  have e := congrFun (host_mods H) (((cfg0.win 10).blk t).view.emb j)
  refine Eq.trans ?_ (e.trans ?_)
  · rfl
  · refine congrArg Real.toEReal (mods_eq (Fin.ext ?_) ?_)
    all_goals (blk_simp [idx10 t] <;> try (dsimp only; omega))
theorem blk11 (t : Fin cfg0.N) : iblk m c 11 t = L2 (e := .f32) (rins d t.val (lt9 t)).x11 := by
  funext j
  have e := congrFun ((V_main_arg4 m c).trans H.h4) (((cfg0.win 11).blk t).view.emb j)
  refine Eq.trans ?_ (e.trans ?_)
  · rfl
  · refine congrArg Real.toEReal (congrArg₂ (d.ng) (Fin.ext ?_) (Fin.ext ?_))
    all_goals (blk_simp [idx11 t, lat] <;> try (dsimp only; omega))
theorem blk12 (t : Fin cfg0.N) : iblk m c 12 t = L2 (e := .f32) (rins d t.val (lt9 t)).x12 := by
  funext j
  have e := congrFun ((V_main_arg14 m c).trans H.h14) (((cfg0.win 12).blk t).view.emb j)
  refine Eq.trans ?_ (e.trans ?_)
  · rfl
  · refine congrArg Real.toEReal (congrArg₂ (d.dxn) (Fin.ext ?_) (Fin.ext ?_))
    all_goals (blk_simp [idx12 t, lat] <;> try (dsimp only; omega))
theorem blk13 (hu : V m c main_v23 = (L2 d.u : FVec Ideal S2048x1024 .f32)) (t : Fin cfg0.N) : iblk m c 13 t = L2 (e := .f32) (rins d t.val (lt9 t)).x13 := by
  funext j
  have e := congrFun (hu) (((cfg0.win 13).blk t).view.emb j)
  refine Eq.trans ?_ (e.trans ?_)
  · rfl
  · refine congrArg Real.toEReal (congrArg₂ (d.u) (Fin.ext ?_) (Fin.ext ?_))
    all_goals (blk_simp [idx13 t, lat] <;> try (dsimp only; omega))
theorem blk14 (hv : V m c main_v24 = (L2 d.v : FVec Ideal S2048x1024 .f32)) (t : Fin cfg0.N) : iblk m c 14 t = L2 (e := .f32) (rins d t.val (lt9 t)).x14 := by
  funext j
  have e := congrFun (hv) (((cfg0.win 14).blk t).view.emb j)
  refine Eq.trans ?_ (e.trans ?_)
  · rfl
  · refine congrArg Real.toEReal (congrArg₂ (d.v) (Fin.ext ?_) (Fin.ext ?_))
    all_goals (blk_simp [idx14 t, lat] <;> try (dsimp only; omega))
theorem blk15 (t : Fin cfg0.N) : iblk m c 15 t = L2 (e := .f32) (rins d t.val (lt9 t)).x15 := by
  funext j
  have e := congrFun ((V_main_arg13 m c).trans H.h13) (((cfg0.win 15).blk t).view.emb j)
  refine Eq.trans ?_ (e.trans ?_)
  · rfl
  · refine congrArg Real.toEReal (congrArg₂ (d.dy) (Fin.ext ?_) (Fin.ext ?_))
    all_goals (blk_simp [idx15 t, lat] <;> try (dsimp only; omega))
theorem blk16 (t : Fin cfg0.N) : iblk m c 16 t = L2 (e := .f32) (rins d t.val (lt9 t)).x16 := by
  funext j
  have e := congrFun ((V_main_arg6 m c).trans H.h6) (((cfg0.win 16).blk t).view.emb j)
  refine Eq.trans ?_ (e.trans ?_)
  · rfl
  · refine congrArg Real.toEReal (congrArg₂ (d.lg) (Fin.ext ?_) (Fin.ext ?_))
    all_goals (blk_simp [idx16 t, lat] <;> try (dsimp only; omega))
theorem blk17 (t : Fin cfg0.N) : iblk m c 17 t = L2 (e := .f32) (rins d t.val (lt9 t)).x17 := by
  funext j
  have e := congrFun ((V_main_arg7 m c).trans H.h7) (((cfg0.win 17).blk t).view.emb j)
  refine Eq.trans ?_ (e.trans ?_)
  · rfl
  · refine congrArg Real.toEReal (congrArg₂ (d.lb) (Fin.ext ?_) (Fin.ext ?_))
    all_goals (blk_simp [idx17 t, lat] <;> try (dsimp only; omega))
theorem blk18 (t : Fin cfg0.N) : iblk m c 18 t = L3 (e := .bf16) (rins d t.val (lt9 t)).x18 := by
  funext j
  have e := congrFun (host_sw H) (((cfg0.win 18).blk t).view.emb j)
  refine Eq.trans ?_ (e.trans ?_)
  · rfl
  · refine congrArg Real.toEReal (congr (congrArg₂ (d.sw) (Fin.ext ?_) (Fin.ext ?_)) (Fin.ext ?_))
    all_goals (blk_simp [idx18 t, lat] <;> try (dsimp only; omega))
theorem blk19 (t : Fin cfg0.N) : iblk m c 19 t = L2 (e := .f32) (rins d t.val (lt9 t)).x19 := by
  funext j
  have e := congrFun (host_sb H) (((cfg0.win 19).blk t).view.emb j)
  refine Eq.trans ?_ (e.trans ?_)
  · rfl
  · refine congrArg Real.toEReal (congrArg₂ (fun p g => d.sb g p) (Fin.ext ?_) (Fin.ext ?_))
    all_goals (blk_simp [idx19 t, lat] <;> try (dsimp only; omega))

/-- The blocks of a point. -/
theorem insAt_up (hu : V m c main_v23 = (L2 d.u : FVec Ideal S2048x1024 .f32))
    (hv : V m c main_v24 = (L2 d.v : FVec Ideal S2048x1024 .f32)) (t : Fin cfg0.N) : insAt m c t = (rins d t.val (lt9 t)).up := by
  unfold insAt RIns.up
  rw [blk0 H t, blk1 H t, blk2 H t, blk3 H t, blk4 H t, blk5 H t, blk6 H t, blk7 H t, blk8 H t, blk9 H t, blk10 H t, blk11 H t, blk12 H t, blk13 H hu t, blk14 H hv t, blk15 H t, blk16 H t, blk17 H t, blk18 H t, blk19 H t]

end Cert.KernelIdeal.Val
-- ==== Proof.KVal.lean ====
module

public import proofs.«01_k».proof.Proof.KHost

/-! What the kernel leaves in its result arrays, on real arguments. -/

@[expose] public section

set_option maxRecDepth 16384

noncomputable section

namespace Cert.KernelIdeal.Val

open Idealize.ShloMosaic Idealize.ShloMosaic.TcCoe Idealize.ShloMosaic.Tactic Cert.Lift Cert.Math Cert.KernelIdeal Cert.KernelIdeal.Gen Cert.KernelIdeal.Ops Cert.KernelIdeal.Run

theorem coord (t : Fin cfg0.N) : (grid0.coords t 0).val = t.val := by
  have h : (grid0.coords t 0).val = t.val / 1 % 9 := Pipeline.Grid.coords_val t 0 (by decide) rfl
  have := lt9 t
  omega

variable {m : (ℓ : Loc nD τ sig) → Buf (Elt Ideal) ℓ} {c : Dev nD} {d : Data} (H : HoldsK m c d)
  (hu : V m c main_v23 = (L2 d.u : FVec Ideal S2048x1024 .f32)) (hv : V m c main_v24 = (L2 d.v : FVec Ideal S2048x1024 .f32))
include H hu hv

/-- The accumulators after each point. -/
theorem outs_acc : ∀ (n : ℕ) (h : n < cfg0.N), (outs m c n h).2 = (racc d n (lt9 ⟨n, h⟩)).up
  | 0, h => by
    show accA c (grid0.coords ⟨0, h⟩) (refsAt ⟨0, h⟩) (insAt m c ⟨0, h⟩) _ _ _ _ = _
    rw [insAt_up H hu hv]
    exact accA_up c _ _ _ (coord _) _ _ _ _
  | n + 1, h => by
    show accB c (grid0.coords ⟨n + 1, h⟩) (refsAt ⟨n + 1, h⟩) (insAt m c ⟨n + 1, h⟩) (outs m c n _).2 _ _ _ = _
    rw [insAt_up H hu hv, outs_acc n]
    exact accB_up c _ _ _ _ (fun e => Nat.succ_ne_zero n ((coord _).symm.trans e)) _ _ _

/-- The tiles after a later point. -/
theorem outs_til (t : Fin cfg0.N) (ht : t.val ≠ 0) :
    (outs m c t.val t.isLt).1.o20 = L2 (e := .f32) (rins d t.val (lt9 t)).gx
    ∧ (outs m c t.val t.isLt).1.o26 = L2 (e := .bf16) (rins d t.val (lt9 t)).du
    ∧ (outs m c t.val t.isLt).1.o27 = L2 (e := .bf16) (rins d t.val (lt9 t)).dv := by
  rw [outs_B m c t ht (fun h => ht ((condA_iff t).1 h)) (fun h => ht ((condA'_iff t).1 h)) ((condB_iff t).2 (Nat.one_le_iff_ne_zero.2 ht))]
  dsimp only
  rw [insAt_up H hu hv, outs_acc H hu hv]
  exact ⟨tile_o20 c _ _ _ _ (fun e => ht ((coord _).symm.trans e)) _ _ _, tile_o26 c _ _ _ _ _ _ _, tile_o27 c _ _ _ _ _ _ _⟩

omit H hu hv
/-- The block of a later point. -/
def blkOf (t : Fin cfg0.N) (ht : t.val ≠ 0) : Fin 8 := ⟨t.val - 1, by have := lt9 t; omega⟩

theorem at_blk {α : Type} (P : (n : ℕ) → n < 9 → α) (t : Fin cfg0.N) (ht : t.val ≠ 0) : P t.val (lt9 t) = P ((blkOf t ht).val + 1) (by omega) := by
  have e : t.val = (blkOf t ht).val + 1 := by simp only [blkOf]; omega
  congr 1

theorem flush_20 : ∀ t : Fin cfg0.N, (cfg0.win 20).flush t = true → t.val ≠ 0 := (by decide +kernel : ∀ t : Fin grid0.N, _)
theorem flush_26 : ∀ t : Fin cfg0.N, (cfg0.win 26).flush t = true → t.val ≠ 0 := (by decide +kernel : ∀ t : Fin grid0.N, _)
theorem flush_27 : ∀ t : Fin cfg0.N, (cfg0.win 27).flush t = true → t.val ≠ 0 := (by decide +kernel : ∀ t : Fin grid0.N, _)
theorem last_up21 (d : Data) (h : 8 < 9) : (racc d 8 h).up.o21 = L2 (e := .f32) d.dng :=
  L2_congr fun a b => by
    obtain rfl : a = 0 := Subsingleton.elim _ _
    exact last_o21 d h b
theorem last_up22 (d : Data) (h : 8 < 9) : (racc d 8 h).up.o22 = L2 (e := .f32) d.dscx :=
  L2_congr fun a b => by
    obtain rfl : a = 0 := Subsingleton.elim _ _
    exact last_o22 d h b
theorem last_up23 (d : Data) (h : 8 < 9) : (racc d 8 h).up.o23 = L2 (e := .f32) d.dshx :=
  L2_congr fun a b => by
    obtain rfl : a = 0 := Subsingleton.elim _ _
    exact last_o23 d h b
theorem last_up24 (d : Data) (h : 8 < 9) : (racc d 8 h).up.o24 = L2 (e := .f32) d.dscc :=
  L2_congr fun a b => by
    obtain rfl : a = 0 := Subsingleton.elim _ _
    exact last_o24 d h b
theorem last_up25 (d : Data) (h : 8 < 9) : (racc d 8 h).up.o25 = L2 (e := .f32) d.dshc :=
  L2_congr fun a b => by
    obtain rfl : a = 0 := Subsingleton.elim _ _
    exact last_o25 d h b
theorem last_up28 (d : Data) (h : 8 < 9) : (racc d 8 h).up.o28 = L3 (e := .f32) d.dws :=
  congrArg L3 (funext fun g => funext fun p => funext fun q => last_o28 d h g p q)
theorem last_up29 (d : Data) (h : 8 < 9) : (racc d 8 h).up.o29 = L2 (e := .f32) d.dbs :=
  L2_congr fun g p => last_o29 d h g p
theorem last_up30 (d : Data) (h : 8 < 9) : (racc d 8 h).up.o30 = L2 (e := .f32) d.dlg :=
  L2_congr fun a b => by
    obtain rfl : a = 0 := Subsingleton.elim _ _
    exact last_o30 d h b
theorem last_up31 (d : Data) (h : 8 < 9) : (racc d 8 h).up.o31 = L2 (e := .f32) d.dlb :=
  L2_congr fun a b => by
    obtain rfl : a = 0 := Subsingleton.elim _ _
    exact last_o31 d h b
include H hu hv
/-- The last point. -/
abbrev tL : Fin cfg0.N := ⟨8, by decide⟩

theorem arr20 : (dats m 0 c).arrAt 20 cfg0.N = (L2 d.gx : FVec Ideal S2048x1024 .f32) := by
  refine (dats m 0 c).arrAt_eq_of_covers 20 _ (by decide +kernel) fun t hf y => ?_
  have ht := flush_20 t hf
  have e := (after20 m c t).trans (outs_til H hu hv t ht).1
  refine Eq.trans (congrFun e ((cfg0.win 20).xinj (cfg0.grid.coords t) y)) ?_
  refine (congrArg Real.toEReal ((congrFun (congrFun (at_blk (fun n h => (rins d n h).gx) t ht) (y 0)) (y 1)).trans (rblk_gx d (blkOf t ht) (y 0) (y 1)))).trans ?_
  refine congrArg Real.toEReal (congrArg₂ d.gx (Fin.ext ?_) (Fin.ext ?_))
  all_goals (blk_simp [idx20 t, brow, blkOf] <;> try (dsimp only; omega))

theorem arr26 : (dats m 0 c).arrAt 26 cfg0.N = (L2 d.du : FVec Ideal S2048x1024 .bf16) := by
  refine (dats m 0 c).arrAt_eq_of_covers 26 _ (by decide +kernel) fun t hf y => ?_
  have ht := flush_26 t hf
  have e := (after26 m c t).trans (outs_til H hu hv t ht).2.1
  refine Eq.trans (congrFun e ((cfg0.win 26).xinj (cfg0.grid.coords t) y)) ?_
  refine (congrArg Real.toEReal ((congrFun (congrFun (at_blk (fun n h => (rins d n h).du) t ht) (y 0)) (y 1)).trans (congrFun (rblk_du d (blkOf t ht) (y 0)) (y 1)))).trans ?_
  refine congrArg Real.toEReal (congrArg₂ d.du (Fin.ext ?_) (Fin.ext ?_))
  all_goals (blk_simp [idx26 t, brow, blkOf] <;> try (dsimp only; omega))

theorem arr27 : (dats m 0 c).arrAt 27 cfg0.N = (L2 d.dv : FVec Ideal S2048x1024 .bf16) := by
  refine (dats m 0 c).arrAt_eq_of_covers 27 _ (by decide +kernel) fun t hf y => ?_
  have ht := flush_27 t hf
  have e := (after27 m c t).trans (outs_til H hu hv t ht).2.2
  refine Eq.trans (congrFun e ((cfg0.win 27).xinj (cfg0.grid.coords t) y)) ?_
  refine (congrArg Real.toEReal ((congrFun (congrFun (at_blk (fun n h => (rins d n h).dv) t ht) (y 0)) (y 1)).trans (congrFun (rblk_dv d (blkOf t ht) (y 0)) (y 1)))).trans ?_
  refine congrArg Real.toEReal (congrArg₂ d.dv (Fin.ext ?_) (Fin.ext ?_))
  all_goals (blk_simp [idx27 t, brow, blkOf] <;> try (dsimp only; omega))

theorem arr21 : (dats m 0 c).arrAt 21 cfg0.N = (L2 d.dng : FVec Ideal S1x1024 .f32) := by
  refine (dats m 0 c).arrAt_eq_of_after_last 21 tL (by decide +kernel) _ fun j => ?_
  exact congrFun ((after21 m c tL).trans ((congrArg Acc.o21 (outs_acc H hu hv 8 tL.isLt)).trans (last_up21 d _))) _

theorem arr22 : (dats m 0 c).arrAt 22 cfg0.N = (L2 d.dscx : FVec Ideal S1x1024 .f32) := by
  refine (dats m 0 c).arrAt_eq_of_after_last 22 tL (by decide +kernel) _ fun j => ?_
  exact congrFun ((after22 m c tL).trans ((congrArg Acc.o22 (outs_acc H hu hv 8 tL.isLt)).trans (last_up22 d _))) _

theorem arr23 : (dats m 0 c).arrAt 23 cfg0.N = (L2 d.dshx : FVec Ideal S1x1024 .f32) := by
  refine (dats m 0 c).arrAt_eq_of_after_last 23 tL (by decide +kernel) _ fun j => ?_
  exact congrFun ((after23 m c tL).trans ((congrArg Acc.o23 (outs_acc H hu hv 8 tL.isLt)).trans (last_up23 d _))) _

theorem arr24 : (dats m 0 c).arrAt 24 cfg0.N = (L2 d.dscc : FVec Ideal S1x1024 .f32) := by
  refine (dats m 0 c).arrAt_eq_of_after_last 24 tL (by decide +kernel) _ fun j => ?_
  exact congrFun ((after24 m c tL).trans ((congrArg Acc.o24 (outs_acc H hu hv 8 tL.isLt)).trans (last_up24 d _))) _

theorem arr25 : (dats m 0 c).arrAt 25 cfg0.N = (L2 d.dshc : FVec Ideal S1x1024 .f32) := by
  refine (dats m 0 c).arrAt_eq_of_after_last 25 tL (by decide +kernel) _ fun j => ?_
  exact congrFun ((after25 m c tL).trans ((congrArg Acc.o25 (outs_acc H hu hv 8 tL.isLt)).trans (last_up25 d _))) _

theorem arr28 : (dats m 0 c).arrAt 28 cfg0.N = (L3 d.dws : FVec Ideal S8x128x128 .f32) := by
  refine (dats m 0 c).arrAt_eq_of_after_last 28 tL (by decide +kernel) _ fun j => ?_
  exact congrFun ((after28 m c tL).trans ((congrArg Acc.o28 (outs_acc H hu hv 8 tL.isLt)).trans (last_up28 d _))) _

theorem arr29 : (dats m 0 c).arrAt 29 cfg0.N = (L2 d.dbs : FVec Ideal S8x128 .f32) := by
  refine (dats m 0 c).arrAt_eq_of_after_last 29 tL (by decide +kernel) _ fun j => ?_
  exact congrFun ((after29 m c tL).trans ((congrArg Acc.o29 (outs_acc H hu hv 8 tL.isLt)).trans (last_up29 d _))) _

theorem arr30 : (dats m 0 c).arrAt 30 cfg0.N = (L2 d.dlg : FVec Ideal S1x1024 .f32) := by
  refine (dats m 0 c).arrAt_eq_of_after_last 30 tL (by decide +kernel) _ fun j => ?_
  exact congrFun ((after30 m c tL).trans ((congrArg Acc.o30 (outs_acc H hu hv 8 tL.isLt)).trans (last_up30 d _))) _

theorem arr31 : (dats m 0 c).arrAt 31 cfg0.N = (L2 d.dlb : FVec Ideal S1x1024 .f32) := by
  refine (dats m 0 c).arrAt_eq_of_after_last 31 tL (by decide +kernel) _ fun j => ?_
  exact congrFun ((after31 m c tL).trans ((congrArg Acc.o31 (outs_acc H hu hv 8 tL.isLt)).trans (last_up31 d _))) _

/-! ### The result arrays after the run -/

theorem post20 (r : PUnit × MemSt nD τ sig (Elt Ideal)) (h : Pipeline.FramePost cfgs (dats m) 0 (V m) r) :
    r.2.mem ((c : Thread nD τ).loc main_v28_0) = (L2 d.gx : FVec Ideal S2048x1024 .f32) := by
  have e : r.2.mem ((c : Thread nD τ).loc main_v28_0) = (dats m 0 c).arrAt 20 cfg0.N := (h c).1 20
  rw [e]; exact arr20 H hu hv

theorem post21 (r : PUnit × MemSt nD τ sig (Elt Ideal)) (h : Pipeline.FramePost cfgs (dats m) 0 (V m) r) :
    r.2.mem ((c : Thread nD τ).loc main_v28_1) = (L2 d.dng : FVec Ideal S1x1024 .f32) := by
  have e : r.2.mem ((c : Thread nD τ).loc main_v28_1) = (dats m 0 c).arrAt 21 cfg0.N := (h c).1 21
  rw [e]; exact arr21 H hu hv

theorem post22 (r : PUnit × MemSt nD τ sig (Elt Ideal)) (h : Pipeline.FramePost cfgs (dats m) 0 (V m) r) :
    r.2.mem ((c : Thread nD τ).loc main_v28_2) = (L2 d.dscx : FVec Ideal S1x1024 .f32) := by
  have e : r.2.mem ((c : Thread nD τ).loc main_v28_2) = (dats m 0 c).arrAt 22 cfg0.N := (h c).1 22
  rw [e]; exact arr22 H hu hv

theorem post23 (r : PUnit × MemSt nD τ sig (Elt Ideal)) (h : Pipeline.FramePost cfgs (dats m) 0 (V m) r) :
    r.2.mem ((c : Thread nD τ).loc main_v28_3) = (L2 d.dshx : FVec Ideal S1x1024 .f32) := by
  have e : r.2.mem ((c : Thread nD τ).loc main_v28_3) = (dats m 0 c).arrAt 23 cfg0.N := (h c).1 23
  rw [e]; exact arr23 H hu hv

theorem post24 (r : PUnit × MemSt nD τ sig (Elt Ideal)) (h : Pipeline.FramePost cfgs (dats m) 0 (V m) r) :
    r.2.mem ((c : Thread nD τ).loc main_v28_4) = (L2 d.dscc : FVec Ideal S1x1024 .f32) := by
  have e : r.2.mem ((c : Thread nD τ).loc main_v28_4) = (dats m 0 c).arrAt 24 cfg0.N := (h c).1 24
  rw [e]; exact arr24 H hu hv

theorem post25 (r : PUnit × MemSt nD τ sig (Elt Ideal)) (h : Pipeline.FramePost cfgs (dats m) 0 (V m) r) :
    r.2.mem ((c : Thread nD τ).loc main_v28_5) = (L2 d.dshc : FVec Ideal S1x1024 .f32) := by
  have e : r.2.mem ((c : Thread nD τ).loc main_v28_5) = (dats m 0 c).arrAt 25 cfg0.N := (h c).1 25
  rw [e]; exact arr25 H hu hv

theorem post26 (r : PUnit × MemSt nD τ sig (Elt Ideal)) (h : Pipeline.FramePost cfgs (dats m) 0 (V m) r) :
    r.2.mem ((c : Thread nD τ).loc main_v28_6) = (L2 d.du : FVec Ideal S2048x1024 .bf16) := by
  have e : r.2.mem ((c : Thread nD τ).loc main_v28_6) = (dats m 0 c).arrAt 26 cfg0.N := (h c).1 26
  rw [e]; exact arr26 H hu hv

theorem post27 (r : PUnit × MemSt nD τ sig (Elt Ideal)) (h : Pipeline.FramePost cfgs (dats m) 0 (V m) r) :
    r.2.mem ((c : Thread nD τ).loc main_v28_7) = (L2 d.dv : FVec Ideal S2048x1024 .bf16) := by
  have e : r.2.mem ((c : Thread nD τ).loc main_v28_7) = (dats m 0 c).arrAt 27 cfg0.N := (h c).1 27
  rw [e]; exact arr27 H hu hv

theorem post28 (r : PUnit × MemSt nD τ sig (Elt Ideal)) (h : Pipeline.FramePost cfgs (dats m) 0 (V m) r) :
    r.2.mem ((c : Thread nD τ).loc main_v28_8) = (L3 d.dws : FVec Ideal S8x128x128 .f32) := by
  have e : r.2.mem ((c : Thread nD τ).loc main_v28_8) = (dats m 0 c).arrAt 28 cfg0.N := (h c).1 28
  rw [e]; exact arr28 H hu hv

theorem post29 (r : PUnit × MemSt nD τ sig (Elt Ideal)) (h : Pipeline.FramePost cfgs (dats m) 0 (V m) r) :
    r.2.mem ((c : Thread nD τ).loc main_v28_9) = (L2 d.dbs : FVec Ideal S8x128 .f32) := by
  have e : r.2.mem ((c : Thread nD τ).loc main_v28_9) = (dats m 0 c).arrAt 29 cfg0.N := (h c).1 29
  rw [e]; exact arr29 H hu hv

theorem post30 (r : PUnit × MemSt nD τ sig (Elt Ideal)) (h : Pipeline.FramePost cfgs (dats m) 0 (V m) r) :
    r.2.mem ((c : Thread nD τ).loc main_v28_10) = (L2 d.dlg : FVec Ideal S1x1024 .f32) := by
  have e : r.2.mem ((c : Thread nD τ).loc main_v28_10) = (dats m 0 c).arrAt 30 cfg0.N := (h c).1 30
  rw [e]; exact arr30 H hu hv

theorem post31 (r : PUnit × MemSt nD τ sig (Elt Ideal)) (h : Pipeline.FramePost cfgs (dats m) 0 (V m) r) :
    r.2.mem ((c : Thread nD τ).loc main_v28_11) = (L2 d.dlb : FVec Ideal S1x1024 .f32) := by
  have e : r.2.mem ((c : Thread nD τ).loc main_v28_11) = (dats m 0 c).arrAt 31 cfg0.N := (h c).1 31
  rw [e]; exact arr31 H hu hv

end Cert.KernelIdeal.Val
-- ==== Proof.Algebraic.lean ====
module

public import proofs.«01_k».proof.Defs
public import proofs.«01_k».proof.Proof.KVal
public import proofs.«01_k».proof.Proof.Body
public import proofs.«01_k».proof.Proof.Gen.Kernel
public import proofs.«01_k».proof.Proof.Gen.KernelIdeal
public import proofs.«01_k».proof.Proof.Gen.ReferenceIdeal.Run
public import proofs.«01_k».proof.Proof.Gen.ReferenceIdeal
public import proofs.«01_k».proof.Proof.Gen.Pre_finite
public import Idealize.ShloMosaic.Lib.ReduceAll

/-! The value claim: on finite arguments the kernel and the reference leave the same twelve results. -/

@[expose] public section

set_option maxRecDepth 16384

noncomputable section

namespace Cert.Final

open Idealize.ShloMosaic Idealize.ShloMosaic.TcCoe Idealize.ShloMosaic.Tactic Idealize.SL.Sem Cert.Lift Cert.Math

attribute [local instance] Cert.Kernel.Gen.facts Cert.KernelIdeal.Gen.facts Cert.ReferenceIdeal.Gen.facts Cert.Pre_finite.Gen.facts

/-! ### Finite arguments are arrays of real numbers -/

theorem bits_inf : Ideal.ofBits .f32 0x7F800000#32 = ⊤ := by simp [Ideal.ofBits, Ideal.ieee]

/-- A number whose size is below the infinite word is neither infinity. -/
theorem ne_of_olt {x : EReal} (h : Ideal.cmp .olt (max x (-x)) (Ideal.ofBits .f32 0x7F800000#32) = 1#1) : x ≠ ⊤ ∧ x ≠ ⊥ := by
  rw [bits_inf] at h
  constructor <;> rintro rfl <;> simp [Ideal.cmp] at h

theorem ne_of_all {s t u : Shape} [Subsingleton t.Idx] {axes : List (Fin s.rank)} (a : FVec Ideal s .f32) (hb : Shape.BroadcastsInDim (⟨0, ![]⟩ : Shape) s ![])
    (init : u.Idx → BitVec 1) (hr : s.ReducesTo axes t) (hu : 0 < u.numel) (j : t.Idx)
    (h : Host.reduce IntOp.andi (cmpf .olt (Host.absf a) (broadcastInDim s ![] hb (constant (⟨0, ![]⟩ : Shape) .f32 0x7F800000#32 : FVec Ideal _ .f32))) init hr hu j = 1#1)
    (i : s.Idx) : (a i : EReal) ≠ ⊤ ∧ (a i : EReal) ≠ ⊥ :=
  ne_of_olt (Host.reduce_andi_all _ init hr hu j h i)

theorem real2 {m n : ℕ} {e : FTy} (a : FVec Ideal (⟨2, ![m, n]⟩ : Shape) e) (h : ∀ i, (a i : EReal) ≠ ⊤ ∧ (a i : EReal) ≠ ⊥) :
    a = L2 fun p q => (a (ix2 p q) : EReal).toReal := by
  funext i
  exact (congrArg a (eq_ix2 i)).trans (EReal.coe_toReal (h _).1 (h _).2).symm

theorem real3 {k m n : ℕ} {e : FTy} (a : FVec Ideal (⟨3, ![k, m, n]⟩ : Shape) e) (h : ∀ i, (a i : EReal) ≠ ⊤ ∧ (a i : EReal) ≠ ⊥) :
    a = L3 fun p q r => (a (ix3 p q r) : EReal).toReal := by
  funext i
  exact (congrArg a (eq_ix3 i)).trans (EReal.coe_toReal (h _).1 (h _).2).symm

instance : Subsingleton (⟨0, ![]⟩ : Shape).Idx := ⟨fun _ _ => funext fun k => k.elim0⟩

section
open Cert.KernelIdeal

variable (m : (ℓ : Loc nD τ sig) → Buf (Elt Ideal) ℓ) (c : Dev nD)

/-- The real numbers in the argument arrays of a device. -/
def dat : Data where
  x := fun p q => (m ((c : Thread nD τ).loc main_arg0) (ix2 p q) : EReal).toReal
  ctx := fun p q => (m ((c : Thread nD τ).loc main_arg1) (ix2 p q) : EReal).toReal
  mx := fun p q => (m ((c : Thread nD τ).loc main_arg2) (ix2 p q) : EReal).toReal
  mc := fun p q => (m ((c : Thread nD τ).loc main_arg3) (ix2 p q) : EReal).toReal
  ng := fun p q => (m ((c : Thread nD τ).loc main_arg4) (ix2 p q) : EReal).toReal
  w := fun p q => (m ((c : Thread nD τ).loc main_arg5) (ix2 p q) : EReal).toReal
  lg := fun p q => (m ((c : Thread nD τ).loc main_arg6) (ix2 p q) : EReal).toReal
  lb := fun p q => (m ((c : Thread nD τ).loc main_arg7) (ix2 p q) : EReal).toReal
  sw := fun p q r => (m ((c : Thread nD τ).loc main_arg8) (ix3 p q r) : EReal).toReal
  sb := fun p q => (m ((c : Thread nD τ).loc main_arg9) (ix2 p q) : EReal).toReal
  dxa := fun p q => (m ((c : Thread nD τ).loc main_arg10) (ix2 p q) : EReal).toReal
  dga := fun p q => (m ((c : Thread nD τ).loc main_arg11) (ix2 p q) : EReal).toReal
  dgb := fun p q => (m ((c : Thread nD τ).loc main_arg12) (ix2 p q) : EReal).toReal
  dy := fun p q => (m ((c : Thread nD τ).loc main_arg13) (ix2 p q) : EReal).toReal
  dxn := fun p q => (m ((c : Thread nD τ).loc main_arg14) (ix2 p q) : EReal).toReal

theorem holdsK (h : Cert.Pre_KernelIdeal_finite m) : Cert.KernelIdeal.Val.HoldsK m c (dat m c) := by
  have h := congrFun (h c) (fun k => k.elim0)
  dsimp only [Cert.Pre_finite.fn, Cert.Pre_finite.fn_part1, Cert.Pre_finite.fn_part2, Cert.Pre_finite.fn_part3, Cert.Pre_finite.fn_part4] at h
  obtain ⟨h, h14⟩ := IntOp.andi_eq_one.1 h
  obtain ⟨h, h13⟩ := IntOp.andi_eq_one.1 h
  obtain ⟨h, h12⟩ := IntOp.andi_eq_one.1 h
  obtain ⟨h, h11⟩ := IntOp.andi_eq_one.1 h
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h, h1⟩ := IntOp.andi_eq_one.1 h
  exact {
    h0 := real2 _ (ne_of_all _ _ _ _ _ _ h)
    h1 := real2 _ (ne_of_all _ _ _ _ _ _ h1)
    h2 := real2 _ (ne_of_all _ _ _ _ _ _ h2)
    h3 := real2 _ (ne_of_all _ _ _ _ _ _ h3)
    h4 := real2 _ (ne_of_all _ _ _ _ _ _ h4)
    h5 := real2 _ (ne_of_all _ _ _ _ _ _ h5)
    h6 := real2 _ (ne_of_all _ _ _ _ _ _ h6)
    h7 := real2 _ (ne_of_all _ _ _ _ _ _ h7)
    h8 := real3 _ (ne_of_all _ _ _ _ _ _ h8)
    h9 := real2 _ (ne_of_all _ _ _ _ _ _ h9)
    h10 := real2 _ (ne_of_all _ _ _ _ _ _ h10)
    h11 := real2 _ (ne_of_all _ _ _ _ _ _ h11)
    h12 := real2 _ (ne_of_all _ _ _ _ _ _ h12)
    h13 := real2 _ (ne_of_all _ _ _ _ _ _ h13)
    h14 := real2 _ (ne_of_all _ _ _ _ _ _ h14)
  }
end

/-- The value claim. -/
theorem algebraic : Cert.algebraic_KernelIdeal_ReferenceIdeal_pre_finite := by
  intro m g m' g' hpre hargs
  have HK := fun c => holdsK m c hpre
  have HR : ∀ c, Cert.ReferenceIdeal.RVal.Holds (Idealize.ShloMosaic.StableHlo.launchContents m' c) (dat m c) := fun c => by
    obtain ⟨a0, a1, a2, a3, a4, a5, a6, a7, a8, a9, a10, a11, a12, a13, a14⟩ := hargs c
    exact ⟨a0.trans (HK c).h0, a1.trans (HK c).h1, a2.trans (HK c).h2, a3.trans (HK c).h3, a4.trans (HK c).h4, a5.trans (HK c).h5, a6.trans (HK c).h6, a7.trans (HK c).h7, a8.trans (HK c).h8, a9.trans (HK c).h9, a10.trans (HK c).h10, a11.trans (HK c).h11, a12.trans (HK c).h12, a13.trans (HK c).h13, a14.trans (HK c).h14⟩
  have hu : ∀ c, Cert.KernelIdeal.Gen.V m c Cert.KernelIdeal.main_v23 = (L2 (dat m c).u : FVec Ideal Cert.KernelIdeal.S2048x1024 .f32) := fun c => by
    obtain ⟨a0, _, a2, _, a4, a5, _⟩ := hargs c
    rw [Cert.KernelIdeal.Val.host_u (Idealize.ShloMosaic.StableHlo.launchContents m' c) a0.symm a2.symm a4.symm a5.symm, Cert.ReferenceIdeal.RVal.v27 (HR c)]
    exact Cert.KernelIdeal.Val.xs_u _ _
  have hv : ∀ c, Cert.KernelIdeal.Gen.V m c Cert.KernelIdeal.main_v24 = (L2 (dat m c).v : FVec Ideal Cert.KernelIdeal.S2048x1024 .f32) := fun c => by
    obtain ⟨a0, _, a2, _, a4, a5, _⟩ := hargs c
    rw [Cert.KernelIdeal.Val.host_v (Idealize.ShloMosaic.StableHlo.launchContents m' c) a0.symm a2.symm a4.symm a5.symm, Cert.ReferenceIdeal.RVal.v27 (HR c)]
    exact Cert.KernelIdeal.Val.xs_v _ _
  refine ⟨fun c => (L2 (dat m c).gx : FVec Ideal Cert.KernelIdeal.S2048x1024 .f32), fun c => (L2 (dat m c).dng : FVec Ideal Cert.KernelIdeal.S1x1024 .f32), fun c => (L2 (dat m c).dscx : FVec Ideal Cert.KernelIdeal.S1x1024 .f32), fun c => (L2 (dat m c).dshx : FVec Ideal Cert.KernelIdeal.S1x1024 .f32), fun c => (L2 (dat m c).dscc : FVec Ideal Cert.KernelIdeal.S1x1024 .f32), fun c => (L2 (dat m c).dshc : FVec Ideal Cert.KernelIdeal.S1x1024 .f32), fun c => (L2 (dat m c).du : FVec Ideal Cert.KernelIdeal.S2048x1024 .bf16), fun c => (L2 (dat m c).dv : FVec Ideal Cert.KernelIdeal.S2048x1024 .bf16), fun c => (L3 (dat m c).dws : FVec Ideal Cert.KernelIdeal.S8x128x128 .f32), fun c => (L2 (dat m c).dbs : FVec Ideal Cert.KernelIdeal.S8x128 .f32), fun c => (L2 (dat m c).dlg : FVec Ideal Cert.KernelIdeal.S1x1024 .f32), fun c => (L2 (dat m c).dlb : FVec Ideal Cert.KernelIdeal.S1x1024 .f32), ?_, ?_⟩
  · refine (θ_run _ _ _).mono (fun r h c => ⟨Cert.KernelIdeal.Val.post20 (HK c) (hu c) (hv c) r h.2, Cert.KernelIdeal.Val.post21 (HK c) (hu c) (hv c) r h.2, Cert.KernelIdeal.Val.post22 (HK c) (hu c) (hv c) r h.2, Cert.KernelIdeal.Val.post23 (HK c) (hu c) (hv c) r h.2, Cert.KernelIdeal.Val.post24 (HK c) (hu c) (hv c) r h.2, Cert.KernelIdeal.Val.post25 (HK c) (hu c) (hv c) r h.2, Cert.KernelIdeal.Val.post26 (HK c) (hu c) (hv c) r h.2, Cert.KernelIdeal.Val.post27 (HK c) (hu c) (hv c) r h.2, Cert.KernelIdeal.Val.post28 (HK c) (hu c) (hv c) r h.2, Cert.KernelIdeal.Val.post29 (HK c) (hu c) (hv c) r h.2, Cert.KernelIdeal.Val.post30 (HK c) (hu c) (hv c) r h.2, Cert.KernelIdeal.Val.post31 (HK c) (hu c) (hv c) r h.2, h.1 c⟩) (θ_run_and (Cert.KernelIdeal.Run.args_kept m g) (Cert.KernelIdeal.Run.run_arrays m g))
  · refine (θ_run _ _ _).mono (fun r h c => ?_) (Cert.ReferenceIdeal.Value.run m' g')
    obtain ⟨o0, o1, o2, o3, o4, o5, o6, o7, o8, o9, o10, o11, rest⟩ := h c
    exact ⟨o0.trans (Cert.ReferenceIdeal.RVal.o259 (HR c)), o1.trans (Cert.ReferenceIdeal.RVal.o242 (HR c)), o2.trans (Cert.ReferenceIdeal.RVal.o236 (HR c)), o3.trans (Cert.ReferenceIdeal.RVal.o233 (HR c)), o4.trans (Cert.ReferenceIdeal.RVal.o209 (HR c)), o5.trans (Cert.ReferenceIdeal.RVal.o206 (HR c)), o6.trans (Cert.ReferenceIdeal.RVal.o260 (HR c)), o7.trans (Cert.ReferenceIdeal.RVal.o261 (HR c)), o8.trans (Cert.ReferenceIdeal.RVal.o139 (HR c)), o9.trans (Cert.ReferenceIdeal.RVal.o137 (HR c)), o10.trans (Cert.ReferenceIdeal.RVal.o147 (HR c)), o11.trans (Cert.ReferenceIdeal.RVal.o144 (HR c)), rest⟩

end Cert.Final
-- ==== Proof.HBufs.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.TableIdle
public import Idealize.ShloMosaic.Lib.Tactic
public import Idealize.ShloMosaic.Lib.WordCmp

/-! The second call's buffers at one grid point, what they hold, and what a run of the body is to do with them. -/

@[expose] public section

set_option maxRecDepth 16384

noncomputable section

namespace Cert.Kernel2Ideal.Run

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The staging buffers of the windows 0 to 19 and the scratch buffer, each whole. -/
structure Refs where
  a1 : Memref sig .tc .vmem S2048x128 .f32
  h1 : a1.IsWhole
  a2 : Memref sig .tc .vmem S2048x128 .f32
  h2 : a2.IsWhole
  a3 : Memref sig .tc .vmem S256x1024 .f32
  h3 : a3.IsWhole
  a4 : Memref sig .tc .vmem S256x1024 .f32
  h4 : a4.IsWhole
  a5 : Memref sig .tc .vmem S256x1024 .f32
  h5 : a5.IsWhole
  a6 : Memref sig .tc .vmem S256x1024 .f32
  h6 : a6.IsWhole
  a7 : Memref sig .tc .vmem S256x1024 .f32
  h7 : a7.IsWhole
  a8 : Memref sig .tc .vmem S8x1024 .f32
  h8 : a8.IsWhole
  a9 : Memref sig .tc .vmem S1x1024 .f32
  h9 : a9.IsWhole
  a10 : Memref sig .tc .vmem S2048x1024 .bf16
  h10 : a10.IsWhole
  a11 : Memref sig .tc .vmem S1x1024 .f32
  h11 : a11.IsWhole
  a12 : Memref sig .tc .vmem S1x1024 .f32
  h12 : a12.IsWhole
  a13 : Memref sig .tc .vmem S1x1024 .f32
  h13 : a13.IsWhole
  a14 : Memref sig .tc .vmem S256x1024 .f32
  h14 : a14.IsWhole
  a15 : Memref sig .tc .vmem S256x2048 .bf16
  h15 : a15.IsWhole
  a16 : Memref sig .tc .vmem S256x1024 .bf16
  h16 : a16.IsWhole
  a17 : Memref sig .tc .vmem S256x1024 .bf16
  h17 : a17.IsWhole
  a18 : Memref sig .tc .vmem S256x1024 .bf16
  h18 : a18.IsWhole
  a19 : Memref sig .tc .vmem S2048x128 .f32
  h19 : a19.IsWhole
  a20 : Memref sig .tc .vmem S256x1024 .f32
  h20 : a20.IsWhole
  a21 : Memref sig .tc .vmem S256x1024 .f32
  h21 : a21.IsWhole

/-- The blocks of the ten inputs at one point. -/
structure Ins (F : FTy → Type) [FloatOps F] where
  x0 : Vec F S2048x128 .f32
  x1 : Vec F S2048x128 .f32
  x2 : Vec F S256x1024 .f32
  x3 : Vec F S256x1024 .f32
  x4 : Vec F S256x1024 .f32
  x5 : Vec F S256x1024 .f32
  x6 : Vec F S256x1024 .f32
  x7 : Vec F S8x1024 .f32
  x8 : Vec F S1x1024 .f32
  x9 : Vec F S2048x1024 .bf16

/-- The blocks of the ten outputs; the first three are accumulated over the points. -/
structure Out (F : FTy → Type) [FloatOps F] where
  o10 : Vec F S1x1024 .f32
  o11 : Vec F S1x1024 .f32
  o12 : Vec F S1x1024 .f32
  o13 : Vec F S256x1024 .f32
  o14 : Vec F S256x2048 .bf16
  o15 : Vec F S256x1024 .bf16
  o16 : Vec F S256x1024 .bf16
  o17 : Vec F S256x1024 .bf16
  o18 : Vec F S2048x128 .f32
  o19 : Vec F S256x1024 .f32

/-- The contents of the three accumulators before a point. -/
structure Acc (F : FTy → Type) [FloatOps F] where
  o10 : Vec F S1x1024 .f32
  o11 : Vec F S1x1024 .f32
  o12 : Vec F S1x1024 .f32

/-- The accumulators among the outputs. -/
def Out.acc (o : Out F) : Acc F := ⟨o.o10, o.o11, o.o12⟩

/-- The pieces a run writes into the ten outputs, the last first. -/
structure Pcs (F : FTy → Type) [FloatOps F] where
  l10 : List (View.Piece (Elt F) S1x1024 .f32)
  l11 : List (View.Piece (Elt F) S1x1024 .f32)
  l12 : List (View.Piece (Elt F) S1x1024 .f32)
  l13 : List (View.Piece (Elt F) S256x1024 .f32)
  l14 : List (View.Piece (Elt F) S256x2048 .bf16)
  l15 : List (View.Piece (Elt F) S256x1024 .bf16)
  l16 : List (View.Piece (Elt F) S256x1024 .bf16)
  l17 : List (View.Piece (Elt F) S256x1024 .bf16)
  l18 : List (View.Piece (Elt F) S2048x128 .f32)
  l19 : List (View.Piece (Elt F) S256x1024 .f32)

/-- What the pieces leave. -/
def Pcs.out (L : Pcs F) : Out F where
  o10 := View.canon L.l10
  o11 := View.canon L.l11
  o12 := View.canon L.l12
  o13 := View.canon L.l13
  o14 := View.canon L.l14
  o15 := View.canon L.l15
  o16 := View.canon L.l16
  o17 := View.canon L.l17
  o18 := View.canon L.l18
  o19 := View.canon L.l19

/-- The pieces reach every place of every output. -/
structure Pcs.Covers (L : Pcs F) : Prop where
  c10 : ∀ y, ∃ p ∈ L.l10, y ∈ p.1.set
  c11 : ∀ y, ∃ p ∈ L.l11, y ∈ p.1.set
  c12 : ∀ y, ∃ p ∈ L.l12, y ∈ p.1.set
  c13 : ∀ y, ∃ p ∈ L.l13, y ∈ p.1.set
  c14 : ∀ y, ∃ p ∈ L.l14, y ∈ p.1.set
  c15 : ∀ y, ∃ p ∈ L.l15, y ∈ p.1.set
  c16 : ∀ y, ∃ p ∈ L.l16, y ∈ p.1.set
  c17 : ∀ y, ∃ p ∈ L.l17, y ∈ p.1.set
  c18 : ∀ y, ∃ p ∈ L.l18, y ∈ p.1.set
  c19 : ∀ y, ∃ p ∈ L.l19, y ∈ p.1.set

/-- The body on a record of buffers. -/
abbrev bodyOn (i : grid0.Coords) (R : Refs) : Prog (TpuEff nD τ sig (Elt F) Λ₀ .tc) PUnit :=
  cc0_out_fwd_bwd i R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 R.a20 R.h20 R.a21 R.h21

/-- The point is the first, which clears the accumulators. -/
abbrev condF (i : grid0.Coords) : Prop :=
  Scalar.cmpi .ne (Scalar.extui (Scalar.cmpi .eq (BitVec.ofNat 32 (i 0).val) 0#32) : BitVec 32) 0#32 = 1#1
/-- The point is the last, which lays out the loss. -/
abbrev condL (i : grid0.Coords) : Prop :=
  Scalar.cmpi .ne (Scalar.extui (Scalar.cmpi .eq (BitVec.ofNat 32 (i 0).val) 7#32) : BitVec 32) 0#32 = 1#1

/-- From the inputs `x` and accumulators `a` the body writes the pieces `L`. -/
def Writes (c : Dev nD) (i : grid0.Coords) (R : Refs) (x : Ins F) (a : Acc F) (L : Pcs F) : Prop :=
  ∀ (E : Set ℕ) (K : PUnit → sProp 𝕄),
    iprop(owns (c : Thread nD τ) R.a1 fullShare x.x0 ∗
      owns (c : Thread nD τ) R.a2 fullShare x.x1 ∗
      owns (c : Thread nD τ) R.a3 fullShare x.x2 ∗
      owns (c : Thread nD τ) R.a4 fullShare x.x3 ∗
      owns (c : Thread nD τ) R.a5 fullShare x.x4 ∗
      owns (c : Thread nD τ) R.a6 fullShare x.x5 ∗
      owns (c : Thread nD τ) R.a7 fullShare x.x6 ∗
      owns (c : Thread nD τ) R.a8 fullShare x.x7 ∗
      owns (c : Thread nD τ) R.a9 fullShare x.x8 ∗
      owns (c : Thread nD τ) R.a10 fullShare x.x9 ∗
      owns (c : Thread nD τ) R.a11 fullShare a.o10 ∗
      owns (c : Thread nD τ) R.a12 fullShare a.o11 ∗
      owns (c : Thread nD τ) R.a13 fullShare a.o12 ∗
      (∃ d, owns (c : Thread nD τ) R.a14 fullShare d) ∗
      (∃ d, owns (c : Thread nD τ) R.a15 fullShare d) ∗
      (∃ d, owns (c : Thread nD τ) R.a16 fullShare d) ∗
      (∃ d, owns (c : Thread nD τ) R.a17 fullShare d) ∗
      (∃ d, owns (c : Thread nD τ) R.a18 fullShare d) ∗
      (∃ d, owns (c : Thread nD τ) R.a19 fullShare d) ∗
      (∃ d, owns (c : Thread nD τ) R.a20 fullShare d) ∗
      (∃ d, owns (c : Thread nD τ) R.a21 fullShare d) ∗
      (iprop(owns (c : Thread nD τ) R.a1 fullShare x.x0 ∗
      owns (c : Thread nD τ) R.a2 fullShare x.x1 ∗
      owns (c : Thread nD τ) R.a3 fullShare x.x2 ∗
      owns (c : Thread nD τ) R.a4 fullShare x.x3 ∗
      owns (c : Thread nD τ) R.a5 fullShare x.x4 ∗
      owns (c : Thread nD τ) R.a6 fullShare x.x5 ∗
      owns (c : Thread nD τ) R.a7 fullShare x.x6 ∗
      owns (c : Thread nD τ) R.a8 fullShare x.x7 ∗
      owns (c : Thread nD τ) R.a9 fullShare x.x8 ∗
      owns (c : Thread nD τ) R.a10 fullShare x.x9 ∗
      (∃ f, R.a11.view.loc (c : Thread nD τ) ↦[R.a11.view.set]{fullShare} R.a11.view.writes (Elt F) f L.l10) ∗
      (∃ f, R.a12.view.loc (c : Thread nD τ) ↦[R.a12.view.set]{fullShare} R.a12.view.writes (Elt F) f L.l11) ∗
      (∃ f, R.a13.view.loc (c : Thread nD τ) ↦[R.a13.view.set]{fullShare} R.a13.view.writes (Elt F) f L.l12) ∗
      (∃ f, R.a14.view.loc (c : Thread nD τ) ↦[R.a14.view.set]{fullShare} R.a14.view.writes (Elt F) f L.l13) ∗
      (∃ f, R.a15.view.loc (c : Thread nD τ) ↦[R.a15.view.set]{fullShare} R.a15.view.writes (Elt F) f L.l14) ∗
      (∃ f, R.a16.view.loc (c : Thread nD τ) ↦[R.a16.view.set]{fullShare} R.a16.view.writes (Elt F) f L.l15) ∗
      (∃ f, R.a17.view.loc (c : Thread nD τ) ↦[R.a17.view.set]{fullShare} R.a17.view.writes (Elt F) f L.l16) ∗
      (∃ f, R.a18.view.loc (c : Thread nD τ) ↦[R.a18.view.set]{fullShare} R.a18.view.writes (Elt F) f L.l17) ∗
      (∃ f, R.a19.view.loc (c : Thread nD τ) ↦[R.a19.view.set]{fullShare} R.a19.view.writes (Elt F) f L.l18) ∗
      (∃ f, R.a20.view.loc (c : Thread nD τ) ↦[R.a20.view.set]{fullShare} R.a20.view.writes (Elt F) f L.l19) ∗
      (∃ f, R.a21.view.loc (c : Thread nD τ) ↦[R.a21.view.set]{fullShare} f)) -∗ K ⟨⟩))
      ⊢ wp frame (wpE (defs₀ (F := F)) Variants.none c none) E (bodyOn i R) K

/-- From the inputs `x` and accumulators `a` the body leaves the outputs `o`. -/
def Leaves (c : Dev nD) (i : grid0.Coords) (R : Refs) (x : Ins F) (a : Acc F) (o : Out F) : Prop :=
  ∀ (E : Set ℕ) (K : PUnit → sProp 𝕄),
    iprop(owns (c : Thread nD τ) R.a1 fullShare x.x0 ∗
      owns (c : Thread nD τ) R.a2 fullShare x.x1 ∗
      owns (c : Thread nD τ) R.a3 fullShare x.x2 ∗
      owns (c : Thread nD τ) R.a4 fullShare x.x3 ∗
      owns (c : Thread nD τ) R.a5 fullShare x.x4 ∗
      owns (c : Thread nD τ) R.a6 fullShare x.x5 ∗
      owns (c : Thread nD τ) R.a7 fullShare x.x6 ∗
      owns (c : Thread nD τ) R.a8 fullShare x.x7 ∗
      owns (c : Thread nD τ) R.a9 fullShare x.x8 ∗
      owns (c : Thread nD τ) R.a10 fullShare x.x9 ∗
      owns (c : Thread nD τ) R.a11 fullShare a.o10 ∗
      owns (c : Thread nD τ) R.a12 fullShare a.o11 ∗
      owns (c : Thread nD τ) R.a13 fullShare a.o12 ∗
      (∃ d, owns (c : Thread nD τ) R.a14 fullShare d) ∗
      (∃ d, owns (c : Thread nD τ) R.a15 fullShare d) ∗
      (∃ d, owns (c : Thread nD τ) R.a16 fullShare d) ∗
      (∃ d, owns (c : Thread nD τ) R.a17 fullShare d) ∗
      (∃ d, owns (c : Thread nD τ) R.a18 fullShare d) ∗
      (∃ d, owns (c : Thread nD τ) R.a19 fullShare d) ∗
      (∃ d, owns (c : Thread nD τ) R.a20 fullShare d) ∗
      (∃ d, owns (c : Thread nD τ) R.a21 fullShare d) ∗
      (iprop(owns (c : Thread nD τ) R.a1 fullShare x.x0 ∗
      owns (c : Thread nD τ) R.a2 fullShare x.x1 ∗
      owns (c : Thread nD τ) R.a3 fullShare x.x2 ∗
      owns (c : Thread nD τ) R.a4 fullShare x.x3 ∗
      owns (c : Thread nD τ) R.a5 fullShare x.x4 ∗
      owns (c : Thread nD τ) R.a6 fullShare x.x5 ∗
      owns (c : Thread nD τ) R.a7 fullShare x.x6 ∗
      owns (c : Thread nD τ) R.a8 fullShare x.x7 ∗
      owns (c : Thread nD τ) R.a9 fullShare x.x8 ∗
      owns (c : Thread nD τ) R.a10 fullShare x.x9 ∗
      owns (c : Thread nD τ) R.a11 fullShare o.o10 ∗
      owns (c : Thread nD τ) R.a12 fullShare o.o11 ∗
      owns (c : Thread nD τ) R.a13 fullShare o.o12 ∗
      owns (c : Thread nD τ) R.a14 fullShare o.o13 ∗
      owns (c : Thread nD τ) R.a15 fullShare o.o14 ∗
      owns (c : Thread nD τ) R.a16 fullShare o.o15 ∗
      owns (c : Thread nD τ) R.a17 fullShare o.o16 ∗
      owns (c : Thread nD τ) R.a18 fullShare o.o17 ∗
      owns (c : Thread nD τ) R.a19 fullShare o.o18 ∗
      owns (c : Thread nD τ) R.a20 fullShare o.o19 ∗
      (∃ d, owns (c : Thread nD τ) R.a21 fullShare d)) -∗ K ⟨⟩))
      ⊢ wp frame (wpE (defs₀ (F := F)) Variants.none c none) E (bodyOn i R) K

/-- A buffer that was written all over holds what its writes say. -/
theorem owns_canon {sp s e} (c : Dev nD) (M : Memref sig .tc sp s e) (L : List (View.Piece (Elt F) s e))
    (h : ∀ y, ∃ p ∈ L, y ∈ p.1.set) :
    iprop(∃ f, M.view.loc (c : Thread nD τ) ↦[M.view.set]{fullShare} M.view.writes (Elt F) f L) ⊢
      (owns (c : Thread nD τ) M fullShare (View.canon L) : sProp 𝕄) := by
  iintro ⟨%f, H⟩
  unfold owns; iexists _; isplitr; swap; · iexact H
  ipureintro; exact View.read_writes_eq_canon _ _ _ h

set_option maxHeartbeats 1600000 in
/-- Pieces that reach every place leave what they say. -/
theorem Writes.leaves {c : Dev nD} {i : grid0.Coords} {R : Refs} {x : Ins F} {a : Acc F} {L : Pcs F}
    (h : Writes c i R x a L) (k : L.Covers) : Leaves c i R x a L.out := by
  intro E K
  iintro ⟨H0, H1, H2, H3, H4, H5, H6, H7, H8, H9, H10, H11, H12, H13, H14, H15, H16, H17, H18, H19, HS, Hk⟩
  iapply (h E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [HS]; · iexact HS
  iintro ⟨H0, H1, H2, H3, H4, H5, H6, H7, H8, H9, H10, H11, H12, H13, H14, H15, H16, H17, H18, H19, ⟨%s, HS⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (owns_canon c R.a11 L.l10 k.c10); iexact H10
  isplitl [H11]; · iapply (owns_canon c R.a12 L.l11 k.c11); iexact H11
  isplitl [H12]; · iapply (owns_canon c R.a13 L.l12 k.c12); iexact H12
  isplitl [H13]; · iapply (owns_canon c R.a14 L.l13 k.c13); iexact H13
  isplitl [H14]; · iapply (owns_canon c R.a15 L.l14 k.c14); iexact H14
  isplitl [H15]; · iapply (owns_canon c R.a16 L.l15 k.c15); iexact H15
  isplitl [H16]; · iapply (owns_canon c R.a17 L.l16 k.c16); iexact H16
  isplitl [H17]; · iapply (owns_canon c R.a18 L.l17 k.c17); iexact H17
  isplitl [H18]; · iapply (owns_canon c R.a19 L.l18 k.c18); iexact H18
  isplitl [H19]; · iapply (owns_canon c R.a20 L.l19 k.c19); iexact H19
  iexists R.a21.view.read (Elt F) s; unfold owns; iexists _; isplitr; swap; · iexact HS
  ipureintro; exact rfl

end Cert.Kernel2Ideal.Run
-- ==== Proof.HRunF.lean ====
module

public import proofs.«01_k».proof.Proof.HBufs

/-! The second call's body at the first point. -/

@[expose] public section

set_option maxRecDepth 16384

noncomputable section

namespace Cert.Kernel2Ideal.Run

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- What the body writes at the first point. -/
def runF (c : Dev nD) (i : grid0.Coords) (R : Refs) (x : Ins F) (h : condF i) (h' : ¬condL i) :
    { L : Pcs F // ∀ a : Acc F, Writes c i R x a L } := by
  refine ⟨⟨?_, ?_, ?_, ?_, ?_, ?_, ?_, ?_, ?_, ?_⟩, ?run⟩
  case run =>
    intro a E K
    dsimp only
    simp only [bodyOn, cc0_out_fwd_bwd_eq_skeleton]; unfold cc0_out_fwd_bwd_skel
    simp only [k0_part1_eq_skeleton, k0_part2_eq_skeleton, k0_part3_eq_skeleton, k0_part4_eq_skeleton,
      k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
    obtain rfl := R.h1.eq_unread hf0
    obtain rfl := R.h2.eq_unread hf1
    obtain rfl := R.h3.eq_unread hf2
    obtain rfl := R.h4.eq_unread hf3
    obtain rfl := R.h5.eq_unread hf4
    obtain rfl := R.h6.eq_unread hf5
    obtain rfl := R.h7.eq_unread hf6
    obtain rfl := R.h8.eq_unread hf7
    obtain rfl := R.h9.eq_unread hf8
    obtain rfl := R.h10.eq_unread hf9
    obtain rfl := R.h11.eq_unread hf10
    obtain rfl := R.h12.eq_unread hf11
    obtain rfl := R.h13.eq_unread hf12
    sl_exec (disch := first | sl_exact h | sl_exact h')
    sl_step
    iapply Hk
    isplitl [H0]
    · iexists _; isplitr; · ipureintro; exact R.h1.read_unread _
      iexact H0
    isplitl [H1]
    · iexists _; isplitr; · ipureintro; exact R.h2.read_unread _
      iexact H1
    isplitl [H2]
    · iexists _; isplitr; · ipureintro; exact R.h3.read_unread _
      iexact H2
    isplitl [H3]
    · iexists _; isplitr; · ipureintro; exact R.h4.read_unread _
      iexact H3
    isplitl [H4]
    · iexists _; isplitr; · ipureintro; exact R.h5.read_unread _
      iexact H4
    isplitl [H5]
    · iexists _; isplitr; · ipureintro; exact R.h6.read_unread _
      iexact H5
    isplitl [H6]
    · iexists _; isplitr; · ipureintro; exact R.h7.read_unread _
      iexact H6
    isplitl [H7]
    · iexists _; isplitr; · ipureintro; exact R.h8.read_unread _
      iexact H7
    isplitl [H8]
    · iexists _; isplitr; · ipureintro; exact R.h9.read_unread _
      iexact H8
    isplitl [H9]
    · iexists _; isplitr; · ipureintro; exact R.h10.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H20

end Cert.Kernel2Ideal.Run
-- ==== Proof.HRunM.lean ====
module

public import proofs.«01_k».proof.Proof.HBufs

/-! The second call's body at a middle point. -/

@[expose] public section

set_option maxRecDepth 16384

noncomputable section

namespace Cert.Kernel2Ideal.Run

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- What the body writes at a middle point. -/
def runM (c : Dev nD) (i : grid0.Coords) (R : Refs) (x : Ins F) (a : Acc F) (h : ¬condF i) (h' : ¬condL i) :
    { L : Pcs F // Writes c i R x a L } := by
  refine ⟨⟨?_, ?_, ?_, ?_, ?_, ?_, ?_, ?_, ?_, ?_⟩, ?run⟩
  case run =>
    intro E K
    dsimp only
    simp only [bodyOn, cc0_out_fwd_bwd_eq_skeleton]; unfold cc0_out_fwd_bwd_skel
    simp only [k0_part1_eq_skeleton, k0_part2_eq_skeleton, k0_part3_eq_skeleton, k0_part4_eq_skeleton,
      k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
    obtain rfl := R.h1.eq_unread hf0
    obtain rfl := R.h2.eq_unread hf1
    obtain rfl := R.h3.eq_unread hf2
    obtain rfl := R.h4.eq_unread hf3
    obtain rfl := R.h5.eq_unread hf4
    obtain rfl := R.h6.eq_unread hf5
    obtain rfl := R.h7.eq_unread hf6
    obtain rfl := R.h8.eq_unread hf7
    obtain rfl := R.h9.eq_unread hf8
    obtain rfl := R.h10.eq_unread hf9
    obtain rfl := R.h11.eq_unread hf10
    obtain rfl := R.h12.eq_unread hf11
    obtain rfl := R.h13.eq_unread hf12
    sl_exec (disch := first | sl_exact h | sl_exact h')
    sl_step
    iapply Hk
    isplitl [H0]
    · iexists _; isplitr; · ipureintro; exact R.h1.read_unread _
      iexact H0
    isplitl [H1]
    · iexists _; isplitr; · ipureintro; exact R.h2.read_unread _
      iexact H1
    isplitl [H2]
    · iexists _; isplitr; · ipureintro; exact R.h3.read_unread _
      iexact H2
    isplitl [H3]
    · iexists _; isplitr; · ipureintro; exact R.h4.read_unread _
      iexact H3
    isplitl [H4]
    · iexists _; isplitr; · ipureintro; exact R.h5.read_unread _
      iexact H4
    isplitl [H5]
    · iexists _; isplitr; · ipureintro; exact R.h6.read_unread _
      iexact H5
    isplitl [H6]
    · iexists _; isplitr; · ipureintro; exact R.h7.read_unread _
      iexact H6
    isplitl [H7]
    · iexists _; isplitr; · ipureintro; exact R.h8.read_unread _
      iexact H7
    isplitl [H8]
    · iexists _; isplitr; · ipureintro; exact R.h9.read_unread _
      iexact H8
    isplitl [H9]
    · iexists _; isplitr; · ipureintro; exact R.h10.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H20

end Cert.Kernel2Ideal.Run
-- ==== Proof.HRunL.lean ====
module

public import proofs.«01_k».proof.Proof.HBufs

/-! The second call's body at the last point. -/

@[expose] public section

set_option maxRecDepth 16384

noncomputable section

namespace Cert.Kernel2Ideal.Run

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- What the body writes at the last point. -/
def runL (c : Dev nD) (i : grid0.Coords) (R : Refs) (x : Ins F) (a : Acc F) (h : ¬condF i) (h' : condL i) :
    { L : Pcs F // Writes c i R x a L } := by
  refine ⟨⟨?_, ?_, ?_, ?_, ?_, ?_, ?_, ?_, ?_, ?_⟩, ?run⟩
  case run =>
    intro E K
    dsimp only
    simp only [bodyOn, cc0_out_fwd_bwd_eq_skeleton]; unfold cc0_out_fwd_bwd_skel
    simp only [k0_part1_eq_skeleton, k0_part2_eq_skeleton, k0_part3_eq_skeleton, k0_part4_eq_skeleton,
      k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
    obtain rfl := R.h1.eq_unread hf0
    obtain rfl := R.h2.eq_unread hf1
    obtain rfl := R.h3.eq_unread hf2
    obtain rfl := R.h4.eq_unread hf3
    obtain rfl := R.h5.eq_unread hf4
    obtain rfl := R.h6.eq_unread hf5
    obtain rfl := R.h7.eq_unread hf6
    obtain rfl := R.h8.eq_unread hf7
    obtain rfl := R.h9.eq_unread hf8
    obtain rfl := R.h10.eq_unread hf9
    obtain rfl := R.h11.eq_unread hf10
    obtain rfl := R.h12.eq_unread hf11
    obtain rfl := R.h13.eq_unread hf12
    sl_exec (disch := first | sl_exact h | sl_exact h')
    sl_step
    iapply Hk
    isplitl [H0]
    · iexists _; isplitr; · ipureintro; exact R.h1.read_unread _
      iexact H0
    isplitl [H1]
    · iexists _; isplitr; · ipureintro; exact R.h2.read_unread _
      iexact H1
    isplitl [H2]
    · iexists _; isplitr; · ipureintro; exact R.h3.read_unread _
      iexact H2
    isplitl [H3]
    · iexists _; isplitr; · ipureintro; exact R.h4.read_unread _
      iexact H3
    isplitl [H4]
    · iexists _; isplitr; · ipureintro; exact R.h5.read_unread _
      iexact H4
    isplitl [H5]
    · iexists _; isplitr; · ipureintro; exact R.h6.read_unread _
      iexact H5
    isplitl [H6]
    · iexists _; isplitr; · ipureintro; exact R.h7.read_unread _
      iexact H6
    isplitl [H7]
    · iexists _; isplitr; · ipureintro; exact R.h8.read_unread _
      iexact H7
    isplitl [H8]
    · iexists _; isplitr; · ipureintro; exact R.h9.read_unread _
      iexact H8
    isplitl [H9]
    · iexists _; isplitr; · ipureintro; exact R.h10.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _; iexact H20

end Cert.Kernel2Ideal.Run
-- ==== Proof.HBody.lean ====
module

public import proofs.«01_k».proof.Proof.HRunF
public import proofs.«01_k».proof.Proof.HRunM
public import proofs.«01_k».proof.Proof.HRunL
public import proofs.«01_k».proof.Proof.Gen.Kernel2Ideal.Frame
public import Idealize.ShloMosaic.Lib.Claim

/-! What the second call's buffers hold after each point, and the run of the whole call. -/

@[expose] public section

set_option maxRecDepth 16384

noncomputable section

namespace Cert.Kernel2Ideal.Run

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The runs reach every place of the outputs -/

/-- Among the pieces are the eight that hold every eighth row. -/
def eighths (L : List (View.Piece (Elt F) S2048x128 .f32)) : Bool :=
  (List.range 8).all fun k => L.any fun p =>
    p.1.off (0 : Fin 2) == k && p.1.off (1 : Fin 2) == 0 && p.1.size (0 : Fin 2) == 256 &&
    p.1.size (1 : Fin 2) == 128 && p.1.stride (0 : Fin 2) == 8 && p.1.stride (1 : Fin 2) == 1

theorem cover_of_eighths (L : List (View.Piece (Elt F) S2048x128 .f32)) (h : eighths L = true) :
    ∀ y, ∃ p ∈ L, y ∈ p.1.set := by
  intro y
  have h0 : (y (0 : Fin 2)).val < 2048 := (y (0 : Fin 2)).isLt
  have h1 : (y (1 : Fin 2)).val < 128 := (y (1 : Fin 2)).isLt
  obtain ⟨p, hp, e⟩ := List.any_eq_true.1 (List.all_eq_true.1 h ((y (0 : Fin 2)).val % 8) (List.mem_range.2 (Nat.mod_lt _ (by decide))))
  simp only [Bool.and_eq_true, beq_iff_eq] at e
  obtain ⟨⟨⟨⟨⟨e0, e1⟩, e2⟩, e3⟩, e4⟩, e5⟩ := e
  refine ⟨p, hp, p.1.mem_set.2 fun a => ?_⟩
  match a with
  | (0 : Fin 2) => exact ⟨(y (0 : Fin 2)).val / 8, by rw [e2]; omega, by rw [e0, e4]; omega⟩
  | (1 : Fin 2) => exact ⟨(y (1 : Fin 2)).val, by rw [e3]; omega, by rw [e1, e5]; omega⟩

section
variable (c : Dev nD) (i : grid0.Coords) (R : Refs) (x : Ins F)

set_option maxHeartbeats 4000000 in
theorem covF (h : condF i) (h' : ¬condL i) : (runF c i R x h h').1.Covers where
  c10 := View.cover_of_tiledL _ S1x1024.size (by sl_kernel_rfl)
  c11 := View.cover_of_tiledL _ S1x1024.size (by sl_kernel_rfl)
  c12 := View.cover_of_tiledL _ S1x1024.size (by sl_kernel_rfl)
  c13 := View.cover_of_tiledL _ S256x1024.size (by sl_kernel_rfl)
  c14 := View.cover_of_tiledL _ ![256, 1024] (by sl_kernel_rfl)
  c15 := View.cover_of_tiledL _ S256x1024.size (by sl_kernel_rfl)
  c16 := View.cover_of_tiledL _ S256x1024.size (by sl_kernel_rfl)
  c17 := View.cover_of_tiledL _ S256x1024.size (by sl_kernel_rfl)
  c18 := cover_of_eighths _ (by sl_kernel_rfl)
  c19 := View.cover_of_tiledL _ S256x1024.size (by sl_kernel_rfl)

set_option maxHeartbeats 4000000 in
theorem covM (a : Acc F) (h : ¬condF i) (h' : ¬condL i) : (runM c i R x a h h').1.Covers where
  c10 := View.cover_of_tiledL _ S1x1024.size (by sl_kernel_rfl)
  c11 := View.cover_of_tiledL _ S1x1024.size (by sl_kernel_rfl)
  c12 := View.cover_of_tiledL _ S1x1024.size (by sl_kernel_rfl)
  c13 := View.cover_of_tiledL _ S256x1024.size (by sl_kernel_rfl)
  c14 := View.cover_of_tiledL _ ![256, 1024] (by sl_kernel_rfl)
  c15 := View.cover_of_tiledL _ S256x1024.size (by sl_kernel_rfl)
  c16 := View.cover_of_tiledL _ S256x1024.size (by sl_kernel_rfl)
  c17 := View.cover_of_tiledL _ S256x1024.size (by sl_kernel_rfl)
  c18 := cover_of_eighths _ (by sl_kernel_rfl)
  c19 := View.cover_of_tiledL _ S256x1024.size (by sl_kernel_rfl)

set_option maxHeartbeats 4000000 in
theorem covL (a : Acc F) (h : ¬condF i) (h' : condL i) : (runL c i R x a h h').1.Covers where
  c10 := View.cover_of_tiledL _ S1x1024.size (by sl_kernel_rfl)
  c11 := View.cover_of_tiledL _ S1x1024.size (by sl_kernel_rfl)
  c12 := View.cover_of_tiledL _ S1x1024.size (by sl_kernel_rfl)
  c13 := View.cover_of_tiledL _ S256x1024.size (by sl_kernel_rfl)
  c14 := View.cover_of_tiledL _ ![256, 1024] (by sl_kernel_rfl)
  c15 := View.cover_of_tiledL _ S256x1024.size (by sl_kernel_rfl)
  c16 := View.cover_of_tiledL _ S256x1024.size (by sl_kernel_rfl)
  c17 := View.cover_of_tiledL _ S256x1024.size (by sl_kernel_rfl)
  c18 := cover_of_eighths _ (by sl_kernel_rfl)
  c19 := View.cover_of_tiledL _ S256x1024.size (by sl_kernel_rfl)

end

/-! ## The points -/

theorem lt8 (t : Fin cfg0.N) : t.val < 8 := Nat.lt_of_lt_of_eq t.isLt N_0

theorem condF_iff : ∀ t : Fin cfg0.N, condF (grid0.coords t) ↔ t.val = 0 :=
  (by decide +kernel : ∀ t : Fin grid0.N, condF (grid0.coords t) ↔ t.val = 0)
theorem condL_iff : ∀ t : Fin cfg0.N, condL (grid0.coords t) ↔ t.val = 7 :=
  (by decide +kernel : ∀ t : Fin grid0.N, condL (grid0.coords t) ↔ t.val = 7)

theorem isF (t : Fin cfg0.N) (h : t.val = 0) : condF (grid0.coords t) := (condF_iff t).2 h
theorem notF (t : Fin cfg0.N) (h : t.val ≠ 0) : ¬condF (grid0.coords t) := fun e => h ((condF_iff t).1 e)
theorem isL (t : Fin cfg0.N) (h : t.val = 7) : condL (grid0.coords t) := (condL_iff t).2 h
theorem notL (t : Fin cfg0.N) (h : t.val ≠ 7) : ¬condL (grid0.coords t) := fun e => h ((condL_iff t).1 e)
theorem notL0 (t : Fin cfg0.N) (h : t.val = 0) : ¬condL (grid0.coords t) := notL t (by omega)

/-- The buffers of one point. -/
def refsAt (t : Fin cfg0.N) : Refs where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := win0_6.stage (cfg0.slots t 6)
  h7 := hstage0_6 ((cfg0.slots t 6).cast nbuf0_6)
  a8 := win0_7.stage (cfg0.slots t 7)
  h8 := hstage0_7 ((cfg0.slots t 7).cast nbuf0_7)
  a9 := win0_8.stage (cfg0.slots t 8)
  h9 := hstage0_8 ((cfg0.slots t 8).cast nbuf0_8)
  a10 := win0_9.stage (cfg0.slots t 9)
  h10 := hstage0_9 ((cfg0.slots t 9).cast nbuf0_9)
  a11 := win0_10.stage (cfg0.slots t 10)
  h11 := hstage0_10 ((cfg0.slots t 10).cast nbuf0_10)
  a12 := win0_11.stage (cfg0.slots t 11)
  h12 := hstage0_11 ((cfg0.slots t 11).cast nbuf0_11)
  a13 := win0_12.stage (cfg0.slots t 12)
  h13 := hstage0_12 ((cfg0.slots t 12).cast nbuf0_12)
  a14 := win0_13.stage (cfg0.slots t 13)
  h14 := hstage0_13 ((cfg0.slots t 13).cast nbuf0_13)
  a15 := win0_14.stage (cfg0.slots t 14)
  h15 := hstage0_14 ((cfg0.slots t 14).cast nbuf0_14)
  a16 := win0_15.stage (cfg0.slots t 15)
  h16 := hstage0_15 ((cfg0.slots t 15).cast nbuf0_15)
  a17 := win0_16.stage (cfg0.slots t 16)
  h17 := hstage0_16 ((cfg0.slots t 16).cast nbuf0_16)
  a18 := win0_17.stage (cfg0.slots t 17)
  h18 := hstage0_17 ((cfg0.slots t 17).cast nbuf0_17)
  a19 := win0_18.stage (cfg0.slots t 18)
  h19 := hstage0_18 ((cfg0.slots t 18).cast nbuf0_18)
  a20 := win0_19.stage (cfg0.slots t 19)
  h20 := hstage0_19 ((cfg0.slots t 19).cast nbuf0_19)
  a21 := Memref.whole cc0_scratch0
  h21 := Memref.isWhole_whole _

/-- What one point leaves, from what the accumulators held. -/
def step (c : Dev nD) (t : Fin cfg0.N) (x : Ins F) (a : Acc F) : Out F :=
  if h : t.val = 0 then (runF c (grid0.coords t) (refsAt t) x (isF t h) (notL0 t h)).1.out
  else if h' : t.val = 7 then (runL c (grid0.coords t) (refsAt t) x a (notF t h) (isL t h')).1.out
  else (runM c (grid0.coords t) (refsAt t) x a (notF t h) (notL t h')).1.out

theorem step_first (c : Dev nD) (t : Fin cfg0.N) (x : Ins F) (a b : Acc F) (h : t.val = 0) :
    step c t x a = step c t x b := by
  unfold step; rw [dif_pos h, dif_pos h]

theorem step_leaves (c : Dev nD) (t : Fin cfg0.N) (x : Ins F) (a : Acc F) :
    Leaves c (grid0.coords t) (refsAt t) x a (step c t x a) := by
  unfold step
  by_cases h : t.val = 0
  · rw [dif_pos h]; exact ((runF c (grid0.coords t) (refsAt t) x (isF t h) (notL0 t h)).2 a).leaves (covF ..)
  · rw [dif_neg h]
    by_cases h' : t.val = 7
    · rw [dif_pos h']; exact (runL c (grid0.coords t) (refsAt t) x a (notF t h) (isL t h')).2.leaves (covL ..)
    · rw [dif_neg h']; exact (runM c (grid0.coords t) (refsAt t) x a (notF t h) (notL t h')).2.leaves (covM ..)

variable (m : (ℓ : Loc nD τ sig) → Buf (Elt F) ℓ)

/-- The input blocks of one point. -/
def insAt (c : Dev nD) (t : Fin cfg0.N) : Ins F where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t

/-- The accumulators before the first point: any contents do. -/
def acc0 (x : Ins F) : Acc F := ⟨x.x8, x.x8, x.x8⟩

/-- What the output buffers hold after point `n`. -/
def outs (c : Dev nD) : (n : ℕ) → n < cfg0.N → Out F
  | 0, h => step c ⟨0, h⟩ (insAt m c ⟨0, h⟩) (acc0 (insAt m c ⟨0, h⟩))
  | n + 1, h => step c ⟨n + 1, h⟩ (insAt m c ⟨n + 1, h⟩) (outs c n (Nat.lt_of_succ_lt h)).acc

/-- What the point before left in the accumulators. -/
abbrev prev (c : Dev nD) (t : Fin cfg0.N) : Acc F :=
  (outs m c (t.val - 1) (Nat.lt_of_le_of_lt (Nat.sub_le _ _) t.isLt)).acc

theorem outs_first (c : Dev nD) (t : Fin cfg0.N) (h : t.val = 0) (a : Acc F) :
    outs m c t.val t.isLt = step c t (insAt m c t) a := by
  obtain ⟨n, hn⟩ := t
  cases n with
  | zero => exact step_first c _ _ _ _ rfl
  | succ n => exact absurd h (Nat.succ_ne_zero n)

theorem outs_later (c : Dev nD) (t : Fin cfg0.N) (h : t.val ≠ 0) :
    outs m c t.val t.isLt = step c t (insAt m c t) (prev m c t) := by
  obtain ⟨n, hn⟩ := t
  cases n with
  | zero => exact absurd rfl h
  | succ n => exact rfl

/-- The proof data of the region: each input block stays, each output holds what `outs` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outs m c t.val t.isLt).o10
    | ⟨11, _⟩ => (outs m c t.val t.isLt).o11
    | ⟨12, _⟩ => (outs m c t.val t.isLt).o12
    | ⟨13, _⟩ => (outs m c t.val t.isLt).o13
    | ⟨14, _⟩ => (outs m c t.val t.isLt).o14
    | ⟨15, _⟩ => (outs m c t.val t.isLt).o15
    | ⟨16, _⟩ => (outs m c t.val t.isLt).o16
    | ⟨17, _⟩ => (outs m c t.val t.isLt).o17
    | ⟨18, _⟩ => (outs m c t.val t.isLt).o18
    | ⟨19, _⟩ => (outs m c t.val t.isLt).o19
    | ⟨_ + 20, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) :
    (dats m 0 c).after 10 t = (outs m c t.val t.isLt).o10 := by dsimp only [dats]
theorem after11 (c : Dev nD) (t : Fin cfg0.N) :
    (dats m 0 c).after 11 t = (outs m c t.val t.isLt).o11 := by dsimp only [dats]
theorem after12 (c : Dev nD) (t : Fin cfg0.N) :
    (dats m 0 c).after 12 t = (outs m c t.val t.isLt).o12 := by dsimp only [dats]
theorem after13 (c : Dev nD) (t : Fin cfg0.N) :
    (dats m 0 c).after 13 t = (outs m c t.val t.isLt).o13 := by dsimp only [dats]
theorem after14 (c : Dev nD) (t : Fin cfg0.N) :
    (dats m 0 c).after 14 t = (outs m c t.val t.isLt).o14 := by dsimp only [dats]
theorem after15 (c : Dev nD) (t : Fin cfg0.N) :
    (dats m 0 c).after 15 t = (outs m c t.val t.isLt).o15 := by dsimp only [dats]
theorem after16 (c : Dev nD) (t : Fin cfg0.N) :
    (dats m 0 c).after 16 t = (outs m c t.val t.isLt).o16 := by dsimp only [dats]
theorem after17 (c : Dev nD) (t : Fin cfg0.N) :
    (dats m 0 c).after 17 t = (outs m c t.val t.isLt).o17 := by dsimp only [dats]
theorem after18 (c : Dev nD) (t : Fin cfg0.N) :
    (dats m 0 c).after 18 t = (outs m c t.val t.isLt).o18 := by dsimp only [dats]
theorem after19 (c : Dev nD) (t : Fin cfg0.N) :
    (dats m 0 c).after 19 t = (outs m c t.val t.isLt).o19 := by dsimp only [dats]

/-! ## What a point finds and leaves in each window's buffer -/

/-- An accumulator's buffer is new before the first point and after its write-back at the last. -/
def newAt : ℕ → Bool
  | 0 => true
  | n + 1 => (0x80 : ℕ).testBit n

theorem newAt_later : ∀ t : Fin cfg0.N, t.val ≠ 0 → newAt t.val = false := by decide +kernel

theorem prior10 (c : Dev nD) (t : Fin cfg0.N) (h : t.val ≠ 0) (d) : (dats m 0 c).before 10 t d = (prev m c t).o10 := by
  rw [Dat.before_out_traj _ 10 rfl (fun _ _ => rfl) (fun _ _ hi _ => absurd hi Bool.false_ne_true) t.val t rfl d,
    if_neg (by rw [(Pipeline.Cfg.fresh_tab cfg0 10 newAt rfl (by decide +kernel) t.val (Nat.le_of_lt t.isLt)).trans (newAt_later t h)]
               exact Bool.false_ne_true)]
  dsimp only [dats, prev, Out.acc]
theorem prior11 (c : Dev nD) (t : Fin cfg0.N) (h : t.val ≠ 0) (d) : (dats m 0 c).before 11 t d = (prev m c t).o11 := by
  rw [Dat.before_out_traj _ 11 rfl (fun _ _ => rfl) (fun _ _ hi _ => absurd hi Bool.false_ne_true) t.val t rfl d,
    if_neg (by rw [(Pipeline.Cfg.fresh_tab cfg0 11 newAt rfl (by decide +kernel) t.val (Nat.le_of_lt t.isLt)).trans (newAt_later t h)]
               exact Bool.false_ne_true)]
  dsimp only [dats, prev, Out.acc]
theorem prior12 (c : Dev nD) (t : Fin cfg0.N) (h : t.val ≠ 0) (d) : (dats m 0 c).before 12 t d = (prev m c t).o12 := by
  rw [Dat.before_out_traj _ 12 rfl (fun _ _ => rfl) (fun _ _ hi _ => absurd hi Bool.false_ne_true) t.val t rfl d,
    if_neg (by rw [(Pipeline.Cfg.fresh_tab cfg0 12 newAt rfl (by decide +kernel) t.val (Nat.le_of_lt t.isLt)).trans (newAt_later t h)]
               exact Bool.false_ne_true)]
  dsimp only [dats, prev, Out.acc]
theorem pre0 (c : Dev nD) (t : Fin cfg0.N) (d) : (dats m 0 c).before 0 t d = (insAt m c t).x0 :=
  before0_0_of m (dats m 0 c) (A_eq m c 0) (after0 m c) t d
theorem pre1 (c : Dev nD) (t : Fin cfg0.N) (d) : (dats m 0 c).before 1 t d = (insAt m c t).x1 :=
  before0_1_of m (dats m 0 c) (A_eq m c 1) (after1 m c) t d
theorem pre2 (c : Dev nD) (t : Fin cfg0.N) (d) : (dats m 0 c).before 2 t d = (insAt m c t).x2 :=
  before0_2_of m (dats m 0 c) (A_eq m c 2) (after2 m c) t d
theorem pre3 (c : Dev nD) (t : Fin cfg0.N) (d) : (dats m 0 c).before 3 t d = (insAt m c t).x3 :=
  before0_3_of m (dats m 0 c) (A_eq m c 3) (after3 m c) t d
theorem pre4 (c : Dev nD) (t : Fin cfg0.N) (d) : (dats m 0 c).before 4 t d = (insAt m c t).x4 :=
  before0_4_of m (dats m 0 c) (A_eq m c 4) (after4 m c) t d
theorem pre5 (c : Dev nD) (t : Fin cfg0.N) (d) : (dats m 0 c).before 5 t d = (insAt m c t).x5 :=
  before0_5_of m (dats m 0 c) (A_eq m c 5) (after5 m c) t d
theorem pre6 (c : Dev nD) (t : Fin cfg0.N) (d) : (dats m 0 c).before 6 t d = (insAt m c t).x6 :=
  before0_6_of m (dats m 0 c) (A_eq m c 6) (after6 m c) t d
theorem pre7 (c : Dev nD) (t : Fin cfg0.N) (d) : (dats m 0 c).before 7 t d = (insAt m c t).x7 :=
  before0_7_of m (dats m 0 c) (A_eq m c 7) (after7 m c) t d
theorem pre8 (c : Dev nD) (t : Fin cfg0.N) (d) : (dats m 0 c).before 8 t d = (insAt m c t).x8 :=
  before0_8_of m (dats m 0 c) (A_eq m c 8) (after8 m c) t d
theorem pre9 (c : Dev nD) (t : Fin cfg0.N) (d) : (dats m 0 c).before 9 t d = (insAt m c t).x9 :=
  before0_9_of m (dats m 0 c) (A_eq m c 9) (after9 m c) t d

theorem leaves_live {c : Dev nD} (dat : Dat τ (Elt F) Unit ℕ (UR sig nD τ) ℕ cfg0 c) (w : Fin cfg0.W) (t : Fin cfg0.N)
    (h : cfg0.idle w (cfg0.grid.coords t) = false) : (dat.leavesExact w t : sProp 𝕄) =
      owns (c : Thread nD τ) ((cfg0.win w).stage (cfg0.slots t w)) fullShare (dat.after w t) := by
  unfold Dat.leavesExact; rw [h]

theorem post0 (c : Dev nD) (t : Fin cfg0.N) : ((dats m 0 c).leavesExact 0 t : sProp 𝕄) =
    owns (c : Thread nD τ) (refsAt t).a1 fullShare (insAt m c t).x0 :=
  (leaves_live (dats m 0 c) 0 t rfl).trans (by rw [after0]; exact rfl)
theorem post1 (c : Dev nD) (t : Fin cfg0.N) : ((dats m 0 c).leavesExact 1 t : sProp 𝕄) =
    owns (c : Thread nD τ) (refsAt t).a2 fullShare (insAt m c t).x1 :=
  (leaves_live (dats m 0 c) 1 t rfl).trans (by rw [after1]; exact rfl)
theorem post2 (c : Dev nD) (t : Fin cfg0.N) : ((dats m 0 c).leavesExact 2 t : sProp 𝕄) =
    owns (c : Thread nD τ) (refsAt t).a3 fullShare (insAt m c t).x2 :=
  (leaves_live (dats m 0 c) 2 t rfl).trans (by rw [after2]; exact rfl)
theorem post3 (c : Dev nD) (t : Fin cfg0.N) : ((dats m 0 c).leavesExact 3 t : sProp 𝕄) =
    owns (c : Thread nD τ) (refsAt t).a4 fullShare (insAt m c t).x3 :=
  (leaves_live (dats m 0 c) 3 t rfl).trans (by rw [after3]; exact rfl)
theorem post4 (c : Dev nD) (t : Fin cfg0.N) : ((dats m 0 c).leavesExact 4 t : sProp 𝕄) =
    owns (c : Thread nD τ) (refsAt t).a5 fullShare (insAt m c t).x4 :=
  (leaves_live (dats m 0 c) 4 t rfl).trans (by rw [after4]; exact rfl)
theorem post5 (c : Dev nD) (t : Fin cfg0.N) : ((dats m 0 c).leavesExact 5 t : sProp 𝕄) =
    owns (c : Thread nD τ) (refsAt t).a6 fullShare (insAt m c t).x5 :=
  (leaves_live (dats m 0 c) 5 t rfl).trans (by rw [after5]; exact rfl)
theorem post6 (c : Dev nD) (t : Fin cfg0.N) : ((dats m 0 c).leavesExact 6 t : sProp 𝕄) =
    owns (c : Thread nD τ) (refsAt t).a7 fullShare (insAt m c t).x6 :=
  (leaves_live (dats m 0 c) 6 t rfl).trans (by rw [after6]; exact rfl)
theorem post7 (c : Dev nD) (t : Fin cfg0.N) : ((dats m 0 c).leavesExact 7 t : sProp 𝕄) =
    owns (c : Thread nD τ) (refsAt t).a8 fullShare (insAt m c t).x7 :=
  (leaves_live (dats m 0 c) 7 t rfl).trans (by rw [after7]; exact rfl)
theorem post8 (c : Dev nD) (t : Fin cfg0.N) : ((dats m 0 c).leavesExact 8 t : sProp 𝕄) =
    owns (c : Thread nD τ) (refsAt t).a9 fullShare (insAt m c t).x8 :=
  (leaves_live (dats m 0 c) 8 t rfl).trans (by rw [after8]; exact rfl)
theorem post9 (c : Dev nD) (t : Fin cfg0.N) : ((dats m 0 c).leavesExact 9 t : sProp 𝕄) =
    owns (c : Thread nD τ) (refsAt t).a10 fullShare (insAt m c t).x9 :=
  (leaves_live (dats m 0 c) 9 t rfl).trans (by rw [after9]; exact rfl)
theorem post10 (c : Dev nD) (t : Fin cfg0.N) : ((dats m 0 c).leavesExact 10 t : sProp 𝕄) =
    owns (c : Thread nD τ) (refsAt t).a11 fullShare (outs m c t.val t.isLt).o10 :=
  (leaves_live (dats m 0 c) 10 t rfl).trans (by rw [after10]; exact rfl)
theorem post11 (c : Dev nD) (t : Fin cfg0.N) : ((dats m 0 c).leavesExact 11 t : sProp 𝕄) =
    owns (c : Thread nD τ) (refsAt t).a12 fullShare (outs m c t.val t.isLt).o11 :=
  (leaves_live (dats m 0 c) 11 t rfl).trans (by rw [after11]; exact rfl)
theorem post12 (c : Dev nD) (t : Fin cfg0.N) : ((dats m 0 c).leavesExact 12 t : sProp 𝕄) =
    owns (c : Thread nD τ) (refsAt t).a13 fullShare (outs m c t.val t.isLt).o12 :=
  (leaves_live (dats m 0 c) 12 t rfl).trans (by rw [after12]; exact rfl)
theorem post13 (c : Dev nD) (t : Fin cfg0.N) : ((dats m 0 c).leavesExact 13 t : sProp 𝕄) =
    owns (c : Thread nD τ) (refsAt t).a14 fullShare (outs m c t.val t.isLt).o13 :=
  (leaves_live (dats m 0 c) 13 t rfl).trans (by rw [after13]; exact rfl)
theorem post14 (c : Dev nD) (t : Fin cfg0.N) : ((dats m 0 c).leavesExact 14 t : sProp 𝕄) =
    owns (c : Thread nD τ) (refsAt t).a15 fullShare (outs m c t.val t.isLt).o14 :=
  (leaves_live (dats m 0 c) 14 t rfl).trans (by rw [after14]; exact rfl)
theorem post15 (c : Dev nD) (t : Fin cfg0.N) : ((dats m 0 c).leavesExact 15 t : sProp 𝕄) =
    owns (c : Thread nD τ) (refsAt t).a16 fullShare (outs m c t.val t.isLt).o15 :=
  (leaves_live (dats m 0 c) 15 t rfl).trans (by rw [after15]; exact rfl)
theorem post16 (c : Dev nD) (t : Fin cfg0.N) : ((dats m 0 c).leavesExact 16 t : sProp 𝕄) =
    owns (c : Thread nD τ) (refsAt t).a17 fullShare (outs m c t.val t.isLt).o16 :=
  (leaves_live (dats m 0 c) 16 t rfl).trans (by rw [after16]; exact rfl)
theorem post17 (c : Dev nD) (t : Fin cfg0.N) : ((dats m 0 c).leavesExact 17 t : sProp 𝕄) =
    owns (c : Thread nD τ) (refsAt t).a18 fullShare (outs m c t.val t.isLt).o17 :=
  (leaves_live (dats m 0 c) 17 t rfl).trans (by rw [after17]; exact rfl)
theorem post18 (c : Dev nD) (t : Fin cfg0.N) : ((dats m 0 c).leavesExact 18 t : sProp 𝕄) =
    owns (c : Thread nD τ) (refsAt t).a19 fullShare (outs m c t.val t.isLt).o18 :=
  (leaves_live (dats m 0 c) 18 t rfl).trans (by rw [after18]; exact rfl)
theorem post19 (c : Dev nD) (t : Fin cfg0.N) : ((dats m 0 c).leavesExact 19 t : sProp 𝕄) =
    owns (c : Thread nD τ) (refsAt t).a20 fullShare (outs m c t.val t.isLt).o19 :=
  (leaves_live (dats m 0 c) 19 t rfl).trans (by rw [after19]; exact rfl)

theorem inv_eq (c : Dev nD) : (Pipeline.ΦA spec0 c : sProp 𝕄) =
    iprop((∃ d, owns (c : Thread nD τ) (Memref.whole cc0_scratch0) fullShare d) ∗ (∃ r, prngReg c r)) := by
  unfold Pipeline.ΦA; rw [scopedRest0_eq]; simp only [owns_whole]; try rfl

/-- What the body is given at a point. -/
def givenAt (c : Dev nD) (t : Fin cfg0.N) : sProp 𝕄 :=
  iprop((dats m 0 c).Φ t.castSucc ∗ (dats m 0 c).owesAt () t.castSucc
    ∗ (∃ d, owns (c : Thread nD τ) (refsAt t).a1 fullShare ((dats m 0 c).before 0 t d))
    ∗ (∃ d, owns (c : Thread nD τ) (refsAt t).a2 fullShare ((dats m 0 c).before 1 t d))
    ∗ (∃ d, owns (c : Thread nD τ) (refsAt t).a3 fullShare ((dats m 0 c).before 2 t d))
    ∗ (∃ d, owns (c : Thread nD τ) (refsAt t).a4 fullShare ((dats m 0 c).before 3 t d))
    ∗ (∃ d, owns (c : Thread nD τ) (refsAt t).a5 fullShare ((dats m 0 c).before 4 t d))
    ∗ (∃ d, owns (c : Thread nD τ) (refsAt t).a6 fullShare ((dats m 0 c).before 5 t d))
    ∗ (∃ d, owns (c : Thread nD τ) (refsAt t).a7 fullShare ((dats m 0 c).before 6 t d))
    ∗ (∃ d, owns (c : Thread nD τ) (refsAt t).a8 fullShare ((dats m 0 c).before 7 t d))
    ∗ (∃ d, owns (c : Thread nD τ) (refsAt t).a9 fullShare ((dats m 0 c).before 8 t d))
    ∗ (∃ d, owns (c : Thread nD τ) (refsAt t).a10 fullShare ((dats m 0 c).before 9 t d))
    ∗ (∃ d, owns (c : Thread nD τ) (refsAt t).a11 fullShare ((dats m 0 c).before 10 t d))
    ∗ (∃ d, owns (c : Thread nD τ) (refsAt t).a12 fullShare ((dats m 0 c).before 11 t d))
    ∗ (∃ d, owns (c : Thread nD τ) (refsAt t).a13 fullShare ((dats m 0 c).before 12 t d))
    ∗ (∃ d, owns (c : Thread nD τ) (refsAt t).a14 fullShare ((dats m 0 c).before 13 t d))
    ∗ (∃ d, owns (c : Thread nD τ) (refsAt t).a15 fullShare ((dats m 0 c).before 14 t d))
    ∗ (∃ d, owns (c : Thread nD τ) (refsAt t).a16 fullShare ((dats m 0 c).before 15 t d))
    ∗ (∃ d, owns (c : Thread nD τ) (refsAt t).a17 fullShare ((dats m 0 c).before 16 t d))
    ∗ (∃ d, owns (c : Thread nD τ) (refsAt t).a18 fullShare ((dats m 0 c).before 17 t d))
    ∗ (∃ d, owns (c : Thread nD τ) (refsAt t).a19 fullShare ((dats m 0 c).before 18 t d))
    ∗ (∃ d, owns (c : Thread nD τ) (refsAt t).a20 fullShare ((dats m 0 c).before 19 t d)))

/-- What it must leave. -/
def leftAt (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t)

set_option maxHeartbeats 6400000 in
/-- The body at a point. -/
theorem body_at (c : Dev nD) (t : Fin cfg0.N)
    (H : ∀ d10 d11 d12, Leaves c (grid0.coords t) (refsAt t) (insAt m c t)
      ⟨(dats m 0 c).before 10 t d10, (dats m 0 c).before 11 t d11, (dats m 0 c).before 12 t d12⟩ (outs m c t.val t.isLt)) :
    givenAt m c t ⊢
    wp frame (wpE (defs₀ (F := F)) Variants.none c none) Set.univ (bodyOn (grid0.coords t) (refsAt t)) (fun _ => leftAt m c t) := by
  unfold givenAt leftAt
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, inv_eq]
  simp only [pre0, pre1, pre2, pre3, pre4, pre5, pre6, pre7, pre8, pre9]
  rw [post0, post1, post2, post3, post4, post5, post6, post7, post8, post9, post10, post11, post12, post13, post14, post15, post16, post17, post18, post19]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (H d10 d11 d12 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [HS]; · iexact HS
  iintro ⟨H0, H1, H2, H3, H4, H5, H6, H7, H8, H9, H10, H11, H12, H13, H14, H15, H16, H17, H18, H19, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem body_all (c : Dev nD) (t : Fin cfg0.N) : givenAt m c t ⊢
    wp frame (wpE (defs₀ (F := F)) Variants.none c none) Set.univ (bodyAt0 t) (fun _ => leftAt m c t) := by
  have e : bodyAt0 t = bodyOn (F := F) (grid0.coords t) (refsAt t) := rfl
  rw [e]
  refine body_at m c t fun d10 d11 d12 => ?_
  by_cases h : t.val = 0
  · rw [outs_first m c t h ⟨(dats m 0 c).before 10 t d10, (dats m 0 c).before 11 t d11, (dats m 0 c).before 12 t d12⟩]
    exact step_leaves (F := F) c t (insAt m c t) _
  · rw [prior10 m c t h, prior11 m c t h, prior12 m c t h, outs_later m c t h]
    exact step_leaves (F := F) c t (insAt m c t) (prev m c t)

/-- The body table's row at a point is the body on that point's buffers. -/
theorem defs₀_row (t : Fin cfg0.N) : defs₀ (F := F) .tc cfg0.body (cfg0.bodyArgs t (cfg0.slots t)) = bodyAt0 t := by
  unfold defs₀; rw [Defs.onTc_tc]

set_option maxHeartbeats 1600000 in
/-- The body's obligation at every point. -/
theorem body_obligation (c : Dev nD) : BodyObligation (dats (F := F) m 0 c) (defs₀ (F := F)) Variants.none () Set.univ := fun t => by
  rw [bigSep_W0, bigSep_W0, defs₀_row]
  have k := body_all m c t
  unfold givenAt leftAt at k
  exact triple_restated k rfl .rfl fun _ => .rfl

variable (ρ : Dev nD → PrngReg)

set_option backward.isDefEq.respectTransparency.types false in
/-- Every run of the program ends with each window's array as the proof data say and every semaphore at nought. -/
theorem run_full : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c w => (dats m 0 c).share_full (fun _ => rfl) w) (howed := fun _ _ => rfl) (V := V m)
    (hmain := hmain m Variants.none) (hA := A_eq m) (hΦ := fun _ _ => rfl)

theorem run_arrays : θ_run defs (onTc (τ := τ) (main (F := F))) (s₀ m ρ) (Pipeline.FramePost cfgs (dats m) 0 (V m)) :=
  (θ_run defs _ _).mono (fun _ h => h.1) (run_full m ρ)

/-- The argument arrays end as they began, and every semaphore at nought. -/
theorem args_kept_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_arrays m ρ)) ((θ_run defs _ _).mono (fun _ h => h.2) (run_full m ρ))

end Cert.Kernel2Ideal.Run
-- ==== Proof.HFrames.lean ====
module

public import proofs.«01_k».proof.Defs
public import proofs.«01_k».proof.Proof.HBody
public import proofs.«01_k».proof.Proof.Gen.Kernel2
public import proofs.«01_k».proof.Proof.Gen.Kernel2Ideal
public import proofs.«01_k».proof.Proof.Gen.Reference2Ideal.Run
public import proofs.«01_k».proof.Proof.Gen.Reference2Ideal
public import proofs.«01_k».proof.Proof.Gen.Pre_finite2
public import Idealize.ShloMosaic.Lib.Quiescent

/-! The frames of the three programs of the second call. -/

@[expose] public section

noncomputable section

namespace Cert.Frames2

attribute [local instance] Cert.Kernel2.Gen.facts Cert.Kernel2Ideal.Gen.facts Cert.Reference2Ideal.Gen.facts Cert.Pre_finite2.Gen.facts

section
open Idealize.ShloMosaic Idealize.SL.Sem Cert.Kernel2

set_option maxHeartbeats 4000000 in
/-- The two texts of the kernel have the same body on float words. -/
theorem defs₀_eq : (Cert.Kernel2Ideal.defs₀ (F := Bits) : Defs nD τ sig (Elt Bits) Λ₀) = defs₀ := by
  funext p l
  cases p with
  | tc =>
    match l with
    | ⟨0, _⟩ => funext a; exact rfl
    | ⟨n + 1, h⟩ => exact absurd h (Nat.not_lt.2 (Nat.le_add_left _ _))
  | scScalar _ => rfl
  | scVector _ _ => rfl

set_option maxHeartbeats 4000000 in
/-- The kernel on float words runs, keeps its arguments and ends with every semaphore at nought. -/
theorem kernel : Cert.quiescent_Kernel2 := by
  intro m g _
  have h := Cert.Kernel2Ideal.Run.args_kept_quiescent (F := Bits) m g
  unfold Cert.Kernel2.defs; rw [← defs₀_eq]; exact h
end

section
open Idealize.ShloMosaic Idealize.SL.Sem

/-- The kernel on exact numbers does so too. -/
theorem ideal : Cert.quiescent_Kernel2Ideal := fun m g _ => Cert.Kernel2Ideal.Run.args_kept_quiescent m g
theorem ideal_finite : Cert.quiescent_Kernel2Ideal_pre_finite2 := fun m g _ => Cert.Kernel2Ideal.Run.args_kept_quiescent m g
end

section
open Idealize.ShloMosaic Idealize.SL.Sem Cert.Reference2Ideal

/-- The reference keeps its arguments, and has no semaphore. -/
theorem ref_run (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run defs _ _).mono (fun r h => ⟨fun c => (by obtain ⟨-, -, -, -, -, -, -, -, -, -, k⟩ := h c; exact k),
    Idealize.ShloMosaic.sem_eq_zero_of_no_sems (by decide) r.2⟩) (Cert.Reference2Ideal.Value.run (F := Ideal) m g)

theorem reference : Cert.quiescent_Reference2Ideal := fun m g _ => ref_run m g
theorem reference_finite : Cert.quiescent_Reference2Ideal_pre_finite2 := fun m g _ => ref_run m g
end

/-- The two texts of the kernel differ in no constant. -/
theorem constants : Cert.preserves_Kernel2_Kernel2Ideal := trivial

end Cert.Frames2
-- ==== Proof.HMath.lean ====
module

public import proofs.«01_k».proof.Proof.Math

/-! The mathematics of the second call on one row of real numbers: the two gated branches, the output projection, the RMS
norm of the new residual, the squared error, and the gradients of all of them. -/

@[expose] public section

noncomputable section

namespace Cert.Head

open Cert.Lift Cert.Math

/-! ### The SiLU -/

/-- The logistic function, by the hyperbolic tangent. -/
def sg (t : ℝ) : ℝ := 1 / 2 * Real.tanh (1 / 2 * t) + 1 / 2
/-- The SiLU. -/
def si (t : ℝ) : ℝ := t * sg t
/-- Its derivative. -/
def sd (t : ℝ) : ℝ := sg t * (1 + t * (1 - sg t))

theorem exp_den (t : ℝ) : 1 + Real.exp (-t) ≠ 0 := (add_pos one_pos (Real.exp_pos _)).ne'

/-- The logistic function by the exponential. -/
theorem sg_eq (t : ℝ) : 1 / (1 + Real.exp (-t)) = sg t := by
  have e : Real.exp (-t) = Real.exp (-(1 / 2 * t)) * Real.exp (-(1 / 2 * t)) := by rw [← Real.exp_add]; congr 1; ring
  have h : Real.exp (1 / 2 * t) * Real.exp (-(1 / 2 * t)) = 1 := by rw [← Real.exp_add, add_neg_cancel, Real.exp_zero]
  have a := Real.exp_pos (1 / 2 * t)
  have b := Real.exp_pos (-(1 / 2 * t))
  unfold sg
  rw [Real.tanh_eq_sinh_div_cosh, Real.sinh_eq, Real.cosh_eq, e]
  generalize Real.exp (1 / 2 * t) = u at *
  generalize Real.exp (-(1 / 2 * t)) = v at *
  have hu : u = 1 / v := by field_simp; exact h
  subst hu
  field_simp
  ring

/-! ### One row -/

/-- What all rows share: the gate of the residual, the last norm's scale and the output projection. -/
structure Wt where
  gx : Row
  fg : Row
  w : Fin 2048 → Row

/-- One row of the inputs. -/
structure In where
  yl : Row
  ga : Row
  gb : Row
  ys : Row
  x : Row
  tgt : Row

/-- Column `j` of the left half, and of the right half, of 2048 columns. -/
def lft (j : Fin 1024) : Fin 2048 := ⟨j.val, by omega⟩
def rgt (j : Fin 1024) : Fin 2048 := ⟨1024 + j.val, by omega⟩

/-- The two gated branches side by side. -/
def yy (r : In) (k : Fin 2048) : ℝ :=
  if h : k.val < 1024 then r.yl ⟨k.val, h⟩ * si (r.ga ⟨k.val, h⟩)
  else r.ys ⟨k.val - 1024, by omega⟩ * si (r.gb ⟨k.val - 1024, by omega⟩)

section
theorem yy_lft (r : In) (j : Fin 1024) : yy r (lft j) = r.yl j * si (r.ga j) := dif_pos j.isLt
theorem yy_rgt (r : In) (j : Fin 1024) : yy r (rgt j) = r.ys j * si (r.gb j) := by
  have e : (⟨(rgt j).val - 1024, by have := (rgt j).isLt; omega⟩ : Fin 1024) = j := Fin.ext (Nat.add_sub_cancel_left _ _)
  unfold yy
  rw [dif_neg (by simp only [rgt]; omega), e]

variable (p : Wt) (r : In)

/-- The output projection. -/
def oo (j : Fin 1024) : ℝ := ∑ k, yy r k * p.w k j
/-- The new residual. -/
def hh (j : Fin 1024) : ℝ := r.x j + p.gx j * oo p r j
/-- The error. -/
def ee (j : Fin 1024) : ℝ := xn (hh p r) j * p.fg j - r.tgt j
/-- The mean square error. -/
def ls : ℝ := (∑ j, ee p r j * ee p r j) / 1024
/-- The gradient of the output. -/
def dout (j : Fin 1024) : ℝ := ee p r j * (1 / 1024)
/-- The gradient of the new residual. -/
def dh (j : Fin 1024) : ℝ := rmsBack (hh p r) (fun k => dout p r k * p.fg k) j
/-- The gradient of the output projection's result. -/
def dO (j : Fin 1024) : ℝ := dh p r j * p.gx j
/-- The gradient of the two branches. -/
def dy (k : Fin 2048) : ℝ := ∑ j, dO p r j * p.w k j
/-- The gradients of the two gates and of the two gated values. -/
def dga (j : Fin 1024) : ℝ := dy p r (lft j) * r.yl j * sd (r.ga j)
def dgb (j : Fin 1024) : ℝ := dy p r (rgt j) * r.ys j * sd (r.gb j)
def dyl (j : Fin 1024) : ℝ := dy p r (lft j) * si (r.ga j)
def dys (j : Fin 1024) : ℝ := dy p r (rgt j) * si (r.gb j)

end

/-! ### All rows -/

/-- Row `8·a + g` of the arrays that hold one head a row. -/
def hrow (a : Fin 2048) (g : Fin 8) : Fin 16384 := ⟨8 * a.val + g.val, by omega⟩
/-- The same row after the context's 256 positions. -/
def zrow (a : Fin 2048) (g : Fin 8) : Fin 18432 := ⟨2048 + (8 * a.val + g.val), by omega⟩

/-- The arguments of the call. -/
structure Data where
  hf : Fin 18432 → Fin 128 → ℝ
  hb : Fin 18432 → Fin 128 → ℝ
  ga : Fin 2048 → Row
  gb : Fin 2048 → Row
  ys : Fin 2048 → Row
  x : Fin 2048 → Row
  tgt : Fin 2048 → Row
  mods : Fin 8 → Fin 3072 → ℝ
  fg : Fin 1 → Row
  w : Fin 2048 → Row

namespace Data
variable (d : Data)

def p : Wt := ⟨fun j => d.mods 0 ⟨2048 + j.val, by omega⟩, d.fg 0, d.w⟩
/-- The sum of the two directions at a row. -/
def yl (a : Fin 2048) (j : Fin 1024) : ℝ := d.hf (zrow a (grp j)) (lane j) + d.hb (zrow a (grp j)) (lane j)
def r (a : Fin 2048) : In := ⟨d.yl a, d.ga a, d.gb a, d.ys a, d.x a, d.tgt a⟩

/-- The loss, in the first place of a row of noughts. -/
def loss (_ : Fin 1) (j : Fin 1024) : ℝ := if j.val = 0 then 1 / 2 * ∑ a, ls d.p (d.r a) else 0
/-- The gradient of the last norm's scale. -/
def dfg (_ : Fin 1) (j : Fin 1024) : ℝ := ∑ a, dout d.p (d.r a) j * xn (hh d.p (d.r a)) j
/-- The gradient of the residual's gate. -/
def dgx (_ : Fin 1) (j : Fin 1024) : ℝ := ∑ a, dh d.p (d.r a) j * oo d.p (d.r a) j
/-- The gradient of the gated value, one head a row. -/
def dylz (z : Fin 16384) (q : Fin 128) : ℝ :=
  dyl d.p (d.r ⟨z.val / 8, by omega⟩) (col ⟨z.val % 8, by omega⟩ q)
end Data

end Cert.Head
-- ==== Proof.HPay.lean ====
module

public import proofs.«01_k».proof.Proof.KPay
public import proofs.«01_k».proof.Proof.HMath
public import proofs.«01_k».proof.Proof.Gen.Kernel2Ideal.Skeleton

/-! The words of the second call's body on arrays of real numbers. -/

@[expose] public section

set_option maxRecDepth 16384

noncomputable section

namespace Cert.Kernel2Ideal.Val

open Idealize.ShloMosaic Cert.Lift Cert.Math Cert.Head Cert.Kernel2Ideal Cert.Kernel2Ideal.Gen

attribute [local instance] Cert.Kernel2Ideal.Gen.facts

theorem bits_inv : Ideal.ofBits .f32 0x3A800000#32 = ((1 / 1024 : ℝ) : EReal) := by
  simp [Ideal.ofBits, Ideal.ieee, -EReal.coe_mul]; norm_num
theorem sp_half : (broadcast S256x1024 (Scalar.ofBits .f32 0x3F000000#32 : Ideal .f32) : FVec Ideal _ .f32) = L2 fun _ _ => 1 / 2 := L2_splat _ bits_half
theorem sp_one : (broadcast S256x1024 (Scalar.ofBits .f32 0x3F800000#32 : Ideal .f32) : FVec Ideal _ .f32) = L2 fun _ _ => 1 := L2_splat _ bits_one
theorem sp_inv : (broadcast S256x1024 (Scalar.ofBits .f32 0x3A800000#32 : Ideal .f32) : FVec Ideal _ .f32) = L2 fun _ _ => 1 / 1024 := L2_splat _ bits_inv
theorem sp_n : (broadcast S256x1 (Scalar.ofBits .f32 0x44800000#32 : Ideal .f32) : FVec Ideal _ .f32) = L2 fun _ _ => 1024 := L2_splat _ bits_1024
theorem sp_eps : (broadcast S256x1 (Scalar.ofBits .f32 0x358637BD#32 : Ideal .f32) : FVec Ideal _ .f32) = L2 fun _ _ => eps6 := L2_splat _ bits_eps6
theorem sp_zero : (broadcast S1x1024 (Scalar.ofBits .f32 0x00000000#32 : Ideal .f32) : FVec Ideal _ .f32) = L2 fun _ _ => 0 := L2_splat _ bits_zero
theorem sp_half1 : (broadcast S1x1 (Scalar.ofBits .f32 0x3F000000#32 : Ideal .f32) : FVec Ideal _ .f32) = L2 fun _ _ => 1 / 2 := L2_splat _ bits_half
theorem div_n {m n : ℕ} (f : Fin m → Fin n → ℝ) :
    divf (L2 f : FVec Ideal _ .f32) (L2 (e := .f32) fun _ _ => 1024) = L2 fun a b => f a b / 1024 := L2_div _ _ fun _ _ => by norm_num
theorem rsqrt_ms (f : Fin 256 → Row) : rsqrt (L2 (fun a _ => ms (f a)) : FVec Ideal S256x1 .f32) = L2 fun a _ => rr (f a) :=
  L2_rsqrt _ fun _ _ => ms_pos _

theorem bt_col (f : Fin 256 → Fin 1 → ℝ) (h) :
    broadcastTo S256x1024 (L2 f : FVec Ideal _ .f32) h = L2 fun a _ => f a 0 := by
  funext i; idx_vars i; pointwise [L1, L2, L3, L4]
theorem bt_row (f : Fin 1 → Fin 1024 → ℝ) (h) :
    broadcastTo S256x1024 (L2 f : FVec Ideal _ .f32) h = L2 fun _ b => f 0 b := by
  funext i; idx_vars i; pointwise [L1, L2, L3, L4]
theorem bt_one (f : Fin 1 → Fin 1 → ℝ) (h) :
    broadcastTo S1x1024 (L2 f : FVec Ideal _ .f32) h = L2 fun _ _ => f 0 0 := by
  funext i; idx_vars i; pointwise [L1, L2, L3, L4]
theorem sc_row (f : Fin 1024 → ℝ) (h) :
    shapeCast S1x1024 (L1 f : FVec Ideal _ .f32) h = L2 fun _ b => f b := by
  funext i; idx_vars i; pointwise [L1, L2, L3, L4]
theorem sc_col (f : Fin 256 → ℝ) (h) :
    shapeCast S256x1 (L1 f : FVec Ideal _ .f32) h = L2 fun a _ => f a := by
  funext i; idx_vars i; pointwise [L1, L2, L3, L4]
theorem sc_one (f : Fin 1 → ℝ) (h) :
    shapeCast S1x1 (L1 f : FVec Ideal _ .f32) h = L2 fun a _ => f a := by
  funext i; idx_vars i; pointwise [L1, L2, L3, L4]; exact congrArg _ (congrArg f (Subsingleton.elim _ _))
theorem rd_col (f : Fin 256 → Fin 1024 → ℝ) (h) (h') (h'' : (0x00000000#32 : BitVec 32) = 0x00000000#32) :
    multiReduction .add [0] S1024 (L2 f : FVec Ideal S256x1024 .f32) 0x00000000#32 h h' h'' = L1 fun b => ∑ k, f k b := by
  funext i; idx_vars i; pointwise [L1, L2, L3, L4, bits_zero]; simp only [coe_sum_mul, coe_sum, ← EReal.coe_add, zero_add]
theorem rd_row (f : Fin 256 → Fin 1024 → ℝ) (h) (h') (h'' : (0x00000000#32 : BitVec 32) = 0x00000000#32) :
    multiReduction .add [1] S256 (L2 f : FVec Ideal S256x1024 .f32) 0x00000000#32 h h' h'' = L1 fun a => ∑ k, f a k := by
  funext i; idx_vars i; pointwise [L1, L2, L3, L4, bits_zero]; simp only [coe_sum_mul, coe_sum, ← EReal.coe_add, zero_add]
theorem rd_one (f : Fin 256 → Fin 1 → ℝ) (h) (h') (h'' : (0x00000000#32 : BitVec 32) = 0x00000000#32) :
    multiReduction .add [0] S1 (L2 f : FVec Ideal S256x1 .f32) 0x00000000#32 h h' h'' = L1 fun b => ∑ k, f k b := by
  funext i; idx_vars i; pointwise [L1, L2, L3, L4, bits_zero]; simp only [coe_sum_mul, coe_sum, ← EReal.coe_add, zero_add]; exact congrArg _ (Finset.sum_congr rfl fun k _ => congrArg (f k) (Subsingleton.elim _ _))
theorem mm_o (f : Fin 256 → Fin 2048 → ℝ) (g : Fin 2048 → Fin 1024 → ℝ) :
    matmul dot_S256x2048_S2048x1024_S256x1024_1_0_0_1_n_n none (L2 f : FVec Ideal _ .bf16) (L2 g : FVec Ideal _ .bf16)
      (constant S256x1024 .f32 0x00000000#32 : FVec Ideal _ .f32) = L2 fun a b => ∑ k, f a k * g k b := by
  funext i; idx_vars i; pointwise [L1, L2, L3, L4, bits_zero]; simp only [coe_sum_mul, coe_sum, ← EReal.coe_add, zero_add]
theorem mm_y (f : Fin 256 → Fin 1024 → ℝ) (g : Fin 2048 → Fin 1024 → ℝ) :
    matmul dot_S256x1024_S2048x1024_S256x2048_1_1_0_0_n_n none (L2 f : FVec Ideal _ .bf16) (L2 g : FVec Ideal _ .bf16)
      (constant S256x2048 .f32 0x00000000#32 : FVec Ideal _ .f32) = L2 fun a b => ∑ k, f a k * g b k := by
  funext i; idx_vars i; pointwise [L1, L2, L3, L4, bits_zero]; simp only [coe_sum_mul, coe_sum, ← EReal.coe_add, zero_add]
theorem xs_l (f : Fin 256 → Fin 2048 → ℝ) (h) :
    extractStridedSlice S256x1024 ![0, 0] (L2 f : FVec Ideal _ .f32) h = L2 fun a b => f a (lft b) := by
  funext i; idx_vars i; pointwise [lft, L1, L2, L3, L4]
theorem xs_r (f : Fin 256 → Fin 2048 → ℝ) (h) :
    extractStridedSlice S256x1024 ![0, 1024] (L2 f : FVec Ideal _ .f32) h = L2 fun a b => f a (rgt b) := by
  funext i; idx_vars i; pointwise [rgt, L1, L2, L3, L4]

/-! ### The gates -/

section
variable (f g : Fin 256 → Row)

theorem pay12_L : k0_pay12 (F := Ideal) (L2 (e := .f32) f) = L2 (e := .f32) fun a b => sg (f a b) := by
  simp only [k0_pay12, sp_half, L2_mul, L2_tanh, L2_add]; rfl
theorem pay13_L : k0_pay13 (F := Ideal) (L2 (e := .f32) f) = L2 (e := .f32) fun a b => si (f a b) := by
  simp only [k0_pay13, pay12_L, L2_mul]; rfl
theorem pay14_L : k0_pay14 (F := Ideal) (L2 (e := .f32) f) = L2 (e := .f32) fun a b => sd (f a b) := by
  simp only [k0_pay14, pay12_L, sp_one, L2_mul, L2_add, L2_sub]; rfl
theorem pay15_L : k0_pay15 (F := Ideal) (L2 (e := .f32) f) = L2 (e := .f32) fun a b => sg (f a b) := by
  simp only [k0_pay15, sp_half, L2_mul, L2_tanh, L2_add]; rfl
theorem pay16_L : k0_pay16 (F := Ideal) (L2 (e := .f32) f) = L2 (e := .f32) fun a b => si (f a b) := by
  simp only [k0_pay16, pay15_L, L2_mul]; rfl
theorem pay17_L : k0_pay17 (F := Ideal) (L2 (e := .f32) f) = L2 (e := .f32) fun a b => sd (f a b) := by
  simp only [k0_pay17, pay15_L, sp_one, L2_mul, L2_add, L2_sub]; rfl
theorem pay18_L : k0_pay18 (F := Ideal) (L2 (e := .f32) g) (L2 (e := .f32) f) = L2 (e := .bf16) fun a b => g a b * si (f a b) := by
  simp only [k0_pay18, pay13_L, L2_mul, L2_trunc]
theorem pay19_L : k0_pay19 (F := Ideal) (L2 (e := .f32) f) (L2 (e := .f32) g) = L2 (e := .bf16) fun a b => g a b * si (f a b) := by
  simp only [k0_pay19, pay16_L, L2_mul, L2_trunc]
end

/-! ### The projection, the norm and the error -/

section
variable (p : Wt) (r : Fin 256 → In)

theorem pay20_L (y : Fin 256 → Fin 2048 → ℝ) : k0_pay20 (F := Ideal) (L2 (e := .bf16) y) = L2 (e := .bf16) y := by
  simp only [k0_pay20, cast_self]
theorem pay21_L : k0_pay21 (F := Ideal) (L2 (e := .bf16) fun a => yy (r a)) (L2 (e := .bf16) p.w) = L2 (e := .f32) fun a => oo p (r a) := by
  simp only [k0_pay21, cast_self, mm_o]; rfl
theorem pay22_L : k0_pay22 (F := Ideal) (L2 (e := .bf16) fun a => yy (r a)) (L2 (e := .bf16) p.w) (L2 (e := .f32) fun _ => p.gx) (L2 (e := .f32) fun a => (r a).x)
    = L2 (e := .f32) fun a => hh p (r a) := by
  simp only [k0_pay22, pay21_L, bt_row, L2_mul, L2_add]; rfl
theorem pay23_L : k0_pay23 (F := Ideal) (L2 (e := .bf16) fun a => yy (r a)) (L2 (e := .bf16) p.w) (L2 (e := .f32) fun _ => p.gx) (L2 (e := .f32) fun a => (r a).x)
    = L2 (e := .f32) fun a _ => rr (hh p (r a)) := by
  simp only [k0_pay23, pay22_L, L2_mul]
  rw [rd_row]
  simp only [sc_col, sp_n, sp_eps, div_n, L2_add]
  exact rsqrt_ms fun a => hh p (r a)
theorem pay24_L : k0_pay24 (F := Ideal) (L2 (e := .bf16) fun a => yy (r a)) (L2 (e := .bf16) p.w) (L2 (e := .f32) fun _ => p.gx) (L2 (e := .f32) fun a => (r a).x)
    = L2 (e := .f32) fun a => xn (hh p (r a)) := by
  simp only [k0_pay24, pay22_L, pay23_L, bt_col, L2_mul]; rfl
theorem pay25_L : k0_pay25 (F := Ideal) (L2 (e := .bf16) fun a => yy (r a)) (L2 (e := .bf16) p.w) (L2 (e := .f32) fun _ => p.gx) (L2 (e := .f32) fun a => (r a).x)
    (L2 (e := .f32) fun _ => p.fg) (L2 (e := .f32) fun a => (r a).tgt) = L2 (e := .f32) fun a => ee p (r a) := by
  simp only [k0_pay25, pay24_L, bt_row, L2_mul, L2_sub]; rfl
theorem pay26_L (s : Fin 1 → Row) : k0_pay26 (F := Ideal) (L2 (e := .bf16) fun a => yy (r a)) (L2 (e := .bf16) p.w) (L2 (e := .f32) fun _ => p.gx) (L2 (e := .f32) fun a => (r a).x)
    (L2 (e := .f32) fun _ => p.fg) (L2 (e := .f32) fun a => (r a).tgt) (L2 (e := .f32) s) = L2 (e := .f32) fun q j => s q j + 1 / 2 * ∑ a, ls p (r a) := by
  simp only [k0_pay26, pay25_L, cast_self, L2_mul]
  rw [rd_row]
  simp only [sc_col, sp_n, div_n]
  rw [rd_one]
  simp only [sc_one, sp_half1, L2_mul, bt_one, L2_add]; rfl
theorem pay28_L : k0_pay28 (F := Ideal) (L2 (e := .f32) fun a => ee p (r a)) = L2 (e := .f32) fun a => dout p (r a) := by
  simp only [k0_pay28, sp_inv, L2_mul]; rfl
theorem pay29_L (s : Fin 1 → Row) : k0_pay29 (F := Ideal) (L2 (e := .f32) fun a => xn (hh p (r a))) (L2 (e := .f32) fun a => ee p (r a)) (L2 (e := .f32) s)
    = L2 (e := .f32) fun q j => s q j + ∑ a, dout p (r a) j * xn (hh p (r a)) j := by
  simp only [k0_pay29, pay28_L, cast_self, L2_mul]
  rw [rd_col]
  simp only [sc_row, L2_add]
theorem pay30_L : k0_pay30 (F := Ideal) (L2 (e := .f32) fun a _ => rr (hh p (r a))) (L2 (e := .f32) fun a => xn (hh p (r a))) (L2 (e := .f32) fun _ => p.fg) (L2 (e := .f32) fun a => ee p (r a))
    = L2 (e := .f32) fun a => dh p (r a) := by
  simp only [k0_pay30, pay28_L, bt_row, bt_col, L2_mul, L2_sub]
  rw [rd_row]
  simp only [bt_col, L2_mul, L2_sub, sc_col, sp_n, div_n]; rfl
theorem pay31_L (s : Fin 1 → Row) : k0_pay31 (F := Ideal) (L2 (e := .f32) fun a => oo p (r a)) (L2 (e := .f32) fun a _ => rr (hh p (r a))) (L2 (e := .f32) fun a => xn (hh p (r a))) (L2 (e := .f32) fun _ => p.fg) (L2 (e := .f32) fun a => ee p (r a)) (L2 (e := .f32) s)
    = L2 (e := .f32) fun q j => s q j + ∑ a, dh p (r a) j * oo p (r a) j := by
  simp only [k0_pay31, pay30_L, cast_self, L2_mul]
  rw [rd_col]
  simp only [sc_row, L2_add]
theorem pay32_L : k0_pay32 (F := Ideal) (L2 (e := .f32) fun _ => p.gx) (L2 (e := .f32) fun a _ => rr (hh p (r a))) (L2 (e := .f32) fun a => xn (hh p (r a))) (L2 (e := .f32) fun _ => p.fg) (L2 (e := .f32) fun a => ee p (r a))
    = L2 (e := .bf16) fun a => dO p (r a) := by
  simp only [k0_pay32, pay30_L, bt_row, L2_mul, L2_trunc]; rfl
theorem pay33_L : k0_pay33 (F := Ideal) (L2 (e := .bf16) fun a => dO p (r a)) (L2 (e := .bf16) p.w) = L2 (e := .f32) fun a => dy p (r a) := by
  simp only [k0_pay33, cast_self, mm_y]; rfl
theorem pay34_L : k0_pay34 (F := Ideal) (L2 (e := .bf16) fun a => dO p (r a)) (L2 (e := .bf16) p.w) = L2 (e := .f32) fun a j => dy p (r a) (lft j) := by
  simp only [k0_pay34, pay33_L, xs_l]
theorem pay35_L : k0_pay35 (F := Ideal) (L2 (e := .bf16) fun a => dO p (r a)) (L2 (e := .bf16) p.w) = L2 (e := .f32) fun a j => dy p (r a) (rgt j) := by
  simp only [k0_pay35, pay33_L, xs_r]
theorem pay36_L : k0_pay36 (F := Ideal) (L2 (e := .f32) fun a => (r a).yl) (L2 (e := .f32) fun a b => sd ((r a).ga b)) (L2 (e := .bf16) fun a => dO p (r a)) (L2 (e := .bf16) p.w)
    = L2 (e := .bf16) fun a => dga p (r a) := by
  simp only [k0_pay36, pay34_L, L2_mul, L2_trunc]; rfl
theorem pay37_L : k0_pay37 (F := Ideal) (L2 (e := .f32) fun a b => sd ((r a).gb b)) (L2 (e := .f32) fun a => (r a).ys) (L2 (e := .bf16) fun a => dO p (r a)) (L2 (e := .bf16) p.w)
    = L2 (e := .bf16) fun a => dgb p (r a) := by
  simp only [k0_pay37, pay35_L, L2_mul, L2_trunc]; rfl
theorem pay38_L : k0_pay38 (F := Ideal) (L2 (e := .f32) fun a b => si ((r a).gb b)) (L2 (e := .bf16) fun a => dO p (r a)) (L2 (e := .bf16) p.w)
    = L2 (e := .f32) fun a => dys p (r a) := by
  simp only [k0_pay38, pay35_L, L2_mul]; rfl
theorem pay39_L : k0_pay39 (F := Ideal) (L2 (e := .f32) fun a b => si ((r a).ga b)) (L2 (e := .bf16) fun a => dO p (r a)) (L2 (e := .bf16) p.w)
    = L2 (e := .f32) fun a => dyl p (r a) := by
  simp only [k0_pay39, cast_self, pay34_L, L2_mul]; rfl
end

theorem select_same {s : Shape} {e : FTy} (c : IVec s 1) (v : FVec Ideal s e) : select c v v = v := by
  funext i; exact ite_self _

/-- The loss is whole in its first lane: in exact numbers the split's other lanes are nought. -/
theorem pay27_L (s : Fin 1 → Row) : k0_pay27 (F := Ideal) (L2 (e := .f32) s) = L2 (e := .f32) fun q j => if j.val = 0 then s q j else 0 := by
  simp only [k0_pay27, cast_self, L2_trunc, L2_ext, L2_sub, sub_self, sp_zero]
  rw [select_same, select_same]
  funext i; idx_vars i; pointwise [L2]
  have e : (BitVec.ofNat 32 i1.val = 0#32) ↔ i1.val = 0 := by
    refine ⟨fun h => ?_, fun h => by rw [h]⟩
    have h := congrArg BitVec.toNat h
    simp only [BitVec.toNat_ofNat] at h
    omega
  by_cases h : i1.val = 0
  · rw [if_pos h, e.2 h]; rfl
  · rw [if_neg h]
    simp only [Scalar.select, IntOp.cmpi]
    have q : (BitVec.ofNat 32 i1.val == 0#32) = false := by simpa using fun q => h (e.1 q)
    simp [q]

end Cert.Kernel2Ideal.Val
-- ==== Proof.HTile.lean ====
module

public import proofs.«01_k».proof.Proof.HPay
public import proofs.«01_k».proof.Proof.HBody
public import Idealize.ShloMosaic.Lib.Pipeline.ValueKit
public import Idealize.ShloMosaic.Lib.Pipeline.ReadBack
public import Idealize.ShloMosaic.Lib.Ring

/-! What one point of the second call leaves in its output buffers, on arrays of real numbers. -/

@[expose] public section

set_option maxRecDepth 16384

noncomputable section

namespace Cert.Kernel2Ideal.Val

open Idealize.ShloMosaic Idealize.ShloMosaic.Tactic Cert.Lift Cert.Math Cert.Head Cert.Kernel2Ideal Cert.Kernel2Ideal.Gen Cert.Kernel2Ideal.Run

/-- The input blocks of one point, as real numbers. -/
structure RIns where
  x0 : Fin 2048 → Fin 128 → ℝ
  x1 : Fin 2048 → Fin 128 → ℝ
  x2 : Fin 256 → Row
  x3 : Fin 256 → Row
  x4 : Fin 256 → Row
  x5 : Fin 256 → Row
  x6 : Fin 256 → Row
  x7 : Fin 8 → Row
  x8 : Fin 1 → Row
  x9 : Fin 2048 → Row

/-- The accumulators, as real numbers. -/
structure RAcc where
  o10 : Fin 1 → Row
  o11 : Fin 1 → Row
  o12 : Fin 1 → Row

/-- The blocks as contents. -/
def RIns.up (r : RIns) : Ins Ideal where
  x0 := L2 (e := .f32) r.x0
  x1 := L2 (e := .f32) r.x1
  x2 := L2 (e := .f32) r.x2
  x3 := L2 (e := .f32) r.x3
  x4 := L2 (e := .f32) r.x4
  x5 := L2 (e := .f32) r.x5
  x6 := L2 (e := .f32) r.x6
  x7 := L2 (e := .f32) r.x7
  x8 := L2 (e := .f32) r.x8
  x9 := L2 (e := .bf16) r.x9

/-- The accumulators as contents. -/
def RAcc.up (a : RAcc) : Acc Ideal := ⟨L2 (e := .f32) a.o10, L2 (e := .f32) a.o11, L2 (e := .f32) a.o12⟩

/-- Row `8·a + k` of a block that holds one head a row. -/
def brw (a : Fin 256) (k : Fin 8) : Fin 2048 := ⟨k.val + 8 * a.val, by omega⟩

/-- What the rows of the block share, and one row of it. -/
def RIns.p (r : RIns) : Wt := ⟨r.x7 0, r.x8 0, r.x9⟩
def RIns.row (r : RIns) (a : Fin 256) : In :=
  ⟨fun j => r.x0 (brw a (grp j)) (lane j) + r.x1 (brw a (grp j)) (lane j), r.x2 a, r.x3 a, r.x4 a, r.x5 a, r.x6 a⟩

/-- What the point adds to the accumulators. -/
def RIns.next (r : RIns) (a : RAcc) : RAcc where
  o10 := fun q j => a.o10 q j + 1 / 2 * ∑ k, ls r.p (r.row k)
  o11 := fun q j => a.o11 q j + ∑ k, dout r.p (r.row k) j * xn (hh r.p (r.row k)) j
  o12 := fun q j => a.o12 q j + ∑ k, dh r.p (r.row k) j * oo r.p (r.row k) j
/-- The cleared accumulators. -/
def RAcc.zero : RAcc := ⟨fun _ _ => 0, fun _ _ => 0, fun _ _ => 0⟩
/-- The last point keeps the loss in its first lane. -/
def RAcc.last (a : RAcc) : RAcc := { a with o10 := fun q j => if j.val = 0 then a.o10 q j else 0 }

/-- The outputs of a point that leaves the accumulators `a`. -/
def RIns.out (r : RIns) (a : RAcc) : Out Ideal where
  o10 := L2 (e := .f32) a.o10
  o11 := L2 (e := .f32) a.o11
  o12 := L2 (e := .f32) a.o12
  o13 := L2 (e := .f32) fun a => dh r.p (r.row a)
  o14 := L2 (e := .bf16) fun a => yy (r.row a)
  o15 := L2 (e := .bf16) fun a => dO r.p (r.row a)
  o16 := L2 (e := .bf16) fun a => dga r.p (r.row a)
  o17 := L2 (e := .bf16) fun a => dgb r.p (r.row a)
  o18 := L2 (e := .f32) fun (z : Fin 2048) q => dyl r.p (r.row ⟨z.val / 8, by omega⟩) (col ⟨z.val % 8, by omega⟩ q)
  o19 := L2 (e := .f32) fun a => dys r.p (r.row a)

theorem out_ext (L : Pcs Ideal) (o : Out Ideal) (h10 : View.canon L.l10 = o.o10) (h11 : View.canon L.l11 = o.o11) (h12 : View.canon L.l12 = o.o12)
    (h13 : View.canon L.l13 = o.o13) (h14 : View.canon L.l14 = o.o14) (h15 : View.canon L.l15 = o.o15) (h16 : View.canon L.l16 = o.o16)
    (h17 : View.canon L.l17 = o.o17) (h18 : View.canon L.l18 = o.o18) (h19 : View.canon L.l19 = o.o19) : L.out = o := by
  cases o
  dsimp only at h10 h11 h12 h13 h14 h15 h16 h17 h18 h19
  subst h10 h11 h12 h13 h14 h15 h16 h17 h18 h19
  rfl

/-! ### Loads -/

theorem rd_256 (m : Memref sig .tc .vmem S256x1024 .f32) (h : m.IsWhole) (f : Fin 256 → Row) (inb) :
    View.readAt (Elt Ideal) m.view (Rect.unit (s := S256x1024) ![0, 0] S256x1024.size inb).toLoadRect
      (h.unread (L2 f : FVec Ideal _ .f32)) = L2 (e := .f32) f := by
  rw [View.readAt_eq_ld, Memref.IsWhole.read_unread]
  funext i; idx_vars i; pointwise [L2, View.ld]
theorem rd_w (m : Memref sig .tc .vmem S2048x1024 .bf16) (h : m.IsWhole) (f : Fin 2048 → Row) (inb) :
    View.readAt (Elt Ideal) m.view (Rect.unit (s := S2048x1024) ![0, 0] S2048x1024.size inb).toLoadRect
      (h.unread (L2 f : FVec Ideal _ .bf16)) = L2 (e := .bf16) f := by
  rw [View.readAt_eq_ld, Memref.IsWhole.read_unread]
  funext i; idx_vars i; pointwise [L2, View.ld]
theorem rd_1 (m : Memref sig .tc .vmem S1x1024 .f32) (h : m.IsWhole) (f : Fin 1 → Row) (inb) :
    View.readAt (Elt Ideal) m.view (Rect.unit (s := S1x1024) ![0, 0] S1x1024.size inb).toLoadRect
      (h.unread (L2 f : FVec Ideal _ .f32)) = L2 (e := .f32) fun _ => f 0 := by
  rw [View.readAt_eq_ld, Memref.IsWhole.read_unread]
  funext i; idx_vars i; pointwise [L2, View.ld]
theorem rd_8 (m : Memref sig .tc .vmem S8x1024 .f32) (h : m.IsWhole) (f : Fin 8 → Row) (inb) :
    View.readAt (Elt Ideal) m.view (Rect.unit (s := S8x1024) ![0, 0] S1x1024.size inb).toLoadRect
      (h.unread (L2 f : FVec Ideal _ .f32)) = L2 (e := .f32) fun _ => f 0 := by
  rw [View.readAt_eq_ld, Memref.IsWhole.read_unread]
  funext i; idx_vars i; pointwise [L2, View.ld]
/-- Every eighth row from row `k` on. -/
theorem rd_head (m : Memref sig .tc .vmem S2048x128 .f32) (h : m.IsWhole) (f : Fin 2048 → Fin 128 → ℝ) (k : Fin 8) (inb) :
    View.readAt (Elt Ideal) m.view ({ off := ![k.val, 0], size := S256x128.size, stride := ![8, 1], inb := inb } : LoadRect S2048x128)
      (h.unread (L2 f : FVec Ideal _ .f32)) = L2 (e := .f32) fun a q => f (brw a k) q := by
  funext i
  rw [View.readAt_apply, Memref.IsWhole.read_unread]
  refine congrArg Real.toEReal (congrArg₂ f (Fin.ext ?_) (Fin.ext ?_)) <;> simp [LoadRect.idx, brw]

/-! ### Stores -/

/-- Eight stored blocks of 128 columns, read back as one array. -/
theorem cols_read (m : Memref sig .tc .vmem S256x1024 .f32) (f : Fin 256 → Row)
    {w0 w1 w2 w3 w4 w5 w6 w7 : S256x128.Idx → Elt Ideal .f32} (b0 b1 b2 b3 b4 b5 b6 b7 b)
    (h0 : w0 = L2 (e := .f32) fun p q => f p (col 0 q))
    (h1 : w1 = L2 (e := .f32) fun p q => f p (col 1 q))
    (h2 : w2 = L2 (e := .f32) fun p q => f p (col 2 q))
    (h3 : w3 = L2 (e := .f32) fun p q => f p (col 3 q))
    (h4 : w4 = L2 (e := .f32) fun p q => f p (col 4 q))
    (h5 : w5 = L2 (e := .f32) fun p q => f p (col 5 q))
    (h6 : w6 = L2 (e := .f32) fun p q => f p (col 6 q))
    (h7 : w7 = L2 (e := .f32) fun p q => f p (col 7 q)) :
    m.view.readCov [⟨Rect.unit (s := S256x1024) ![0, 896] S256x128.size b7, w7⟩, ⟨Rect.unit (s := S256x1024) ![0, 768] S256x128.size b6, w6⟩, ⟨Rect.unit (s := S256x1024) ![0, 640] S256x128.size b5, w5⟩, ⟨Rect.unit (s := S256x1024) ![0, 512] S256x128.size b4, w4⟩, ⟨Rect.unit (s := S256x1024) ![0, 384] S256x128.size b3, w3⟩, ⟨Rect.unit (s := S256x1024) ![0, 256] S256x128.size b2, w2⟩, ⟨Rect.unit (s := S256x1024) ![0, 128] S256x128.size b1, w1⟩, ⟨Rect.unit (s := S256x1024) ![0, 0] S256x128.size b0, w0⟩]
      (Rect.unit (s := S256x1024) ![0, 0] S256x1024.size b).toLoadRect = L2 (e := .f32) f := by
  subst h0 h1 h2 h3 h4 h5 h6 h7
  rw [View.readCov_eq_canon']
  funext j
  refine (View.canon_append_of_piecesOf (Val := Elt Ideal) (s := S256x1024) (e := .f32) (L2 (e := .f32) f) []
    [⟨Rect.unit (s := S256x1024) ![0, 896] S256x128.size b7, _⟩, ⟨Rect.unit (s := S256x1024) ![0, 768] S256x128.size b6, _⟩, ⟨Rect.unit (s := S256x1024) ![0, 640] S256x128.size b5, _⟩, ⟨Rect.unit (s := S256x1024) ![0, 512] S256x128.size b4, _⟩, ⟨Rect.unit (s := S256x1024) ![0, 384] S256x128.size b3, _⟩, ⟨Rect.unit (s := S256x1024) ![0, 256] S256x128.size b2, _⟩, ⟨Rect.unit (s := S256x1024) ![0, 128] S256x128.size b1, _⟩, ⟨Rect.unit (s := S256x1024) ![0, 0] S256x128.size b0, _⟩] ?_ _ (View.cover_of_tiledL _ ![256, 128] (by sl_kernel_rfl) _)).trans ?_
  · refine ⟨?_, ?_, ?_, ?_, ?_, ?_, ?_, ?_, trivial⟩ <;> (intro i; refine congrArg Real.toEReal (congrArg₂ f (Fin.ext ?_) (Fin.ext ?_)) <;> (show _ = _ + 1 * _; simp [Rect.unit, col]))
  · refine congrArg Real.toEReal (congrArg₂ f (Fin.ext ?_) (Fin.ext ?_)) <;> simp [LoadRect.idx, Rect.toLoadRect, Rect.unit]

theorem row_whole (f : Fin 1 → Row) {w : S1x1024.Idx → Elt Ideal .f32} (L : List (View.Piece (Elt Ideal) S1x1024 .f32)) (b)
    (h : w = L2 (e := .f32) f) :
    View.canon (Val := Elt Ideal) (s := S1x1024) (e := .f32) (⟨Rect.unit (s := S1x1024) ![0, 0] S1x1024.size b, w⟩ :: L) = L2 (e := .f32) f := by
  subst h
  funext j
  refine (View.canon_append_of_piecesOf (L2 (e := .f32) f) L [_] ?_ _ (View.cover_of_tiledL _ ![1, 1024] (by sl_kernel_rfl) _))
  refine ⟨?_, trivial⟩; (intro i; refine congrArg Real.toEReal (congrArg₂ f (Fin.ext ?_) (Fin.ext ?_)) <;> (show _ = _ + 1 * _; simp [Rect.unit]))
theorem block_whole (f : Fin 256 → Row) {w : S256x1024.Idx → Elt Ideal .f32} (L : List (View.Piece (Elt Ideal) S256x1024 .f32)) (b)
    (h : w = L2 (e := .f32) f) :
    View.canon (Val := Elt Ideal) (s := S256x1024) (e := .f32) (⟨Rect.unit (s := S256x1024) ![0, 0] S256x1024.size b, w⟩ :: L) = L2 (e := .f32) f := by
  subst h
  funext j
  refine (View.canon_append_of_piecesOf (L2 (e := .f32) f) L [_] ?_ _ (View.cover_of_tiledL _ ![256, 1024] (by sl_kernel_rfl) _))
  refine ⟨?_, trivial⟩; (intro i; refine congrArg Real.toEReal (congrArg₂ f (Fin.ext ?_) (Fin.ext ?_)) <;> (show _ = _ + 1 * _; simp [Rect.unit]))
theorem block_whole16 (f : Fin 256 → Row) {w : S256x1024.Idx → Elt Ideal .bf16} (L : List (View.Piece (Elt Ideal) S256x1024 .bf16)) (b)
    (h : w = L2 (e := .bf16) f) :
    View.canon (Val := Elt Ideal) (s := S256x1024) (e := .bf16) (⟨Rect.unit (s := S256x1024) ![0, 0] S256x1024.size b, w⟩ :: L) = L2 (e := .bf16) f := by
  subst h
  funext j
  refine (View.canon_append_of_piecesOf (L2 (e := .bf16) f) L [_] ?_ _ (View.cover_of_tiledL _ ![256, 1024] (by sl_kernel_rfl) _))
  refine ⟨?_, trivial⟩; (intro i; refine congrArg Real.toEReal (congrArg₂ f (Fin.ext ?_) (Fin.ext ?_)) <;> (show _ = _ + 1 * _; simp [Rect.unit]))
/-- 128 columns of a whole block that was stored last. -/
theorem block_read (m : Memref sig .tc .vmem S256x1024 .f32) (f : Fin 256 → Row) {w : S256x1024.Idx → Elt Ideal .f32}
    (L : List (View.Piece (Elt Ideal) S256x1024 .f32)) (b) (h : w = L2 (e := .f32) f) (k : Fin 8) (b') :
    m.view.readCov (⟨Rect.unit (s := S256x1024) ![0, 0] S256x1024.size b, w⟩ :: L)
      (Rect.unit (s := S256x1024) ![0, 128 * k.val] ![256, 128] b').toLoadRect = L2 (e := .f32) fun p q => f p (col k q) := by
  rw [View.readCov_eq_canon']
  funext j
  rw [block_whole f L b h]
  refine congrArg Real.toEReal (congrArg₂ f (Fin.ext ?_) (Fin.ext ?_)) <;> simp [LoadRect.idx, Rect.toLoadRect, Rect.unit, col]
/-- Two stored halves of 2048 columns. -/
theorem halves (f : Fin 256 → Fin 2048 → ℝ) {w0 w1 : S256x1024.Idx → Elt Ideal .bf16} (b0 b1)
    (h0 : w0 = L2 (e := .bf16) fun a j => f a (lft j)) (h1 : w1 = L2 (e := .bf16) fun a j => f a (rgt j)) :
    View.canon (Val := Elt Ideal) (s := S256x2048) (e := .bf16) [⟨Rect.unit (s := S256x2048) ![0, 1024] S256x1024.size b1, w1⟩,
      ⟨Rect.unit (s := S256x2048) ![0, 0] S256x1024.size b0, w0⟩] = L2 (e := .bf16) f := by
  subst h0 h1
  funext j
  refine View.canon_append_of_piecesOf (Val := Elt Ideal) (s := S256x2048) (e := .bf16) (L2 (e := .bf16) f) []
    [⟨Rect.unit (s := S256x2048) ![0, 1024] S256x1024.size b1, _⟩, ⟨Rect.unit (s := S256x2048) ![0, 0] S256x1024.size b0, _⟩] ?_ _
    (View.cover_of_tiledL _ ![256, 1024] (by sl_kernel_rfl) _)
  refine ⟨?_, ?_, trivial⟩ <;> (intro i; refine congrArg Real.toEReal (congrArg₂ f (Fin.ext ?_) (Fin.ext ?_)) <;> (show _ = _ + 1 * _; simp [Rect.unit, lft, rgt]))
theorem halves_read (m : Memref sig .tc .vmem S256x2048 .bf16) (f : Fin 256 → Fin 2048 → ℝ) {w0 w1 : S256x1024.Idx → Elt Ideal .bf16} (b0 b1 b)
    (h0 : w0 = L2 (e := .bf16) fun a j => f a (lft j)) (h1 : w1 = L2 (e := .bf16) fun a j => f a (rgt j)) :
    m.view.readCov [⟨Rect.unit (s := S256x2048) ![0, 1024] S256x1024.size b1, w1⟩,
      ⟨Rect.unit (s := S256x2048) ![0, 0] S256x1024.size b0, w0⟩]
      (Rect.unit (s := S256x2048) ![0, 0] S256x2048.size b).toLoadRect = L2 (e := .bf16) f := by
  rw [View.readCov_eq_canon', halves f b0 b1 h0 h1]
  funext j
  refine congrArg Real.toEReal (congrArg₂ f (Fin.ext ?_) (Fin.ext ?_)) <;> simp [LoadRect.idx, Rect.toLoadRect, Rect.unit]
/-- Eight stored heads, each in every eighth row. -/
theorem heads (f : Fin 256 → Row) {w0 w1 w2 w3 w4 w5 w6 w7 : S256x128.Idx → Elt Ideal .f32} (b0 b1 b2 b3 b4 b5 b6 b7 q0 q1 q2 q3 q4 q5 q6 q7)
    (h0 : w0 = L2 (e := .f32) fun p q => f p (col 0 q))
    (h1 : w1 = L2 (e := .f32) fun p q => f p (col 1 q))
    (h2 : w2 = L2 (e := .f32) fun p q => f p (col 2 q))
    (h3 : w3 = L2 (e := .f32) fun p q => f p (col 3 q))
    (h4 : w4 = L2 (e := .f32) fun p q => f p (col 4 q))
    (h5 : w5 = L2 (e := .f32) fun p q => f p (col 5 q))
    (h6 : w6 = L2 (e := .f32) fun p q => f p (col 6 q))
    (h7 : w7 = L2 (e := .f32) fun p q => f p (col 7 q)) :
    View.canon (Val := Elt Ideal) (s := S2048x128) (e := .f32) [⟨{ off := ![7, 0], size := S256x128.size, stride := ![8, 1], inb := b7, stride_pos := q7 }, w7⟩,
      ⟨{ off := ![6, 0], size := S256x128.size, stride := ![8, 1], inb := b6, stride_pos := q6 }, w6⟩,
      ⟨{ off := ![5, 0], size := S256x128.size, stride := ![8, 1], inb := b5, stride_pos := q5 }, w5⟩,
      ⟨{ off := ![4, 0], size := S256x128.size, stride := ![8, 1], inb := b4, stride_pos := q4 }, w4⟩,
      ⟨{ off := ![3, 0], size := S256x128.size, stride := ![8, 1], inb := b3, stride_pos := q3 }, w3⟩,
      ⟨{ off := ![2, 0], size := S256x128.size, stride := ![8, 1], inb := b2, stride_pos := q2 }, w2⟩,
      ⟨{ off := ![1, 0], size := S256x128.size, stride := ![8, 1], inb := b1, stride_pos := q1 }, w1⟩,
      ⟨{ off := ![0, 0], size := S256x128.size, stride := ![8, 1], inb := b0, stride_pos := q0 }, w0⟩]
      = L2 (e := .f32) fun (z : Fin 2048) q => f ⟨z.val / 8, by omega⟩ (col ⟨z.val % 8, by omega⟩ q) := by
  subst h0 h1 h2 h3 h4 h5 h6 h7
  funext j
  refine View.canon_append_of_piecesOf (Val := Elt Ideal) (s := S2048x128) (e := .f32)
    (L2 (e := .f32) fun (z : Fin 2048) q => f ⟨z.val / 8, by omega⟩ (col ⟨z.val % 8, by omega⟩ q)) []
    [⟨{ off := ![7, 0], size := S256x128.size, stride := ![8, 1], inb := b7, stride_pos := q7 }, _⟩,
      ⟨{ off := ![6, 0], size := S256x128.size, stride := ![8, 1], inb := b6, stride_pos := q6 }, _⟩,
      ⟨{ off := ![5, 0], size := S256x128.size, stride := ![8, 1], inb := b5, stride_pos := q5 }, _⟩,
      ⟨{ off := ![4, 0], size := S256x128.size, stride := ![8, 1], inb := b4, stride_pos := q4 }, _⟩,
      ⟨{ off := ![3, 0], size := S256x128.size, stride := ![8, 1], inb := b3, stride_pos := q3 }, _⟩,
      ⟨{ off := ![2, 0], size := S256x128.size, stride := ![8, 1], inb := b2, stride_pos := q2 }, _⟩,
      ⟨{ off := ![1, 0], size := S256x128.size, stride := ![8, 1], inb := b1, stride_pos := q1 }, _⟩,
      ⟨{ off := ![0, 0], size := S256x128.size, stride := ![8, 1], inb := b0, stride_pos := q0 }, _⟩] ?_ _
    (cover_of_eighths _ (by sl_kernel_rfl) _)
  refine ⟨?_, ?_, ?_, ?_, ?_, ?_, ?_, ?_, trivial⟩ <;> (
    intro i
    have h0 : (i (0 : Fin 2)).val < 256 := (i (0 : Fin 2)).isLt
    refine congrArg Real.toEReal (congrArg₂ f (Fin.ext ?_) (Fin.ext ?_))
    · show _ = (_ + 8 * (i (0 : Fin 2)).val) / 8
      simp; try omega
    · show 128 * _ + _ = 128 * ((_ + 8 * (i (0 : Fin 2)).val) % 8) + (0 + 1 * _)
      simp; try omega)

end Cert.Kernel2Ideal.Val
-- ==== Proof.HOut.lean ====
module

public import proofs.«01_k».proof.Proof.HTile

/-! What the three kinds of points of the second call leave, on arrays of real numbers. -/

@[expose] public section

set_option maxRecDepth 16384

noncomputable section

namespace Cert.Kernel2Ideal.Val

open Idealize.ShloMosaic Idealize.ShloMosaic.Tactic Cert.Lift Cert.Math Cert.Head Cert.Kernel2Ideal Cert.Kernel2Ideal.Gen Cert.Kernel2Ideal.Run

variable (c : Dev nD) (i : grid0.Coords) (R : Refs) (r : RIns) (a : RAcc)

/-! ### The words of a middle point -/

theorem add_head (f g : Fin 256 → Fin 128 → ℝ) (h) :
    shapeCast S256x128 (addf (L2 f : FVec Ideal _ .f32) (L2 g : FVec Ideal _ .f32)) h = L2 (e := .f32) fun a q => f a q + g a q := by
  rw [L2_add]; exact cast_self _ _

theorem m_yl : runM.sl.v51 c R r.up = L2 (e := .f32) fun a => (r.row a).yl := by
  refine cols_read R.a21 (fun a => (r.row a).yl) _ _ _ _ _ _ _ _ _ ?_ ?_ ?_ ?_ ?_ ?_ ?_ ?_
  · refine ((congrArg₂ k0_pay4 (rd_head R.a1 R.h1 r.x0 0 _) (rd_head R.a2 R.h2 r.x1 0 _)).trans (add_head _ _ _)).trans (congrArg L2 ?_)
    funext p q; simp only [RIns.row, grp_col, lane_col]
  · refine ((congrArg₂ k0_pay5 (rd_head R.a1 R.h1 r.x0 1 _) (rd_head R.a2 R.h2 r.x1 1 _)).trans (add_head _ _ _)).trans (congrArg L2 ?_)
    funext p q; simp only [RIns.row, grp_col, lane_col]
  · refine ((congrArg₂ k0_pay6 (rd_head R.a1 R.h1 r.x0 2 _) (rd_head R.a2 R.h2 r.x1 2 _)).trans (add_head _ _ _)).trans (congrArg L2 ?_)
    funext p q; simp only [RIns.row, grp_col, lane_col]
  · refine ((congrArg₂ k0_pay7 (rd_head R.a1 R.h1 r.x0 3 _) (rd_head R.a2 R.h2 r.x1 3 _)).trans (add_head _ _ _)).trans (congrArg L2 ?_)
    funext p q; simp only [RIns.row, grp_col, lane_col]
  · refine ((congrArg₂ k0_pay8 (rd_head R.a1 R.h1 r.x0 4 _) (rd_head R.a2 R.h2 r.x1 4 _)).trans (add_head _ _ _)).trans (congrArg L2 ?_)
    funext p q; simp only [RIns.row, grp_col, lane_col]
  · refine ((congrArg₂ k0_pay9 (rd_head R.a1 R.h1 r.x0 5 _) (rd_head R.a2 R.h2 r.x1 5 _)).trans (add_head _ _ _)).trans (congrArg L2 ?_)
    funext p q; simp only [RIns.row, grp_col, lane_col]
  · refine ((congrArg₂ k0_pay10 (rd_head R.a1 R.h1 r.x0 6 _) (rd_head R.a2 R.h2 r.x1 6 _)).trans (add_head _ _ _)).trans (congrArg L2 ?_)
    funext p q; simp only [RIns.row, grp_col, lane_col]
  · refine ((congrArg₂ k0_pay11 (rd_head R.a1 R.h1 r.x0 7 _) (rd_head R.a2 R.h2 r.x1 7 _)).trans (add_head _ _ _)).trans (congrArg L2 ?_)
    funext p q; simp only [RIns.row, grp_col, lane_col]
theorem m_ga : runM.sl.r c R r.up = L2 (e := .f32) fun a => (r.row a).ga := by
  exact rd_256 R.a3 R.h3 r.x2 _
theorem m_gb : runM.sl.r_1 c R r.up = L2 (e := .f32) fun a => (r.row a).gb := by
  exact rd_256 R.a4 R.h4 r.x3 _
theorem m_ys : runM.sl.r_6 c R r.up = L2 (e := .f32) fun a => (r.row a).ys := by
  exact rd_256 R.a5 R.h5 r.x4 _
theorem m_sia : runM.sl.r_2 c R r.up = L2 (e := .f32) fun a j => si ((r.row a).ga j) := by
  unfold runM.sl.r_2; rw [m_ga]; exact pay13_L _
theorem m_sda : runM.sl.r_3 c R r.up = L2 (e := .f32) fun a j => sd ((r.row a).ga j) := by
  unfold runM.sl.r_3; rw [m_ga]; exact pay14_L _
theorem m_sib : runM.sl.r_4 c R r.up = L2 (e := .f32) fun a j => si ((r.row a).gb j) := by
  unfold runM.sl.r_4; rw [m_gb]; exact pay16_L _
theorem m_sdb : runM.sl.r_5 c R r.up = L2 (e := .f32) fun a j => sd ((r.row a).gb j) := by
  unfold runM.sl.r_5; rw [m_gb]; exact pay17_L _
theorem m_w : runM.sl.r_8 c R r.up = L2 (e := .bf16) r.p.w := by
  exact rd_w R.a10 R.h10 r.x9 _
theorem m_gx : runM.sl.r_10 c R r.up = L2 (e := .f32) fun _ => r.p.gx := by
  exact rd_8 R.a8 R.h8 r.x7 _
theorem m_fg : runM.sl.r_13 c R r.up = L2 (e := .f32) fun _ => r.p.fg := by
  exact rd_1 R.a9 R.h9 r.x8 _
theorem m_y0 : k0_pay18 (runM.sl.v51 c R r.up) (runM.sl.r c R r.up) = L2 (e := .bf16) fun a j => yy (r.row a) (lft j) := by
  rw [m_yl, m_ga]
  refine (pay18_L _ _).trans (congrArg L2 ?_)
  funext a j; exact (yy_lft _ _).symm
theorem m_y1 : k0_pay19 (runM.sl.r_1 c R r.up) (runM.sl.r_6 c R r.up) = L2 (e := .bf16) fun a j => yy (r.row a) (rgt j) := by
  rw [m_gb, m_ys]
  refine (pay19_L _ _).trans (congrArg L2 ?_)
  funext a j; exact (yy_rgt _ _).symm
theorem t14 : View.canon (runM.sl.H14_2 c R r.up) = L2 (e := .bf16) fun a => yy (r.row a) :=
  halves (fun a => yy (r.row a)) _ _ (m_y0 c R r) (m_y1 c R r)
theorem m_y : runM.sl.r_7 c R r.up = L2 (e := .bf16) fun a => yy (r.row a) :=
  (congrArg k0_pay20 (halves_read R.a15 (fun a => yy (r.row a)) _ _ _ (m_y0 c R r) (m_y1 c R r))).trans (pay20_L _)
theorem m_o : runM.sl.r_9 c R r.up = L2 (e := .f32) fun a => oo r.p (r.row a) := by
  unfold runM.sl.r_9; rw [m_y, m_w]; exact pay21_L r.p r.row
theorem rd_gx (inb) : View.readAt (Elt Ideal) R.a8.view (Rect.unit (s := S8x1024) ![0, 0] S1x1024.size inb).toLoadRect (R.h8.unread r.up.x7)
    = L2 (e := .f32) fun _ => r.p.gx := rd_8 R.a8 R.h8 r.x7 _
theorem rd_x (inb) : View.readAt (Elt Ideal) R.a6.view (Rect.unit (s := S256x1024) ![0, 0] S256x1024.size inb).toLoadRect (R.h6.unread r.up.x5)
    = L2 (e := .f32) fun a => (r.row a).x := rd_256 R.a6 R.h6 r.x5 _
theorem rd_tgt (inb) : View.readAt (Elt Ideal) R.a7.view (Rect.unit (s := S256x1024) ![0, 0] S256x1024.size inb).toLoadRect (R.h7.unread r.up.x6)
    = L2 (e := .f32) fun a => (r.row a).tgt := rd_256 R.a7 R.h7 r.x6 _
theorem rd_fg (inb) : View.readAt (Elt Ideal) R.a9.view (Rect.unit (s := S1x1024) ![0, 0] S1x1024.size inb).toLoadRect (R.h9.unread r.up.x8)
    = L2 (e := .f32) fun _ => r.p.fg := rd_1 R.a9 R.h9 r.x8 _
theorem m_rr : runM.sl.r_11 c R r.up = L2 (e := .f32) fun a _ => rr (hh r.p (r.row a)) := by
  unfold runM.sl.r_11; rw [m_y, m_w, rd_gx, rd_x]; exact pay23_L r.p r.row
theorem m_xn : runM.sl.r_12 c R r.up = L2 (e := .f32) fun a => xn (hh r.p (r.row a)) := by
  unfold runM.sl.r_12; rw [m_y, m_w, rd_gx, rd_x]; exact pay24_L r.p r.row
theorem m_e : runM.sl.r_14 c R r.up = L2 (e := .f32) fun a => ee r.p (r.row a) := by
  unfold runM.sl.r_14; rw [m_y, m_w, rd_gx, rd_x, rd_fg, rd_tgt]; exact pay25_L r.p r.row
theorem m_do : runM.sl.r_15 c R r.up = L2 (e := .bf16) fun a => dO r.p (r.row a) := by
  unfold runM.sl.r_15; rw [m_gx, m_rr, m_xn, m_fg, m_e]; exact pay32_L r.p r.row

/-! ### Its outputs -/

abbrev blk1 {e : EltTy} (w : S256x1024.Idx → Elt Ideal e) : View.Piece (Elt Ideal) S256x1024 e := ⟨Rect.unit (s := S256x1024) ![0, 0] S256x1024.size inb_S256x1024_S256x1024_0_0, w⟩

theorem t13 : View.canon (Val := Elt Ideal) (s := S256x1024) (e := .f32) [blk1 (e := .f32) (k0_pay30 (runM.sl.r_11 c R r.up) (runM.sl.r_12 c R r.up) (runM.sl.r_13 c R r.up) (runM.sl.r_14 c R r.up))]
    = L2 (e := .f32) fun a => dh r.p (r.row a) :=
  block_whole _ _ _ (by rw [m_rr, m_xn, m_fg, m_e]; exact pay30_L r.p r.row)
theorem t15 : View.canon (Val := Elt Ideal) (s := S256x1024) (e := .bf16) [blk1 (e := .bf16) (runM.sl.r_15 c R r.up)] = L2 (e := .bf16) fun a => dO r.p (r.row a) :=
  block_whole16 _ _ _ (m_do c R r)
theorem t16 : View.canon (Val := Elt Ideal) (s := S256x1024) (e := .bf16) [blk1 (e := .bf16) (k0_pay36 (runM.sl.v51 c R r.up) (runM.sl.r_3 c R r.up) (runM.sl.r_15 c R r.up) (runM.sl.r_8 c R r.up))]
    = L2 (e := .bf16) fun a => dga r.p (r.row a) :=
  block_whole16 _ _ _ (by rw [m_yl, m_sda, m_do, m_w]; exact pay36_L r.p r.row)
theorem t17 : View.canon (Val := Elt Ideal) (s := S256x1024) (e := .bf16) [blk1 (e := .bf16) (k0_pay37 (runM.sl.r_5 c R r.up) (runM.sl.r_6 c R r.up) (runM.sl.r_15 c R r.up) (runM.sl.r_8 c R r.up))]
    = L2 (e := .bf16) fun a => dgb r.p (r.row a) :=
  block_whole16 _ _ _ (by rw [m_sdb, m_ys, m_do, m_w]; exact pay37_L r.p r.row)
theorem t19 : View.canon (Val := Elt Ideal) (s := S256x1024) (e := .f32) [blk1 (e := .f32) (k0_pay38 (runM.sl.r_4 c R r.up) (runM.sl.r_15 c R r.up) (runM.sl.r_8 c R r.up))]
    = L2 (e := .f32) fun a => dys r.p (r.row a) :=
  block_whole _ _ _ (by rw [m_sib, m_do, m_w]; exact pay38_L r.p r.row)
theorem m_dyl : k0_pay39 (runM.sl.r_2 c R r.up) (runM.sl.r_15 c R r.up) (runM.sl.r_8 c R r.up) = L2 (e := .f32) fun a => dyl r.p (r.row a) := by
  rw [m_sia, m_do, m_w]; exact pay39_L r.p r.row
theorem m_head (k : Fin 8) (b) : R.a21.view.readCov (runM.sl.H20_9 c R r.up) (Rect.unit (s := S256x1024) ![0, 128 * k.val] ![256, 128] b).toLoadRect
    = L2 (e := .f32) fun p q => dyl r.p (r.row p) (col k q) :=
  block_read R.a21 (fun a => dyl r.p (r.row a)) _ _ (m_dyl c R r) k b
theorem t18 : View.canon (Val := Elt Ideal) (s := S2048x128) (e := .f32) [⟨{ off := ![7, 0], size := S256x128.size, stride := ![8, 1], inb := inb_S2048x128_S256x128_7_0_s_8_1, stride_pos := spos_8_1 }, runM.sl.v197 c R r.up⟩,
      ⟨{ off := ![6, 0], size := S256x128.size, stride := ![8, 1], inb := inb_S2048x128_S256x128_6_0_s_8_1, stride_pos := spos_8_1 }, runM.sl.v195 c R r.up⟩,
      ⟨{ off := ![5, 0], size := S256x128.size, stride := ![8, 1], inb := inb_S2048x128_S256x128_5_0_s_8_1, stride_pos := spos_8_1 }, runM.sl.v193 c R r.up⟩,
      ⟨{ off := ![4, 0], size := S256x128.size, stride := ![8, 1], inb := inb_S2048x128_S256x128_4_0_s_8_1, stride_pos := spos_8_1 }, runM.sl.v191 c R r.up⟩,
      ⟨{ off := ![3, 0], size := S256x128.size, stride := ![8, 1], inb := inb_S2048x128_S256x128_3_0_s_8_1, stride_pos := spos_8_1 }, runM.sl.v189 c R r.up⟩,
      ⟨{ off := ![2, 0], size := S256x128.size, stride := ![8, 1], inb := inb_S2048x128_S256x128_2_0_s_8_1, stride_pos := spos_8_1 }, runM.sl.v187 c R r.up⟩,
      ⟨{ off := ![1, 0], size := S256x128.size, stride := ![8, 1], inb := inb_S2048x128_S256x128_1_0_s_8_1, stride_pos := spos_8_1 }, runM.sl.v185 c R r.up⟩,
      ⟨{ off := ![0, 0], size := S256x128.size, stride := ![8, 1], inb := inb_S2048x128_S256x128_0_0_s_8_1, stride_pos := spos_8_1 }, runM.sl.v183 c R r.up⟩]
    = L2 (e := .f32) fun (z : Fin 2048) q => dyl r.p (r.row ⟨z.val / 8, by omega⟩) (col ⟨z.val % 8, by omega⟩ q) :=
  heads (fun a => dyl r.p (r.row a)) _ _ _ _ _ _ _ _ _ _ _ _ _ _ _ _
    (m_head c R r 0 _) (m_head c R r 1 _) (m_head c R r 2 _) (m_head c R r 3 _) (m_head c R r 4 _) (m_head c R r 5 _) (m_head c R r 6 _) (m_head c R r 7 _)

/-! ### The accumulators -/

theorem t10 (s : Fin 1 → Row) (v : Vec Ideal S1x1024 .f32) (hv : v = L2 (e := .f32) s) :
    k0_pay26 (runM.sl.r_7 c R r.up) (runM.sl.r_8 c R r.up)
      (View.readAt (Elt Ideal) R.a8.view (Rect.unit (s := S8x1024) ![0, 0] S1x1024.size inb_S8x1024_S1x1024_0_0).toLoadRect (R.h8.unread r.up.x7))
      (View.readAt (Elt Ideal) R.a6.view (Rect.unit (s := S256x1024) ![0, 0] S256x1024.size inb_S256x1024_S256x1024_0_0).toLoadRect (R.h6.unread r.up.x5))
      (View.readAt (Elt Ideal) R.a9.view (Rect.unit (s := S1x1024) ![0, 0] S1x1024.size inb_S1x1024_S1x1024_0_0).toLoadRect (R.h9.unread r.up.x8))
      (View.readAt (Elt Ideal) R.a7.view (Rect.unit (s := S256x1024) ![0, 0] S256x1024.size inb_S256x1024_S256x1024_0_0).toLoadRect (R.h7.unread r.up.x6)) v
    = L2 (e := .f32) fun q j => s q j + 1 / 2 * ∑ k, ls r.p (r.row k) := by
  rw [hv, m_y, m_w, rd_gx, rd_x, rd_fg, rd_tgt]; exact pay26_L r.p r.row s
theorem t11 (s : Fin 1 → Row) (v : Vec Ideal S1x1024 .f32) (hv : v = L2 (e := .f32) s) :
    k0_pay29 (runM.sl.r_12 c R r.up) (runM.sl.r_14 c R r.up) v
    = L2 (e := .f32) fun q j => s q j + ∑ k, dout r.p (r.row k) j * xn (hh r.p (r.row k)) j := by
  rw [hv, m_xn, m_e]; exact pay29_L r.p r.row s
theorem t12 (s : Fin 1 → Row) (v : Vec Ideal S1x1024 .f32) (hv : v = L2 (e := .f32) s) :
    k0_pay31 (runM.sl.r_9 c R r.up) (runM.sl.r_11 c R r.up) (runM.sl.r_12 c R r.up) (runM.sl.r_13 c R r.up) (runM.sl.r_14 c R r.up) v
    = L2 (e := .f32) fun q j => s q j + ∑ k, dh r.p (r.row k) j * oo r.p (r.row k) j := by
  rw [hv, m_o, m_rr, m_xn, m_fg, m_e]; exact pay31_L r.p r.row s

theorem rd_acc (m : Memref sig .tc .vmem S1x1024 .f32) (h : m.IsWhole) (f : Fin 1 → Row) (inb) :
    View.readAt (Elt Ideal) m.view (Rect.unit (s := S1x1024) ![0, 0] S1x1024.size inb).toLoadRect
      (h.unread (L2 f : FVec Ideal _ .f32)) = L2 (e := .f32) f := by
  refine (rd_1 m h f inb).trans (congrArg L2 ?_)
  funext q; rw [Subsingleton.elim q 0]

/-! ### The points -/

set_option maxHeartbeats 4000000 in
theorem outM (h : ¬condF i) (h' : ¬condL i) : (runM c i R r.up a.up h h').1.out = r.out (r.next a) := by
  refine out_ext _ _ ?_ ?_ ?_ ?_ ?_ ?_ ?_ ?_ ?_ ?_
  · refine Eq.trans ?_ (row_whole _ [] inb_S1x1024_S1x1024_0_0 (t10 c R r _ _ (rd_acc R.a11 R.h11 a.o10 inb_S1x1024_S1x1024_0_0))); sl_kernel_rfl
  · refine Eq.trans ?_ (row_whole _ [] inb_S1x1024_S1x1024_0_0 (t11 c R r _ _ (rd_acc R.a12 R.h12 a.o11 inb_S1x1024_S1x1024_0_0))); sl_kernel_rfl
  · refine Eq.trans ?_ (row_whole _ [] inb_S1x1024_S1x1024_0_0 (t12 c R r _ _ (rd_acc R.a13 R.h13 a.o12 inb_S1x1024_S1x1024_0_0))); sl_kernel_rfl
  · refine Eq.trans ?_ (t13 c R r); sl_kernel_rfl
  · refine Eq.trans ?_ (t14 c R r); sl_kernel_rfl
  · refine Eq.trans ?_ (t15 c R r); sl_kernel_rfl
  · refine Eq.trans ?_ (t16 c R r); sl_kernel_rfl
  · refine Eq.trans ?_ (t17 c R r); sl_kernel_rfl
  · refine Eq.trans ?_ (t18 c R r); sl_kernel_rfl
  · refine Eq.trans ?_ (t19 c R r); sl_kernel_rfl

set_option maxHeartbeats 4000000 in
/-- The tiles of the first point and of the last are written by the same words. -/
theorem outF (h : condF i) (h' : ¬condL i) : (runF c i R r.up h h').1.out = r.out (r.next .zero) := by
  refine out_ext _ _ ?_ ?_ ?_ ?_ ?_ ?_ ?_ ?_ ?_ ?_
  · refine Eq.trans ?_ (row_whole _ (runF.sl.H10_1 (F := Ideal)) inb_S1x1024_S1x1024_0_0 (t10 c R r _ (runF.sl.v114 c R) ((View.readCov_cons_toLoadRect _ _ _ _).trans sp_zero))); sl_kernel_rfl
  · refine Eq.trans ?_ (row_whole _ (runF.sl.H11_1 (F := Ideal)) inb_S1x1024_S1x1024_0_0 (t11 c R r _ (runF.sl.v133 c R) ((View.readCov_cons_toLoadRect _ _ _ _).trans sp_zero))); sl_kernel_rfl
  · refine Eq.trans ?_ (row_whole _ (runF.sl.H12_1 (F := Ideal)) inb_S1x1024_S1x1024_0_0 (t12 c R r _ (runF.sl.v153 c R) ((View.readCov_cons_toLoadRect _ _ _ _).trans sp_zero))); sl_kernel_rfl
  · refine Eq.trans ?_ (t13 c R r); sl_kernel_rfl
  · refine Eq.trans ?_ (t14 c R r); sl_kernel_rfl
  · refine Eq.trans ?_ (t15 c R r); sl_kernel_rfl
  · refine Eq.trans ?_ (t16 c R r); sl_kernel_rfl
  · refine Eq.trans ?_ (t17 c R r); sl_kernel_rfl
  · refine Eq.trans ?_ (t18 c R r); sl_kernel_rfl
  · refine Eq.trans ?_ (t19 c R r); sl_kernel_rfl

set_option maxHeartbeats 4000000 in
theorem outL (h : ¬condF i) (h' : condL i) : (runL c i R r.up a.up h h').1.out = r.out (r.next a).last := by
  have hv : runL.sl.v199 c R r.up a.up = L2 (e := .f32) (r.next a).o10 :=
    (View.readCov_cons_toLoadRect _ _ _ _).trans (t10 c R r _ _ (rd_acc R.a11 R.h11 a.o10 inb_S1x1024_S1x1024_0_0))
  refine out_ext _ _ ?_ ?_ ?_ ?_ ?_ ?_ ?_ ?_ ?_ ?_
  · refine Eq.trans ?_ (row_whole _ (runL.sl.H10_1 c R r.up a.up) inb_S1x1024_S1x1024_0_0
      ((congrArg k0_pay27 hv).trans (pay27_L _))); sl_kernel_rfl
  · refine Eq.trans ?_ (row_whole _ [] inb_S1x1024_S1x1024_0_0 (t11 c R r _ _ (rd_acc R.a12 R.h12 a.o11 inb_S1x1024_S1x1024_0_0))); sl_kernel_rfl
  · refine Eq.trans ?_ (row_whole _ [] inb_S1x1024_S1x1024_0_0 (t12 c R r _ _ (rd_acc R.a13 R.h13 a.o12 inb_S1x1024_S1x1024_0_0))); sl_kernel_rfl
  · refine Eq.trans ?_ (t13 c R r); sl_kernel_rfl
  · refine Eq.trans ?_ (t14 c R r); sl_kernel_rfl
  · refine Eq.trans ?_ (t15 c R r); sl_kernel_rfl
  · refine Eq.trans ?_ (t16 c R r); sl_kernel_rfl
  · refine Eq.trans ?_ (t17 c R r); sl_kernel_rfl
  · refine Eq.trans ?_ (t18 c R r); sl_kernel_rfl
  · refine Eq.trans ?_ (t19 c R r); sl_kernel_rfl

end Cert.Kernel2Ideal.Val
-- ==== Proof.HVal.lean ====
module

public import proofs.«01_k».proof.Proof.HOut
public import Idealize.ShloMosaic.Lib.Pipeline.ValueKit

/-! What the second call leaves in its result arrays, on real arguments. -/

@[expose] public section

set_option maxRecDepth 16384

noncomputable section

namespace Cert.Kernel2Ideal.Val

open Idealize.ShloMosaic Idealize.ShloMosaic.TcCoe Idealize.ShloMosaic.Tactic Cert.Lift Cert.Math Cert.Head Cert.Kernel2Ideal Cert.Kernel2Ideal.Gen Cert.Kernel2Ideal.Run

/-- The kernel's argument arrays hold the real numbers of `d`. -/
structure HoldsK (m : (ℓ : Loc nD τ sig) → Buf (Elt Ideal) ℓ) (c : Dev nD) (d : Head.Data) : Prop where
  h0 : m ((c : Thread nD τ).loc main_arg0) = (L2 d.hf : FVec Ideal S18432x128 .f32)
  h1 : m ((c : Thread nD τ).loc main_arg1) = (L2 d.hb : FVec Ideal S18432x128 .f32)
  h2 : m ((c : Thread nD τ).loc main_arg2) = (L2 d.ga : FVec Ideal S2048x1024 .f32)
  h3 : m ((c : Thread nD τ).loc main_arg3) = (L2 d.gb : FVec Ideal S2048x1024 .f32)
  h4 : m ((c : Thread nD τ).loc main_arg4) = (L2 d.ys : FVec Ideal S2048x1024 .f32)
  h5 : m ((c : Thread nD τ).loc main_arg5) = (L2 d.x : FVec Ideal S2048x1024 .f32)
  h6 : m ((c : Thread nD τ).loc main_arg6) = (L2 d.tgt : FVec Ideal S2048x1024 .f32)
  h7 : m ((c : Thread nD τ).loc main_arg7) = (L2 d.mods : FVec Ideal S8x3072 .f32)
  h8 : m ((c : Thread nD τ).loc main_arg8) = (L2 d.fg : FVec Ideal S1x1024 .f32)
  h9 : m ((c : Thread nD τ).loc main_arg9) = (L2 d.w : FVec Ideal S2048x1024 .f32)

/-! ### Blocks of rows -/

/-- Row `a` of block `n`. -/
def brow (n : Fin 8) (a : Fin 256) : Fin 2048 := ⟨256 * n.val + a.val, by omega⟩

/-- A sum over all rows, by the blocks of 256. -/
theorem sum_blocks (F : Fin 2048 → ℝ) : ∑ r, F r = ∑ i, ∑ a, F (brow i a) := by
  rw [← (finProdFinEquiv (m := 8) (n := 256)).sum_comp, Fintype.sum_prod_type]
  exact Finset.sum_congr rfl fun n _ => Finset.sum_congr rfl fun p _ => congrArg F (Fin.ext (Nat.add_comm _ _))

/-- The blocks of point `n`. -/
def rins (d : Head.Data) (n : Fin 8) : RIns where
  x0 := fun z q => d.hf ⟨2048 * (n.val + 1) + z.val, by omega⟩ q
  x1 := fun z q => d.hb ⟨2048 * (n.val + 1) + z.val, by omega⟩ q
  x2 := fun a => d.ga (brow n a)
  x3 := fun a => d.gb (brow n a)
  x4 := fun a => d.ys (brow n a)
  x5 := fun a => d.x (brow n a)
  x6 := fun a => d.tgt (brow n a)
  x7 := fun q j => d.mods q ⟨2048 + j.val, by omega⟩
  x8 := d.fg
  x9 := d.w

theorem rins_p (d : Head.Data) (n : Fin 8) : (rins d n).p = d.p := rfl
theorem rins_row (d : Head.Data) (n : Fin 8) (a : Fin 256) : (rins d n).row a = d.r (brow n a) := by
  have e : (rins d n).row a = ⟨d.yl (brow n a), d.ga (brow n a), d.gb (brow n a), d.ys (brow n a), d.x (brow n a), d.tgt (brow n a)⟩ := by
    unfold RIns.row
    congr 1
    funext j
    refine congrArg₂ (fun a b : ℝ => a + b) (congrArg (fun z => d.hf z (lane j)) (Fin.ext ?_)) (congrArg (fun z => d.hb z (lane j)) (Fin.ext ?_)) <;>
      (simp only [brw, brow, zrow]; omega)
  exact e

/-- The accumulators after point `n`, before the last point lays out the loss. -/
def racc (d : Head.Data) : (n : ℕ) → n < 8 → RAcc
  | 0, h => (rins d ⟨0, h⟩).next .zero
  | n + 1, h => (rins d ⟨n + 1, h⟩).next (racc d n (Nat.lt_of_succ_lt h))
/-- What point `n` leaves in them. -/
def rfin (d : Head.Data) (n : ℕ) (h : n < 8) : RAcc := if n = 7 then (racc d n h).last else racc d n h

theorem acc_sum (d : Head.Data) (P : RAcc → ℝ) (T : Fin 8 → ℝ) (h0 : P .zero = 0) (h : ∀ n a, P ((rins d n).next a) = P a + T n) :
    P (racc d 7 (by decide)) = ∑ n, T n := by
  simp only [racc, h, h0, Fin.sum_univ_eight, zero_add]; rfl

theorem last_o10 (d : Head.Data) : (rfin d 7 (by decide)).o10 = d.loss := by
  funext q j
  show (if j.val = 0 then (racc d 7 (by decide)).o10 q j else 0) = _
  rw [acc_sum d (fun a => a.o10 q j) (fun n => 1 / 2 * ∑ k, ls (rins d n).p ((rins d n).row k)) rfl (fun _ _ => rfl)]
  unfold Data.loss
  rw [sum_blocks, Finset.mul_sum]
  simp only [rins_p, rins_row]
theorem last_o11 (d : Head.Data) : (rfin d 7 (by decide)).o11 = d.dfg := by
  funext q j
  show (racc d 7 (by decide)).o11 q j = _
  rw [acc_sum d (fun a => a.o11 q j) (fun n => ∑ k, dout (rins d n).p ((rins d n).row k) j * xn (hh (rins d n).p ((rins d n).row k)) j) rfl (fun _ _ => rfl)]
  unfold Data.dfg
  rw [sum_blocks]
  simp only [rins_p, rins_row]
theorem last_o12 (d : Head.Data) : (rfin d 7 (by decide)).o12 = d.dgx := by
  funext q j
  show (racc d 7 (by decide)).o12 q j = _
  rw [acc_sum d (fun a => a.o12 q j) (fun n => ∑ k, dh (rins d n).p ((rins d n).row k) j * oo (rins d n).p ((rins d n).row k) j) rfl (fun _ _ => rfl)]
  unfold Data.dgx
  rw [sum_blocks]
  simp only [rins_p, rins_row]

/-! ### The windows -/

theorem idx0 : ∀ t : Fin cfg0.N, win0_0.index t = ![t.val + 1, 0] := (by decide +kernel : ∀ t : Fin grid0.N, _)
theorem idx1 : ∀ t : Fin cfg0.N, win0_1.index t = ![t.val + 1, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![0, 2] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![t.val, 0] := (by decide +kernel : ∀ t : Fin grid0.N, _)
theorem idx15 : ∀ t : Fin cfg0.N, win0_15.index t = ![t.val, 0] := (by decide +kernel : ∀ t : Fin grid0.N, _)
theorem idx16 : ∀ t : Fin cfg0.N, win0_16.index t = ![t.val, 0] := (by decide +kernel : ∀ t : Fin grid0.N, _)
theorem idx17 : ∀ t : Fin cfg0.N, win0_17.index t = ![t.val, 0] := (by decide +kernel : ∀ t : Fin grid0.N, _)
theorem idx18 : ∀ t : Fin cfg0.N, win0_18.index t = ![t.val, 0] := (by decide +kernel : ∀ t : Fin grid0.N, _)
theorem idx19 : ∀ t : Fin cfg0.N, win0_19.index t = ![t.val, 0] := (by decide +kernel : ∀ t : Fin grid0.N, _)

theorem lt8' (t : Fin cfg0.N) : t.val < 8 := lt8 t
abbrev pt (t : Fin cfg0.N) : Fin 8 := ⟨t.val, lt8' t⟩

variable {m : (ℓ : Loc nD τ sig) → Buf (Elt Ideal) ℓ} {c : Dev nD} {d : Head.Data} (H : HoldsK m c d)
include H
theorem host_w : V m c main_v0 = (L2 d.w : FVec Ideal S2048x1024 .bf16) := by
  entry_read; rw [H.h9]; rfl
theorem hblk0 (t : Fin cfg0.N) : iblk m c 0 t = L2 (e := .f32) (rins d (pt t)).x0 := by
  funext j
  have e := congrFun ((V_main_arg0 m c).trans H.h0) (((cfg0.win 0).blk t).view.emb j)
  refine Eq.trans ?_ (e.trans ?_)
  · rfl
  · refine congrArg Real.toEReal (congrArg₂ d.hf (Fin.ext ?_) (Fin.ext ?_))
    all_goals (blk_simp [idx0 t, brow] <;> try (dsimp only; omega))
theorem hblk1 (t : Fin cfg0.N) : iblk m c 1 t = L2 (e := .f32) (rins d (pt t)).x1 := by
  funext j
  have e := congrFun ((V_main_arg1 m c).trans H.h1) (((cfg0.win 1).blk t).view.emb j)
  refine Eq.trans ?_ (e.trans ?_)
  · rfl
  · refine congrArg Real.toEReal (congrArg₂ d.hb (Fin.ext ?_) (Fin.ext ?_))
    all_goals (blk_simp [idx1 t, brow] <;> try (dsimp only; omega))
theorem hblk2 (t : Fin cfg0.N) : iblk m c 2 t = L2 (e := .f32) (rins d (pt t)).x2 := by
  funext j
  have e := congrFun ((V_main_arg2 m c).trans H.h2) (((cfg0.win 2).blk t).view.emb j)
  refine Eq.trans ?_ (e.trans ?_)
  · rfl
  · refine congrArg Real.toEReal (congrArg₂ d.ga (Fin.ext ?_) (Fin.ext ?_))
    all_goals (blk_simp [idx2 t, brow] <;> try (dsimp only; omega))
theorem hblk3 (t : Fin cfg0.N) : iblk m c 3 t = L2 (e := .f32) (rins d (pt t)).x3 := by
  funext j
  have e := congrFun ((V_main_arg3 m c).trans H.h3) (((cfg0.win 3).blk t).view.emb j)
  refine Eq.trans ?_ (e.trans ?_)
  · rfl
  · refine congrArg Real.toEReal (congrArg₂ d.gb (Fin.ext ?_) (Fin.ext ?_))
    all_goals (blk_simp [idx3 t, brow] <;> try (dsimp only; omega))
theorem hblk4 (t : Fin cfg0.N) : iblk m c 4 t = L2 (e := .f32) (rins d (pt t)).x4 := by
  funext j
  have e := congrFun ((V_main_arg4 m c).trans H.h4) (((cfg0.win 4).blk t).view.emb j)
  refine Eq.trans ?_ (e.trans ?_)
  · rfl
  · refine congrArg Real.toEReal (congrArg₂ d.ys (Fin.ext ?_) (Fin.ext ?_))
    all_goals (blk_simp [idx4 t, brow] <;> try (dsimp only; omega))
theorem hblk5 (t : Fin cfg0.N) : iblk m c 5 t = L2 (e := .f32) (rins d (pt t)).x5 := by
  funext j
  have e := congrFun ((V_main_arg5 m c).trans H.h5) (((cfg0.win 5).blk t).view.emb j)
  refine Eq.trans ?_ (e.trans ?_)
  · rfl
  · refine congrArg Real.toEReal (congrArg₂ d.x (Fin.ext ?_) (Fin.ext ?_))
    all_goals (blk_simp [idx5 t, brow] <;> try (dsimp only; omega))
theorem hblk6 (t : Fin cfg0.N) : iblk m c 6 t = L2 (e := .f32) (rins d (pt t)).x6 := by
  funext j
  have e := congrFun ((V_main_arg6 m c).trans H.h6) (((cfg0.win 6).blk t).view.emb j)
  refine Eq.trans ?_ (e.trans ?_)
  · rfl
  · refine congrArg Real.toEReal (congrArg₂ d.tgt (Fin.ext ?_) (Fin.ext ?_))
    all_goals (blk_simp [idx6 t, brow] <;> try (dsimp only; omega))
theorem hblk7 (t : Fin cfg0.N) : iblk m c 7 t = L2 (e := .f32) (rins d (pt t)).x7 := by
  funext j
  have e := congrFun ((V_main_arg7 m c).trans H.h7) (((cfg0.win 7).blk t).view.emb j)
  refine Eq.trans ?_ (e.trans ?_)
  · rfl
  · refine congrArg Real.toEReal (congrArg₂ d.mods (Fin.ext ?_) (Fin.ext ?_))
    all_goals (blk_simp [idx7 t, brow] <;> try (dsimp only; omega))
theorem hblk8 (t : Fin cfg0.N) : iblk m c 8 t = L2 (e := .f32) (rins d (pt t)).x8 := by
  funext j
  have e := congrFun ((V_main_arg8 m c).trans H.h8) (((cfg0.win 8).blk t).view.emb j)
  refine Eq.trans ?_ (e.trans ?_)
  · rfl
  · refine congrArg Real.toEReal (congrArg₂ d.fg (Fin.ext ?_) (Fin.ext ?_))
    all_goals (blk_simp [idx8 t, brow] <;> try (dsimp only; omega))
theorem hblk9 (t : Fin cfg0.N) : iblk m c 9 t = L2 (e := .bf16) (rins d (pt t)).x9 := by
  funext j
  have e := congrFun (host_w H) (((cfg0.win 9).blk t).view.emb j)
  refine Eq.trans ?_ (e.trans ?_)
  · rfl
  · refine congrArg Real.toEReal (congrArg₂ d.w (Fin.ext ?_) (Fin.ext ?_))
    all_goals (blk_simp [idx9 t, brow] <;> try (dsimp only; omega))

/-- The blocks of a point. -/
theorem insAt_up (t : Fin cfg0.N) : insAt m c t = (rins d (pt t)).up := by
  unfold insAt RIns.up
  rw [hblk0 H t, hblk1 H t, hblk2 H t, hblk3 H t, hblk4 H t, hblk5 H t, hblk6 H t, hblk7 H t, hblk8 H t, hblk9 H t]

/-- What each point leaves. -/
theorem outs_up : ∀ (n : ℕ) (h : n < cfg0.N), outs m c n h = (rins d (pt ⟨n, h⟩)).out (rfin d n (lt8' ⟨n, h⟩))
  | 0, h => by
    show step c ⟨0, h⟩ (insAt m c ⟨0, h⟩) _ = _
    rw [insAt_up H, step, dif_pos rfl]
    exact outF c _ _ _ _ _
  | n + 1, h => by
    show step c ⟨n + 1, h⟩ (insAt m c ⟨n + 1, h⟩) (outs m c n _).acc = _
    have h8 : n + 1 < 8 := lt8' ⟨n + 1, h⟩
    have ea : rfin d n (Nat.lt_of_succ_lt h8) = racc d n (Nat.lt_of_succ_lt h8) := if_neg (by omega)
    rw [insAt_up H, outs_up n, ea, step, dif_neg (Nat.succ_ne_zero n)]
    by_cases h7 : n + 1 = 7
    · rw [dif_pos h7]
      refine (outL c _ _ _ (racc d n (Nat.lt_of_succ_lt h8)) _ _).trans (congrArg _ ?_)
      unfold rfin; rw [if_pos h7]; rfl
    · rw [dif_neg h7]
      refine (outM c _ _ _ (racc d n (Nat.lt_of_succ_lt h8)) _ _).trans (congrArg _ ?_)
      unfold rfin; rw [if_neg h7]; rfl

/-- The last point. -/
abbrev tL : Fin cfg0.N := ⟨7, by decide⟩

theorem arr10 : (dats m 0 c).arrAt 10 cfg0.N = (L2 d.loss : FVec Ideal S1x1024 .f32) := by
  refine (dats m 0 c).arrAt_eq_of_after_last 10 tL (by decide +kernel) _ fun j => ?_
  exact congrFun ((after10 m c tL).trans ((congrArg Out.o10 (outs_up H 7 tL.isLt)).trans (congrArg L2 (last_o10 d)))) _

theorem arr11 : (dats m 0 c).arrAt 11 cfg0.N = (L2 d.dfg : FVec Ideal S1x1024 .f32) := by
  refine (dats m 0 c).arrAt_eq_of_after_last 11 tL (by decide +kernel) _ fun j => ?_
  exact congrFun ((after11 m c tL).trans ((congrArg Out.o11 (outs_up H 7 tL.isLt)).trans (congrArg L2 (last_o11 d)))) _

theorem arr12 : (dats m 0 c).arrAt 12 cfg0.N = (L2 d.dgx : FVec Ideal S1x1024 .f32) := by
  refine (dats m 0 c).arrAt_eq_of_after_last 12 tL (by decide +kernel) _ fun j => ?_
  exact congrFun ((after12 m c tL).trans ((congrArg Out.o12 (outs_up H 7 tL.isLt)).trans (congrArg L2 (last_o12 d)))) _

theorem arr13 : (dats m 0 c).arrAt 13 cfg0.N = (L2 (fun a => dh d.p (d.r a)) : FVec Ideal S2048x1024 .f32) := by
  refine (dats m 0 c).arrAt_eq_of_covers 13 _ (by decide +kernel) fun t hf y => ?_
  have e := (after13 m c t).trans (congrArg Out.o13 (outs_up H t.val t.isLt))
  refine Eq.trans (congrFun e ((cfg0.win 13).xinj (cfg0.grid.coords t) y)) ?_
  refine (congrArg (fun r : In => ((dh d.p r (y 1) : ℝ) : EReal)) (rins_row d (pt t) (y 0))).trans ?_
  refine congrArg Real.toEReal (congrArg₂ (fun a => dh d.p (d.r a)) (Fin.ext ?_) (Fin.ext ?_))
  all_goals (blk_simp [idx13 t, brow] <;> try (dsimp only; omega))

theorem arr14 : (dats m 0 c).arrAt 14 cfg0.N = (L2 (fun a => yy (d.r a)) : FVec Ideal S2048x2048 .bf16) := by
  refine (dats m 0 c).arrAt_eq_of_covers 14 _ (by decide +kernel) fun t hf y => ?_
  have e := (after14 m c t).trans (congrArg Out.o14 (outs_up H t.val t.isLt))
  refine Eq.trans (congrFun e ((cfg0.win 14).xinj (cfg0.grid.coords t) y)) ?_
  refine (congrArg (fun r : In => ((yy r (y 1) : ℝ) : EReal)) (rins_row d (pt t) (y 0))).trans ?_
  refine congrArg Real.toEReal (congrArg₂ (fun a => yy (d.r a)) (Fin.ext ?_) (Fin.ext ?_))
  all_goals (blk_simp [idx14 t, brow] <;> try (dsimp only; omega))

theorem arr15 : (dats m 0 c).arrAt 15 cfg0.N = (L2 (fun a => dO d.p (d.r a)) : FVec Ideal S2048x1024 .bf16) := by
  refine (dats m 0 c).arrAt_eq_of_covers 15 _ (by decide +kernel) fun t hf y => ?_
  have e := (after15 m c t).trans (congrArg Out.o15 (outs_up H t.val t.isLt))
  refine Eq.trans (congrFun e ((cfg0.win 15).xinj (cfg0.grid.coords t) y)) ?_
  refine (congrArg (fun r : In => ((dO d.p r (y 1) : ℝ) : EReal)) (rins_row d (pt t) (y 0))).trans ?_
  refine congrArg Real.toEReal (congrArg₂ (fun a => dO d.p (d.r a)) (Fin.ext ?_) (Fin.ext ?_))
  all_goals (blk_simp [idx15 t, brow] <;> try (dsimp only; omega))

theorem arr16 : (dats m 0 c).arrAt 16 cfg0.N = (L2 (fun a => dga d.p (d.r a)) : FVec Ideal S2048x1024 .bf16) := by
  refine (dats m 0 c).arrAt_eq_of_covers 16 _ (by decide +kernel) fun t hf y => ?_
  have e := (after16 m c t).trans (congrArg Out.o16 (outs_up H t.val t.isLt))
  refine Eq.trans (congrFun e ((cfg0.win 16).xinj (cfg0.grid.coords t) y)) ?_
  refine (congrArg (fun r : In => ((dga d.p r (y 1) : ℝ) : EReal)) (rins_row d (pt t) (y 0))).trans ?_
  refine congrArg Real.toEReal (congrArg₂ (fun a => dga d.p (d.r a)) (Fin.ext ?_) (Fin.ext ?_))
  all_goals (blk_simp [idx16 t, brow] <;> try (dsimp only; omega))

theorem arr17 : (dats m 0 c).arrAt 17 cfg0.N = (L2 (fun a => dgb d.p (d.r a)) : FVec Ideal S2048x1024 .bf16) := by
  refine (dats m 0 c).arrAt_eq_of_covers 17 _ (by decide +kernel) fun t hf y => ?_
  have e := (after17 m c t).trans (congrArg Out.o17 (outs_up H t.val t.isLt))
  refine Eq.trans (congrFun e ((cfg0.win 17).xinj (cfg0.grid.coords t) y)) ?_
  refine (congrArg (fun r : In => ((dgb d.p r (y 1) : ℝ) : EReal)) (rins_row d (pt t) (y 0))).trans ?_
  refine congrArg Real.toEReal (congrArg₂ (fun a => dgb d.p (d.r a)) (Fin.ext ?_) (Fin.ext ?_))
  all_goals (blk_simp [idx17 t, brow] <;> try (dsimp only; omega))

theorem arr18 : (dats m 0 c).arrAt 18 cfg0.N = (L2 d.dylz : FVec Ideal S16384x128 .f32) := by
  refine (dats m 0 c).arrAt_eq_of_covers 18 _ (by decide +kernel) fun t hf y => ?_
  have e := (after18 m c t).trans (congrArg Out.o18 (outs_up H t.val t.isLt))
  refine Eq.trans (congrFun e ((cfg0.win 18).xinj (cfg0.grid.coords t) y)) ?_
  have h0 : (y (0 : Fin 2)).val < 2048 := (y (0 : Fin 2)).isLt
  refine (congrArg (fun r : In => ((dyl d.p r (col ⟨(y (0 : Fin 2)).val % 8, by omega⟩ (y 1)) : ℝ) : EReal)) (rins_row d (pt t) ⟨(y (0 : Fin 2)).val / 8, by omega⟩)).trans ?_
  refine congrArg Real.toEReal (congrArg₂ (fun a b => dyl d.p (d.r a) b) (Fin.ext ?_) (congrArg₂ col (Fin.ext ?_) (Fin.ext ?_)))
  all_goals (blk_simp [idx18 t, brow] <;> try (dsimp only; omega))

theorem arr19 : (dats m 0 c).arrAt 19 cfg0.N = (L2 (fun a => dys d.p (d.r a)) : FVec Ideal S2048x1024 .f32) := by
  refine (dats m 0 c).arrAt_eq_of_covers 19 _ (by decide +kernel) fun t hf y => ?_
  have e := (after19 m c t).trans (congrArg Out.o19 (outs_up H t.val t.isLt))
  refine Eq.trans (congrFun e ((cfg0.win 19).xinj (cfg0.grid.coords t) y)) ?_
  refine (congrArg (fun r : In => ((dys d.p r (y 1) : ℝ) : EReal)) (rins_row d (pt t) (y 0))).trans ?_
  refine congrArg Real.toEReal (congrArg₂ (fun a => dys d.p (d.r a)) (Fin.ext ?_) (Fin.ext ?_))
  all_goals (blk_simp [idx19 t, brow] <;> try (dsimp only; omega))

/-! ### The result arrays after the run -/

theorem post10 (r : PUnit × MemSt nD τ sig (Elt Ideal)) (h : Pipeline.FramePost cfgs (dats m) 0 (V m) r) :
    r.2.mem ((c : Thread nD τ).loc main_v1_0) = (L2 d.loss : FVec Ideal S1x1024 .f32) := by
  have e : r.2.mem ((c : Thread nD τ).loc main_v1_0) = (dats m 0 c).arrAt 10 cfg0.N := (h c).1 10
  rw [e]; exact arr10 H

theorem post11 (r : PUnit × MemSt nD τ sig (Elt Ideal)) (h : Pipeline.FramePost cfgs (dats m) 0 (V m) r) :
    r.2.mem ((c : Thread nD τ).loc main_v1_1) = (L2 d.dfg : FVec Ideal S1x1024 .f32) := by
  have e : r.2.mem ((c : Thread nD τ).loc main_v1_1) = (dats m 0 c).arrAt 11 cfg0.N := (h c).1 11
  rw [e]; exact arr11 H

theorem post12 (r : PUnit × MemSt nD τ sig (Elt Ideal)) (h : Pipeline.FramePost cfgs (dats m) 0 (V m) r) :
    r.2.mem ((c : Thread nD τ).loc main_v1_2) = (L2 d.dgx : FVec Ideal S1x1024 .f32) := by
  have e : r.2.mem ((c : Thread nD τ).loc main_v1_2) = (dats m 0 c).arrAt 12 cfg0.N := (h c).1 12
  rw [e]; exact arr12 H

theorem post13 (r : PUnit × MemSt nD τ sig (Elt Ideal)) (h : Pipeline.FramePost cfgs (dats m) 0 (V m) r) :
    r.2.mem ((c : Thread nD τ).loc main_v1_3) = (L2 (fun a => dh d.p (d.r a)) : FVec Ideal S2048x1024 .f32) := by
  have e : r.2.mem ((c : Thread nD τ).loc main_v1_3) = (dats m 0 c).arrAt 13 cfg0.N := (h c).1 13
  rw [e]; exact arr13 H

theorem post14 (r : PUnit × MemSt nD τ sig (Elt Ideal)) (h : Pipeline.FramePost cfgs (dats m) 0 (V m) r) :
    r.2.mem ((c : Thread nD τ).loc main_v1_4) = (L2 (fun a => yy (d.r a)) : FVec Ideal S2048x2048 .bf16) := by
  have e : r.2.mem ((c : Thread nD τ).loc main_v1_4) = (dats m 0 c).arrAt 14 cfg0.N := (h c).1 14
  rw [e]; exact arr14 H

theorem post15 (r : PUnit × MemSt nD τ sig (Elt Ideal)) (h : Pipeline.FramePost cfgs (dats m) 0 (V m) r) :
    r.2.mem ((c : Thread nD τ).loc main_v1_5) = (L2 (fun a => dO d.p (d.r a)) : FVec Ideal S2048x1024 .bf16) := by
  have e : r.2.mem ((c : Thread nD τ).loc main_v1_5) = (dats m 0 c).arrAt 15 cfg0.N := (h c).1 15
  rw [e]; exact arr15 H

theorem post16 (r : PUnit × MemSt nD τ sig (Elt Ideal)) (h : Pipeline.FramePost cfgs (dats m) 0 (V m) r) :
    r.2.mem ((c : Thread nD τ).loc main_v1_6) = (L2 (fun a => dga d.p (d.r a)) : FVec Ideal S2048x1024 .bf16) := by
  have e : r.2.mem ((c : Thread nD τ).loc main_v1_6) = (dats m 0 c).arrAt 16 cfg0.N := (h c).1 16
  rw [e]; exact arr16 H

theorem post17 (r : PUnit × MemSt nD τ sig (Elt Ideal)) (h : Pipeline.FramePost cfgs (dats m) 0 (V m) r) :
    r.2.mem ((c : Thread nD τ).loc main_v1_7) = (L2 (fun a => dgb d.p (d.r a)) : FVec Ideal S2048x1024 .bf16) := by
  have e : r.2.mem ((c : Thread nD τ).loc main_v1_7) = (dats m 0 c).arrAt 17 cfg0.N := (h c).1 17
  rw [e]; exact arr17 H

theorem post18 (r : PUnit × MemSt nD τ sig (Elt Ideal)) (h : Pipeline.FramePost cfgs (dats m) 0 (V m) r) :
    r.2.mem ((c : Thread nD τ).loc main_v1_8) = (L2 d.dylz : FVec Ideal S16384x128 .f32) := by
  have e : r.2.mem ((c : Thread nD τ).loc main_v1_8) = (dats m 0 c).arrAt 18 cfg0.N := (h c).1 18
  rw [e]; exact arr18 H

theorem post19 (r : PUnit × MemSt nD τ sig (Elt Ideal)) (h : Pipeline.FramePost cfgs (dats m) 0 (V m) r) :
    r.2.mem ((c : Thread nD τ).loc main_v1_9) = (L2 (fun a => dys d.p (d.r a)) : FVec Ideal S2048x1024 .f32) := by
  have e : r.2.mem ((c : Thread nD τ).loc main_v1_9) = (dats m 0 c).arrAt 19 cfg0.N := (h c).1 19
  rw [e]; exact arr19 H

end Cert.Kernel2Ideal.Val
-- ==== Proof.HRef.lean ====
module

public import proofs.«01_k».proof.Proof.HMath
public import proofs.«01_k».proof.Proof.Gen.Reference2Ideal
public import proofs.«01_k».proof.Proof.Gen.Reference2Ideal.Run

/-! The results of the second call's reference, on real arguments. -/

@[expose] public section

set_option maxRecDepth 16384

noncomputable section

namespace Cert.Reference2Ideal.RVal

open Idealize.ShloMosaic Idealize.ShloMosaic.TcCoe Cert.Lift Cert.Math Cert.Head Cert.Reference2Ideal Cert.Reference2Ideal.Gen Cert.Reference2Ideal.Value

/-! ### The operations that look at the shape -/

theorem L2_eq {m n : ℕ} {e : FTy} {f g : Fin m → Fin n → ℝ} (h : ∀ a b, f a b = g a b) : (L2 f : FVec Ideal _ e) = L2 g :=
  congrArg L2 (funext fun a => funext (h a))
theorem L2_hostExp {m n : ℕ} {e : FTy} (f : Fin m → Fin n → ℝ) : Host.exp (L2 f : FVec Ideal _ e) = L2 fun a b => Real.exp (f a b) := by
  funext i; exact Ideal.exp_coe _
theorem L1_hostDiv {n : ℕ} {e : FTy} (f g : Fin n → ℝ) (h : ∀ a, g a ≠ 0) : Host.divf (L1 f : FVec Ideal _ e) (L1 g) = L1 fun a => f a / g a := by
  funext i; exact div_real (h _)
theorem L0_mul {e : FTy} (f g : ℝ) : mulf (L0 f : FVec Ideal _ e) (L0 g) = L0 (f * g) := by
  funext i; exact (EReal.coe_mul _ _).symm
theorem c0 (r : ℝ) {w : BitVec 32} (hw : Ideal.ofBits .f32 w = ((r : ℝ) : EReal)) : (constant S_ .f32 w : FVec Ideal S_ .f32) = L0 r := by
  funext i; exact hw
theorem bc0 {m n : ℕ} (r : ℝ) (h) : broadcastInDim (⟨2, ![m, n]⟩ : Shape) (![] : Fin 0 → Fin 2) h (L0 r : FVec Ideal S_ .f32) = L2 fun _ _ => r := by
  funext i; rfl
theorem bc01 {n : ℕ} (r : ℝ) (h) : broadcastInDim (⟨1, ![n]⟩ : Shape) (![] : Fin 0 → Fin 1) h (L0 r : FVec Ideal S_ .f32) = L1 fun _ => r := by
  funext i; rfl
theorem bc_v (f : Fin 2048 → ℝ) (h) : broadcastInDim S2048x1 (![0] : Fin 1 → Fin 2) h (L1 f : FVec Ideal _ .f32) = L2 fun a _ => f a := by
  funext i; idx_vars i; pointwise [L0, L1, L2]
theorem bc_w (f : Fin 2048 → ℝ) (h) : broadcastInDim S2048x1024 (![0] : Fin 1 → Fin 2) h (L1 f : FVec Ideal _ .f32) = L2 fun a _ => f a := by
  funext i; idx_vars i; pointwise [L0, L1, L2]
theorem bc_c (f : Fin 2048 → Fin 1 → ℝ) (h) : broadcastInDim S2048x1024 (![0, 1] : Fin 2 → Fin 2) h (L2 f : FVec Ideal _ .f32) = L2 fun a _ => f a 0 := by
  funext i; idx_vars i; pointwise [L0, L1, L2]
theorem bc_r (f : Fin 1 → Fin 1024 → ℝ) (h) : broadcastInDim S2048x1024 (![0, 1] : Fin 2 → Fin 2) h (L2 f : FVec Ideal _ .f32) = L2 fun _ b => f 0 b := by
  funext i; idx_vars i; pointwise [L0, L1, L2]
theorem ra_row (f : Fin 2048 → Fin 1024 → ℝ) (h) (h') :
    Host.reduceAdd (L2 f : FVec Ideal _ .f32) (constant S_ .f32 0x00000000#32 : FVec Ideal _ .f32) (t := S2048) (axes := [1]) h h' = L1 fun a => ∑ k, f a k := by
  funext i; idx_vars i; pointwise [L0, L1, L2, bits_zero]; simp only [coe_sum_mul, coe_sum, ← EReal.coe_add, zero_add]
theorem ra_one (f : Fin 2048 → Fin 1 → ℝ) (h) (h') :
    Host.reduceAdd (L2 f : FVec Ideal _ .f32) (constant S_ .f32 0x00000000#32 : FVec Ideal _ .f32) (t := S2048) (axes := [1]) h h' = L1 fun a => f a 0 := by
  funext i; idx_vars i; pointwise [L0, L1, L2, bits_zero]; simp only [coe_sum_mul, coe_sum, ← EReal.coe_add, zero_add, Finset.univ_unique, Finset.sum_singleton]; rfl
theorem ra_col (f : Fin 2048 → Fin 1024 → ℝ) (h) (h') :
    Host.reduceAdd (L2 f : FVec Ideal _ .f32) (constant S_ .f32 0x00000000#32 : FVec Ideal _ .f32) (t := S1024) (axes := [0]) h h' = L1 fun b => ∑ k, f k b := by
  funext i; idx_vars i; pointwise [L0, L1, L2, bits_zero]; simp only [coe_sum_mul, coe_sum, ← EReal.coe_add, zero_add]
theorem ra_all (f : Fin 2048 → ℝ) (h) (h') :
    Host.reduceAdd (L1 f : FVec Ideal _ .f32) (constant S_ .f32 0x00000000#32 : FVec Ideal _ .f32) (t := S_) (axes := [0]) h h' = L0 (∑ k, f k) := by
  funext i; pointwise [L0, L1, L2, bits_zero]; simp only [coe_sum_mul, coe_sum, ← EReal.coe_add, zero_add]
theorem sc_v (f : Fin 2048 → ℝ) (h) : shapeCast S2048x1 (L1 f : FVec Ideal _ .f32) h = L2 fun a _ => f a := by
  funext i; idx_vars i; pointwise [L0, L1, L2]
theorem sc_row (f : Fin 1024 → ℝ) (h) : shapeCast S1x1024 (L1 f : FVec Ideal _ .f32) h = L2 fun _ b => f b := by
  funext i; idx_vars i; pointwise [L0, L1, L2]
theorem sc_one (r : ℝ) (h) : shapeCast S1x1 (L0 r : FVec Ideal _ .f32) h = L2 fun _ _ => r := by
  funext i; rfl
theorem sl_z (f : Fin 18432 → Fin 128 → ℝ) (h) :
    extractStridedSlice S16384x128 ![2048, 0] (L2 f : FVec Ideal _ .f32) h = L2 fun z q => f ⟨2048 + z.val, by omega⟩ q := by
  funext i; idx_vars i; pointwise [L0, L1, L2]
theorem sl_m (f : Fin 8 → Fin 3072 → ℝ) (h) :
    extractStridedSlice S1x1024 ![0, 2048] (L2 f : FVec Ideal _ .f32) h = L2 fun _ b => f 0 ⟨2048 + b.val, by omega⟩ := by
  funext i; idx_vars i; pointwise [L0, L1, L2]
theorem sl_l (f : Fin 2048 → Fin 2048 → ℝ) (h) :
    extractStridedSlice S2048x1024 ![0, 0] (L2 f : FVec Ideal _ .f32) h = L2 fun a b => f a (lft b) := by
  funext i; idx_vars i; pointwise [L0, L1, L2]; rfl
theorem sl_r (f : Fin 2048 → Fin 2048 → ℝ) (h) :
    extractStridedSlice S2048x1024 ![0, 1024] (L2 f : FVec Ideal _ .f32) h = L2 fun a b => f a (rgt b) := by
  funext i; idx_vars i; pointwise [L0, L1, L2]; rfl
theorem sc_z (f : Fin 16384 → Fin 128 → ℝ) (h) :
    shapeCast S2048x1024 (L2 f : FVec Ideal _ .f32) h = L2 fun a j => f (hrow a (grp j)) (lane j) := by
  funext i; idx_vars i; pointwise [L0, L1, L2]
  refine congrArg Real.toEReal (congrArg₂ f (Fin.ext ?_) (Fin.ext ?_)) <;> (simp only [hrow, grp, lane] <;> omega)
theorem sc_zb (f : Fin 2048 → Fin 1024 → ℝ) (h) :
    shapeCast S16384x128 (L2 f : FVec Ideal _ .f32) h = L2 fun z q => f ⟨z.val / 8, by omega⟩ (col ⟨z.val % 8, by omega⟩ q) := by
  funext i; idx_vars i; pointwise [L0, L1, L2]
  refine congrArg Real.toEReal (congrArg₂ f (Fin.ext ?_) (Fin.ext ?_)) <;> (simp only [col] <;> omega)
theorem dg_y (f : Fin 2048 → Fin 2048 → ℝ) (g : Fin 2048 → Fin 1024 → ℝ) :
    Host.dotGeneral dot_S2048x2048_S2048x1024_S2048x1024_1_0_0_1_n_n none (L2 f : FVec Ideal _ .f32) (L2 g : FVec Ideal _ .f32) = (L2 fun a b => ∑ k, f a k * g k b : FVec Ideal _ .f32) := by
  funext i; idx_vars i; pointwise [L0, L1, L2, bits_zero]; simp only [coe_sum_mul, coe_sum, ← EReal.coe_add, zero_add]
theorem dg_b (f : Fin 2048 → Fin 1024 → ℝ) (g : Fin 2048 → Fin 1024 → ℝ) :
    Host.dotGeneral dot_S2048x1024_S2048x1024_S2048x2048_1_1_0_0_n_n none (L2 f : FVec Ideal _ .f32) (L2 g : FVec Ideal _ .f32) = (L2 fun a b => ∑ k, f a k * g b k : FVec Ideal _ .f32) := by
  funext i; idx_vars i; pointwise [L0, L1, L2, bits_zero]; simp only [coe_sum_mul, coe_sum, ← EReal.coe_add, zero_add]
theorem cat (f g : Fin 2048 → Fin 1024 → ℝ) (h) :
    concatenate S2048x2048 1 [⟨S2048x1024, (L2 f : FVec Ideal _ .f32)⟩, ⟨S2048x1024, (L2 g : FVec Ideal _ .f32)⟩] h
      = (L2 fun a k => if h : k.val < 1024 then f a ⟨k.val, h⟩ else g a ⟨k.val - 1024, by omega⟩ : FVec Ideal S2048x2048 .f32) := by
  funext i; idx_vars i
  by_cases h1 : i1.val < 1024
  · pointwise [L0, L1, L2]; simp only [h1, dif_pos]
  · pointwise [L0, L1, L2]; simp only [h1, dif_neg, not_false_eq_true]
theorem pd (r : ℝ) (v : (S_ : Shape).Idx → BitVec 32) (hv : v = fun _ => 0#32) (h) (h') :
    pad S1x1024 ![0, 0] ![0, 1023] ![0, 0] (L2 fun _ _ => r : FVec Ideal S1x1 .f32) (sitofp .f32 v : FVec Ideal S_ .f32) h h'
      = (L2 fun _ j => if j.val = 0 then r else 0 : FVec Ideal S1x1024 .f32) := by
  subst hv
  funext i; idx_vars i
  by_cases h1 : i1.val = 0
  · pointwise [L0, L1, L2]; simp [h1]
  · pointwise [L0, L1, L2]; simp [h1]; simp [FloatOps.sitofp]

/-! ### The values, one after the other -/

/-- The arguments. -/
structure Args where
  hf : FVec Ideal S18432x128 .f32
  hb : FVec Ideal S18432x128 .f32
  ga : FVec Ideal S2048x1024 .f32
  gb : FVec Ideal S2048x1024 .f32
  ys : FVec Ideal S2048x1024 .f32
  x : FVec Ideal S2048x1024 .f32
  tgt : FVec Ideal S2048x1024 .f32
  mods : FVec Ideal S8x3072 .f32
  fg : FVec Ideal S1x1024 .f32
  w : FVec Ideal S2048x1024 .f32

/-- The arguments that hold the real numbers of `d`. -/
def lay (d : Head.Data) : Args := ⟨L2 d.hf, L2 d.hb, L2 d.ga, L2 d.gb, L2 d.ys, L2 d.x, L2 d.tgt, L2 d.mods, L2 d.fg, L2 d.w⟩

abbrev T : Type := FVec Ideal S2048x1024 .f32
abbrev one : T := broadcastInDim S2048x1024 ![] bcast_S_S2048x1024 (constant S_ .f32 0x3F800000#32)
/-- The logistic function, its complement's product, and the SiLU. -/
def qs (g : T) : T := Host.divf one (addf one (Host.exp (Host.negf g)))
def qc (g : T) : T := mulf (qs g) (subf one (qs g))
def qi (g : T) : T := mulf g (qs g)

variable (A : Args)
def q_yl : T := shapeCast _ (extractStridedSlice S16384x128 ![2048, 0] (addf A.hf A.hb) slices_S18432x128_S16384x128_2048_0) shapeCasts_S16384x128_S2048x1024
def q_yy : FVec Ideal S2048x2048 .f32 := concatenate S2048x2048 1 [⟨S2048x1024, mulf (q_yl A) (qi A.ga)⟩, ⟨S2048x1024, mulf A.ys (qi A.gb)⟩] concatenates_S2048x1024_S2048x1024_S2048x2048_d1
def q_oo : T := Host.dotGeneral (φ₁ := .f32) (φ₂ := .f32) dot_S2048x2048_S2048x1024_S2048x1024_1_0_0_1_n_n none (q_yy A) A.w
def q_gx : FVec Ideal S1x1024 .f32 := extractStridedSlice S1x1024 ![0, 2048] A.mods slices_S8x3072_S1x1024_0_2048
def q_hh : T := addf A.x (mulf (broadcastInDim S2048x1024 ![0, 1] bcast_S1x1024_S2048x1024_0_1 (q_gx A)) (q_oo A))
def q_ms : FVec Ideal S2048x1 .f32 := addf (Host.divf (broadcastInDim S2048x1 ![0] bcast_S2048_S2048x1_0 (Host.reduceAdd (mulf (q_hh A) (q_hh A)) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))
def q_rr : FVec Ideal S2048x1 .f32 := Host.rsqrt (q_ms A)
def q_dr : FVec Ideal S2048x1 .f32 := mulf (broadcastInDim S2048x1 ![] bcast_S_S2048x1 (constant S_ .f32 0xBF000000#32)) (Host.divf (q_rr A) (q_ms A))
def q_xn : T := mulf (q_hh A) (broadcastInDim S2048x1024 ![0, 1] bcast_S2048x1_S2048x1024_0_1 (q_rr A))
def q_ee : T := subf (mulf (q_xn A) (broadcastInDim S2048x1024 ![0, 1] bcast_S1x1024_S2048x1024_0_1 A.fg)) A.tgt
def q_ls : FVec Ideal S_ .f32 := mulf (constant S_ .f32 0x3F000000#32) (Host.reduceAdd (Host.divf (Host.reduceAdd (mulf (q_ee A) (q_ee A)) (constant S_ .f32 0x00000000#32) reducesTo_S2048x1024_S2048_d1 h_S_) (broadcastInDim S2048 ![] bcast_S_S2048 (constant S_ .f32 0x44800000#32))) (constant S_ .f32 0x00000000#32) reducesTo_S2048_S_d0 h_S_)
def q_de : T := mulf (broadcastInDim S2048x1024 ![0] bcast_S2048_S2048x1024_0 (Host.divf (broadcastInDim S2048 ![] bcast_S_S2048 (mulf (constant S_ .f32 0x3F000000#32) (constant S_ .f32 0x3F800000#32))) (broadcastInDim S2048 ![] bcast_S_S2048 (constant S_ .f32 0x44800000#32)))) (mulf (broadcastInDim S2048x1024 ![] bcast_S_S2048x1024 (constant S_ .f32 0x40000000#32)) (q_ee A))
def q_fg : FVec Ideal S1x1024 .f32 := shapeCast _ (Host.reduceAdd (mulf (q_xn A) (q_de A)) (constant S_ .f32 0x00000000#32) reducesTo_S2048x1024_S1024_d0 h_S_) shapeCasts_S1024_S1x1024
def q_dn : T := mulf (q_de A) (broadcastInDim S2048x1024 ![0, 1] bcast_S1x1024_S2048x1024_0_1 A.fg)
def q_dm : T := broadcastInDim S2048x1024 ![0] bcast_S2048_S2048x1024_0 (Host.reduceAdd (Host.divf (mulf (shapeCast _ (Host.reduceAdd (mulf (q_hh A) (q_dn A)) (constant S_ .f32 0x00000000#32) reducesTo_S2048x1024_S2048_d1 h_S_) shapeCasts_S2048_S2048x1) (q_dr A)) (broadcastInDim S2048x1 ![] bcast_S_S2048x1 (constant S_ .f32 0x44800000#32))) (constant S_ .f32 0x00000000#32) reducesTo_S2048x1_S2048_d1 h_S_)
def q_dh : T := addf (addf (mulf (q_dn A) (broadcastInDim S2048x1024 ![0, 1] bcast_S2048x1_S2048x1024_0_1 (q_rr A))) (mulf (q_hh A) (q_dm A))) (mulf (q_dm A) (q_hh A))
def q_dO : T := mulf (broadcastInDim S2048x1024 ![0, 1] bcast_S1x1024_S2048x1024_0_1 (q_gx A)) (q_dh A)
def q_dgx : FVec Ideal S1x1024 .f32 := shapeCast _ (Host.reduceAdd (mulf (q_dh A) (q_oo A)) (constant S_ .f32 0x00000000#32) reducesTo_S2048x1024_S1024_d0 h_S_) shapeCasts_S1024_S1x1024
def q_dy : FVec Ideal S2048x2048 .f32 := Host.dotGeneral (φ₁ := .f32) (φ₂ := .f32) dot_S2048x1024_S2048x1024_S2048x2048_1_1_0_0_n_n none (q_dO A) A.w
def q_dl : T := extractStridedSlice S2048x1024 ![0, 0] (q_dy A) slices_S2048x2048_S2048x1024_0_0
def q_du : T := extractStridedSlice S2048x1024 ![0, 1024] (q_dy A) slices_S2048x2048_S2048x1024_0_1024
def q_dgb : T := addf (mulf (mulf A.ys (q_du A)) (qs A.gb)) (mulf (mulf A.gb (mulf A.ys (q_du A))) (qc A.gb))
def q_dga : T := addf (mulf (mulf (q_yl A) (q_dl A)) (qs A.ga)) (mulf (mulf A.ga (mulf (q_yl A) (q_dl A))) (qc A.ga))
def q_dys : T := mulf (q_du A) (qi A.gb)
def q_dyl : FVec Ideal S16384x128 .f32 := shapeCast _ (mulf (q_dl A) (qi A.ga)) shapeCasts_S2048x1024_S16384x128
def q_loss : FVec Ideal S1x1024 .f32 := pad S1x1024 ![0, 0] ![0, 1023] ![0, 0] (shapeCast _ (q_ls A) shapeCasts_S_S1x1) (sitofp .f32 (constantI S_ 32 0#32)) pads_S1x1_S1x1024_000_010230 h_S_

/-! ### Their real numbers -/

theorem one_L : one = L2 fun _ _ => (1 : ℝ) := by rw [one, c0 1 bits_one]; exact bc0 1 _
theorem qs_L (f : Fin 2048 → Row) : qs (L2 f) = L2 fun a b => sg (f a b) := by
  rw [qs, one_L, L2_neg, L2_hostExp, L2_add, L2_hostDiv _ _ fun a b => exp_den (f a b)]
  exact L2_eq fun a b => sg_eq _
theorem qc_L (f : Fin 2048 → Row) : qc (L2 f) = L2 fun a b => sg (f a b) * (1 - sg (f a b)) := by
  rw [qc, qs_L, one_L, L2_sub, L2_mul]
theorem qi_L (f : Fin 2048 → Row) : qi (L2 f) = L2 fun a b => si (f a b) := by
  rw [qi, qs_L, L2_mul]; rfl

variable (d : Head.Data)

theorem n1024 : (1024 : ℝ) ≠ 0 := by norm_num

theorem yl_L : q_yl (lay d) = L2 d.yl := by
  rw [q_yl]; dsimp only [lay]
  rw [L2_add, sl_z, sc_z]; rfl
theorem yy_L : q_yy (lay d) = L2 fun a => yy (d.r a) := by
  rw [q_yy, yl_L]; dsimp only [lay]
  rw [qi_L, qi_L, L2_mul, L2_mul, cat]; rfl
theorem oo_L : q_oo (lay d) = L2 fun a => oo d.p (d.r a) := by
  rw [q_oo, yy_L]; dsimp only [lay]
  rw [dg_y]; rfl
theorem gx_L : q_gx (lay d) = L2 fun _ => d.p.gx := by
  rw [q_gx]; dsimp only [lay]
  rw [sl_m]; rfl
theorem hh_L : q_hh (lay d) = L2 fun a => hh d.p (d.r a) := by
  rw [q_hh, oo_L, gx_L]; dsimp only [lay]
  rw [bc_r, L2_mul, L2_add]; rfl
theorem ms_L : q_ms (lay d) = L2 fun a _ => ms (hh d.p (d.r a)) := by
  rw [q_ms, hh_L, L2_mul, ra_row, bc_v, c0 _ bits_1024, c0 _ bits_eps6, bc0, bc0, L2_hostDiv _ _ fun _ _ => n1024, L2_add]; rfl
theorem rr_L : q_rr (lay d) = L2 fun a _ => rr (hh d.p (d.r a)) := by
  rw [q_rr, ms_L, L2_hostRsqrt _ fun _ _ => ms_pos _]; rfl
theorem dr_L : q_dr (lay d) = L2 fun a _ => -(1 / 2) * (rr (hh d.p (d.r a)) / ms (hh d.p (d.r a))) := by
  rw [q_dr, rr_L, ms_L, L2_hostDiv _ _ fun _ _ => (ms_pos _).ne', c0 _ bits_neg_half, bc0, L2_mul]
theorem xn_L : q_xn (lay d) = L2 fun a => xn (hh d.p (d.r a)) := by
  rw [q_xn, hh_L, rr_L, bc_c, L2_mul]; rfl
theorem ee_L : q_ee (lay d) = L2 fun a => ee d.p (d.r a) := by
  rw [q_ee, xn_L]; dsimp only [lay]
  rw [bc_r, L2_mul, L2_sub]; rfl
theorem ls_L : q_ls (lay d) = L0 (1 / 2 * ∑ a, ls d.p (d.r a)) := by
  rw [q_ls, ee_L, L2_mul, ra_row, c0 _ bits_1024, bc01, L1_hostDiv _ _ fun _ => n1024, ra_all, c0 _ bits_half, L0_mul]; rfl
theorem de_L : q_de (lay d) = L2 fun a => dout d.p (d.r a) := by
  rw [q_de, ee_L, c0 _ bits_half, c0 _ bits_one, c0 _ bits_1024, c0 _ bits_two, L0_mul, bc01, bc01, L1_hostDiv _ _ fun _ => n1024, bc_w, bc0, L2_mul, L2_mul]
  exact L2_eq fun a b => by unfold dout; ring
theorem fg_L : q_fg (lay d) = L2 d.dfg := by
  rw [q_fg, xn_L, de_L, L2_mul, ra_col, sc_row]
  exact L2_eq fun a b => Finset.sum_congr rfl fun _ _ => mul_comm _ _
theorem dn_L : q_dn (lay d) = L2 fun a b => dout d.p (d.r a) b * d.p.fg b := by
  rw [q_dn, de_L]; dsimp only [lay]
  rw [bc_r, L2_mul]; rfl
theorem dm_L : q_dm (lay d) = L2 fun a _ => (∑ k, hh d.p (d.r a) k * (dout d.p (d.r a) k * d.p.fg k)) * (-(1 / 2) * (rr (hh d.p (d.r a)) / ms (hh d.p (d.r a)))) / 1024 := by
  rw [q_dm, hh_L, dn_L, dr_L, L2_mul, ra_row, sc_v, L2_mul, c0 _ bits_1024, bc0, L2_hostDiv _ _ fun _ _ => n1024, ra_one, bc_w]
theorem dh_L : q_dh (lay d) = L2 fun a => dh d.p (d.r a) := by
  rw [q_dh, dn_L, rr_L, hh_L, dm_L, bc_c, L2_mul, L2_mul, L2_mul, L2_add, L2_add]
  exact L2_eq fun a b => rmsBack_eq (hh d.p (d.r a)) (fun k => dout d.p (d.r a) k * d.p.fg k) b
theorem dO_L : q_dO (lay d) = L2 fun a => dO d.p (d.r a) := by
  rw [q_dO, gx_L, dh_L, bc_r, L2_mul]
  exact L2_eq fun a b => mul_comm _ _
theorem dgx_L : q_dgx (lay d) = L2 d.dgx := by
  rw [q_dgx, dh_L, oo_L, L2_mul, ra_col, sc_row]; rfl
theorem dy_L : q_dy (lay d) = L2 fun a => dy d.p (d.r a) := by
  rw [q_dy, dO_L]; dsimp only [lay]
  rw [dg_b]; rfl
theorem dl_L : q_dl (lay d) = L2 fun a j => dy d.p (d.r a) (lft j) := by rw [q_dl, dy_L, sl_l]
theorem du_L : q_du (lay d) = L2 fun a j => dy d.p (d.r a) (rgt j) := by rw [q_du, dy_L, sl_r]
theorem dgb_L : q_dgb (lay d) = L2 fun a => dgb d.p (d.r a) := by
  rw [q_dgb, du_L]; dsimp only [lay]
  rw [qs_L, qc_L, L2_mul, L2_mul, L2_mul, L2_mul, L2_add]
  exact L2_eq fun a b => by unfold dgb sd Data.r; ring
theorem dga_L : q_dga (lay d) = L2 fun a => dga d.p (d.r a) := by
  rw [q_dga, dl_L, yl_L]; dsimp only [lay]
  rw [qs_L, qc_L, L2_mul, L2_mul, L2_mul, L2_mul, L2_add]
  exact L2_eq fun a b => by unfold dga sd Data.r; ring
theorem dys_L : q_dys (lay d) = L2 fun a => dys d.p (d.r a) := by
  rw [q_dys, du_L]; dsimp only [lay]
  rw [qi_L, L2_mul]; rfl
theorem dyl_L : q_dyl (lay d) = L2 d.dylz := by
  rw [q_dyl, dl_L]; dsimp only [lay]
  rw [qi_L, L2_mul, sc_zb]; rfl
theorem loss_L : q_loss (lay d) = L2 d.loss := by
  rw [q_loss, ls_L, sc_one]
  exact pd _ _ rfl _ _

/-! ### The results -/

/-- The reference's argument arrays. -/
def at_ (m : (ℓ : Loc nD τ sig) → Buf (Elt Ideal) ℓ) (c : Dev nD) : Args :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9)⟩

variable {m : (ℓ : Loc nD τ sig) → Buf (Elt Ideal) ℓ} {c : Dev nD} {d : Head.Data} (H : at_ m c = lay d)
include H
theorem o77 : res_main_v77 m c = (L2 d.loss : FVec Ideal S1x1024 .f32) := by
  have e : res_main_v77 m c = (q_loss (at_ m c) : FVec Ideal S1x1024 .f32) := rfl
  exact e.trans ((congrArg (fun x => (q_loss x : FVec Ideal S1x1024 .f32)) H).trans (loss_L d))
theorem o45 : res_main_v45 m c = (L2 d.dfg : FVec Ideal S1x1024 .f32) := by
  have e : res_main_v45 m c = (q_fg (at_ m c) : FVec Ideal S1x1024 .f32) := rfl
  exact e.trans ((congrArg (fun x => (q_fg x : FVec Ideal S1x1024 .f32)) H).trans (fg_L d))
theorem o66 : res_main_v66 m c = (L2 d.dgx : FVec Ideal S1x1024 .f32) := by
  have e : res_main_v66 m c = (q_dgx (at_ m c) : FVec Ideal S1x1024 .f32) := rfl
  exact e.trans ((congrArg (fun x => (q_dgx x : FVec Ideal S1x1024 .f32)) H).trans (dgx_L d))
theorem o61 : res_main_v61 m c = (L2 fun a => dh d.p (d.r a) : FVec Ideal S2048x1024 .f32) := by
  have e : res_main_v61 m c = (q_dh (at_ m c) : FVec Ideal S2048x1024 .f32) := rfl
  exact e.trans ((congrArg (fun x => (q_dh x : FVec Ideal S2048x1024 .f32)) H).trans (dh_L d))
theorem o79 : res_main_v79 m c = (L2 fun a => dO d.p (d.r a) : FVec Ideal S2048x1024 .bf16) := by
  have e : res_main_v79 m c = (truncf .bf16 (q_dO (at_ m c)) bitsLt_bf16_f32 : FVec Ideal S2048x1024 .bf16) := rfl
  exact e.trans ((congrArg (fun x => (truncf .bf16 (q_dO x) bitsLt_bf16_f32 : FVec Ideal S2048x1024 .bf16)) H).trans (congrArg (fun v : T => (truncf .bf16 v bitsLt_bf16_f32 : FVec Ideal S2048x1024 .bf16)) (dO_L d)))
theorem o80 : res_main_v80 m c = (L2 fun a => dga d.p (d.r a) : FVec Ideal S2048x1024 .bf16) := by
  have e : res_main_v80 m c = (truncf .bf16 (q_dga (at_ m c)) bitsLt_bf16_f32 : FVec Ideal S2048x1024 .bf16) := rfl
  exact e.trans ((congrArg (fun x => (truncf .bf16 (q_dga x) bitsLt_bf16_f32 : FVec Ideal S2048x1024 .bf16)) H).trans (congrArg (fun v : T => (truncf .bf16 v bitsLt_bf16_f32 : FVec Ideal S2048x1024 .bf16)) (dga_L d)))
theorem o81 : res_main_v81 m c = (L2 fun a => dgb d.p (d.r a) : FVec Ideal S2048x1024 .bf16) := by
  have e : res_main_v81 m c = (truncf .bf16 (q_dgb (at_ m c)) bitsLt_bf16_f32 : FVec Ideal S2048x1024 .bf16) := rfl
  exact e.trans ((congrArg (fun x => (truncf .bf16 (q_dgb x) bitsLt_bf16_f32 : FVec Ideal S2048x1024 .bf16)) H).trans (congrArg (fun v : T => (truncf .bf16 v bitsLt_bf16_f32 : FVec Ideal S2048x1024 .bf16)) (dgb_L d)))
theorem o82 : res_main_v82 m c = (L2 d.dylz : FVec Ideal S16384x128 .f32) := by
  have e : res_main_v82 m c = (q_dyl (at_ m c) : FVec Ideal S16384x128 .f32) := rfl
  exact e.trans ((congrArg (fun x => (q_dyl x : FVec Ideal S16384x128 .f32)) H).trans (dyl_L d))
theorem o71 : res_main_v71 m c = (L2 fun a => dys d.p (d.r a) : FVec Ideal S2048x1024 .f32) := by
  have e : res_main_v71 m c = (q_dys (at_ m c) : FVec Ideal S2048x1024 .f32) := rfl
  exact e.trans ((congrArg (fun x => (q_dys x : FVec Ideal S2048x1024 .f32)) H).trans (dys_L d))
theorem o78 {v : FVec Ideal S2048x2048 .bf16} (e : v = truncf .bf16 (q_yy (at_ m c)) bitsLt_bf16_f32) : v = L2 fun a => yy (d.r a) :=
  e.trans ((congrArg (fun x => (truncf .bf16 (q_yy x) bitsLt_bf16_f32 : FVec Ideal S2048x2048 .bf16)) H).trans
    (congrArg (fun v : FVec Ideal S2048x2048 .f32 => (truncf .bf16 v bitsLt_bf16_f32 : FVec Ideal S2048x2048 .bf16)) (yy_L d)))

end Cert.Reference2Ideal.RVal
-- ==== Proof.HAlgebraic.lean ====
module

public import proofs.«01_k».proof.Defs
public import proofs.«01_k».proof.Proof.HVal
public import proofs.«01_k».proof.Proof.HRef
public import proofs.«01_k».proof.Proof.Algebraic
public import proofs.«01_k».proof.Proof.Gen.Kernel2
public import proofs.«01_k».proof.Proof.Gen.Pre_finite2

/-! The value claim of the second call: on finite arguments the kernel and the reference leave the same ten results. -/

@[expose] public section

set_option maxRecDepth 16384

noncomputable section

namespace Cert.Final2

open Idealize.ShloMosaic Idealize.ShloMosaic.TcCoe Idealize.ShloMosaic.Tactic Idealize.SL.Sem Cert.Lift Cert.Math Cert.Head Cert.Final

attribute [local instance] Cert.Kernel2.Gen.facts Cert.Kernel2Ideal.Gen.facts Cert.Reference2Ideal.Gen.facts Cert.Pre_finite2.Gen.facts

section
open Cert.Kernel2Ideal

variable (m : (ℓ : Loc nD τ sig) → Buf (Elt Ideal) ℓ) (c : Dev nD)

/-- The real numbers in the argument arrays of a device. -/
def dat : Head.Data where
  hf := fun p q => (m ((c : Thread nD τ).loc main_arg0) (ix2 p q) : EReal).toReal
  hb := fun p q => (m ((c : Thread nD τ).loc main_arg1) (ix2 p q) : EReal).toReal
  ga := fun p q => (m ((c : Thread nD τ).loc main_arg2) (ix2 p q) : EReal).toReal
  gb := fun p q => (m ((c : Thread nD τ).loc main_arg3) (ix2 p q) : EReal).toReal
  ys := fun p q => (m ((c : Thread nD τ).loc main_arg4) (ix2 p q) : EReal).toReal
  x := fun p q => (m ((c : Thread nD τ).loc main_arg5) (ix2 p q) : EReal).toReal
  tgt := fun p q => (m ((c : Thread nD τ).loc main_arg6) (ix2 p q) : EReal).toReal
  mods := fun p q => (m ((c : Thread nD τ).loc main_arg7) (ix2 p q) : EReal).toReal
  fg := fun p q => (m ((c : Thread nD τ).loc main_arg8) (ix2 p q) : EReal).toReal
  w := fun p q => (m ((c : Thread nD τ).loc main_arg9) (ix2 p q) : EReal).toReal

theorem holdsK (h : Cert.Pre_Kernel2Ideal_finite2 m) : Cert.Kernel2Ideal.Val.HoldsK m c (dat m c) := by
  have h := congrFun (h c) (fun k => k.elim0)
  dsimp only [Cert.Pre_finite2.fn, Cert.Pre_finite2.fn_part1, Cert.Pre_finite2.fn_part2] at h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h, h1⟩ := IntOp.andi_eq_one.1 h
  exact {
    h0 := real2 _ (ne_of_all _ _ _ _ _ _ h)
    h1 := real2 _ (ne_of_all _ _ _ _ _ _ h1)
    h2 := real2 _ (ne_of_all _ _ _ _ _ _ h2)
    h3 := real2 _ (ne_of_all _ _ _ _ _ _ h3)
    h4 := real2 _ (ne_of_all _ _ _ _ _ _ h4)
    h5 := real2 _ (ne_of_all _ _ _ _ _ _ h5)
    h6 := real2 _ (ne_of_all _ _ _ _ _ _ h6)
    h7 := real2 _ (ne_of_all _ _ _ _ _ _ h7)
    h8 := real2 _ (ne_of_all _ _ _ _ _ _ h8)
    h9 := real2 _ (ne_of_all _ _ _ _ _ _ h9)
  }
end

/-- The value claim. -/
theorem algebraic : Cert.algebraic_Kernel2Ideal_Reference2Ideal_pre_finite2 := by
  intro m g m' g' hpre hargs
  have HK := fun c => holdsK m c hpre
  have HR : ∀ c, Cert.Reference2Ideal.RVal.at_ m' c = Cert.Reference2Ideal.RVal.lay (dat m c) := fun c => by
    obtain ⟨a0, a1, a2, a3, a4, a5, a6, a7, a8, a9⟩ := hargs c
    unfold Cert.Reference2Ideal.RVal.at_ Cert.Reference2Ideal.RVal.lay
    congr 1
    · exact a0.trans (HK c).h0
    · exact a1.trans (HK c).h1
    · exact a2.trans (HK c).h2
    · exact a3.trans (HK c).h3
    · exact a4.trans (HK c).h4
    · exact a5.trans (HK c).h5
    · exact a6.trans (HK c).h6
    · exact a7.trans (HK c).h7
    · exact a8.trans (HK c).h8
    · exact a9.trans (HK c).h9
  refine ⟨fun c => (L2 (dat m c).loss : FVec Ideal Cert.Kernel2Ideal.S1x1024 .f32),
    fun c => (L2 (dat m c).dfg : FVec Ideal Cert.Kernel2Ideal.S1x1024 .f32),
    fun c => (L2 (dat m c).dgx : FVec Ideal Cert.Kernel2Ideal.S1x1024 .f32),
    fun c => (L2 (fun a => dh (dat m c).p ((dat m c).r a)) : FVec Ideal Cert.Kernel2Ideal.S2048x1024 .f32),
    fun c => (L2 (fun a => yy ((dat m c).r a)) : FVec Ideal Cert.Kernel2Ideal.S2048x2048 .bf16),
    fun c => (L2 (fun a => dO (dat m c).p ((dat m c).r a)) : FVec Ideal Cert.Kernel2Ideal.S2048x1024 .bf16),
    fun c => (L2 (fun a => dga (dat m c).p ((dat m c).r a)) : FVec Ideal Cert.Kernel2Ideal.S2048x1024 .bf16),
    fun c => (L2 (fun a => dgb (dat m c).p ((dat m c).r a)) : FVec Ideal Cert.Kernel2Ideal.S2048x1024 .bf16),
    fun c => (L2 (dat m c).dylz : FVec Ideal Cert.Kernel2Ideal.S16384x128 .f32),
    fun c => (L2 (fun a => dys (dat m c).p ((dat m c).r a)) : FVec Ideal Cert.Kernel2Ideal.S2048x1024 .f32), ?_, ?_⟩
  · refine (θ_run _ _ _).mono (fun r h c => ⟨Cert.Kernel2Ideal.Val.post10 (HK c) r h.2, Cert.Kernel2Ideal.Val.post11 (HK c) r h.2, Cert.Kernel2Ideal.Val.post12 (HK c) r h.2, Cert.Kernel2Ideal.Val.post13 (HK c) r h.2, Cert.Kernel2Ideal.Val.post14 (HK c) r h.2, Cert.Kernel2Ideal.Val.post15 (HK c) r h.2, Cert.Kernel2Ideal.Val.post16 (HK c) r h.2, Cert.Kernel2Ideal.Val.post17 (HK c) r h.2, Cert.Kernel2Ideal.Val.post18 (HK c) r h.2, Cert.Kernel2Ideal.Val.post19 (HK c) r h.2, h.1.1 c⟩) (θ_run_and (Cert.Kernel2Ideal.Run.args_kept_quiescent m g) (Cert.Kernel2Ideal.Run.run_arrays m g))
  · refine (θ_run _ _ _).mono (fun r h c => ?_) (Cert.Reference2Ideal.Value.run m' g')
    obtain ⟨o0, o1, o2, o3, o4, o5, o6, o7, o8, o9, rest⟩ := h c
    exact ⟨o0.trans (Cert.Reference2Ideal.RVal.o77 (HR c)), o1.trans (Cert.Reference2Ideal.RVal.o45 (HR c)), o2.trans (Cert.Reference2Ideal.RVal.o66 (HR c)), o3.trans (Cert.Reference2Ideal.RVal.o61 (HR c)), Cert.Reference2Ideal.RVal.o78 (HR c) (o4.trans rfl), o5.trans (Cert.Reference2Ideal.RVal.o79 (HR c)), o6.trans (Cert.Reference2Ideal.RVal.o80 (HR c)), o7.trans (Cert.Reference2Ideal.RVal.o81 (HR c)), o8.trans (Cert.Reference2Ideal.RVal.o82 (HR c)), o9.trans (Cert.Reference2Ideal.RVal.o71 (HR c)), rest⟩

end Cert.Final2
-- ==== Proof.Adam.lean ====
module

public import proofs.«01_k».proof.Defs
public import proofs.«01_k».proof.Proof.Gen.Kernel3
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5Ideal.Value
public import proofs.«01_k».proof.Proof.Gen.Reference5Ideal.Run
public import Idealize.ShloMosaic.Lib.Quiescent

/-! The optimiser's step of the three large weights: `adam_w_in`, `adam_w_out` and `adam_ada_w`. Each entry of the three
results is one function of the entries of the weight, of its gradient and of its two moments, written here once; each
call leaves it in every entry, and so does the reference. -/

@[expose] public section

noncomputable section

open Idealize.ShloMosaic Idealize.ShloMosaic.TcCoe Idealize.SL.Sem

namespace Cert.Adam

/-- An extended real. -/
abbrev E := Ideal FTy.f32

/-- The number that a float word is. -/
abbrev lit (b : BitVec 32) : E := Scalar.ofBits (F := Ideal) .f32 b

/-- The first moment after the step: 0.9 m + 0.1 g. -/
def moment (g m : E) : E := FloatOps.addf (FloatOps.mulf (lit 0x3F666666#32) m) (FloatOps.mulf (lit 0x3DCCCCCD#32) g)

/-- The second moment after the step: 0.999 v + 0.001 g². -/
def square (g v : E) : E :=
  FloatOps.addf (FloatOps.mulf (lit 0x3F7FBE77#32) v) (FloatOps.mulf (lit 0x3A83126F#32) (FloatOps.mulf g g))

/-- The change of the weight: -0.001 (m̂ / (√v̂ + 1e-8) + 0.01 w), with the moments over their corrections. -/
def delta (w g m v : E) : E :=
  FloatOps.mulf (lit 0xBA83126F#32) (FloatOps.addf
    (Ideal.div (Ideal.div (moment g m) (lit 0x3F26BD02#32))
      (FloatOps.addf (Ideal.sqrt (Ideal.div (square g v) (lit 0x3C231ACC#32))) (lit 0x322BCC77#32)))
    (FloatOps.mulf (lit 0x3C23D70A#32) w))

end Cert.Adam

namespace Cert.Adam3

attribute [local instance] Cert.Kernel3.Gen.facts Cert.Kernel3Ideal.Gen.facts Cert.Reference3Ideal.Gen.facts

/-- The two texts of the kernel have the same body on float words. -/
theorem defs₀_eq : (Cert.Kernel3Ideal.defs₀ (F := Bits) : Defs Cert.Kernel3.nD Cert.Kernel3.τ Cert.Kernel3.sig (Elt Bits) Cert.Kernel3.Λ₀)
    = Cert.Kernel3.defs₀ := by
  funext p l
  cases p with
  | tc =>
    match l with
    | ⟨0, _⟩ => funext a; exact rfl
    | ⟨n + 1, h⟩ => exact absurd h (Nat.not_lt.2 (Nat.le_add_left _ _))
  | scScalar _ => rfl
  | scVector _ _ => rfl

/-- `adam_w_in`: the kernel on float words runs, keeps its arguments and ends with every semaphore at nought. -/
theorem kernel : Cert.quiescent_Kernel3 := by
  intro m g _
  have h := Cert.Kernel3Ideal.Gen.frame (F := Bits) m g
  unfold Cert.Kernel3.defs; rw [← defs₀_eq]; exact h

theorem ideal : Cert.quiescent_Kernel3Ideal := fun m g _ => Cert.Kernel3Ideal.Gen.frame m g

/-- The reference keeps its arguments, and has no semaphore. -/
theorem reference : Cert.quiescent_Reference3Ideal := fun m g _ =>
  (θ_run _ _ _).mono (fun r h => ⟨fun c => (h c).2.2.2, sem_eq_zero_of_no_sems (by decide) r.2⟩)
    (Cert.Reference3Ideal.Value.run (F := Ideal) m g)

theorem constants : Cert.preserves_Kernel3_Kernel3Ideal := trivial

/-- The kernel and the reference leave the same change of the weight and the same two moments, whatever the arguments. -/
theorem algebraic : Cert.algebraic_Kernel3Ideal_Reference3Ideal := by
  intro m g m' g' _ hargs
  refine ⟨fun c i => Adam.delta (m ((c : Thread Kernel3Ideal.nD Kernel3Ideal.τ).loc Kernel3Ideal.main_arg0) i)
      (m ((c : Thread Kernel3Ideal.nD Kernel3Ideal.τ).loc Kernel3Ideal.main_arg1) i)
      (m ((c : Thread Kernel3Ideal.nD Kernel3Ideal.τ).loc Kernel3Ideal.main_arg2) i) (m ((c : Thread Kernel3Ideal.nD Kernel3Ideal.τ).loc Kernel3Ideal.main_arg3) i),
    fun c i => Adam.moment (m ((c : Thread Kernel3Ideal.nD Kernel3Ideal.τ).loc Kernel3Ideal.main_arg1) i) (m ((c : Thread Kernel3Ideal.nD Kernel3Ideal.τ).loc Kernel3Ideal.main_arg2) i),
    fun c i => Adam.square (m ((c : Thread Kernel3Ideal.nD Kernel3Ideal.τ).loc Kernel3Ideal.main_arg1) i) (m ((c : Thread Kernel3Ideal.nD Kernel3Ideal.τ).loc Kernel3Ideal.main_arg3) i),
    ?_, ?_⟩
  · exact (θ_run _ _ _).mono (fun r h c => h c) (Cert.Kernel3Ideal.Value.run (F := Ideal) m g)
  · refine (θ_run _ _ _).mono (fun r h c => ?_) (Cert.Reference3Ideal.Value.run (F := Ideal) m' g')
    obtain ⟨o0, o1, o2, rest⟩ := h c
    obtain ⟨a0, a1, a2, a3⟩ := hargs c
    rw [a0, a1, a2, a3] at o0
    rw [a1, a2] at o1
    rw [a1, a3] at o2
    exact ⟨o0, o1, o2, rest⟩

end Cert.Adam3

namespace Cert.Adam4

attribute [local instance] Cert.Kernel4.Gen.facts Cert.Kernel4Ideal.Gen.facts Cert.Reference4Ideal.Gen.facts

/-- The two texts of the kernel have the same body on float words. -/
theorem defs₀_eq : (Cert.Kernel4Ideal.defs₀ (F := Bits) : Defs Cert.Kernel4.nD Cert.Kernel4.τ Cert.Kernel4.sig (Elt Bits) Cert.Kernel4.Λ₀)
    = Cert.Kernel4.defs₀ := by
  funext p l
  cases p with
  | tc =>
    match l with
    | ⟨0, _⟩ => funext a; exact rfl
    | ⟨n + 1, h⟩ => exact absurd h (Nat.not_lt.2 (Nat.le_add_left _ _))
  | scScalar _ => rfl
  | scVector _ _ => rfl

/-- `adam_w_out`: the kernel on float words runs, keeps its arguments and ends with every semaphore at nought. -/
theorem kernel : Cert.quiescent_Kernel4 := by
  intro m g _
  have h := Cert.Kernel4Ideal.Gen.frame (F := Bits) m g
  unfold Cert.Kernel4.defs; rw [← defs₀_eq]; exact h

theorem ideal : Cert.quiescent_Kernel4Ideal := fun m g _ => Cert.Kernel4Ideal.Gen.frame m g

/-- The reference keeps its arguments, and has no semaphore. -/
theorem reference : Cert.quiescent_Reference4Ideal := fun m g _ =>
  (θ_run _ _ _).mono (fun r h => ⟨fun c => (h c).2.2.2, sem_eq_zero_of_no_sems (by decide) r.2⟩)
    (Cert.Reference4Ideal.Value.run (F := Ideal) m g)

theorem constants : Cert.preserves_Kernel4_Kernel4Ideal := trivial

/-- The kernel and the reference leave the same change of the weight and the same two moments, whatever the arguments. -/
theorem algebraic : Cert.algebraic_Kernel4Ideal_Reference4Ideal := by
  intro m g m' g' _ hargs
  refine ⟨fun c i => Adam.delta (m ((c : Thread Kernel4Ideal.nD Kernel4Ideal.τ).loc Kernel4Ideal.main_arg0) i)
      (m ((c : Thread Kernel4Ideal.nD Kernel4Ideal.τ).loc Kernel4Ideal.main_arg1) i)
      (m ((c : Thread Kernel4Ideal.nD Kernel4Ideal.τ).loc Kernel4Ideal.main_arg2) i) (m ((c : Thread Kernel4Ideal.nD Kernel4Ideal.τ).loc Kernel4Ideal.main_arg3) i),
    fun c i => Adam.moment (m ((c : Thread Kernel4Ideal.nD Kernel4Ideal.τ).loc Kernel4Ideal.main_arg1) i) (m ((c : Thread Kernel4Ideal.nD Kernel4Ideal.τ).loc Kernel4Ideal.main_arg2) i),
    fun c i => Adam.square (m ((c : Thread Kernel4Ideal.nD Kernel4Ideal.τ).loc Kernel4Ideal.main_arg1) i) (m ((c : Thread Kernel4Ideal.nD Kernel4Ideal.τ).loc Kernel4Ideal.main_arg3) i),
    ?_, ?_⟩
  · exact (θ_run _ _ _).mono (fun r h c => h c) (Cert.Kernel4Ideal.Value.run (F := Ideal) m g)
  · refine (θ_run _ _ _).mono (fun r h c => ?_) (Cert.Reference4Ideal.Value.run (F := Ideal) m' g')
    obtain ⟨o0, o1, o2, rest⟩ := h c
    obtain ⟨a0, a1, a2, a3⟩ := hargs c
    rw [a0, a1, a2, a3] at o0
    rw [a1, a2] at o1
    rw [a1, a3] at o2
    exact ⟨o0, o1, o2, rest⟩

end Cert.Adam4

namespace Cert.Adam5

attribute [local instance] Cert.Kernel5.Gen.facts Cert.Kernel5Ideal.Gen.facts Cert.Reference5Ideal.Gen.facts

/-- The two texts of the kernel have the same body on float words. -/
theorem defs₀_eq : (Cert.Kernel5Ideal.defs₀ (F := Bits) : Defs Cert.Kernel5.nD Cert.Kernel5.τ Cert.Kernel5.sig (Elt Bits) Cert.Kernel5.Λ₀)
    = Cert.Kernel5.defs₀ := by
  funext p l
  cases p with
  | tc =>
    match l with
    | ⟨0, _⟩ => funext a; exact rfl
    | ⟨n + 1, h⟩ => exact absurd h (Nat.not_lt.2 (Nat.le_add_left _ _))
  | scScalar _ => rfl
  | scVector _ _ => rfl

/-- `adam_ada_w`: the kernel on float words runs, keeps its arguments and ends with every semaphore at nought. -/
theorem kernel : Cert.quiescent_Kernel5 := by
  intro m g _
  have h := Cert.Kernel5Ideal.Gen.frame (F := Bits) m g
  unfold Cert.Kernel5.defs; rw [← defs₀_eq]; exact h

theorem ideal : Cert.quiescent_Kernel5Ideal := fun m g _ => Cert.Kernel5Ideal.Gen.frame m g

/-- The reference keeps its arguments, and has no semaphore. -/
theorem reference : Cert.quiescent_Reference5Ideal := fun m g _ =>
  (θ_run _ _ _).mono (fun r h => ⟨fun c => (h c).2.2.2, sem_eq_zero_of_no_sems (by decide) r.2⟩)
    (Cert.Reference5Ideal.Value.run (F := Ideal) m g)

theorem constants : Cert.preserves_Kernel5_Kernel5Ideal := trivial

/-- The kernel and the reference leave the same change of the weight and the same two moments, whatever the arguments. -/
theorem algebraic : Cert.algebraic_Kernel5Ideal_Reference5Ideal := by
  intro m g m' g' _ hargs
  refine ⟨fun c i => Adam.delta (m ((c : Thread Kernel5Ideal.nD Kernel5Ideal.τ).loc Kernel5Ideal.main_arg0) i)
      (m ((c : Thread Kernel5Ideal.nD Kernel5Ideal.τ).loc Kernel5Ideal.main_arg1) i)
      (m ((c : Thread Kernel5Ideal.nD Kernel5Ideal.τ).loc Kernel5Ideal.main_arg2) i) (m ((c : Thread Kernel5Ideal.nD Kernel5Ideal.τ).loc Kernel5Ideal.main_arg3) i),
    fun c i => Adam.moment (m ((c : Thread Kernel5Ideal.nD Kernel5Ideal.τ).loc Kernel5Ideal.main_arg1) i) (m ((c : Thread Kernel5Ideal.nD Kernel5Ideal.τ).loc Kernel5Ideal.main_arg2) i),
    fun c i => Adam.square (m ((c : Thread Kernel5Ideal.nD Kernel5Ideal.τ).loc Kernel5Ideal.main_arg1) i) (m ((c : Thread Kernel5Ideal.nD Kernel5Ideal.τ).loc Kernel5Ideal.main_arg3) i),
    ?_, ?_⟩
  · exact (θ_run _ _ _).mono (fun r h c => h c) (Cert.Kernel5Ideal.Value.run (F := Ideal) m g)
  · refine (θ_run _ _ _).mono (fun r h c => ?_) (Cert.Reference5Ideal.Value.run (F := Ideal) m' g')
    obtain ⟨o0, o1, o2, rest⟩ := h c
    obtain ⟨a0, a1, a2, a3⟩ := hargs c
    rw [a0, a1, a2, a3] at o0
    rw [a1, a2] at o1
    rw [a1, a3] at o2
    exact ⟨o0, o1, o2, rest⟩

end Cert.Adam5
-- ==== Proof.P6Frames.lean ====
module

public import proofs.«01_k».proof.Defs
public import proofs.«01_k».proof.Proof.Frames
public import proofs.«01_k».proof.Proof.Gen.Kernel6Ideal.Frame
public import proofs.«01_k».proof.Proof.Gen.Kernel6
public import proofs.«01_k».proof.Proof.Gen.Kernel6Ideal
public import proofs.«01_k».proof.Proof.Gen.Reference6Ideal.Run
public import proofs.«01_k».proof.Proof.Gen.Reference6Ideal
public import proofs.«01_k».proof.Proof.Gen.Pre_finite6
public import Idealize.ShloMosaic.Lib.Quiescent

/-! The frames of the three programs of the sixth call. -/

@[expose] public section

noncomputable section

namespace Cert.Frames6

attribute [local instance] Cert.Kernel6.Gen.facts Cert.Kernel6Ideal.Gen.facts Cert.Reference6Ideal.Gen.facts Cert.Pre_finite6.Gen.facts

section
open Idealize.ShloMosaic Idealize.SL.Sem Cert.Kernel6

set_option maxHeartbeats 4000000 in
/-- The two texts of the kernel have the same body on float words. -/
theorem defs₀_eq : (Cert.Kernel6Ideal.defs₀ (F := Bits) : Defs nD τ sig (Elt Bits) Λ₀) = defs₀ := by
  funext p l
  cases p with
  | tc =>
    match l with
    | ⟨0, _⟩ => funext a; exact rfl
    | ⟨n + 1, h⟩ => exact absurd h (Nat.not_lt.2 (Nat.le_add_left _ _))
  | scScalar _ => rfl
  | scVector _ _ => rfl

set_option maxHeartbeats 4000000 in
/-- The kernel on float words runs, keeps its arguments and ends with every semaphore at nought. -/
theorem kernel : Cert.quiescent_Kernel6 := by
  intro m g _
  have h := Cert.Kernel6Ideal.Gen.frame (F := Bits) m g
  unfold Cert.Kernel6.defs; rw [← defs₀_eq]; exact h
end

section
open Idealize.ShloMosaic Idealize.SL.Sem

/-- The kernel on exact numbers does so too. -/
theorem ideal : Cert.quiescent_Kernel6Ideal := fun m g _ => Cert.Kernel6Ideal.Gen.frame m g
theorem ideal_finite : Cert.quiescent_Kernel6Ideal_pre_finite6 := fun m g _ => Cert.Kernel6Ideal.Gen.frame m g
end

section
open Idealize.ShloMosaic Idealize.SL.Sem Cert.Reference6Ideal

/-- The reference keeps its arguments, and has no semaphore. -/
theorem ref_run (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0) :=
  (θ_run defs _ _).mono (fun r h => ⟨fun c => (by obtain ⟨-, -, -, -, -, -, -, k⟩ := h c; exact k),
    Idealize.ShloMosaic.sem_eq_zero_of_no_sems (by decide) r.2⟩) (Cert.Reference6Ideal.Value.run (F := Ideal) m g)

theorem reference : Cert.quiescent_Reference6Ideal := fun m g _ => ref_run m g
theorem reference_finite : Cert.quiescent_Reference6Ideal_pre_finite6 := fun m g _ => ref_run m g
end

/-- The constant has the exact value that is claimed for it. -/
theorem constants : Cert.preserves_Kernel6_Kernel6Ideal :=
  Idealize.ShloMosaic.IdealRules.named_const.statement _ _ _ _ _ rfl

end Cert.Frames6
-- ==== Proof.P6Pay.lean ====
module

public import proofs.«01_k».proof.Proof.KPay
public import proofs.«01_k».proof.Proof.Gen.Kernel6Ideal.Skeleton

/-! The sixth call's computed values on arrays of real numbers. -/

@[expose] public section

set_option maxRecDepth 16384

noncomputable section

namespace Cert.Kernel6Ideal.Val

open Idealize.ShloMosaic Cert.Lift Cert.Math Cert.Kernel6Ideal Cert.Kernel6Ideal.Gen
open Cert.KernelIdeal.Ops
open Cert.KernelIdeal.Val (div_n sp_big_gk sp_big_half sp_col_n sp_col_eps5 sp_col256_n sp_col256_eps6 sp_row_one th_k ph_k gelu_k vc_k var_k rs_k vh_k rsqrt_var ms_k rsqrt_ms)

theorem named_kc : (Named.named κ "gelu_kc" (0x3D122279#32) : Ideal .f32) = ((gk * gc : ℝ) : EReal) := by
  have e : (gk * gc : ℝ) = 80338380498831 / 2251799813685248 := by unfold gk gc; norm_num
  rw [e]; rfl
theorem sp_kc : (broadcast S128x1024 (Named.named κ "gelu_kc" (0x3D122279#32) : Ideal .f32) : FVec Ideal _ .f32) = L2 fun _ _ => gk * gc :=
  L2_splat _ named_kc
theorem mm (f : Fin 256 → Row) (g : Fin 1024 → Row) :
    matmul dot_S256x1024_S1024x1024_S256x1024_1_0_0_1_n_n none (L2 f : FVec Ideal _ .bf16) (L2 g : FVec Ideal _ .bf16) (constant S256x1024 .f32 0x00000000#32 : FVec Ideal _ .f32) = L2 fun a b => ∑ k, f a k * g k b := by
  funext i; idx_vars i; pointwise [L1, L2, L3, L4, bits_zero]; simp only [coe_sum_mul, coe_sum, ← EReal.coe_add, zero_add]
theorem mms (f : Fin 128 → Fin 128 → ℝ) (g : Fin 128 → Fin 128 → ℝ) :
    matmul dot_S128x128_S128x128_S128x128_1_0_0_1_n_n none (L2 f : FVec Ideal _ .bf16) (L2 g : FVec Ideal _ .bf16) (constant S128x128 .f32 0x00000000#32 : FVec Ideal _ .f32) = L2 fun a b => ∑ k, f a k * g k b := by
  funext i; idx_vars i; pointwise [L1, L2, L3, L4, bits_zero]; simp only [coe_sum_mul, coe_sum, ← EReal.coe_add, zero_add]

/-! ### The products with the weights -/

section
variable (f : Fin 256 → Row) (w : Fin 1024 → Row)
theorem pay1_L : k0_pay1 (F := Ideal) (L2 (e := .bf16) f) (L2 (e := .bf16) w) = L2 (e := .f32) fun a b => ∑ k, f a k * w k b := by
  simp only [k0_pay1, cast_self, mm]
end

/-! ### The modulated rows -/

/-- A row over its root mean square, scaled and shifted. -/
def mrow (ng sc sh f : Row) (b : Fin 1024) : ℝ := xn f b * ng b * (1 + sc b) + sh b

section
variable (i : grid0.Coords) (fc fx : Fin 256 → Row) (s1 s0 h1 h0 ng : Fin 1 → Row)
theorem pay38_sel (x : FVec Ideal S256x1024 .f32) (s h : FVec Ideal S1x1024 .f32) (f : Fin 256 → Row) (s' h' : Fin 1 → Row)
    (e : x = L2 f) (es : s = L2 s') (eh : h = L2 h')
    (a1 a2 : FVec Ideal S256x1024 .f32) (b1 b2 c1 c2 : FVec Ideal S1x1024 .f32)
    (ea : Scalar.select (Scalar.cmpi .eq (BitVec.ofNat 32 (i 0).val) 0#32) a1 a2 = x)
    (eb : Scalar.select (Scalar.cmpi .eq (BitVec.ofNat 32 (i 0).val) 0#32) b1 b2 = s)
    (ec : Scalar.select (Scalar.cmpi .eq (BitVec.ofNat 32 (i 0).val) 0#32) c1 c2 = h) :
    k0_pay38 (F := Ideal) i a1 a2 b1 b2 c1 c2 (L2 (e := .f32) ng) = L2 (e := .bf16) fun a => mrow (ng 0) (s' 0) (h' 0) (f a) := by
  subst e es eh
  simp only [k0_pay38, cast_self, ea, eb, ec, L2_mul]
  erw [rd_row_256]
  simp only [sc_col_256, sp_col256_n, sp_col256_eps6, sp_row_one, div_n, L2_add, L2_mul, ms_k, rsqrt_ms, bt_col_256_1024, bt_row_256_1024, L2_trunc]
  rfl
theorem pay38_c (hi : (i 0).val = 0) : k0_pay38 (F := Ideal) i (L2 (e := .f32) fc) (L2 (e := .f32) fx) (L2 (e := .f32) s1) (L2 (e := .f32) s0) (L2 (e := .f32) h1) (L2 (e := .f32) h0) (L2 (e := .f32) ng)
    = L2 (e := .bf16) fun a => mrow (ng 0) (s1 0) (h1 0) (fc a) := by
  refine pay38_sel i ng _ _ _ fc s1 h1 rfl rfl rfl _ _ _ _ _ _ ?_ ?_ ?_ <;> (rw [hi]; rfl)
theorem pay38_x (hi : (i 0).val ≠ 0) : k0_pay38 (F := Ideal) i (L2 (e := .f32) fc) (L2 (e := .f32) fx) (L2 (e := .f32) s1) (L2 (e := .f32) s0) (L2 (e := .f32) h1) (L2 (e := .f32) h0) (L2 (e := .f32) ng)
    = L2 (e := .bf16) fun a => mrow (ng 0) (s0 0) (h0 0) (fx a) := by
  have e : ∀ n : Fin 9, n.val ≠ 0 → Scalar.cmpi .eq (BitVec.ofNat 32 n.val) 0#32 = 0#1 := by decide
  have e := e (i 0) hi
  refine pay38_sel i ng _ _ _ fx s0 h0 rfl rfl rfl _ _ _ _ _ _ ?_ ?_ ?_ <;> (rw [e]; rfl)
end

/-! ### The gating unit on a chunk -/

section
variable (f : Fin 128 → Row)
theorem pay8_L : k0_pay8 (F := Ideal) (L2 (e := .f32) f) = L2 (e := .f32) f := by simp only [k0_pay8, cast_self]
theorem pay9_L : k0_pay9 (F := Ideal) (L2 (e := .f32) f) = L2 (e := .f32) fun p j => gelu (f p j) := by
  simp only [k0_pay9, cast_self, L2_mul, L2_add, L2_tanh, sp_big_gk, sp_big_half, sp_kc, th_k, ph_k, gelu_k]
theorem pay10_L : k0_pay10 (F := Ideal) (L2 (e := .f32) f) = L2 (e := .f32) fun p j => th (f p j) := by
  simp only [k0_pay10, pay8_L, L2_mul, L2_add, L2_tanh, sp_big_gk, sp_kc, th_k]
theorem pay11_L (lg lb : Fin 1 → Row) : k0_pay11 (F := Ideal) (L2 (e := .f32) f) (L2 (e := .f32) lg) (L2 (e := .f32) lb) (L2 (e := .f32) fun p j => th (f p j)) (Scalar.ofBits .f32 0x3F000000#32)
    = L2 (e := .bf16) fun p j => cvn lg lb f p j := by
  simp only [k0_pay11, L2_mul, L2_add, sp_big_half, ph_k, gelu_k]
  erw [rd_row_128]
  simp only [sc_col_128, sp_col_n, div_n, bt_col_128_1024, L2_sub, vc_k, L2_mul]
  erw [rd_row_128]
  simp only [sc_col_128, sp_col_n, sp_col_eps5, div_n, L2_add, var_k, rsqrt_var, bt_col_128_1024, bt_row_128_1024, L2_mul, vh_k, L2_trunc]
  rfl
end

section
variable (x : Fin 128 → Row) (W : Fin 1 → Fin 128 → Fin 128 → ℝ) (s : Fin 128 → Fin 1 → ℝ)
/-- The mix of 128 columns. -/
def mixc (g : Fin 8) (p c : Fin 128) : ℝ := ∑ q, W 0 p q * x q (col g c) + s p 0
theorem pay15_L : k0_pay15 (F := Ideal) (L2 (e := .bf16) x) (L3 (e := .bf16) W) (L2 (e := .f32) s) = L2 (e := .f32) (mixc x W s 2) := by
  simp only [k0_pay15, cast_self, sc_drop, xs_col2, mms, bt_col_128_128, L2_add]; rfl
theorem pay16_L : k0_pay16 (F := Ideal) (L2 (e := .bf16) x) (L3 (e := .bf16) W) (L2 (e := .f32) s) = L2 (e := .f32) (mixc x W s 3) := by
  simp only [k0_pay16, cast_self, sc_drop, xs_col3, mms, bt_col_128_128, L2_add]; rfl
theorem pay18_L : k0_pay18 (F := Ideal) (k0_pay17 (L2 (e := .bf16) x) (L3 (e := .bf16) W)) (L2 (e := .f32) s) = L2 (e := .f32) (mixc x W s 4) := by
  simp only [k0_pay17, k0_pay18, cast_self, sc_drop, xs_col4, mms, bt_col_128_128, L2_add]; rfl
theorem pay19_L : k0_pay19 (F := Ideal) (L2 (e := .bf16) x) (L3 (e := .bf16) W) (L2 (e := .f32) s) = L2 (e := .f32) (mixc x W s 5) := by
  simp only [k0_pay19, cast_self, sc_drop, xs_col5, mms, bt_col_128_128, L2_add]; rfl
theorem pay20_L : k0_pay20 (F := Ideal) (L2 (e := .bf16) x) (L3 (e := .bf16) W) (L2 (e := .f32) s) = L2 (e := .f32) (mixc x W s 6) := by
  simp only [k0_pay20, cast_self, sc_drop, xs_col6, mms, bt_col_128_128, L2_add]; rfl
theorem pay22_L : k0_pay22 (F := Ideal) (k0_pay21 (L2 (e := .bf16) x) (L3 (e := .bf16) W)) (L2 (e := .f32) s) = L2 (e := .f32) (mixc x W s 7) := by
  simp only [k0_pay21, k0_pay22, cast_self, sc_drop, xs_col7, mms, bt_col_128_128, L2_add]; rfl
variable (a c e d : FVec Ideal S128x1024 .f32) (lg lb : FVec Ideal S1x1024 .f32) (k : Ideal .f32)
theorem pay12_L (h : k0_pay11 (F := Ideal) a lg lb c k = L2 (e := .bf16) x) :
    k0_pay12 (F := Ideal) a lg lb c k (L3 (e := .bf16) W) (L2 (e := .f32) s) = L2 (e := .f32) (mixc x W s 0) := by
  simp only [k0_pay12, h, cast_self, sc_drop, xs_col0, mms, bt_col_128_128, L2_add]; rfl
theorem pay14_L (h : k0_pay11 (F := Ideal) a lg lb c k = L2 (e := .bf16) x) :
    k0_pay14 (F := Ideal) (k0_pay13 a lg lb c k (L3 (e := .bf16) W)) (L2 (e := .f32) s) = L2 (e := .f32) (mixc x W s 1) := by
  simp only [k0_pay13, k0_pay14, h, cast_self, sc_drop, xs_col1, mms, bt_col_128_128, L2_add]; rfl
end
theorem pay23_L (f g : Fin 128 → Row) : k0_pay23 (F := Ideal) (L2 (e := .f32) f) (L2 (e := .f32) g) = L2 (e := .f32) fun p j => f p j * g p j := by
  simp only [k0_pay23, L2_mul]

/-! ### The second chunk's values are those of the first -/

theorem e2 : k0_pay2 (F := Ideal) = k0_pay22 := rfl
theorem e3 : k0_pay3 (F := Ideal) = k0_pay23 := rfl

end Cert.Kernel6Ideal.Val
-- ==== Proof.P6Out.lean ====
module

public import proofs.«01_k».proof.Proof.P6Pay
public import proofs.«01_k».proof.Proof.HTile
public import proofs.«01_k».proof.Proof.KRead
public import proofs.«01_k».proof.Proof.Gen.Kernel6Ideal.Frame

/-! What one point of the sixth call leaves in its output buffers, on arrays of real numbers. -/

@[expose] public section

set_option maxRecDepth 16384

noncomputable section

namespace Cert.Kernel6Ideal.Val

open Idealize.ShloMosaic Idealize.ShloMosaic.Tactic Cert.Lift Cert.Math Cert.Kernel6Ideal Cert.Kernel6Ideal.Gen
open Cert.KernelIdeal.Val (half)

/-! ### Loads -/

theorem rd_256 (m : Memref sig .tc .vmem S256x1024 .f32) (h : m.IsWhole) (f : Fin 256 → Row) (inb) :
    View.readAt (Elt Ideal) m.view (Rect.unit (s := S256x1024) ![0, 0] S256x1024.size inb).toLoadRect
      (h.unread (L2 f : FVec Ideal _ .f32)) = L2 (e := .f32) f := by
  rw [View.readAt_eq_ld, Memref.IsWhole.read_unread]
  funext i; idx_vars i; pointwise [L2, View.ld]
theorem rd_w (m : Memref sig .tc .vmem S1024x1024 .bf16) (h : m.IsWhole) (f : Fin 1024 → Row) (inb) :
    View.readAt (Elt Ideal) m.view (Rect.unit (s := S1024x1024) ![0, 0] S1024x1024.size inb).toLoadRect
      (h.unread (L2 f : FVec Ideal _ .bf16)) = L2 (e := .bf16) f := by
  rw [View.readAt_eq_ld, Memref.IsWhole.read_unread]
  funext i; idx_vars i; pointwise [L2, View.ld]
theorem rd_1 (m : Memref sig .tc .vmem S1x1024 .f32) (h : m.IsWhole) (f : Fin 1 → Row) (inb) :
    View.readAt (Elt Ideal) m.view (Rect.unit (s := S1x1024) ![0, 0] S1x1024.size inb).toLoadRect
      (h.unread (L2 f : FVec Ideal _ .f32)) = L2 (e := .f32) fun _ => f 0 := by
  rw [View.readAt_eq_ld, Memref.IsWhole.read_unread]
  funext i; idx_vars i; pointwise [L2, View.ld]
/-- A load of one of eight rows. -/
theorem rd_8 (m : Memref sig .tc .vmem S8x1024 .f32) (h : m.IsWhole) (f : Fin 8 → Row) (k : Fin 8) (inb) :
    View.readAt (Elt Ideal) m.view (Rect.unit (s := S8x1024) ![k.val, 0] S1x1024.size inb).toLoadRect
      (h.unread (L2 f : FVec Ideal _ .f32)) = L2 (e := .f32) fun _ => f k := by
  rw [View.readAt_eq_ld, Memref.IsWhole.read_unread]
  funext i
  refine congrArg Real.toEReal (congrArg₂ f (Fin.ext ?_) (Fin.ext ?_)) <;> simp [LoadRect.idx, Rect.toLoadRect, Rect.unit]
/-- A load of one of eight slabs. -/
theorem rd_tile (m : Memref sig .tc .vmem S8x128x128 .bf16) (h : m.IsWhole) (f : Fin 8 → Fin 128 → Fin 128 → ℝ) (k : Fin 8) (inb) :
    View.readAt (Elt Ideal) m.view (Rect.unit (s := S8x128x128) ![k.val, 0, 0] S1x128x128.size inb).toLoadRect
      (h.unread (L3 f : FVec Ideal _ .bf16)) = L3 (e := .bf16) fun _ => f k := by
  rw [View.readAt_eq_ld, Memref.IsWhole.read_unread]
  funext i
  refine congrArg Real.toEReal (congr (congrArg₂ f (Fin.ext ?_) (Fin.ext ?_)) (Fin.ext ?_)) <;> simp [LoadRect.idx, Rect.toLoadRect, Rect.unit]
/-- A load of one of eight columns. -/
theorem rd_col (m : Memref sig .tc .vmem S128x8 .f32) (h : m.IsWhole) (f : Fin 128 → Fin 8 → ℝ) (k : Fin 8) (inb) :
    View.readAt (Elt Ideal) m.view (Rect.unit (s := S128x8) ![0, k.val] S128x1.size inb).toLoadRect
      (h.unread (L2 f : FVec Ideal _ .f32)) = L2 (e := .f32) fun p _ => f p k := by
  rw [View.readAt_eq_ld, Memref.IsWhole.read_unread]
  funext i
  refine congrArg Real.toEReal (congrArg₂ f (Fin.ext ?_) (Fin.ext ?_)) <;> simp [LoadRect.idx, Rect.toLoadRect, Rect.unit]

/-! ### Stores -/

/-- Half of a block that was stored whole. -/
theorem rows_read (m : Memref sig .tc .vmem S256x1024 .f32) (f : Fin 256 → Row) {w : S256x1024.Idx → Elt Ideal .f32} (b)
    (h : w = L2 (e := .f32) f) (k : Fin 2) (b') :
    m.view.readCov [⟨Rect.unit (s := S256x1024) ![0, 0] S256x1024.size b, w⟩]
      (Rect.unit (s := S256x1024) ![128 * k.val, 0] S128x1024.size b').toLoadRect = L2 (e := .f32) fun p => f (half k p) := by
  rw [View.readCov_eq_canon']
  funext j
  refine (congrFun (Cert.Kernel2Ideal.Val.block_whole f [] b h) _).trans ?_
  refine congrArg Real.toEReal (congrArg₂ f (Fin.ext ?_) (Fin.ext ?_)) <;> simp [LoadRect.idx, Rect.toLoadRect, Rect.unit, half]

set_option maxHeartbeats 1000000 in
/-- Two stored halves. -/
theorem halves (f : Fin 256 → Row) {w0 w1 : S128x1024.Idx → Elt Ideal .f32} (b0 b1)
    (h0 : w0 = L2 (e := .f32) fun p => f (half 0 p)) (h1 : w1 = L2 (e := .f32) fun p => f (half 1 p)) :
    View.canon (Val := Elt Ideal) (s := S256x1024) (e := .f32) [⟨Rect.unit (s := S256x1024) ![128, 0] S128x1024.size b1, w1⟩,
      ⟨Rect.unit (s := S256x1024) ![0, 0] S128x1024.size b0, w0⟩] = L2 (e := .f32) f := by
  subst h0 h1
  funext j
  refine View.canon_append_of_piecesOf (Val := Elt Ideal) (s := S256x1024) (e := .f32) (L2 (e := .f32) f) []
    [⟨Rect.unit (s := S256x1024) ![128, 0] S128x1024.size b1, _⟩, ⟨Rect.unit (s := S256x1024) ![0, 0] S128x1024.size b0, _⟩] ?_ _
    (View.cover_of_tiledL _ ![128, 1024] (by sl_kernel_rfl) _)
  refine ⟨?_, ?_, trivial⟩ <;> (intro i; refine congrArg Real.toEReal (congrArg₂ f (Fin.ext ?_) (Fin.ext ?_)) <;> (show _ = _ + 1 * _; simp [Rect.unit, half]))

/-- Eight stores of 128 columns, after those of `L`. -/
def mixL (w : Fin 8 → FVec Ideal S128x128 .f32) (L : List (View.Piece (Elt Ideal) S128x1024 .f32)) : List (View.Piece (Elt Ideal) S128x1024 .f32) :=
  ⟨Rect.unit (s := S128x1024) ![0, 896] S128x128.size inb_S128x1024_S128x128_0_896, w 7⟩ :: ⟨Rect.unit (s := S128x1024) ![0, 768] S128x128.size inb_S128x1024_S128x128_0_768, w 6⟩
    :: ⟨Rect.unit (s := S128x1024) ![0, 640] S128x128.size inb_S128x1024_S128x128_0_640, w 5⟩ :: ⟨Rect.unit (s := S128x1024) ![0, 512] S128x128.size inb_S128x1024_S128x128_0_512, w 4⟩
    :: ⟨Rect.unit (s := S128x1024) ![0, 384] S128x128.size inb_S128x1024_S128x128_0_384, w 3⟩ :: ⟨Rect.unit (s := S128x1024) ![0, 256] S128x128.size inb_S128x1024_S128x128_0_256, w 2⟩
    :: ⟨Rect.unit (s := S128x1024) ![0, 128] S128x128.size inb_S128x1024_S128x128_0_128, w 1⟩ :: ⟨Rect.unit (s := S128x1024) ![0, 0] S128x128.size inb_S128x1024_S128x128_0_0, w 0⟩ :: L

/-- They are read back as one array. -/
theorem cols_read (m : Memref sig .tc .vmem S128x1024 .f32) (f : Fin 128 → Row) (w : Fin 8 → FVec Ideal S128x128 .f32)
    (L : List (View.Piece (Elt Ideal) S128x1024 .f32)) (b) (h : ∀ g, w g = L2 (e := .f32) fun p q => f p (col g q)) :
    m.view.readCov (mixL w L) (Rect.unit (s := S128x1024) ![0, 0] S128x1024.size b).toLoadRect = L2 (e := .f32) f := by
  obtain rfl : w = fun g => L2 (e := .f32) fun p q => f p (col g q) := funext h
  rw [View.readCov_eq_canon']
  funext j
  unfold mixL
  refine (View.canon_append_of_piecesOf (L2 (e := .f32) f) L [_, _, _, _, _, _, _, _] ?_ _ (View.cover_of_tiledL _ ![128, 128] (by sl_kernel_rfl) _)).trans ?_
  · refine ⟨?_, ?_, ?_, ?_, ?_, ?_, ?_, ?_, trivial⟩ <;> (intro i; refine congrArg Real.toEReal (congrArg₂ f (Fin.ext ?_) (Fin.ext ?_)) <;> (show _ = _ + 1 * _; simp [Rect.unit, col, half]))
  · refine congrArg Real.toEReal (congrArg₂ f (Fin.ext ?_) (Fin.ext ?_)) <;> simp [LoadRect.idx, Rect.toLoadRect, Rect.unit]

/-! ### The mixed chunk -/

section
variable (m13 : Memref sig .tc .vmem S8x128x128 .bf16) (h13 : m13.IsWhole) (m14 : Memref sig .tc .vmem S128x8 .f32) (h14 : m14.IsWhole)
  (W : Fin 8 → Fin 128 → Fin 128 → ℝ) (s : Fin 128 → Fin 8 → ℝ) (lg lb : Fin 1 → Row) (V : Fin 128 → Row)

/-- A load of a slab or of a column. -/
abbrev ldT (x : Vec Ideal S8x128x128 .bf16) (o : Fin 3 → ℕ) (b : ∀ a, o a + S1x128x128.size a ≤ S8x128x128.size a) : FVec Ideal S1x128x128 .bf16 :=
  View.readAt (Elt Ideal) m13.view (Rect.unit (s := S8x128x128) o S1x128x128.size b).toLoadRect (h13.unread x)
abbrev ldC (x : Vec Ideal S128x8 .f32) (o : Fin 2 → ℕ) (b : ∀ a, o a + S128x1.size a ≤ S128x8.size a) : FVec Ideal S128x1 .f32 :=
  View.readAt (Elt Ideal) m14.view (Rect.unit (s := S128x8) o S128x1.size b).toLoadRect (h14.unread x)

/-- One half. -/
abbrev hf : Ideal .f32 := FloatOps.ofBits .f32 1056964608#32
/-- The normalised chunk. -/
abbrev nrm (v : FVec Ideal S128x1024 .f32) (g b' : FVec Ideal S1x1024 .f32) : FVec Ideal S128x1024 .bf16 := k0_pay11 (k0_pay8 v) g b' (k0_pay10 v) hf

/-- The values that the point stores for the eight groups of a chunk `v`. -/
def mixW (v : FVec Ideal S128x1024 .f32) (g b' : FVec Ideal S1x1024 .f32) (x12 : Vec Ideal S8x128x128 .bf16) (x13 : Vec Ideal S128x8 .f32) :
    Fin 8 → FVec Ideal S128x128 .f32 :=
  ![k0_pay12 (k0_pay8 v) g b' (k0_pay10 v) hf (ldT m13 h13 x12 ![0, 0, 0] inb_S8x128x128_S1x128x128_0_0_0) (ldC m14 h14 x13 ![0, 0] inb_S128x8_S128x1_0_0),
    k0_pay14 (k0_pay13 (k0_pay8 v) g b' (k0_pay10 v) hf (ldT m13 h13 x12 ![1, 0, 0] inb_S8x128x128_S1x128x128_1_0_0)) (ldC m14 h14 x13 ![0, 1] inb_S128x8_S128x1_0_1),
    k0_pay15 (nrm v g b') (ldT m13 h13 x12 ![2, 0, 0] inb_S8x128x128_S1x128x128_2_0_0) (ldC m14 h14 x13 ![0, 2] inb_S128x8_S128x1_0_2), k0_pay16 (nrm v g b') (ldT m13 h13 x12 ![3, 0, 0] inb_S8x128x128_S1x128x128_3_0_0) (ldC m14 h14 x13 ![0, 3] inb_S128x8_S128x1_0_3),
    k0_pay18 (k0_pay17 (nrm v g b') (ldT m13 h13 x12 ![4, 0, 0] inb_S8x128x128_S1x128x128_4_0_0)) (ldC m14 h14 x13 ![0, 4] inb_S128x8_S128x1_0_4), k0_pay19 (nrm v g b') (ldT m13 h13 x12 ![5, 0, 0] inb_S8x128x128_S1x128x128_5_0_0) (ldC m14 h14 x13 ![0, 5] inb_S128x8_S128x1_0_5),
    k0_pay20 (nrm v g b') (ldT m13 h13 x12 ![6, 0, 0] inb_S8x128x128_S1x128x128_6_0_0) (ldC m14 h14 x13 ![0, 6] inb_S128x8_S128x1_0_6), k0_pay22 (k0_pay21 (nrm v g b') (ldT m13 h13 x12 ![7, 0, 0] inb_S8x128x128_S1x128x128_7_0_0)) (ldC m14 h14 x13 ![0, 7] inb_S128x8_S128x1_0_7)]

/-- They are the columns of the mix. -/
theorem mixW_L (g : Fin 8) :
    mixW m13 h13 m14 h14 (L2 (e := .f32) V) (L2 (e := .f32) lg) (L2 (e := .f32) lb) (L3 (e := .bf16) W) (L2 (e := .f32) s) g
      = L2 (e := .f32) fun p q => cmix lg lb W (fun g p => s p g) V p (col g q) := by
  have ex : nrm (L2 (e := .f32) V) (L2 (e := .f32) lg) (L2 (e := .f32) lb)
      = L2 (e := .bf16) fun p j => cvn lg lb V p j := by
    unfold nrm; rw [pay8_L, pay10_L]; exact pay11_L V lg lb
  have et (k : Fin 8) (b) : ldT m13 h13 (L3 (e := .bf16) W) ![k.val, 0, 0] b = L3 (e := .bf16) fun _ => W k := rd_tile m13 h13 W k b
  have ec (k : Fin 8) (b) : ldC m14 h14 (L2 (e := .f32) s) ![0, k.val] b = L2 (e := .f32) fun p _ => s p k := rd_col m14 h14 s k b
  have em : (fun p q => cmix lg lb W (fun g p => s p g) V p (col g q)) = mixc (fun p j => cvn lg lb V p j) (fun _ => W g) (fun p _ => s p g) g := by
    funext p q; simp only [mixc, cmix, grp_col]
  rw [em]
  have e2 {α β γ : Type} (f : α → β → γ) {a a' b b'} (ha : a = a') (hb : b = b') : f a b = f a' b' := by rw [ha, hb]
  fin_cases g
  · exact (e2 (fun a b => k0_pay12 _ _ _ _ _ a b) (et 0 _) (ec 0 _)).trans (pay12_L _ _ _ _ _ _ _ _ ex)
  · exact (e2 (fun a b => k0_pay14 (k0_pay13 _ _ _ _ _ a) b) (et 1 _) (ec 1 _)).trans (pay14_L _ _ _ _ _ _ _ _ ex)
  · exact (e2 (fun a b => k0_pay15 _ a b) (et 2 _) (ec 2 _)).trans ((congrArg (fun x => k0_pay15 x _ _) ex).trans (pay15_L _ _ _))
  · exact (e2 (fun a b => k0_pay16 _ a b) (et 3 _) (ec 3 _)).trans ((congrArg (fun x => k0_pay16 x _ _) ex).trans (pay16_L _ _ _))
  · exact (e2 (fun a b => k0_pay18 (k0_pay17 _ a) b) (et 4 _) (ec 4 _)).trans ((congrArg (fun x => k0_pay18 (k0_pay17 x _) _) ex).trans (pay18_L _ _ _))
  · exact (e2 (fun a b => k0_pay19 _ a b) (et 5 _) (ec 5 _)).trans ((congrArg (fun x => k0_pay19 x _ _) ex).trans (pay19_L _ _ _))
  · exact (e2 (fun a b => k0_pay20 _ a b) (et 6 _) (ec 6 _)).trans ((congrArg (fun x => k0_pay20 x _ _) ex).trans (pay20_L _ _ _))
  · exact (e2 (fun a b => k0_pay22 (k0_pay21 _ a) b) (et 7 _) (ec 7 _)).trans ((congrArg (fun x => k0_pay22 (k0_pay21 x _) _) ex).trans (pay22_L _ _ _))

/-! ### The results of a point -/

/-- The half that a row of a block lies in, and its place there. -/
def hk (a : Fin 256) : Fin 2 := ⟨a.val / 128, by omega⟩
def hp (a : Fin 256) : Fin 128 := ⟨a.val % 128, by omega⟩
theorem hk_half (k : Fin 2) (p : Fin 128) : hk (half k p) = k := Fin.ext (by simp only [hk, half]; omega)
theorem hp_half (k : Fin 2) (p : Fin 128) : hp (half k p) = p := Fin.ext (by simp only [hp, half]; omega)
/-- The gated rows of a block. -/
def gated (U V : Fin 256 → Row) (a : Fin 256) (j : Fin 1024) : ℝ :=
  gelu (U a j) * cmix lg lb W (fun g p => s p g) (fun q => V (half (hk a) q)) (hp a) j
/-- A row's product with weights. -/
def pr (f : Fin 256 → Row) (w : Fin 1024 → Row) (a : Fin 256) (b : Fin 1024) : ℝ := ∑ k, f a k * w k b

theorem prod_L (m : Memref sig .tc .vmem S1024x1024 .bf16) (h : m.IsWhole) (w : Fin 1024 → Row) (f : Fin 256 → Row) (b)
    {x : FVec Ideal S256x1024 .bf16} (hx : x = L2 f) :
    k0_pay1 (F := Ideal) x (View.readAt (Elt Ideal) m.view (Rect.unit (s := S1024x1024) ![0, 0] S1024x1024.size b).toLoadRect
      (h.unread (L2 w : FVec Ideal _ .bf16))) = L2 (e := .f32) (pr f w) := by
  subst hx
  exact (congrArg (k0_pay1 _) (rd_w m h w b)).trans (pay1_L f w)

set_option maxHeartbeats 1000000 in
theorem gated_L (m19 m20 : Memref sig .tc .vmem S256x1024 .f32) (m23 : Memref sig .tc .vmem S128x1024 .f32) (U V : Fin 256 → Row)
    (b b' b0 b1 b2 b3 b4 b5 b6 b7) {wu wv : FVec Ideal S256x1024 .f32} {g l : FVec Ideal S1x1024 .f32} (hu : wu = L2 U) (hv : wv = L2 V) (hg : g = L2 lg) (hl : l = L2 lb)
    {v0 v1 : FVec Ideal S128x1024 .f32}
    (e0 : v0 = m20.view.readCov (Val := Elt Ideal) [⟨Rect.unit (s := S256x1024) ![0, 0] S256x1024.size b', wv⟩] (Rect.unit (s := S256x1024) ![0, 0] S128x1024.size b2).toLoadRect)
    (e1 : v1 = m20.view.readCov (Val := Elt Ideal) [⟨Rect.unit (s := S256x1024) ![0, 0] S256x1024.size b', wv⟩] (Rect.unit (s := S256x1024) ![128, 0] S128x1024.size b3).toLoadRect) :
    View.canon (Val := Elt Ideal) (s := S256x1024) (e := .f32)
      [⟨Rect.unit (s := S256x1024) ![128, 0] S128x1024.size b1, k0_pay23 (F := Ideal)
          (k0_pay9 (m19.view.readCov [⟨Rect.unit (s := S256x1024) ![0, 0] S256x1024.size b, wu⟩] (Rect.unit (s := S256x1024) ![128, 0] S128x1024.size b4).toLoadRect))
          (m23.view.readCov (mixL (mixW m13 h13 m14 h14 v1 g l (L3 (e := .bf16) W) (L2 (e := .f32) s))
            (mixL (mixW m13 h13 m14 h14 v0 g l (L3 (e := .bf16) W) (L2 (e := .f32) s)) [])) (Rect.unit (s := S128x1024) ![0, 0] S128x1024.size b5).toLoadRect)⟩,
        ⟨Rect.unit (s := S256x1024) ![0, 0] S128x1024.size b0, k0_pay23 (F := Ideal)
          (k0_pay9 (m19.view.readCov [⟨Rect.unit (s := S256x1024) ![0, 0] S256x1024.size b, wu⟩] (Rect.unit (s := S256x1024) ![0, 0] S128x1024.size b6).toLoadRect))
          (m23.view.readCov (mixL (mixW m13 h13 m14 h14 v0 g l (L3 (e := .bf16) W) (L2 (e := .f32) s)) []) (Rect.unit (s := S128x1024) ![0, 0] S128x1024.size b7).toLoadRect)⟩]
      = L2 (e := .f32) (gated W s lg lb U V) := by
  have f0 := e0.trans (rows_read m20 V b' hv 0 b2)
  have f1 := e1.trans (rows_read m20 V b' hv 1 b3)
  subst hg hl f0 f1
  have e2 {α β γ : Type} (f : α → β → γ) {a a' b b'} (ha : a = a') (hb : b = b') : f a b = f a' b' := by rw [ha, hb]
  refine halves _ b0 b1 ?_ ?_
  · refine (e2 k0_pay23 ((congrArg k0_pay9 (rows_read m19 U b hu 0 b6)).trans (pay9_L _)) (cols_read m23 _ _ _ b7 (mixW_L m13 h13 m14 h14 W s lg lb _))).trans ((pay23_L _ _).trans ?_)
    refine congrArg L2 (funext fun p => funext fun j => ?_)
    unfold gated; rw [hk_half, hp_half]
  · refine (e2 k0_pay23 ((congrArg k0_pay9 (rows_read m19 U b hu 1 b4)).trans (pay9_L _)) (cols_read m23 _ _ _ b5 (mixW_L m13 h13 m14 h14 W s lg lb _))).trans ((pay23_L _ _).trans ?_)
    refine congrArg L2 (funext fun p => funext fun j => ?_)
    unfold gated; rw [hk_half, hp_half]
end

section
variable (i : grid0.Coords) (m1 m2 : Memref sig .tc .vmem S256x1024 .f32) (h1 : m1.IsWhole) (h2 : m2.IsWhole) (m3 m4 : Memref sig .tc .vmem S8x1024 .f32)
  (h3 : m3.IsWhole) (h4 : m4.IsWhole) (m5 : Memref sig .tc .vmem S1x1024 .f32) (h5 : m5.IsWhole)
  (x0 x1 : Fin 256 → Row) (x2 x3 : Fin 8 → Row) (x4 : Fin 1 → Row)

/-- The modulated block that the point computes. -/
def hbT : FVec Ideal S256x1024 .bf16 := k0_pay38 i
  (View.readAt (Elt Ideal) m2.view (Rect.unit (s := S256x1024) ![0, 0] S256x1024.size inb_S256x1024_S256x1024_0_0).toLoadRect (h2.unread (L2 x1 : FVec Ideal _ .f32)))
  (View.readAt (Elt Ideal) m1.view (Rect.unit (s := S256x1024) ![0, 0] S256x1024.size inb_S256x1024_S256x1024_0_0).toLoadRect (h1.unread (L2 x0 : FVec Ideal _ .f32)))
  (View.readAt (Elt Ideal) m4.view (Rect.unit (s := S8x1024) ![1, 0] S1x1024.size inb_S8x1024_S1x1024_1_0).toLoadRect (h4.unread (L2 x3 : FVec Ideal _ .f32)))
  (View.readAt (Elt Ideal) m4.view (Rect.unit (s := S8x1024) ![0, 0] S1x1024.size inb_S8x1024_S1x1024_0_0).toLoadRect (h4.unread (L2 x3 : FVec Ideal _ .f32)))
  (View.readAt (Elt Ideal) m3.view (Rect.unit (s := S8x1024) ![1, 0] S1x1024.size inb_S8x1024_S1x1024_1_0).toLoadRect (h3.unread (L2 x2 : FVec Ideal _ .f32)))
  (View.readAt (Elt Ideal) m3.view (Rect.unit (s := S8x1024) ![0, 0] S1x1024.size inb_S8x1024_S1x1024_0_0).toLoadRect (h3.unread (L2 x2 : FVec Ideal _ .f32)))
  (View.readAt (Elt Ideal) m5.view (Rect.unit (s := S1x1024) ![0, 0] S1x1024.size inb_S1x1024_S1x1024_0_0).toLoadRect (h5.unread (L2 x4 : FVec Ideal _ .f32)))

theorem hbT_eq : hbT i m1 m2 h1 h2 m3 m4 h3 h4 m5 h5 x0 x1 x2 x3 x4 = k0_pay38 (F := Ideal) i (L2 (e := .f32) x1) (L2 (e := .f32) x0) (L2 (e := .f32) fun (_ : Fin 1) => x3 1)
    (L2 (e := .f32) fun (_ : Fin 1) => x3 0) (L2 (e := .f32) fun (_ : Fin 1) => x2 1) (L2 (e := .f32) fun (_ : Fin 1) => x2 0) (L2 (e := .f32) fun (_ : Fin 1) => x4 0) := by
  have a := rd_8 m4 h4 x3 1 inb_S8x1024_S1x1024_1_0
  have b := rd_8 m4 h4 x3 0 inb_S8x1024_S1x1024_0_0
  have c := rd_8 m3 h3 x2 1 inb_S8x1024_S1x1024_1_0
  have d := rd_8 m3 h3 x2 0 inb_S8x1024_S1x1024_0_0
  exact congr (congr (congr (congr (congr (congrArg₂ (k0_pay38 i) (rd_256 m2 h2 x1 _) (rd_256 m1 h1 x0 _)) a) b) c) d) (rd_1 m5 h5 x4 _)
theorem hbT_c (hi : (i 0).val = 0) : hbT i m1 m2 h1 h2 m3 m4 h3 h4 m5 h5 x0 x1 x2 x3 x4 = L2 (e := .bf16) fun a => mrow (x4 0) (x3 1) (x2 1) (x1 a) :=
  (hbT_eq ..).trans (pay38_c i _ _ _ _ _ _ _ hi)
theorem hbT_x (hi : (i 0).val ≠ 0) : hbT i m1 m2 h1 h2 m3 m4 h3 h4 m5 h5 x0 x1 x2 x3 x4 = L2 (e := .bf16) fun a => mrow (x4 0) (x3 0) (x2 0) (x0 a) :=
  (hbT_eq ..).trans (pay38_x i _ _ _ _ _ _ _ hi)
end

end Cert.Kernel6Ideal.Val
-- ==== Proof.P6Ref.lean ====
module

public import proofs.«01_k».proof.Proof.RVal
public import proofs.«01_k».proof.Proof.Gen.Reference6Ideal.Run

/-! What the sixth call's reference computes, on real arguments: the modulated rows, the products with the five column
blocks of the weights, and the gated rows. -/

@[expose] public section

set_option maxRecDepth 16384

noncomputable section

namespace Cert.Proj

open Cert.Lift Cert.Math

/-- The modulated rows of `x`. -/
def hx (d : Data) (a : Fin 2048) (b : Fin 1024) : ℝ := xn (d.x a) b * d.ng 0 b * d.s1x b + d.mx 0 ⟨b.val, by omega⟩
/-- The modulated rows of the context. -/
def hc (d : Data) (a : Fin 256) (b : Fin 1024) : ℝ := xn (d.ctx a) b * d.ng 0 b * d.s1c b + d.mc 0 ⟨b.val, by omega⟩
/-- Both, one below the other. -/
def hn (d : Data) (a : Fin 2304) : Row := if h : a.val < 256 then hc d ⟨a.val, h⟩ else hx d ⟨a.val - 256, by omega⟩
/-- Their products with the first 1024 columns of the weights. -/
def xa (d : Data) (a : Fin 2304) (b : Fin 1024) : ℝ := ∑ k, hn d a k * d.w k ⟨b.val, by omega⟩
/-- The `s`-th 1024 columns of the projection. -/
def zc (d : Data) (s : Fin 5) (a : Fin 2048) (b : Fin 1024) : ℝ := d.z a ⟨1024 * s.val + b.val, by omega⟩
/-- The gated rows. -/
def ys (d : Data) (r : Fin 2048) (j : Fin 1024) : ℝ :=
  gelu (zc d 2 r j) * cmix d.lg d.lb d.sw d.sb (Data.part (zc d 3) (chk r)) (pos r) j

end Cert.Proj

namespace Cert.Reference6Ideal.RVal

open Idealize.ShloMosaic Idealize.ShloMosaic.StableHlo Idealize.ShloMosaic.TcCoe Cert.Lift Cert.Math Cert.Proj Cert.Reference6Ideal Cert.Reference6Ideal.Gen
open Cert.ReferenceIdeal.Ops
open Cert.ReferenceIdeal.RVal (c_1024 c_eps6 c_eps5 c_one c_half c_gk c_gc)
open Cert.Reference6Ideal.Value

/-- The arguments. -/
structure Args where
  x : FVec Ideal S2048x1024 .f32
  ctx : FVec Ideal S256x1024 .f32
  mx : FVec Ideal S1x3072 .f32
  mc : FVec Ideal S1x3072 .f32
  ng : FVec Ideal S1x1024 .f32
  w : FVec Ideal S1024x5120 .f32
  lg : FVec Ideal S1x1024 .f32
  lb : FVec Ideal S1x1024 .f32
  sw : FVec Ideal S8x128x128 .f32
  sb : FVec Ideal S8x128 .f32

/-- The arguments that hold the real numbers of `d`. -/
def lay (d : Data) : Args := ⟨L2 d.x, L2 d.ctx, L2 d.mx, L2 d.mc, L2 d.ng, L2 d.w, L2 d.lg, L2 d.lb, L3 d.sw, L2 d.sb⟩

abbrev T : Type := FVec Ideal S2048x1024 .f32
/-- A constant in every entry. -/
abbrev k2 (w : BitVec 32) : T := broadcastInDim S2048x1024 ![] bcast_S_S2048x1024 (constant S_ .f32 w)
/-- The mean of every row. -/
abbrev mean2 (v : T) : FVec Ideal S2048x1 .f32 := Host.divf (broadcastInDim S2048x1 ![0] bcast_S2048_S2048x1_0 (Host.reduceAdd v (constant S_ .f32 0x00000000#32) reducesTo_S2048x1024_S2048_d1 h_S_)) (broadcastInDim S2048x1 ![] bcast_S_S2048x1 (constant S_ .f32 0x44800000#32))
/-- A column, or a row, repeated. -/
abbrev bcol (v : FVec Ideal S2048x1 .f32) : T := broadcastInDim S2048x1024 ![0, 1] bcast_S2048x1_S2048x1024_0_1 v
abbrev brow (v : FVec Ideal S1x1024 .f32) : T := broadcastInDim S2048x1024 ![0, 1] bcast_S1x1024_S2048x1024_0_1 v
/-- One more than the scale. -/
abbrev scl (v : FVec Ideal S1x3072 .f32) : FVec Ideal S1x1024 .f32 := addf (broadcastInDim S1x1024 ![] bcast_S_S1x1024 (constant S_ .f32 0x3F800000#32)) (extractStridedSlice S1x1024 ![0, 1024] v slices_S1x3072_S1x1024_0_1024)
/-- The GELU. -/
def qg (v : T) : T := mulf v (mulf (k2 0x3F000000#32) (addf (k2 0x3F800000#32) (Host.tanh (mulf (k2 0x3F4C422A#32) (addf v (mulf (k2 0x3D372713#32) (mulf (mulf v v) v)))))))

variable (A : Args)
def q_rx : FVec Ideal S2048x1 .f32 := Host.rsqrt (addf (mean2 (mulf A.x A.x)) (broadcastInDim S2048x1 ![] bcast_S_S2048x1 (constant S_ .f32 0x358637BD#32)))
def q_hx : T := addf (mulf (mulf (mulf A.x (bcol (q_rx A))) (brow A.ng)) (brow (scl A.mx))) (brow (extractStridedSlice S1x1024 ![0, 0] A.mx slices_S1x3072_S1x1024_0_0))
def q_rc : FVec Ideal S256x1 .f32 := Host.rsqrt (addf (Host.divf (broadcastInDim S256x1 ![0] bcast_S256_S256x1_0 (Host.reduceAdd (mulf A.ctx A.ctx) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))
def q_hc : FVec Ideal S256x1024 .f32 := addf (mulf (mulf (mulf A.ctx (broadcastInDim S256x1024 ![0, 1] bcast_S256x1_S256x1024_0_1 (q_rc A))) (broadcastInDim S256x1024 ![0, 1] bcast_S1x1024_S256x1024_0_1 A.ng)) (broadcastInDim S256x1024 ![0, 1] bcast_S1x1024_S256x1024_0_1 (scl A.mc))) (broadcastInDim S256x1024 ![0, 1] bcast_S1x1024_S256x1024_0_1 (extractStridedSlice S1x1024 ![0, 0] A.mc slices_S1x3072_S1x1024_0_0))
def q_z : FVec Ideal S2048x5120 .f32 := Host.dotGeneral (φ₁ := .f32) (φ₂ := .f32) dot_S2048x1024_S1024x5120_S2048x5120_1_0_0_1_n_n none (q_hx A) A.w
def q_u : T := extractStridedSlice S2048x1024 ![0, 2048] (q_z A) slices_S2048x5120_S2048x1024_0_2048
def q_v : T := extractStridedSlice S2048x1024 ![0, 3072] (q_z A) slices_S2048x5120_S2048x1024_0_3072
def q_hn : FVec Ideal S2304x1024 .bf16 := truncf .bf16 (concatenate S2304x1024 0 [⟨S256x1024, q_hc A⟩, ⟨S2048x1024, q_hx A⟩] concatenates_S256x1024_S2048x1024_S2304x1024_d0 : FVec Ideal S2304x1024 .f32) bitsLt_bf16_f32
def q_c : FVec Ideal S256x1024 .f32 := Host.dotGeneral (φ₁ := .f32) (φ₂ := .f32) dot_S256x1024_S1024x1024_S256x1024_1_0_0_1_n_n none (q_hc A) (extractStridedSlice S1024x1024 ![0, 0] A.w slices_S1024x5120_S1024x1024_0_0)
def q_xa : FVec Ideal S2304x1024 .f32 := concatenate S2304x1024 0 [⟨S256x1024, q_c A⟩, ⟨S2048x1024, extractStridedSlice S2048x1024 ![0, 0] (q_z A) slices_S2048x5120_S2048x1024_0_0⟩] concatenates_S256x1024_S2048x1024_S2304x1024_d0
def q_ga : T := extractStridedSlice S2048x1024 ![0, 1024] (q_z A) slices_S2048x5120_S2048x1024_0_1024
def q_gb : T := extractStridedSlice S2048x1024 ![0, 4096] (q_z A) slices_S2048x5120_S2048x1024_0_4096
def q_vc : T := subf (qg (q_v A)) (bcol (mean2 (qg (q_v A))))
def q_rs : FVec Ideal S2048x1 .f32 := Host.rsqrt (addf (mean2 (mulf (q_vc A) (q_vc A))) (broadcastInDim S2048x1 ![] bcast_S_S2048x1 (constant S_ .f32 0x3727C5AC#32)))
def q_vn : T := addf (mulf (mulf (q_vc A) (bcol (q_rs A))) (brow A.lg)) (brow A.lb)
def q_mx : FVec Ideal S16x128x8x128 .f32 := addf (transpose S16x128x8x128 [1, 3, 0, 2] (Host.dotGeneral (φ₁ := .f32) (φ₂ := .f32) dot_S16x128x8x128_S8x128x128_S8x16x128x128_1_2_03_1_2_0 none (shapeCast S16x128x8x128 (q_vn A) shapeCasts_S2048x1024_S16x128x8x128) A.sw : FVec Ideal S8x16x128x128 .f32) transposes_S8x16x128x128_S16x128x8x128_1_3_0_2) (broadcastInDim S16x128x8x128 ![0, 1, 2, 3] bcast_S1x128x8x1_S16x128x8x128_0_1_2_3 (broadcastInDim S1x128x8x1 ![1, 2] bcast_S128x8_S1x128x8x1_1_2 (transpose S128x8 [1, 0] A.sb transposes_S8x128_S128x8_1_0)))
def q_ys : T := mulf (qg (q_u A)) (shapeCast S2048x1024 (q_mx A) shapeCasts_S16x128x8x128_S2048x1024)

/-! ### Their real numbers -/

theorem cat (f : Fin 256 → Row) (g : Fin 2048 → Row) (h) :
    concatenate S2304x1024 0 [⟨S256x1024, (L2 f : FVec Ideal _ .f32)⟩, ⟨S2048x1024, (L2 g : FVec Ideal _ .f32)⟩] h
      = (L2 fun a => if h : a.val < 256 then f ⟨a.val, h⟩ else g ⟨a.val - 256, by omega⟩ : FVec Ideal S2304x1024 .f32) := by
  funext i; idx_vars i
  by_cases h1 : i0.val < 256
  · pointwise [L0, L1, L2]; simp only [h1, dif_pos]
  · pointwise [L0, L1, L2]; simp only [h1, dif_neg, not_false_eq_true]
theorem sl (s : Fin 5) (f : Fin 2048 → Fin 5120 → ℝ) (h) :
    extractStridedSlice S2048x1024 ![0, 1024 * s.val] (L2 f : FVec Ideal _ .f32) h = L2 fun a b => f a ⟨1024 * s.val + b.val, by omega⟩ := by
  fin_cases s <;> (funext i; idx_vars i; pointwise [L0, L1, L2])
theorem dc (f : Fin 256 → Row) (g : Fin 1024 → Row) :
    Host.dotGeneral dot_S256x1024_S1024x1024_S256x1024_1_0_0_1_n_n none (L2 f : FVec Ideal _ .f32) (L2 g : FVec Ideal _ .f32) = (L2 fun a b => ∑ k, f a k * g k b : FVec Ideal _ .f32) := by
  funext i; idx_vars i; pointwise [L0, L1, L2, bits_zero]; simp only [coe_sum_mul, coe_sum, ← EReal.coe_add, zero_add]
theorem n1024 : (1024 : ℝ) ≠ 0 := by norm_num
theorem mean_L (f : Fin 2048 → Row) : mean2 (L2 f) = L2 fun a _ => (∑ k, f a k) / 1024 := by
  rw [mean2, ra_row2048, bc_v2048, c_1024, bc_s_S2048x1, L2_hostDiv _ _ fun _ _ => n1024]
theorem qg_L (f : Fin 2048 → Row) : qg (L2 f) = L2 fun a b => gelu (f a b) := by
  simp only [qg, k2, c_half, c_one, c_gk, c_gc, bc_s_S2048x1024, L2_mul, L2_add, L2_hostTanh]; rfl
theorem scl_L (f : Fin 1 → Fin 3072 → ℝ) : scl (L2 f) = L2 fun _ b => 1 + f 0 ⟨1024 + b.val, by omega⟩ := by
  rw [scl, c_one, bc_s_S1x1024, sl_b, L2_add]

variable (d : Data)
theorem rx_L : q_rx (lay d) = L2 fun a _ => rr (d.x a) := by
  rw [q_rx]; dsimp only [lay]
  rw [L2_mul, mean_L, c_eps6, bc_s_S2048x1, L2_add]; exact L2_hostRsqrt (fun a _ => ms (d.x a)) fun _ _ => ms_pos _
theorem hx_L : q_hx (lay d) = L2 (hx d) := by
  rw [q_hx, rx_L]; dsimp only [lay]
  rw [bcol, brow, brow, brow, bc_c2048, bc_r2048, scl_L, sl_a, bc_r2048, bc_r2048, L2_mul, L2_mul, L2_mul, L2_add]; rfl
theorem rc_L : q_rc (lay d) = L2 fun a _ => rr (d.ctx a) := by
  rw [q_rc]; dsimp only [lay]
  rw [L2_mul, ra_row256, bc_v256, c_1024, c_eps6, bc_s_S256x1, bc_s_S256x1, L2_hostDiv _ _ fun _ _ => n1024, L2_add]; exact L2_hostRsqrt (fun a _ => ms (d.ctx a)) fun _ _ => ms_pos _
theorem hc_L : q_hc (lay d) = L2 (hc d) := by
  rw [q_hc, rc_L]; dsimp only [lay]
  rw [bc_c256, bc_r256, scl_L, sl_a, bc_r256, bc_r256, L2_mul, L2_mul, L2_mul, L2_add]; rfl
theorem z_L : q_z (lay d) = L2 d.z := by
  rw [q_z, hx_L]; exact dg_z _ _
theorem u_L : q_u (lay d) = L2 (zc d 2) := by rw [q_u, z_L]; exact sl 2 _ _
theorem v_L : q_v (lay d) = L2 (zc d 3) := by rw [q_v, z_L]; exact sl 3 _ _
theorem ga_L : q_ga (lay d) = L2 (zc d 1) := by rw [q_ga, z_L]; exact sl 1 _ _
theorem gb_L : q_gb (lay d) = L2 (zc d 4) := by rw [q_gb, z_L]; exact sl 4 _ _
theorem hn_L : q_hn (lay d) = L2 (hn d) := by rw [q_hn, hc_L, hx_L, cat]; rfl
theorem xa_L : q_xa (lay d) = L2 (xa d) := by
  have e : q_c (lay d) = L2 fun a b => ∑ k, hc d a k * d.w k ⟨b.val, by omega⟩ := by
    rw [q_c, hc_L]; dsimp only [lay]; rw [sl_w]; exact dc _ _
  have e' : extractStridedSlice S2048x1024 ![0, 0] (L2 d.z : FVec Ideal _ .f32) slices_S2048x5120_S2048x1024_0_0 = L2 fun a b => d.z a ⟨b.val, by omega⟩ := by
    funext i; idx_vars i; pointwise [L0, L1, L2]
  rw [q_xa, e, z_L, e', cat]
  refine congrArg L2 (funext fun a => funext fun b => ?_)
  unfold xa hn
  by_cases h : a.val < 256
  · simp only [dif_pos h]
  · simp only [dif_neg h]; rfl
theorem vc_L : q_vc (lay d) = L2 fun a => vc (zc d 3 a) := by
  rw [q_vc, v_L, qg_L, mean_L, bcol, bc_c2048, L2_sub]; rfl
theorem vn_L : q_vn (lay d) = L2 fun a b => vh (zc d 3 a) b * d.lg 0 b + d.lb 0 b := by
  have e : q_rs (lay d) = L2 fun a _ => rs (zc d 3 a) := by
    rw [q_rs, vc_L, L2_mul, mean_L, c_eps5, bc_s_S2048x1, L2_add]; exact L2_hostRsqrt (fun a _ => var (zc d 3 a)) fun _ _ => var_pos _
  rw [q_vn, vc_L, e]; dsimp only [lay]
  rw [bcol, brow, brow, bc_c2048, bc_r2048, bc_r2048, L2_mul, L2_mul, L2_add]; rfl
theorem mx_L : q_mx (lay d) = L4 fun n p a c => cmix d.lg d.lb d.sw d.sb (Data.part (zc d 3) n) p (col a c) := by
  rw [q_mx, vn_L]; dsimp only [lay]
  rw [sc_split, tr_b, bc_b1, bc_b2]
  have e := dg_m (fun n p a c => vh (zc d 3 (row n p)) (col a c) * d.lg 0 (col a c) + d.lb 0 (col a c)) d.sw
  refine (congrArg (fun v : FVec Ideal S8x16x128x128 .f32 => addf (transpose S16x128x8x128 [1, 3, 0, 2] v transposes_S8x16x128x128_S16x128x8x128_1_3_0_2) _) e).trans ?_
  rw [tr_m, L4_add]
  refine congrArg L4 (funext fun n => funext fun p => funext fun a => funext fun c => ?_)
  simp only [cmix, grp_col]
  exact congrArg (· + d.sb a p) (Finset.sum_congr rfl fun q _ => mul_comm _ _)
theorem ys_L : q_ys (lay d) = L2 (ys d) := by
  rw [q_ys, u_L, qg_L, mx_L, sc_merge, L2_mul]
  simp only [col_grp]; rfl

/-! ### The results -/

/-- The reference's argument arrays. -/
def at_ (m : (ℓ : Loc nD τ sig) → Buf (Elt Ideal) ℓ) (c : Dev nD) : Args :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9)⟩

/-- A result that is `q` of the arguments holds the real numbers that `q` gives. -/
theorem via {α : Type} (q : Args → α) {v r : α} {m : (ℓ : Loc nD τ sig) → Buf (Elt Ideal) ℓ} {c : Dev nD} {d : Data}
    (H : at_ m c = lay d) (e : v = q (at_ m c)) (hL : q (lay d) = r) : v = r := e.trans ((congrArg q H).trans hL)

/-- The reference's results on the real numbers of `d`. -/
theorem post (m : (ℓ : Loc nD τ sig) → Buf (Elt Ideal) ℓ) (ρ : Dev nD → PrngReg) (d : Dev nD → Data) (H : ∀ c, at_ m c = lay (d c)) :
    θ_run (Cert.Reference6Ideal.defs (F := Ideal)) (onTc (τ := τ) (main (F := Ideal))) ⟨m, fun _ => 0, ρ⟩ fun r => ∀ c : Dev nD,
      r.2.mem ((c.tc : Thread nD τ).loc main_v46) = (L2 (hn (d c)) : FVec Ideal S2304x1024 .bf16)
      ∧ r.2.mem ((c.tc : Thread nD τ).loc main_v50) = (L2 (xa (d c)) : FVec Ideal S2304x1024 .f32)
      ∧ r.2.mem ((c.tc : Thread nD τ).loc main_v51) = (L2 (zc (d c) 1) : T)
      ∧ r.2.mem ((c.tc : Thread nD τ).loc main_v43) = (L2 (zc (d c) 2) : T)
      ∧ r.2.mem ((c.tc : Thread nD τ).loc main_v44) = (L2 (zc (d c) 3) : T)
      ∧ r.2.mem ((c.tc : Thread nD τ).loc main_v52) = (L2 (zc (d c) 4) : T)
      ∧ r.2.mem ((c.tc : Thread nD τ).loc main_v109) = (L2 (ys (d c)) : T) :=
  (θ_run _ _ _).mono (fun _ h c => ⟨via q_hn (H c) ((h c).1.trans rfl) (hn_L _), via q_xa (H c) ((h c).2.1.trans rfl) (xa_L _),
    via q_ga (H c) ((h c).2.2.1.trans rfl) (ga_L _), via q_u (H c) ((h c).2.2.2.1.trans rfl) (u_L _),
    via q_v (H c) ((h c).2.2.2.2.1.trans rfl) (v_L _), via q_gb (H c) ((h c).2.2.2.2.2.1.trans rfl) (gb_L _),
    via q_ys (H c) ((h c).2.2.2.2.2.2.1.trans rfl) (ys_L _)⟩) (Value.run m ρ)

end Cert.Reference6Ideal.RVal
-- ==== Proof.P6Val.lean ====
module

public import proofs.«01_k».proof.Proof.P6Out
public import proofs.«01_k».proof.Proof.P6Ref
public import proofs.«01_k».proof.Proof.KHost
public import proofs.«01_k».proof.Proof.Gen.Kernel6Ideal.Value
public import Idealize.ShloMosaic.Lib.Pipeline.ValueKit

/-! What the sixth call reads at a grid point, on real arguments. -/

@[expose] public section

set_option maxRecDepth 16384

noncomputable section

namespace Cert.Kernel6Ideal.Val

open Idealize.ShloMosaic Idealize.ShloMosaic.TcCoe Idealize.ShloMosaic.Tactic Cert.Lift Cert.Math Cert.Proj Cert.Kernel6Ideal Cert.Kernel6Ideal.Gen
open Cert.KernelIdeal.Val (half cat_mods tr_sb)

/-- The kernel's argument arrays hold the real numbers of `d`. -/
structure HoldsK (m : (ℓ : Loc nD τ sig) → Buf (Elt Ideal) ℓ) (c : Dev nD) (d : Data) : Prop where
  h0 : m ((c : Thread nD τ).loc main_arg0) = (L2 d.x : FVec Ideal S2048x1024 .f32)
  h1 : m ((c : Thread nD τ).loc main_arg1) = (L2 d.ctx : FVec Ideal S256x1024 .f32)
  h2 : m ((c : Thread nD τ).loc main_arg2) = (L2 d.mx : FVec Ideal S1x3072 .f32)
  h3 : m ((c : Thread nD τ).loc main_arg3) = (L2 d.mc : FVec Ideal S1x3072 .f32)
  h4 : m ((c : Thread nD τ).loc main_arg4) = (L2 d.ng : FVec Ideal S1x1024 .f32)
  h5 : m ((c : Thread nD τ).loc main_arg5) = (L2 d.w : FVec Ideal S1024x5120 .f32)
  h6 : m ((c : Thread nD τ).loc main_arg6) = (L2 d.lg : FVec Ideal S1x1024 .f32)
  h7 : m ((c : Thread nD τ).loc main_arg7) = (L2 d.lb : FVec Ideal S1x1024 .f32)
  h8 : m ((c : Thread nD τ).loc main_arg8) = (L3 d.sw : FVec Ideal S8x128x128 .f32)
  h9 : m ((c : Thread nD τ).loc main_arg9) = (L2 d.sb : FVec Ideal S8x128 .f32)

theorem idx0 : ∀ t : Fin cfg0.N, win0_0.index t = ![t.val - 1, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 1] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 1] := (by decide +kernel : ∀ t : Fin grid0.N, _)
theorem idx7 : ∀ t : Fin cfg0.N, win0_7.index t = ![0, 2] := (by decide +kernel : ∀ t : Fin grid0.N, _)
theorem idx8 : ∀ t : Fin cfg0.N, win0_8.index t = ![0, 3] := (by decide +kernel : ∀ t : Fin grid0.N, _)
theorem idx9 : ∀ t : Fin cfg0.N, win0_9.index t = ![0, 4] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![t.val, 0] := (by decide +kernel : ∀ t : Fin grid0.N, _)
theorem idx15 : ∀ t : Fin cfg0.N, win0_15.index t = ![t.val, 0] := (by decide +kernel : ∀ t : Fin grid0.N, _)
theorem idx16 : ∀ t : Fin cfg0.N, win0_16.index t = ![t.val - 1, 0] := (by decide +kernel : ∀ t : Fin grid0.N, _)
theorem idx17 : ∀ t : Fin cfg0.N, win0_17.index t = ![t.val - 1, 0] := (by decide +kernel : ∀ t : Fin grid0.N, _)
theorem idx18 : ∀ t : Fin cfg0.N, win0_18.index t = ![t.val - 1, 0] := (by decide +kernel : ∀ t : Fin grid0.N, _)
theorem idx19 : ∀ t : Fin cfg0.N, win0_19.index t = ![t.val - 1, 0] := (by decide +kernel : ∀ t : Fin grid0.N, _)
theorem idx20 : ∀ t : Fin cfg0.N, win0_20.index t = ![t.val - 1, 0] := (by decide +kernel : ∀ t : Fin grid0.N, _)
theorem c0 : ∀ t : Fin cfg0.N, (grid0.coords t 0).val = t.val := (by decide +kernel : ∀ t : Fin grid0.N, _)
theorem lt9 (t : Fin cfg0.N) : t.val < 9 := t.isLt

/-- Row `a` of the block of `x` that a point reads, and of its block among both arrays' rows. -/
def xrow (t : Fin cfg0.N) (a : Fin 256) : Fin 2048 := ⟨256 * (t.val - 1) + a.val, by have := lt9 t; omega⟩
def hrow (t : Fin cfg0.N) (a : Fin 256) : Fin 2304 := ⟨256 * t.val + a.val, by have := lt9 t; omega⟩
/-- The table of modulations. -/
def md (d : Data) (q : Fin 8) (j : Fin 3072) : ℝ := if q.val = 0 then d.mx 0 j else if q.val = 1 then d.mc 0 j else 0
/-- The `s`-th 1024 columns of the weights. -/
def wc (d : Data) (s : Fin 5) (a b : Fin 1024) : ℝ := d.w a ⟨1024 * s.val + b.val, by omega⟩

variable {m : (ℓ : Loc nD τ sig) → Buf (Elt Ideal) ℓ} {c : Dev nD} {d : Data} (H : HoldsK m c d)
include H

theorem host_w : V m c main_v2 = (L2 d.w : FVec Ideal S1024x5120 .bf16) := by
  entry_read; rw [H.h5]; rfl
theorem host_sw : V m c main_v3 = (L3 d.sw : FVec Ideal S8x128x128 .bf16) := by
  entry_read; rw [H.h8]; rfl
theorem host_sb : V m c main_v4 = (L2 (fun p g => d.sb g p) : FVec Ideal S128x8 .f32) := by
  entry_read; rw [H.h9]; exact tr_sb _ _
set_option maxHeartbeats 4000000 in
theorem host_mods : V m c main_v1 = (L2 (md d) : FVec Ideal S8x3072 .f32) := by
  have e : V m c main_v1 = concatenate S8x3072 0 [⟨S1x3072, (m ((c : Thread nD τ).loc main_arg2) : FVec Ideal _ .f32)⟩, ⟨S1x3072, (m ((c : Thread nD τ).loc main_arg3) : FVec Ideal _ .f32)⟩,
      ⟨S6x3072, (broadcastInDim S6x3072 ![] bcast_S_S6x3072 (constant S_ .f32 0x00000000#32 : FVec Ideal _ .f32) : FVec Ideal _ .f32)⟩] concatenates_S1x3072_S1x3072_S6x3072_S8x3072_d0 := by
    sl_kernel_rfl
  rw [e, H.h2, H.h3]; exact cat_mods _ _ _ _

variable (t : Fin cfg0.N)
theorem hblk0 : iblk m c 0 t = L2 (e := .f32) fun a => d.x (xrow t a) := by
  funext j
  refine (congrFun ((V_main_arg0 m c).trans H.h0) (((cfg0.win 0).blk t).view.emb j)).trans (congrArg Real.toEReal (congrArg₂ d.x (Fin.ext ?_) (Fin.ext ?_))) <;> (blk_simp [idx0 t, xrow] <;> try (dsimp only; omega))
theorem hblk1 : iblk m c 1 t = L2 (e := .f32) d.ctx := by
  funext j
  refine (congrFun ((V_main_arg1 m c).trans H.h1) (((cfg0.win 1).blk t).view.emb j)).trans (congrArg Real.toEReal (congrArg₂ d.ctx (Fin.ext ?_) (Fin.ext ?_))) <;> (blk_simp [idx1 t] <;> try (dsimp only; omega))
theorem hblk2 : iblk m c 2 t = L2 (e := .f32) fun q (b : Fin 1024) => md d q ⟨b.val, by omega⟩ := by
  funext j
  refine (congrFun (host_mods H) (((cfg0.win 2).blk t).view.emb j)).trans (congrArg Real.toEReal (congrArg₂ (md d) (Fin.ext ?_) (Fin.ext ?_))) <;> (blk_simp [idx2 t] <;> try (dsimp only; omega))
theorem hblk3 : iblk m c 3 t = L2 (e := .f32) fun q (b : Fin 1024) => md d q ⟨1024 + b.val, by omega⟩ := by
  funext j
  refine (congrFun (host_mods H) (((cfg0.win 3).blk t).view.emb j)).trans (congrArg Real.toEReal (congrArg₂ (md d) (Fin.ext ?_) (Fin.ext ?_))) <;> (blk_simp [idx3 t] <;> try (dsimp only; omega))
theorem hblk4 : iblk m c 4 t = L2 (e := .f32) d.ng := by
  funext j
  refine (congrFun ((V_main_arg4 m c).trans H.h4) (((cfg0.win 4).blk t).view.emb j)).trans (congrArg Real.toEReal (congrArg₂ d.ng (Fin.ext ?_) (Fin.ext ?_))) <;> (blk_simp [idx4 t] <;> try (dsimp only; omega))
theorem hblk5 : iblk m c 5 t = L2 (e := .bf16) (wc d 0) := by
  funext j
  refine (congrFun (host_w H) (((cfg0.win 5).blk t).view.emb j)).trans (congrArg Real.toEReal (congrArg₂ d.w (Fin.ext ?_) (Fin.ext ?_))) <;> (blk_simp [idx5 t] <;> try (dsimp only; omega))
theorem hblk6 : iblk m c 6 t = L2 (e := .bf16) (wc d 1) := by
  funext j
  refine (congrFun (host_w H) (((cfg0.win 6).blk t).view.emb j)).trans (congrArg Real.toEReal (congrArg₂ d.w (Fin.ext ?_) (Fin.ext ?_))) <;> (blk_simp [idx6 t] <;> try (dsimp only; omega))
theorem hblk7 : iblk m c 7 t = L2 (e := .bf16) (wc d 2) := by
  funext j
  refine (congrFun (host_w H) (((cfg0.win 7).blk t).view.emb j)).trans (congrArg Real.toEReal (congrArg₂ d.w (Fin.ext ?_) (Fin.ext ?_))) <;> (blk_simp [idx7 t] <;> try (dsimp only; omega))
theorem hblk8 : iblk m c 8 t = L2 (e := .bf16) (wc d 3) := by
  funext j
  refine (congrFun (host_w H) (((cfg0.win 8).blk t).view.emb j)).trans (congrArg Real.toEReal (congrArg₂ d.w (Fin.ext ?_) (Fin.ext ?_))) <;> (blk_simp [idx8 t] <;> try (dsimp only; omega))
theorem hblk9 : iblk m c 9 t = L2 (e := .bf16) (wc d 4) := by
  funext j
  refine (congrFun (host_w H) (((cfg0.win 9).blk t).view.emb j)).trans (congrArg Real.toEReal (congrArg₂ d.w (Fin.ext ?_) (Fin.ext ?_))) <;> (blk_simp [idx9 t] <;> try (dsimp only; omega))
theorem hblk10 : iblk m c 10 t = L2 (e := .f32) d.lg := by
  funext j
  refine (congrFun ((V_main_arg6 m c).trans H.h6) (((cfg0.win 10).blk t).view.emb j)).trans (congrArg Real.toEReal (congrArg₂ d.lg (Fin.ext ?_) (Fin.ext ?_))) <;> (blk_simp [idx10 t] <;> try (dsimp only; omega))
theorem hblk11 : iblk m c 11 t = L2 (e := .f32) d.lb := by
  funext j
  refine (congrFun ((V_main_arg7 m c).trans H.h7) (((cfg0.win 11).blk t).view.emb j)).trans (congrArg Real.toEReal (congrArg₂ d.lb (Fin.ext ?_) (Fin.ext ?_))) <;> (blk_simp [idx11 t] <;> try (dsimp only; omega))
theorem hblk12 : iblk m c 12 t = L3 (e := .bf16) d.sw := by
  funext j
  refine (congrFun (host_sw H) (((cfg0.win 12).blk t).view.emb j)).trans (congrArg Real.toEReal (congr (congrArg₂ d.sw (Fin.ext ?_) (Fin.ext ?_)) (Fin.ext ?_))) <;> (blk_simp [idx12 t] <;> try (dsimp only; omega))
theorem hblk13 : iblk m c 13 t = L2 (e := .f32) fun p g => d.sb g p := by
  funext j
  refine (congrFun (host_sb H) (((cfg0.win 13).blk t).view.emb j)).trans (congrArg Real.toEReal (congrArg₂ (fun p g => d.sb g p) (Fin.ext ?_) (Fin.ext ?_))) <;> (blk_simp [idx13 t] <;> try (dsimp only; omega))

end Cert.Kernel6Ideal.Val
-- ==== Proof.P6Row.lean ====
module

public import proofs.«01_k».proof.Proof.P6Val

/-! The rows of a block of the sixth call among the rows of the arrays. -/

@[expose] public section

set_option maxRecDepth 16384

noncomputable section

namespace Cert.Kernel6Ideal.Val

open Idealize.ShloMosaic Idealize.ShloMosaic.TcCoe Idealize.ShloMosaic.Tactic Cert.Lift Cert.Math Cert.Proj Cert.Kernel6Ideal Cert.Kernel6Ideal.Gen
open Cert.KernelIdeal.Val (half)

variable {m : (ℓ : Loc nD τ sig) → Buf (Elt Ideal) ℓ} {c : Dev nD} {d : Data} (t : Fin cfg0.N)

theorem hx_row (h : 1 ≤ t.val) (a : Fin 256) : mrow (d.ng 0) (fun b => md d 0 ⟨1024 + b.val, by omega⟩) (fun b => md d 0 ⟨b.val, by omega⟩) (d.x (xrow t a)) = hn d (hrow t a) := by
  have e : ¬ (hrow t a).val < 256 := by simp only [hrow]; omega
  unfold hn; rw [dif_neg e]
  have e' : (⟨(hrow t a).val - 256, by have := (hrow t a).isLt; omega⟩ : Fin 2048) = xrow t a := Fin.ext (by simp only [hrow, xrow]; omega)
  exact (congrArg (hx d) e').symm
theorem hc_row (h : ¬ 1 ≤ t.val) (a : Fin 256) : mrow (d.ng 0) (fun b => md d 1 ⟨1024 + b.val, by omega⟩) (fun b => md d 1 ⟨b.val, by omega⟩) (d.ctx a) = hn d (hrow t a) := by
  have e : (hrow t a).val < 256 := by simp only [hrow]; omega
  unfold hn; rw [dif_pos e]
  have e' : (⟨(hrow t a).val, e⟩ : Fin 256) = a := Fin.ext (by simp only [hrow]; omega)
  exact (congrArg (hc d) e').symm
theorem zc_row (s : Fin 5) (h : 1 ≤ t.val) : pr (fun a => hn d (hrow t a)) (wc d s) = fun a => zc d s (xrow t a) :=
  (congrArg (fun f => pr f (wc d s)) (funext fun a => (hx_row t h a).symm)).trans rfl
theorem xa_row : pr (fun a => hn d (hrow t a)) (wc d 0) = fun a => xa d (hrow t a) := by
  funext a b
  refine Finset.sum_congr rfl fun k _ => congrArg (fun j => hn d (hrow t a) k * d.w k j) (Fin.ext ?_)
  show 1024 * 0 + b.val = b.val; omega
theorem ys_row : gated d.sw (fun p g => d.sb g p) d.lg d.lb (fun a => zc d 2 (xrow t a)) (fun a => zc d 3 (xrow t a)) = fun a => ys d (xrow t a) := by
  funext a j
  unfold gated ys
  have e : hp a = pos (xrow t a) := Fin.ext (by simp only [hp, pos, xrow]; omega)
  have e' : (fun q => zc d 3 (xrow t (half (hk a) q))) = Data.part (zc d 3) (chk (xrow t a)) := by
    funext q
    exact congrArg (zc d 3) (Fin.ext (by simp only [hk, half, chk, row, xrow]; omega))
  rw [e, e']
theorem one_row (f : Fin 1 → Row) : (L2 (fun _ => f 0) : FVec Ideal S1x1024 .f32) = L2 f :=
  congrArg L2 (funext fun q => congrArg f (Subsingleton.elim _ _))

end Cert.Kernel6Ideal.Val
-- ==== Proof.P6Arr.lean ====
module

public import proofs.«01_k».proof.Proof.P6Row

/-! What the sixth call leaves at a grid point and in its result arrays, on real arguments. -/

@[expose] public section

set_option maxRecDepth 16384

noncomputable section

namespace Cert.Kernel6Ideal.Val

open Idealize.ShloMosaic Idealize.ShloMosaic.TcCoe Idealize.ShloMosaic.Tactic Cert.Lift Cert.Math Cert.Proj Cert.Kernel6Ideal Cert.Kernel6Ideal.Gen
open Cert.KernelIdeal.Val (half)

/-- The later results are written back only once the rows of `x` have begun. -/
theorem flush16 : ∀ t : Fin cfg0.N, (cfg0.win 16).flush t = true → 1 ≤ t.val := (by decide +kernel : ∀ t : Fin grid0.N, _)
theorem flush17 : ∀ t : Fin cfg0.N, (cfg0.win 17).flush t = true → 1 ≤ t.val := (by decide +kernel : ∀ t : Fin grid0.N, _)
theorem flush18 : ∀ t : Fin cfg0.N, (cfg0.win 18).flush t = true → 1 ≤ t.val := (by decide +kernel : ∀ t : Fin grid0.N, _)
theorem flush19 : ∀ t : Fin cfg0.N, (cfg0.win 19).flush t = true → 1 ≤ t.val := (by decide +kernel : ∀ t : Fin grid0.N, _)
theorem flush20 : ∀ t : Fin cfg0.N, (cfg0.win 20).flush t = true → 1 ≤ t.val := (by decide +kernel : ∀ t : Fin grid0.N, _)

variable {m : (ℓ : Loc nD τ sig) → Buf (Elt Ideal) ℓ} {c : Dev nD} {d : Data} (t : Fin cfg0.N) (H : HoldsK m c d)
include H

set_option maxHeartbeats 4000000 in
theorem pointA (h : ¬ 1 ≤ t.val) : (outsAt0 m c t.val t.isLt).1 = (L2 fun a => hn d (hrow t a) : FVec Ideal S256x1024 .bf16)
    ∧ (outsAt0 m c t.val t.isLt).2.1 = (L2 fun a => xa d (hrow t a) : FVec Ideal S256x1024 .f32) := by
  rw [outsAt0_A m c t h, hblk0 H t, hblk1 H t, hblk2 H t, hblk3 H t, hblk4 H t, hblk5 H t]
  have hb := fun m1 m2 h1 h2 m3 m4 h3 h4 m5 h5 => (hbT_c (grid0.coords t) m1 m2 h1 h2 m3 m4 h3 h4 m5 h5 (fun a => d.x (xrow t a)) d.ctx
    (fun q (b : Fin 1024) => md d q ⟨b.val, by omega⟩) (fun q (b : Fin 1024) => md d q ⟨1024 + b.val, by omega⟩) d.ng (by rw [c0 t]; omega)).trans
    (congrArg L2 (funext fun a => hc_row t h a))
  dsimp only
  refine ⟨(View.read_writes_junk_eq_canon _ _).trans ?_, (View.read_writes_junk_eq_canon _ _).trans ?_⟩
  · exact Cert.Kernel2Ideal.Val.block_whole16 _ [] _ (hb _ _ _ _ _ _ _ _ _ _)
  · exact Cert.Kernel2Ideal.Val.block_whole _ [] _ ((prod_L _ _ _ _ _ (hb _ _ _ _ _ _ _ _ _ _)).trans (congrArg L2 (xa_row t)))

set_option maxHeartbeats 8000000 in
theorem pointB (h : 1 ≤ t.val) : outsAt0 m c t.val t.isLt = ((L2 fun a => hn d (hrow t a) : FVec Ideal S256x1024 .bf16), (L2 fun a => xa d (hrow t a) : FVec Ideal S256x1024 .f32),
    (L2 fun a => zc d 1 (xrow t a) : FVec Ideal S256x1024 .f32), (L2 fun a => zc d 2 (xrow t a) : FVec Ideal S256x1024 .f32), (L2 fun a => zc d 3 (xrow t a) : FVec Ideal S256x1024 .f32),
    (L2 fun a => zc d 4 (xrow t a) : FVec Ideal S256x1024 .f32), (L2 fun a => ys d (xrow t a) : FVec Ideal S256x1024 .f32)) := by
  rw [outsAt0_B m c t h, hblk0 H t, hblk1 H t, hblk2 H t, hblk3 H t, hblk4 H t, hblk5 H t, hblk6 H t, hblk7 H t, hblk8 H t, hblk9 H t, hblk10 H t, hblk11 H t, hblk12 H t, hblk13 H t]
  have hb := fun m1 m2 h1 h2 m3 m4 h3 h4 m5 h5 => (hbT_x (grid0.coords t) m1 m2 h1 h2 m3 m4 h3 h4 m5 h5 (fun a => d.x (xrow t a)) d.ctx
    (fun q (b : Fin 1024) => md d q ⟨b.val, by omega⟩) (fun q (b : Fin 1024) => md d q ⟨1024 + b.val, by omega⟩) d.ng (by rw [c0 t]; omega)).trans
    (congrArg L2 (funext fun a => hx_row t h a))
  refine congrArg₂ Prod.mk ((View.read_writes_junk_eq_canon _ _).trans ?_) (congrArg₂ Prod.mk ((View.read_writes_junk_eq_canon _ _).trans ?_)
    (congrArg₂ Prod.mk ((View.read_writes_junk_eq_canon _ _).trans ?_) (congrArg₂ Prod.mk ((View.read_writes_junk_eq_canon _ _).trans ?_)
    (congrArg₂ Prod.mk ((View.read_writes_junk_eq_canon _ _).trans ?_) (congrArg₂ Prod.mk ((View.read_writes_junk_eq_canon _ _).trans ?_)
    ((View.read_writes_junk_eq_canon _ _).trans ?_))))))
  · exact Cert.Kernel2Ideal.Val.block_whole16 _ [] _ (hb _ _ _ _ _ _ _ _ _ _)
  · exact Cert.Kernel2Ideal.Val.block_whole _ [] _ ((prod_L _ _ _ _ _ (hb _ _ _ _ _ _ _ _ _ _)).trans (congrArg L2 (xa_row t)))
  · exact Cert.Kernel2Ideal.Val.block_whole _ [] _ ((prod_L _ _ _ _ _ (hb _ _ _ _ _ _ _ _ _ _)).trans (congrArg L2 (zc_row t 1 h)))
  · exact Cert.Kernel2Ideal.Val.block_whole _ [] _ ((prod_L _ _ _ _ _ (hb _ _ _ _ _ _ _ _ _ _)).trans (congrArg L2 (zc_row t 2 h)))
  · exact Cert.Kernel2Ideal.Val.block_whole _ [] _ ((prod_L _ _ _ _ _ (hb _ _ _ _ _ _ _ _ _ _)).trans (congrArg L2 (zc_row t 3 h)))
  · exact Cert.Kernel2Ideal.Val.block_whole _ [] _ ((prod_L _ _ _ _ _ (hb _ _ _ _ _ _ _ _ _ _)).trans (congrArg L2 (zc_row t 4 h)))
  · refine Eq.trans ?_ (congrArg L2 (ys_row t))
    exact gated_L _ _ _ _ _ _ _ _ _ _ _ _ _ _ _ _ _ _ _ _ _ _ _ ((prod_L _ _ _ _ _ (hb _ _ _ _ _ _ _ _ _ _)).trans (congrArg L2 (zc_row t 2 h)))
      ((prod_L _ _ _ _ _ (hb _ _ _ _ _ _ _ _ _ _)).trans (congrArg L2 (zc_row t 3 h))) ((rd_1 _ _ _ _).trans (one_row d.lg)) ((rd_1 _ _ _ _).trans (one_row d.lb)) rfl rfl

/-! ### The result arrays -/

theorem point_n : (outsAt0 m c t.val t.isLt).1 = (L2 fun a => hn d (hrow t a) : FVec Ideal S256x1024 .bf16) := by
  by_cases h : 1 ≤ t.val
  · exact congrArg Prod.fst (pointB t H h)
  · exact (pointA t H h).1
theorem point_xa : (outsAt0 m c t.val t.isLt).2.1 = (L2 fun a => xa d (hrow t a) : FVec Ideal S256x1024 .f32) := by
  by_cases h : 1 ≤ t.val
  · exact congrArg (fun o => o.2.1) (pointB t H h)
  · exact (pointA t H h).2

theorem arr14 : (dats m 0 c).arrAt 14 cfg0.N = (L2 (hn d) : FVec Ideal S2304x1024 .bf16) := by
  refine (dats m 0 c).arrAt_eq_of_covers 14 _ (by decide +kernel) fun t hf y => ?_
  refine Eq.trans (congrFun ((after0_14 m c t).trans (point_n t H)) ((cfg0.win 14).xinj (cfg0.grid.coords t) y)) ?_
  refine congrArg Real.toEReal (congrArg₂ (hn d) (Fin.ext ?_) (Fin.ext ?_))
  all_goals (blk_simp [idx14 t, hrow] <;> try (dsimp only; omega))
theorem arr15 : (dats m 0 c).arrAt 15 cfg0.N = (L2 (xa d) : FVec Ideal S2304x1024 .f32) := by
  refine (dats m 0 c).arrAt_eq_of_covers 15 _ (by decide +kernel) fun t hf y => ?_
  refine Eq.trans (congrFun ((after0_15 m c t).trans (point_xa t H)) ((cfg0.win 15).xinj (cfg0.grid.coords t) y)) ?_
  refine congrArg Real.toEReal (congrArg₂ (xa d) (Fin.ext ?_) (Fin.ext ?_))
  all_goals (blk_simp [idx15 t, hrow] <;> try (dsimp only; omega))
theorem arr16 : (dats m 0 c).arrAt 16 cfg0.N = (L2 (zc d 1) : FVec Ideal S2048x1024 .f32) := by
  refine (dats m 0 c).arrAt_eq_of_covers 16 _ (by decide +kernel) fun t hf y => ?_
  refine Eq.trans (congrFun ((after0_16 m c t).trans (congrArg (fun o => o.2.2.1) (pointB t H (flush16 t hf)))) ((cfg0.win 16).xinj (cfg0.grid.coords t) y)) ?_
  refine congrArg Real.toEReal (congrArg₂ (zc d 1) (Fin.ext ?_) (Fin.ext ?_))
  all_goals (blk_simp [idx16 t, xrow] <;> try (dsimp only; omega))
theorem arr17 : (dats m 0 c).arrAt 17 cfg0.N = (L2 (zc d 2) : FVec Ideal S2048x1024 .f32) := by
  refine (dats m 0 c).arrAt_eq_of_covers 17 _ (by decide +kernel) fun t hf y => ?_
  refine Eq.trans (congrFun ((after0_17 m c t).trans (congrArg (fun o => o.2.2.2.1) (pointB t H (flush17 t hf)))) ((cfg0.win 17).xinj (cfg0.grid.coords t) y)) ?_
  refine congrArg Real.toEReal (congrArg₂ (zc d 2) (Fin.ext ?_) (Fin.ext ?_))
  all_goals (blk_simp [idx17 t, xrow] <;> try (dsimp only; omega))
theorem arr18 : (dats m 0 c).arrAt 18 cfg0.N = (L2 (zc d 3) : FVec Ideal S2048x1024 .f32) := by
  refine (dats m 0 c).arrAt_eq_of_covers 18 _ (by decide +kernel) fun t hf y => ?_
  refine Eq.trans (congrFun ((after0_18 m c t).trans (congrArg (fun o => o.2.2.2.2.1) (pointB t H (flush18 t hf)))) ((cfg0.win 18).xinj (cfg0.grid.coords t) y)) ?_
  refine congrArg Real.toEReal (congrArg₂ (zc d 3) (Fin.ext ?_) (Fin.ext ?_))
  all_goals (blk_simp [idx18 t, xrow] <;> try (dsimp only; omega))
theorem arr19 : (dats m 0 c).arrAt 19 cfg0.N = (L2 (zc d 4) : FVec Ideal S2048x1024 .f32) := by
  refine (dats m 0 c).arrAt_eq_of_covers 19 _ (by decide +kernel) fun t hf y => ?_
  refine Eq.trans (congrFun ((after0_19 m c t).trans (congrArg (fun o => o.2.2.2.2.2.1) (pointB t H (flush19 t hf)))) ((cfg0.win 19).xinj (cfg0.grid.coords t) y)) ?_
  refine congrArg Real.toEReal (congrArg₂ (zc d 4) (Fin.ext ?_) (Fin.ext ?_))
  all_goals (blk_simp [idx19 t, xrow] <;> try (dsimp only; omega))
theorem arr20 : (dats m 0 c).arrAt 20 cfg0.N = (L2 (ys d) : FVec Ideal S2048x1024 .f32) := by
  refine (dats m 0 c).arrAt_eq_of_covers 20 _ (by decide +kernel) fun t hf y => ?_
  refine Eq.trans (congrFun ((after0_20 m c t).trans (congrArg (fun o => o.2.2.2.2.2.2) (pointB t H (flush20 t hf)))) ((cfg0.win 20).xinj (cfg0.grid.coords t) y)) ?_
  refine congrArg Real.toEReal (congrArg₂ (ys d) (Fin.ext ?_) (Fin.ext ?_))
  all_goals (blk_simp [idx20 t, xrow] <;> try (dsimp only; omega))

end Cert.Kernel6Ideal.Val
-- ==== Proof.P6Algebraic.lean ====
module

public import proofs.«01_k».proof.Defs
public import proofs.«01_k».proof.Proof.P6Arr
public import proofs.«01_k».proof.Proof.Algebraic
public import proofs.«01_k».proof.Proof.Gen.Kernel6
public import proofs.«01_k».proof.Proof.Gen.Pre_finite6

/-! The value claim of the sixth call: on finite arguments the kernel and the reference leave the same seven results. -/

@[expose] public section

set_option maxRecDepth 16384

noncomputable section

namespace Cert.Final6

open Idealize.ShloMosaic Idealize.ShloMosaic.TcCoe Idealize.ShloMosaic.Tactic Idealize.SL.Sem Cert.Lift Cert.Math Cert.Proj Cert.Final

attribute [local instance] Cert.Kernel6.Gen.facts Cert.Kernel6Ideal.Gen.facts Cert.Reference6Ideal.Gen.facts Cert.Pre_finite6.Gen.facts

section
open Cert.Kernel6Ideal

variable (m : (ℓ : Loc nD τ sig) → Buf (Elt Ideal) ℓ) (c : Dev nD)

/-- The real numbers in the argument arrays of a device. -/
def dat : Data where
  x := fun p q => (m ((c : Thread nD τ).loc main_arg0) (ix2 p q) : EReal).toReal
  ctx := fun p q => (m ((c : Thread nD τ).loc main_arg1) (ix2 p q) : EReal).toReal
  mx := fun p q => (m ((c : Thread nD τ).loc main_arg2) (ix2 p q) : EReal).toReal
  mc := fun p q => (m ((c : Thread nD τ).loc main_arg3) (ix2 p q) : EReal).toReal
  ng := fun p q => (m ((c : Thread nD τ).loc main_arg4) (ix2 p q) : EReal).toReal
  w := fun p q => (m ((c : Thread nD τ).loc main_arg5) (ix2 p q) : EReal).toReal
  lg := fun p q => (m ((c : Thread nD τ).loc main_arg6) (ix2 p q) : EReal).toReal
  lb := fun p q => (m ((c : Thread nD τ).loc main_arg7) (ix2 p q) : EReal).toReal
  sw := fun p q r => (m ((c : Thread nD τ).loc main_arg8) (ix3 p q r) : EReal).toReal
  sb := fun p q => (m ((c : Thread nD τ).loc main_arg9) (ix2 p q) : EReal).toReal
  dxa := fun _ _ => 0
  dga := fun _ _ => 0
  dgb := fun _ _ => 0
  dy := fun _ _ => 0
  dxn := fun _ _ => 0

theorem holdsK (h : Cert.Pre_Kernel6Ideal_finite6 m) : Cert.Kernel6Ideal.Val.HoldsK m c (dat m c) := by
  have h := congrFun (h c) (fun k => k.elim0)
  dsimp only [Cert.Pre_finite6.fn, Cert.Pre_finite6.fn_part1, Cert.Pre_finite6.fn_part2] at h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h, h1⟩ := IntOp.andi_eq_one.1 h
  exact {
    h0 := real2 _ (ne_of_all _ _ _ _ _ _ h)
    h1 := real2 _ (ne_of_all _ _ _ _ _ _ h1)
    h2 := real2 _ (ne_of_all _ _ _ _ _ _ h2)
    h3 := real2 _ (ne_of_all _ _ _ _ _ _ h3)
    h4 := real2 _ (ne_of_all _ _ _ _ _ _ h4)
    h5 := real2 _ (ne_of_all _ _ _ _ _ _ h5)
    h6 := real2 _ (ne_of_all _ _ _ _ _ _ h6)
    h7 := real2 _ (ne_of_all _ _ _ _ _ _ h7)
    h8 := real3 _ (ne_of_all _ _ _ _ _ _ h8)
    h9 := real2 _ (ne_of_all _ _ _ _ _ _ h9)
  }
end

/-- The value claim. -/
theorem algebraic : Cert.algebraic_Kernel6Ideal_Reference6Ideal_pre_finite6 := by
  intro m g m' g' hpre hargs
  have HK := fun c => holdsK m c hpre
  have HR : ∀ c, Cert.Reference6Ideal.RVal.at_ m' c = Cert.Reference6Ideal.RVal.lay (dat m c) := fun c => by
    obtain ⟨a0, a1, a2, a3, a4, a5, a6, a7, a8, a9, -⟩ := hargs c
    unfold Cert.Reference6Ideal.RVal.at_ Cert.Reference6Ideal.RVal.lay
    congr 1
    · exact a0.trans (HK c).h0
    · exact a1.trans (HK c).h1
    · exact a2.trans (HK c).h2
    · exact a3.trans (HK c).h3
    · exact a4.trans (HK c).h4
    · exact a5.trans (HK c).h5
    · exact a6.trans (HK c).h6
    · exact a7.trans (HK c).h7
    · exact a8.trans (HK c).h8
    · exact a9.trans (HK c).h9
  refine ⟨fun c => (L2 (hn (dat m c)) : FVec Ideal Cert.Kernel6Ideal.S2304x1024 .bf16),
    fun c => (L2 (xa (dat m c)) : FVec Ideal Cert.Kernel6Ideal.S2304x1024 .f32),
    fun c => (L2 (zc (dat m c) 1) : FVec Ideal Cert.Kernel6Ideal.S2048x1024 .f32), fun c => (L2 (zc (dat m c) 2) : FVec Ideal Cert.Kernel6Ideal.S2048x1024 .f32),
    fun c => (L2 (zc (dat m c) 3) : FVec Ideal Cert.Kernel6Ideal.S2048x1024 .f32), fun c => (L2 (zc (dat m c) 4) : FVec Ideal Cert.Kernel6Ideal.S2048x1024 .f32),
    fun c => (L2 (ys (dat m c)) : FVec Ideal Cert.Kernel6Ideal.S2048x1024 .f32), ?_, ?_⟩
  · refine (θ_run _ _ _).mono (fun r h c => ?_) (Cert.Kernel6Ideal.Value.run_blocks m g)
    obtain ⟨o0, o1, o2, o3, o4, o5, o6, rest⟩ := h c
    exact ⟨o0.trans (Cert.Kernel6Ideal.Val.arr14 (HK c)), o1.trans (Cert.Kernel6Ideal.Val.arr15 (HK c)),
      o2.trans (Cert.Kernel6Ideal.Val.arr16 (HK c)), o3.trans (Cert.Kernel6Ideal.Val.arr17 (HK c)), o4.trans (Cert.Kernel6Ideal.Val.arr18 (HK c)),
      o5.trans (Cert.Kernel6Ideal.Val.arr19 (HK c)), o6.trans (Cert.Kernel6Ideal.Val.arr20 (HK c)), rest⟩
  · refine (θ_run _ _ _).mono (fun r h c => ?_) (θ_run_and (Cert.Reference6Ideal.RVal.post m' g' (dat m) HR) (Cert.Reference6Ideal.Value.run m' g'))
    obtain ⟨o0, o1, o2, o3, o4, o5, o6⟩ := h.1 c
    obtain ⟨-, -, -, -, -, -, -, rest⟩ := h.2 c
    exact ⟨o0, o1, o2, o3, o4, o5, o6, rest⟩

end Cert.Final6
-- ==== Proof.lean ====
module

public import proofs.«01_k».proof.Defs
public import proofs.«01_k».proof.Proof.Frames
public import proofs.«01_k».proof.Proof.Algebraic
public import proofs.«01_k».proof.Proof.HFrames
public import proofs.«01_k».proof.Proof.HAlgebraic
public import proofs.«01_k».proof.Proof.Adam
public import proofs.«01_k».proof.Proof.P6Frames
public import proofs.«01_k».proof.Proof.P6Algebraic

/-! The proof of the claim. -/

@[expose] public section

noncomputable section

namespace Cert.Proof

/-- Of each of the six calls: the frames of the three programs, the constants, and the value claim. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Pre_finite.Gen.facts, Cert.Pre_finite2.Gen.facts, Cert.Pre_finite6.Gen.facts,
    Cert.Frames.kernel, Cert.Frames.ideal, Cert.Frames.ideal_finite, Cert.Frames.reference, Cert.Frames.reference_finite,
    Cert.Frames2.kernel, Cert.Frames2.ideal, Cert.Frames2.ideal_finite, Cert.Frames2.reference, Cert.Frames2.reference_finite,
    Cert.Adam3.kernel, Cert.Adam3.ideal, Cert.Adam3.reference, Cert.Adam4.kernel, Cert.Adam4.ideal, Cert.Adam4.reference,
    Cert.Adam5.kernel, Cert.Adam5.ideal, Cert.Adam5.reference,
    Cert.Frames6.kernel, Cert.Frames6.ideal, Cert.Frames6.ideal_finite, Cert.Frames6.reference, Cert.Frames6.reference_finite,
    Cert.Frames.constants, Cert.Final.algebraic, Cert.Frames2.constants, Cert.Final2.algebraic,
    Cert.Adam3.constants, Cert.Adam3.algebraic, Cert.Adam4.constants, Cert.Adam4.algebraic, Cert.Adam5.constants, Cert.Adam5.algebraic,
    Cert.Frames6.constants, Cert.Final6.algebraic⟩

end Cert.Proof

end
